-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv_finite [hPre_conv_finite : Cert.Pre_conv_finite.Facts] (m : (ℓ : Loc Cert.KernelIdeal.nD Cert.KernelIdeal.τ Cert.KernelIdeal.sig) → Buf (Elt Ideal) ℓ) : Prop :=
  ∀ c : Dev Cert.KernelIdeal.nD,
    (Cert.Pre_conv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv_finite [hPre_conv_finite : Cert.Pre_conv_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Fgate (m : (ℓ : Loc Cert.Fgate.nD Cert.Fgate.τ Cert.Fgate.sig) → Buf (Elt Bits) ℓ) : Prop :=
  True

def Pre_FgateIdeal (m : (ℓ : Loc Cert.FgateIdeal.nD Cert.FgateIdeal.τ Cert.FgateIdeal.sig) → Buf (Elt Ideal) ℓ) : Prop :=
  True

def Pre_FgateReferenceIdeal (m : (ℓ : Loc Cert.FgateReferenceIdeal.nD Cert.FgateReferenceIdeal.τ Cert.FgateReferenceIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_act_finite [hPre_act_finite : Cert.Pre_act_finite.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4))) = (fun _ => 1#1)

def Pre_Wgu (m : (ℓ : Loc Cert.Wgu.nD Cert.Wgu.τ Cert.Wgu.sig) → Buf (Elt Bits) ℓ) : Prop :=
  True

def Pre_WguIdeal (m : (ℓ : Loc Cert.WguIdeal.nD Cert.WguIdeal.τ Cert.WguIdeal.sig) → Buf (Elt Ideal) ℓ) : Prop :=
  True

def Pre_WguReferenceIdeal (m : (ℓ : Loc Cert.WguReferenceIdeal.nD Cert.WguReferenceIdeal.τ Cert.WguReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_inproj_finite [hPre_inproj_finite : Cert.Pre_inproj_finite.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_inproj_finite.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8)) (m ((c.tc : Thread Cert.InprojReferenceIdeal.nD Cert.InprojReferenceIdeal.τ).loc Cert.InprojReferenceIdeal.main_arg9)) (m ((c.tc : Thread Cert.InprojReferenceIdeal.nD Cert.InprojReferenceIdeal.τ).loc Cert.InprojReferenceIdeal.main_arg10))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn2_finite [hPre_ffn2_finite : Cert.Pre_ffn2_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn2_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn2_finite [hPre_ffn2_finite : Cert.Pre_ffn2_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn2_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_Infwd (m : (ℓ : Loc Cert.Infwd.nD Cert.Infwd.τ Cert.Infwd.sig) → Buf (Elt Bits) ℓ) : Prop :=
  True

def Pre_InfwdIdeal (m : (ℓ : Loc Cert.InfwdIdeal.nD Cert.InfwdIdeal.τ Cert.InfwdIdeal.sig) → Buf (Elt Ideal) ℓ) : Prop :=
  True

def Pre_InfwdReferenceIdeal (m : (ℓ : Loc Cert.InfwdReferenceIdeal.nD Cert.InfwdReferenceIdeal.τ Cert.InfwdReferenceIdeal.sig) → Buf (Elt Ideal) ℓ) : Prop :=
  True

def Pre_Convfwd (m : (ℓ : Loc Cert.Convfwd.nD Cert.Convfwd.τ Cert.Convfwd.sig) → Buf (Elt Bits) ℓ) : Prop :=
  True

def Pre_ConvfwdIdeal (m : (ℓ : Loc Cert.ConvfwdIdeal.nD Cert.ConvfwdIdeal.τ Cert.ConvfwdIdeal.sig) → Buf (Elt Ideal) ℓ) : Prop :=
  True

def Pre_ConvfwdIdeal_convfwd_finite [hPre_convfwd_finite : Cert.Pre_convfwd_finite.Facts] (m : (ℓ : Loc Cert.ConvfwdIdeal.nD Cert.ConvfwdIdeal.τ Cert.ConvfwdIdeal.sig) → Buf (Elt Ideal) ℓ) : Prop :=
  ∀ c : Dev Cert.ConvfwdIdeal.nD,
    (Cert.Pre_convfwd_finite.fn (F := Ideal) (m ((c.tc : Thread Cert.ConvfwdIdeal.nD Cert.ConvfwdIdeal.τ).loc Cert.ConvfwdIdeal.main_arg0)) (m ((c.tc : Thread Cert.ConvfwdIdeal.nD Cert.ConvfwdIdeal.τ).loc Cert.ConvfwdIdeal.main_arg1)) (m ((c.tc : Thread Cert.ConvfwdIdeal.nD Cert.ConvfwdIdeal.τ).loc Cert.ConvfwdIdeal.main_arg2)) (m ((c.tc : Thread Cert.ConvfwdIdeal.nD Cert.ConvfwdIdeal.τ).loc Cert.ConvfwdIdeal.main_arg3)) (m ((c.tc : Thread Cert.ConvfwdIdeal.nD Cert.ConvfwdIdeal.τ).loc Cert.ConvfwdIdeal.main_arg4))) = (fun _ => 1#1)

def Pre_ConvfwdReferenceIdeal (m : (ℓ : Loc Cert.ConvfwdReferenceIdeal.nD Cert.ConvfwdReferenceIdeal.τ Cert.ConvfwdReferenceIdeal.sig) → Buf (Elt Ideal) ℓ) : Prop :=
  True

def Pre_ConvfwdReferenceIdeal_convfwd_finite [hPre_convfwd_finite : Cert.Pre_convfwd_finite.Facts] (m : (ℓ : Loc Cert.ConvfwdReferenceIdeal.nD Cert.ConvfwdReferenceIdeal.τ Cert.ConvfwdReferenceIdeal.sig) → Buf (Elt Ideal) ℓ) : Prop :=
  ∀ c : Dev Cert.ConvfwdReferenceIdeal.nD,
    (Cert.Pre_convfwd_finite.fn (F := Ideal) (m ((c.tc : Thread Cert.ConvfwdReferenceIdeal.nD Cert.ConvfwdReferenceIdeal.τ).loc Cert.ConvfwdReferenceIdeal.main_arg0)) (m ((c.tc : Thread Cert.ConvfwdReferenceIdeal.nD Cert.ConvfwdReferenceIdeal.τ).loc Cert.ConvfwdReferenceIdeal.main_arg1)) (m ((c.tc : Thread Cert.ConvfwdReferenceIdeal.nD Cert.ConvfwdReferenceIdeal.τ).loc Cert.ConvfwdReferenceIdeal.main_arg2)) (m ((c.tc : Thread Cert.ConvfwdReferenceIdeal.nD Cert.ConvfwdReferenceIdeal.τ).loc Cert.ConvfwdReferenceIdeal.main_arg3)) (m ((c.tc : Thread Cert.ConvfwdReferenceIdeal.nD Cert.ConvfwdReferenceIdeal.τ).loc Cert.ConvfwdReferenceIdeal.main_arg4))) = (fun _ => 1#1)

def Pre_Adamgu (m : (ℓ : Loc Cert.Adamgu.nD Cert.Adamgu.τ Cert.Adamgu.sig) → Buf (Elt Bits) ℓ) : Prop :=
  True

def Pre_AdamguIdeal (m : (ℓ : Loc Cert.AdamguIdeal.nD Cert.AdamguIdeal.τ Cert.AdamguIdeal.sig) → Buf (Elt Ideal) ℓ) : Prop :=
  True

def Pre_AdamguReferenceIdeal (m : (ℓ : Loc Cert.AdamguReferenceIdeal.nD Cert.AdamguReferenceIdeal.τ Cert.AdamguReferenceIdeal.sig) → Buf (Elt Ideal) ℓ) : Prop :=
  True

def Pre_Adamdown (m : (ℓ : Loc Cert.Adamdown.nD Cert.Adamdown.τ Cert.Adamdown.sig) → Buf (Elt Bits) ℓ) : Prop :=
  True

def Pre_AdamdownIdeal (m : (ℓ : Loc Cert.AdamdownIdeal.nD Cert.AdamdownIdeal.τ Cert.AdamdownIdeal.sig) → Buf (Elt Ideal) ℓ) : Prop :=
  True

def Pre_AdamdownReferenceIdeal (m : (ℓ : Loc Cert.AdamdownReferenceIdeal.nD Cert.AdamdownReferenceIdeal.τ Cert.AdamdownReferenceIdeal.sig) → Buf (Elt Ideal) ℓ) : Prop :=
  True

def Pre_Adamin (m : (ℓ : Loc Cert.Adamin.nD Cert.Adamin.τ Cert.Adamin.sig) → Buf (Elt Bits) ℓ) : Prop :=
  True

def Pre_AdaminIdeal (m : (ℓ : Loc Cert.AdaminIdeal.nD Cert.AdaminIdeal.τ Cert.AdaminIdeal.sig) → Buf (Elt Ideal) ℓ) : Prop :=
  True

def Pre_AdaminReferenceIdeal (m : (ℓ : Loc Cert.AdaminReferenceIdeal.nD Cert.AdaminReferenceIdeal.τ Cert.AdaminReferenceIdeal.sig) → Buf (Elt Ideal) ℓ) : Prop :=
  True

def Pre_Adamout (m : (ℓ : Loc Cert.Adamout.nD Cert.Adamout.τ Cert.Adamout.sig) → Buf (Elt Bits) ℓ) : Prop :=
  True

def Pre_AdamoutIdeal (m : (ℓ : Loc Cert.AdamoutIdeal.nD Cert.AdamoutIdeal.τ Cert.AdamoutIdeal.sig) → Buf (Elt Ideal) ℓ) : Prop :=
  True

def Pre_AdamoutReferenceIdeal (m : (ℓ : Loc Cert.AdamoutReferenceIdeal.nD Cert.AdamoutReferenceIdeal.τ Cert.AdamoutReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_first_finite [hPre_first_finite : Cert.Pre_first_finite.Facts] (m : (ℓ : Loc Cert.FirstIdeal.nD Cert.FirstIdeal.τ Cert.FirstIdeal.sig) → Buf (Elt Ideal) ℓ) : Prop :=
  ∀ c : Dev Cert.FirstIdeal.nD,
    (Cert.Pre_first_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_first_finite [hPre_first_finite : Cert.Pre_first_finite.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_first_finite.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5))) = (fun _ => 1#1)

def Pre_Firstact (m : (ℓ : Loc Cert.Firstact.nD Cert.Firstact.τ Cert.Firstact.sig) → Buf (Elt Bits) ℓ) : Prop :=
  True

def Pre_FirstactIdeal (m : (ℓ : Loc Cert.FirstactIdeal.nD Cert.FirstactIdeal.τ Cert.FirstactIdeal.sig) → Buf (Elt Ideal) ℓ) : Prop :=
  True

def Pre_FirstactIdeal_firstact_finite [hPre_firstact_finite : Cert.Pre_firstact_finite.Facts] (m : (ℓ : Loc Cert.FirstactIdeal.nD Cert.FirstactIdeal.τ Cert.FirstactIdeal.sig) → Buf (Elt Ideal) ℓ) : Prop :=
  ∀ c : Dev Cert.FirstactIdeal.nD,
    (Cert.Pre_firstact_finite.fn (F := Ideal) (m ((c.tc : Thread Cert.FirstactIdeal.nD Cert.FirstactIdeal.τ).loc Cert.FirstactIdeal.main_arg0)) (m ((c.tc : Thread Cert.FirstactIdeal.nD Cert.FirstactIdeal.τ).loc Cert.FirstactIdeal.main_arg1)) (m ((c.tc : Thread Cert.FirstactIdeal.nD Cert.FirstactIdeal.τ).loc Cert.FirstactIdeal.main_arg2)) (m ((c.tc : Thread Cert.FirstactIdeal.nD Cert.FirstactIdeal.τ).loc Cert.FirstactIdeal.main_arg3))) = (fun _ => 1#1)

def Pre_FirstactReferenceIdeal (m : (ℓ : Loc Cert.FirstactReferenceIdeal.nD Cert.FirstactReferenceIdeal.τ Cert.FirstactReferenceIdeal.sig) → Buf (Elt Ideal) ℓ) : Prop :=
  True

def Pre_FirstactReferenceIdeal_firstact_finite [hPre_firstact_finite : Cert.Pre_firstact_finite.Facts] (m : (ℓ : Loc Cert.FirstactReferenceIdeal.nD Cert.FirstactReferenceIdeal.τ Cert.FirstactReferenceIdeal.sig) → Buf (Elt Ideal) ℓ) : Prop :=
  ∀ c : Dev Cert.FirstactReferenceIdeal.nD,
    (Cert.Pre_firstact_finite.fn (F := Ideal) (m ((c.tc : Thread Cert.FirstactReferenceIdeal.nD Cert.FirstactReferenceIdeal.τ).loc Cert.FirstactReferenceIdeal.main_arg0)) (m ((c.tc : Thread Cert.FirstactReferenceIdeal.nD Cert.FirstactReferenceIdeal.τ).loc Cert.FirstactReferenceIdeal.main_arg1)) (m ((c.tc : Thread Cert.FirstactReferenceIdeal.nD Cert.FirstactReferenceIdeal.τ).loc Cert.FirstactReferenceIdeal.main_arg2)) (m ((c.tc : Thread Cert.FirstactReferenceIdeal.nD Cert.FirstactReferenceIdeal.τ).loc Cert.FirstactReferenceIdeal.main_arg3))) = (fun _ => 1#1)

def Pre_Firstwgu (m : (ℓ : Loc Cert.Firstwgu.nD Cert.Firstwgu.τ Cert.Firstwgu.sig) → Buf (Elt Bits) ℓ) : Prop :=
  True

def Pre_FirstwguIdeal (m : (ℓ : Loc Cert.FirstwguIdeal.nD Cert.FirstwguIdeal.τ Cert.FirstwguIdeal.sig) → Buf (Elt Ideal) ℓ) : Prop :=
  True

def Pre_FirstwguReferenceIdeal (m : (ℓ : Loc Cert.FirstwguReferenceIdeal.nD Cert.FirstwguReferenceIdeal.τ Cert.FirstwguReferenceIdeal.sig) → Buf (Elt Ideal) ℓ) : Prop :=
  True

def Pre_Firstffn (m : (ℓ : Loc Cert.Firstffn.nD Cert.Firstffn.τ Cert.Firstffn.sig) → Buf (Elt Bits) ℓ) : Prop :=
  True

def Pre_FirstffnIdeal (m : (ℓ : Loc Cert.FirstffnIdeal.nD Cert.FirstffnIdeal.τ Cert.FirstffnIdeal.sig) → Buf (Elt Ideal) ℓ) : Prop :=
  True

def Pre_FirstffnReferenceIdeal (m : (ℓ : Loc Cert.FirstffnReferenceIdeal.nD Cert.FirstffnReferenceIdeal.τ Cert.FirstffnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_conv_finite [hKernelIdeal : Cert.KernelIdeal.Facts] [hPre_conv_finite : Cert.Pre_conv_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_conv_finite [hReferenceIdeal : Cert.ReferenceIdeal.Facts] [hPre_conv_finite : Cert.Pre_conv_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Fgate [hFgate : Cert.Fgate.Facts] : Prop :=
  ∀ (m : (ℓ : Loc Cert.Fgate.nD Cert.Fgate.τ Cert.Fgate.sig) → Buf (Elt Bits) ℓ) (g : Dev Cert.Fgate.nD → PrngReg), Pre_Fgate m →
    θ_run (Cert.Fgate.defs (F := Bits)) (onTc (τ := Cert.Fgate.τ) (Cert.Fgate.main (F := Bits))) ⟨m, fun _ => 0, g⟩ (fun r => (∀ c : Dev Cert.Fgate.nD,
      r.2.mem ((c.tc : Thread Cert.Fgate.nD Cert.Fgate.τ).loc Cert.Fgate.main_arg0) = m ((c.tc : Thread Cert.Fgate.nD Cert.Fgate.τ).loc Cert.Fgate.main_arg0)
      ∧ r.2.mem ((c.tc : Thread Cert.Fgate.nD Cert.Fgate.τ).loc Cert.Fgate.main_arg1) = m ((c.tc : Thread Cert.Fgate.nD Cert.Fgate.τ).loc Cert.Fgate.main_arg1)
      ∧ r.2.mem ((c.tc : Thread Cert.Fgate.nD Cert.Fgate.τ).loc Cert.Fgate.main_arg2) = m ((c.tc : Thread Cert.Fgate.nD Cert.Fgate.τ).loc Cert.Fgate.main_arg2)
      ∧ r.2.mem ((c.tc : Thread Cert.Fgate.nD Cert.Fgate.τ).loc Cert.Fgate.main_arg3) = m ((c.tc : Thread Cert.Fgate.nD Cert.Fgate.τ).loc Cert.Fgate.main_arg3))
      ∧ r.2.sem = fun _ => 0)

def quiescent_FgateIdeal [hFgateIdeal : Cert.FgateIdeal.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
      ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2)
      ∧ r.2.mem ((c.tc : Thread Cert.FgateIdeal.nD Cert.FgateIdeal.τ).loc Cert.FgateIdeal.main_arg3) = m ((c.tc : Thread Cert.FgateIdeal.nD Cert.FgateIdeal.τ).loc Cert.FgateIdeal.main_arg3))
      ∧ r.2.sem = fun _ => 0)

def quiescent_FgateReferenceIdeal [hFgateReferenceIdeal : Cert.FgateReferenceIdeal.Facts] : Prop :=
  ∀ (m : (ℓ : Loc Cert.FgateReferenceIdeal.nD Cert.FgateReferenceIdeal.τ Cert.FgateReferenceIdeal.sig) → Buf (Elt Ideal) ℓ) (g : Dev Cert.FgateReferenceIdeal.nD → PrngReg), Pre_FgateReferenceIdeal m →
    θ_run (Cert.FgateReferenceIdeal.defs (F := Ideal)) (onTc (τ := Cert.FgateReferenceIdeal.τ) (Cert.FgateReferenceIdeal.main (F := Ideal))) ⟨m, fun _ => 0, g⟩ (fun r => (∀ c : Dev Cert.FgateReferenceIdeal.nD,
      r.2.mem ((c.tc : Thread Cert.FgateReferenceIdeal.nD Cert.FgateReferenceIdeal.τ).loc Cert.FgateReferenceIdeal.main_arg0) = m ((c.tc : Thread Cert.FgateReferenceIdeal.nD Cert.FgateReferenceIdeal.τ).loc Cert.FgateReferenceIdeal.main_arg0)
      ∧ r.2.mem ((c.tc : Thread Cert.FgateReferenceIdeal.nD Cert.FgateReferenceIdeal.τ).loc Cert.FgateReferenceIdeal.main_arg1) = m ((c.tc : Thread Cert.FgateReferenceIdeal.nD Cert.FgateReferenceIdeal.τ).loc Cert.FgateReferenceIdeal.main_arg1)
      ∧ r.2.mem ((c.tc : Thread Cert.FgateReferenceIdeal.nD Cert.FgateReferenceIdeal.τ).loc Cert.FgateReferenceIdeal.main_arg2) = m ((c.tc : Thread Cert.FgateReferenceIdeal.nD Cert.FgateReferenceIdeal.τ).loc Cert.FgateReferenceIdeal.main_arg2)
      ∧ r.2.mem ((c.tc : Thread Cert.FgateReferenceIdeal.nD Cert.FgateReferenceIdeal.τ).loc Cert.FgateReferenceIdeal.main_arg3) = m ((c.tc : Thread Cert.FgateReferenceIdeal.nD Cert.FgateReferenceIdeal.τ).loc Cert.FgateReferenceIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_act_finite [hActReferenceIdeal : Cert.ActReferenceIdeal.Facts] [hPre_act_finite : Cert.Pre_act_finite.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_act_finite m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_Wgu [hWgu : Cert.Wgu.Facts] : Prop :=
  ∀ (m : (ℓ : Loc Cert.Wgu.nD Cert.Wgu.τ Cert.Wgu.sig) → Buf (Elt Bits) ℓ) (g : Dev Cert.Wgu.nD → PrngReg), Pre_Wgu m →
    θ_run (Cert.Wgu.defs (F := Bits)) (onTc (τ := Cert.Wgu.τ) (Cert.Wgu.main (F := Bits))) ⟨m, fun _ => 0, g⟩ (fun r => (∀ c : Dev Cert.Wgu.nD,
      r.2.mem ((c.tc : Thread Cert.Wgu.nD Cert.Wgu.τ).loc Cert.Wgu.main_arg0) = m ((c.tc : Thread Cert.Wgu.nD Cert.Wgu.τ).loc Cert.Wgu.main_arg0)
      ∧ r.2.mem ((c.tc : Thread Cert.Wgu.nD Cert.Wgu.τ).loc Cert.Wgu.main_arg1) = m ((c.tc : Thread Cert.Wgu.nD Cert.Wgu.τ).loc Cert.Wgu.main_arg1))
      ∧ r.2.sem = fun _ => 0)

def quiescent_WguIdeal [hWguIdeal : Cert.WguIdeal.Facts] : Prop :=
  ∀ (m : (ℓ : Loc Cert.WguIdeal.nD Cert.WguIdeal.τ Cert.WguIdeal.sig) → Buf (Elt Ideal) ℓ) (g : Dev Cert.WguIdeal.nD → PrngReg), Pre_WguIdeal m →
    θ_run (Cert.WguIdeal.defs (F := Ideal)) (onTc (τ := Cert.WguIdeal.τ) (Cert.WguIdeal.main (F := Ideal))) ⟨m, fun _ => 0, g⟩ (fun r => (∀ c : Dev Cert.WguIdeal.nD,
      r.2.mem ((c.tc : Thread Cert.WguIdeal.nD Cert.WguIdeal.τ).loc Cert.WguIdeal.main_arg0) = m ((c.tc : Thread Cert.WguIdeal.nD Cert.WguIdeal.τ).loc Cert.WguIdeal.main_arg0)
      ∧ r.2.mem ((c.tc : Thread Cert.WguIdeal.nD Cert.WguIdeal.τ).loc Cert.WguIdeal.main_arg1) = m ((c.tc : Thread Cert.WguIdeal.nD Cert.WguIdeal.τ).loc Cert.WguIdeal.main_arg1))
      ∧ r.2.sem = fun _ => 0)

def quiescent_WguReferenceIdeal [hWguReferenceIdeal : Cert.WguReferenceIdeal.Facts] : Prop :=
  ∀ (m : (ℓ : Loc Cert.WguReferenceIdeal.nD Cert.WguReferenceIdeal.τ Cert.WguReferenceIdeal.sig) → Buf (Elt Ideal) ℓ) (g : Dev Cert.WguReferenceIdeal.nD → PrngReg), Pre_WguReferenceIdeal m →
    θ_run (Cert.WguReferenceIdeal.defs (F := Ideal)) (onTc (τ := Cert.WguReferenceIdeal.τ) (Cert.WguReferenceIdeal.main (F := Ideal))) ⟨m, fun _ => 0, g⟩ (fun r => (∀ c : Dev Cert.WguReferenceIdeal.nD,
      r.2.mem ((c.tc : Thread Cert.WguReferenceIdeal.nD Cert.WguReferenceIdeal.τ).loc Cert.WguReferenceIdeal.main_arg0) = m ((c.tc : Thread Cert.WguReferenceIdeal.nD Cert.WguReferenceIdeal.τ).loc Cert.WguReferenceIdeal.main_arg0)
      ∧ r.2.mem ((c.tc : Thread Cert.WguReferenceIdeal.nD Cert.WguReferenceIdeal.τ).loc Cert.WguReferenceIdeal.main_arg1) = m ((c.tc : Thread Cert.WguReferenceIdeal.nD Cert.WguReferenceIdeal.τ).loc Cert.WguReferenceIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10))
      ∧ r.2.sem = fun _ => 0)

def quiescent_InprojReferenceIdeal_pre_inproj_finite [hInprojReferenceIdeal : Cert.InprojReferenceIdeal.Facts] [hPre_inproj_finite : Cert.Pre_inproj_finite.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_inproj_finite m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn2_finite [hFfnIdeal : Cert.FfnIdeal.Facts] [hPre_ffn2_finite : Cert.Pre_ffn2_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn2_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn2_finite [hFfnReferenceIdeal : Cert.FfnReferenceIdeal.Facts] [hPre_ffn2_finite : Cert.Pre_ffn2_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn2_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Infwd [hInfwd : Cert.Infwd.Facts] : Prop :=
  ∀ (m : (ℓ : Loc Cert.Infwd.nD Cert.Infwd.τ Cert.Infwd.sig) → Buf (Elt Bits) ℓ) (g : Dev Cert.Infwd.nD → PrngReg), Pre_Infwd m →
    θ_run (Cert.Infwd.defs (F := Bits)) (onTc (τ := Cert.Infwd.τ) (Cert.Infwd.main (F := Bits))) ⟨m, fun _ => 0, g⟩ (fun r => (∀ c : Dev Cert.Infwd.nD,
      r.2.mem ((c.tc : Thread Cert.Infwd.nD Cert.Infwd.τ).loc Cert.Infwd.main_arg0) = m ((c.tc : Thread Cert.Infwd.nD Cert.Infwd.τ).loc Cert.Infwd.main_arg0)
      ∧ r.2.mem ((c.tc : Thread Cert.Infwd.nD Cert.Infwd.τ).loc Cert.Infwd.main_arg1) = m ((c.tc : Thread Cert.Infwd.nD Cert.Infwd.τ).loc Cert.Infwd.main_arg1)
      ∧ r.2.mem ((c.tc : Thread Cert.Infwd.nD Cert.Infwd.τ).loc Cert.Infwd.main_arg2) = m ((c.tc : Thread Cert.Infwd.nD Cert.Infwd.τ).loc Cert.Infwd.main_arg2))
      ∧ r.2.sem = fun _ => 0)

def quiescent_InfwdIdeal [hInfwdIdeal : Cert.InfwdIdeal.Facts] : Prop :=
  ∀ (m : (ℓ : Loc Cert.InfwdIdeal.nD Cert.InfwdIdeal.τ Cert.InfwdIdeal.sig) → Buf (Elt Ideal) ℓ) (g : Dev Cert.InfwdIdeal.nD → PrngReg), Pre_InfwdIdeal m →
    θ_run (Cert.InfwdIdeal.defs (F := Ideal)) (onTc (τ := Cert.InfwdIdeal.τ) (Cert.InfwdIdeal.main (F := Ideal))) ⟨m, fun _ => 0, g⟩ (fun r => (∀ c : Dev Cert.InfwdIdeal.nD,
      r.2.mem ((c.tc : Thread Cert.InfwdIdeal.nD Cert.InfwdIdeal.τ).loc Cert.InfwdIdeal.main_arg0) = m ((c.tc : Thread Cert.InfwdIdeal.nD Cert.InfwdIdeal.τ).loc Cert.InfwdIdeal.main_arg0)
      ∧ r.2.mem ((c.tc : Thread Cert.InfwdIdeal.nD Cert.InfwdIdeal.τ).loc Cert.InfwdIdeal.main_arg1) = m ((c.tc : Thread Cert.InfwdIdeal.nD Cert.InfwdIdeal.τ).loc Cert.InfwdIdeal.main_arg1)
      ∧ r.2.mem ((c.tc : Thread Cert.InfwdIdeal.nD Cert.InfwdIdeal.τ).loc Cert.InfwdIdeal.main_arg2) = m ((c.tc : Thread Cert.InfwdIdeal.nD Cert.InfwdIdeal.τ).loc Cert.InfwdIdeal.main_arg2))
      ∧ r.2.sem = fun _ => 0)

def quiescent_InfwdReferenceIdeal [hInfwdReferenceIdeal : Cert.InfwdReferenceIdeal.Facts] : Prop :=
  ∀ (m : (ℓ : Loc Cert.InfwdReferenceIdeal.nD Cert.InfwdReferenceIdeal.τ Cert.InfwdReferenceIdeal.sig) → Buf (Elt Ideal) ℓ) (g : Dev Cert.InfwdReferenceIdeal.nD → PrngReg), Pre_InfwdReferenceIdeal m →
    θ_run (Cert.InfwdReferenceIdeal.defs (F := Ideal)) (onTc (τ := Cert.InfwdReferenceIdeal.τ) (Cert.InfwdReferenceIdeal.main (F := Ideal))) ⟨m, fun _ => 0, g⟩ (fun r => (∀ c : Dev Cert.InfwdReferenceIdeal.nD,
      r.2.mem ((c.tc : Thread Cert.InfwdReferenceIdeal.nD Cert.InfwdReferenceIdeal.τ).loc Cert.InfwdReferenceIdeal.main_arg0) = m ((c.tc : Thread Cert.InfwdReferenceIdeal.nD Cert.InfwdReferenceIdeal.τ).loc Cert.InfwdReferenceIdeal.main_arg0)
      ∧ r.2.mem ((c.tc : Thread Cert.InfwdReferenceIdeal.nD Cert.InfwdReferenceIdeal.τ).loc Cert.InfwdReferenceIdeal.main_arg1) = m ((c.tc : Thread Cert.InfwdReferenceIdeal.nD Cert.InfwdReferenceIdeal.τ).loc Cert.InfwdReferenceIdeal.main_arg1)
      ∧ r.2.mem ((c.tc : Thread Cert.InfwdReferenceIdeal.nD Cert.InfwdReferenceIdeal.τ).loc Cert.InfwdReferenceIdeal.main_arg2) = m ((c.tc : Thread Cert.InfwdReferenceIdeal.nD Cert.InfwdReferenceIdeal.τ).loc Cert.InfwdReferenceIdeal.main_arg2))
      ∧ r.2.sem = fun _ => 0)

def quiescent_Convfwd [hConvfwd : Cert.Convfwd.Facts] : Prop :=
  ∀ (m : (ℓ : Loc Cert.Convfwd.nD Cert.Convfwd.τ Cert.Convfwd.sig) → Buf (Elt Bits) ℓ) (g : Dev Cert.Convfwd.nD → PrngReg), Pre_Convfwd m →
    θ_run (Cert.Convfwd.defs (F := Bits)) (onTc (τ := Cert.Convfwd.τ) (Cert.Convfwd.main (F := Bits))) ⟨m, fun _ => 0, g⟩ (fun r => (∀ c : Dev Cert.Convfwd.nD,
      r.2.mem ((c.tc : Thread Cert.Convfwd.nD Cert.Convfwd.τ).loc Cert.Convfwd.main_arg0) = m ((c.tc : Thread Cert.Convfwd.nD Cert.Convfwd.τ).loc Cert.Convfwd.main_arg0)
      ∧ r.2.mem ((c.tc : Thread Cert.Convfwd.nD Cert.Convfwd.τ).loc Cert.Convfwd.main_arg1) = m ((c.tc : Thread Cert.Convfwd.nD Cert.Convfwd.τ).loc Cert.Convfwd.main_arg1)
      ∧ r.2.mem ((c.tc : Thread Cert.Convfwd.nD Cert.Convfwd.τ).loc Cert.Convfwd.main_arg2) = m ((c.tc : Thread Cert.Convfwd.nD Cert.Convfwd.τ).loc Cert.Convfwd.main_arg2)
      ∧ r.2.mem ((c.tc : Thread Cert.Convfwd.nD Cert.Convfwd.τ).loc Cert.Convfwd.main_arg3) = m ((c.tc : Thread Cert.Convfwd.nD Cert.Convfwd.τ).loc Cert.Convfwd.main_arg3)
      ∧ r.2.mem ((c.tc : Thread Cert.Convfwd.nD Cert.Convfwd.τ).loc Cert.Convfwd.main_arg4) = m ((c.tc : Thread Cert.Convfwd.nD Cert.Convfwd.τ).loc Cert.Convfwd.main_arg4))
      ∧ r.2.sem = fun _ => 0)

def quiescent_ConvfwdIdeal [hConvfwdIdeal : Cert.ConvfwdIdeal.Facts] : Prop :=
  ∀ (m : (ℓ : Loc Cert.ConvfwdIdeal.nD Cert.ConvfwdIdeal.τ Cert.ConvfwdIdeal.sig) → Buf (Elt Ideal) ℓ) (g : Dev Cert.ConvfwdIdeal.nD → PrngReg), Pre_ConvfwdIdeal m →
    θ_run (Cert.ConvfwdIdeal.defs (F := Ideal)) (onTc (τ := Cert.ConvfwdIdeal.τ) (Cert.ConvfwdIdeal.main (F := Ideal))) ⟨m, fun _ => 0, g⟩ (fun r => (∀ c : Dev Cert.ConvfwdIdeal.nD,
      r.2.mem ((c.tc : Thread Cert.ConvfwdIdeal.nD Cert.ConvfwdIdeal.τ).loc Cert.ConvfwdIdeal.main_arg0) = m ((c.tc : Thread Cert.ConvfwdIdeal.nD Cert.ConvfwdIdeal.τ).loc Cert.ConvfwdIdeal.main_arg0)
      ∧ r.2.mem ((c.tc : Thread Cert.ConvfwdIdeal.nD Cert.ConvfwdIdeal.τ).loc Cert.ConvfwdIdeal.main_arg1) = m ((c.tc : Thread Cert.ConvfwdIdeal.nD Cert.ConvfwdIdeal.τ).loc Cert.ConvfwdIdeal.main_arg1)
      ∧ r.2.mem ((c.tc : Thread Cert.ConvfwdIdeal.nD Cert.ConvfwdIdeal.τ).loc Cert.ConvfwdIdeal.main_arg2) = m ((c.tc : Thread Cert.ConvfwdIdeal.nD Cert.ConvfwdIdeal.τ).loc Cert.ConvfwdIdeal.main_arg2)
      ∧ r.2.mem ((c.tc : Thread Cert.ConvfwdIdeal.nD Cert.ConvfwdIdeal.τ).loc Cert.ConvfwdIdeal.main_arg3) = m ((c.tc : Thread Cert.ConvfwdIdeal.nD Cert.ConvfwdIdeal.τ).loc Cert.ConvfwdIdeal.main_arg3)
      ∧ r.2.mem ((c.tc : Thread Cert.ConvfwdIdeal.nD Cert.ConvfwdIdeal.τ).loc Cert.ConvfwdIdeal.main_arg4) = m ((c.tc : Thread Cert.ConvfwdIdeal.nD Cert.ConvfwdIdeal.τ).loc Cert.ConvfwdIdeal.main_arg4))
      ∧ r.2.sem = fun _ => 0)

def quiescent_ConvfwdIdeal_pre_convfwd_finite [hConvfwdIdeal : Cert.ConvfwdIdeal.Facts] [hPre_convfwd_finite : Cert.Pre_convfwd_finite.Facts] : Prop :=
  ∀ (m : (ℓ : Loc Cert.ConvfwdIdeal.nD Cert.ConvfwdIdeal.τ Cert.ConvfwdIdeal.sig) → Buf (Elt Ideal) ℓ) (g : Dev Cert.ConvfwdIdeal.nD → PrngReg), Pre_ConvfwdIdeal_convfwd_finite m →
    θ_run (Cert.ConvfwdIdeal.defs (F := Ideal)) (onTc (τ := Cert.ConvfwdIdeal.τ) (Cert.ConvfwdIdeal.main (F := Ideal))) ⟨m, fun _ => 0, g⟩ (fun r => (∀ c : Dev Cert.ConvfwdIdeal.nD,
      r.2.mem ((c.tc : Thread Cert.ConvfwdIdeal.nD Cert.ConvfwdIdeal.τ).loc Cert.ConvfwdIdeal.main_arg0) = m ((c.tc : Thread Cert.ConvfwdIdeal.nD Cert.ConvfwdIdeal.τ).loc Cert.ConvfwdIdeal.main_arg0)
      ∧ r.2.mem ((c.tc : Thread Cert.ConvfwdIdeal.nD Cert.ConvfwdIdeal.τ).loc Cert.ConvfwdIdeal.main_arg1) = m ((c.tc : Thread Cert.ConvfwdIdeal.nD Cert.ConvfwdIdeal.τ).loc Cert.ConvfwdIdeal.main_arg1)
      ∧ r.2.mem ((c.tc : Thread Cert.ConvfwdIdeal.nD Cert.ConvfwdIdeal.τ).loc Cert.ConvfwdIdeal.main_arg2) = m ((c.tc : Thread Cert.ConvfwdIdeal.nD Cert.ConvfwdIdeal.τ).loc Cert.ConvfwdIdeal.main_arg2)
      ∧ r.2.mem ((c.tc : Thread Cert.ConvfwdIdeal.nD Cert.ConvfwdIdeal.τ).loc Cert.ConvfwdIdeal.main_arg3) = m ((c.tc : Thread Cert.ConvfwdIdeal.nD Cert.ConvfwdIdeal.τ).loc Cert.ConvfwdIdeal.main_arg3)
      ∧ r.2.mem ((c.tc : Thread Cert.ConvfwdIdeal.nD Cert.ConvfwdIdeal.τ).loc Cert.ConvfwdIdeal.main_arg4) = m ((c.tc : Thread Cert.ConvfwdIdeal.nD Cert.ConvfwdIdeal.τ).loc Cert.ConvfwdIdeal.main_arg4))
      ∧ r.2.sem = fun _ => 0)

def quiescent_ConvfwdReferenceIdeal [hConvfwdReferenceIdeal : Cert.ConvfwdReferenceIdeal.Facts] : Prop :=
  ∀ (m : (ℓ : Loc Cert.ConvfwdReferenceIdeal.nD Cert.ConvfwdReferenceIdeal.τ Cert.ConvfwdReferenceIdeal.sig) → Buf (Elt Ideal) ℓ) (g : Dev Cert.ConvfwdReferenceIdeal.nD → PrngReg), Pre_ConvfwdReferenceIdeal m →
    θ_run (Cert.ConvfwdReferenceIdeal.defs (F := Ideal)) (onTc (τ := Cert.ConvfwdReferenceIdeal.τ) (Cert.ConvfwdReferenceIdeal.main (F := Ideal))) ⟨m, fun _ => 0, g⟩ (fun r => (∀ c : Dev Cert.ConvfwdReferenceIdeal.nD,
      r.2.mem ((c.tc : Thread Cert.ConvfwdReferenceIdeal.nD Cert.ConvfwdReferenceIdeal.τ).loc Cert.ConvfwdReferenceIdeal.main_arg0) = m ((c.tc : Thread Cert.ConvfwdReferenceIdeal.nD Cert.ConvfwdReferenceIdeal.τ).loc Cert.ConvfwdReferenceIdeal.main_arg0)
      ∧ r.2.mem ((c.tc : Thread Cert.ConvfwdReferenceIdeal.nD Cert.ConvfwdReferenceIdeal.τ).loc Cert.ConvfwdReferenceIdeal.main_arg1) = m ((c.tc : Thread Cert.ConvfwdReferenceIdeal.nD Cert.ConvfwdReferenceIdeal.τ).loc Cert.ConvfwdReferenceIdeal.main_arg1)
      ∧ r.2.mem ((c.tc : Thread Cert.ConvfwdReferenceIdeal.nD Cert.ConvfwdReferenceIdeal.τ).loc Cert.ConvfwdReferenceIdeal.main_arg2) = m ((c.tc : Thread Cert.ConvfwdReferenceIdeal.nD Cert.ConvfwdReferenceIdeal.τ).loc Cert.ConvfwdReferenceIdeal.main_arg2)
      ∧ r.2.mem ((c.tc : Thread Cert.ConvfwdReferenceIdeal.nD Cert.ConvfwdReferenceIdeal.τ).loc Cert.ConvfwdReferenceIdeal.main_arg3) = m ((c.tc : Thread Cert.ConvfwdReferenceIdeal.nD Cert.ConvfwdReferenceIdeal.τ).loc Cert.ConvfwdReferenceIdeal.main_arg3)
      ∧ r.2.mem ((c.tc : Thread Cert.ConvfwdReferenceIdeal.nD Cert.ConvfwdReferenceIdeal.τ).loc Cert.ConvfwdReferenceIdeal.main_arg4) = m ((c.tc : Thread Cert.ConvfwdReferenceIdeal.nD Cert.ConvfwdReferenceIdeal.τ).loc Cert.ConvfwdReferenceIdeal.main_arg4))
      ∧ r.2.sem = fun _ => 0)

def quiescent_ConvfwdReferenceIdeal_pre_convfwd_finite [hConvfwdReferenceIdeal : Cert.ConvfwdReferenceIdeal.Facts] [hPre_convfwd_finite : Cert.Pre_convfwd_finite.Facts] : Prop :=
  ∀ (m : (ℓ : Loc Cert.ConvfwdReferenceIdeal.nD Cert.ConvfwdReferenceIdeal.τ Cert.ConvfwdReferenceIdeal.sig) → Buf (Elt Ideal) ℓ) (g : Dev Cert.ConvfwdReferenceIdeal.nD → PrngReg), Pre_ConvfwdReferenceIdeal_convfwd_finite m →
    θ_run (Cert.ConvfwdReferenceIdeal.defs (F := Ideal)) (onTc (τ := Cert.ConvfwdReferenceIdeal.τ) (Cert.ConvfwdReferenceIdeal.main (F := Ideal))) ⟨m, fun _ => 0, g⟩ (fun r => (∀ c : Dev Cert.ConvfwdReferenceIdeal.nD,
      r.2.mem ((c.tc : Thread Cert.ConvfwdReferenceIdeal.nD Cert.ConvfwdReferenceIdeal.τ).loc Cert.ConvfwdReferenceIdeal.main_arg0) = m ((c.tc : Thread Cert.ConvfwdReferenceIdeal.nD Cert.ConvfwdReferenceIdeal.τ).loc Cert.ConvfwdReferenceIdeal.main_arg0)
      ∧ r.2.mem ((c.tc : Thread Cert.ConvfwdReferenceIdeal.nD Cert.ConvfwdReferenceIdeal.τ).loc Cert.ConvfwdReferenceIdeal.main_arg1) = m ((c.tc : Thread Cert.ConvfwdReferenceIdeal.nD Cert.ConvfwdReferenceIdeal.τ).loc Cert.ConvfwdReferenceIdeal.main_arg1)
      ∧ r.2.mem ((c.tc : Thread Cert.ConvfwdReferenceIdeal.nD Cert.ConvfwdReferenceIdeal.τ).loc Cert.ConvfwdReferenceIdeal.main_arg2) = m ((c.tc : Thread Cert.ConvfwdReferenceIdeal.nD Cert.ConvfwdReferenceIdeal.τ).loc Cert.ConvfwdReferenceIdeal.main_arg2)
      ∧ r.2.mem ((c.tc : Thread Cert.ConvfwdReferenceIdeal.nD Cert.ConvfwdReferenceIdeal.τ).loc Cert.ConvfwdReferenceIdeal.main_arg3) = m ((c.tc : Thread Cert.ConvfwdReferenceIdeal.nD Cert.ConvfwdReferenceIdeal.τ).loc Cert.ConvfwdReferenceIdeal.main_arg3)
      ∧ r.2.mem ((c.tc : Thread Cert.ConvfwdReferenceIdeal.nD Cert.ConvfwdReferenceIdeal.τ).loc Cert.ConvfwdReferenceIdeal.main_arg4) = m ((c.tc : Thread Cert.ConvfwdReferenceIdeal.nD Cert.ConvfwdReferenceIdeal.τ).loc Cert.ConvfwdReferenceIdeal.main_arg4))
      ∧ r.2.sem = fun _ => 0)

def quiescent_Adamgu [hAdamgu : Cert.Adamgu.Facts] : Prop :=
  ∀ (m : (ℓ : Loc Cert.Adamgu.nD Cert.Adamgu.τ Cert.Adamgu.sig) → Buf (Elt Bits) ℓ) (g : Dev Cert.Adamgu.nD → PrngReg), Pre_Adamgu m →
    θ_run (Cert.Adamgu.defs (F := Bits)) (onTc (τ := Cert.Adamgu.τ) (Cert.Adamgu.main (F := Bits))) ⟨m, fun _ => 0, g⟩ (fun r => (∀ c : Dev Cert.Adamgu.nD,
      r.2.mem ((c.tc : Thread Cert.Adamgu.nD Cert.Adamgu.τ).loc Cert.Adamgu.main_arg0) = m ((c.tc : Thread Cert.Adamgu.nD Cert.Adamgu.τ).loc Cert.Adamgu.main_arg0)
      ∧ r.2.mem ((c.tc : Thread Cert.Adamgu.nD Cert.Adamgu.τ).loc Cert.Adamgu.main_arg1) = m ((c.tc : Thread Cert.Adamgu.nD Cert.Adamgu.τ).loc Cert.Adamgu.main_arg1)
      ∧ r.2.mem ((c.tc : Thread Cert.Adamgu.nD Cert.Adamgu.τ).loc Cert.Adamgu.main_arg2) = m ((c.tc : Thread Cert.Adamgu.nD Cert.Adamgu.τ).loc Cert.Adamgu.main_arg2)
      ∧ r.2.mem ((c.tc : Thread Cert.Adamgu.nD Cert.Adamgu.τ).loc Cert.Adamgu.main_arg3) = m ((c.tc : Thread Cert.Adamgu.nD Cert.Adamgu.τ).loc Cert.Adamgu.main_arg3))
      ∧ r.2.sem = fun _ => 0)

def quiescent_AdamguIdeal [hAdamguIdeal : Cert.AdamguIdeal.Facts] : Prop :=
  ∀ (m : (ℓ : Loc Cert.AdamguIdeal.nD Cert.AdamguIdeal.τ Cert.AdamguIdeal.sig) → Buf (Elt Ideal) ℓ) (g : Dev Cert.AdamguIdeal.nD → PrngReg), Pre_AdamguIdeal m →
    θ_run (Cert.AdamguIdeal.defs (F := Ideal)) (onTc (τ := Cert.AdamguIdeal.τ) (Cert.AdamguIdeal.main (F := Ideal))) ⟨m, fun _ => 0, g⟩ (fun r => (∀ c : Dev Cert.AdamguIdeal.nD,
      r.2.mem ((c.tc : Thread Cert.AdamguIdeal.nD Cert.AdamguIdeal.τ).loc Cert.AdamguIdeal.main_arg0) = m ((c.tc : Thread Cert.AdamguIdeal.nD Cert.AdamguIdeal.τ).loc Cert.AdamguIdeal.main_arg0)
      ∧ r.2.mem ((c.tc : Thread Cert.AdamguIdeal.nD Cert.AdamguIdeal.τ).loc Cert.AdamguIdeal.main_arg1) = m ((c.tc : Thread Cert.AdamguIdeal.nD Cert.AdamguIdeal.τ).loc Cert.AdamguIdeal.main_arg1)
      ∧ r.2.mem ((c.tc : Thread Cert.AdamguIdeal.nD Cert.AdamguIdeal.τ).loc Cert.AdamguIdeal.main_arg2) = m ((c.tc : Thread Cert.AdamguIdeal.nD Cert.AdamguIdeal.τ).loc Cert.AdamguIdeal.main_arg2)
      ∧ r.2.mem ((c.tc : Thread Cert.AdamguIdeal.nD Cert.AdamguIdeal.τ).loc Cert.AdamguIdeal.main_arg3) = m ((c.tc : Thread Cert.AdamguIdeal.nD Cert.AdamguIdeal.τ).loc Cert.AdamguIdeal.main_arg3))
      ∧ r.2.sem = fun _ => 0)

def quiescent_AdamguReferenceIdeal [hAdamguReferenceIdeal : Cert.AdamguReferenceIdeal.Facts] : Prop :=
  ∀ (m : (ℓ : Loc Cert.AdamguReferenceIdeal.nD Cert.AdamguReferenceIdeal.τ Cert.AdamguReferenceIdeal.sig) → Buf (Elt Ideal) ℓ) (g : Dev Cert.AdamguReferenceIdeal.nD → PrngReg), Pre_AdamguReferenceIdeal m →
    θ_run (Cert.AdamguReferenceIdeal.defs (F := Ideal)) (onTc (τ := Cert.AdamguReferenceIdeal.τ) (Cert.AdamguReferenceIdeal.main (F := Ideal))) ⟨m, fun _ => 0, g⟩ (fun r => (∀ c : Dev Cert.AdamguReferenceIdeal.nD,
      r.2.mem ((c.tc : Thread Cert.AdamguReferenceIdeal.nD Cert.AdamguReferenceIdeal.τ).loc Cert.AdamguReferenceIdeal.main_arg0) = m ((c.tc : Thread Cert.AdamguReferenceIdeal.nD Cert.AdamguReferenceIdeal.τ).loc Cert.AdamguReferenceIdeal.main_arg0)
      ∧ r.2.mem ((c.tc : Thread Cert.AdamguReferenceIdeal.nD Cert.AdamguReferenceIdeal.τ).loc Cert.AdamguReferenceIdeal.main_arg1) = m ((c.tc : Thread Cert.AdamguReferenceIdeal.nD Cert.AdamguReferenceIdeal.τ).loc Cert.AdamguReferenceIdeal.main_arg1)
      ∧ r.2.mem ((c.tc : Thread Cert.AdamguReferenceIdeal.nD Cert.AdamguReferenceIdeal.τ).loc Cert.AdamguReferenceIdeal.main_arg2) = m ((c.tc : Thread Cert.AdamguReferenceIdeal.nD Cert.AdamguReferenceIdeal.τ).loc Cert.AdamguReferenceIdeal.main_arg2)
      ∧ r.2.mem ((c.tc : Thread Cert.AdamguReferenceIdeal.nD Cert.AdamguReferenceIdeal.τ).loc Cert.AdamguReferenceIdeal.main_arg3) = m ((c.tc : Thread Cert.AdamguReferenceIdeal.nD Cert.AdamguReferenceIdeal.τ).loc Cert.AdamguReferenceIdeal.main_arg3))
      ∧ r.2.sem = fun _ => 0)

def quiescent_Adamdown [hAdamdown : Cert.Adamdown.Facts] : Prop :=
  ∀ (m : (ℓ : Loc Cert.Adamdown.nD Cert.Adamdown.τ Cert.Adamdown.sig) → Buf (Elt Bits) ℓ) (g : Dev Cert.Adamdown.nD → PrngReg), Pre_Adamdown m →
    θ_run (Cert.Adamdown.defs (F := Bits)) (onTc (τ := Cert.Adamdown.τ) (Cert.Adamdown.main (F := Bits))) ⟨m, fun _ => 0, g⟩ (fun r => (∀ c : Dev Cert.Adamdown.nD,
      r.2.mem ((c.tc : Thread Cert.Adamdown.nD Cert.Adamdown.τ).loc Cert.Adamdown.main_arg0) = m ((c.tc : Thread Cert.Adamdown.nD Cert.Adamdown.τ).loc Cert.Adamdown.main_arg0)
      ∧ r.2.mem ((c.tc : Thread Cert.Adamdown.nD Cert.Adamdown.τ).loc Cert.Adamdown.main_arg1) = m ((c.tc : Thread Cert.Adamdown.nD Cert.Adamdown.τ).loc Cert.Adamdown.main_arg1)
      ∧ r.2.mem ((c.tc : Thread Cert.Adamdown.nD Cert.Adamdown.τ).loc Cert.Adamdown.main_arg2) = m ((c.tc : Thread Cert.Adamdown.nD Cert.Adamdown.τ).loc Cert.Adamdown.main_arg2)
      ∧ r.2.mem ((c.tc : Thread Cert.Adamdown.nD Cert.Adamdown.τ).loc Cert.Adamdown.main_arg3) = m ((c.tc : Thread Cert.Adamdown.nD Cert.Adamdown.τ).loc Cert.Adamdown.main_arg3))
      ∧ r.2.sem = fun _ => 0)

def quiescent_AdamdownIdeal [hAdamdownIdeal : Cert.AdamdownIdeal.Facts] : Prop :=
  ∀ (m : (ℓ : Loc Cert.AdamdownIdeal.nD Cert.AdamdownIdeal.τ Cert.AdamdownIdeal.sig) → Buf (Elt Ideal) ℓ) (g : Dev Cert.AdamdownIdeal.nD → PrngReg), Pre_AdamdownIdeal m →
    θ_run (Cert.AdamdownIdeal.defs (F := Ideal)) (onTc (τ := Cert.AdamdownIdeal.τ) (Cert.AdamdownIdeal.main (F := Ideal))) ⟨m, fun _ => 0, g⟩ (fun r => (∀ c : Dev Cert.AdamdownIdeal.nD,
      r.2.mem ((c.tc : Thread Cert.AdamdownIdeal.nD Cert.AdamdownIdeal.τ).loc Cert.AdamdownIdeal.main_arg0) = m ((c.tc : Thread Cert.AdamdownIdeal.nD Cert.AdamdownIdeal.τ).loc Cert.AdamdownIdeal.main_arg0)
      ∧ r.2.mem ((c.tc : Thread Cert.AdamdownIdeal.nD Cert.AdamdownIdeal.τ).loc Cert.AdamdownIdeal.main_arg1) = m ((c.tc : Thread Cert.AdamdownIdeal.nD Cert.AdamdownIdeal.τ).loc Cert.AdamdownIdeal.main_arg1)
      ∧ r.2.mem ((c.tc : Thread Cert.AdamdownIdeal.nD Cert.AdamdownIdeal.τ).loc Cert.AdamdownIdeal.main_arg2) = m ((c.tc : Thread Cert.AdamdownIdeal.nD Cert.AdamdownIdeal.τ).loc Cert.AdamdownIdeal.main_arg2)
      ∧ r.2.mem ((c.tc : Thread Cert.AdamdownIdeal.nD Cert.AdamdownIdeal.τ).loc Cert.AdamdownIdeal.main_arg3) = m ((c.tc : Thread Cert.AdamdownIdeal.nD Cert.AdamdownIdeal.τ).loc Cert.AdamdownIdeal.main_arg3))
      ∧ r.2.sem = fun _ => 0)

def quiescent_AdamdownReferenceIdeal [hAdamdownReferenceIdeal : Cert.AdamdownReferenceIdeal.Facts] : Prop :=
  ∀ (m : (ℓ : Loc Cert.AdamdownReferenceIdeal.nD Cert.AdamdownReferenceIdeal.τ Cert.AdamdownReferenceIdeal.sig) → Buf (Elt Ideal) ℓ) (g : Dev Cert.AdamdownReferenceIdeal.nD → PrngReg), Pre_AdamdownReferenceIdeal m →
    θ_run (Cert.AdamdownReferenceIdeal.defs (F := Ideal)) (onTc (τ := Cert.AdamdownReferenceIdeal.τ) (Cert.AdamdownReferenceIdeal.main (F := Ideal))) ⟨m, fun _ => 0, g⟩ (fun r => (∀ c : Dev Cert.AdamdownReferenceIdeal.nD,
      r.2.mem ((c.tc : Thread Cert.AdamdownReferenceIdeal.nD Cert.AdamdownReferenceIdeal.τ).loc Cert.AdamdownReferenceIdeal.main_arg0) = m ((c.tc : Thread Cert.AdamdownReferenceIdeal.nD Cert.AdamdownReferenceIdeal.τ).loc Cert.AdamdownReferenceIdeal.main_arg0)
      ∧ r.2.mem ((c.tc : Thread Cert.AdamdownReferenceIdeal.nD Cert.AdamdownReferenceIdeal.τ).loc Cert.AdamdownReferenceIdeal.main_arg1) = m ((c.tc : Thread Cert.AdamdownReferenceIdeal.nD Cert.AdamdownReferenceIdeal.τ).loc Cert.AdamdownReferenceIdeal.main_arg1)
      ∧ r.2.mem ((c.tc : Thread Cert.AdamdownReferenceIdeal.nD Cert.AdamdownReferenceIdeal.τ).loc Cert.AdamdownReferenceIdeal.main_arg2) = m ((c.tc : Thread Cert.AdamdownReferenceIdeal.nD Cert.AdamdownReferenceIdeal.τ).loc Cert.AdamdownReferenceIdeal.main_arg2)
      ∧ r.2.mem ((c.tc : Thread Cert.AdamdownReferenceIdeal.nD Cert.AdamdownReferenceIdeal.τ).loc Cert.AdamdownReferenceIdeal.main_arg3) = m ((c.tc : Thread Cert.AdamdownReferenceIdeal.nD Cert.AdamdownReferenceIdeal.τ).loc Cert.AdamdownReferenceIdeal.main_arg3))
      ∧ r.2.sem = fun _ => 0)

def quiescent_Adamin [hAdamin : Cert.Adamin.Facts] : Prop :=
  ∀ (m : (ℓ : Loc Cert.Adamin.nD Cert.Adamin.τ Cert.Adamin.sig) → Buf (Elt Bits) ℓ) (g : Dev Cert.Adamin.nD → PrngReg), Pre_Adamin m →
    θ_run (Cert.Adamin.defs (F := Bits)) (onTc (τ := Cert.Adamin.τ) (Cert.Adamin.main (F := Bits))) ⟨m, fun _ => 0, g⟩ (fun r => (∀ c : Dev Cert.Adamin.nD,
      r.2.mem ((c.tc : Thread Cert.Adamin.nD Cert.Adamin.τ).loc Cert.Adamin.main_arg0) = m ((c.tc : Thread Cert.Adamin.nD Cert.Adamin.τ).loc Cert.Adamin.main_arg0)
      ∧ r.2.mem ((c.tc : Thread Cert.Adamin.nD Cert.Adamin.τ).loc Cert.Adamin.main_arg1) = m ((c.tc : Thread Cert.Adamin.nD Cert.Adamin.τ).loc Cert.Adamin.main_arg1)
      ∧ r.2.mem ((c.tc : Thread Cert.Adamin.nD Cert.Adamin.τ).loc Cert.Adamin.main_arg2) = m ((c.tc : Thread Cert.Adamin.nD Cert.Adamin.τ).loc Cert.Adamin.main_arg2)
      ∧ r.2.mem ((c.tc : Thread Cert.Adamin.nD Cert.Adamin.τ).loc Cert.Adamin.main_arg3) = m ((c.tc : Thread Cert.Adamin.nD Cert.Adamin.τ).loc Cert.Adamin.main_arg3))
      ∧ r.2.sem = fun _ => 0)

def quiescent_AdaminIdeal [hAdaminIdeal : Cert.AdaminIdeal.Facts] : Prop :=
  ∀ (m : (ℓ : Loc Cert.AdaminIdeal.nD Cert.AdaminIdeal.τ Cert.AdaminIdeal.sig) → Buf (Elt Ideal) ℓ) (g : Dev Cert.AdaminIdeal.nD → PrngReg), Pre_AdaminIdeal m →
    θ_run (Cert.AdaminIdeal.defs (F := Ideal)) (onTc (τ := Cert.AdaminIdeal.τ) (Cert.AdaminIdeal.main (F := Ideal))) ⟨m, fun _ => 0, g⟩ (fun r => (∀ c : Dev Cert.AdaminIdeal.nD,
      r.2.mem ((c.tc : Thread Cert.AdaminIdeal.nD Cert.AdaminIdeal.τ).loc Cert.AdaminIdeal.main_arg0) = m ((c.tc : Thread Cert.AdaminIdeal.nD Cert.AdaminIdeal.τ).loc Cert.AdaminIdeal.main_arg0)
      ∧ r.2.mem ((c.tc : Thread Cert.AdaminIdeal.nD Cert.AdaminIdeal.τ).loc Cert.AdaminIdeal.main_arg1) = m ((c.tc : Thread Cert.AdaminIdeal.nD Cert.AdaminIdeal.τ).loc Cert.AdaminIdeal.main_arg1)
      ∧ r.2.mem ((c.tc : Thread Cert.AdaminIdeal.nD Cert.AdaminIdeal.τ).loc Cert.AdaminIdeal.main_arg2) = m ((c.tc : Thread Cert.AdaminIdeal.nD Cert.AdaminIdeal.τ).loc Cert.AdaminIdeal.main_arg2)
      ∧ r.2.mem ((c.tc : Thread Cert.AdaminIdeal.nD Cert.AdaminIdeal.τ).loc Cert.AdaminIdeal.main_arg3) = m ((c.tc : Thread Cert.AdaminIdeal.nD Cert.AdaminIdeal.τ).loc Cert.AdaminIdeal.main_arg3))
      ∧ r.2.sem = fun _ => 0)

def quiescent_AdaminReferenceIdeal [hAdaminReferenceIdeal : Cert.AdaminReferenceIdeal.Facts] : Prop :=
  ∀ (m : (ℓ : Loc Cert.AdaminReferenceIdeal.nD Cert.AdaminReferenceIdeal.τ Cert.AdaminReferenceIdeal.sig) → Buf (Elt Ideal) ℓ) (g : Dev Cert.AdaminReferenceIdeal.nD → PrngReg), Pre_AdaminReferenceIdeal m →
    θ_run (Cert.AdaminReferenceIdeal.defs (F := Ideal)) (onTc (τ := Cert.AdaminReferenceIdeal.τ) (Cert.AdaminReferenceIdeal.main (F := Ideal))) ⟨m, fun _ => 0, g⟩ (fun r => (∀ c : Dev Cert.AdaminReferenceIdeal.nD,
      r.2.mem ((c.tc : Thread Cert.AdaminReferenceIdeal.nD Cert.AdaminReferenceIdeal.τ).loc Cert.AdaminReferenceIdeal.main_arg0) = m ((c.tc : Thread Cert.AdaminReferenceIdeal.nD Cert.AdaminReferenceIdeal.τ).loc Cert.AdaminReferenceIdeal.main_arg0)
      ∧ r.2.mem ((c.tc : Thread Cert.AdaminReferenceIdeal.nD Cert.AdaminReferenceIdeal.τ).loc Cert.AdaminReferenceIdeal.main_arg1) = m ((c.tc : Thread Cert.AdaminReferenceIdeal.nD Cert.AdaminReferenceIdeal.τ).loc Cert.AdaminReferenceIdeal.main_arg1)
      ∧ r.2.mem ((c.tc : Thread Cert.AdaminReferenceIdeal.nD Cert.AdaminReferenceIdeal.τ).loc Cert.AdaminReferenceIdeal.main_arg2) = m ((c.tc : Thread Cert.AdaminReferenceIdeal.nD Cert.AdaminReferenceIdeal.τ).loc Cert.AdaminReferenceIdeal.main_arg2)
      ∧ r.2.mem ((c.tc : Thread Cert.AdaminReferenceIdeal.nD Cert.AdaminReferenceIdeal.τ).loc Cert.AdaminReferenceIdeal.main_arg3) = m ((c.tc : Thread Cert.AdaminReferenceIdeal.nD Cert.AdaminReferenceIdeal.τ).loc Cert.AdaminReferenceIdeal.main_arg3))
      ∧ r.2.sem = fun _ => 0)

def quiescent_Adamout [hAdamout : Cert.Adamout.Facts] : Prop :=
  ∀ (m : (ℓ : Loc Cert.Adamout.nD Cert.Adamout.τ Cert.Adamout.sig) → Buf (Elt Bits) ℓ) (g : Dev Cert.Adamout.nD → PrngReg), Pre_Adamout m →
    θ_run (Cert.Adamout.defs (F := Bits)) (onTc (τ := Cert.Adamout.τ) (Cert.Adamout.main (F := Bits))) ⟨m, fun _ => 0, g⟩ (fun r => (∀ c : Dev Cert.Adamout.nD,
      r.2.mem ((c.tc : Thread Cert.Adamout.nD Cert.Adamout.τ).loc Cert.Adamout.main_arg0) = m ((c.tc : Thread Cert.Adamout.nD Cert.Adamout.τ).loc Cert.Adamout.main_arg0)
      ∧ r.2.mem ((c.tc : Thread Cert.Adamout.nD Cert.Adamout.τ).loc Cert.Adamout.main_arg1) = m ((c.tc : Thread Cert.Adamout.nD Cert.Adamout.τ).loc Cert.Adamout.main_arg1)
      ∧ r.2.mem ((c.tc : Thread Cert.Adamout.nD Cert.Adamout.τ).loc Cert.Adamout.main_arg2) = m ((c.tc : Thread Cert.Adamout.nD Cert.Adamout.τ).loc Cert.Adamout.main_arg2)
      ∧ r.2.mem ((c.tc : Thread Cert.Adamout.nD Cert.Adamout.τ).loc Cert.Adamout.main_arg3) = m ((c.tc : Thread Cert.Adamout.nD Cert.Adamout.τ).loc Cert.Adamout.main_arg3))
      ∧ r.2.sem = fun _ => 0)

def quiescent_AdamoutIdeal [hAdamoutIdeal : Cert.AdamoutIdeal.Facts] : Prop :=
  ∀ (m : (ℓ : Loc Cert.AdamoutIdeal.nD Cert.AdamoutIdeal.τ Cert.AdamoutIdeal.sig) → Buf (Elt Ideal) ℓ) (g : Dev Cert.AdamoutIdeal.nD → PrngReg), Pre_AdamoutIdeal m →
    θ_run (Cert.AdamoutIdeal.defs (F := Ideal)) (onTc (τ := Cert.AdamoutIdeal.τ) (Cert.AdamoutIdeal.main (F := Ideal))) ⟨m, fun _ => 0, g⟩ (fun r => (∀ c : Dev Cert.AdamoutIdeal.nD,
      r.2.mem ((c.tc : Thread Cert.AdamoutIdeal.nD Cert.AdamoutIdeal.τ).loc Cert.AdamoutIdeal.main_arg0) = m ((c.tc : Thread Cert.AdamoutIdeal.nD Cert.AdamoutIdeal.τ).loc Cert.AdamoutIdeal.main_arg0)
      ∧ r.2.mem ((c.tc : Thread Cert.AdamoutIdeal.nD Cert.AdamoutIdeal.τ).loc Cert.AdamoutIdeal.main_arg1) = m ((c.tc : Thread Cert.AdamoutIdeal.nD Cert.AdamoutIdeal.τ).loc Cert.AdamoutIdeal.main_arg1)
      ∧ r.2.mem ((c.tc : Thread Cert.AdamoutIdeal.nD Cert.AdamoutIdeal.τ).loc Cert.AdamoutIdeal.main_arg2) = m ((c.tc : Thread Cert.AdamoutIdeal.nD Cert.AdamoutIdeal.τ).loc Cert.AdamoutIdeal.main_arg2)
      ∧ r.2.mem ((c.tc : Thread Cert.AdamoutIdeal.nD Cert.AdamoutIdeal.τ).loc Cert.AdamoutIdeal.main_arg3) = m ((c.tc : Thread Cert.AdamoutIdeal.nD Cert.AdamoutIdeal.τ).loc Cert.AdamoutIdeal.main_arg3))
      ∧ r.2.sem = fun _ => 0)

def quiescent_AdamoutReferenceIdeal [hAdamoutReferenceIdeal : Cert.AdamoutReferenceIdeal.Facts] : Prop :=
  ∀ (m : (ℓ : Loc Cert.AdamoutReferenceIdeal.nD Cert.AdamoutReferenceIdeal.τ Cert.AdamoutReferenceIdeal.sig) → Buf (Elt Ideal) ℓ) (g : Dev Cert.AdamoutReferenceIdeal.nD → PrngReg), Pre_AdamoutReferenceIdeal m →
    θ_run (Cert.AdamoutReferenceIdeal.defs (F := Ideal)) (onTc (τ := Cert.AdamoutReferenceIdeal.τ) (Cert.AdamoutReferenceIdeal.main (F := Ideal))) ⟨m, fun _ => 0, g⟩ (fun r => (∀ c : Dev Cert.AdamoutReferenceIdeal.nD,
      r.2.mem ((c.tc : Thread Cert.AdamoutReferenceIdeal.nD Cert.AdamoutReferenceIdeal.τ).loc Cert.AdamoutReferenceIdeal.main_arg0) = m ((c.tc : Thread Cert.AdamoutReferenceIdeal.nD Cert.AdamoutReferenceIdeal.τ).loc Cert.AdamoutReferenceIdeal.main_arg0)
      ∧ r.2.mem ((c.tc : Thread Cert.AdamoutReferenceIdeal.nD Cert.AdamoutReferenceIdeal.τ).loc Cert.AdamoutReferenceIdeal.main_arg1) = m ((c.tc : Thread Cert.AdamoutReferenceIdeal.nD Cert.AdamoutReferenceIdeal.τ).loc Cert.AdamoutReferenceIdeal.main_arg1)
      ∧ r.2.mem ((c.tc : Thread Cert.AdamoutReferenceIdeal.nD Cert.AdamoutReferenceIdeal.τ).loc Cert.AdamoutReferenceIdeal.main_arg2) = m ((c.tc : Thread Cert.AdamoutReferenceIdeal.nD Cert.AdamoutReferenceIdeal.τ).loc Cert.AdamoutReferenceIdeal.main_arg2)
      ∧ r.2.mem ((c.tc : Thread Cert.AdamoutReferenceIdeal.nD Cert.AdamoutReferenceIdeal.τ).loc Cert.AdamoutReferenceIdeal.main_arg3) = m ((c.tc : Thread Cert.AdamoutReferenceIdeal.nD Cert.AdamoutReferenceIdeal.τ).loc Cert.AdamoutReferenceIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstIdeal_pre_first_finite [hFirstIdeal : Cert.FirstIdeal.Facts] [hPre_first_finite : Cert.Pre_first_finite.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_first_finite m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5))
      ∧ r.2.sem = fun _ => 0)

def quiescent_FirstReferenceIdeal_pre_first_finite [hFirstReferenceIdeal : Cert.FirstReferenceIdeal.Facts] [hPre_first_finite : Cert.Pre_first_finite.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_first_finite m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5))
      ∧ r.2.sem = fun _ => 0)

def quiescent_Firstact [hFirstact : Cert.Firstact.Facts] : Prop :=
  ∀ (m : (ℓ : Loc Cert.Firstact.nD Cert.Firstact.τ Cert.Firstact.sig) → Buf (Elt Bits) ℓ) (g : Dev Cert.Firstact.nD → PrngReg), Pre_Firstact m →
    θ_run (Cert.Firstact.defs (F := Bits)) (onTc (τ := Cert.Firstact.τ) (Cert.Firstact.main (F := Bits))) ⟨m, fun _ => 0, g⟩ (fun r => (∀ c : Dev Cert.Firstact.nD,
      r.2.mem ((c.tc : Thread Cert.Firstact.nD Cert.Firstact.τ).loc Cert.Firstact.main_arg0) = m ((c.tc : Thread Cert.Firstact.nD Cert.Firstact.τ).loc Cert.Firstact.main_arg0)
      ∧ r.2.mem ((c.tc : Thread Cert.Firstact.nD Cert.Firstact.τ).loc Cert.Firstact.main_arg1) = m ((c.tc : Thread Cert.Firstact.nD Cert.Firstact.τ).loc Cert.Firstact.main_arg1)
      ∧ r.2.mem ((c.tc : Thread Cert.Firstact.nD Cert.Firstact.τ).loc Cert.Firstact.main_arg2) = m ((c.tc : Thread Cert.Firstact.nD Cert.Firstact.τ).loc Cert.Firstact.main_arg2)
      ∧ r.2.mem ((c.tc : Thread Cert.Firstact.nD Cert.Firstact.τ).loc Cert.Firstact.main_arg3) = m ((c.tc : Thread Cert.Firstact.nD Cert.Firstact.τ).loc Cert.Firstact.main_arg3))
      ∧ r.2.sem = fun _ => 0)

def quiescent_FirstactIdeal [hFirstactIdeal : Cert.FirstactIdeal.Facts] : Prop :=
  ∀ (m : (ℓ : Loc Cert.FirstactIdeal.nD Cert.FirstactIdeal.τ Cert.FirstactIdeal.sig) → Buf (Elt Ideal) ℓ) (g : Dev Cert.FirstactIdeal.nD → PrngReg), Pre_FirstactIdeal m →
    θ_run (Cert.FirstactIdeal.defs (F := Ideal)) (onTc (τ := Cert.FirstactIdeal.τ) (Cert.FirstactIdeal.main (F := Ideal))) ⟨m, fun _ => 0, g⟩ (fun r => (∀ c : Dev Cert.FirstactIdeal.nD,
      r.2.mem ((c.tc : Thread Cert.FirstactIdeal.nD Cert.FirstactIdeal.τ).loc Cert.FirstactIdeal.main_arg0) = m ((c.tc : Thread Cert.FirstactIdeal.nD Cert.FirstactIdeal.τ).loc Cert.FirstactIdeal.main_arg0)
      ∧ r.2.mem ((c.tc : Thread Cert.FirstactIdeal.nD Cert.FirstactIdeal.τ).loc Cert.FirstactIdeal.main_arg1) = m ((c.tc : Thread Cert.FirstactIdeal.nD Cert.FirstactIdeal.τ).loc Cert.FirstactIdeal.main_arg1)
      ∧ r.2.mem ((c.tc : Thread Cert.FirstactIdeal.nD Cert.FirstactIdeal.τ).loc Cert.FirstactIdeal.main_arg2) = m ((c.tc : Thread Cert.FirstactIdeal.nD Cert.FirstactIdeal.τ).loc Cert.FirstactIdeal.main_arg2)
      ∧ r.2.mem ((c.tc : Thread Cert.FirstactIdeal.nD Cert.FirstactIdeal.τ).loc Cert.FirstactIdeal.main_arg3) = m ((c.tc : Thread Cert.FirstactIdeal.nD Cert.FirstactIdeal.τ).loc Cert.FirstactIdeal.main_arg3))
      ∧ r.2.sem = fun _ => 0)

def quiescent_FirstactIdeal_pre_firstact_finite [hFirstactIdeal : Cert.FirstactIdeal.Facts] [hPre_firstact_finite : Cert.Pre_firstact_finite.Facts] : Prop :=
  ∀ (m : (ℓ : Loc Cert.FirstactIdeal.nD Cert.FirstactIdeal.τ Cert.FirstactIdeal.sig) → Buf (Elt Ideal) ℓ) (g : Dev Cert.FirstactIdeal.nD → PrngReg), Pre_FirstactIdeal_firstact_finite m →
    θ_run (Cert.FirstactIdeal.defs (F := Ideal)) (onTc (τ := Cert.FirstactIdeal.τ) (Cert.FirstactIdeal.main (F := Ideal))) ⟨m, fun _ => 0, g⟩ (fun r => (∀ c : Dev Cert.FirstactIdeal.nD,
      r.2.mem ((c.tc : Thread Cert.FirstactIdeal.nD Cert.FirstactIdeal.τ).loc Cert.FirstactIdeal.main_arg0) = m ((c.tc : Thread Cert.FirstactIdeal.nD Cert.FirstactIdeal.τ).loc Cert.FirstactIdeal.main_arg0)
      ∧ r.2.mem ((c.tc : Thread Cert.FirstactIdeal.nD Cert.FirstactIdeal.τ).loc Cert.FirstactIdeal.main_arg1) = m ((c.tc : Thread Cert.FirstactIdeal.nD Cert.FirstactIdeal.τ).loc Cert.FirstactIdeal.main_arg1)
      ∧ r.2.mem ((c.tc : Thread Cert.FirstactIdeal.nD Cert.FirstactIdeal.τ).loc Cert.FirstactIdeal.main_arg2) = m ((c.tc : Thread Cert.FirstactIdeal.nD Cert.FirstactIdeal.τ).loc Cert.FirstactIdeal.main_arg2)
      ∧ r.2.mem ((c.tc : Thread Cert.FirstactIdeal.nD Cert.FirstactIdeal.τ).loc Cert.FirstactIdeal.main_arg3) = m ((c.tc : Thread Cert.FirstactIdeal.nD Cert.FirstactIdeal.τ).loc Cert.FirstactIdeal.main_arg3))
      ∧ r.2.sem = fun _ => 0)

def quiescent_FirstactReferenceIdeal [hFirstactReferenceIdeal : Cert.FirstactReferenceIdeal.Facts] : Prop :=
  ∀ (m : (ℓ : Loc Cert.FirstactReferenceIdeal.nD Cert.FirstactReferenceIdeal.τ Cert.FirstactReferenceIdeal.sig) → Buf (Elt Ideal) ℓ) (g : Dev Cert.FirstactReferenceIdeal.nD → PrngReg), Pre_FirstactReferenceIdeal m →
    θ_run (Cert.FirstactReferenceIdeal.defs (F := Ideal)) (onTc (τ := Cert.FirstactReferenceIdeal.τ) (Cert.FirstactReferenceIdeal.main (F := Ideal))) ⟨m, fun _ => 0, g⟩ (fun r => (∀ c : Dev Cert.FirstactReferenceIdeal.nD,
      r.2.mem ((c.tc : Thread Cert.FirstactReferenceIdeal.nD Cert.FirstactReferenceIdeal.τ).loc Cert.FirstactReferenceIdeal.main_arg0) = m ((c.tc : Thread Cert.FirstactReferenceIdeal.nD Cert.FirstactReferenceIdeal.τ).loc Cert.FirstactReferenceIdeal.main_arg0)
      ∧ r.2.mem ((c.tc : Thread Cert.FirstactReferenceIdeal.nD Cert.FirstactReferenceIdeal.τ).loc Cert.FirstactReferenceIdeal.main_arg1) = m ((c.tc : Thread Cert.FirstactReferenceIdeal.nD Cert.FirstactReferenceIdeal.τ).loc Cert.FirstactReferenceIdeal.main_arg1)
      ∧ r.2.mem ((c.tc : Thread Cert.FirstactReferenceIdeal.nD Cert.FirstactReferenceIdeal.τ).loc Cert.FirstactReferenceIdeal.main_arg2) = m ((c.tc : Thread Cert.FirstactReferenceIdeal.nD Cert.FirstactReferenceIdeal.τ).loc Cert.FirstactReferenceIdeal.main_arg2)
      ∧ r.2.mem ((c.tc : Thread Cert.FirstactReferenceIdeal.nD Cert.FirstactReferenceIdeal.τ).loc Cert.FirstactReferenceIdeal.main_arg3) = m ((c.tc : Thread Cert.FirstactReferenceIdeal.nD Cert.FirstactReferenceIdeal.τ).loc Cert.FirstactReferenceIdeal.main_arg3))
      ∧ r.2.sem = fun _ => 0)

def quiescent_FirstactReferenceIdeal_pre_firstact_finite [hFirstactReferenceIdeal : Cert.FirstactReferenceIdeal.Facts] [hPre_firstact_finite : Cert.Pre_firstact_finite.Facts] : Prop :=
  ∀ (m : (ℓ : Loc Cert.FirstactReferenceIdeal.nD Cert.FirstactReferenceIdeal.τ Cert.FirstactReferenceIdeal.sig) → Buf (Elt Ideal) ℓ) (g : Dev Cert.FirstactReferenceIdeal.nD → PrngReg), Pre_FirstactReferenceIdeal_firstact_finite m →
    θ_run (Cert.FirstactReferenceIdeal.defs (F := Ideal)) (onTc (τ := Cert.FirstactReferenceIdeal.τ) (Cert.FirstactReferenceIdeal.main (F := Ideal))) ⟨m, fun _ => 0, g⟩ (fun r => (∀ c : Dev Cert.FirstactReferenceIdeal.nD,
      r.2.mem ((c.tc : Thread Cert.FirstactReferenceIdeal.nD Cert.FirstactReferenceIdeal.τ).loc Cert.FirstactReferenceIdeal.main_arg0) = m ((c.tc : Thread Cert.FirstactReferenceIdeal.nD Cert.FirstactReferenceIdeal.τ).loc Cert.FirstactReferenceIdeal.main_arg0)
      ∧ r.2.mem ((c.tc : Thread Cert.FirstactReferenceIdeal.nD Cert.FirstactReferenceIdeal.τ).loc Cert.FirstactReferenceIdeal.main_arg1) = m ((c.tc : Thread Cert.FirstactReferenceIdeal.nD Cert.FirstactReferenceIdeal.τ).loc Cert.FirstactReferenceIdeal.main_arg1)
      ∧ r.2.mem ((c.tc : Thread Cert.FirstactReferenceIdeal.nD Cert.FirstactReferenceIdeal.τ).loc Cert.FirstactReferenceIdeal.main_arg2) = m ((c.tc : Thread Cert.FirstactReferenceIdeal.nD Cert.FirstactReferenceIdeal.τ).loc Cert.FirstactReferenceIdeal.main_arg2)
      ∧ r.2.mem ((c.tc : Thread Cert.FirstactReferenceIdeal.nD Cert.FirstactReferenceIdeal.τ).loc Cert.FirstactReferenceIdeal.main_arg3) = m ((c.tc : Thread Cert.FirstactReferenceIdeal.nD Cert.FirstactReferenceIdeal.τ).loc Cert.FirstactReferenceIdeal.main_arg3))
      ∧ r.2.sem = fun _ => 0)

def quiescent_Firstwgu [hFirstwgu : Cert.Firstwgu.Facts] : Prop :=
  ∀ (m : (ℓ : Loc Cert.Firstwgu.nD Cert.Firstwgu.τ Cert.Firstwgu.sig) → Buf (Elt Bits) ℓ) (g : Dev Cert.Firstwgu.nD → PrngReg), Pre_Firstwgu m →
    θ_run (Cert.Firstwgu.defs (F := Bits)) (onTc (τ := Cert.Firstwgu.τ) (Cert.Firstwgu.main (F := Bits))) ⟨m, fun _ => 0, g⟩ (fun r => (∀ c : Dev Cert.Firstwgu.nD,
      r.2.mem ((c.tc : Thread Cert.Firstwgu.nD Cert.Firstwgu.τ).loc Cert.Firstwgu.main_arg0) = m ((c.tc : Thread Cert.Firstwgu.nD Cert.Firstwgu.τ).loc Cert.Firstwgu.main_arg0)
      ∧ r.2.mem ((c.tc : Thread Cert.Firstwgu.nD Cert.Firstwgu.τ).loc Cert.Firstwgu.main_arg1) = m ((c.tc : Thread Cert.Firstwgu.nD Cert.Firstwgu.τ).loc Cert.Firstwgu.main_arg1))
      ∧ r.2.sem = fun _ => 0)

def quiescent_FirstwguIdeal [hFirstwguIdeal : Cert.FirstwguIdeal.Facts] : Prop :=
  ∀ (m : (ℓ : Loc Cert.FirstwguIdeal.nD Cert.FirstwguIdeal.τ Cert.FirstwguIdeal.sig) → Buf (Elt Ideal) ℓ) (g : Dev Cert.FirstwguIdeal.nD → PrngReg), Pre_FirstwguIdeal m →
    θ_run (Cert.FirstwguIdeal.defs (F := Ideal)) (onTc (τ := Cert.FirstwguIdeal.τ) (Cert.FirstwguIdeal.main (F := Ideal))) ⟨m, fun _ => 0, g⟩ (fun r => (∀ c : Dev Cert.FirstwguIdeal.nD,
      r.2.mem ((c.tc : Thread Cert.FirstwguIdeal.nD Cert.FirstwguIdeal.τ).loc Cert.FirstwguIdeal.main_arg0) = m ((c.tc : Thread Cert.FirstwguIdeal.nD Cert.FirstwguIdeal.τ).loc Cert.FirstwguIdeal.main_arg0)
      ∧ r.2.mem ((c.tc : Thread Cert.FirstwguIdeal.nD Cert.FirstwguIdeal.τ).loc Cert.FirstwguIdeal.main_arg1) = m ((c.tc : Thread Cert.FirstwguIdeal.nD Cert.FirstwguIdeal.τ).loc Cert.FirstwguIdeal.main_arg1))
      ∧ r.2.sem = fun _ => 0)

def quiescent_FirstwguReferenceIdeal [hFirstwguReferenceIdeal : Cert.FirstwguReferenceIdeal.Facts] : Prop :=
  ∀ (m : (ℓ : Loc Cert.FirstwguReferenceIdeal.nD Cert.FirstwguReferenceIdeal.τ Cert.FirstwguReferenceIdeal.sig) → Buf (Elt Ideal) ℓ) (g : Dev Cert.FirstwguReferenceIdeal.nD → PrngReg), Pre_FirstwguReferenceIdeal m →
    θ_run (Cert.FirstwguReferenceIdeal.defs (F := Ideal)) (onTc (τ := Cert.FirstwguReferenceIdeal.τ) (Cert.FirstwguReferenceIdeal.main (F := Ideal))) ⟨m, fun _ => 0, g⟩ (fun r => (∀ c : Dev Cert.FirstwguReferenceIdeal.nD,
      r.2.mem ((c.tc : Thread Cert.FirstwguReferenceIdeal.nD Cert.FirstwguReferenceIdeal.τ).loc Cert.FirstwguReferenceIdeal.main_arg0) = m ((c.tc : Thread Cert.FirstwguReferenceIdeal.nD Cert.FirstwguReferenceIdeal.τ).loc Cert.FirstwguReferenceIdeal.main_arg0)
      ∧ r.2.mem ((c.tc : Thread Cert.FirstwguReferenceIdeal.nD Cert.FirstwguReferenceIdeal.τ).loc Cert.FirstwguReferenceIdeal.main_arg1) = m ((c.tc : Thread Cert.FirstwguReferenceIdeal.nD Cert.FirstwguReferenceIdeal.τ).loc Cert.FirstwguReferenceIdeal.main_arg1))
      ∧ r.2.sem = fun _ => 0)

def quiescent_Firstffn [hFirstffn : Cert.Firstffn.Facts] : Prop :=
  ∀ (m : (ℓ : Loc Cert.Firstffn.nD Cert.Firstffn.τ Cert.Firstffn.sig) → Buf (Elt Bits) ℓ) (g : Dev Cert.Firstffn.nD → PrngReg), Pre_Firstffn m →
    θ_run (Cert.Firstffn.defs (F := Bits)) (onTc (τ := Cert.Firstffn.τ) (Cert.Firstffn.main (F := Bits))) ⟨m, fun _ => 0, g⟩ (fun r => (∀ c : Dev Cert.Firstffn.nD,
      r.2.mem ((c.tc : Thread Cert.Firstffn.nD Cert.Firstffn.τ).loc Cert.Firstffn.main_arg0) = m ((c.tc : Thread Cert.Firstffn.nD Cert.Firstffn.τ).loc Cert.Firstffn.main_arg0)
      ∧ r.2.mem ((c.tc : Thread Cert.Firstffn.nD Cert.Firstffn.τ).loc Cert.Firstffn.main_arg1) = m ((c.tc : Thread Cert.Firstffn.nD Cert.Firstffn.τ).loc Cert.Firstffn.main_arg1)
      ∧ r.2.mem ((c.tc : Thread Cert.Firstffn.nD Cert.Firstffn.τ).loc Cert.Firstffn.main_arg2) = m ((c.tc : Thread Cert.Firstffn.nD Cert.Firstffn.τ).loc Cert.Firstffn.main_arg2)
      ∧ r.2.mem ((c.tc : Thread Cert.Firstffn.nD Cert.Firstffn.τ).loc Cert.Firstffn.main_arg3) = m ((c.tc : Thread Cert.Firstffn.nD Cert.Firstffn.τ).loc Cert.Firstffn.main_arg3)
      ∧ r.2.mem ((c.tc : Thread Cert.Firstffn.nD Cert.Firstffn.τ).loc Cert.Firstffn.main_arg4) = m ((c.tc : Thread Cert.Firstffn.nD Cert.Firstffn.τ).loc Cert.Firstffn.main_arg4))
      ∧ r.2.sem = fun _ => 0)

def quiescent_FirstffnIdeal [hFirstffnIdeal : Cert.FirstffnIdeal.Facts] : Prop :=
  ∀ (m : (ℓ : Loc Cert.FirstffnIdeal.nD Cert.FirstffnIdeal.τ Cert.FirstffnIdeal.sig) → Buf (Elt Ideal) ℓ) (g : Dev Cert.FirstffnIdeal.nD → PrngReg), Pre_FirstffnIdeal m →
    θ_run (Cert.FirstffnIdeal.defs (F := Ideal)) (onTc (τ := Cert.FirstffnIdeal.τ) (Cert.FirstffnIdeal.main (F := Ideal))) ⟨m, fun _ => 0, g⟩ (fun r => (∀ c : Dev Cert.FirstffnIdeal.nD,
      r.2.mem ((c.tc : Thread Cert.FirstffnIdeal.nD Cert.FirstffnIdeal.τ).loc Cert.FirstffnIdeal.main_arg0) = m ((c.tc : Thread Cert.FirstffnIdeal.nD Cert.FirstffnIdeal.τ).loc Cert.FirstffnIdeal.main_arg0)
      ∧ r.2.mem ((c.tc : Thread Cert.FirstffnIdeal.nD Cert.FirstffnIdeal.τ).loc Cert.FirstffnIdeal.main_arg1) = m ((c.tc : Thread Cert.FirstffnIdeal.nD Cert.FirstffnIdeal.τ).loc Cert.FirstffnIdeal.main_arg1)
      ∧ r.2.mem ((c.tc : Thread Cert.FirstffnIdeal.nD Cert.FirstffnIdeal.τ).loc Cert.FirstffnIdeal.main_arg2) = m ((c.tc : Thread Cert.FirstffnIdeal.nD Cert.FirstffnIdeal.τ).loc Cert.FirstffnIdeal.main_arg2)
      ∧ r.2.mem ((c.tc : Thread Cert.FirstffnIdeal.nD Cert.FirstffnIdeal.τ).loc Cert.FirstffnIdeal.main_arg3) = m ((c.tc : Thread Cert.FirstffnIdeal.nD Cert.FirstffnIdeal.τ).loc Cert.FirstffnIdeal.main_arg3)
      ∧ r.2.mem ((c.tc : Thread Cert.FirstffnIdeal.nD Cert.FirstffnIdeal.τ).loc Cert.FirstffnIdeal.main_arg4) = m ((c.tc : Thread Cert.FirstffnIdeal.nD Cert.FirstffnIdeal.τ).loc Cert.FirstffnIdeal.main_arg4))
      ∧ r.2.sem = fun _ => 0)

def quiescent_FirstffnReferenceIdeal [hFirstffnReferenceIdeal : Cert.FirstffnReferenceIdeal.Facts] : Prop :=
  ∀ (m : (ℓ : Loc Cert.FirstffnReferenceIdeal.nD Cert.FirstffnReferenceIdeal.τ Cert.FirstffnReferenceIdeal.sig) → Buf (Elt Ideal) ℓ) (g : Dev Cert.FirstffnReferenceIdeal.nD → PrngReg), Pre_FirstffnReferenceIdeal m →
    θ_run (Cert.FirstffnReferenceIdeal.defs (F := Ideal)) (onTc (τ := Cert.FirstffnReferenceIdeal.τ) (Cert.FirstffnReferenceIdeal.main (F := Ideal))) ⟨m, fun _ => 0, g⟩ (fun r => (∀ c : Dev Cert.FirstffnReferenceIdeal.nD,
      r.2.mem ((c.tc : Thread Cert.FirstffnReferenceIdeal.nD Cert.FirstffnReferenceIdeal.τ).loc Cert.FirstffnReferenceIdeal.main_arg0) = m ((c.tc : Thread Cert.FirstffnReferenceIdeal.nD Cert.FirstffnReferenceIdeal.τ).loc Cert.FirstffnReferenceIdeal.main_arg0)
      ∧ r.2.mem ((c.tc : Thread Cert.FirstffnReferenceIdeal.nD Cert.FirstffnReferenceIdeal.τ).loc Cert.FirstffnReferenceIdeal.main_arg1) = m ((c.tc : Thread Cert.FirstffnReferenceIdeal.nD Cert.FirstffnReferenceIdeal.τ).loc Cert.FirstffnReferenceIdeal.main_arg1)
      ∧ r.2.mem ((c.tc : Thread Cert.FirstffnReferenceIdeal.nD Cert.FirstffnReferenceIdeal.τ).loc Cert.FirstffnReferenceIdeal.main_arg2) = m ((c.tc : Thread Cert.FirstffnReferenceIdeal.nD Cert.FirstffnReferenceIdeal.τ).loc Cert.FirstffnReferenceIdeal.main_arg2)
      ∧ r.2.mem ((c.tc : Thread Cert.FirstffnReferenceIdeal.nD Cert.FirstffnReferenceIdeal.τ).loc Cert.FirstffnReferenceIdeal.main_arg3) = m ((c.tc : Thread Cert.FirstffnReferenceIdeal.nD Cert.FirstffnReferenceIdeal.τ).loc Cert.FirstffnReferenceIdeal.main_arg3)
      ∧ r.2.mem ((c.tc : Thread Cert.FirstffnReferenceIdeal.nD Cert.FirstffnReferenceIdeal.τ).loc Cert.FirstffnReferenceIdeal.main_arg4) = m ((c.tc : Thread Cert.FirstffnReferenceIdeal.nD Cert.FirstffnReferenceIdeal.τ).loc Cert.FirstffnReferenceIdeal.main_arg4))
      ∧ r.2.sem = fun _ => 0)

def preserves_Kernel_KernelIdeal : Prop :=
  True

def algebraic_KernelIdeal_ReferenceIdeal_pre_conv_finite [hKernelIdeal : Cert.KernelIdeal.Facts] [hReferenceIdeal : Cert.ReferenceIdeal.Facts] [hPre_conv_finite : Cert.Pre_conv_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Fgate_FgateIdeal : Prop :=
  True

def algebraic_FgateIdeal_FgateReferenceIdeal [hFgateIdeal : Cert.FgateIdeal.Facts] [hFgateReferenceIdeal : Cert.FgateReferenceIdeal.Facts] : Prop :=
  ∀ (m : (ℓ : Loc Cert.FgateIdeal.nD Cert.FgateIdeal.τ Cert.FgateIdeal.sig) → Buf (Elt Ideal) ℓ) (g : Dev Cert.FgateIdeal.nD → PrngReg)
    (m' : (ℓ : Loc Cert.FgateReferenceIdeal.nD Cert.FgateReferenceIdeal.τ Cert.FgateReferenceIdeal.sig) → Buf (Elt Ideal) ℓ) (g' : Dev Cert.FgateReferenceIdeal.nD → PrngReg), Pre_FgateIdeal m →
    (∀ c : Dev Cert.FgateIdeal.nD,
      m' ((c.tc : Thread Cert.FgateReferenceIdeal.nD Cert.FgateReferenceIdeal.τ).loc Cert.FgateReferenceIdeal.main_arg0) = m ((c.tc : Thread Cert.FgateIdeal.nD Cert.FgateIdeal.τ).loc Cert.FgateIdeal.main_arg0)
      ∧ m' ((c.tc : Thread Cert.FgateReferenceIdeal.nD Cert.FgateReferenceIdeal.τ).loc Cert.FgateReferenceIdeal.main_arg1) = m ((c.tc : Thread Cert.FgateIdeal.nD Cert.FgateIdeal.τ).loc Cert.FgateIdeal.main_arg1)
      ∧ m' ((c.tc : Thread Cert.FgateReferenceIdeal.nD Cert.FgateReferenceIdeal.τ).loc Cert.FgateReferenceIdeal.main_arg2) = m ((c.tc : Thread Cert.FgateIdeal.nD Cert.FgateIdeal.τ).loc Cert.FgateIdeal.main_arg2)
      ∧ m' ((c.tc : Thread Cert.FgateReferenceIdeal.nD Cert.FgateReferenceIdeal.τ).loc Cert.FgateReferenceIdeal.main_arg3) = m ((c.tc : Thread Cert.FgateIdeal.nD Cert.FgateIdeal.τ).loc Cert.FgateIdeal.main_arg3)) →
    ∃ (v0 : (c : Dev Cert.FgateIdeal.nD) → Buf (Elt Ideal) ((c.tc : Thread Cert.FgateIdeal.nD Cert.FgateIdeal.τ).loc Cert.FgateIdeal.main_v1_0)) (v1 : (c : Dev Cert.FgateIdeal.nD) → Buf (Elt Ideal) ((c.tc : Thread Cert.FgateIdeal.nD Cert.FgateIdeal.τ).loc Cert.FgateIdeal.main_v1_1)),
      θ_run (Cert.FgateIdeal.defs (F := Ideal)) (onTc (τ := Cert.FgateIdeal.τ) (Cert.FgateIdeal.main (F := Ideal))) ⟨m, fun _ => 0, g⟩ (fun r => ∀ c : Dev Cert.FgateIdeal.nD,
          r.2.mem ((c.tc : Thread Cert.FgateIdeal.nD Cert.FgateIdeal.τ).loc Cert.FgateIdeal.main_v1_0) = v0 c
          ∧ r.2.mem ((c.tc : Thread Cert.FgateIdeal.nD Cert.FgateIdeal.τ).loc Cert.FgateIdeal.main_v1_1) = v1 c
          ∧ r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
          ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
          ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2)
          ∧ r.2.mem ((c.tc : Thread Cert.FgateIdeal.nD Cert.FgateIdeal.τ).loc Cert.FgateIdeal.main_arg3) = m ((c.tc : Thread Cert.FgateIdeal.nD Cert.FgateIdeal.τ).loc Cert.FgateIdeal.main_arg3))
      ∧ θ_run (Cert.FgateReferenceIdeal.defs (F := Ideal)) (onTc (τ := Cert.FgateReferenceIdeal.τ) (Cert.FgateReferenceIdeal.main (F := Ideal))) ⟨m', fun _ => 0, g'⟩ (fun r => ∀ c : Dev Cert.FgateReferenceIdeal.nD,
          r.2.mem ((c.tc : Thread Cert.FgateReferenceIdeal.nD Cert.FgateReferenceIdeal.τ).loc Cert.FgateReferenceIdeal.main_v19) = v0 c
          ∧ r.2.mem ((c.tc : Thread Cert.FgateReferenceIdeal.nD Cert.FgateReferenceIdeal.τ).loc Cert.FgateReferenceIdeal.main_v21) = v1 c
          ∧ r.2.mem ((c.tc : Thread Cert.FgateReferenceIdeal.nD Cert.FgateReferenceIdeal.τ).loc Cert.FgateReferenceIdeal.main_arg0) = m' ((c.tc : Thread Cert.FgateReferenceIdeal.nD Cert.FgateReferenceIdeal.τ).loc Cert.FgateReferenceIdeal.main_arg0)
          ∧ r.2.mem ((c.tc : Thread Cert.FgateReferenceIdeal.nD Cert.FgateReferenceIdeal.τ).loc Cert.FgateReferenceIdeal.main_arg1) = m' ((c.tc : Thread Cert.FgateReferenceIdeal.nD Cert.FgateReferenceIdeal.τ).loc Cert.FgateReferenceIdeal.main_arg1)
          ∧ r.2.mem ((c.tc : Thread Cert.FgateReferenceIdeal.nD Cert.FgateReferenceIdeal.τ).loc Cert.FgateReferenceIdeal.main_arg2) = m' ((c.tc : Thread Cert.FgateReferenceIdeal.nD Cert.FgateReferenceIdeal.τ).loc Cert.FgateReferenceIdeal.main_arg2)
          ∧ r.2.mem ((c.tc : Thread Cert.FgateReferenceIdeal.nD Cert.FgateReferenceIdeal.τ).loc Cert.FgateReferenceIdeal.main_arg3) = m' ((c.tc : Thread Cert.FgateReferenceIdeal.nD Cert.FgateReferenceIdeal.τ).loc Cert.FgateReferenceIdeal.main_arg3))

def preserves_Act_ActIdeal : Prop :=
  True

def algebraic_ActIdeal_ActReferenceIdeal_pre_act_finite [hActIdeal : Cert.ActIdeal.Facts] [hActReferenceIdeal : Cert.ActReferenceIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal_act_finite m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v17) = v0 c
          ∧ r.2.mem ((c.tc : Thread Cert.ActReferenceIdeal.nD Cert.ActReferenceIdeal.τ).loc Cert.ActReferenceIdeal.main_v18) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_Norm_NormIdeal : Prop :=
  True

def algebraic_NormIdeal_NormReferenceIdeal_pre_norm_finite [hNormIdeal : Cert.NormIdeal.Facts] [hNormReferenceIdeal : Cert.NormReferenceIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_norm_finite m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v40) = v0 c
          ∧ r.2.mem ((c.tc : Thread Cert.NormReferenceIdeal.nD Cert.NormReferenceIdeal.τ).loc Cert.NormReferenceIdeal.main_v23) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_Wgu_WguIdeal : Prop :=
  True

def algebraic_WguIdeal_WguReferenceIdeal [hWguIdeal : Cert.WguIdeal.Facts] [hWguReferenceIdeal : Cert.WguReferenceIdeal.Facts] : Prop :=
  ∀ (m : (ℓ : Loc Cert.WguIdeal.nD Cert.WguIdeal.τ Cert.WguIdeal.sig) → Buf (Elt Ideal) ℓ) (g : Dev Cert.WguIdeal.nD → PrngReg)
    (m' : (ℓ : Loc Cert.WguReferenceIdeal.nD Cert.WguReferenceIdeal.τ Cert.WguReferenceIdeal.sig) → Buf (Elt Ideal) ℓ) (g' : Dev Cert.WguReferenceIdeal.nD → PrngReg), Pre_WguIdeal m →
    (∀ c : Dev Cert.WguIdeal.nD,
      m' ((c.tc : Thread Cert.WguReferenceIdeal.nD Cert.WguReferenceIdeal.τ).loc Cert.WguReferenceIdeal.main_arg0) = m ((c.tc : Thread Cert.WguIdeal.nD Cert.WguIdeal.τ).loc Cert.WguIdeal.main_arg0)
      ∧ m' ((c.tc : Thread Cert.WguReferenceIdeal.nD Cert.WguReferenceIdeal.τ).loc Cert.WguReferenceIdeal.main_arg1) = m ((c.tc : Thread Cert.WguIdeal.nD Cert.WguIdeal.τ).loc Cert.WguIdeal.main_arg1)) →
    ∃ (v0 : (c : Dev Cert.WguIdeal.nD) → Buf (Elt Ideal) ((c.tc : Thread Cert.WguIdeal.nD Cert.WguIdeal.τ).loc Cert.WguIdeal.main_v0)),
      θ_run (Cert.WguIdeal.defs (F := Ideal)) (onTc (τ := Cert.WguIdeal.τ) (Cert.WguIdeal.main (F := Ideal))) ⟨m, fun _ => 0, g⟩ (fun r => ∀ c : Dev Cert.WguIdeal.nD,
          r.2.mem ((c.tc : Thread Cert.WguIdeal.nD Cert.WguIdeal.τ).loc Cert.WguIdeal.main_v0) = v0 c
          ∧ r.2.mem ((c.tc : Thread Cert.WguIdeal.nD Cert.WguIdeal.τ).loc Cert.WguIdeal.main_arg0) = m ((c.tc : Thread Cert.WguIdeal.nD Cert.WguIdeal.τ).loc Cert.WguIdeal.main_arg0)
          ∧ r.2.mem ((c.tc : Thread Cert.WguIdeal.nD Cert.WguIdeal.τ).loc Cert.WguIdeal.main_arg1) = m ((c.tc : Thread Cert.WguIdeal.nD Cert.WguIdeal.τ).loc Cert.WguIdeal.main_arg1))
      ∧ θ_run (Cert.WguReferenceIdeal.defs (F := Ideal)) (onTc (τ := Cert.WguReferenceIdeal.τ) (Cert.WguReferenceIdeal.main (F := Ideal))) ⟨m', fun _ => 0, g'⟩ (fun r => ∀ c : Dev Cert.WguReferenceIdeal.nD,
          r.2.mem ((c.tc : Thread Cert.WguReferenceIdeal.nD Cert.WguReferenceIdeal.τ).loc Cert.WguReferenceIdeal.main_v7) = v0 c
          ∧ r.2.mem ((c.tc : Thread Cert.WguReferenceIdeal.nD Cert.WguReferenceIdeal.τ).loc Cert.WguReferenceIdeal.main_arg0) = m' ((c.tc : Thread Cert.WguReferenceIdeal.nD Cert.WguReferenceIdeal.τ).loc Cert.WguReferenceIdeal.main_arg0)
          ∧ r.2.mem ((c.tc : Thread Cert.WguReferenceIdeal.nD Cert.WguReferenceIdeal.τ).loc Cert.WguReferenceIdeal.main_arg1) = m' ((c.tc : Thread Cert.WguReferenceIdeal.nD Cert.WguReferenceIdeal.τ).loc Cert.WguReferenceIdeal.main_arg1))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)) (v2 : (c : Dev Cert.OutprojIdeal.nD) → Buf (Elt Ideal) ((c.tc : Thread Cert.OutprojIdeal.nD Cert.OutprojIdeal.τ).loc Cert.OutprojIdeal.main_v0_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_v0_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v10) = v0 c
          ∧ r.2.mem ((c.tc : Thread Cert.OutprojReferenceIdeal.nD Cert.OutprojReferenceIdeal.τ).loc Cert.OutprojReferenceIdeal.main_v11) = v1 c
          ∧ r.2.mem ((c.tc : Thread Cert.OutprojReferenceIdeal.nD Cert.OutprojReferenceIdeal.τ).loc Cert.OutprojReferenceIdeal.main_v12) = v2 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3))

def preserves_Inproj_InprojIdeal : Prop :=
  True

def algebraic_InprojIdeal_InprojReferenceIdeal_pre_inproj_finite [hInprojIdeal : Cert.InprojIdeal.Facts] [hInprojReferenceIdeal : Cert.InprojReferenceIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_inproj_finite m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)
      ∧ m' ((c.tc : Thread Cert.InprojReferenceIdeal.nD Cert.InprojReferenceIdeal.τ).loc Cert.InprojReferenceIdeal.main_arg10) = m ((c.tc : Thread Cert.InprojIdeal.nD Cert.InprojIdeal.τ).loc Cert.InprojIdeal.main_arg10)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v55) = v0 c
          ∧ r.2.mem ((c.tc : Thread Cert.InprojReferenceIdeal.nD Cert.InprojReferenceIdeal.τ).loc Cert.InprojReferenceIdeal.main_v56) = v1 c
          ∧ r.2.mem ((c.tc : Thread Cert.InprojReferenceIdeal.nD Cert.InprojReferenceIdeal.τ).loc Cert.InprojReferenceIdeal.main_v38) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10))

def preserves_Ffn_FfnIdeal : Prop :=
  True

def algebraic_FfnIdeal_FfnReferenceIdeal_pre_ffn2_finite [hFfnIdeal : Cert.FfnIdeal.Facts] [hFfnReferenceIdeal : Cert.FfnReferenceIdeal.Facts] [hPre_ffn2_finite : Cert.Pre_ffn2_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn2_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)) (v5 : (c : Dev Cert.FfnIdeal.nD) → Buf (Elt Ideal) ((c.tc : Thread Cert.FfnIdeal.nD Cert.FfnIdeal.τ).loc Cert.FfnIdeal.main_v0_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_v0_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v81) = v0 c
          ∧ r.2.mem ((c.tc : Thread Cert.FfnReferenceIdeal.nD Cert.FfnReferenceIdeal.τ).loc Cert.FfnReferenceIdeal.main_v82) = v1 c
          ∧ r.2.mem ((c.tc : Thread Cert.FfnReferenceIdeal.nD Cert.FfnReferenceIdeal.τ).loc Cert.FfnReferenceIdeal.main_v83) = v2 c
          ∧ r.2.mem ((c.tc : Thread Cert.FfnReferenceIdeal.nD Cert.FfnReferenceIdeal.τ).loc Cert.FfnReferenceIdeal.main_v84) = v3 c
          ∧ r.2.mem ((c.tc : Thread Cert.FfnReferenceIdeal.nD Cert.FfnReferenceIdeal.τ).loc Cert.FfnReferenceIdeal.main_v85) = v4 c
          ∧ r.2.mem ((c.tc : Thread Cert.FfnReferenceIdeal.nD Cert.FfnReferenceIdeal.τ).loc Cert.FfnReferenceIdeal.main_v65) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Infwd_InfwdIdeal : Prop :=
  True

def algebraic_InfwdIdeal_InfwdReferenceIdeal [hInfwdIdeal : Cert.InfwdIdeal.Facts] [hInfwdReferenceIdeal : Cert.InfwdReferenceIdeal.Facts] : Prop :=
  ∀ (m : (ℓ : Loc Cert.InfwdIdeal.nD Cert.InfwdIdeal.τ Cert.InfwdIdeal.sig) → Buf (Elt Ideal) ℓ) (g : Dev Cert.InfwdIdeal.nD → PrngReg)
    (m' : (ℓ : Loc Cert.InfwdReferenceIdeal.nD Cert.InfwdReferenceIdeal.τ Cert.InfwdReferenceIdeal.sig) → Buf (Elt Ideal) ℓ) (g' : Dev Cert.InfwdReferenceIdeal.nD → PrngReg), Pre_InfwdIdeal m →
    (∀ c : Dev Cert.InfwdIdeal.nD,
      m' ((c.tc : Thread Cert.InfwdReferenceIdeal.nD Cert.InfwdReferenceIdeal.τ).loc Cert.InfwdReferenceIdeal.main_arg0) = m ((c.tc : Thread Cert.InfwdIdeal.nD Cert.InfwdIdeal.τ).loc Cert.InfwdIdeal.main_arg0)
      ∧ m' ((c.tc : Thread Cert.InfwdReferenceIdeal.nD Cert.InfwdReferenceIdeal.τ).loc Cert.InfwdReferenceIdeal.main_arg1) = m ((c.tc : Thread Cert.InfwdIdeal.nD Cert.InfwdIdeal.τ).loc Cert.InfwdIdeal.main_arg1)
      ∧ m' ((c.tc : Thread Cert.InfwdReferenceIdeal.nD Cert.InfwdReferenceIdeal.τ).loc Cert.InfwdReferenceIdeal.main_arg2) = m ((c.tc : Thread Cert.InfwdIdeal.nD Cert.InfwdIdeal.τ).loc Cert.InfwdIdeal.main_arg2)) →
    ∃ (v0 : (c : Dev Cert.InfwdIdeal.nD) → Buf (Elt Ideal) ((c.tc : Thread Cert.InfwdIdeal.nD Cert.InfwdIdeal.τ).loc Cert.InfwdIdeal.main_v0_0)) (v1 : (c : Dev Cert.InfwdIdeal.nD) → Buf (Elt Ideal) ((c.tc : Thread Cert.InfwdIdeal.nD Cert.InfwdIdeal.τ).loc Cert.InfwdIdeal.main_v0_1)) (v2 : (c : Dev Cert.InfwdIdeal.nD) → Buf (Elt Ideal) ((c.tc : Thread Cert.InfwdIdeal.nD Cert.InfwdIdeal.τ).loc Cert.InfwdIdeal.main_v0_2)) (v3 : (c : Dev Cert.InfwdIdeal.nD) → Buf (Elt Ideal) ((c.tc : Thread Cert.InfwdIdeal.nD Cert.InfwdIdeal.τ).loc Cert.InfwdIdeal.main_v0_3)) (v4 : (c : Dev Cert.InfwdIdeal.nD) → Buf (Elt Ideal) ((c.tc : Thread Cert.InfwdIdeal.nD Cert.InfwdIdeal.τ).loc Cert.InfwdIdeal.main_v0_4)) (v5 : (c : Dev Cert.InfwdIdeal.nD) → Buf (Elt Ideal) ((c.tc : Thread Cert.InfwdIdeal.nD Cert.InfwdIdeal.τ).loc Cert.InfwdIdeal.main_v0_5)) (v6 : (c : Dev Cert.InfwdIdeal.nD) → Buf (Elt Ideal) ((c.tc : Thread Cert.InfwdIdeal.nD Cert.InfwdIdeal.τ).loc Cert.InfwdIdeal.main_v0_6)),
      θ_run (Cert.InfwdIdeal.defs (F := Ideal)) (onTc (τ := Cert.InfwdIdeal.τ) (Cert.InfwdIdeal.main (F := Ideal))) ⟨m, fun _ => 0, g⟩ (fun r => ∀ c : Dev Cert.InfwdIdeal.nD,
          r.2.mem ((c.tc : Thread Cert.InfwdIdeal.nD Cert.InfwdIdeal.τ).loc Cert.InfwdIdeal.main_v0_0) = v0 c
          ∧ r.2.mem ((c.tc : Thread Cert.InfwdIdeal.nD Cert.InfwdIdeal.τ).loc Cert.InfwdIdeal.main_v0_1) = v1 c
          ∧ r.2.mem ((c.tc : Thread Cert.InfwdIdeal.nD Cert.InfwdIdeal.τ).loc Cert.InfwdIdeal.main_v0_2) = v2 c
          ∧ r.2.mem ((c.tc : Thread Cert.InfwdIdeal.nD Cert.InfwdIdeal.τ).loc Cert.InfwdIdeal.main_v0_3) = v3 c
          ∧ r.2.mem ((c.tc : Thread Cert.InfwdIdeal.nD Cert.InfwdIdeal.τ).loc Cert.InfwdIdeal.main_v0_4) = v4 c
          ∧ r.2.mem ((c.tc : Thread Cert.InfwdIdeal.nD Cert.InfwdIdeal.τ).loc Cert.InfwdIdeal.main_v0_5) = v5 c
          ∧ r.2.mem ((c.tc : Thread Cert.InfwdIdeal.nD Cert.InfwdIdeal.τ).loc Cert.InfwdIdeal.main_v0_6) = v6 c
          ∧ r.2.mem ((c.tc : Thread Cert.InfwdIdeal.nD Cert.InfwdIdeal.τ).loc Cert.InfwdIdeal.main_arg0) = m ((c.tc : Thread Cert.InfwdIdeal.nD Cert.InfwdIdeal.τ).loc Cert.InfwdIdeal.main_arg0)
          ∧ r.2.mem ((c.tc : Thread Cert.InfwdIdeal.nD Cert.InfwdIdeal.τ).loc Cert.InfwdIdeal.main_arg1) = m ((c.tc : Thread Cert.InfwdIdeal.nD Cert.InfwdIdeal.τ).loc Cert.InfwdIdeal.main_arg1)
          ∧ r.2.mem ((c.tc : Thread Cert.InfwdIdeal.nD Cert.InfwdIdeal.τ).loc Cert.InfwdIdeal.main_arg2) = m ((c.tc : Thread Cert.InfwdIdeal.nD Cert.InfwdIdeal.τ).loc Cert.InfwdIdeal.main_arg2))
      ∧ θ_run (Cert.InfwdReferenceIdeal.defs (F := Ideal)) (onTc (τ := Cert.InfwdReferenceIdeal.τ) (Cert.InfwdReferenceIdeal.main (F := Ideal))) ⟨m', fun _ => 0, g'⟩ (fun r => ∀ c : Dev Cert.InfwdReferenceIdeal.nD,
          r.2.mem ((c.tc : Thread Cert.InfwdReferenceIdeal.nD Cert.InfwdReferenceIdeal.τ).loc Cert.InfwdReferenceIdeal.main_v22) = v0 c
          ∧ r.2.mem ((c.tc : Thread Cert.InfwdReferenceIdeal.nD Cert.InfwdReferenceIdeal.τ).loc Cert.InfwdReferenceIdeal.main_v23) = v1 c
          ∧ r.2.mem ((c.tc : Thread Cert.InfwdReferenceIdeal.nD Cert.InfwdReferenceIdeal.τ).loc Cert.InfwdReferenceIdeal.main_v24) = v2 c
          ∧ r.2.mem ((c.tc : Thread Cert.InfwdReferenceIdeal.nD Cert.InfwdReferenceIdeal.τ).loc Cert.InfwdReferenceIdeal.main_v25) = v3 c
          ∧ r.2.mem ((c.tc : Thread Cert.InfwdReferenceIdeal.nD Cert.InfwdReferenceIdeal.τ).loc Cert.InfwdReferenceIdeal.main_v26) = v4 c
          ∧ r.2.mem ((c.tc : Thread Cert.InfwdReferenceIdeal.nD Cert.InfwdReferenceIdeal.τ).loc Cert.InfwdReferenceIdeal.main_v27) = v5 c
          ∧ r.2.mem ((c.tc : Thread Cert.InfwdReferenceIdeal.nD Cert.InfwdReferenceIdeal.τ).loc Cert.InfwdReferenceIdeal.main_v21) = v6 c
          ∧ r.2.mem ((c.tc : Thread Cert.InfwdReferenceIdeal.nD Cert.InfwdReferenceIdeal.τ).loc Cert.InfwdReferenceIdeal.main_arg0) = m' ((c.tc : Thread Cert.InfwdReferenceIdeal.nD Cert.InfwdReferenceIdeal.τ).loc Cert.InfwdReferenceIdeal.main_arg0)
          ∧ r.2.mem ((c.tc : Thread Cert.InfwdReferenceIdeal.nD Cert.InfwdReferenceIdeal.τ).loc Cert.InfwdReferenceIdeal.main_arg1) = m' ((c.tc : Thread Cert.InfwdReferenceIdeal.nD Cert.InfwdReferenceIdeal.τ).loc Cert.InfwdReferenceIdeal.main_arg1)
          ∧ r.2.mem ((c.tc : Thread Cert.InfwdReferenceIdeal.nD Cert.InfwdReferenceIdeal.τ).loc Cert.InfwdReferenceIdeal.main_arg2) = m' ((c.tc : Thread Cert.InfwdReferenceIdeal.nD Cert.InfwdReferenceIdeal.τ).loc Cert.InfwdReferenceIdeal.main_arg2))

def preserves_Convfwd_ConvfwdIdeal : Prop :=
  True

def algebraic_ConvfwdIdeal_ConvfwdReferenceIdeal_pre_convfwd_finite [hConvfwdIdeal : Cert.ConvfwdIdeal.Facts] [hConvfwdReferenceIdeal : Cert.ConvfwdReferenceIdeal.Facts] [hPre_convfwd_finite : Cert.Pre_convfwd_finite.Facts] : Prop :=
  ∀ (m : (ℓ : Loc Cert.ConvfwdIdeal.nD Cert.ConvfwdIdeal.τ Cert.ConvfwdIdeal.sig) → Buf (Elt Ideal) ℓ) (g : Dev Cert.ConvfwdIdeal.nD → PrngReg)
    (m' : (ℓ : Loc Cert.ConvfwdReferenceIdeal.nD Cert.ConvfwdReferenceIdeal.τ Cert.ConvfwdReferenceIdeal.sig) → Buf (Elt Ideal) ℓ) (g' : Dev Cert.ConvfwdReferenceIdeal.nD → PrngReg), Pre_ConvfwdIdeal_convfwd_finite m →
    (∀ c : Dev Cert.ConvfwdIdeal.nD,
      m' ((c.tc : Thread Cert.ConvfwdReferenceIdeal.nD Cert.ConvfwdReferenceIdeal.τ).loc Cert.ConvfwdReferenceIdeal.main_arg0) = m ((c.tc : Thread Cert.ConvfwdIdeal.nD Cert.ConvfwdIdeal.τ).loc Cert.ConvfwdIdeal.main_arg0)
      ∧ m' ((c.tc : Thread Cert.ConvfwdReferenceIdeal.nD Cert.ConvfwdReferenceIdeal.τ).loc Cert.ConvfwdReferenceIdeal.main_arg1) = m ((c.tc : Thread Cert.ConvfwdIdeal.nD Cert.ConvfwdIdeal.τ).loc Cert.ConvfwdIdeal.main_arg1)
      ∧ m' ((c.tc : Thread Cert.ConvfwdReferenceIdeal.nD Cert.ConvfwdReferenceIdeal.τ).loc Cert.ConvfwdReferenceIdeal.main_arg2) = m ((c.tc : Thread Cert.ConvfwdIdeal.nD Cert.ConvfwdIdeal.τ).loc Cert.ConvfwdIdeal.main_arg2)
      ∧ m' ((c.tc : Thread Cert.ConvfwdReferenceIdeal.nD Cert.ConvfwdReferenceIdeal.τ).loc Cert.ConvfwdReferenceIdeal.main_arg3) = m ((c.tc : Thread Cert.ConvfwdIdeal.nD Cert.ConvfwdIdeal.τ).loc Cert.ConvfwdIdeal.main_arg3)
      ∧ m' ((c.tc : Thread Cert.ConvfwdReferenceIdeal.nD Cert.ConvfwdReferenceIdeal.τ).loc Cert.ConvfwdReferenceIdeal.main_arg4) = m ((c.tc : Thread Cert.ConvfwdIdeal.nD Cert.ConvfwdIdeal.τ).loc Cert.ConvfwdIdeal.main_arg4)) →
    ∃ (v0 : (c : Dev Cert.ConvfwdIdeal.nD) → Buf (Elt Ideal) ((c.tc : Thread Cert.ConvfwdIdeal.nD Cert.ConvfwdIdeal.τ).loc Cert.ConvfwdIdeal.main_v7)),
      θ_run (Cert.ConvfwdIdeal.defs (F := Ideal)) (onTc (τ := Cert.ConvfwdIdeal.τ) (Cert.ConvfwdIdeal.main (F := Ideal))) ⟨m, fun _ => 0, g⟩ (fun r => ∀ c : Dev Cert.ConvfwdIdeal.nD,
          r.2.mem ((c.tc : Thread Cert.ConvfwdIdeal.nD Cert.ConvfwdIdeal.τ).loc Cert.ConvfwdIdeal.main_v7) = v0 c
          ∧ r.2.mem ((c.tc : Thread Cert.ConvfwdIdeal.nD Cert.ConvfwdIdeal.τ).loc Cert.ConvfwdIdeal.main_arg0) = m ((c.tc : Thread Cert.ConvfwdIdeal.nD Cert.ConvfwdIdeal.τ).loc Cert.ConvfwdIdeal.main_arg0)
          ∧ r.2.mem ((c.tc : Thread Cert.ConvfwdIdeal.nD Cert.ConvfwdIdeal.τ).loc Cert.ConvfwdIdeal.main_arg1) = m ((c.tc : Thread Cert.ConvfwdIdeal.nD Cert.ConvfwdIdeal.τ).loc Cert.ConvfwdIdeal.main_arg1)
          ∧ r.2.mem ((c.tc : Thread Cert.ConvfwdIdeal.nD Cert.ConvfwdIdeal.τ).loc Cert.ConvfwdIdeal.main_arg2) = m ((c.tc : Thread Cert.ConvfwdIdeal.nD Cert.ConvfwdIdeal.τ).loc Cert.ConvfwdIdeal.main_arg2)
          ∧ r.2.mem ((c.tc : Thread Cert.ConvfwdIdeal.nD Cert.ConvfwdIdeal.τ).loc Cert.ConvfwdIdeal.main_arg3) = m ((c.tc : Thread Cert.ConvfwdIdeal.nD Cert.ConvfwdIdeal.τ).loc Cert.ConvfwdIdeal.main_arg3)
          ∧ r.2.mem ((c.tc : Thread Cert.ConvfwdIdeal.nD Cert.ConvfwdIdeal.τ).loc Cert.ConvfwdIdeal.main_arg4) = m ((c.tc : Thread Cert.ConvfwdIdeal.nD Cert.ConvfwdIdeal.τ).loc Cert.ConvfwdIdeal.main_arg4))
      ∧ θ_run (Cert.ConvfwdReferenceIdeal.defs (F := Ideal)) (onTc (τ := Cert.ConvfwdReferenceIdeal.τ) (Cert.ConvfwdReferenceIdeal.main (F := Ideal))) ⟨m', fun _ => 0, g'⟩ (fun r => ∀ c : Dev Cert.ConvfwdReferenceIdeal.nD,
          r.2.mem ((c.tc : Thread Cert.ConvfwdReferenceIdeal.nD Cert.ConvfwdReferenceIdeal.τ).loc Cert.ConvfwdReferenceIdeal.main_v49) = v0 c
          ∧ r.2.mem ((c.tc : Thread Cert.ConvfwdReferenceIdeal.nD Cert.ConvfwdReferenceIdeal.τ).loc Cert.ConvfwdReferenceIdeal.main_arg0) = m' ((c.tc : Thread Cert.ConvfwdReferenceIdeal.nD Cert.ConvfwdReferenceIdeal.τ).loc Cert.ConvfwdReferenceIdeal.main_arg0)
          ∧ r.2.mem ((c.tc : Thread Cert.ConvfwdReferenceIdeal.nD Cert.ConvfwdReferenceIdeal.τ).loc Cert.ConvfwdReferenceIdeal.main_arg1) = m' ((c.tc : Thread Cert.ConvfwdReferenceIdeal.nD Cert.ConvfwdReferenceIdeal.τ).loc Cert.ConvfwdReferenceIdeal.main_arg1)
          ∧ r.2.mem ((c.tc : Thread Cert.ConvfwdReferenceIdeal.nD Cert.ConvfwdReferenceIdeal.τ).loc Cert.ConvfwdReferenceIdeal.main_arg2) = m' ((c.tc : Thread Cert.ConvfwdReferenceIdeal.nD Cert.ConvfwdReferenceIdeal.τ).loc Cert.ConvfwdReferenceIdeal.main_arg2)
          ∧ r.2.mem ((c.tc : Thread Cert.ConvfwdReferenceIdeal.nD Cert.ConvfwdReferenceIdeal.τ).loc Cert.ConvfwdReferenceIdeal.main_arg3) = m' ((c.tc : Thread Cert.ConvfwdReferenceIdeal.nD Cert.ConvfwdReferenceIdeal.τ).loc Cert.ConvfwdReferenceIdeal.main_arg3)
          ∧ r.2.mem ((c.tc : Thread Cert.ConvfwdReferenceIdeal.nD Cert.ConvfwdReferenceIdeal.τ).loc Cert.ConvfwdReferenceIdeal.main_arg4) = m' ((c.tc : Thread Cert.ConvfwdReferenceIdeal.nD Cert.ConvfwdReferenceIdeal.τ).loc Cert.ConvfwdReferenceIdeal.main_arg4))

def preserves_Adamgu_AdamguIdeal : Prop :=
  True

def algebraic_AdamguIdeal_AdamguReferenceIdeal [hAdamguIdeal : Cert.AdamguIdeal.Facts] [hAdamguReferenceIdeal : Cert.AdamguReferenceIdeal.Facts] : Prop :=
  ∀ (m : (ℓ : Loc Cert.AdamguIdeal.nD Cert.AdamguIdeal.τ Cert.AdamguIdeal.sig) → Buf (Elt Ideal) ℓ) (g : Dev Cert.AdamguIdeal.nD → PrngReg)
    (m' : (ℓ : Loc Cert.AdamguReferenceIdeal.nD Cert.AdamguReferenceIdeal.τ Cert.AdamguReferenceIdeal.sig) → Buf (Elt Ideal) ℓ) (g' : Dev Cert.AdamguReferenceIdeal.nD → PrngReg), Pre_AdamguIdeal m →
    (∀ c : Dev Cert.AdamguIdeal.nD,
      m' ((c.tc : Thread Cert.AdamguReferenceIdeal.nD Cert.AdamguReferenceIdeal.τ).loc Cert.AdamguReferenceIdeal.main_arg0) = m ((c.tc : Thread Cert.AdamguIdeal.nD Cert.AdamguIdeal.τ).loc Cert.AdamguIdeal.main_arg0)
      ∧ m' ((c.tc : Thread Cert.AdamguReferenceIdeal.nD Cert.AdamguReferenceIdeal.τ).loc Cert.AdamguReferenceIdeal.main_arg1) = m ((c.tc : Thread Cert.AdamguIdeal.nD Cert.AdamguIdeal.τ).loc Cert.AdamguIdeal.main_arg1)
      ∧ m' ((c.tc : Thread Cert.AdamguReferenceIdeal.nD Cert.AdamguReferenceIdeal.τ).loc Cert.AdamguReferenceIdeal.main_arg2) = m ((c.tc : Thread Cert.AdamguIdeal.nD Cert.AdamguIdeal.τ).loc Cert.AdamguIdeal.main_arg2)
      ∧ m' ((c.tc : Thread Cert.AdamguReferenceIdeal.nD Cert.AdamguReferenceIdeal.τ).loc Cert.AdamguReferenceIdeal.main_arg3) = m ((c.tc : Thread Cert.AdamguIdeal.nD Cert.AdamguIdeal.τ).loc Cert.AdamguIdeal.main_arg3)) →
    ∃ (v0 : (c : Dev Cert.AdamguIdeal.nD) → Buf (Elt Ideal) ((c.tc : Thread Cert.AdamguIdeal.nD Cert.AdamguIdeal.τ).loc Cert.AdamguIdeal.main_v0_0)) (v1 : (c : Dev Cert.AdamguIdeal.nD) → Buf (Elt Ideal) ((c.tc : Thread Cert.AdamguIdeal.nD Cert.AdamguIdeal.τ).loc Cert.AdamguIdeal.main_v0_1)) (v2 : (c : Dev Cert.AdamguIdeal.nD) → Buf (Elt Ideal) ((c.tc : Thread Cert.AdamguIdeal.nD Cert.AdamguIdeal.τ).loc Cert.AdamguIdeal.main_v0_2)) (v3 : (c : Dev Cert.AdamguIdeal.nD) → Buf (Elt Ideal) ((c.tc : Thread Cert.AdamguIdeal.nD Cert.AdamguIdeal.τ).loc Cert.AdamguIdeal.main_v0_3)),
      θ_run (Cert.AdamguIdeal.defs (F := Ideal)) (onTc (τ := Cert.AdamguIdeal.τ) (Cert.AdamguIdeal.main (F := Ideal))) ⟨m, fun _ => 0, g⟩ (fun r => ∀ c : Dev Cert.AdamguIdeal.nD,
          r.2.mem ((c.tc : Thread Cert.AdamguIdeal.nD Cert.AdamguIdeal.τ).loc Cert.AdamguIdeal.main_v0_0) = v0 c
          ∧ r.2.mem ((c.tc : Thread Cert.AdamguIdeal.nD Cert.AdamguIdeal.τ).loc Cert.AdamguIdeal.main_v0_1) = v1 c
          ∧ r.2.mem ((c.tc : Thread Cert.AdamguIdeal.nD Cert.AdamguIdeal.τ).loc Cert.AdamguIdeal.main_v0_2) = v2 c
          ∧ r.2.mem ((c.tc : Thread Cert.AdamguIdeal.nD Cert.AdamguIdeal.τ).loc Cert.AdamguIdeal.main_v0_3) = v3 c
          ∧ r.2.mem ((c.tc : Thread Cert.AdamguIdeal.nD Cert.AdamguIdeal.τ).loc Cert.AdamguIdeal.main_arg0) = m ((c.tc : Thread Cert.AdamguIdeal.nD Cert.AdamguIdeal.τ).loc Cert.AdamguIdeal.main_arg0)
          ∧ r.2.mem ((c.tc : Thread Cert.AdamguIdeal.nD Cert.AdamguIdeal.τ).loc Cert.AdamguIdeal.main_arg1) = m ((c.tc : Thread Cert.AdamguIdeal.nD Cert.AdamguIdeal.τ).loc Cert.AdamguIdeal.main_arg1)
          ∧ r.2.mem ((c.tc : Thread Cert.AdamguIdeal.nD Cert.AdamguIdeal.τ).loc Cert.AdamguIdeal.main_arg2) = m ((c.tc : Thread Cert.AdamguIdeal.nD Cert.AdamguIdeal.τ).loc Cert.AdamguIdeal.main_arg2)
          ∧ r.2.mem ((c.tc : Thread Cert.AdamguIdeal.nD Cert.AdamguIdeal.τ).loc Cert.AdamguIdeal.main_arg3) = m ((c.tc : Thread Cert.AdamguIdeal.nD Cert.AdamguIdeal.τ).loc Cert.AdamguIdeal.main_arg3))
      ∧ θ_run (Cert.AdamguReferenceIdeal.defs (F := Ideal)) (onTc (τ := Cert.AdamguReferenceIdeal.τ) (Cert.AdamguReferenceIdeal.main (F := Ideal))) ⟨m', fun _ => 0, g'⟩ (fun r => ∀ c : Dev Cert.AdamguReferenceIdeal.nD,
          r.2.mem ((c.tc : Thread Cert.AdamguReferenceIdeal.nD Cert.AdamguReferenceIdeal.τ).loc Cert.AdamguReferenceIdeal.main_v1) = v0 c
          ∧ r.2.mem ((c.tc : Thread Cert.AdamguReferenceIdeal.nD Cert.AdamguReferenceIdeal.τ).loc Cert.AdamguReferenceIdeal.main_v25) = v1 c
          ∧ r.2.mem ((c.tc : Thread Cert.AdamguReferenceIdeal.nD Cert.AdamguReferenceIdeal.τ).loc Cert.AdamguReferenceIdeal.main_v6) = v2 c
          ∧ r.2.mem ((c.tc : Thread Cert.AdamguReferenceIdeal.nD Cert.AdamguReferenceIdeal.τ).loc Cert.AdamguReferenceIdeal.main_v12) = v3 c
          ∧ r.2.mem ((c.tc : Thread Cert.AdamguReferenceIdeal.nD Cert.AdamguReferenceIdeal.τ).loc Cert.AdamguReferenceIdeal.main_arg0) = m' ((c.tc : Thread Cert.AdamguReferenceIdeal.nD Cert.AdamguReferenceIdeal.τ).loc Cert.AdamguReferenceIdeal.main_arg0)
          ∧ r.2.mem ((c.tc : Thread Cert.AdamguReferenceIdeal.nD Cert.AdamguReferenceIdeal.τ).loc Cert.AdamguReferenceIdeal.main_arg1) = m' ((c.tc : Thread Cert.AdamguReferenceIdeal.nD Cert.AdamguReferenceIdeal.τ).loc Cert.AdamguReferenceIdeal.main_arg1)
          ∧ r.2.mem ((c.tc : Thread Cert.AdamguReferenceIdeal.nD Cert.AdamguReferenceIdeal.τ).loc Cert.AdamguReferenceIdeal.main_arg2) = m' ((c.tc : Thread Cert.AdamguReferenceIdeal.nD Cert.AdamguReferenceIdeal.τ).loc Cert.AdamguReferenceIdeal.main_arg2)
          ∧ r.2.mem ((c.tc : Thread Cert.AdamguReferenceIdeal.nD Cert.AdamguReferenceIdeal.τ).loc Cert.AdamguReferenceIdeal.main_arg3) = m' ((c.tc : Thread Cert.AdamguReferenceIdeal.nD Cert.AdamguReferenceIdeal.τ).loc Cert.AdamguReferenceIdeal.main_arg3))

def preserves_Adamdown_AdamdownIdeal : Prop :=
  True

def algebraic_AdamdownIdeal_AdamdownReferenceIdeal [hAdamdownIdeal : Cert.AdamdownIdeal.Facts] [hAdamdownReferenceIdeal : Cert.AdamdownReferenceIdeal.Facts] : Prop :=
  ∀ (m : (ℓ : Loc Cert.AdamdownIdeal.nD Cert.AdamdownIdeal.τ Cert.AdamdownIdeal.sig) → Buf (Elt Ideal) ℓ) (g : Dev Cert.AdamdownIdeal.nD → PrngReg)
    (m' : (ℓ : Loc Cert.AdamdownReferenceIdeal.nD Cert.AdamdownReferenceIdeal.τ Cert.AdamdownReferenceIdeal.sig) → Buf (Elt Ideal) ℓ) (g' : Dev Cert.AdamdownReferenceIdeal.nD → PrngReg), Pre_AdamdownIdeal m →
    (∀ c : Dev Cert.AdamdownIdeal.nD,
      m' ((c.tc : Thread Cert.AdamdownReferenceIdeal.nD Cert.AdamdownReferenceIdeal.τ).loc Cert.AdamdownReferenceIdeal.main_arg0) = m ((c.tc : Thread Cert.AdamdownIdeal.nD Cert.AdamdownIdeal.τ).loc Cert.AdamdownIdeal.main_arg0)
      ∧ m' ((c.tc : Thread Cert.AdamdownReferenceIdeal.nD Cert.AdamdownReferenceIdeal.τ).loc Cert.AdamdownReferenceIdeal.main_arg1) = m ((c.tc : Thread Cert.AdamdownIdeal.nD Cert.AdamdownIdeal.τ).loc Cert.AdamdownIdeal.main_arg1)
      ∧ m' ((c.tc : Thread Cert.AdamdownReferenceIdeal.nD Cert.AdamdownReferenceIdeal.τ).loc Cert.AdamdownReferenceIdeal.main_arg2) = m ((c.tc : Thread Cert.AdamdownIdeal.nD Cert.AdamdownIdeal.τ).loc Cert.AdamdownIdeal.main_arg2)
      ∧ m' ((c.tc : Thread Cert.AdamdownReferenceIdeal.nD Cert.AdamdownReferenceIdeal.τ).loc Cert.AdamdownReferenceIdeal.main_arg3) = m ((c.tc : Thread Cert.AdamdownIdeal.nD Cert.AdamdownIdeal.τ).loc Cert.AdamdownIdeal.main_arg3)) →
    ∃ (v0 : (c : Dev Cert.AdamdownIdeal.nD) → Buf (Elt Ideal) ((c.tc : Thread Cert.AdamdownIdeal.nD Cert.AdamdownIdeal.τ).loc Cert.AdamdownIdeal.main_v0_0)) (v1 : (c : Dev Cert.AdamdownIdeal.nD) → Buf (Elt Ideal) ((c.tc : Thread Cert.AdamdownIdeal.nD Cert.AdamdownIdeal.τ).loc Cert.AdamdownIdeal.main_v0_1)) (v2 : (c : Dev Cert.AdamdownIdeal.nD) → Buf (Elt Ideal) ((c.tc : Thread Cert.AdamdownIdeal.nD Cert.AdamdownIdeal.τ).loc Cert.AdamdownIdeal.main_v0_2)) (v3 : (c : Dev Cert.AdamdownIdeal.nD) → Buf (Elt Ideal) ((c.tc : Thread Cert.AdamdownIdeal.nD Cert.AdamdownIdeal.τ).loc Cert.AdamdownIdeal.main_v0_3)),
      θ_run (Cert.AdamdownIdeal.defs (F := Ideal)) (onTc (τ := Cert.AdamdownIdeal.τ) (Cert.AdamdownIdeal.main (F := Ideal))) ⟨m, fun _ => 0, g⟩ (fun r => ∀ c : Dev Cert.AdamdownIdeal.nD,
          r.2.mem ((c.tc : Thread Cert.AdamdownIdeal.nD Cert.AdamdownIdeal.τ).loc Cert.AdamdownIdeal.main_v0_0) = v0 c
          ∧ r.2.mem ((c.tc : Thread Cert.AdamdownIdeal.nD Cert.AdamdownIdeal.τ).loc Cert.AdamdownIdeal.main_v0_1) = v1 c
          ∧ r.2.mem ((c.tc : Thread Cert.AdamdownIdeal.nD Cert.AdamdownIdeal.τ).loc Cert.AdamdownIdeal.main_v0_2) = v2 c
          ∧ r.2.mem ((c.tc : Thread Cert.AdamdownIdeal.nD Cert.AdamdownIdeal.τ).loc Cert.AdamdownIdeal.main_v0_3) = v3 c
          ∧ r.2.mem ((c.tc : Thread Cert.AdamdownIdeal.nD Cert.AdamdownIdeal.τ).loc Cert.AdamdownIdeal.main_arg0) = m ((c.tc : Thread Cert.AdamdownIdeal.nD Cert.AdamdownIdeal.τ).loc Cert.AdamdownIdeal.main_arg0)
          ∧ r.2.mem ((c.tc : Thread Cert.AdamdownIdeal.nD Cert.AdamdownIdeal.τ).loc Cert.AdamdownIdeal.main_arg1) = m ((c.tc : Thread Cert.AdamdownIdeal.nD Cert.AdamdownIdeal.τ).loc Cert.AdamdownIdeal.main_arg1)
          ∧ r.2.mem ((c.tc : Thread Cert.AdamdownIdeal.nD Cert.AdamdownIdeal.τ).loc Cert.AdamdownIdeal.main_arg2) = m ((c.tc : Thread Cert.AdamdownIdeal.nD Cert.AdamdownIdeal.τ).loc Cert.AdamdownIdeal.main_arg2)
          ∧ r.2.mem ((c.tc : Thread Cert.AdamdownIdeal.nD Cert.AdamdownIdeal.τ).loc Cert.AdamdownIdeal.main_arg3) = m ((c.tc : Thread Cert.AdamdownIdeal.nD Cert.AdamdownIdeal.τ).loc Cert.AdamdownIdeal.main_arg3))
      ∧ θ_run (Cert.AdamdownReferenceIdeal.defs (F := Ideal)) (onTc (τ := Cert.AdamdownReferenceIdeal.τ) (Cert.AdamdownReferenceIdeal.main (F := Ideal))) ⟨m', fun _ => 0, g'⟩ (fun r => ∀ c : Dev Cert.AdamdownReferenceIdeal.nD,
          r.2.mem ((c.tc : Thread Cert.AdamdownReferenceIdeal.nD Cert.AdamdownReferenceIdeal.τ).loc Cert.AdamdownReferenceIdeal.main_v1) = v0 c
          ∧ r.2.mem ((c.tc : Thread Cert.AdamdownReferenceIdeal.nD Cert.AdamdownReferenceIdeal.τ).loc Cert.AdamdownReferenceIdeal.main_v25) = v1 c
          ∧ r.2.mem ((c.tc : Thread Cert.AdamdownReferenceIdeal.nD Cert.AdamdownReferenceIdeal.τ).loc Cert.AdamdownReferenceIdeal.main_v6) = v2 c
          ∧ r.2.mem ((c.tc : Thread Cert.AdamdownReferenceIdeal.nD Cert.AdamdownReferenceIdeal.τ).loc Cert.AdamdownReferenceIdeal.main_v12) = v3 c
          ∧ r.2.mem ((c.tc : Thread Cert.AdamdownReferenceIdeal.nD Cert.AdamdownReferenceIdeal.τ).loc Cert.AdamdownReferenceIdeal.main_arg0) = m' ((c.tc : Thread Cert.AdamdownReferenceIdeal.nD Cert.AdamdownReferenceIdeal.τ).loc Cert.AdamdownReferenceIdeal.main_arg0)
          ∧ r.2.mem ((c.tc : Thread Cert.AdamdownReferenceIdeal.nD Cert.AdamdownReferenceIdeal.τ).loc Cert.AdamdownReferenceIdeal.main_arg1) = m' ((c.tc : Thread Cert.AdamdownReferenceIdeal.nD Cert.AdamdownReferenceIdeal.τ).loc Cert.AdamdownReferenceIdeal.main_arg1)
          ∧ r.2.mem ((c.tc : Thread Cert.AdamdownReferenceIdeal.nD Cert.AdamdownReferenceIdeal.τ).loc Cert.AdamdownReferenceIdeal.main_arg2) = m' ((c.tc : Thread Cert.AdamdownReferenceIdeal.nD Cert.AdamdownReferenceIdeal.τ).loc Cert.AdamdownReferenceIdeal.main_arg2)
          ∧ r.2.mem ((c.tc : Thread Cert.AdamdownReferenceIdeal.nD Cert.AdamdownReferenceIdeal.τ).loc Cert.AdamdownReferenceIdeal.main_arg3) = m' ((c.tc : Thread Cert.AdamdownReferenceIdeal.nD Cert.AdamdownReferenceIdeal.τ).loc Cert.AdamdownReferenceIdeal.main_arg3))

def preserves_Adamin_AdaminIdeal : Prop :=
  True

def algebraic_AdaminIdeal_AdaminReferenceIdeal [hAdaminIdeal : Cert.AdaminIdeal.Facts] [hAdaminReferenceIdeal : Cert.AdaminReferenceIdeal.Facts] : Prop :=
  ∀ (m : (ℓ : Loc Cert.AdaminIdeal.nD Cert.AdaminIdeal.τ Cert.AdaminIdeal.sig) → Buf (Elt Ideal) ℓ) (g : Dev Cert.AdaminIdeal.nD → PrngReg)
    (m' : (ℓ : Loc Cert.AdaminReferenceIdeal.nD Cert.AdaminReferenceIdeal.τ Cert.AdaminReferenceIdeal.sig) → Buf (Elt Ideal) ℓ) (g' : Dev Cert.AdaminReferenceIdeal.nD → PrngReg), Pre_AdaminIdeal m →
    (∀ c : Dev Cert.AdaminIdeal.nD,
      m' ((c.tc : Thread Cert.AdaminReferenceIdeal.nD Cert.AdaminReferenceIdeal.τ).loc Cert.AdaminReferenceIdeal.main_arg0) = m ((c.tc : Thread Cert.AdaminIdeal.nD Cert.AdaminIdeal.τ).loc Cert.AdaminIdeal.main_arg0)
      ∧ m' ((c.tc : Thread Cert.AdaminReferenceIdeal.nD Cert.AdaminReferenceIdeal.τ).loc Cert.AdaminReferenceIdeal.main_arg1) = m ((c.tc : Thread Cert.AdaminIdeal.nD Cert.AdaminIdeal.τ).loc Cert.AdaminIdeal.main_arg1)
      ∧ m' ((c.tc : Thread Cert.AdaminReferenceIdeal.nD Cert.AdaminReferenceIdeal.τ).loc Cert.AdaminReferenceIdeal.main_arg2) = m ((c.tc : Thread Cert.AdaminIdeal.nD Cert.AdaminIdeal.τ).loc Cert.AdaminIdeal.main_arg2)
      ∧ m' ((c.tc : Thread Cert.AdaminReferenceIdeal.nD Cert.AdaminReferenceIdeal.τ).loc Cert.AdaminReferenceIdeal.main_arg3) = m ((c.tc : Thread Cert.AdaminIdeal.nD Cert.AdaminIdeal.τ).loc Cert.AdaminIdeal.main_arg3)) →
    ∃ (v0 : (c : Dev Cert.AdaminIdeal.nD) → Buf (Elt Ideal) ((c.tc : Thread Cert.AdaminIdeal.nD Cert.AdaminIdeal.τ).loc Cert.AdaminIdeal.main_v0_0)) (v1 : (c : Dev Cert.AdaminIdeal.nD) → Buf (Elt Ideal) ((c.tc : Thread Cert.AdaminIdeal.nD Cert.AdaminIdeal.τ).loc Cert.AdaminIdeal.main_v0_1)) (v2 : (c : Dev Cert.AdaminIdeal.nD) → Buf (Elt Ideal) ((c.tc : Thread Cert.AdaminIdeal.nD Cert.AdaminIdeal.τ).loc Cert.AdaminIdeal.main_v0_2)) (v3 : (c : Dev Cert.AdaminIdeal.nD) → Buf (Elt Ideal) ((c.tc : Thread Cert.AdaminIdeal.nD Cert.AdaminIdeal.τ).loc Cert.AdaminIdeal.main_v0_3)),
      θ_run (Cert.AdaminIdeal.defs (F := Ideal)) (onTc (τ := Cert.AdaminIdeal.τ) (Cert.AdaminIdeal.main (F := Ideal))) ⟨m, fun _ => 0, g⟩ (fun r => ∀ c : Dev Cert.AdaminIdeal.nD,
          r.2.mem ((c.tc : Thread Cert.AdaminIdeal.nD Cert.AdaminIdeal.τ).loc Cert.AdaminIdeal.main_v0_0) = v0 c
          ∧ r.2.mem ((c.tc : Thread Cert.AdaminIdeal.nD Cert.AdaminIdeal.τ).loc Cert.AdaminIdeal.main_v0_1) = v1 c
          ∧ r.2.mem ((c.tc : Thread Cert.AdaminIdeal.nD Cert.AdaminIdeal.τ).loc Cert.AdaminIdeal.main_v0_2) = v2 c
          ∧ r.2.mem ((c.tc : Thread Cert.AdaminIdeal.nD Cert.AdaminIdeal.τ).loc Cert.AdaminIdeal.main_v0_3) = v3 c
          ∧ r.2.mem ((c.tc : Thread Cert.AdaminIdeal.nD Cert.AdaminIdeal.τ).loc Cert.AdaminIdeal.main_arg0) = m ((c.tc : Thread Cert.AdaminIdeal.nD Cert.AdaminIdeal.τ).loc Cert.AdaminIdeal.main_arg0)
          ∧ r.2.mem ((c.tc : Thread Cert.AdaminIdeal.nD Cert.AdaminIdeal.τ).loc Cert.AdaminIdeal.main_arg1) = m ((c.tc : Thread Cert.AdaminIdeal.nD Cert.AdaminIdeal.τ).loc Cert.AdaminIdeal.main_arg1)
          ∧ r.2.mem ((c.tc : Thread Cert.AdaminIdeal.nD Cert.AdaminIdeal.τ).loc Cert.AdaminIdeal.main_arg2) = m ((c.tc : Thread Cert.AdaminIdeal.nD Cert.AdaminIdeal.τ).loc Cert.AdaminIdeal.main_arg2)
          ∧ r.2.mem ((c.tc : Thread Cert.AdaminIdeal.nD Cert.AdaminIdeal.τ).loc Cert.AdaminIdeal.main_arg3) = m ((c.tc : Thread Cert.AdaminIdeal.nD Cert.AdaminIdeal.τ).loc Cert.AdaminIdeal.main_arg3))
      ∧ θ_run (Cert.AdaminReferenceIdeal.defs (F := Ideal)) (onTc (τ := Cert.AdaminReferenceIdeal.τ) (Cert.AdaminReferenceIdeal.main (F := Ideal))) ⟨m', fun _ => 0, g'⟩ (fun r => ∀ c : Dev Cert.AdaminReferenceIdeal.nD,
          r.2.mem ((c.tc : Thread Cert.AdaminReferenceIdeal.nD Cert.AdaminReferenceIdeal.τ).loc Cert.AdaminReferenceIdeal.main_v1) = v0 c
          ∧ r.2.mem ((c.tc : Thread Cert.AdaminReferenceIdeal.nD Cert.AdaminReferenceIdeal.τ).loc Cert.AdaminReferenceIdeal.main_v25) = v1 c
          ∧ r.2.mem ((c.tc : Thread Cert.AdaminReferenceIdeal.nD Cert.AdaminReferenceIdeal.τ).loc Cert.AdaminReferenceIdeal.main_v6) = v2 c
          ∧ r.2.mem ((c.tc : Thread Cert.AdaminReferenceIdeal.nD Cert.AdaminReferenceIdeal.τ).loc Cert.AdaminReferenceIdeal.main_v12) = v3 c
          ∧ r.2.mem ((c.tc : Thread Cert.AdaminReferenceIdeal.nD Cert.AdaminReferenceIdeal.τ).loc Cert.AdaminReferenceIdeal.main_arg0) = m' ((c.tc : Thread Cert.AdaminReferenceIdeal.nD Cert.AdaminReferenceIdeal.τ).loc Cert.AdaminReferenceIdeal.main_arg0)
          ∧ r.2.mem ((c.tc : Thread Cert.AdaminReferenceIdeal.nD Cert.AdaminReferenceIdeal.τ).loc Cert.AdaminReferenceIdeal.main_arg1) = m' ((c.tc : Thread Cert.AdaminReferenceIdeal.nD Cert.AdaminReferenceIdeal.τ).loc Cert.AdaminReferenceIdeal.main_arg1)
          ∧ r.2.mem ((c.tc : Thread Cert.AdaminReferenceIdeal.nD Cert.AdaminReferenceIdeal.τ).loc Cert.AdaminReferenceIdeal.main_arg2) = m' ((c.tc : Thread Cert.AdaminReferenceIdeal.nD Cert.AdaminReferenceIdeal.τ).loc Cert.AdaminReferenceIdeal.main_arg2)
          ∧ r.2.mem ((c.tc : Thread Cert.AdaminReferenceIdeal.nD Cert.AdaminReferenceIdeal.τ).loc Cert.AdaminReferenceIdeal.main_arg3) = m' ((c.tc : Thread Cert.AdaminReferenceIdeal.nD Cert.AdaminReferenceIdeal.τ).loc Cert.AdaminReferenceIdeal.main_arg3))

def preserves_Adamout_AdamoutIdeal : Prop :=
  True

def algebraic_AdamoutIdeal_AdamoutReferenceIdeal [hAdamoutIdeal : Cert.AdamoutIdeal.Facts] [hAdamoutReferenceIdeal : Cert.AdamoutReferenceIdeal.Facts] : Prop :=
  ∀ (m : (ℓ : Loc Cert.AdamoutIdeal.nD Cert.AdamoutIdeal.τ Cert.AdamoutIdeal.sig) → Buf (Elt Ideal) ℓ) (g : Dev Cert.AdamoutIdeal.nD → PrngReg)
    (m' : (ℓ : Loc Cert.AdamoutReferenceIdeal.nD Cert.AdamoutReferenceIdeal.τ Cert.AdamoutReferenceIdeal.sig) → Buf (Elt Ideal) ℓ) (g' : Dev Cert.AdamoutReferenceIdeal.nD → PrngReg), Pre_AdamoutIdeal m →
    (∀ c : Dev Cert.AdamoutIdeal.nD,
      m' ((c.tc : Thread Cert.AdamoutReferenceIdeal.nD Cert.AdamoutReferenceIdeal.τ).loc Cert.AdamoutReferenceIdeal.main_arg0) = m ((c.tc : Thread Cert.AdamoutIdeal.nD Cert.AdamoutIdeal.τ).loc Cert.AdamoutIdeal.main_arg0)
      ∧ m' ((c.tc : Thread Cert.AdamoutReferenceIdeal.nD Cert.AdamoutReferenceIdeal.τ).loc Cert.AdamoutReferenceIdeal.main_arg1) = m ((c.tc : Thread Cert.AdamoutIdeal.nD Cert.AdamoutIdeal.τ).loc Cert.AdamoutIdeal.main_arg1)
      ∧ m' ((c.tc : Thread Cert.AdamoutReferenceIdeal.nD Cert.AdamoutReferenceIdeal.τ).loc Cert.AdamoutReferenceIdeal.main_arg2) = m ((c.tc : Thread Cert.AdamoutIdeal.nD Cert.AdamoutIdeal.τ).loc Cert.AdamoutIdeal.main_arg2)
      ∧ m' ((c.tc : Thread Cert.AdamoutReferenceIdeal.nD Cert.AdamoutReferenceIdeal.τ).loc Cert.AdamoutReferenceIdeal.main_arg3) = m ((c.tc : Thread Cert.AdamoutIdeal.nD Cert.AdamoutIdeal.τ).loc Cert.AdamoutIdeal.main_arg3)) →
    ∃ (v0 : (c : Dev Cert.AdamoutIdeal.nD) → Buf (Elt Ideal) ((c.tc : Thread Cert.AdamoutIdeal.nD Cert.AdamoutIdeal.τ).loc Cert.AdamoutIdeal.main_v0_0)) (v1 : (c : Dev Cert.AdamoutIdeal.nD) → Buf (Elt Ideal) ((c.tc : Thread Cert.AdamoutIdeal.nD Cert.AdamoutIdeal.τ).loc Cert.AdamoutIdeal.main_v0_1)) (v2 : (c : Dev Cert.AdamoutIdeal.nD) → Buf (Elt Ideal) ((c.tc : Thread Cert.AdamoutIdeal.nD Cert.AdamoutIdeal.τ).loc Cert.AdamoutIdeal.main_v0_2)) (v3 : (c : Dev Cert.AdamoutIdeal.nD) → Buf (Elt Ideal) ((c.tc : Thread Cert.AdamoutIdeal.nD Cert.AdamoutIdeal.τ).loc Cert.AdamoutIdeal.main_v0_3)),
      θ_run (Cert.AdamoutIdeal.defs (F := Ideal)) (onTc (τ := Cert.AdamoutIdeal.τ) (Cert.AdamoutIdeal.main (F := Ideal))) ⟨m, fun _ => 0, g⟩ (fun r => ∀ c : Dev Cert.AdamoutIdeal.nD,
          r.2.mem ((c.tc : Thread Cert.AdamoutIdeal.nD Cert.AdamoutIdeal.τ).loc Cert.AdamoutIdeal.main_v0_0) = v0 c
          ∧ r.2.mem ((c.tc : Thread Cert.AdamoutIdeal.nD Cert.AdamoutIdeal.τ).loc Cert.AdamoutIdeal.main_v0_1) = v1 c
          ∧ r.2.mem ((c.tc : Thread Cert.AdamoutIdeal.nD Cert.AdamoutIdeal.τ).loc Cert.AdamoutIdeal.main_v0_2) = v2 c
          ∧ r.2.mem ((c.tc : Thread Cert.AdamoutIdeal.nD Cert.AdamoutIdeal.τ).loc Cert.AdamoutIdeal.main_v0_3) = v3 c
          ∧ r.2.mem ((c.tc : Thread Cert.AdamoutIdeal.nD Cert.AdamoutIdeal.τ).loc Cert.AdamoutIdeal.main_arg0) = m ((c.tc : Thread Cert.AdamoutIdeal.nD Cert.AdamoutIdeal.τ).loc Cert.AdamoutIdeal.main_arg0)
          ∧ r.2.mem ((c.tc : Thread Cert.AdamoutIdeal.nD Cert.AdamoutIdeal.τ).loc Cert.AdamoutIdeal.main_arg1) = m ((c.tc : Thread Cert.AdamoutIdeal.nD Cert.AdamoutIdeal.τ).loc Cert.AdamoutIdeal.main_arg1)
          ∧ r.2.mem ((c.tc : Thread Cert.AdamoutIdeal.nD Cert.AdamoutIdeal.τ).loc Cert.AdamoutIdeal.main_arg2) = m ((c.tc : Thread Cert.AdamoutIdeal.nD Cert.AdamoutIdeal.τ).loc Cert.AdamoutIdeal.main_arg2)
          ∧ r.2.mem ((c.tc : Thread Cert.AdamoutIdeal.nD Cert.AdamoutIdeal.τ).loc Cert.AdamoutIdeal.main_arg3) = m ((c.tc : Thread Cert.AdamoutIdeal.nD Cert.AdamoutIdeal.τ).loc Cert.AdamoutIdeal.main_arg3))
      ∧ θ_run (Cert.AdamoutReferenceIdeal.defs (F := Ideal)) (onTc (τ := Cert.AdamoutReferenceIdeal.τ) (Cert.AdamoutReferenceIdeal.main (F := Ideal))) ⟨m', fun _ => 0, g'⟩ (fun r => ∀ c : Dev Cert.AdamoutReferenceIdeal.nD,
          r.2.mem ((c.tc : Thread Cert.AdamoutReferenceIdeal.nD Cert.AdamoutReferenceIdeal.τ).loc Cert.AdamoutReferenceIdeal.main_v1) = v0 c
          ∧ r.2.mem ((c.tc : Thread Cert.AdamoutReferenceIdeal.nD Cert.AdamoutReferenceIdeal.τ).loc Cert.AdamoutReferenceIdeal.main_v25) = v1 c
          ∧ r.2.mem ((c.tc : Thread Cert.AdamoutReferenceIdeal.nD Cert.AdamoutReferenceIdeal.τ).loc Cert.AdamoutReferenceIdeal.main_v6) = v2 c
          ∧ r.2.mem ((c.tc : Thread Cert.AdamoutReferenceIdeal.nD Cert.AdamoutReferenceIdeal.τ).loc Cert.AdamoutReferenceIdeal.main_v12) = v3 c
          ∧ r.2.mem ((c.tc : Thread Cert.AdamoutReferenceIdeal.nD Cert.AdamoutReferenceIdeal.τ).loc Cert.AdamoutReferenceIdeal.main_arg0) = m' ((c.tc : Thread Cert.AdamoutReferenceIdeal.nD Cert.AdamoutReferenceIdeal.τ).loc Cert.AdamoutReferenceIdeal.main_arg0)
          ∧ r.2.mem ((c.tc : Thread Cert.AdamoutReferenceIdeal.nD Cert.AdamoutReferenceIdeal.τ).loc Cert.AdamoutReferenceIdeal.main_arg1) = m' ((c.tc : Thread Cert.AdamoutReferenceIdeal.nD Cert.AdamoutReferenceIdeal.τ).loc Cert.AdamoutReferenceIdeal.main_arg1)
          ∧ r.2.mem ((c.tc : Thread Cert.AdamoutReferenceIdeal.nD Cert.AdamoutReferenceIdeal.τ).loc Cert.AdamoutReferenceIdeal.main_arg2) = m' ((c.tc : Thread Cert.AdamoutReferenceIdeal.nD Cert.AdamoutReferenceIdeal.τ).loc Cert.AdamoutReferenceIdeal.main_arg2)
          ∧ r.2.mem ((c.tc : Thread Cert.AdamoutReferenceIdeal.nD Cert.AdamoutReferenceIdeal.τ).loc Cert.AdamoutReferenceIdeal.main_arg3) = m' ((c.tc : Thread Cert.AdamoutReferenceIdeal.nD Cert.AdamoutReferenceIdeal.τ).loc Cert.AdamoutReferenceIdeal.main_arg3))

def preserves_First_FirstIdeal : Prop :=
  True

def algebraic_FirstIdeal_FirstReferenceIdeal_pre_first_finite [hFirstIdeal : Cert.FirstIdeal.Facts] [hFirstReferenceIdeal : Cert.FirstReferenceIdeal.Facts] [hPre_first_finite : Cert.Pre_first_finite.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal_first_finite m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v1_0)) (v1 : (c : Dev Cert.FirstIdeal.nD) → Buf (Elt Ideal) ((c.tc : Thread Cert.FirstIdeal.nD Cert.FirstIdeal.τ).loc Cert.FirstIdeal.main_v1_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1_0) = v0 c
          ∧ r.2.mem ((c.tc : Thread Cert.FirstIdeal.nD Cert.FirstIdeal.τ).loc Cert.FirstIdeal.main_v1_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v46) = v0 c
          ∧ r.2.mem ((c.tc : Thread Cert.FirstReferenceIdeal.nD Cert.FirstReferenceIdeal.τ).loc Cert.FirstReferenceIdeal.main_v29) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5))

def preserves_Firstact_FirstactIdeal : Prop :=
  True

def algebraic_FirstactIdeal_FirstactReferenceIdeal_pre_firstact_finite [hFirstactIdeal : Cert.FirstactIdeal.Facts] [hFirstactReferenceIdeal : Cert.FirstactReferenceIdeal.Facts] [hPre_firstact_finite : Cert.Pre_firstact_finite.Facts] : Prop :=
  ∀ (m : (ℓ : Loc Cert.FirstactIdeal.nD Cert.FirstactIdeal.τ Cert.FirstactIdeal.sig) → Buf (Elt Ideal) ℓ) (g : Dev Cert.FirstactIdeal.nD → PrngReg)
    (m' : (ℓ : Loc Cert.FirstactReferenceIdeal.nD Cert.FirstactReferenceIdeal.τ Cert.FirstactReferenceIdeal.sig) → Buf (Elt Ideal) ℓ) (g' : Dev Cert.FirstactReferenceIdeal.nD → PrngReg), Pre_FirstactIdeal_firstact_finite m →
    (∀ c : Dev Cert.FirstactIdeal.nD,
      m' ((c.tc : Thread Cert.FirstactReferenceIdeal.nD Cert.FirstactReferenceIdeal.τ).loc Cert.FirstactReferenceIdeal.main_arg0) = m ((c.tc : Thread Cert.FirstactIdeal.nD Cert.FirstactIdeal.τ).loc Cert.FirstactIdeal.main_arg0)
      ∧ m' ((c.tc : Thread Cert.FirstactReferenceIdeal.nD Cert.FirstactReferenceIdeal.τ).loc Cert.FirstactReferenceIdeal.main_arg1) = m ((c.tc : Thread Cert.FirstactIdeal.nD Cert.FirstactIdeal.τ).loc Cert.FirstactIdeal.main_arg1)
      ∧ m' ((c.tc : Thread Cert.FirstactReferenceIdeal.nD Cert.FirstactReferenceIdeal.τ).loc Cert.FirstactReferenceIdeal.main_arg2) = m ((c.tc : Thread Cert.FirstactIdeal.nD Cert.FirstactIdeal.τ).loc Cert.FirstactIdeal.main_arg2)
      ∧ m' ((c.tc : Thread Cert.FirstactReferenceIdeal.nD Cert.FirstactReferenceIdeal.τ).loc Cert.FirstactReferenceIdeal.main_arg3) = m ((c.tc : Thread Cert.FirstactIdeal.nD Cert.FirstactIdeal.τ).loc Cert.FirstactIdeal.main_arg3)) →
    ∃ (v0 : (c : Dev Cert.FirstactIdeal.nD) → Buf (Elt Ideal) ((c.tc : Thread Cert.FirstactIdeal.nD Cert.FirstactIdeal.τ).loc Cert.FirstactIdeal.main_v0_0)) (v1 : (c : Dev Cert.FirstactIdeal.nD) → Buf (Elt Ideal) ((c.tc : Thread Cert.FirstactIdeal.nD Cert.FirstactIdeal.τ).loc Cert.FirstactIdeal.main_v0_1)),
      θ_run (Cert.FirstactIdeal.defs (F := Ideal)) (onTc (τ := Cert.FirstactIdeal.τ) (Cert.FirstactIdeal.main (F := Ideal))) ⟨m, fun _ => 0, g⟩ (fun r => ∀ c : Dev Cert.FirstactIdeal.nD,
          r.2.mem ((c.tc : Thread Cert.FirstactIdeal.nD Cert.FirstactIdeal.τ).loc Cert.FirstactIdeal.main_v0_0) = v0 c
          ∧ r.2.mem ((c.tc : Thread Cert.FirstactIdeal.nD Cert.FirstactIdeal.τ).loc Cert.FirstactIdeal.main_v0_1) = v1 c
          ∧ r.2.mem ((c.tc : Thread Cert.FirstactIdeal.nD Cert.FirstactIdeal.τ).loc Cert.FirstactIdeal.main_arg0) = m ((c.tc : Thread Cert.FirstactIdeal.nD Cert.FirstactIdeal.τ).loc Cert.FirstactIdeal.main_arg0)
          ∧ r.2.mem ((c.tc : Thread Cert.FirstactIdeal.nD Cert.FirstactIdeal.τ).loc Cert.FirstactIdeal.main_arg1) = m ((c.tc : Thread Cert.FirstactIdeal.nD Cert.FirstactIdeal.τ).loc Cert.FirstactIdeal.main_arg1)
          ∧ r.2.mem ((c.tc : Thread Cert.FirstactIdeal.nD Cert.FirstactIdeal.τ).loc Cert.FirstactIdeal.main_arg2) = m ((c.tc : Thread Cert.FirstactIdeal.nD Cert.FirstactIdeal.τ).loc Cert.FirstactIdeal.main_arg2)
          ∧ r.2.mem ((c.tc : Thread Cert.FirstactIdeal.nD Cert.FirstactIdeal.τ).loc Cert.FirstactIdeal.main_arg3) = m ((c.tc : Thread Cert.FirstactIdeal.nD Cert.FirstactIdeal.τ).loc Cert.FirstactIdeal.main_arg3))
      ∧ θ_run (Cert.FirstactReferenceIdeal.defs (F := Ideal)) (onTc (τ := Cert.FirstactReferenceIdeal.τ) (Cert.FirstactReferenceIdeal.main (F := Ideal))) ⟨m', fun _ => 0, g'⟩ (fun r => ∀ c : Dev Cert.FirstactReferenceIdeal.nD,
          r.2.mem ((c.tc : Thread Cert.FirstactReferenceIdeal.nD Cert.FirstactReferenceIdeal.τ).loc Cert.FirstactReferenceIdeal.main_v17) = v0 c
          ∧ r.2.mem ((c.tc : Thread Cert.FirstactReferenceIdeal.nD Cert.FirstactReferenceIdeal.τ).loc Cert.FirstactReferenceIdeal.main_v18) = v1 c
          ∧ r.2.mem ((c.tc : Thread Cert.FirstactReferenceIdeal.nD Cert.FirstactReferenceIdeal.τ).loc Cert.FirstactReferenceIdeal.main_arg0) = m' ((c.tc : Thread Cert.FirstactReferenceIdeal.nD Cert.FirstactReferenceIdeal.τ).loc Cert.FirstactReferenceIdeal.main_arg0)
          ∧ r.2.mem ((c.tc : Thread Cert.FirstactReferenceIdeal.nD Cert.FirstactReferenceIdeal.τ).loc Cert.FirstactReferenceIdeal.main_arg1) = m' ((c.tc : Thread Cert.FirstactReferenceIdeal.nD Cert.FirstactReferenceIdeal.τ).loc Cert.FirstactReferenceIdeal.main_arg1)
          ∧ r.2.mem ((c.tc : Thread Cert.FirstactReferenceIdeal.nD Cert.FirstactReferenceIdeal.τ).loc Cert.FirstactReferenceIdeal.main_arg2) = m' ((c.tc : Thread Cert.FirstactReferenceIdeal.nD Cert.FirstactReferenceIdeal.τ).loc Cert.FirstactReferenceIdeal.main_arg2)
          ∧ r.2.mem ((c.tc : Thread Cert.FirstactReferenceIdeal.nD Cert.FirstactReferenceIdeal.τ).loc Cert.FirstactReferenceIdeal.main_arg3) = m' ((c.tc : Thread Cert.FirstactReferenceIdeal.nD Cert.FirstactReferenceIdeal.τ).loc Cert.FirstactReferenceIdeal.main_arg3))

def preserves_Firstwgu_FirstwguIdeal : Prop :=
  True

def algebraic_FirstwguIdeal_FirstwguReferenceIdeal [hFirstwguIdeal : Cert.FirstwguIdeal.Facts] [hFirstwguReferenceIdeal : Cert.FirstwguReferenceIdeal.Facts] : Prop :=
  ∀ (m : (ℓ : Loc Cert.FirstwguIdeal.nD Cert.FirstwguIdeal.τ Cert.FirstwguIdeal.sig) → Buf (Elt Ideal) ℓ) (g : Dev Cert.FirstwguIdeal.nD → PrngReg)
    (m' : (ℓ : Loc Cert.FirstwguReferenceIdeal.nD Cert.FirstwguReferenceIdeal.τ Cert.FirstwguReferenceIdeal.sig) → Buf (Elt Ideal) ℓ) (g' : Dev Cert.FirstwguReferenceIdeal.nD → PrngReg), Pre_FirstwguIdeal m →
    (∀ c : Dev Cert.FirstwguIdeal.nD,
      m' ((c.tc : Thread Cert.FirstwguReferenceIdeal.nD Cert.FirstwguReferenceIdeal.τ).loc Cert.FirstwguReferenceIdeal.main_arg0) = m ((c.tc : Thread Cert.FirstwguIdeal.nD Cert.FirstwguIdeal.τ).loc Cert.FirstwguIdeal.main_arg0)
      ∧ m' ((c.tc : Thread Cert.FirstwguReferenceIdeal.nD Cert.FirstwguReferenceIdeal.τ).loc Cert.FirstwguReferenceIdeal.main_arg1) = m ((c.tc : Thread Cert.FirstwguIdeal.nD Cert.FirstwguIdeal.τ).loc Cert.FirstwguIdeal.main_arg1)) →
    ∃ (v0 : (c : Dev Cert.FirstwguIdeal.nD) → Buf (Elt Ideal) ((c.tc : Thread Cert.FirstwguIdeal.nD Cert.FirstwguIdeal.τ).loc Cert.FirstwguIdeal.main_v0)),
      θ_run (Cert.FirstwguIdeal.defs (F := Ideal)) (onTc (τ := Cert.FirstwguIdeal.τ) (Cert.FirstwguIdeal.main (F := Ideal))) ⟨m, fun _ => 0, g⟩ (fun r => ∀ c : Dev Cert.FirstwguIdeal.nD,
          r.2.mem ((c.tc : Thread Cert.FirstwguIdeal.nD Cert.FirstwguIdeal.τ).loc Cert.FirstwguIdeal.main_v0) = v0 c
          ∧ r.2.mem ((c.tc : Thread Cert.FirstwguIdeal.nD Cert.FirstwguIdeal.τ).loc Cert.FirstwguIdeal.main_arg0) = m ((c.tc : Thread Cert.FirstwguIdeal.nD Cert.FirstwguIdeal.τ).loc Cert.FirstwguIdeal.main_arg0)
          ∧ r.2.mem ((c.tc : Thread Cert.FirstwguIdeal.nD Cert.FirstwguIdeal.τ).loc Cert.FirstwguIdeal.main_arg1) = m ((c.tc : Thread Cert.FirstwguIdeal.nD Cert.FirstwguIdeal.τ).loc Cert.FirstwguIdeal.main_arg1))
      ∧ θ_run (Cert.FirstwguReferenceIdeal.defs (F := Ideal)) (onTc (τ := Cert.FirstwguReferenceIdeal.τ) (Cert.FirstwguReferenceIdeal.main (F := Ideal))) ⟨m', fun _ => 0, g'⟩ (fun r => ∀ c : Dev Cert.FirstwguReferenceIdeal.nD,
          r.2.mem ((c.tc : Thread Cert.FirstwguReferenceIdeal.nD Cert.FirstwguReferenceIdeal.τ).loc Cert.FirstwguReferenceIdeal.main_v7) = v0 c
          ∧ r.2.mem ((c.tc : Thread Cert.FirstwguReferenceIdeal.nD Cert.FirstwguReferenceIdeal.τ).loc Cert.FirstwguReferenceIdeal.main_arg0) = m' ((c.tc : Thread Cert.FirstwguReferenceIdeal.nD Cert.FirstwguReferenceIdeal.τ).loc Cert.FirstwguReferenceIdeal.main_arg0)
          ∧ r.2.mem ((c.tc : Thread Cert.FirstwguReferenceIdeal.nD Cert.FirstwguReferenceIdeal.τ).loc Cert.FirstwguReferenceIdeal.main_arg1) = m' ((c.tc : Thread Cert.FirstwguReferenceIdeal.nD Cert.FirstwguReferenceIdeal.τ).loc Cert.FirstwguReferenceIdeal.main_arg1))

def preserves_Firstffn_FirstffnIdeal : Prop :=
  True

def algebraic_FirstffnIdeal_FirstffnReferenceIdeal [hFirstffnIdeal : Cert.FirstffnIdeal.Facts] [hFirstffnReferenceIdeal : Cert.FirstffnReferenceIdeal.Facts] : Prop :=
  ∀ (m : (ℓ : Loc Cert.FirstffnIdeal.nD Cert.FirstffnIdeal.τ Cert.FirstffnIdeal.sig) → Buf (Elt Ideal) ℓ) (g : Dev Cert.FirstffnIdeal.nD → PrngReg)
    (m' : (ℓ : Loc Cert.FirstffnReferenceIdeal.nD Cert.FirstffnReferenceIdeal.τ Cert.FirstffnReferenceIdeal.sig) → Buf (Elt Ideal) ℓ) (g' : Dev Cert.FirstffnReferenceIdeal.nD → PrngReg), Pre_FirstffnIdeal m →
    (∀ c : Dev Cert.FirstffnIdeal.nD,
      m' ((c.tc : Thread Cert.FirstffnReferenceIdeal.nD Cert.FirstffnReferenceIdeal.τ).loc Cert.FirstffnReferenceIdeal.main_arg0) = m ((c.tc : Thread Cert.FirstffnIdeal.nD Cert.FirstffnIdeal.τ).loc Cert.FirstffnIdeal.main_arg0)
      ∧ m' ((c.tc : Thread Cert.FirstffnReferenceIdeal.nD Cert.FirstffnReferenceIdeal.τ).loc Cert.FirstffnReferenceIdeal.main_arg1) = m ((c.tc : Thread Cert.FirstffnIdeal.nD Cert.FirstffnIdeal.τ).loc Cert.FirstffnIdeal.main_arg1)
      ∧ m' ((c.tc : Thread Cert.FirstffnReferenceIdeal.nD Cert.FirstffnReferenceIdeal.τ).loc Cert.FirstffnReferenceIdeal.main_arg2) = m ((c.tc : Thread Cert.FirstffnIdeal.nD Cert.FirstffnIdeal.τ).loc Cert.FirstffnIdeal.main_arg2)
      ∧ m' ((c.tc : Thread Cert.FirstffnReferenceIdeal.nD Cert.FirstffnReferenceIdeal.τ).loc Cert.FirstffnReferenceIdeal.main_arg3) = m ((c.tc : Thread Cert.FirstffnIdeal.nD Cert.FirstffnIdeal.τ).loc Cert.FirstffnIdeal.main_arg3)
      ∧ m' ((c.tc : Thread Cert.FirstffnReferenceIdeal.nD Cert.FirstffnReferenceIdeal.τ).loc Cert.FirstffnReferenceIdeal.main_arg4) = m ((c.tc : Thread Cert.FirstffnIdeal.nD Cert.FirstffnIdeal.τ).loc Cert.FirstffnIdeal.main_arg4)) →
    ∃ (v0 : (c : Dev Cert.FirstffnIdeal.nD) → Buf (Elt Ideal) ((c.tc : Thread Cert.FirstffnIdeal.nD Cert.FirstffnIdeal.τ).loc Cert.FirstffnIdeal.main_v0_0)) (v1 : (c : Dev Cert.FirstffnIdeal.nD) → Buf (Elt Ideal) ((c.tc : Thread Cert.FirstffnIdeal.nD Cert.FirstffnIdeal.τ).loc Cert.FirstffnIdeal.main_v0_1)) (v2 : (c : Dev Cert.FirstffnIdeal.nD) → Buf (Elt Ideal) ((c.tc : Thread Cert.FirstffnIdeal.nD Cert.FirstffnIdeal.τ).loc Cert.FirstffnIdeal.main_v0_2)) (v3 : (c : Dev Cert.FirstffnIdeal.nD) → Buf (Elt Ideal) ((c.tc : Thread Cert.FirstffnIdeal.nD Cert.FirstffnIdeal.τ).loc Cert.FirstffnIdeal.main_v0_3)),
      θ_run (Cert.FirstffnIdeal.defs (F := Ideal)) (onTc (τ := Cert.FirstffnIdeal.τ) (Cert.FirstffnIdeal.main (F := Ideal))) ⟨m, fun _ => 0, g⟩ (fun r => ∀ c : Dev Cert.FirstffnIdeal.nD,
          r.2.mem ((c.tc : Thread Cert.FirstffnIdeal.nD Cert.FirstffnIdeal.τ).loc Cert.FirstffnIdeal.main_v0_0) = v0 c
          ∧ r.2.mem ((c.tc : Thread Cert.FirstffnIdeal.nD Cert.FirstffnIdeal.τ).loc Cert.FirstffnIdeal.main_v0_1) = v1 c
          ∧ r.2.mem ((c.tc : Thread Cert.FirstffnIdeal.nD Cert.FirstffnIdeal.τ).loc Cert.FirstffnIdeal.main_v0_2) = v2 c
          ∧ r.2.mem ((c.tc : Thread Cert.FirstffnIdeal.nD Cert.FirstffnIdeal.τ).loc Cert.FirstffnIdeal.main_v0_3) = v3 c
          ∧ r.2.mem ((c.tc : Thread Cert.FirstffnIdeal.nD Cert.FirstffnIdeal.τ).loc Cert.FirstffnIdeal.main_arg0) = m ((c.tc : Thread Cert.FirstffnIdeal.nD Cert.FirstffnIdeal.τ).loc Cert.FirstffnIdeal.main_arg0)
          ∧ r.2.mem ((c.tc : Thread Cert.FirstffnIdeal.nD Cert.FirstffnIdeal.τ).loc Cert.FirstffnIdeal.main_arg1) = m ((c.tc : Thread Cert.FirstffnIdeal.nD Cert.FirstffnIdeal.τ).loc Cert.FirstffnIdeal.main_arg1)
          ∧ r.2.mem ((c.tc : Thread Cert.FirstffnIdeal.nD Cert.FirstffnIdeal.τ).loc Cert.FirstffnIdeal.main_arg2) = m ((c.tc : Thread Cert.FirstffnIdeal.nD Cert.FirstffnIdeal.τ).loc Cert.FirstffnIdeal.main_arg2)
          ∧ r.2.mem ((c.tc : Thread Cert.FirstffnIdeal.nD Cert.FirstffnIdeal.τ).loc Cert.FirstffnIdeal.main_arg3) = m ((c.tc : Thread Cert.FirstffnIdeal.nD Cert.FirstffnIdeal.τ).loc Cert.FirstffnIdeal.main_arg3)
          ∧ r.2.mem ((c.tc : Thread Cert.FirstffnIdeal.nD Cert.FirstffnIdeal.τ).loc Cert.FirstffnIdeal.main_arg4) = m ((c.tc : Thread Cert.FirstffnIdeal.nD Cert.FirstffnIdeal.τ).loc Cert.FirstffnIdeal.main_arg4))
      ∧ θ_run (Cert.FirstffnReferenceIdeal.defs (F := Ideal)) (onTc (τ := Cert.FirstffnReferenceIdeal.τ) (Cert.FirstffnReferenceIdeal.main (F := Ideal))) ⟨m', fun _ => 0, g'⟩ (fun r => ∀ c : Dev Cert.FirstffnReferenceIdeal.nD,
          r.2.mem ((c.tc : Thread Cert.FirstffnReferenceIdeal.nD Cert.FirstffnReferenceIdeal.τ).loc Cert.FirstffnReferenceIdeal.main_v30) = v0 c
          ∧ r.2.mem ((c.tc : Thread Cert.FirstffnReferenceIdeal.nD Cert.FirstffnReferenceIdeal.τ).loc Cert.FirstffnReferenceIdeal.main_v31) = v1 c
          ∧ r.2.mem ((c.tc : Thread Cert.FirstffnReferenceIdeal.nD Cert.FirstffnReferenceIdeal.τ).loc Cert.FirstffnReferenceIdeal.main_v32) = v2 c
          ∧ r.2.mem ((c.tc : Thread Cert.FirstffnReferenceIdeal.nD Cert.FirstffnReferenceIdeal.τ).loc Cert.FirstffnReferenceIdeal.main_v33) = v3 c
          ∧ r.2.mem ((c.tc : Thread Cert.FirstffnReferenceIdeal.nD Cert.FirstffnReferenceIdeal.τ).loc Cert.FirstffnReferenceIdeal.main_arg0) = m' ((c.tc : Thread Cert.FirstffnReferenceIdeal.nD Cert.FirstffnReferenceIdeal.τ).loc Cert.FirstffnReferenceIdeal.main_arg0)
          ∧ r.2.mem ((c.tc : Thread Cert.FirstffnReferenceIdeal.nD Cert.FirstffnReferenceIdeal.τ).loc Cert.FirstffnReferenceIdeal.main_arg1) = m' ((c.tc : Thread Cert.FirstffnReferenceIdeal.nD Cert.FirstffnReferenceIdeal.τ).loc Cert.FirstffnReferenceIdeal.main_arg1)
          ∧ r.2.mem ((c.tc : Thread Cert.FirstffnReferenceIdeal.nD Cert.FirstffnReferenceIdeal.τ).loc Cert.FirstffnReferenceIdeal.main_arg2) = m' ((c.tc : Thread Cert.FirstffnReferenceIdeal.nD Cert.FirstffnReferenceIdeal.τ).loc Cert.FirstffnReferenceIdeal.main_arg2)
          ∧ r.2.mem ((c.tc : Thread Cert.FirstffnReferenceIdeal.nD Cert.FirstffnReferenceIdeal.τ).loc Cert.FirstffnReferenceIdeal.main_arg3) = m' ((c.tc : Thread Cert.FirstffnReferenceIdeal.nD Cert.FirstffnReferenceIdeal.τ).loc Cert.FirstffnReferenceIdeal.main_arg3)
          ∧ r.2.mem ((c.tc : Thread Cert.FirstffnReferenceIdeal.nD Cert.FirstffnReferenceIdeal.τ).loc Cert.FirstffnReferenceIdeal.main_arg4) = m' ((c.tc : Thread Cert.FirstffnReferenceIdeal.nD Cert.FirstffnReferenceIdeal.τ).loc Cert.FirstffnReferenceIdeal.main_arg4))

def Claim : Prop :=
  ∃ (hKernel : Cert.Kernel.Facts) (hKernelIdeal : Cert.KernelIdeal.Facts) (hReferenceIdeal : Cert.ReferenceIdeal.Facts) (hFgate : Cert.Fgate.Facts) (hFgateIdeal : Cert.FgateIdeal.Facts) (hFgateReferenceIdeal : Cert.FgateReferenceIdeal.Facts) (hAct : Cert.Act.Facts) (hActIdeal : Cert.ActIdeal.Facts) (hActReferenceIdeal : Cert.ActReferenceIdeal.Facts) (hNorm : Cert.Norm.Facts) (hNormIdeal : Cert.NormIdeal.Facts) (hNormReferenceIdeal : Cert.NormReferenceIdeal.Facts) (hWgu : Cert.Wgu.Facts) (hWguIdeal : Cert.WguIdeal.Facts) (hWguReferenceIdeal : Cert.WguReferenceIdeal.Facts) (hOutproj : Cert.Outproj.Facts) (hOutprojIdeal : Cert.OutprojIdeal.Facts) (hOutprojReferenceIdeal : Cert.OutprojReferenceIdeal.Facts) (hInproj : Cert.Inproj.Facts) (hInprojIdeal : Cert.InprojIdeal.Facts) (hInprojReferenceIdeal : Cert.InprojReferenceIdeal.Facts) (hFfn : Cert.Ffn.Facts) (hFfnIdeal : Cert.FfnIdeal.Facts) (hFfnReferenceIdeal : Cert.FfnReferenceIdeal.Facts) (hInfwd : Cert.Infwd.Facts) (hInfwdIdeal : Cert.InfwdIdeal.Facts) (hInfwdReferenceIdeal : Cert.InfwdReferenceIdeal.Facts) (hConvfwd : Cert.Convfwd.Facts) (hConvfwdIdeal : Cert.ConvfwdIdeal.Facts) (hConvfwdReferenceIdeal : Cert.ConvfwdReferenceIdeal.Facts) (hAdamgu : Cert.Adamgu.Facts) (hAdamguIdeal : Cert.AdamguIdeal.Facts) (hAdamguReferenceIdeal : Cert.AdamguReferenceIdeal.Facts) (hAdamdown : Cert.Adamdown.Facts) (hAdamdownIdeal : Cert.AdamdownIdeal.Facts) (hAdamdownReferenceIdeal : Cert.AdamdownReferenceIdeal.Facts) (hAdamin : Cert.Adamin.Facts) (hAdaminIdeal : Cert.AdaminIdeal.Facts) (hAdaminReferenceIdeal : Cert.AdaminReferenceIdeal.Facts) (hAdamout : Cert.Adamout.Facts) (hAdamoutIdeal : Cert.AdamoutIdeal.Facts) (hAdamoutReferenceIdeal : Cert.AdamoutReferenceIdeal.Facts) (hFirst : Cert.First.Facts) (hFirstIdeal : Cert.FirstIdeal.Facts) (hFirstReferenceIdeal : Cert.FirstReferenceIdeal.Facts) (hFirstact : Cert.Firstact.Facts) (hFirstactIdeal : Cert.FirstactIdeal.Facts) (hFirstactReferenceIdeal : Cert.FirstactReferenceIdeal.Facts) (hFirstwgu : Cert.Firstwgu.Facts) (hFirstwguIdeal : Cert.FirstwguIdeal.Facts) (hFirstwguReferenceIdeal : Cert.FirstwguReferenceIdeal.Facts) (hFirstffn : Cert.Firstffn.Facts) (hFirstffnIdeal : Cert.FirstffnIdeal.Facts) (hFirstffnReferenceIdeal : Cert.FirstffnReferenceIdeal.Facts) (hPre_conv_finite : Cert.Pre_conv_finite.Facts) (hPre_act_finite : Cert.Pre_act_finite.Facts) (hPre_norm_finite : Cert.Pre_norm_finite.Facts) (hPre_inproj_finite : Cert.Pre_inproj_finite.Facts) (hPre_ffn2_finite : Cert.Pre_ffn2_finite.Facts) (hPre_convfwd_finite : Cert.Pre_convfwd_finite.Facts) (hPre_first_finite : Cert.Pre_first_finite.Facts) (hPre_firstact_finite : Cert.Pre_firstact_finite.Facts),
    quiescent_Kernel (hKernel := hKernel)
    ∧ quiescent_KernelIdeal (hKernelIdeal := hKernelIdeal)
    ∧ quiescent_KernelIdeal_pre_conv_finite (hKernelIdeal := hKernelIdeal) (hPre_conv_finite := hPre_conv_finite)
    ∧ quiescent_ReferenceIdeal (hReferenceIdeal := hReferenceIdeal)
    ∧ quiescent_ReferenceIdeal_pre_conv_finite (hReferenceIdeal := hReferenceIdeal) (hPre_conv_finite := hPre_conv_finite)
    ∧ quiescent_Fgate (hFgate := hFgate)
    ∧ quiescent_FgateIdeal (hFgateIdeal := hFgateIdeal)
    ∧ quiescent_FgateReferenceIdeal (hFgateReferenceIdeal := hFgateReferenceIdeal)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActReferenceIdeal (hActReferenceIdeal := hActReferenceIdeal)
    ∧ quiescent_ActReferenceIdeal_pre_act_finite (hActReferenceIdeal := hActReferenceIdeal) (hPre_act_finite := hPre_act_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_Wgu (hWgu := hWgu)
    ∧ quiescent_WguIdeal (hWguIdeal := hWguIdeal)
    ∧ quiescent_WguReferenceIdeal (hWguReferenceIdeal := hWguReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojReferenceIdeal (hInprojReferenceIdeal := hInprojReferenceIdeal)
    ∧ quiescent_InprojReferenceIdeal_pre_inproj_finite (hInprojReferenceIdeal := hInprojReferenceIdeal) (hPre_inproj_finite := hPre_inproj_finite)
    ∧ quiescent_Ffn (hFfn := hFfn)
    ∧ quiescent_FfnIdeal (hFfnIdeal := hFfnIdeal)
    ∧ quiescent_FfnIdeal_pre_ffn2_finite (hFfnIdeal := hFfnIdeal) (hPre_ffn2_finite := hPre_ffn2_finite)
    ∧ quiescent_FfnReferenceIdeal (hFfnReferenceIdeal := hFfnReferenceIdeal)
    ∧ quiescent_FfnReferenceIdeal_pre_ffn2_finite (hFfnReferenceIdeal := hFfnReferenceIdeal) (hPre_ffn2_finite := hPre_ffn2_finite)
    ∧ quiescent_Infwd (hInfwd := hInfwd)
    ∧ quiescent_InfwdIdeal (hInfwdIdeal := hInfwdIdeal)
    ∧ quiescent_InfwdReferenceIdeal (hInfwdReferenceIdeal := hInfwdReferenceIdeal)
    ∧ quiescent_Convfwd (hConvfwd := hConvfwd)
    ∧ quiescent_ConvfwdIdeal (hConvfwdIdeal := hConvfwdIdeal)
    ∧ quiescent_ConvfwdIdeal_pre_convfwd_finite (hConvfwdIdeal := hConvfwdIdeal) (hPre_convfwd_finite := hPre_convfwd_finite)
    ∧ quiescent_ConvfwdReferenceIdeal (hConvfwdReferenceIdeal := hConvfwdReferenceIdeal)
    ∧ quiescent_ConvfwdReferenceIdeal_pre_convfwd_finite (hConvfwdReferenceIdeal := hConvfwdReferenceIdeal) (hPre_convfwd_finite := hPre_convfwd_finite)
    ∧ quiescent_Adamgu (hAdamgu := hAdamgu)
    ∧ quiescent_AdamguIdeal (hAdamguIdeal := hAdamguIdeal)
    ∧ quiescent_AdamguReferenceIdeal (hAdamguReferenceIdeal := hAdamguReferenceIdeal)
    ∧ quiescent_Adamdown (hAdamdown := hAdamdown)
    ∧ quiescent_AdamdownIdeal (hAdamdownIdeal := hAdamdownIdeal)
    ∧ quiescent_AdamdownReferenceIdeal (hAdamdownReferenceIdeal := hAdamdownReferenceIdeal)
    ∧ quiescent_Adamin (hAdamin := hAdamin)
    ∧ quiescent_AdaminIdeal (hAdaminIdeal := hAdaminIdeal)
    ∧ quiescent_AdaminReferenceIdeal (hAdaminReferenceIdeal := hAdaminReferenceIdeal)
    ∧ quiescent_Adamout (hAdamout := hAdamout)
    ∧ quiescent_AdamoutIdeal (hAdamoutIdeal := hAdamoutIdeal)
    ∧ quiescent_AdamoutReferenceIdeal (hAdamoutReferenceIdeal := hAdamoutReferenceIdeal)
    ∧ quiescent_First (hFirst := hFirst)
    ∧ quiescent_FirstIdeal (hFirstIdeal := hFirstIdeal)
    ∧ quiescent_FirstIdeal_pre_first_finite (hFirstIdeal := hFirstIdeal) (hPre_first_finite := hPre_first_finite)
    ∧ quiescent_FirstReferenceIdeal (hFirstReferenceIdeal := hFirstReferenceIdeal)
    ∧ quiescent_FirstReferenceIdeal_pre_first_finite (hFirstReferenceIdeal := hFirstReferenceIdeal) (hPre_first_finite := hPre_first_finite)
    ∧ quiescent_Firstact (hFirstact := hFirstact)
    ∧ quiescent_FirstactIdeal (hFirstactIdeal := hFirstactIdeal)
    ∧ quiescent_FirstactIdeal_pre_firstact_finite (hFirstactIdeal := hFirstactIdeal) (hPre_firstact_finite := hPre_firstact_finite)
    ∧ quiescent_FirstactReferenceIdeal (hFirstactReferenceIdeal := hFirstactReferenceIdeal)
    ∧ quiescent_FirstactReferenceIdeal_pre_firstact_finite (hFirstactReferenceIdeal := hFirstactReferenceIdeal) (hPre_firstact_finite := hPre_firstact_finite)
    ∧ quiescent_Firstwgu (hFirstwgu := hFirstwgu)
    ∧ quiescent_FirstwguIdeal (hFirstwguIdeal := hFirstwguIdeal)
    ∧ quiescent_FirstwguReferenceIdeal (hFirstwguReferenceIdeal := hFirstwguReferenceIdeal)
    ∧ quiescent_Firstffn (hFirstffn := hFirstffn)
    ∧ quiescent_FirstffnIdeal (hFirstffnIdeal := hFirstffnIdeal)
    ∧ quiescent_FirstffnReferenceIdeal (hFirstffnReferenceIdeal := hFirstffnReferenceIdeal)
    ∧ preserves_Kernel_KernelIdeal
    ∧ algebraic_KernelIdeal_ReferenceIdeal_pre_conv_finite (hKernelIdeal := hKernelIdeal) (hReferenceIdeal := hReferenceIdeal) (hPre_conv_finite := hPre_conv_finite)
    ∧ preserves_Fgate_FgateIdeal
    ∧ algebraic_FgateIdeal_FgateReferenceIdeal (hFgateIdeal := hFgateIdeal) (hFgateReferenceIdeal := hFgateReferenceIdeal)
    ∧ preserves_Act_ActIdeal
    ∧ algebraic_ActIdeal_ActReferenceIdeal_pre_act_finite (hActIdeal := hActIdeal) (hActReferenceIdeal := hActReferenceIdeal) (hPre_act_finite := hPre_act_finite)
    ∧ preserves_Norm_NormIdeal
    ∧ algebraic_NormIdeal_NormReferenceIdeal_pre_norm_finite (hNormIdeal := hNormIdeal) (hNormReferenceIdeal := hNormReferenceIdeal) (hPre_norm_finite := hPre_norm_finite)
    ∧ preserves_Wgu_WguIdeal
    ∧ algebraic_WguIdeal_WguReferenceIdeal (hWguIdeal := hWguIdeal) (hWguReferenceIdeal := hWguReferenceIdeal)
    ∧ preserves_Outproj_OutprojIdeal
    ∧ algebraic_OutprojIdeal_OutprojReferenceIdeal (hOutprojIdeal := hOutprojIdeal) (hOutprojReferenceIdeal := hOutprojReferenceIdeal)
    ∧ preserves_Inproj_InprojIdeal
    ∧ algebraic_InprojIdeal_InprojReferenceIdeal_pre_inproj_finite (hInprojIdeal := hInprojIdeal) (hInprojReferenceIdeal := hInprojReferenceIdeal) (hPre_inproj_finite := hPre_inproj_finite)
    ∧ preserves_Ffn_FfnIdeal
    ∧ algebraic_FfnIdeal_FfnReferenceIdeal_pre_ffn2_finite (hFfnIdeal := hFfnIdeal) (hFfnReferenceIdeal := hFfnReferenceIdeal) (hPre_ffn2_finite := hPre_ffn2_finite)
    ∧ preserves_Infwd_InfwdIdeal
    ∧ algebraic_InfwdIdeal_InfwdReferenceIdeal (hInfwdIdeal := hInfwdIdeal) (hInfwdReferenceIdeal := hInfwdReferenceIdeal)
    ∧ preserves_Convfwd_ConvfwdIdeal
    ∧ algebraic_ConvfwdIdeal_ConvfwdReferenceIdeal_pre_convfwd_finite (hConvfwdIdeal := hConvfwdIdeal) (hConvfwdReferenceIdeal := hConvfwdReferenceIdeal) (hPre_convfwd_finite := hPre_convfwd_finite)
    ∧ preserves_Adamgu_AdamguIdeal
    ∧ algebraic_AdamguIdeal_AdamguReferenceIdeal (hAdamguIdeal := hAdamguIdeal) (hAdamguReferenceIdeal := hAdamguReferenceIdeal)
    ∧ preserves_Adamdown_AdamdownIdeal
    ∧ algebraic_AdamdownIdeal_AdamdownReferenceIdeal (hAdamdownIdeal := hAdamdownIdeal) (hAdamdownReferenceIdeal := hAdamdownReferenceIdeal)
    ∧ preserves_Adamin_AdaminIdeal
    ∧ algebraic_AdaminIdeal_AdaminReferenceIdeal (hAdaminIdeal := hAdaminIdeal) (hAdaminReferenceIdeal := hAdaminReferenceIdeal)
    ∧ preserves_Adamout_AdamoutIdeal
    ∧ algebraic_AdamoutIdeal_AdamoutReferenceIdeal (hAdamoutIdeal := hAdamoutIdeal) (hAdamoutReferenceIdeal := hAdamoutReferenceIdeal)
    ∧ preserves_First_FirstIdeal
    ∧ algebraic_FirstIdeal_FirstReferenceIdeal_pre_first_finite (hFirstIdeal := hFirstIdeal) (hFirstReferenceIdeal := hFirstReferenceIdeal) (hPre_first_finite := hPre_first_finite)
    ∧ preserves_Firstact_FirstactIdeal
    ∧ algebraic_FirstactIdeal_FirstactReferenceIdeal_pre_firstact_finite (hFirstactIdeal := hFirstactIdeal) (hFirstactReferenceIdeal := hFirstactReferenceIdeal) (hPre_firstact_finite := hPre_firstact_finite)
    ∧ preserves_Firstwgu_FirstwguIdeal
    ∧ algebraic_FirstwguIdeal_FirstwguReferenceIdeal (hFirstwguIdeal := hFirstwguIdeal) (hFirstwguReferenceIdeal := hFirstwguReferenceIdeal)
    ∧ preserves_Firstffn_FirstffnIdeal
    ∧ algebraic_FirstffnIdeal_FirstffnReferenceIdeal (hFirstffnIdeal := hFirstffnIdeal) (hFirstffnReferenceIdeal := hFirstffnReferenceIdeal)
-- ==== Pre_act_finite.lean ====
abbrev S8704x1024 : Shape := ⟨2, ![8704, 1024]⟩
abbrev S8704x2816 : Shape := ⟨2, ![8704, 2816]⟩
abbrev S2816x1024 : Shape := ⟨2, ![2816, 1024]⟩
abbrev S_ : Shape := ⟨0, ![]⟩

class Facts : Prop where
  bcast_S_S8704x1024 : S_.BroadcastsInDim S8704x1024 (![] : Fin 0 → Fin S8704x1024.rank)
  reducesTo_S8704x1024_S_d0_1 : S8704x1024.ReducesTo [0, 1] S_
  h_S_ : 0 < S_.numel
  bitsLt_bf16_f32 : FTy.bits .bf16 < FTy.bits .f32
  bcast_S_S8704x2816 : S_.BroadcastsInDim S8704x2816 (![] : Fin 0 → Fin S8704x2816.rank)
  reducesTo_S8704x2816_S_d0_1 : S8704x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8704x1024 .f32) (main_arg1 : FVec F S8704x2816 .bf16) (main_arg2 : FVec F S8704x2816 .bf16) (main_arg3 : FVec F S2816x1024 .bf16) : IVec S_ 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_c : IVec S_ 1 := constantI S_ 1 1#1
  let main_v3 : IVec S_ 1 := (fun x v => Host.reduce IntOp.andi x v reducesTo_S8704x1024_S_d0_1 h_S_) main_v2 main_c
  let main_v4 : FVec F S8704x2816 .f32 := (extf .f32 · bitsLt_bf16_f32) main_arg2
  let main_v5 : FVec F S8704x2816 .f32 := Host.absf main_v4
  let main_cst_0 : FVec F S_ .f32 := constant S_ .f32 0x7F800000#32
  let main_v6 : FVec F S8704x2816 .f32 := broadcastInDim S8704x2816 ![] bcast_S_S8704x2816 main_cst_0
  let main_v7 : IVec S8704x2816 1 := cmpf .olt main_v5 main_v6
  let main_c_1 : IVec S_ 1 := constantI S_ 1 1#1
  let main_v8 : IVec S_ 1 := (fun x v => Host.reduce IntOp.andi x v reducesTo_S8704x2816_S_d0_1 h_S_) main_v7 main_c_1
  let main_v9 : IVec S_ 1 := andi main_v3 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  main_v15
-- ==== Pre_conv_finite.lean ====
abbrev S8704x512 : Shape := ⟨2, ![8704, 512]⟩
abbrev S3x512 : Shape := ⟨2, ![3, 512]⟩
abbrev S1x512 : Shape := ⟨2, ![1, 512]⟩
abbrev S_ : Shape := ⟨0, ![]⟩

class Facts : Prop where
  bitsLt_bf16_f32 : FTy.bits .bf16 < FTy.bits .f32
  bcast_S_S8704x512 : S_.BroadcastsInDim S8704x512 (![] : Fin 0 → Fin S8704x512.rank)
  reducesTo_S8704x512_S_d0_1 : S8704x512.ReducesTo [0, 1] S_
  h_S_ : 0 < S_.numel
  bcast_S_S3x512 : S_.BroadcastsInDim S3x512 (![] : Fin 0 → Fin S3x512.rank)
  reducesTo_S3x512_S_d0_1 : S3x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S3x512 .f32) (main_arg5 : FVec F S1x512 .f32) (main_v16 : IVec S_ 1) (main_v17 : FVec F S8704x512 .f32) : IVec S_ 1 :=
  let main_v18 : FVec F S8704x512 .f32 := Host.absf main_v17
  let main_cst_4 : FVec F S_ .f32 := constant S_ .f32 0x7F800000#32
  let main_v19 : FVec F S8704x512 .f32 := broadcastInDim S8704x512 ![] bcast_S_S8704x512 main_cst_4
  let main_v20 : IVec S8704x512 1 := cmpf .olt main_v18 main_v19
  let main_c_5 : IVec S_ 1 := constantI S_ 1 1#1
  let main_v21 : IVec S_ 1 := (fun x v => Host.reduce IntOp.andi x v reducesTo_S8704x512_S_d0_1 h_S_) main_v20 main_c_5
  let main_v22 : IVec S_ 1 := andi main_v16 main_v21
  let main_v23 : FVec F S3x512 .f32 := Host.absf main_arg4
  let main_cst_6 : FVec F S_ .f32 := constant S_ .f32 0x7F800000#32
  let main_v24 : FVec F S3x512 .f32 := broadcastInDim S3x512 ![] bcast_S_S3x512 main_cst_6
  let main_v25 : IVec S3x512 1 := cmpf .olt main_v23 main_v24
  let main_c_7 : IVec S_ 1 := constantI S_ 1 1#1
  let main_v26 : IVec S_ 1 := (fun x v => Host.reduce IntOp.andi x v reducesTo_S3x512_S_d0_1 h_S_) main_v25 main_c_7
  let main_v27 : IVec S_ 1 := andi main_v22 main_v26
  let main_v28 : FVec F S1x512 .f32 := Host.absf main_arg5
  let main_cst_8 : FVec F S_ .f32 := constant S_ .f32 0x7F800000#32
  let main_v29 : FVec F S1x512 .f32 := broadcastInDim S1x512 ![] bcast_S_S1x512 main_cst_8
  let main_v30 : IVec S1x512 1 := cmpf .olt main_v28 main_v29
  let main_c_9 : IVec S_ 1 := constantI S_ 1 1#1
  let main_v31 : IVec S_ 1 := (fun x v => Host.reduce IntOp.andi x v reducesTo_S1x512_S_d0_1 h_S_) main_v30 main_c_9
  let main_v32 : IVec S_ 1 := andi main_v27 main_v31
  main_v32

def fn {F : FTy → Type} [FloatOps F] (main_arg0 : FVec F S8704x512 .bf16) (main_arg1 : FVec F S8704x512 .bf16) (main_arg2 : FVec F S8704x512 .bf16) (main_arg3 : FVec F S8704x512 .bf16) (main_arg4 : FVec F S3x512 .f32) (main_arg5 : FVec F S1x512 .f32) : IVec S_ 1 :=
  let main_v0 : FVec F S8704x512 .f32 := (extf .f32 · bitsLt_bf16_f32) main_arg0
  let main_v1 : FVec F S8704x512 .f32 := Host.absf main_v0
  let main_cst : FVec F S_ .f32 := constant S_ .f32 0x7F800000#32
  let main_v2 : FVec F S8704x512 .f32 := broadcastInDim S8704x512 ![] bcast_S_S8704x512 main_cst
  let main_v3 : IVec S8704x512 1 := cmpf .olt main_v1 main_v2
  let main_c : IVec S_ 1 := constantI S_ 1 1#1
  let main_v4 : IVec S_ 1 := (fun x v => Host.reduce IntOp.andi x v reducesTo_S8704x512_S_d0_1 h_S_) main_v3 main_c
  let main_v5 : FVec F S8704x512 .f32 := (extf .f32 · bitsLt_bf16_f32) main_arg1
  let main_v6 : FVec F S8704x512 .f32 := Host.absf main_v5
  let main_cst_0 : FVec F S_ .f32 := constant S_ .f32 0x7F800000#32
  let main_v7 : FVec F S8704x512 .f32 := broadcastInDim S8704x512 ![] bcast_S_S8704x512 main_cst_0
  let main_v8 : IVec S8704x512 1 := cmpf .olt main_v6 main_v7
  let main_c_1 : IVec S_ 1 := constantI S_ 1 1#1
  let main_v9 : IVec S_ 1 := (fun x v => Host.reduce IntOp.andi x v reducesTo_S8704x512_S_d0_1 h_S_) main_v8 main_c_1
  let main_v10 : IVec S_ 1 := andi main_v4 main_v9
  let main_v11 : FVec F S8704x512 .f32 := (extf .f32 · bitsLt_bf16_f32) main_arg2
  let main_v12 : FVec F S8704x512 .f32 := Host.absf main_v11
  let main_cst_2 : FVec F S_ .f32 := constant S_ .f32 0x7F800000#32
  let main_v13 : FVec F S8704x512 .f32 := broadcastInDim S8704x512 ![] bcast_S_S8704x512 main_cst_2
  let main_v14 : IVec S8704x512 1 := cmpf .olt main_v12 main_v13
  let main_c_3 : IVec S_ 1 := constantI S_ 1 1#1
  let main_v15 : IVec S_ 1 := (fun x v => Host.reduce IntOp.andi x v reducesTo_S8704x512_S_d0_1 h_S_) main_v14 main_c_3
  let main_v16 : IVec S_ 1 := andi main_v10 main_v15
  let main_v17 : FVec F S8704x512 .f32 := (extf .f32 · bitsLt_bf16_f32) main_arg3
  fn_part1 (F := F) main_arg4 main_arg5 main_v16 main_v17
-- ==== Pre_convfwd_finite.lean ====
abbrev S8704x512 : Shape := ⟨2, ![8704, 512]⟩
abbrev S3x512 : Shape := ⟨2, ![3, 512]⟩
abbrev S1x512 : Shape := ⟨2, ![1, 512]⟩
abbrev S_ : Shape := ⟨0, ![]⟩

class Facts : Prop where
  bitsLt_bf16_f32 : FTy.bits .bf16 < FTy.bits .f32
  bcast_S_S8704x512 : S_.BroadcastsInDim S8704x512 (![] : Fin 0 → Fin S8704x512.rank)
  reducesTo_S8704x512_S_d0_1 : S8704x512.ReducesTo [0, 1] S_
  h_S_ : 0 < S_.numel
  bcast_S_S3x512 : S_.BroadcastsInDim S3x512 (![] : Fin 0 → Fin S3x512.rank)
  reducesTo_S3x512_S_d0_1 : S3x512.ReducesTo [0, 1] S_

variable [Facts]

def fn_part1 {F : FTy → Type} [FloatOps F] (main_v16 : IVec S_ 1) (main_v17 : FVec F S3x512 .f32) : IVec S_ 1 :=
  let main_cst_4 : FVec F S_ .f32 := constant S_ .f32 0x7F800000#32
  let main_v18 : FVec F S3x512 .f32 := broadcastInDim S3x512 ![] bcast_S_S3x512 main_cst_4
  let main_v19 : IVec S3x512 1 := cmpf .olt main_v17 main_v18
  let main_c_5 : IVec S_ 1 := constantI S_ 1 1#1
  let main_v20 : IVec S_ 1 := (fun x v => Host.reduce IntOp.andi x v reducesTo_S3x512_S_d0_1 h_S_) main_v19 main_c_5
  let main_v21 : IVec S_ 1 := andi main_v16 main_v20
  main_v21

def fn {F : FTy → Type} [FloatOps F] (main_arg0 : FVec F S8704x512 .bf16) (main_arg1 : FVec F S8704x512 .bf16) (main_arg2 : FVec F S8704x512 .bf16) (main_arg3 : FVec F S3x512 .f32) (main_arg4 : FVec F S1x512 .f32) : IVec S_ 1 :=
  let main_v0 : FVec F S8704x512 .f32 := (extf .f32 · bitsLt_bf16_f32) main_arg0
  let main_v1 : FVec F S8704x512 .f32 := Host.absf main_v0
  let main_cst : FVec F S_ .f32 := constant S_ .f32 0x7F800000#32
  let main_v2 : FVec F S8704x512 .f32 := broadcastInDim S8704x512 ![] bcast_S_S8704x512 main_cst
  let main_v3 : IVec S8704x512 1 := cmpf .olt main_v1 main_v2
  let main_c : IVec S_ 1 := constantI S_ 1 1#1
  let main_v4 : IVec S_ 1 := (fun x v => Host.reduce IntOp.andi x v reducesTo_S8704x512_S_d0_1 h_S_) main_v3 main_c
  let main_v5 : FVec F S8704x512 .f32 := (extf .f32 · bitsLt_bf16_f32) main_arg1
  let main_v6 : FVec F S8704x512 .f32 := Host.absf main_v5
  let main_cst_0 : FVec F S_ .f32 := constant S_ .f32 0x7F800000#32
  let main_v7 : FVec F S8704x512 .f32 := broadcastInDim S8704x512 ![] bcast_S_S8704x512 main_cst_0
  let main_v8 : IVec S8704x512 1 := cmpf .olt main_v6 main_v7
  let main_c_1 : IVec S_ 1 := constantI S_ 1 1#1
  let main_v9 : IVec S_ 1 := (fun x v => Host.reduce IntOp.andi x v reducesTo_S8704x512_S_d0_1 h_S_) main_v8 main_c_1
  let main_v10 : IVec S_ 1 := andi main_v4 main_v9
  let main_v11 : FVec F S8704x512 .f32 := (extf .f32 · bitsLt_bf16_f32) main_arg2
  let main_v12 : FVec F S8704x512 .f32 := Host.absf main_v11
  let main_cst_2 : FVec F S_ .f32 := constant S_ .f32 0x7F800000#32
  let main_v13 : FVec F S8704x512 .f32 := broadcastInDim S8704x512 ![] bcast_S_S8704x512 main_cst_2
  let main_v14 : IVec S8704x512 1 := cmpf .olt main_v12 main_v13
  let main_c_3 : IVec S_ 1 := constantI S_ 1 1#1
  let main_v15 : IVec S_ 1 := (fun x v => Host.reduce IntOp.andi x v reducesTo_S8704x512_S_d0_1 h_S_) main_v14 main_c_3
  let main_v16 : IVec S_ 1 := andi main_v10 main_v15
  let main_v17 : FVec F S3x512 .f32 := Host.absf main_arg3
  fn_part1 (F := F) main_v16 main_v17
-- ==== Pre_ffn2_finite.lean ====
abbrev S8704x1024 : Shape := ⟨2, ![8704, 1024]⟩
abbrev S1x1024 : Shape := ⟨2, ![1, 1024]⟩
abbrev S2x2816x1024 : Shape := ⟨3, ![2, 2816, 1024]⟩
abbrev S2816x1024 : Shape := ⟨2, ![2816, 1024]⟩
abbrev S8192x1024 : Shape := ⟨2, ![8192, 1024]⟩
abbrev S_ : Shape := ⟨0, ![]⟩

class Facts : Prop where
  bcast_S_S8704x1024 : S_.BroadcastsInDim S8704x1024 (![] : Fin 0 → Fin S8704x1024.rank)
  reducesTo_S8704x1024_S_d0_1 : S8704x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2x2816x1024 : S_.BroadcastsInDim S2x2816x1024 (![] : Fin 0 → Fin S2x2816x1024.rank)
  reducesTo_S2x2816x1024_S_d0_1_2 : S2x2816x1024.ReducesTo [0, 1, 2] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1x1024 .f32) (main_arg5 : FVec F S8192x1024 .f32) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : IVec S_ 1 := andi main_v14 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  let main_v26 : FVec F S8192x1024 .f32 := Host.absf main_arg5
  let main_cst_8 : FVec F S_ .f32 := constant S_ .f32 0x7F800000#32
  let main_v27 : FVec F S8192x1024 .f32 := broadcastInDim S8192x1024 ![] bcast_S_S8192x1024 main_cst_8
  let main_v28 : IVec S8192x1024 1 := cmpf .olt main_v26 main_v27
  let main_c_9 : IVec S_ 1 := constantI S_ 1 1#1
  let main_v29 : IVec S_ 1 := (fun x v => Host.reduce IntOp.andi x v reducesTo_S8192x1024_S_d0_1 h_S_) main_v28 main_c_9
  let main_v30 : IVec S_ 1 := andi main_v25 main_v29
  main_v30

def fn {F : FTy → Type} [FloatOps F] (main_arg0 : FVec F S8704x1024 .f32) (main_arg1 : FVec F S1x1024 .f32) (main_arg2 : FVec F S2x2816x1024 .bf16) (main_arg3 : FVec F S2816x1024 .bf16) (main_arg4 : FVec F S1x1024 .f32) (main_arg5 : FVec F S8192x1024 .f32) : IVec S_ 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_c : IVec S_ 1 := constantI S_ 1 1#1
  let main_v3 : IVec S_ 1 := (fun x v => Host.reduce IntOp.andi x v reducesTo_S8704x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2x2816x1024 .f32 := (extf .f32 · bitsLt_bf16_f32) main_arg2
  let main_v10 : FVec F S2x2816x1024 .f32 := Host.absf main_v9
  let main_cst_2 : FVec F S_ .f32 := constant S_ .f32 0x7F800000#32
  let main_v11 : FVec F S2x2816x1024 .f32 := broadcastInDim S2x2816x1024 ![] bcast_S_S2x2816x1024 main_cst_2
  let main_v12 : IVec S2x2816x1024 1 := cmpf .olt main_v10 main_v11
  let main_c_3 : IVec S_ 1 := constantI S_ 1 1#1
  let main_v13 : IVec S_ 1 := (fun x v => Host.reduce IntOp.andi x v reducesTo_S2x2816x1024_S_d0_1_2 h_S_) main_v12 main_c_3
  let main_v14 : IVec S_ 1 := andi main_v8 main_v13
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_arg5 main_v14 main_v16 main_cst_4
-- ==== Pre_first_finite.lean ====
abbrev S8704x1024 : Shape := ⟨2, ![8704, 1024]⟩
abbrev S1x1024 : Shape := ⟨2, ![1, 1024]⟩
abbrev S8704x5632 : Shape := ⟨2, ![8704, 5632]⟩
abbrev S2x2816x1024 : Shape := ⟨3, ![2, 2816, 1024]⟩
abbrev S8192x1024 : Shape := ⟨2, ![8192, 1024]⟩
abbrev S16x1024 : Shape := ⟨2, ![16, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S8704x5632 : S_.BroadcastsInDim S8704x5632 (![] : Fin 0 → Fin S8704x5632.rank)
  reducesTo_S8704x5632_S_d0_1 : S8704x5632.ReducesTo [0, 1] S_
  bcast_S_S2x2816x1024 : S_.BroadcastsInDim S2x2816x1024 (![] : Fin 0 → Fin S2x2816x1024.rank)
  reducesTo_S2x2816x1024_S_d0_1_2 : S2x2816x1024.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg5 : FVec F S16x1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S16x1024 .f32 := Host.absf main_arg5
  let main_cst_6 : FVec F S_ .f32 := constant S_ .f32 0x7F800000#32
  let main_v22 : FVec F S16x1024 .f32 := broadcastInDim S16x1024 ![] bcast_S_S16x1024 main_cst_6
  let main_v23 : IVec S16x1024 1 := cmpf .olt main_v21 main_v22
  let main_c_7 : IVec S_ 1 := constantI S_ 1 1#1
  let main_v24 : IVec S_ 1 := (fun x v => Host.reduce IntOp.andi x v reducesTo_S16x1024_S_d0_1 h_S_) main_v23 main_c_7
  let main_v25 : IVec S_ 1 := andi main_v20 main_v24
  main_v25

def fn {F : FTy → Type} [FloatOps F] (main_arg0 : FVec F S8704x1024 .f32) (main_arg1 : FVec F S1x1024 .f32) (main_arg2 : FVec F S8704x5632 .bf16) (main_arg3 : FVec F S2x2816x1024 .bf16) (main_arg4 : FVec F S8192x1024 .f32) (main_arg5 : FVec F S16x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S8704x5632 .f32 := (extf .f32 · bitsLt_bf16_f32) main_arg2
  let main_v5 : FVec F S8704x5632 .f32 := Host.absf main_v4
  let main_cst_0 : FVec F S_ .f32 := constant S_ .f32 0x7F800000#32
  let main_v6 : FVec F S8704x5632 .f32 := broadcastInDim S8704x5632 ![] bcast_S_S8704x5632 main_cst_0
  let main_v7 : IVec S8704x5632 1 := cmpf .olt main_v5 main_v6
  let main_c_1 : IVec S_ 1 := constantI S_ 1 1#1
  let main_v8 : IVec S_ 1 := (fun x v => Host.reduce IntOp.andi x v reducesTo_S8704x5632_S_d0_1 h_S_) main_v7 main_c_1
  let main_v9 : IVec S_ 1 := andi main_v3 main_v8
  let main_v10 : FVec F S2x2816x1024 .f32 := (extf .f32 · bitsLt_bf16_f32) main_arg3
  let main_v11 : FVec F S2x2816x1024 .f32 := Host.absf main_v10
  let main_cst_2 : FVec F S_ .f32 := constant S_ .f32 0x7F800000#32
  let main_v12 : FVec F S2x2816x1024 .f32 := broadcastInDim S2x2816x1024 ![] bcast_S_S2x2816x1024 main_cst_2
  let main_v13 : IVec S2x2816x1024 1 := cmpf .olt main_v11 main_v12
  let main_c_3 : IVec S_ 1 := constantI S_ 1 1#1
  let main_v14 : IVec S_ 1 := (fun x v => Host.reduce IntOp.andi x v reducesTo_S2x2816x1024_S_d0_1_2 h_S_) main_v13 main_c_3
  let main_v15 : IVec S_ 1 := andi main_v9 main_v14
  let main_v16 : FVec F S8192x1024 .f32 := Host.absf main_arg4
  let main_cst_4 : FVec F S_ .f32 := constant S_ .f32 0x7F800000#32
  fn_part1 (F := F) main_arg5 main_v15 main_v16 main_cst_4
-- ==== Pre_firstact_finite.lean ====
abbrev S8704x1024 : Shape := ⟨2, ![8704, 1024]⟩
abbrev S8704x2816 : Shape := ⟨2, ![8704, 2816]⟩
abbrev S2816x1024 : Shape := ⟨2, ![2816, 1024]⟩
abbrev S_ : Shape := ⟨0, ![]⟩

class Facts : Prop where
  bcast_S_S8704x1024 : S_.BroadcastsInDim S8704x1024 (![] : Fin 0 → Fin S8704x1024.rank)
  reducesTo_S8704x1024_S_d0_1 : S8704x1024.ReducesTo [0, 1] S_
  h_S_ : 0 < S_.numel
  bitsLt_bf16_f32 : FTy.bits .bf16 < FTy.bits .f32
  bcast_S_S8704x2816 : S_.BroadcastsInDim S8704x2816 (![] : Fin 0 → Fin S8704x2816.rank)
  reducesTo_S8704x2816_S_d0_1 : S8704x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8704x1024 .f32) (main_arg1 : FVec F S8704x2816 .bf16) (main_arg2 : FVec F S8704x2816 .bf16) (main_arg3 : FVec F S2816x1024 .bf16) : IVec S_ 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_c : IVec S_ 1 := constantI S_ 1 1#1
  let main_v3 : IVec S_ 1 := (fun x v => Host.reduce IntOp.andi x v reducesTo_S8704x1024_S_d0_1 h_S_) main_v2 main_c
  let main_v4 : FVec F S8704x2816 .f32 := (extf .f32 · bitsLt_bf16_f32) main_arg2
  let main_v5 : FVec F S8704x2816 .f32 := Host.absf main_v4
  let main_cst_0 : FVec F S_ .f32 := constant S_ .f32 0x7F800000#32
  let main_v6 : FVec F S8704x2816 .f32 := broadcastInDim S8704x2816 ![] bcast_S_S8704x2816 main_cst_0
  let main_v7 : IVec S8704x2816 1 := cmpf .olt main_v5 main_v6
  let main_c_1 : IVec S_ 1 := constantI S_ 1 1#1
  let main_v8 : IVec S_ 1 := (fun x v => Host.reduce IntOp.andi x v reducesTo_S8704x2816_S_d0_1 h_S_) main_v7 main_c_1
  let main_v9 : IVec S_ 1 := andi main_v3 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  main_v15
-- ==== Pre_inproj_finite.lean ====
abbrev S8704x512 : Shape := ⟨2, ![8704, 512]⟩
abbrev S8704x128 : Shape := ⟨2, ![8704, 128]⟩
abbrev S8704x1024 : Shape := ⟨2, ![8704, 1024]⟩
abbrev S1x1024 : Shape := ⟨2, ![1, 1024]⟩
abbrev S3200x1024 : Shape := ⟨2, ![3200, 1024]⟩
abbrev S_ : Shape := ⟨0, ![]⟩

class Facts : Prop where
  bitsLt_bf16_f32 : FTy.bits .bf16 < FTy.bits .f32
  bcast_S_S8704x512 : S_.BroadcastsInDim S8704x512 (![] : Fin 0 → Fin S8704x512.rank)
  reducesTo_S8704x512_S_d0_1 : S8704x512.ReducesTo [0, 1] S_
  h_S_ : 0 < S_.numel
  bcast_S_S8704x128 : S_.BroadcastsInDim S8704x128 (![] : Fin 0 → Fin S8704x128.rank)
  reducesTo_S8704x128_S_d0_1 : S8704x128.ReducesTo [0, 1] S_
  bcast_S_S8704x1024 : S_.BroadcastsInDim S8704x1024 (![] : Fin 0 → Fin S8704x1024.rank)
  reducesTo_S8704x1024_S_d0_1 : S8704x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S3200x1024 : S_.BroadcastsInDim S3200x1024 (![] : Fin 0 → Fin S3200x1024.rank)
  reducesTo_S3200x1024_S_d0_1 : S3200x1024.ReducesTo [0, 1] S_

variable [Facts]

def fn_part3 {F : FTy → Type} [FloatOps F] (main_v49 : IVec S_ 1) (main_v51 : FVec F S3200x1024 .f32) (main_v52 : FVec F S3200x1024 .f32) : IVec S_ 1 :=
  let main_v53 : IVec S3200x1024 1 := cmpf .olt main_v51 main_v52
  let main_c_17 : IVec S_ 1 := constantI S_ 1 1#1
  let main_v54 : IVec S_ 1 := (fun x v => Host.reduce IntOp.andi x v reducesTo_S3200x1024_S_d0_1 h_S_) main_v53 main_c_17
  let main_v55 : IVec S_ 1 := andi main_v49 main_v54
  main_v55

def fn_part2 {F : FTy → Type} [FloatOps F] (main_arg8 : FVec F S8704x1024 .f32) (main_arg9 : FVec F S1x1024 .f32) (main_arg10 : FVec F S3200x1024 .bf16) (main_v34 : IVec S_ 1) (main_v35 : FVec F S8704x128 .f32) : IVec S_ 1 :=
  let main_cst_10 : FVec F S_ .f32 := constant S_ .f32 0x7F800000#32
  let main_v36 : FVec F S8704x128 .f32 := broadcastInDim S8704x128 ![] bcast_S_S8704x128 main_cst_10
  let main_v37 : IVec S8704x128 1 := cmpf .olt main_v35 main_v36
  let main_c_11 : IVec S_ 1 := constantI S_ 1 1#1
  let main_v38 : IVec S_ 1 := (fun x v => Host.reduce IntOp.andi x v reducesTo_S8704x128_S_d0_1 h_S_) main_v37 main_c_11
  let main_v39 : IVec S_ 1 := andi main_v34 main_v38
  let main_v40 : FVec F S8704x1024 .f32 := Host.absf main_arg8
  let main_cst_12 : FVec F S_ .f32 := constant S_ .f32 0x7F800000#32
  let main_v41 : FVec F S8704x1024 .f32 := broadcastInDim S8704x1024 ![] bcast_S_S8704x1024 main_cst_12
  let main_v42 : IVec S8704x1024 1 := cmpf .olt main_v40 main_v41
  let main_c_13 : IVec S_ 1 := constantI S_ 1 1#1
  let main_v43 : IVec S_ 1 := (fun x v => Host.reduce IntOp.andi x v reducesTo_S8704x1024_S_d0_1 h_S_) main_v42 main_c_13
  let main_v44 : IVec S_ 1 := andi main_v39 main_v43
  let main_v45 : FVec F S1x1024 .f32 := Host.absf main_arg9
  let main_cst_14 : FVec F S_ .f32 := constant S_ .f32 0x7F800000#32
  let main_v46 : FVec F S1x1024 .f32 := broadcastInDim S1x1024 ![] bcast_S_S1x1024 main_cst_14
  let main_v47 : IVec S1x1024 1 := cmpf .olt main_v45 main_v46
  let main_c_15 : IVec S_ 1 := constantI S_ 1 1#1
  let main_v48 : IVec S_ 1 := (fun x v => Host.reduce IntOp.andi x v reducesTo_S1x1024_S_d0_1 h_S_) main_v47 main_c_15
  let main_v49 : IVec S_ 1 := andi main_v44 main_v48
  let main_v50 : FVec F S3200x1024 .f32 := (extf .f32 · bitsLt_bf16_f32) main_arg10
  let main_v51 : FVec F S3200x1024 .f32 := Host.absf main_v50
  let main_cst_16 : FVec F S_ .f32 := constant S_ .f32 0x7F800000#32
  let main_v52 : FVec F S3200x1024 .f32 := broadcastInDim S3200x1024 ![] bcast_S_S3200x1024 main_cst_16
  fn_part3 (F := F) main_v49 main_v51 main_v52

def fn_part1 {F : FTy → Type} [FloatOps F] (main_arg4 : FVec F S8704x512 .bf16) (main_arg5 : FVec F S8704x512 .bf16) (main_arg6 : FVec F S8704x128 .f32) (main_arg8 : FVec F S8704x1024 .f32) (main_arg9 : FVec F S1x1024 .f32) (main_arg10 : FVec F S3200x1024 .bf16) (main_v16 : IVec S_ 1) (main_v17 : FVec F S8704x512 .f32) : IVec S_ 1 :=
  let main_v18 : FVec F S8704x512 .f32 := Host.absf main_v17
  let main_cst_4 : FVec F S_ .f32 := constant S_ .f32 0x7F800000#32
  let main_v19 : FVec F S8704x512 .f32 := broadcastInDim S8704x512 ![] bcast_S_S8704x512 main_cst_4
  let main_v20 : IVec S8704x512 1 := cmpf .olt main_v18 main_v19
  let main_c_5 : IVec S_ 1 := constantI S_ 1 1#1
  let main_v21 : IVec S_ 1 := (fun x v => Host.reduce IntOp.andi x v reducesTo_S8704x512_S_d0_1 h_S_) main_v20 main_c_5
  let main_v22 : IVec S_ 1 := andi main_v16 main_v21
  let main_v23 : FVec F S8704x512 .f32 := (extf .f32 · bitsLt_bf16_f32) main_arg4
  let main_v24 : FVec F S8704x512 .f32 := Host.absf main_v23
  let main_cst_6 : FVec F S_ .f32 := constant S_ .f32 0x7F800000#32
  let main_v25 : FVec F S8704x512 .f32 := broadcastInDim S8704x512 ![] bcast_S_S8704x512 main_cst_6
  let main_v26 : IVec S8704x512 1 := cmpf .olt main_v24 main_v25
  let main_c_7 : IVec S_ 1 := constantI S_ 1 1#1
  let main_v27 : IVec S_ 1 := (fun x v => Host.reduce IntOp.andi x v reducesTo_S8704x512_S_d0_1 h_S_) main_v26 main_c_7
  let main_v28 : IVec S_ 1 := andi main_v22 main_v27
  let main_v29 : FVec F S8704x512 .f32 := (extf .f32 · bitsLt_bf16_f32) main_arg5
  let main_v30 : FVec F S8704x512 .f32 := Host.absf main_v29
  let main_cst_8 : FVec F S_ .f32 := constant S_ .f32 0x7F800000#32
  let main_v31 : FVec F S8704x512 .f32 := broadcastInDim S8704x512 ![] bcast_S_S8704x512 main_cst_8
  let main_v32 : IVec S8704x512 1 := cmpf .olt main_v30 main_v31
  let main_c_9 : IVec S_ 1 := constantI S_ 1 1#1
  let main_v33 : IVec S_ 1 := (fun x v => Host.reduce IntOp.andi x v reducesTo_S8704x512_S_d0_1 h_S_) main_v32 main_c_9
  let main_v34 : IVec S_ 1 := andi main_v28 main_v33
  let main_v35 : FVec F S8704x128 .f32 := Host.absf main_arg6
  fn_part2 (F := F) main_arg8 main_arg9 main_arg10 main_v34 main_v35

def fn {F : FTy → Type} [FloatOps F] (main_arg0 : FVec F S8704x512 .bf16) (main_arg1 : FVec F S8704x512 .bf16) (main_arg2 : FVec F S8704x512 .bf16) (main_arg3 : FVec F S8704x512 .bf16) (main_arg4 : FVec F S8704x512 .bf16) (main_arg5 : FVec F S8704x512 .bf16) (main_arg6 : FVec F S8704x128 .f32) (main_arg7 : FVec F S8704x1024 .f32) (main_arg8 : FVec F S8704x1024 .f32) (main_arg9 : FVec F S1x1024 .f32) (main_arg10 : FVec F S3200x1024 .bf16) : IVec S_ 1 :=
  let main_v0 : FVec F S8704x512 .f32 := (extf .f32 · bitsLt_bf16_f32) main_arg0
  let main_v1 : FVec F S8704x512 .f32 := Host.absf main_v0
  let main_cst : FVec F S_ .f32 := constant S_ .f32 0x7F800000#32
  let main_v2 : FVec F S8704x512 .f32 := broadcastInDim S8704x512 ![] bcast_S_S8704x512 main_cst
  let main_v3 : IVec S8704x512 1 := cmpf .olt main_v1 main_v2
  let main_c : IVec S_ 1 := constantI S_ 1 1#1
  let main_v4 : IVec S_ 1 := (fun x v => Host.reduce IntOp.andi x v reducesTo_S8704x512_S_d0_1 h_S_) main_v3 main_c
  let main_v5 : FVec F S8704x512 .f32 := (extf .f32 · bitsLt_bf16_f32) main_arg1
  let main_v6 : FVec F S8704x512 .f32 := Host.absf main_v5
  let main_cst_0 : FVec F S_ .f32 := constant S_ .f32 0x7F800000#32
  let main_v7 : FVec F S8704x512 .f32 := broadcastInDim S8704x512 ![] bcast_S_S8704x512 main_cst_0
  let main_v8 : IVec S8704x512 1 := cmpf .olt main_v6 main_v7
  let main_c_1 : IVec S_ 1 := constantI S_ 1 1#1
  let main_v9 : IVec S_ 1 := (fun x v => Host.reduce IntOp.andi x v reducesTo_S8704x512_S_d0_1 h_S_) main_v8 main_c_1
  let main_v10 : IVec S_ 1 := andi main_v4 main_v9
  let main_v11 : FVec F S8704x512 .f32 := (extf .f32 · bitsLt_bf16_f32) main_arg2
  let main_v12 : FVec F S8704x512 .f32 := Host.absf main_v11
  let main_cst_2 : FVec F S_ .f32 := constant S_ .f32 0x7F800000#32
  let main_v13 : FVec F S8704x512 .f32 := broadcastInDim S8704x512 ![] bcast_S_S8704x512 main_cst_2
  let main_v14 : IVec S8704x512 1 := cmpf .olt main_v12 main_v13
  let main_c_3 : IVec S_ 1 := constantI S_ 1 1#1
  let main_v15 : IVec S_ 1 := (fun x v => Host.reduce IntOp.andi x v reducesTo_S8704x512_S_d0_1 h_S_) main_v14 main_c_3
  let main_v16 : IVec S_ 1 := andi main_v10 main_v15
  let main_v17 : FVec F S8704x512 .f32 := (extf .f32 · bitsLt_bf16_f32) main_arg3
  fn_part1 (F := F) main_arg4 main_arg5 main_arg6 main_arg8 main_arg9 main_arg10 main_v16 main_v17
-- ==== Pre_norm_finite.lean ====
abbrev S8704x1024 : Shape := ⟨2, ![8704, 1024]⟩
abbrev S1x1024 : Shape := ⟨2, ![1, 1024]⟩
abbrev S8704x5632 : Shape := ⟨2, ![8704, 5632]⟩
abbrev S2x2816x1024 : Shape := ⟨3, ![2, 2816, 1024]⟩
abbrev S_ : Shape := ⟨0, ![]⟩

class Facts : Prop where
  bcast_S_S8704x1024 : S_.BroadcastsInDim S8704x1024 (![] : Fin 0 → Fin S8704x1024.rank)
  reducesTo_S8704x1024_S_d0_1 : S8704x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S8704x5632 : S_.BroadcastsInDim S8704x5632 (![] : Fin 0 → Fin S8704x5632.rank)
  reducesTo_S8704x5632_S_d0_1 : S8704x5632.ReducesTo [0, 1] S_
  bcast_S_S2x2816x1024 : S_.BroadcastsInDim S2x2816x1024 (![] : Fin 0 → Fin S2x2816x1024.rank)
  reducesTo_S2x2816x1024_S_d0_1_2 : S2x2816x1024.ReducesTo [0, 1, 2] S_

variable [Facts]

def fn_part1 {F : FTy → Type} [FloatOps F] (main_v14 : IVec S_ 1) (main_v16 : FVec F S2x2816x1024 .f32) (main_cst_4 : FVec F S_ .f32) : IVec S_ 1 :=
  let main_v17 : FVec F S2x2816x1024 .f32 := broadcastInDim S2x2816x1024 ![] bcast_S_S2x2816x1024 main_cst_4
  let main_v18 : IVec S2x2816x1024 1 := cmpf .olt main_v16 main_v17
  let main_c_5 : IVec S_ 1 := constantI S_ 1 1#1
  let main_v19 : IVec S_ 1 := (fun x v => Host.reduce IntOp.andi x v reducesTo_S2x2816x1024_S_d0_1_2 h_S_) main_v18 main_c_5
  let main_v20 : IVec S_ 1 := andi main_v14 main_v19
  main_v20

def fn {F : FTy → Type} [FloatOps F] (main_arg0 : FVec F S8704x1024 .f32) (main_arg1 : FVec F S8704x1024 .f32) (main_arg2 : FVec F S1x1024 .f32) (main_arg3 : FVec F S8704x5632 .bf16) (main_arg4 : FVec F S2x2816x1024 .bf16) : IVec S_ 1 :=
  let main_v0 : FVec F S8704x1024 .f32 := Host.absf main_arg1
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_c : IVec S_ 1 := constantI S_ 1 1#1
  let main_v3 : IVec S_ 1 := (fun x v => Host.reduce IntOp.andi x v reducesTo_S8704x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8704x5632 .f32 := (extf .f32 · bitsLt_bf16_f32) main_arg3
  let main_v10 : FVec F S8704x5632 .f32 := Host.absf main_v9
  let main_cst_2 : FVec F S_ .f32 := constant S_ .f32 0x7F800000#32
  let main_v11 : FVec F S8704x5632 .f32 := broadcastInDim S8704x5632 ![] bcast_S_S8704x5632 main_cst_2
  let main_v12 : IVec S8704x5632 1 := cmpf .olt main_v10 main_v11
  let main_c_3 : IVec S_ 1 := constantI S_ 1 1#1
  let main_v13 : IVec S_ 1 := (fun x v => Host.reduce IntOp.andi x v reducesTo_S8704x5632_S_d0_1 h_S_) main_v12 main_c_3
  let main_v14 : IVec S_ 1 := andi main_v8 main_v13
  let main_v15 : FVec F S2x2816x1024 .f32 := (extf .f32 · bitsLt_bf16_f32) main_arg4
  let main_v16 : FVec F S2x2816x1024 .f32 := Host.absf main_v15
  let main_cst_4 : FVec F S_ .f32 := constant S_ .f32 0x7F800000#32
  fn_part1 (F := F) main_v14 main_v16 main_cst_4
-- ==== Kernel.lean ====
abbrev S8704x512 : Shape := ⟨2, ![8704, 512]⟩
abbrev S3x512 : Shape := ⟨2, ![3, 512]⟩
abbrev S1x512 : Shape := ⟨2, ![1, 512]⟩
abbrev S128x128 : Shape := ⟨2, ![128, 128]⟩
abbrev S_ : Shape := ⟨0, ![]⟩
abbrev S2176x128 : Shape := ⟨2, ![2176, 128]⟩
abbrev S3x128 : Shape := ⟨2, ![3, 128]⟩
abbrev S1x128 : Shape := ⟨2, ![1, 128]⟩
abbrev S128 : Shape := ⟨1, ![128]⟩

abbrev nBuf : Space → Nat
  | .hbm => 56
  | .vmem => 23
  | .smem => 0
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x512, .bf16⟩
  | .hbm, ⟨3, _⟩ => ⟨S8704x512, .bf16⟩
  | .hbm, ⟨4, _⟩ => ⟨S3x512, .f32⟩
  | .hbm, ⟨5, _⟩ => ⟨S1x512, .f32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i1⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S128x128, .i1⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S_, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S_, .i32⟩
  | .hbm, ⟨32, _⟩ => ⟨S128x128, .i32⟩
  | .hbm, ⟨33, _⟩ => ⟨S128x128, .i1⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i1⟩
  | .hbm, ⟨39, _⟩ => ⟨S128x128, .i1⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S_, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .bf16⟩
  | .hbm, ⟨51, _⟩ => ⟨S8704x512, .bf16⟩
  | .hbm, ⟨52, _⟩ => ⟨S8704x512, .bf16⟩
  | .hbm, ⟨53, _⟩ => ⟨S8704x512, .bf16⟩
  | .hbm, ⟨54, _⟩ => ⟨S3x512, .f32⟩
  | .hbm, ⟨55, _⟩ => ⟨S1x512, .f32⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S2176x128, .bf16⟩
  | .local _ .vmem, ⟨14, _⟩ => ⟨S2176x128, .bf16⟩
  | .local _ .vmem, ⟨15, _⟩ => ⟨S2176x128, .bf16⟩
  | .local _ .vmem, ⟨16, _⟩ => ⟨S2176x128, .bf16⟩
  | .local _ .vmem, ⟨17, _⟩ => ⟨S2176x128, .bf16⟩
  | .local _ .vmem, ⟨18, _⟩ => ⟨S2176x128, .bf16⟩
  | .local _ .vmem, ⟨19, _⟩ => ⟨S3x128, .f32⟩
  | .local _ .vmem, ⟨20, _⟩ => ⟨S3x128, .f32⟩
  | .local _ .vmem, ⟨21, _⟩ => ⟨S1x128, .f32⟩
  | .local _ .vmem, ⟨22, _⟩ => ⟨S1x128, .f32⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_cst : Ref sig .tc := ⟨.hbm, 45, rfl⟩
abbrev main_cst_1 : Ref sig .tc := ⟨.hbm, 46, rfl⟩
abbrev main_call2_v0 : Ref sig .tc := ⟨.hbm, 47, rfl⟩
abbrev main_call2_v1 : Ref sig .tc := ⟨.hbm, 48, rfl⟩
abbrev main_v5 : Ref sig .tc := ⟨.hbm, 49, rfl⟩
abbrev main_v6 : Ref sig .tc := ⟨.hbm, 50, rfl⟩
abbrev main_v7_0 : Ref sig .tc := ⟨.hbm, 51, rfl⟩
abbrev main_v7_1 : Ref sig .tc := ⟨.hbm, 52, rfl⟩
abbrev main_v7_2 : Ref sig .tc := ⟨.hbm, 53, rfl⟩
abbrev main_v7_3 : Ref sig .tc := ⟨.hbm, 54, rfl⟩
abbrev main_v7_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2176x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2176x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8704x512 : Shape := ⟨2, ![8704, 512]⟩
abbrev S3x512 : Shape := ⟨2, ![3, 512]⟩
abbrev S1x512 : Shape := ⟨2, ![1, 512]⟩
abbrev S4x2176x512 : Shape := ⟨3, ![4, 2176, 512]⟩
abbrev S512 : Shape := ⟨1, ![512]⟩
abbrev S4x2x512 : Shape := ⟨3, ![4, 2, 512]⟩
abbrev S_ : Shape := ⟨0, ![]⟩
abbrev S4x2174x512 : Shape := ⟨3, ![4, 2174, 512]⟩
abbrev S1x1x512 : Shape := ⟨3, ![1, 1, 512]⟩
abbrev S4x1x512 : Shape := ⟨3, ![4, 1, 512]⟩
abbrev S4x2175x512 : Shape := ⟨3, ![4, 2175, 512]⟩
abbrev S4x2176x8x64 : Shape := ⟨4, ![4, 2176, 8, 64]⟩
abbrev S4x2176x8 : Shape := ⟨3, ![4, 2176, 8]⟩
abbrev S4x2176x8x1 : Shape := ⟨4, ![4, 2176, 8, 1]⟩

abbrev nBuf : Space → Nat
  | .hbm => 152
  | .vmem => 0
  | .smem => 0
  | _ => 0

abbrev hbmTy0_0 (i : Nat) : BufTy := match i % 128 with
  | 0 => ⟨S8704x512, .bf16⟩
  | 1 => ⟨S8704x512, .bf16⟩
  | 2 => ⟨S8704x512, .bf16⟩
  | 3 => ⟨S8704x512, .bf16⟩
  | 4 => ⟨S3x512, .f32⟩
  | 5 => ⟨S1x512, .f32⟩
  | 6 => ⟨S8704x512, .f32⟩
  | 7 => ⟨S4x2176x512, .f32⟩
  | 8 => ⟨S8704x512, .f32⟩
  | 9 => ⟨S4x2176x512, .f32⟩
  | 10 => ⟨S8704x512, .f32⟩
  | 11 => ⟨S4x2176x512, .f32⟩
  | 12 => ⟨S4x2176x512, .f32⟩
  | 13 => ⟨S1x512, .f32⟩
  | 14 => ⟨S512, .f32⟩
  | 15 => ⟨S4x2x512, .f32⟩
  | 16 => ⟨S_, .f32⟩
  | 17 => ⟨S4x2x512, .f32⟩
  | 18 => ⟨S4x2174x512, .f32⟩
  | 19 => ⟨S4x2176x512, .f32⟩
  | 20 => ⟨S_, .f32⟩
  | 21 => ⟨S4x2x512, .f32⟩
  | 22 => ⟨S1x1x512, .f32⟩
  | 23 => ⟨S4x2176x512, .f32⟩
  | 24 => ⟨S4x2176x512, .f32⟩
  | 25 => ⟨S1x512, .f32⟩
  | 26 => ⟨S512, .f32⟩
  | 27 => ⟨S4x1x512, .f32⟩
  | 28 => ⟨S_, .f32⟩
  | 29 => ⟨S4x1x512, .f32⟩
  | 30 => ⟨S4x2175x512, .f32⟩
  | 31 => ⟨S4x2176x512, .f32⟩
  | 32 => ⟨S_, .f32⟩
  | 33 => ⟨S4x1x512, .f32⟩
  | 34 => ⟨S1x1x512, .f32⟩
  | 35 => ⟨S4x2176x512, .f32⟩
  | 36 => ⟨S4x2176x512, .f32⟩
  | 37 => ⟨S4x2176x512, .f32⟩
  | 38 => ⟨S1x512, .f32⟩
  | 39 => ⟨S512, .f32⟩
  | 40 => ⟨S1x1x512, .f32⟩
  | 41 => ⟨S4x2176x512, .f32⟩
  | 42 => ⟨S4x2176x512, .f32⟩
  | 43 => ⟨S4x2176x512, .f32⟩
  | 44 => ⟨S4x2176x512, .f32⟩
  | 45 => ⟨S4x2176x8x64, .f32⟩
  | 46 => ⟨S4x2176x8x64, .f32⟩
  | 47 => ⟨S_, .f32⟩
  | 48 => ⟨S4x2176x8, .f32⟩
  | 49 => ⟨S4x2176x8x1, .f32⟩
  | 50 => ⟨S_, .f32⟩
  | 51 => ⟨S4x2176x8x1, .f32⟩
  | 52 => ⟨S4x2176x8x1, .f32⟩
  | 53 => ⟨S_, .f32⟩
  | 54 => ⟨S4x2176x8x1, .f32⟩
  | 55 => ⟨S4x2176x8x1, .f32⟩
  | 56 => ⟨S4x2176x8x1, .f32⟩
  | 57 => ⟨S4x2176x8x1, .f32⟩
  | 58 => ⟨S_, .f32⟩
  | 59 => ⟨S4x2176x8x1, .f32⟩
  | 60 => ⟨S4x2176x8x1, .f32⟩
  | 61 => ⟨S4x2176x8x64, .f32⟩
  | 62 => ⟨S4x2176x8x64, .f32⟩
  | 63 => ⟨S4x2176x512, .f32⟩
  | 64 => ⟨S1x1x512, .f32⟩
  | 65 => ⟨S4x2176x512, .f32⟩
  | 66 => ⟨S4x2176x512, .f32⟩
  | 67 => ⟨S8704x512, .f32⟩
  | 68 => ⟨S4x2176x512, .f32⟩
  | 69 => ⟨S4x2176x512, .f32⟩
  | 70 => ⟨S_, .f32⟩
  | 71 => ⟨S512, .f32⟩
  | 72 => ⟨S1x1x512, .f32⟩
  | 73 => ⟨S4x2176x512, .f32⟩
  | 74 => ⟨S4x2176x512, .f32⟩
  | 75 => ⟨S_, .f32⟩
  | 76 => ⟨S512, .f32⟩
  | 77 => ⟨S1x512, .f32⟩
  | 78 => ⟨S4x2176x8x64, .f32⟩
  | 79 => ⟨S4x2176x8x64, .f32⟩
  | 80 => ⟨S_, .f32⟩
  | 81 => ⟨S4x2176x8, .f32⟩
  | 82 => ⟨S4x2176x8x1, .f32⟩
  | 83 => ⟨S4x2176x8x64, .f32⟩
  | 84 => ⟨S4x2176x8x64, .f32⟩
  | 85 => ⟨S4x2176x8x1, .f32⟩
  | 86 => ⟨S_, .f32⟩
  | 87 => ⟨S4x2176x8x1, .f32⟩
  | 88 => ⟨S4x2176x8x1, .f32⟩
  | 89 => ⟨S_, .f32⟩
  | 90 => ⟨S4x2176x8, .f32⟩
  | 91 => ⟨S4x2176x8x64, .f32⟩
  | 92 => ⟨S4x2176x8x64, .f32⟩
  | 93 => ⟨S4x2176x8x64, .f32⟩
  | 94 => ⟨S4x2176x8x64, .f32⟩
  | 95 => ⟨S4x2176x8x64, .f32⟩
  | 96 => ⟨S4x2176x512, .f32⟩
  | 97 => ⟨S4x2176x512, .f32⟩
  | 98 => ⟨S4x2176x512, .f32⟩
  | 99 => ⟨S4x2176x512, .f32⟩
  | 100 => ⟨S4x2176x512, .f32⟩
  | 101 => ⟨S4x2176x512, .f32⟩
  | 102 => ⟨S_, .f32⟩
  | 103 => ⟨S512, .f32⟩
  | 104 => ⟨S1x1x512, .f32⟩
  | 105 => ⟨S_, .f32⟩
  | 106 => ⟨S512, .f32⟩
  | 107 => ⟨S1x512, .f32⟩
  | 108 => ⟨S_, .f32⟩
  | 109 => ⟨S3x512, .f32⟩
  | 110 => ⟨S4x2176x512, .f32⟩
  | 111 => ⟨S4x2176x512, .f32⟩
  | 112 => ⟨S4x2176x512, .f32⟩
  | 113 => ⟨S_, .f32⟩
  | 114 => ⟨S512, .f32⟩
  | 115 => ⟨S1x1x512, .f32⟩
  | 116 => ⟨S_, .f32⟩
  | 117 => ⟨S512, .f32⟩
  | 118 => ⟨S4x1x512, .f32⟩
  | 119 => ⟨S4x2175x512, .f32⟩
  | 120 => ⟨S_, .f32⟩
  | 121 => ⟨S4x2176x512, .f32⟩
  | 122 => ⟨S4x2176x512, .f32⟩
  | 123 => ⟨S1x512, .f32⟩
  | 124 => ⟨S_, .f32⟩
  | 125 => ⟨S3x512, .f32⟩
  | 126 => ⟨S3x512, .f32⟩
  | 127 => ⟨S4x2176x512, .f32⟩
  | _ => ⟨S8704x512, .bf16⟩

abbrev hbmTy0_1 (i : Nat) : BufTy := match i % 128 with
  | 0 => ⟨S4x2176x512, .f32⟩
  | 1 => ⟨S4x2176x512, .f32⟩
  | 2 => ⟨S_, .f32⟩
  | 3 => ⟨S512, .f32⟩
  | 4 => ⟨S1x1x512, .f32⟩
  | 5 => ⟨S_, .f32⟩
  | 6 => ⟨S512, .f32⟩
  | 7 => ⟨S4x2x512, .f32⟩
  | 8 => ⟨S4x2174x512, .f32⟩
  | 9 => ⟨S_, .f32⟩
  | 10 => ⟨S4x2176x512, .f32⟩
  | 11 => ⟨S4x2176x512, .f32⟩
  | 12 => ⟨S1x512, .f32⟩
  | 13 => ⟨S_, .f32⟩
  | 14 => ⟨S3x512, .f32⟩
  | 15 => ⟨S3x512, .f32⟩
  | 16 => ⟨S4x2176x512, .f32⟩
  | 17 => ⟨S4x2176x512, .f32⟩
  | 18 => ⟨S8704x512, .f32⟩
  | 19 => ⟨S8704x512, .bf16⟩
  | 20 => ⟨S8704x512, .f32⟩
  | 21 => ⟨S8704x512, .bf16⟩
  | 22 => ⟨S8704x512, .f32⟩
  | 23 => ⟨S8704x512, .bf16⟩
  | _ => ⟨S8704x512, .bf16⟩

abbrev hbmTy (i : Nat) : BufTy := match i / 128 with
  | 0 => hbmTy0_0 i
  | 1 => hbmTy0_1 i
  | _ => ⟨S8704x512, .bf16⟩

abbrev bufTy : (tb : Table) → Fin (tcTables nBuf tb) → BufTy
  | .hbm, ⟨i, _⟩ => hbmTy i
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_12 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_cst_16 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_17 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_18 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_19 : Ref sig .tc := ⟨.hbm, 130, rfl⟩
abbrev main_v104 : Ref sig .tc := ⟨.hbm, 131, rfl⟩
abbrev main_v105 : Ref sig .tc := ⟨.hbm, 132, rfl⟩
abbrev main_cst_20 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_21 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_22 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩

abbrev nD : Nat := 1
abbrev τ : Topo := Topo.v7x

variable {F : FTy → Type} [FloatOps F]
-- ==== Fgate.lean ====
abbrev S8704x128 : Shape := ⟨2, ![8704, 128]⟩
abbrev S4x8x2176 : Shape := ⟨3, ![4, 8, 2176]⟩
abbrev S1x8 : Shape := ⟨2, ![1, 8]⟩
abbrev S_ : Shape := ⟨0, ![]⟩
abbrev S1x128 : Shape := ⟨2, ![1, 128]⟩
abbrev S2176x128 : Shape := ⟨2, ![2176, 128]⟩
abbrev S1x8x2176 : Shape := ⟨3, ![1, 8, 2176]⟩
abbrev S8x2176 : Shape := ⟨2, ![8, 2176]⟩
abbrev S120x2176 : Shape := ⟨2, ![120, 2176]⟩
abbrev S128x2176 : Shape := ⟨2, ![128, 2176]⟩
abbrev S128 : Shape := ⟨1, ![128]⟩

abbrev nBuf : Space → Nat
  | .hbm => 9
  | .vmem => 10
  | .smem => 0
  | _ => 0

abbrev bufTy : (tb : Table) → Fin (tcTables nBuf tb) → BufTy
  | .hbm, ⟨0, _⟩ => ⟨S8704x128, .f32⟩
  | .hbm, ⟨1, _⟩ => ⟨S4x8x2176, .f32⟩
  | .hbm, ⟨2, _⟩ => ⟨S8704x128, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S8704x128, .f32⟩
  | .hbm, ⟨8, _⟩ => ⟨S1x128, .f32⟩
  | .local _ .vmem, ⟨0, _⟩ => ⟨S2176x128, .f32⟩
  | .local _ .vmem, ⟨1, _⟩ => ⟨S2176x128, .f32⟩
  | .local _ .vmem, ⟨2, _⟩ => ⟨S1x8x2176, .f32⟩
  | .local _ .vmem, ⟨3, _⟩ => ⟨S1x8x2176, .f32⟩
  | .local _ .vmem, ⟨4, _⟩ => ⟨S2176x128, .f32⟩
  | .local _ .vmem, ⟨5, _⟩ => ⟨S2176x128, .f32⟩
  | .local _ .vmem, ⟨6, _⟩ => ⟨S1x128, .f32⟩
  | .local _ .vmem, ⟨7, _⟩ => ⟨S2176x128, .f32⟩
  | .local _ .vmem, ⟨8, _⟩ => ⟨S2176x128, .f32⟩
  | .local _ .vmem, ⟨9, _⟩ => ⟨S1x128, .f32⟩
  | _, _ => ⟨S8704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FgateReferenceIdeal.lean ====
abbrev S8704x128 : Shape := ⟨2, ![8704, 128]⟩
abbrev S4x8x2176 : Shape := ⟨3, ![4, 8, 2176]⟩
abbrev S1x8 : Shape := ⟨2, ![1, 8]⟩
abbrev S4x2176x128 : Shape := ⟨3, ![4, 2176, 128]⟩
abbrev S4x2064x8 : Shape := ⟨3, ![4, 2064, 8]⟩
abbrev S8 : Shape := ⟨1, ![8]⟩
abbrev S1x1x8 : Shape := ⟨3, ![1, 1, 8]⟩
abbrev S_ : Shape := ⟨0, ![]⟩
abbrev S4x8x2064 : Shape := ⟨3, ![4, 8, 2064]⟩
abbrev S128 : Shape := ⟨1, ![128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S8704x128, .f32⟩
  | .hbm, ⟨1, _⟩ => ⟨S4x8x2176, .f32⟩
  | .hbm, ⟨2, _⟩ => ⟨S8704x128, .f32⟩
  | .hbm, ⟨3, _⟩ => ⟨S1x8, .f32⟩
  | .hbm, ⟨4, _⟩ => ⟨S4x2176x128, .f32⟩
  | .hbm, ⟨5, _⟩ => ⟨S4x2064x8, .f32⟩
  | .hbm, ⟨6, _⟩ => ⟨S8, .f32⟩
  | .hbm, ⟨7, _⟩ => ⟨S1x1x8, .f32⟩
  | .hbm, ⟨8, _⟩ => ⟨S4x2064x8, .f32⟩
  | .hbm, ⟨9, _⟩ => ⟨S4x2064x8, .f32⟩
  | .hbm, ⟨10, _⟩ => ⟨S4x2064x8, .f32⟩
  | .hbm, ⟨11, _⟩ => ⟨S_, .f32⟩
  | .hbm, ⟨12, _⟩ => ⟨S4x2064x8, .f32⟩
  | .hbm, ⟨13, _⟩ => ⟨S4x2064x8, .f32⟩
  | .hbm, ⟨14, _⟩ => ⟨S4x2064x8, .f32⟩
  | .hbm, ⟨15, _⟩ => ⟨S4x2064x8, .f32⟩
  | .hbm, ⟨16, _⟩ => ⟨S4x2064x8, .i1⟩
  | .hbm, ⟨17, _⟩ => ⟨S4x2064x8, .f32⟩
  | .hbm, ⟨18, _⟩ => ⟨S4x2064x8, .f32⟩
  | .hbm, ⟨19, _⟩ => ⟨S4x2064x8, .f32⟩
  | .hbm, ⟨20, _⟩ => ⟨S4x2064x8, .f32⟩
  | .hbm, ⟨21, _⟩ => ⟨S4x2064x8, .f32⟩
  | .hbm, ⟨22, _⟩ => ⟨S4x2064x8, .f32⟩
  | .hbm, ⟨23, _⟩ => ⟨S4x2064x8, .f32⟩
  | .hbm, ⟨24, _⟩ => ⟨S4x2064x8, .f32⟩
  | .hbm, ⟨25, _⟩ => ⟨S_, .f32⟩
  | .hbm, ⟨26, _⟩ => ⟨S4x2064x8, .f32⟩
  | .hbm, ⟨27, _⟩ => ⟨S4x2064x8, .i1⟩
  | .hbm, ⟨28, _⟩ => ⟨S_, .f32⟩
  | .hbm, ⟨29, _⟩ => ⟨S4x2064x8, .f32⟩
  | .hbm, ⟨30, _⟩ => ⟨S4x2064x8, .f32⟩
  | .hbm, ⟨31, _⟩ => ⟨S_, .f32⟩
  | .hbm, ⟨32, _⟩ => ⟨S4x2064x8, .f32⟩
  | .hbm, ⟨33, _⟩ => ⟨S4x2064x8, .i1⟩
  | .hbm, ⟨34, _⟩ => ⟨S_, .f32⟩
  | .hbm, ⟨35, _⟩ => ⟨S4x2064x8, .f32⟩
  | .hbm, ⟨36, _⟩ => ⟨S4x2064x8, .f32⟩
  | .hbm, ⟨37, _⟩ => ⟨S4x2064x8, .f32⟩
  | .hbm, ⟨38, _⟩ => ⟨S4x2064x8, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x2064x8, .f32⟩
  | .hbm, ⟨47, _⟩ => ⟨S4x2064x8, .i1⟩
  | .hbm, ⟨48, _⟩ => ⟨S_, .f32⟩
  | .hbm, ⟨49, _⟩ => ⟨S4x2064x8, .f32⟩
  | .hbm, ⟨50, _⟩ => ⟨S4x2064x8, .f32⟩
  | .hbm, ⟨51, _⟩ => ⟨S4x2064x8, .f32⟩
  | .hbm, ⟨52, _⟩ => ⟨S4x2064x8, .f32⟩
  | .hbm, ⟨53, _⟩ => ⟨S4x2064x8, .f32⟩
  | .hbm, ⟨54, _⟩ => ⟨S_, .f32⟩
  | .hbm, ⟨55, _⟩ => ⟨S4x2064x8, .f32⟩
  | .hbm, ⟨56, _⟩ => ⟨S4x2064x8, .f32⟩
  | .hbm, ⟨57, _⟩ => ⟨S4x2064x8, .f32⟩
  | .hbm, ⟨58, _⟩ => ⟨S_, .f32⟩
  | .hbm, ⟨59, _⟩ => ⟨S_, .f32⟩
  | .hbm, ⟨60, _⟩ => ⟨S4x2064x8, .f32⟩
  | .hbm, ⟨61, _⟩ => ⟨S4x2176x128, .f32⟩
  | .hbm, ⟨62, _⟩ => ⟨S4x2064x8, .f32⟩
  | .hbm, ⟨63, _⟩ => ⟨S4x8x2064, .f32⟩
  | .hbm, ⟨64, _⟩ => ⟨S4x2064x8, .f32⟩
  | .hbm, ⟨65, _⟩ => ⟨S4x2064x8, .f32⟩
  | .hbm, ⟨66, _⟩ => ⟨S_, .f32⟩
  | .hbm, ⟨67, _⟩ => ⟨S_, .f32⟩
  | .hbm, ⟨68, _⟩ => ⟨S4x2064x8, .f32⟩
  | .hbm, ⟨69, _⟩ => ⟨S4x2064x8, .f32⟩
  | .hbm, ⟨70, _⟩ => ⟨S4x2064x8, .f32⟩
  | .hbm, ⟨71, _⟩ => ⟨S4x2064x8, .f32⟩
  | .hbm, ⟨72, _⟩ => ⟨S_, .f32⟩
  | .hbm, ⟨73, _⟩ => ⟨S8, .f32⟩
  | .hbm, ⟨74, _⟩ => ⟨S1x1x8, .f32⟩
  | .hbm, ⟨75, _⟩ => ⟨S_, .f32⟩
  | .hbm, ⟨76, _⟩ => ⟨S8, .f32⟩
  | .hbm, ⟨77, _⟩ => ⟨S_, .i32⟩
  | .hbm, ⟨78, _⟩ => ⟨S_, .f32⟩
  | .hbm, ⟨79, _⟩ => ⟨S4x2176x128, .f32⟩
  | .hbm, ⟨80, _⟩ => ⟨S8704x128, .f32⟩
  | .hbm, ⟨81, _⟩ => ⟨S_, .i32⟩
  | .hbm, ⟨82, _⟩ => ⟨S_, .f32⟩
  | .hbm, ⟨83, _⟩ => ⟨S128, .f32⟩
  | .hbm, ⟨84, _⟩ => ⟨S1x128, .f32⟩
  | _, _ => ⟨S8704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1_0 : Ref sig .tc := ⟨.hbm, 24, rfl⟩
abbrev main_call0_call0_cst_0 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst_1 : Ref sig .tc := ⟨.hbm, 28, rfl⟩
abbrev main_call0_call0_v15 : Ref sig .tc := ⟨.hbm, 29, rfl⟩
abbrev main_call0_call0_v16 : Ref sig .tc := ⟨.hbm, 30, rfl⟩
abbrev main_call0_call0_cst_2 : Ref sig .tc := ⟨.hbm, 31, rfl⟩
abbrev main_call0_call0_v17 : Ref sig .tc := ⟨.hbm, 32, rfl⟩
abbrev main_call0_call0_v18 : Ref sig .tc := ⟨.hbm, 33, rfl⟩
abbrev main_call0_call0_cst_3 : Ref sig .tc := ⟨.hbm, 34, rfl⟩
abbrev main_call0_call0_v19 : Ref sig .tc := ⟨.hbm, 35, rfl⟩
abbrev main_call0_call0_v20 : Ref sig .tc := ⟨.hbm, 36, rfl⟩
abbrev main_call0_call0_v21 : Ref sig .tc := ⟨.hbm, 37, rfl⟩
abbrev main_v6_1 : Ref sig .tc := ⟨.hbm, 38, rfl⟩
abbrev main_call0_call0_cst_4 : Ref sig .tc := ⟨.hbm, 39, rfl⟩
abbrev main_call0_call0_cst_5 : Ref sig .tc := ⟨.hbm, 40, rfl⟩
abbrev main_call0_call0_v23 : Ref sig .tc := ⟨.hbm, 41, rfl⟩
abbrev main_call0_call0_cst_6 : Ref sig .tc := ⟨.hbm, 42, rfl⟩
abbrev main_call0_call0_cst_7 : Ref sig .tc := ⟨.hbm, 43, rfl⟩
abbrev main_call0_call0_v24 : Ref sig .tc := ⟨.hbm, 44, rfl⟩
abbrev main_call0_call0_cst_8 : Ref sig .tc := ⟨.hbm, 45, rfl⟩
abbrev main_call0_call0_v25 : Ref sig .tc := ⟨.hbm, 46, rfl⟩
abbrev main_call0_call0_v26 : Ref sig .tc := ⟨.hbm, 47, rfl⟩
abbrev main_call0_call0_cst_9 : Ref sig .tc := ⟨.hbm, 48, rfl⟩
abbrev main_call0_call0_v27 : Ref sig .tc := ⟨.hbm, 49, rfl⟩
abbrev main_call0_call0_v28 : Ref sig .tc := ⟨.hbm, 50, rfl⟩
abbrev main_call0_call0_v29 : Ref sig .tc := ⟨.hbm, 51, rfl⟩
abbrev main_call0_call0_v30 : Ref sig .tc := ⟨.hbm, 52, rfl⟩
abbrev main_call0_call0_v31 : Ref sig .tc := ⟨.hbm, 53, rfl⟩
abbrev main_call0_call0_cst_10 : Ref sig .tc := ⟨.hbm, 54, rfl⟩
abbrev main_call0_call0_v32 : Ref sig .tc := ⟨.hbm, 55, rfl⟩
abbrev main_v6_2 : Ref sig .tc := ⟨.hbm, 56, rfl⟩
abbrev main_v6_0 : Ref sig .tc := ⟨.hbm, 57, rfl⟩
abbrev main_call1_call0_cst : Ref sig .tc := ⟨.hbm, 58, rfl⟩
abbrev main_call1_call0_v0 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_call2_call0_cst : Ref sig .tc := ⟨.hbm, 66, rfl⟩
abbrev main_call2_call0_v0 : Ref sig .tc := ⟨.hbm, 67, rfl⟩
abbrev main_v13 : Ref sig .tc := ⟨.hbm, 68, rfl⟩
abbrev main_call3_v0 : Ref sig .tc := ⟨.hbm, 69, rfl⟩
abbrev main_call3_v1 : Ref sig .tc := ⟨.hbm, 70, rfl⟩
abbrev main_v14 : Ref sig .tc := ⟨.hbm, 71, rfl⟩
abbrev main_cst : Ref sig .tc := ⟨.hbm, 72, rfl⟩
abbrev main_v15 : Ref sig .tc := ⟨.hbm, 73, rfl⟩
abbrev main_v16 : Ref sig .tc := ⟨.hbm, 74, rfl⟩
abbrev main_cst_0 : Ref sig .tc := ⟨.hbm, 75, rfl⟩
abbrev main_v17 : Ref sig .tc := ⟨.hbm, 76, rfl⟩
abbrev main_c : Ref sig .tc := ⟨.hbm, 77, rfl⟩
abbrev main_call4_v0 : Ref sig .tc := ⟨.hbm, 78, rfl⟩
abbrev main_v18 : Ref sig .tc := ⟨.hbm, 79, rfl⟩
abbrev main_v19 : Ref sig .tc := ⟨.hbm, 80, rfl⟩
abbrev main_c_1 : Ref sig .tc := ⟨.hbm, 81, rfl⟩
abbrev main_call5_v0 : Ref sig .tc := ⟨.hbm, 82, rfl⟩
abbrev main_v20 : Ref sig .tc := ⟨.hbm, 83, rfl⟩
abbrev main_v21 : Ref sig .tc := ⟨.hbm, 84, rfl⟩

abbrev nD : Nat := 1
abbrev τ : Topo := Topo.v7x

variable {F : FTy → Type} [FloatOps F]
-- ==== Act.lean ====
abbrev S8704x1024 : Shape := ⟨2, ![8704, 1024]⟩
abbrev S8704x2816 : Shape := ⟨2, ![8704, 2816]⟩
abbrev S2816x1024 : Shape := ⟨2, ![2816, 1024]⟩
abbrev S8704x5632 : Shape := ⟨2, ![8704, 5632]⟩
abbrev S256x1024 : Shape := ⟨2, ![256, 1024]⟩
abbrev S256x2816 : Shape := ⟨2, ![256, 2816]⟩
abbrev S256x5632 : Shape := ⟨2, ![256, 5632]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S8704x1024, .f32⟩
  | .hbm, ⟨1, _⟩ => ⟨S8704x2816, .bf16⟩
  | .hbm, ⟨2, _⟩ => ⟨S8704x2816, .bf16⟩
  | .hbm, ⟨3, _⟩ => ⟨S2816x1024, .bf16⟩
  | .hbm, ⟨4, _⟩ => ⟨S8704x5632, .bf16⟩
  | .hbm, ⟨5, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S256x5632, .bf16⟩
  | .local _ .vmem, ⟨8, _⟩ => ⟨S256x5632, .bf16⟩
  | .local _ .vmem, ⟨9, _⟩ => ⟨S2816x1024, .bf16⟩
  | .local _ .vmem, ⟨10, _⟩ => ⟨S2816x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c33_i32 : BitVec 32 := 33#32
  let v370 : BitVec 1 := Scalar.cmpi .eq arg0 c33_i32
  let v371 : BitVec 32 := Scalar.extui v370
  let c0_i32_201 : BitVec 32 := 0#32
  let v372 : BitVec 1 := Scalar.cmpi .ne v371 c0_i32_201
  v372

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ActReferenceIdeal.lean ====
abbrev S8704x1024 : Shape := ⟨2, ![8704, 1024]⟩
abbrev S8704x2816 : Shape := ⟨2, ![8704, 2816]⟩
abbrev S2816x1024 : Shape := ⟨2, ![2816, 1024]⟩
abbrev S_ : Shape := ⟨0, ![]⟩
abbrev S1024x2816 : Shape := ⟨2, ![1024, 2816]⟩
abbrev S8704x5632 : Shape := ⟨2, ![8704, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x2816, .bf16⟩
  | .hbm, ⟨2, _⟩ => ⟨S8704x2816, .bf16⟩
  | .hbm, ⟨3, _⟩ => ⟨S2816x1024, .bf16⟩
  | .hbm, ⟨4, _⟩ => ⟨S8704x2816, .f32⟩
  | .hbm, ⟨5, _⟩ => ⟨S8704x2816, .f32⟩
  | .hbm, ⟨6, _⟩ => ⟨S2816x1024, .f32⟩
  | .hbm, ⟨7, _⟩ => ⟨S8704x2816, .f32⟩
  | .hbm, ⟨8, _⟩ => ⟨S8704x2816, .f32⟩
  | .hbm, ⟨9, _⟩ => ⟨S_, .f32⟩
  | .hbm, ⟨10, _⟩ => ⟨S8704x2816, .f32⟩
  | .hbm, ⟨11, _⟩ => ⟨S8704x2816, .f32⟩
  | .hbm, ⟨12, _⟩ => ⟨S_, .f32⟩
  | .hbm, ⟨13, _⟩ => ⟨S8704x2816, .f32⟩
  | .hbm, ⟨14, _⟩ => ⟨S8704x2816, .f32⟩
  | .hbm, ⟨15, _⟩ => ⟨S_, .f32⟩
  | .hbm, ⟨16, _⟩ => ⟨S8704x2816, .f32⟩
  | .hbm, ⟨17, _⟩ => ⟨S8704x2816, .f32⟩
  | .hbm, ⟨18, _⟩ => ⟨S8704x2816, .f32⟩
  | .hbm, ⟨19, _⟩ => ⟨S8704x2816, .f32⟩
  | .hbm, ⟨20, _⟩ => ⟨S8704x2816, .f32⟩
  | .hbm, ⟨21, _⟩ => ⟨S8704x1024, .f32⟩
  | .hbm, ⟨22, _⟩ => ⟨S_, .f32⟩
  | .hbm, ⟨23, _⟩ => ⟨S8704x1024, .f32⟩
  | .hbm, ⟨24, _⟩ => ⟨S8704x1024, .f32⟩
  | .hbm, ⟨25, _⟩ => ⟨S_, .f32⟩
  | .hbm, ⟨26, _⟩ => ⟨S8704x1024, .f32⟩
  | .hbm, ⟨27, _⟩ => ⟨S8704x1024, .f32⟩
  | .hbm, ⟨28, _⟩ => ⟨S1024x2816, .f32⟩
  | .hbm, ⟨29, _⟩ => ⟨S2816x1024, .f32⟩
  | .hbm, ⟨30, _⟩ => ⟨S8704x2816, .f32⟩
  | .hbm, ⟨31, _⟩ => ⟨S8704x2816, .f32⟩
  | .hbm, ⟨32, _⟩ => ⟨S8704x2816, .f32⟩
  | .hbm, ⟨33, _⟩ => ⟨S8704x2816, .f32⟩
  | .hbm, ⟨34, _⟩ => ⟨S8704x2816, .f32⟩
  | .hbm, ⟨35, _⟩ => ⟨S8704x2816, .f32⟩
  | .hbm, ⟨36, _⟩ => ⟨S8704x2816, .f32⟩
  | .hbm, ⟨37, _⟩ => ⟨S8704x5632, .f32⟩
  | .hbm, ⟨38, _⟩ => ⟨S8704x5632, .bf16⟩
  | .hbm, ⟨39, _⟩ => ⟨S2816x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Norm.lean ====
abbrev S8704x1024 : Shape := ⟨2, ![8704, 1024]⟩
abbrev S1x1024 : Shape := ⟨2, ![1, 1024]⟩
abbrev S8704x5632 : Shape := ⟨2, ![8704, 5632]⟩
abbrev S2x2816x1024 : Shape := ⟨3, ![2, 2816, 1024]⟩
abbrev S_ : Shape := ⟨0, ![]⟩
abbrev S16x1024 : Shape := ⟨2, ![16, 1024]⟩
abbrev S5632x1024 : Shape := ⟨2, ![5632, 1024]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S8704x5632, .bf16⟩
  | .hbm, ⟨4, _⟩ => ⟨S2x2816x1024, .bf16⟩
  | .hbm, ⟨5, _⟩ => ⟨S_, .f32⟩
  | .hbm, ⟨6, _⟩ => ⟨S16x1024, .f32⟩
  | .hbm, ⟨7, _⟩ => ⟨S5632x1024, .bf16⟩
  | .hbm, ⟨8, _⟩ => ⟨S8704x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x5632, .bf16⟩
  | .local _ .vmem, ⟨7, _⟩ => ⟨S512x5632, .bf16⟩
  | .local _ .vmem, ⟨8, _⟩ => ⟨S5632x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormReferenceIdeal.lean ====
abbrev S8704x1024 : Shape := ⟨2, ![8704, 1024]⟩
abbrev S1x1024 : Shape := ⟨2, ![1, 1024]⟩
abbrev S8704x5632 : Shape := ⟨2, ![8704, 5632]⟩
abbrev S2x2816x1024 : Shape := ⟨3, ![2, 2816, 1024]⟩
abbrev S5632x1024 : Shape := ⟨2, ![5632, 1024]⟩
abbrev S1024x5632 : Shape := ⟨2, ![1024, 5632]⟩
abbrev S_ : Shape := ⟨0, ![]⟩
abbrev S8704 : Shape := ⟨1, ![8704]⟩
abbrev S8704x1 : Shape := ⟨2, ![8704, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S8704x5632, .bf16⟩
  | .hbm, ⟨4, _⟩ => ⟨S2x2816x1024, .bf16⟩
  | .hbm, ⟨5, _⟩ => ⟨S2x2816x1024, .f32⟩
  | .hbm, ⟨6, _⟩ => ⟨S5632x1024, .f32⟩
  | .hbm, ⟨7, _⟩ => ⟨S1024x5632, .f32⟩
  | .hbm, ⟨8, _⟩ => ⟨S8704x1024, .f32⟩
  | .hbm, ⟨9, _⟩ => ⟨S_, .f32⟩
  | .hbm, ⟨10, _⟩ => ⟨S8704, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S_, .f32⟩
  | .hbm, ⟨21, _⟩ => ⟨S8704x1, .f32⟩
  | .hbm, ⟨22, _⟩ => ⟨S8704x1, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S8704x1024, .f32⟩
  | .hbm, ⟨27, _⟩ => ⟨S8704x5632, .f32⟩
  | .hbm, ⟨28, _⟩ => ⟨S8704x5632, .f32⟩
  | .hbm, ⟨29, _⟩ => ⟨S8704x1024, .f32⟩
  | .hbm, ⟨30, _⟩ => ⟨S8704x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8704x1024, .f32⟩
  | .hbm, ⟨35, _⟩ => ⟨S8704x1024, .f32⟩
  | .hbm, ⟨36, _⟩ => ⟨S8704x1024, .f32⟩
  | .hbm, ⟨37, _⟩ => ⟨S_, .f32⟩
  | .hbm, ⟨38, _⟩ => ⟨S8704, .f32⟩
  | .hbm, ⟨39, _⟩ => ⟨S8704x1, .f32⟩
  | .hbm, ⟨40, _⟩ => ⟨S8704x1024, .f32⟩
  | .hbm, ⟨41, _⟩ => ⟨S8704x1024, .f32⟩
  | .hbm, ⟨42, _⟩ => ⟨S8704x1024, .f32⟩
  | .hbm, ⟨43, _⟩ => ⟨S8704x1, .f32⟩
  | .hbm, ⟨44, _⟩ => ⟨S_, .f32⟩
  | .hbm, ⟨45, _⟩ => ⟨S8704x1, .f32⟩
  | .hbm, ⟨46, _⟩ => ⟨S8704x1, .f32⟩
  | .hbm, ⟨47, _⟩ => ⟨S_, .f32⟩
  | .hbm, ⟨48, _⟩ => ⟨S8704, .f32⟩
  | .hbm, ⟨49, _⟩ => ⟨S8704x1024, .f32⟩
  | .hbm, ⟨50, _⟩ => ⟨S8704x1024, .f32⟩
  | .hbm, ⟨51, _⟩ => ⟨S8704x1024, .f32⟩
  | .hbm, ⟨52, _⟩ => ⟨S8704x1024, .f32⟩
  | .hbm, ⟨53, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Wgu.lean ====
abbrev S8704x1024 : Shape := ⟨2, ![8704, 1024]⟩
abbrev S8704x5632 : Shape := ⟨2, ![8704, 5632]⟩
abbrev S5632x1024 : Shape := ⟨2, ![5632, 1024]⟩
abbrev S512x1024 : Shape := ⟨2, ![512, 1024]⟩
abbrev S512x5632 : Shape := ⟨2, ![512, 5632]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S5632x1024, .bf16⟩
  | .local _ .vmem, ⟨0, _⟩ => ⟨S512x1024, .bf16⟩
  | .local _ .vmem, ⟨1, _⟩ => ⟨S512x1024, .bf16⟩
  | .local _ .vmem, ⟨2, _⟩ => ⟨S512x5632, .bf16⟩
  | .local _ .vmem, ⟨3, _⟩ => ⟨S512x5632, .bf16⟩
  | .local _ .vmem, ⟨4, _⟩ => ⟨S5632x1024, .bf16⟩
  | .local _ .vmem, ⟨5, _⟩ => ⟨S5632x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v46 : BitVec 1 := Scalar.cmpi .eq arg0 c16_i32
  let v47 : BitVec 32 := Scalar.extui v46
  let c0_i32_38 : BitVec 32 := 0#32
  let v48 : BitVec 1 := Scalar.cmpi .ne v47 c0_i32_38
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WguReferenceIdeal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S_, .f32⟩
  | .hbm, ⟨3, _⟩ => ⟨S1024x5632, .f32⟩
  | .hbm, ⟨4, _⟩ => ⟨S8704x1024, .f32⟩
  | .hbm, ⟨5, _⟩ => ⟨S8704x5632, .f32⟩
  | .hbm, ⟨6, _⟩ => ⟨S8704x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Outproj.lean ====
abbrev S8704x1024 : Shape := ⟨2, ![8704, 1024]⟩
abbrev S8704x512 : Shape := ⟨2, ![8704, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 7
  | .vmem => 13
  | .smem => 0
  | _ => 0

abbrev bufTy : (tb : Table) → Fin (tcTables nBuf tb) → BufTy
  | .hbm, ⟨0, _⟩ => ⟨S8704x1024, .f32⟩
  | .hbm, ⟨1, _⟩ => ⟨S8704x512, .bf16⟩
  | .hbm, ⟨2, _⟩ => ⟨S8704x512, .bf16⟩
  | .hbm, ⟨3, _⟩ => ⟨S1024x1024, .bf16⟩
  | .hbm, ⟨4, _⟩ => ⟨S8704x512, .bf16⟩
  | .hbm, ⟨5, _⟩ => ⟨S8704x512, .bf16⟩
  | .hbm, ⟨6, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1024x1024, .bf16⟩
  | .local _ .vmem, ⟨12, _⟩ => ⟨S1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v27 : BitVec 1 := Scalar.cmpi .eq arg0 c16_i32
  let v28 : BitVec 32 := Scalar.extui v27
  let c0_i32_24 : BitVec 32 := 0#32
  let v29 : BitVec 1 := Scalar.cmpi .ne v28 c0_i32_24
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutprojReferenceIdeal.lean ====
abbrev S8704x1024 : Shape := ⟨2, ![8704, 1024]⟩
abbrev S8704x512 : Shape := ⟨2, ![8704, 512]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x512, .bf16⟩
  | .hbm, ⟨2, _⟩ => ⟨S8704x512, .bf16⟩
  | .hbm, ⟨3, _⟩ => ⟨S1024x1024, .bf16⟩
  | .hbm, ⟨4, _⟩ => ⟨S8704x512, .f32⟩
  | .hbm, ⟨5, _⟩ => ⟨S8704x512, .f32⟩
  | .hbm, ⟨6, _⟩ => ⟨S1024x1024, .f32⟩
  | .hbm, ⟨7, _⟩ => ⟨S8704x1024, .f32⟩
  | .hbm, ⟨8, _⟩ => ⟨S8704x1024, .f32⟩
  | .hbm, ⟨9, _⟩ => ⟨S1024x1024, .f32⟩
  | .hbm, ⟨10, _⟩ => ⟨S1024x1024, .f32⟩
  | .hbm, ⟨11, _⟩ => ⟨S8704x1024, .f32⟩
  | .hbm, ⟨12, _⟩ => ⟨S8704x512, .f32⟩
  | .hbm, ⟨13, _⟩ => ⟨S8704x512, .f32⟩
  | .hbm, ⟨14, _⟩ => ⟨S8704x512, .bf16⟩
  | .hbm, ⟨15, _⟩ => ⟨S8704x512, .bf16⟩
  | .hbm, ⟨16, _⟩ => ⟨S1024x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Inproj.lean ====
abbrev S8704x512 : Shape := ⟨2, ![8704, 512]⟩
abbrev S8704x128 : Shape := ⟨2, ![8704, 128]⟩
abbrev S8704x1024 : Shape := ⟨2, ![8704, 1024]⟩
abbrev S1x1024 : Shape := ⟨2, ![1, 1024]⟩
abbrev S3200x1024 : Shape := ⟨2, ![3200, 1024]⟩
abbrev S512x512 : Shape := ⟨2, ![512, 512]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x512, .bf16⟩
  | .hbm, ⟨3, _⟩ => ⟨S8704x512, .bf16⟩
  | .hbm, ⟨4, _⟩ => ⟨S8704x512, .bf16⟩
  | .hbm, ⟨5, _⟩ => ⟨S8704x512, .bf16⟩
  | .hbm, ⟨6, _⟩ => ⟨S8704x128, .f32⟩
  | .hbm, ⟨7, _⟩ => ⟨S8704x1024, .f32⟩
  | .hbm, ⟨8, _⟩ => ⟨S8704x1024, .f32⟩
  | .hbm, ⟨9, _⟩ => ⟨S1x1024, .f32⟩
  | .hbm, ⟨10, _⟩ => ⟨S3200x1024, .bf16⟩
  | .hbm, ⟨11, _⟩ => ⟨S8704x1024, .f32⟩
  | .hbm, ⟨12, _⟩ => ⟨S3200x1024, .bf16⟩
  | .hbm, ⟨13, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S3200x1024, .bf16⟩
  | .local _ .vmem, ⟨20, _⟩ => ⟨S512x1024, .f32⟩
  | .local _ .vmem, ⟨21, _⟩ => ⟨S512x1024, .f32⟩
  | .local _ .vmem, ⟨22, _⟩ => ⟨S3200x1024, .bf16⟩
  | .local _ .vmem, ⟨23, _⟩ => ⟨S1x1024, .f32⟩
  | .local _ .vmem, ⟨24, _⟩ => ⟨S3200x1024, .f32⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v112 : BitVec 1 := Scalar.cmpi .eq arg0 c16_i32
  let v113 : BitVec 32 := Scalar.extui v112
  let c0_i32_82 : BitVec 32 := 0#32
  let v114 : BitVec 1 := Scalar.cmpi .ne v113 c0_i32_82
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3200x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3200x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InprojReferenceIdeal.lean ====
abbrev S8704x512 : Shape := ⟨2, ![8704, 512]⟩
abbrev S8704x128 : Shape := ⟨2, ![8704, 128]⟩
abbrev S8704x1024 : Shape := ⟨2, ![8704, 1024]⟩
abbrev S1x1024 : Shape := ⟨2, ![1, 1024]⟩
abbrev S3200x1024 : Shape := ⟨2, ![3200, 1024]⟩
abbrev S_ : Shape := ⟨0, ![]⟩
abbrev S8704 : Shape := ⟨1, ![8704]⟩
abbrev S8704x1 : Shape := ⟨2, ![8704, 1]⟩
abbrev S1024x3200 : Shape := ⟨2, ![1024, 3200]⟩
abbrev S8704x3200 : Shape := ⟨2, ![8704, 3200]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x512, .bf16⟩
  | .hbm, ⟨3, _⟩ => ⟨S8704x512, .bf16⟩
  | .hbm, ⟨4, _⟩ => ⟨S8704x512, .bf16⟩
  | .hbm, ⟨5, _⟩ => ⟨S8704x512, .bf16⟩
  | .hbm, ⟨6, _⟩ => ⟨S8704x128, .f32⟩
  | .hbm, ⟨7, _⟩ => ⟨S8704x1024, .f32⟩
  | .hbm, ⟨8, _⟩ => ⟨S8704x1024, .f32⟩
  | .hbm, ⟨9, _⟩ => ⟨S1x1024, .f32⟩
  | .hbm, ⟨10, _⟩ => ⟨S3200x1024, .bf16⟩
  | .hbm, ⟨11, _⟩ => ⟨S3200x1024, .f32⟩
  | .hbm, ⟨12, _⟩ => ⟨S8704x1024, .f32⟩
  | .hbm, ⟨13, _⟩ => ⟨S_, .f32⟩
  | .hbm, ⟨14, _⟩ => ⟨S8704, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x1, .f32⟩
  | .hbm, ⟨23, _⟩ => ⟨S8704x1, .f32⟩
  | .hbm, ⟨24, _⟩ => ⟨S_, .f32⟩
  | .hbm, ⟨25, _⟩ => ⟨S8704x1, .f32⟩
  | .hbm, ⟨26, _⟩ => ⟨S8704x1, .f32⟩
  | .hbm, ⟨27, _⟩ => ⟨S8704x1024, .f32⟩
  | .hbm, ⟨28, _⟩ => ⟨S8704x1024, .f32⟩
  | .hbm, ⟨29, _⟩ => ⟨S8704x1024, .f32⟩
  | .hbm, ⟨30, _⟩ => ⟨S8704x1024, .f32⟩
  | .hbm, ⟨31, _⟩ => ⟨S1024x3200, .f32⟩
  | .hbm, ⟨32, _⟩ => ⟨S8704x3200, .f32⟩
  | .hbm, ⟨33, _⟩ => ⟨S8704x512, .f32⟩
  | .hbm, ⟨34, _⟩ => ⟨S8704x512, .f32⟩
  | .hbm, ⟨35, _⟩ => ⟨S8704x512, .f32⟩
  | .hbm, ⟨36, _⟩ => ⟨S8704x512, .f32⟩
  | .hbm, ⟨37, _⟩ => ⟨S8704x512, .f32⟩
  | .hbm, ⟨38, _⟩ => ⟨S8704x512, .f32⟩
  | .hbm, ⟨39, _⟩ => ⟨S8704x128, .f32⟩
  | .hbm, ⟨40, _⟩ => ⟨S8704x512, .f32⟩
  | .hbm, ⟨41, _⟩ => ⟨S8704x512, .f32⟩
  | .hbm, ⟨42, _⟩ => ⟨S8704x512, .f32⟩
  | .hbm, ⟨43, _⟩ => ⟨S8704x512, .f32⟩
  | .hbm, ⟨44, _⟩ => ⟨S8704x512, .f32⟩
  | .hbm, ⟨45, _⟩ => ⟨S8704x512, .f32⟩
  | .hbm, ⟨46, _⟩ => ⟨S8704x3200, .f32⟩
  | .hbm, ⟨47, _⟩ => ⟨S3200x1024, .f32⟩
  | .hbm, ⟨48, _⟩ => ⟨S1024x3200, .f32⟩
  | .hbm, ⟨49, _⟩ => ⟨S8704x1024, .f32⟩
  | .hbm, ⟨50, _⟩ => ⟨S3200x1024, .f32⟩
  | .hbm, ⟨51, _⟩ => ⟨S8704x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8704x1024, .f32⟩
  | .hbm, ⟨56, _⟩ => ⟨S8704x1024, .f32⟩
  | .hbm, ⟨57, _⟩ => ⟨S8704x1024, .f32⟩
  | .hbm, ⟨58, _⟩ => ⟨S_, .f32⟩
  | .hbm, ⟨59, _⟩ => ⟨S8704, .f32⟩
  | .hbm, ⟨60, _⟩ => ⟨S8704x1, .f32⟩
  | .hbm, ⟨61, _⟩ => ⟨S8704x1024, .f32⟩
  | .hbm, ⟨62, _⟩ => ⟨S8704x1024, .f32⟩
  | .hbm, ⟨63, _⟩ => ⟨S8704x1024, .f32⟩
  | .hbm, ⟨64, _⟩ => ⟨S8704x1, .f32⟩
  | .hbm, ⟨65, _⟩ => ⟨S_, .f32⟩
  | .hbm, ⟨66, _⟩ => ⟨S8704x1, .f32⟩
  | .hbm, ⟨67, _⟩ => ⟨S8704x1, .f32⟩
  | .hbm, ⟨68, _⟩ => ⟨S_, .f32⟩
  | .hbm, ⟨69, _⟩ => ⟨S8704, .f32⟩
  | .hbm, ⟨70, _⟩ => ⟨S8704x1024, .f32⟩
  | .hbm, ⟨71, _⟩ => ⟨S8704x1024, .f32⟩
  | .hbm, ⟨72, _⟩ => ⟨S8704x1024, .f32⟩
  | .hbm, ⟨73, _⟩ => ⟨S8704x1024, .f32⟩
  | .hbm, ⟨74, _⟩ => ⟨S8704x1024, .f32⟩
  | .hbm, ⟨75, _⟩ => ⟨S3200x1024, .bf16⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Ffn.lean ====
abbrev S8704x1024 : Shape := ⟨2, ![8704, 1024]⟩
abbrev S1x1024 : Shape := ⟨2, ![1, 1024]⟩
abbrev S2x2816x1024 : Shape := ⟨3, ![2, 2816, 1024]⟩
abbrev S2816x1024 : Shape := ⟨2, ![2816, 1024]⟩
abbrev S8192x1024 : Shape := ⟨2, ![8192, 1024]⟩
abbrev S8704x2816 : Shape := ⟨2, ![8704, 2816]⟩
abbrev S1x1 : Shape := ⟨2, ![1, 1]⟩
abbrev S128x1024 : Shape := ⟨2, ![128, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x768x1024 : Shape := ⟨3, ![1, 768, 1024]⟩
abbrev S768x1024 : Shape := ⟨2, ![768, 1024]⟩
abbrev S512x768 : Shape := ⟨2, ![512, 768]⟩
abbrev S128 : Shape := ⟨1, ![128]⟩
abbrev S128x1 : Shape := ⟨2, ![128, 1]⟩
abbrev S1 : Shape := ⟨1, ![1]⟩
abbrev S1024 : Shape := ⟨1, ![1024]⟩

abbrev nBuf : Space → Nat
  | .hbm => 12
  | .vmem => 24
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S2x2816x1024, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S8704x1024, .f32⟩
  | .hbm, ⟨7, _⟩ => ⟨S8704x1024, .bf16⟩
  | .hbm, ⟨8, _⟩ => ⟨S8704x2816, .bf16⟩
  | .hbm, ⟨9, _⟩ => ⟨S8704x2816, .bf16⟩
  | .hbm, ⟨10, _⟩ => ⟨S1x1, .f32⟩
  | .hbm, ⟨11, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S2x2816x1024, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S1x1, .f32⟩
  | .local _ .vmem, ⟨23, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.maxsi v29 c1_i32_11
  let v31 : BitVec 32 := Scalar.addi v19 v30
  let c1_i32_12 : BitVec 32 := 1#32
  let v32 : BitVec 32 := Scalar.subi v31 c1_i32_12
  let c0_i32_13 : BitVec 32 := 0#32
  let c0_i32_14 : BitVec 32 := 0#32
  ![v32.toNat, c0_i32_13.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.maxsi v29 c1_i32_11
  let v31 : BitVec 32 := Scalar.addi v19 v30
  let c1_i32_12 : BitVec 32 := 1#32
  let v32 : BitVec 32 := Scalar.subi v31 c1_i32_12
  let c0_i32_13 : BitVec 32 := 0#32
  let c0_i32_14 : BitVec 32 := 0#32
  ![v32.toNat, c0_i32_13.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_4 : BitVec 32 := 17#32
  let c0_i32_5 : BitVec 32 := 0#32
  let v20 : BitVec 1 := Scalar.cmpi .eq c17_i32_4 c0_i32_5
  let c1_i32_6 : BitVec 32 := 1#32
  let v21 : BitVec 32 := Scalar.select v20 c1_i32_6 c17_i32_4
  let v22 : BitVec 32 := Scalar.remsi v1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c1_i32_10 : BitVec 32 := 1#32
  let v30 : BitVec 32 := Scalar.maxsi v29 c1_i32_10
  let v31 : BitVec 32 := Scalar.addi v19 v30
  let c1_i32_11 : BitVec 32 := 1#32
  let v32 : BitVec 32 := Scalar.subi v31 c1_i32_11
  let c0_i32_12 : BitVec 32 := 0#32
  let c0_i32_13 : BitVec 32 := 0#32
  ![v32.toNat, c0_i32_12.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_4 : BitVec 32 := 17#32
  let c0_i32_5 : BitVec 32 := 0#32
  let v20 : BitVec 1 := Scalar.cmpi .eq c17_i32_4 c0_i32_5
  let c1_i32_6 : BitVec 32 := 1#32
  let v21 : BitVec 32 := Scalar.select v20 c1_i32_6 c17_i32_4
  let v22 : BitVec 32 := Scalar.remsi v1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c1_i32_10 : BitVec 32 := 1#32
  let v30 : BitVec 32 := Scalar.maxsi v29 c1_i32_10
  let v31 : BitVec 32 := Scalar.addi v19 v30
  let c1_i32_11 : BitVec 32 := 1#32
  let v32 : BitVec 32 := Scalar.subi v31 c1_i32_11
  let c0_i32_12 : BitVec 32 := 0#32
  let c0_i32_13 : BitVec 32 := 0#32
  ![v32.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnReferenceIdeal.lean ====
abbrev S8704x1024 : Shape := ⟨2, ![8704, 1024]⟩
abbrev S1x1024 : Shape := ⟨2, ![1, 1024]⟩
abbrev S2x2816x1024 : Shape := ⟨3, ![2, 2816, 1024]⟩
abbrev S2816x1024 : Shape := ⟨2, ![2816, 1024]⟩
abbrev S8192x1024 : Shape := ⟨2, ![8192, 1024]⟩
abbrev S_ : Shape := ⟨0, ![]⟩
abbrev S8704 : Shape := ⟨1, ![8704]⟩
abbrev S8704x1 : Shape := ⟨2, ![8704, 1]⟩
abbrev S5632x1024 : Shape := ⟨2, ![5632, 1024]⟩
abbrev S1024x5632 : Shape := ⟨2, ![1024, 5632]⟩
abbrev S8704x5632 : Shape := ⟨2, ![8704, 5632]⟩
abbrev S8704x2816 : Shape := ⟨2, ![8704, 2816]⟩
abbrev S4x2176x1024 : Shape := ⟨3, ![4, 2176, 1024]⟩
abbrev S4x2048x1024 : Shape := ⟨3, ![4, 2048, 1024]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S2x2816x1024, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S8704x1024, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x1024, .f32⟩
  | .hbm, ⟨18, _⟩ => ⟨S8704x1024, .f32⟩
  | .hbm, ⟨19, _⟩ => ⟨S8704x1024, .f32⟩
  | .hbm, ⟨20, _⟩ => ⟨S8704x1024, .f32⟩
  | .hbm, ⟨21, _⟩ => ⟨S2x2816x1024, .f32⟩
  | .hbm, ⟨22, _⟩ => ⟨S5632x1024, .f32⟩
  | .hbm, ⟨23, _⟩ => ⟨S1024x5632, .f32⟩
  | .hbm, ⟨24, _⟩ => ⟨S8704x5632, .f32⟩
  | .hbm, ⟨25, _⟩ => ⟨S8704x2816, .f32⟩
  | .hbm, ⟨26, _⟩ => ⟨S8704x2816, .f32⟩
  | .hbm, ⟨27, _⟩ => ⟨S2816x1024, .f32⟩
  | .hbm, ⟨28, _⟩ => ⟨S8704x2816, .f32⟩
  | .hbm, ⟨29, _⟩ => ⟨S8704x2816, .f32⟩
  | .hbm, ⟨30, _⟩ => ⟨S_, .f32⟩
  | .hbm, ⟨31, _⟩ => ⟨S8704x2816, .f32⟩
  | .hbm, ⟨32, _⟩ => ⟨S8704x2816, .f32⟩
  | .hbm, ⟨33, _⟩ => ⟨S_, .f32⟩
  | .hbm, ⟨34, _⟩ => ⟨S8704x2816, .f32⟩
  | .hbm, ⟨35, _⟩ => ⟨S8704x2816, .f32⟩
  | .hbm, ⟨36, _⟩ => ⟨S8704x2816, .f32⟩
  | .hbm, ⟨37, _⟩ => ⟨S8704x2816, .f32⟩
  | .hbm, ⟨38, _⟩ => ⟨S8704x1024, .f32⟩
  | .hbm, ⟨39, _⟩ => ⟨S_, .f32⟩
  | .hbm, ⟨40, _⟩ => ⟨S8704x1024, .f32⟩
  | .hbm, ⟨41, _⟩ => ⟨S8704x1024, .f32⟩
  | .hbm, ⟨42, _⟩ => ⟨S8704x1024, .f32⟩
  | .hbm, ⟨43, _⟩ => ⟨S4x2176x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x2048x1, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x1024, .f32⟩
  | .hbm, ⟨61, _⟩ => ⟨S4x2048x1024, .f32⟩
  | .hbm, ⟨62, _⟩ => ⟨S1x1x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S_, .f32⟩
  | .hbm, ⟨69, _⟩ => ⟨S4x2048x1024, .f32⟩
  | .hbm, ⟨70, _⟩ => ⟨S4x2048x1024, .f32⟩
  | .hbm, ⟨71, _⟩ => ⟨S_, .f32⟩
  | .hbm, ⟨72, _⟩ => ⟨S4x2048, .f32⟩
  | .hbm, ⟨73, _⟩ => ⟨S_, .f32⟩
  | .hbm, ⟨74, _⟩ => ⟨S4x2048, .f32⟩
  | .hbm, ⟨75, _⟩ => ⟨S4x2048, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4x2048, .f32⟩
  | .hbm, ⟨84, _⟩ => ⟨S_, .f32⟩
  | .hbm, ⟨85, _⟩ => ⟨S4x2048, .f32⟩
  | .hbm, ⟨86, _⟩ => ⟨S4x2048, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S1024, .f32⟩
  | .hbm, ⟨92, _⟩ => ⟨S1x1x1024, .f32⟩
  | .hbm, ⟨93, _⟩ => ⟨S4x2048x1024, .f32⟩
  | .hbm, ⟨94, _⟩ => ⟨S4x2048x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S4x2048x1024, .f32⟩
  | .hbm, ⟨99, _⟩ => ⟨S_, .f32⟩
  | .hbm, ⟨100, _⟩ => ⟨S4x2048, .f32⟩
  | .hbm, ⟨101, _⟩ => ⟨S4x2048x1, .f32⟩
  | .hbm, ⟨102, _⟩ => ⟨S4x2048x1024, .f32⟩
  | .hbm, ⟨103, _⟩ => ⟨S4x2048x1024, .f32⟩
  | .hbm, ⟨104, _⟩ => ⟨S4x2048x1, .f32⟩
  | .hbm, ⟨105, _⟩ => ⟨S_, .f32⟩
  | .hbm, ⟨106, _⟩ => ⟨S4x2048x1, .f32⟩
  | .hbm, ⟨107, _⟩ => ⟨S4x2048x1, .f32⟩
  | .hbm, ⟨108, _⟩ => ⟨S_, .f32⟩
  | .hbm, ⟨109, _⟩ => ⟨S4x2048, .f32⟩
  | .hbm, ⟨110, _⟩ => ⟨S4x2048x1024, .f32⟩
  | .hbm, ⟨111, _⟩ => ⟨S4x2048x1024, .f32⟩
  | .hbm, ⟨112, _⟩ => ⟨S4x2048x1024, .f32⟩
  | .hbm, ⟨113, _⟩ => ⟨S4x2048x1024, .f32⟩
  | .hbm, ⟨114, _⟩ => ⟨S4x2048x1024, .f32⟩
  | .hbm, ⟨115, _⟩ => ⟨S_, .f32⟩
  | .hbm, ⟨116, _⟩ => ⟨S4x2176x1024, .f32⟩
  | .hbm, ⟨117, _⟩ => ⟨S8704x1024, .f32⟩
  | .hbm, ⟨118, _⟩ => ⟨S8704x1024, .bf16⟩
  | .hbm, ⟨119, _⟩ => ⟨S8704x2816, .bf16⟩
  | .hbm, ⟨120, _⟩ => ⟨S8704x2816, .bf16⟩
  | .hbm, ⟨121, _⟩ => ⟨S1x1, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_cst_12 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_17 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_18 : Ref sig .tc := ⟨.hbm, 105, rfl⟩
abbrev main_v72 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_20 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== Infwd.lean ====
abbrev S8704x1024 : Shape := ⟨2, ![8704, 1024]⟩
abbrev S1x1024 : Shape := ⟨2, ![1, 1024]⟩
abbrev S3200x1024 : Shape := ⟨2, ![3200, 1024]⟩
abbrev S8704x512 : Shape := ⟨2, ![8704, 512]⟩
abbrev S8704x128 : Shape := ⟨2, ![8704, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x1024 : Shape := ⟨2, ![128, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S3200x1024, .bf16⟩
  | .hbm, ⟨3, _⟩ => ⟨S8704x512, .bf16⟩
  | .hbm, ⟨4, _⟩ => ⟨S8704x512, .bf16⟩
  | .hbm, ⟨5, _⟩ => ⟨S8704x512, .bf16⟩
  | .hbm, ⟨6, _⟩ => ⟨S8704x512, .bf16⟩
  | .hbm, ⟨7, _⟩ => ⟨S8704x512, .bf16⟩
  | .hbm, ⟨8, _⟩ => ⟨S8704x512, .bf16⟩
  | .hbm, ⟨9, _⟩ => ⟨S8704x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3200x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InfwdReferenceIdeal.lean ====
abbrev S8704x1024 : Shape := ⟨2, ![8704, 1024]⟩
abbrev S1x1024 : Shape := ⟨2, ![1, 1024]⟩
abbrev S3200x1024 : Shape := ⟨2, ![3200, 1024]⟩
abbrev S_ : Shape := ⟨0, ![]⟩
abbrev S8704 : Shape := ⟨1, ![8704]⟩
abbrev S8704x1 : Shape := ⟨2, ![8704, 1]⟩
abbrev S1024x3200 : Shape := ⟨2, ![1024, 3200]⟩
abbrev S8704x3200 : Shape := ⟨2, ![8704, 3200]⟩
abbrev S8704x512 : Shape := ⟨2, ![8704, 512]⟩
abbrev S8704x128 : Shape := ⟨2, ![8704, 128]⟩

abbrev nBuf : Space → Nat
  | .hbm => 34
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S3200x1024, .bf16⟩
  | .hbm, ⟨3, _⟩ => ⟨S8704x1024, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S8704x1024, .f32⟩
  | .hbm, ⟨18, _⟩ => ⟨S3200x1024, .f32⟩
  | .hbm, ⟨19, _⟩ => ⟨S1024x3200, .f32⟩
  | .hbm, ⟨20, _⟩ => ⟨S8704x3200, .f32⟩
  | .hbm, ⟨21, _⟩ => ⟨S8704x512, .f32⟩
  | .hbm, ⟨22, _⟩ => ⟨S8704x512, .f32⟩
  | .hbm, ⟨23, _⟩ => ⟨S8704x512, .f32⟩
  | .hbm, ⟨24, _⟩ => ⟨S8704x512, .f32⟩
  | .hbm, ⟨25, _⟩ => ⟨S8704x512, .f32⟩
  | .hbm, ⟨26, _⟩ => ⟨S8704x512, .f32⟩
  | .hbm, ⟨27, _⟩ => ⟨S8704x128, .f32⟩
  | .hbm, ⟨28, _⟩ => ⟨S8704x512, .bf16⟩
  | .hbm, ⟨29, _⟩ => ⟨S8704x512, .bf16⟩
  | .hbm, ⟨30, _⟩ => ⟨S8704x512, .bf16⟩
  | .hbm, ⟨31, _⟩ => ⟨S8704x512, .bf16⟩
  | .hbm, ⟨32, _⟩ => ⟨S8704x512, .bf16⟩
  | .hbm, ⟨33, _⟩ => ⟨S8704x512, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Convfwd.lean ====
abbrev S8704x512 : Shape := ⟨2, ![8704, 512]⟩
abbrev S3x512 : Shape := ⟨2, ![3, 512]⟩
abbrev S1x512 : Shape := ⟨2, ![1, 512]⟩
abbrev S128x128 : Shape := ⟨2, ![128, 128]⟩
abbrev S_ : Shape := ⟨0, ![]⟩
abbrev S2176x128 : Shape := ⟨2, ![2176, 128]⟩
abbrev S3x128 : Shape := ⟨2, ![3, 128]⟩
abbrev S1x128 : Shape := ⟨2, ![1, 128]⟩

abbrev nBuf : Space → Nat
  | .hbm => 51
  | .vmem => 13
  | .smem => 0
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x512, .bf16⟩
  | .hbm, ⟨3, _⟩ => ⟨S3x512, .f32⟩
  | .hbm, ⟨4, _⟩ => ⟨S1x512, .f32⟩
  | .hbm, ⟨5, _⟩ => ⟨S128x128, .i32⟩
  | .hbm, ⟨6, _⟩ => ⟨S_, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i1⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i1⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i1⟩
  | .hbm, ⟨38, _⟩ => ⟨S128x128, .i1⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .bf16⟩
  | .hbm, ⟨50, _⟩ => ⟨S8704x512, .bf16⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S2176x128, .bf16⟩
  | .local _ .vmem, ⟨12, _⟩ => ⟨S2176x128, .bf16⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v3 : Ref sig .tc := ⟨.hbm, 42, rfl⟩
abbrev main_v4 : Ref sig .tc := ⟨.hbm, 43, rfl⟩
abbrev main_cst : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2176x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvfwdReferenceIdeal.lean ====
abbrev S8704x512 : Shape := ⟨2, ![8704, 512]⟩
abbrev S3x512 : Shape := ⟨2, ![3, 512]⟩
abbrev S1x512 : Shape := ⟨2, ![1, 512]⟩
abbrev S4x2176x512 : Shape := ⟨3, ![4, 2176, 512]⟩
abbrev S512 : Shape := ⟨1, ![512]⟩
abbrev S4x2x512 : Shape := ⟨3, ![4, 2, 512]⟩
abbrev S_ : Shape := ⟨0, ![]⟩
abbrev S4x2174x512 : Shape := ⟨3, ![4, 2174, 512]⟩
abbrev S1x1x512 : Shape := ⟨3, ![1, 1, 512]⟩
abbrev S4x1x512 : Shape := ⟨3, ![4, 1, 512]⟩
abbrev S4x2175x512 : Shape := ⟨3, ![4, 2175, 512]⟩
abbrev S4x2176x8x64 : Shape := ⟨4, ![4, 2176, 8, 64]⟩
abbrev S4x2176x8 : Shape := ⟨3, ![4, 2176, 8]⟩
abbrev S4x2176x8x1 : Shape := ⟨4, ![4, 2176, 8, 1]⟩

abbrev nBuf : Space → Nat
  | .hbm => 60
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x512, .bf16⟩
  | .hbm, ⟨3, _⟩ => ⟨S3x512, .f32⟩
  | .hbm, ⟨4, _⟩ => ⟨S1x512, .f32⟩
  | .hbm, ⟨5, _⟩ => ⟨S8704x512, .f32⟩
  | .hbm, ⟨6, _⟩ => ⟨S4x2176x512, .f32⟩
  | .hbm, ⟨7, _⟩ => ⟨S8704x512, .f32⟩
  | .hbm, ⟨8, _⟩ => ⟨S4x2176x512, .f32⟩
  | .hbm, ⟨9, _⟩ => ⟨S8704x512, .f32⟩
  | .hbm, ⟨10, _⟩ => ⟨S4x2176x512, .f32⟩
  | .hbm, ⟨11, _⟩ => ⟨S4x2176x512, .f32⟩
  | .hbm, ⟨12, _⟩ => ⟨S1x512, .f32⟩
  | .hbm, ⟨13, _⟩ => ⟨S512, .f32⟩
  | .hbm, ⟨14, _⟩ => ⟨S4x2x512, .f32⟩
  | .hbm, ⟨15, _⟩ => ⟨S_, .f32⟩
  | .hbm, ⟨16, _⟩ => ⟨S4x2x512, .f32⟩
  | .hbm, ⟨17, _⟩ => ⟨S4x2174x512, .f32⟩
  | .hbm, ⟨18, _⟩ => ⟨S4x2176x512, .f32⟩
  | .hbm, ⟨19, _⟩ => ⟨S1x1x512, .f32⟩
  | .hbm, ⟨20, _⟩ => ⟨S4x2176x512, .f32⟩
  | .hbm, ⟨21, _⟩ => ⟨S4x2176x512, .f32⟩
  | .hbm, ⟨22, _⟩ => ⟨S1x512, .f32⟩
  | .hbm, ⟨23, _⟩ => ⟨S512, .f32⟩
  | .hbm, ⟨24, _⟩ => ⟨S4x1x512, .f32⟩
  | .hbm, ⟨25, _⟩ => ⟨S_, .f32⟩
  | .hbm, ⟨26, _⟩ => ⟨S4x1x512, .f32⟩
  | .hbm, ⟨27, _⟩ => ⟨S4x2175x512, .f32⟩
  | .hbm, ⟨28, _⟩ => ⟨S4x2176x512, .f32⟩
  | .hbm, ⟨29, _⟩ => ⟨S1x1x512, .f32⟩
  | .hbm, ⟨30, _⟩ => ⟨S4x2176x512, .f32⟩
  | .hbm, ⟨31, _⟩ => ⟨S4x2176x512, .f32⟩
  | .hbm, ⟨32, _⟩ => ⟨S4x2176x512, .f32⟩
  | .hbm, ⟨33, _⟩ => ⟨S1x512, .f32⟩
  | .hbm, ⟨34, _⟩ => ⟨S512, .f32⟩
  | .hbm, ⟨35, _⟩ => ⟨S1x1x512, .f32⟩
  | .hbm, ⟨36, _⟩ => ⟨S4x2176x512, .f32⟩
  | .hbm, ⟨37, _⟩ => ⟨S4x2176x512, .f32⟩
  | .hbm, ⟨38, _⟩ => ⟨S4x2176x512, .f32⟩
  | .hbm, ⟨39, _⟩ => ⟨S4x2176x512, .f32⟩
  | .hbm, ⟨40, _⟩ => ⟨S4x2176x8x64, .f32⟩
  | .hbm, ⟨41, _⟩ => ⟨S4x2176x8x64, .f32⟩
  | .hbm, ⟨42, _⟩ => ⟨S_, .f32⟩
  | .hbm, ⟨43, _⟩ => ⟨S4x2176x8, .f32⟩
  | .hbm, ⟨44, _⟩ => ⟨S4x2176x8x1, .f32⟩
  | .hbm, ⟨45, _⟩ => ⟨S_, .f32⟩
  | .hbm, ⟨46, _⟩ => ⟨S4x2176x8x1, .f32⟩
  | .hbm, ⟨47, _⟩ => ⟨S4x2176x8x1, .f32⟩
  | .hbm, ⟨48, _⟩ => ⟨S_, .f32⟩
  | .hbm, ⟨49, _⟩ => ⟨S4x2176x8x1, .f32⟩
  | .hbm, ⟨50, _⟩ => ⟨S4x2176x8x1, .f32⟩
  | .hbm, ⟨51, _⟩ => ⟨S4x2176x8x1, .f32⟩
  | .hbm, ⟨52, _⟩ => ⟨S4x2176x8x64, .f32⟩
  | .hbm, ⟨53, _⟩ => ⟨S4x2176x8x64, .f32⟩
  | .hbm, ⟨54, _⟩ => ⟨S4x2176x512, .f32⟩
  | .hbm, ⟨55, _⟩ => ⟨S1x1x512, .f32⟩
  | .hbm, ⟨56, _⟩ => ⟨S4x2176x512, .f32⟩
  | .hbm, ⟨57, _⟩ => ⟨S4x2176x512, .f32⟩
  | .hbm, ⟨58, _⟩ => ⟨S8704x512, .f32⟩
  | .hbm, ⟨59, _⟩ => ⟨S8704x512, .bf16⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Adamgu.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamguIdeal.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamguReferenceIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Adamdown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamdownIdeal.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamdownReferenceIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Adamin.lean ====
abbrev S8x385x1024 : Shape := ⟨3, ![8, 385, 1024]⟩
abbrev S385x1024 : Shape := ⟨2, ![385, 1024]⟩
abbrev S1x385x1024 : Shape := ⟨3, ![1, 385, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x385x1024, .bf16⟩
  | .hbm, ⟨1, _⟩ => ⟨S385x1024, .f32⟩
  | .hbm, ⟨2, _⟩ => ⟨S385x1024, .f32⟩
  | .hbm, ⟨3, _⟩ => ⟨S385x1024, .f32⟩
  | .hbm, ⟨4, _⟩ => ⟨S385x1024, .f32⟩
  | .hbm, ⟨5, _⟩ => ⟨S385x1024, .f32⟩
  | .hbm, ⟨6, _⟩ => ⟨S385x1024, .f32⟩
  | .hbm, ⟨7, _⟩ => ⟨S385x1024, .f32⟩
  | .local _ .vmem, ⟨0, _⟩ => ⟨S8x385x1024, .bf16⟩
  | .local _ .vmem, ⟨1, _⟩ => ⟨S385x1024, .f32⟩
  | .local _ .vmem, ⟨2, _⟩ => ⟨S385x1024, .f32⟩
  | .local _ .vmem, ⟨3, _⟩ => ⟨S385x1024, .f32⟩
  | .local _ .vmem, ⟨4, _⟩ => ⟨S385x1024, .f32⟩
  | .local _ .vmem, ⟨5, _⟩ => ⟨S385x1024, .f32⟩
  | .local _ .vmem, ⟨6, _⟩ => ⟨S385x1024, .f32⟩
  | .local _ .vmem, ⟨7, _⟩ => ⟨S385x1024, .f32⟩
  | _, _ => ⟨S8x385x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x385x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S385x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S385x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S385x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S385x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S385x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S385x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S385x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdaminIdeal.lean ====
abbrev S8x385x1024 : Shape := ⟨3, ![8, 385, 1024]⟩
abbrev S385x1024 : Shape := ⟨2, ![385, 1024]⟩
abbrev S1x385x1024 : Shape := ⟨3, ![1, 385, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x385x1024, .bf16⟩
  | .hbm, ⟨1, _⟩ => ⟨S385x1024, .f32⟩
  | .hbm, ⟨2, _⟩ => ⟨S385x1024, .f32⟩
  | .hbm, ⟨3, _⟩ => ⟨S385x1024, .f32⟩
  | .hbm, ⟨4, _⟩ => ⟨S385x1024, .f32⟩
  | .hbm, ⟨5, _⟩ => ⟨S385x1024, .f32⟩
  | .hbm, ⟨6, _⟩ => ⟨S385x1024, .f32⟩
  | .hbm, ⟨7, _⟩ => ⟨S385x1024, .f32⟩
  | .local _ .vmem, ⟨0, _⟩ => ⟨S8x385x1024, .bf16⟩
  | .local _ .vmem, ⟨1, _⟩ => ⟨S385x1024, .f32⟩
  | .local _ .vmem, ⟨2, _⟩ => ⟨S385x1024, .f32⟩
  | .local _ .vmem, ⟨3, _⟩ => ⟨S385x1024, .f32⟩
  | .local _ .vmem, ⟨4, _⟩ => ⟨S385x1024, .f32⟩
  | .local _ .vmem, ⟨5, _⟩ => ⟨S385x1024, .f32⟩
  | .local _ .vmem, ⟨6, _⟩ => ⟨S385x1024, .f32⟩
  | .local _ .vmem, ⟨7, _⟩ => ⟨S385x1024, .f32⟩
  | _, _ => ⟨S8x385x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x385x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S385x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S385x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S385x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S385x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S385x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S385x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S385x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdaminReferenceIdeal.lean ====
abbrev S8x385x1024 : Shape := ⟨3, ![8, 385, 1024]⟩
abbrev S385x1024 : Shape := ⟨2, ![385, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x385x1024, .bf16⟩
  | .hbm, ⟨1, _⟩ => ⟨S385x1024, .f32⟩
  | .hbm, ⟨2, _⟩ => ⟨S385x1024, .f32⟩
  | .hbm, ⟨3, _⟩ => ⟨S385x1024, .f32⟩
  | .hbm, ⟨4, _⟩ => ⟨S8x385x1024, .f32⟩
  | .hbm, ⟨5, _⟩ => ⟨S_, .f32⟩
  | .hbm, ⟨6, _⟩ => ⟨S385x1024, .f32⟩
  | .hbm, ⟨7, _⟩ => ⟨S_, .f32⟩
  | .hbm, ⟨8, _⟩ => ⟨S385x1024, .f32⟩
  | .hbm, ⟨9, _⟩ => ⟨S385x1024, .f32⟩
  | .hbm, ⟨10, _⟩ => ⟨S_, .f32⟩
  | .hbm, ⟨11, _⟩ => ⟨S385x1024, .f32⟩
  | .hbm, ⟨12, _⟩ => ⟨S385x1024, .f32⟩
  | .hbm, ⟨13, _⟩ => ⟨S385x1024, .f32⟩
  | .hbm, ⟨14, _⟩ => ⟨S_, .f32⟩
  | .hbm, ⟨15, _⟩ => ⟨S385x1024, .f32⟩
  | .hbm, ⟨16, _⟩ => ⟨S385x1024, .f32⟩
  | .hbm, ⟨17, _⟩ => ⟨S385x1024, .f32⟩
  | .hbm, ⟨18, _⟩ => ⟨S_, .f32⟩
  | .hbm, ⟨19, _⟩ => ⟨S385x1024, .f32⟩
  | .hbm, ⟨20, _⟩ => ⟨S385x1024, .f32⟩
  | .hbm, ⟨21, _⟩ => ⟨S385x1024, .f32⟩
  | .hbm, ⟨22, _⟩ => ⟨S_, .f32⟩
  | .hbm, ⟨23, _⟩ => ⟨S385x1024, .f32⟩
  | .hbm, ⟨24, _⟩ => ⟨S385x1024, .f32⟩
  | .hbm, ⟨25, _⟩ => ⟨S_, .f32⟩
  | .hbm, ⟨26, _⟩ => ⟨S385x1024, .f32⟩
  | .hbm, ⟨27, _⟩ => ⟨S385x1024, .f32⟩
  | .hbm, ⟨28, _⟩ => ⟨S385x1024, .f32⟩
  | .hbm, ⟨29, _⟩ => ⟨S_, .f32⟩
  | .hbm, ⟨30, _⟩ => ⟨S385x1024, .f32⟩
  | .hbm, ⟨31, _⟩ => ⟨S385x1024, .f32⟩
  | .hbm, ⟨32, _⟩ => ⟨S385x1024, .f32⟩
  | .hbm, ⟨33, _⟩ => ⟨S_, .f32⟩
  | .hbm, ⟨34, _⟩ => ⟨S385x1024, .f32⟩
  | .hbm, ⟨35, _⟩ => ⟨S385x1024, .f32⟩
  | .hbm, ⟨36, _⟩ => ⟨S385x1024, .f32⟩
  | .hbm, ⟨37, _⟩ => ⟨S_, .f32⟩
  | .hbm, ⟨38, _⟩ => ⟨S385x1024, .f32⟩
  | .hbm, ⟨39, _⟩ => ⟨S385x1024, .f32⟩
  | _, _ => ⟨S8x385x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Adamout.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamoutReferenceIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== First.lean ====
abbrev S8704x1024 : Shape := ⟨2, ![8704, 1024]⟩
abbrev S1x1024 : Shape := ⟨2, ![1, 1024]⟩
abbrev S8704x5632 : Shape := ⟨2, ![8704, 5632]⟩
abbrev S2x2816x1024 : Shape := ⟨3, ![2, 2816, 1024]⟩
abbrev S8192x1024 : Shape := ⟨2, ![8192, 1024]⟩
abbrev S16x1024 : Shape := ⟨2, ![16, 1024]⟩
abbrev S5632x1024 : Shape := ⟨2, ![5632, 1024]⟩
abbrev S128x1024 : Shape := ⟨2, ![128, 1024]⟩
abbrev S512x1024 : Shape := ⟨2, ![512, 1024]⟩
abbrev S512x5632 : Shape := ⟨2, ![512, 5632]⟩
abbrev S112x1024 : Shape := ⟨2, ![112, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S8704x5632, .bf16⟩
  | .hbm, ⟨3, _⟩ => ⟨S2x2816x1024, .bf16⟩
  | .hbm, ⟨4, _⟩ => ⟨S8192x1024, .f32⟩
  | .hbm, ⟨5, _⟩ => ⟨S16x1024, .f32⟩
  | .hbm, ⟨6, _⟩ => ⟨S5632x1024, .bf16⟩
  | .hbm, ⟨7, _⟩ => ⟨S8704x1024, .f32⟩
  | .hbm, ⟨8, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S16x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x5632, .bf16⟩
  | .local _ .vmem, ⟨13, _⟩ => ⟨S512x5632, .bf16⟩
  | .local _ .vmem, ⟨14, _⟩ => ⟨S5632x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.maxsi v29 c1_i32_11
  let v31 : BitVec 32 := Scalar.addi v19 v30
  let c1_i32_12 : BitVec 32 := 1#32
  let v32 : BitVec 32 := Scalar.subi v31 c1_i32_12
  let c0_i32_13 : BitVec 32 := 0#32
  let c0_i32_14 : BitVec 32 := 0#32
  ![v32.toNat, c0_i32_13.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.maxsi v29 c1_i32_11
  let v31 : BitVec 32 := Scalar.addi v19 v30
  let c1_i32_12 : BitVec 32 := 1#32
  let v32 : BitVec 32 := Scalar.subi v31 c1_i32_12
  let c0_i32_13 : BitVec 32 := 0#32
  let c0_i32_14 : BitVec 32 := 0#32
  ![v32.toNat, c0_i32_13.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_4 : BitVec 32 := 17#32
  let c0_i32_5 : BitVec 32 := 0#32
  let v20 : BitVec 1 := Scalar.cmpi .eq c17_i32_4 c0_i32_5
  let c1_i32_6 : BitVec 32 := 1#32
  let v21 : BitVec 32 := Scalar.select v20 c1_i32_6 c17_i32_4
  let v22 : BitVec 32 := Scalar.remsi v1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c1_i32_10 : BitVec 32 := 1#32
  let v30 : BitVec 32 := Scalar.maxsi v29 c1_i32_10
  let v31 : BitVec 32 := Scalar.addi v19 v30
  let c1_i32_11 : BitVec 32 := 1#32
  let v32 : BitVec 32 := Scalar.subi v31 c1_i32_11
  let c0_i32_12 : BitVec 32 := 0#32
  let c0_i32_13 : BitVec 32 := 0#32
  ![v32.toNat, c0_i32_12.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_4 : BitVec 32 := 17#32
  let c0_i32_5 : BitVec 32 := 0#32
  let v20 : BitVec 1 := Scalar.cmpi .eq c17_i32_4 c0_i32_5
  let c1_i32_6 : BitVec 32 := 1#32
  let v21 : BitVec 32 := Scalar.select v20 c1_i32_6 c17_i32_4
  let v22 : BitVec 32 := Scalar.remsi v1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c1_i32_10 : BitVec 32 := 1#32
  let v30 : BitVec 32 := Scalar.maxsi v29 c1_i32_10
  let v31 : BitVec 32 := Scalar.addi v19 v30
  let c1_i32_11 : BitVec 32 := 1#32
  let v32 : BitVec 32 := Scalar.subi v31 c1_i32_11
  let c0_i32_12 : BitVec 32 := 0#32
  let c0_i32_13 : BitVec 32 := 0#32
  ![v32.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S5632x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FirstReferenceIdeal.lean ====
abbrev S8704x1024 : Shape := ⟨2, ![8704, 1024]⟩
abbrev S1x1024 : Shape := ⟨2, ![1, 1024]⟩
abbrev S8704x5632 : Shape := ⟨2, ![8704, 5632]⟩
abbrev S2x2816x1024 : Shape := ⟨3, ![2, 2816, 1024]⟩
abbrev S8192x1024 : Shape := ⟨2, ![8192, 1024]⟩
abbrev S16x1024 : Shape := ⟨2, ![16, 1024]⟩
abbrev S_ : Shape := ⟨0, ![]⟩
abbrev S112x1024 : Shape := ⟨2, ![112, 1024]⟩
abbrev S128x1024 : Shape := ⟨2, ![128, 1024]⟩
abbrev S4x128x1024 : Shape := ⟨3, ![4, 128, 1024]⟩
abbrev S4x2048x1024 : Shape := ⟨3, ![4, 2048, 1024]⟩
abbrev S4x2176x1024 : Shape := ⟨3, ![4, 2176, 1024]⟩
abbrev S5632x1024 : Shape := ⟨2, ![5632, 1024]⟩
abbrev S1024x5632 : Shape := ⟨2, ![1024, 5632]⟩
abbrev S8704 : Shape := ⟨1, ![8704]⟩
abbrev S8704x1 : Shape := ⟨2, ![8704, 1]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S8704x5632, .bf16⟩
  | .hbm, ⟨3, _⟩ => ⟨S2x2816x1024, .bf16⟩
  | .hbm, ⟨4, _⟩ => ⟨S8192x1024, .f32⟩
  | .hbm, ⟨5, _⟩ => ⟨S16x1024, .f32⟩
  | .hbm, ⟨6, _⟩ => ⟨S_, .f32⟩
  | .hbm, ⟨7, _⟩ => ⟨S112x1024, .f32⟩
  | .hbm, ⟨8, _⟩ => ⟨S128x1024, .f32⟩
  | .hbm, ⟨9, _⟩ => ⟨S4x128x1024, .f32⟩
  | .hbm, ⟨10, _⟩ => ⟨S4x2048x1024, .f32⟩
  | .hbm, ⟨11, _⟩ => ⟨S4x2176x1024, .f32⟩
  | .hbm, ⟨12, _⟩ => ⟨S8704x1024, .f32⟩
  | .hbm, ⟨13, _⟩ => ⟨S2x2816x1024, .f32⟩
  | .hbm, ⟨14, _⟩ => ⟨S5632x1024, .f32⟩
  | .hbm, ⟨15, _⟩ => ⟨S1024x5632, .f32⟩
  | .hbm, ⟨16, _⟩ => ⟨S8704x1024, .f32⟩
  | .hbm, ⟨17, _⟩ => ⟨S_, .f32⟩
  | .hbm, ⟨18, _⟩ => ⟨S8704, .f32⟩
  | .hbm, ⟨19, _⟩ => ⟨S8704x1, .f32⟩
  | .hbm, ⟨20, _⟩ => ⟨S_, .f32⟩
  | .hbm, ⟨21, _⟩ => ⟨S8704x1, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x1, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x1024, .f32⟩
  | .hbm, ⟨35, _⟩ => ⟨S8704x5632, .f32⟩
  | .hbm, ⟨36, _⟩ => ⟨S8704x5632, .f32⟩
  | .hbm, ⟨37, _⟩ => ⟨S8704x1024, .f32⟩
  | .hbm, ⟨38, _⟩ => ⟨S8704x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8704x1024, .f32⟩
  | .hbm, ⟨43, _⟩ => ⟨S8704x1024, .f32⟩
  | .hbm, ⟨44, _⟩ => ⟨S8704x1024, .f32⟩
  | .hbm, ⟨45, _⟩ => ⟨S_, .f32⟩
  | .hbm, ⟨46, _⟩ => ⟨S8704, .f32⟩
  | .hbm, ⟨47, _⟩ => ⟨S8704x1, .f32⟩
  | .hbm, ⟨48, _⟩ => ⟨S8704x1024, .f32⟩
  | .hbm, ⟨49, _⟩ => ⟨S8704x1024, .f32⟩
  | .hbm, ⟨50, _⟩ => ⟨S8704x1024, .f32⟩
  | .hbm, ⟨51, _⟩ => ⟨S8704x1, .f32⟩
  | .hbm, ⟨52, _⟩ => ⟨S_, .f32⟩
  | .hbm, ⟨53, _⟩ => ⟨S8704x1, .f32⟩
  | .hbm, ⟨54, _⟩ => ⟨S8704x1, .f32⟩
  | .hbm, ⟨55, _⟩ => ⟨S_, .f32⟩
  | .hbm, ⟨56, _⟩ => ⟨S8704, .f32⟩
  | .hbm, ⟨57, _⟩ => ⟨S8704x1024, .f32⟩
  | .hbm, ⟨58, _⟩ => ⟨S8704x1024, .f32⟩
  | .hbm, ⟨59, _⟩ => ⟨S8704x1024, .f32⟩
  | .hbm, ⟨60, _⟩ => ⟨S8704x1024, .f32⟩
  | .hbm, ⟨61, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Firstact.lean ====
abbrev S8704x1024 : Shape := ⟨2, ![8704, 1024]⟩
abbrev S8704x2816 : Shape := ⟨2, ![8704, 2816]⟩
abbrev S2816x1024 : Shape := ⟨2, ![2816, 1024]⟩
abbrev S8704x5632 : Shape := ⟨2, ![8704, 5632]⟩
abbrev S256x1024 : Shape := ⟨2, ![256, 1024]⟩
abbrev S256x2816 : Shape := ⟨2, ![256, 2816]⟩
abbrev S256x5632 : Shape := ⟨2, ![256, 5632]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S8704x1024, .f32⟩
  | .hbm, ⟨1, _⟩ => ⟨S8704x2816, .bf16⟩
  | .hbm, ⟨2, _⟩ => ⟨S8704x2816, .bf16⟩
  | .hbm, ⟨3, _⟩ => ⟨S2816x1024, .bf16⟩
  | .hbm, ⟨4, _⟩ => ⟨S8704x5632, .bf16⟩
  | .hbm, ⟨5, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S256x5632, .bf16⟩
  | .local _ .vmem, ⟨8, _⟩ => ⟨S256x5632, .bf16⟩
  | .local _ .vmem, ⟨9, _⟩ => ⟨S2816x1024, .bf16⟩
  | .local _ .vmem, ⟨10, _⟩ => ⟨S2816x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![34], ![false]⟩

def k0_cond2 (i : grid0.Coords) : BitVec 1 :=
  let arg0 : BitVec 32 := BitVec.ofNat 32 (i 0).val
  let c33_i32 : BitVec 32 := 33#32
  let v370 : BitVec 1 := Scalar.cmpi .eq arg0 c33_i32
  let v371 : BitVec 32 := Scalar.extui v370
  let c0_i32_201 : BitVec 32 := 0#32
  let v372 : BitVec 1 := Scalar.cmpi .ne v371 c0_i32_201
  v372

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FirstactReferenceIdeal.lean ====
abbrev S8704x1024 : Shape := ⟨2, ![8704, 1024]⟩
abbrev S8704x2816 : Shape := ⟨2, ![8704, 2816]⟩
abbrev S2816x1024 : Shape := ⟨2, ![2816, 1024]⟩
abbrev S_ : Shape := ⟨0, ![]⟩
abbrev S1024x2816 : Shape := ⟨2, ![1024, 2816]⟩
abbrev S8704x5632 : Shape := ⟨2, ![8704, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x2816, .bf16⟩
  | .hbm, ⟨2, _⟩ => ⟨S8704x2816, .bf16⟩
  | .hbm, ⟨3, _⟩ => ⟨S2816x1024, .bf16⟩
  | .hbm, ⟨4, _⟩ => ⟨S8704x2816, .f32⟩
  | .hbm, ⟨5, _⟩ => ⟨S8704x2816, .f32⟩
  | .hbm, ⟨6, _⟩ => ⟨S2816x1024, .f32⟩
  | .hbm, ⟨7, _⟩ => ⟨S8704x2816, .f32⟩
  | .hbm, ⟨8, _⟩ => ⟨S8704x2816, .f32⟩
  | .hbm, ⟨9, _⟩ => ⟨S_, .f32⟩
  | .hbm, ⟨10, _⟩ => ⟨S8704x2816, .f32⟩
  | .hbm, ⟨11, _⟩ => ⟨S8704x2816, .f32⟩
  | .hbm, ⟨12, _⟩ => ⟨S_, .f32⟩
  | .hbm, ⟨13, _⟩ => ⟨S8704x2816, .f32⟩
  | .hbm, ⟨14, _⟩ => ⟨S8704x2816, .f32⟩
  | .hbm, ⟨15, _⟩ => ⟨S_, .f32⟩
  | .hbm, ⟨16, _⟩ => ⟨S8704x2816, .f32⟩
  | .hbm, ⟨17, _⟩ => ⟨S8704x2816, .f32⟩
  | .hbm, ⟨18, _⟩ => ⟨S8704x2816, .f32⟩
  | .hbm, ⟨19, _⟩ => ⟨S8704x2816, .f32⟩
  | .hbm, ⟨20, _⟩ => ⟨S8704x2816, .f32⟩
  | .hbm, ⟨21, _⟩ => ⟨S8704x1024, .f32⟩
  | .hbm, ⟨22, _⟩ => ⟨S_, .f32⟩
  | .hbm, ⟨23, _⟩ => ⟨S8704x1024, .f32⟩
  | .hbm, ⟨24, _⟩ => ⟨S8704x1024, .f32⟩
  | .hbm, ⟨25, _⟩ => ⟨S_, .f32⟩
  | .hbm, ⟨26, _⟩ => ⟨S8704x1024, .f32⟩
  | .hbm, ⟨27, _⟩ => ⟨S8704x1024, .f32⟩
  | .hbm, ⟨28, _⟩ => ⟨S1024x2816, .f32⟩
  | .hbm, ⟨29, _⟩ => ⟨S2816x1024, .f32⟩
  | .hbm, ⟨30, _⟩ => ⟨S8704x2816, .f32⟩
  | .hbm, ⟨31, _⟩ => ⟨S8704x2816, .f32⟩
  | .hbm, ⟨32, _⟩ => ⟨S8704x2816, .f32⟩
  | .hbm, ⟨33, _⟩ => ⟨S8704x2816, .f32⟩
  | .hbm, ⟨34, _⟩ => ⟨S8704x2816, .f32⟩
  | .hbm, ⟨35, _⟩ => ⟨S8704x2816, .f32⟩
  | .hbm, ⟨36, _⟩ => ⟨S8704x2816, .f32⟩
  | .hbm, ⟨37, _⟩ => ⟨S8704x5632, .f32⟩
  | .hbm, ⟨38, _⟩ => ⟨S8704x5632, .bf16⟩
  | .hbm, ⟨39, _⟩ => ⟨S2816x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Firstwgu.lean ====
abbrev S8704x1024 : Shape := ⟨2, ![8704, 1024]⟩
abbrev S8704x5632 : Shape := ⟨2, ![8704, 5632]⟩
abbrev S5632x1024 : Shape := ⟨2, ![5632, 1024]⟩
abbrev S512x1024 : Shape := ⟨2, ![512, 1024]⟩
abbrev S512x5632 : Shape := ⟨2, ![512, 5632]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S5632x1024, .bf16⟩
  | .local _ .vmem, ⟨0, _⟩ => ⟨S512x1024, .bf16⟩
  | .local _ .vmem, ⟨1, _⟩ => ⟨S512x1024, .bf16⟩
  | .local _ .vmem, ⟨2, _⟩ => ⟨S512x5632, .bf16⟩
  | .local _ .vmem, ⟨3, _⟩ => ⟨S512x5632, .bf16⟩
  | .local _ .vmem, ⟨4, _⟩ => ⟨S5632x1024, .bf16⟩
  | .local _ .vmem, ⟨5, _⟩ => ⟨S5632x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v46 : BitVec 1 := Scalar.cmpi .eq arg0 c16_i32
  let v47 : BitVec 32 := Scalar.extui v46
  let c0_i32_38 : BitVec 32 := 0#32
  let v48 : BitVec 1 := Scalar.cmpi .ne v47 c0_i32_38
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FirstwguReferenceIdeal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S_, .f32⟩
  | .hbm, ⟨3, _⟩ => ⟨S1024x5632, .f32⟩
  | .hbm, ⟨4, _⟩ => ⟨S8704x1024, .f32⟩
  | .hbm, ⟨5, _⟩ => ⟨S8704x5632, .f32⟩
  | .hbm, ⟨6, _⟩ => ⟨S8704x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Firstffn.lean ====
abbrev S8192x1024 : Shape := ⟨2, ![8192, 1024]⟩
abbrev S16x1024 : Shape := ⟨2, ![16, 1024]⟩
abbrev S1x1024 : Shape := ⟨2, ![1, 1024]⟩
abbrev S2x2816x1024 : Shape := ⟨3, ![2, 2816, 1024]⟩
abbrev S2816x1024 : Shape := ⟨2, ![2816, 1024]⟩
abbrev S8704x1024 : Shape := ⟨2, ![8704, 1024]⟩
abbrev S8704x2816 : Shape := ⟨2, ![8704, 2816]⟩
abbrev S128x1024 : Shape := ⟨2, ![128, 1024]⟩
abbrev S512x1024 : Shape := ⟨2, ![512, 1024]⟩
abbrev S512x2816 : Shape := ⟨2, ![512, 2816]⟩
abbrev S112x1024 : Shape := ⟨2, ![112, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x768x1024 : Shape := ⟨3, ![1, 768, 1024]⟩
abbrev S768x1024 : Shape := ⟨2, ![768, 1024]⟩
abbrev S512x768 : Shape := ⟨2, ![512, 768]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S2x2816x1024, .bf16⟩
  | .hbm, ⟨4, _⟩ => ⟨S2816x1024, .bf16⟩
  | .hbm, ⟨5, _⟩ => ⟨S8704x1024, .f32⟩
  | .hbm, ⟨6, _⟩ => ⟨S8704x1024, .bf16⟩
  | .hbm, ⟨7, _⟩ => ⟨S8704x2816, .bf16⟩
  | .hbm, ⟨8, _⟩ => ⟨S8704x2816, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S16x1024, .f32⟩
  | .local _ .vmem, ⟨9, _⟩ => ⟨S1x1024, .f32⟩
  | .local _ .vmem, ⟨10, _⟩ => ⟨S2x2816x1024, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.maxsi v29 c1_i32_11
  let v31 : BitVec 32 := Scalar.addi v19 v30
  let c1_i32_12 : BitVec 32 := 1#32
  let v32 : BitVec 32 := Scalar.subi v31 c1_i32_12
  let c0_i32_13 : BitVec 32 := 0#32
  let c0_i32_14 : BitVec 32 := 0#32
  ![v32.toNat, c0_i32_13.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32 : BitVec 32 := 16#32
  let v19 : BitVec 32 := Scalar.muli v18 c16_i32
  let c17_i32_5 : BitVec 32 := 17#32
  let c0_i32_6 : BitVec 32 := 0#32
  let v20 : BitVec 1 := Scalar.cmpi .eq c17_i32_5 c0_i32_6
  let c1_i32_7 : BitVec 32 := 1#32
  let v21 : BitVec 32 := Scalar.select v20 c1_i32_7 c17_i32_5
  let v22 : BitVec 32 := Scalar.remsi v1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.maxsi v29 c1_i32_11
  let v31 : BitVec 32 := Scalar.addi v19 v30
  let c1_i32_12 : BitVec 32 := 1#32
  let v32 : BitVec 32 := Scalar.subi v31 c1_i32_12
  let c0_i32_13 : BitVec 32 := 0#32
  let c0_i32_14 : BitVec 32 := 0#32
  ![v32.toNat, c0_i32_13.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_4 : BitVec 32 := 17#32
  let c0_i32_5 : BitVec 32 := 0#32
  let v20 : BitVec 1 := Scalar.cmpi .eq c17_i32_4 c0_i32_5
  let c1_i32_6 : BitVec 32 := 1#32
  let v21 : BitVec 32 := Scalar.select v20 c1_i32_6 c17_i32_4
  let v22 : BitVec 32 := Scalar.remsi v1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c1_i32_10 : BitVec 32 := 1#32
  let v30 : BitVec 32 := Scalar.maxsi v29 c1_i32_10
  let v31 : BitVec 32 := Scalar.addi v19 v30
  let c1_i32_11 : BitVec 32 := 1#32
  let v32 : BitVec 32 := Scalar.subi v31 c1_i32_11
  let c0_i32_12 : BitVec 32 := 0#32
  let c0_i32_13 : BitVec 32 := 0#32
  ![v32.toNat, c0_i32_12.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32 : BitVec 32 := 16#32
  let v19 : BitVec 32 := Scalar.muli v18 c16_i32
  let c17_i32_4 : BitVec 32 := 17#32
  let c0_i32_5 : BitVec 32 := 0#32
  let v20 : BitVec 1 := Scalar.cmpi .eq c17_i32_4 c0_i32_5
  let c1_i32_6 : BitVec 32 := 1#32
  let v21 : BitVec 32 := Scalar.select v20 c1_i32_6 c17_i32_4
  let v22 : BitVec 32 := Scalar.remsi v1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c1_i32_10 : BitVec 32 := 1#32
  let v30 : BitVec 32 := Scalar.maxsi v29 c1_i32_10
  let v31 : BitVec 32 := Scalar.addi v19 v30
  let c1_i32_11 : BitVec 32 := 1#32
  let v32 : BitVec 32 := Scalar.subi v31 c1_i32_11
  let c0_i32_12 : BitVec 32 := 0#32
  let c0_i32_13 : BitVec 32 := 0#32
  ![v32.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FirstffnReferenceIdeal.lean ====
abbrev S8192x1024 : Shape := ⟨2, ![8192, 1024]⟩
abbrev S16x1024 : Shape := ⟨2, ![16, 1024]⟩
abbrev S1x1024 : Shape := ⟨2, ![1, 1024]⟩
abbrev S2x2816x1024 : Shape := ⟨3, ![2, 2816, 1024]⟩
abbrev S2816x1024 : Shape := ⟨2, ![2816, 1024]⟩
abbrev S_ : Shape := ⟨0, ![]⟩
abbrev S112x1024 : Shape := ⟨2, ![112, 1024]⟩
abbrev S128x1024 : Shape := ⟨2, ![128, 1024]⟩
abbrev S4x128x1024 : Shape := ⟨3, ![4, 128, 1024]⟩
abbrev S4x2048x1024 : Shape := ⟨3, ![4, 2048, 1024]⟩
abbrev S4x2176x1024 : Shape := ⟨3, ![4, 2176, 1024]⟩
abbrev S8704x1024 : Shape := ⟨2, ![8704, 1024]⟩
abbrev S8704 : Shape := ⟨1, ![8704]⟩
abbrev S8704x1 : Shape := ⟨2, ![8704, 1]⟩
abbrev S5632x1024 : Shape := ⟨2, ![5632, 1024]⟩
abbrev S1024x5632 : Shape := ⟨2, ![1024, 5632]⟩
abbrev S8704x5632 : Shape := ⟨2, ![8704, 5632]⟩
abbrev S8704x2816 : Shape := ⟨2, ![8704, 2816]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S2x2816x1024, .bf16⟩
  | .hbm, ⟨4, _⟩ => ⟨S2816x1024, .bf16⟩
  | .hbm, ⟨5, _⟩ => ⟨S_, .f32⟩
  | .hbm, ⟨6, _⟩ => ⟨S112x1024, .f32⟩
  | .hbm, ⟨7, _⟩ => ⟨S128x1024, .f32⟩
  | .hbm, ⟨8, _⟩ => ⟨S4x128x1024, .f32⟩
  | .hbm, ⟨9, _⟩ => ⟨S4x2048x1024, .f32⟩
  | .hbm, ⟨10, _⟩ => ⟨S4x2176x1024, .f32⟩
  | .hbm, ⟨11, _⟩ => ⟨S8704x1024, .f32⟩
  | .hbm, ⟨12, _⟩ => ⟨S8704x1024, .f32⟩
  | .hbm, ⟨13, _⟩ => ⟨S_, .f32⟩
  | .hbm, ⟨14, _⟩ => ⟨S8704, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x1, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S8704x1024, .f32⟩
  | .hbm, ⟨27, _⟩ => ⟨S2x2816x1024, .f32⟩
  | .hbm, ⟨28, _⟩ => ⟨S5632x1024, .f32⟩
  | .hbm, ⟨29, _⟩ => ⟨S1024x5632, .f32⟩
  | .hbm, ⟨30, _⟩ => ⟨S8704x5632, .f32⟩
  | .hbm, ⟨31, _⟩ => ⟨S8704x2816, .f32⟩
  | .hbm, ⟨32, _⟩ => ⟨S8704x2816, .f32⟩
  | .hbm, ⟨33, _⟩ => ⟨S2816x1024, .f32⟩
  | .hbm, ⟨34, _⟩ => ⟨S8704x2816, .f32⟩
  | .hbm, ⟨35, _⟩ => ⟨S8704x2816, .f32⟩
  | .hbm, ⟨36, _⟩ => ⟨S_, .f32⟩
  | .hbm, ⟨37, _⟩ => ⟨S8704x2816, .f32⟩
  | .hbm, ⟨38, _⟩ => ⟨S8704x2816, .f32⟩
  | .hbm, ⟨39, _⟩ => ⟨S_, .f32⟩
  | .hbm, ⟨40, _⟩ => ⟨S8704x2816, .f32⟩
  | .hbm, ⟨41, _⟩ => ⟨S8704x2816, .f32⟩
  | .hbm, ⟨42, _⟩ => ⟨S8704x2816, .f32⟩
  | .hbm, ⟨43, _⟩ => ⟨S8704x2816, .f32⟩
  | .hbm, ⟨44, _⟩ => ⟨S8704x1024, .f32⟩
  | .hbm, ⟨45, _⟩ => ⟨S_, .f32⟩
  | .hbm, ⟨46, _⟩ => ⟨S8704x1024, .f32⟩
  | .hbm, ⟨47, _⟩ => ⟨S8704x1024, .f32⟩
  | .hbm, ⟨48, _⟩ => ⟨S8704x1024, .f32⟩
  | .hbm, ⟨49, _⟩ => ⟨S8704x1024, .bf16⟩
  | .hbm, ⟨50, _⟩ => ⟨S8704x2816, .bf16⟩
  | .hbm, ⟨51, _⟩ => ⟨S8704x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Proof.Finite.lean ====
/-
  Real entries: what the preconditions say, and the facts on extended reals that are used once the entries are real.
-/
module

public import Idealize.ShloMosaic.Lib.ReduceAll
public import Idealize.ShloMosaic.Lib.Pointwise

@[expose] public section

noncomputable section

namespace Cert.Finite

open Idealize.ShloMosaic Idealize.ShloMosaic.Ideal

/-- An extended real that is a real number. -/
def IsReal (x : EReal) : Prop := ∃ r : ℝ, x = r

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- An extended real whose absolute value is below the infinity is a real number. -/
theorem isReal_of_abs_lt (x : EReal) (h : max x (-x) < ⊤) : IsReal x := by
  induction x with
  | bot => exact absurd h (by simp)
  | top => exact absurd h (by simp)
  | coe r => exact ⟨r, rfl⟩

/-- The word of the infinity is the infinity. -/
theorem ofBits_inf : Ideal.ofBits .f32 0x7F800000#32 = ⊤ := by simp [Ideal.ofBits, Ideal.ieee]

/-- The test `all (|x| < ∞)` says that every entry of `x` is real. -/
theorem real_of_all {s S0 t u : Shape} {axes : List (Fin s.rank)} {dims : Fin S0.rank → Fin s.rank} (x : FVec Ideal s .f32)
    (hb : S0.BroadcastsInDim s dims) (init : IVec u 1) (hr : s.ReducesTo axes t) (hu : 0 < u.numel) (j : t.Idx)
    [Subsingleton t.Idx]
    (e : Host.reduce IntOp.andi
      (cmpf .olt (Host.absf x) (broadcastInDim s dims hb (constant S0 .f32 0x7F800000#32))) init hr hu j = 1#1)
    (i : s.Idx) : IsReal (x i) := by
  have h : Ideal.cmp .olt (max (x i : EReal) (-(x i : EReal))) (Ideal.ofBits .f32 0x7F800000#32) = 1#1 :=
    Host.reduce_andi_all _ init hr hu j e i
  rw [ofBits_inf] at h
  exact isReal_of_abs_lt _ ((cmp_olt_eq_one _ _).mp h)

end Cert.Finite
-- ==== Proof.NormMath.lean ====
/-
  The gradient of the norm of one row, as the kernel and as the reference compute it, on the extended reals.
-/
module

public import proofs.«01_k».proof.Proof.Finite

@[expose] public section

noncomputable section

namespace Cert.NormMath

open Idealize.ShloMosaic Cert.Finite

/-- The mean square of a row, the small constant added. -/
def meanSq (h : Fin 1024 → EReal) : EReal :=
  Ideal.div (∑ k, h k * h k) (Ideal.ofBits .f32 0x44800000#32) + Ideal.ofBits .f32 0x358637BD#32

/-- Its reciprocal root. -/
def root (h : Fin 1024 → EReal) : EReal := Ideal.rsqrt (meanSq h)

/-- A row of the gradient of the normed rows: the hidden gradient's row times the weights. -/
def back (u : Fin 5632 → EReal) (w : Fin 5632 → Fin 1024 → EReal) (j : Fin 1024) : EReal := ∑ k, u k * w k j

/-- One row of the kernel's result: the gradient that came by the side, and the norm's. -/
def rowOut (h d g dn : Fin 1024 → EReal) (j : Fin 1024) : EReal :=
  d j + root h * (dn j * g j - h j * root h *
    Ideal.div (∑ k, dn k * g k * (h k * root h)) (Ideal.ofBits .f32 0x44800000#32))

/-- What the reference adds twice to a row: the gradient of the mean square, by the row's entries. -/
def pull (h g dn : Fin 1024 → EReal) : EReal :=
  ∑ _ : Fin 1, Ideal.div ((∑ k, h k * (dn k * g k)) * (Ideal.ofBits .f32 0xBF000000#32 * Ideal.div (root h) (meanSq h)))
    (Ideal.ofBits .f32 0x44800000#32)

/-- One row of the reference's result. -/
def rowRef (h d g dn : Fin 1024 → EReal) (j : Fin 1024) : EReal :=
  d j + dn j * g j * root h + h j * pull h g dn + pull h g dn * h j

/-- The word of 1024. -/
theorem word_1024 : Ideal.ofBits .f32 0x44800000#32 = ((1024 : ℝ) : EReal) := by
  simp [Ideal.ofBits, Ideal.ieee]
  rw [← EReal.coe_mul]
  norm_num

/-- The word of −1/2. -/
theorem word_neg_half : Ideal.ofBits .f32 0xBF000000#32 = ((-(1 / 2) : ℝ) : EReal) := by
  simp [Ideal.ofBits, Ideal.ieee]
  rw [← EReal.coe_mul]
  norm_num

/-- The small constant is a positive real. -/
theorem word_small : ∃ e : ℝ, 0 < e ∧ Ideal.ofBits .f32 0x358637BD#32 = (e : EReal) := by
  refine ⟨_, ?_, by simp [Ideal.ofBits, Ideal.ieee]; rfl⟩
  positivity

/-- The mean square of a real row is a positive real, and its reciprocal root the real one's. -/
theorem root_real (H : Fin 1024 → ℝ) : ∃ v : ℝ, 0 < v ∧ meanSq (fun k => (H k : EReal)) = v
    ∧ root (fun k => (H k : EReal)) = (((Real.sqrt v)⁻¹ : ℝ) : EReal) := by
  obtain ⟨e, he, hw⟩ := word_small
  have hs : meanSq (fun k => (H k : EReal)) = (((∑ k, H k * H k) * (1 / 1024) + e : ℝ) : EReal) := by
    rw [meanSq, word_1024, Ideal.div_coe (by norm_num), hw]
    simp only [← EReal.coe_mul, ← coe_sum, ← EReal.coe_add]
  have hp : 0 < (∑ k, H k * H k) * (1 / 1024) + e := by
    have : 0 ≤ ∑ k, H k * H k := Finset.sum_nonneg fun k _ => mul_self_nonneg _
    positivity
  refine ⟨_, hp, hs, ?_⟩
  rw [root, hs, Ideal.rsqrt_coe, if_neg (not_lt.mpr hp.le), if_neg hp.ne']

/-- On real rows the two agree, whatever came by the side. -/
theorem row_eq (h d g dn : Fin 1024 → EReal) (hh : ∀ k, IsReal (h k)) (hg : ∀ k, IsReal (g k)) (hd : ∀ k, IsReal (dn k))
    (j : Fin 1024) : rowRef h d g dn j = rowOut h d g dn j := by
  choose H eH using hh
  choose G eG using hg
  choose D eD using hd
  obtain rfl : h = fun k => (H k : EReal) := funext eH
  obtain rfl : g = fun k => (G k : EReal) := funext eG
  obtain rfl : dn = fun k => (D k : EReal) := funext eD
  obtain ⟨v, hv, em, er⟩ := root_real H
  simp only [rowRef, rowOut, pull, em, er, word_1024, word_neg_half, Ideal.div_coe hv.ne',
    Ideal.div_coe (show (1024 : ℝ) ≠ 0 by norm_num), ← EReal.coe_mul, ← coe_sum, ← EReal.coe_add, ← EReal.coe_sub,
    add_assoc, Finset.univ_unique, Finset.sum_const, Finset.card_singleton, one_smul]
  congr 2
  have hr : (Real.sqrt v)⁻¹ * (Real.sqrt v)⁻¹ = v⁻¹ := by
    rw [← mul_inv, Real.mul_self_sqrt hv.le]
  have hs : ∑ k, D k * G k * (H k * (Real.sqrt v)⁻¹) = (Real.sqrt v)⁻¹ * ∑ k, H k * (D k * G k) := by
    rw [Finset.mul_sum]
    exact Finset.sum_congr rfl fun k _ => by ring
  rw [hs]
  generalize (∑ k, H k * (D k * G k)) = S
  rw [show (1 / v : ℝ) = v⁻¹ from one_div v, ← hr]
  ring

end Cert.NormMath
-- ==== Proof.ConvMath.lean ====
/-
  The gradient of the gated short convolution with its norm over heads, one sequence of 2176 rows at a time: the maps of
  columns and rows, and the equation of the norm's gradient as a kernel with a group matrix and as the plain formula compute it.
-/
module

public import proofs.«01_k».proof.Proof.NormMath
public import Idealize.ShloMosaic.Lib.Pipeline.ValueKit

@[expose] public section

noncomputable section

namespace Cert.ConvMath

open Idealize.ShloMosaic Cert.Finite Cert.NormMath

/-- A column moved down by `s` rows, zeros above. -/
def later (s : ℕ) (x : Fin 2176 → EReal) (t : Fin 2176) : EReal :=
  if h : s ≤ t.val then x ⟨t.val - s, by omega⟩ else 0

/-- A column moved up by `s` rows, zeros below. -/
def sooner (s : ℕ) (x : Fin 2176 → EReal) (t : Fin 2176) : EReal :=
  if h : t.val + s < 2176 then x ⟨t.val + s, h⟩ else 0

/-- A column not moved. -/
theorem later_zero (x : Fin 2176 → EReal) : later 0 x = x := funext fun t => dif_pos (Nat.zero_le _)

variable {Q : Type}

/-- The convolution's input, the product of two gates. -/
def gated (C H : Fin 2176 → Q → EReal) (t : Fin 2176) (q : Q) : EReal := C t q * H t q

/-- The convolution over three rows. -/
def conv (C H : Fin 2176 → Q → EReal) (w2 w1 w0 : Q → EReal) (t : Fin 2176) (q : Q) : EReal :=
  w2 q * gated C H t q + w1 q * later 1 (fun t => gated C H t q) t + w0 q * later 2 (fun t => gated C H t q) t

/-- The convolution gated once more: what is normed. -/
def mixed (B C H : Fin 2176 → Q → EReal) (w2 w1 w0 : Q → EReal) (t : Fin 2176) (q : Q) : EReal :=
  B t q * conv C H w2 w1 w0 t q

/-- The gradient of the convolution's input from that of its output. -/
def convT (X : Fin 2176 → Q → EReal) (w2 w1 w0 : Q → EReal) (t : Fin 2176) (q : Q) : EReal :=
  w2 q * X t q + w1 q * sooner 1 (fun t => X t q) t + w0 q * sooner 2 (fun t => X t q) t

/-- A sum over a lane's group by the matrix `G`, of the entries and of what their rounding left. -/
def gsum (G : Fin 128 → Fin 128 → EReal) (x : Fin 128 → EReal) (l : Fin 128) : EReal :=
  ∑ k, x k * G k l + ∑ k, (x k - x k) * G k l

/-- The reciprocal root of a lane's group by the matrix. -/
def kroot (G : Fin 128 → Fin 128 → EReal) (y : Fin 128 → EReal) (l : Fin 128) : EReal :=
  Ideal.rsqrt (gsum G (fun k => y k * y k) l + Ideal.ofBits .f32 0x358637BD#32)

/-- A normed lane. -/
def khat (G : Fin 128 → Fin 128 → EReal) (y : Fin 128 → EReal) (l : Fin 128) : EReal := y l * kroot G y l

/-- The gradient of the norm by the matrix. -/
def kback (G : Fin 128 → Fin 128 → EReal) (y d : Fin 128 → EReal) (l : Fin 128) : EReal :=
  kroot G y l * (d l - khat G y l * gsum G (fun k => d k * khat G y k) l)

/-- The mean square of a head, the small constant added. -/
def hsq (y : Fin 64 → EReal) : EReal :=
  Ideal.div (∑ k, y k * y k) (Ideal.ofBits .f32 0x42800000#32) + Ideal.ofBits .f32 0x358637BD#32

/-- Its reciprocal root. -/
def hroot (y : Fin 64 → EReal) : EReal := Ideal.rsqrt (hsq y)

/-- The gradient of the mean square, by the head's entries. -/
def hpull (y d : Fin 64 → EReal) : EReal :=
  ∑ _ : Fin 1, Ideal.div ((∑ k, y k * d k) * (Ideal.ofBits .f32 0xBF000000#32 * Ideal.div (hroot y) (hsq y)))
    (Ideal.ofBits .f32 0x42800000#32)

/-- The gradient of the norm of a head. -/
def hback (y d : Fin 64 → EReal) (k : Fin 64) : EReal := d k * hroot y + y k * hpull y d + hpull y d * y k

/-- The group matrix: 1/64 for lanes of the same head. -/
def gm (k l : Fin 128) : EReal := if k.val / 64 = l.val / 64 then ((1 / 64 : ℝ) : EReal) else 0

/-- The lanes of a lane's head. -/
def mate (l : Fin 128) (k : Fin 64) : Fin 128 := ⟨l.val / 64 * 64 + k.val, by omega⟩

/-- A lane's place in its head. -/
def place (l : Fin 128) : Fin 64 := ⟨l.val % 64, by omega⟩

/-- A lane is the mate at its place. -/
theorem mate_place (l : Fin 128) : mate l (place l) = l := Fin.ext (by dsimp only [mate, place]; omega)

/-- Mates have the same mates. -/
theorem mate_mate (l : Fin 128) (k : Fin 64) : mate (mate l k) = mate l :=
  funext fun i => Fin.ext (by dsimp only [mate]; omega)

/-- The word of 64. -/
theorem word_64 : Ideal.ofBits .f32 0x42800000#32 = ((64 : ℝ) : EReal) := by
  simp [Ideal.ofBits, Ideal.ieee]
  rw [← EReal.coe_mul]
  norm_num

/-- A sum over 128 lanes by the group matrix is the head's sum, divided by 64. -/
theorem gm_sum (X : Fin 128 → ℝ) (l : Fin 128) :
    ∑ k, (X k : EReal) * gm k l = (((∑ k, X (mate l k)) * (1 / 64) : ℝ) : EReal) := by
  have e : ∑ k : Fin 128, (X k : EReal) * gm k l
      = ∑ s : Fin 2, ∑ k : Fin 64, (X ⟨s.val * 64 + k.val, by omega⟩ : EReal) * gm ⟨s.val * 64 + k.val, by omega⟩ l :=
    (Fin.sum_mul_add_congr (fun t k hl => rfl) (by norm_num)).symm
  have hg (s : Fin 2) (k : Fin 64) :
      (X ⟨s.val * 64 + k.val, by omega⟩ : EReal) * gm ⟨s.val * 64 + k.val, by omega⟩ l
        = if s.val = l.val / 64 then ((X (mate l k) * (1 / 64) : ℝ) : EReal) else 0 := by
    have hs : (s.val * 64 + k.val) / 64 = s.val := by omega
    unfold gm
    dsimp only
    rw [hs]
    by_cases h : s.val = l.val / 64
    · rw [if_pos h, if_pos h, ← EReal.coe_mul,
        show (⟨s.val * 64 + k.val, by omega⟩ : Fin 128) = mate l k from Fin.ext (by dsimp only [mate]; omega)]
    · rw [if_neg h, if_neg h, mul_zero]
  rw [e, Finset.sum_mul, coe_sum]
  simp only [hg]
  have hl : l.val / 64 = 0 ∨ l.val / 64 = 1 := by omega
  rw [Fin.sum_univ_two]
  rcases hl with hl | hl <;> simp [hl]

/-- On reals the group sum is the head's mean. -/
theorem gsum_real (X : Fin 128 → ℝ) (l : Fin 128) :
    gsum gm (fun k => (X k : EReal)) l = (((∑ k, X (mate l k)) * (1 / 64) : ℝ) : EReal) := by
  have h0 : ∑ k, ((X k : EReal) - (X k : EReal)) * gm k l = 0 :=
    Finset.sum_eq_zero fun k _ => by rw [← EReal.coe_sub, sub_self, EReal.coe_zero, zero_mul]
  rw [gsum, h0, add_zero, gm_sum]

/-- The mean square of a real head is a positive real, and its reciprocal root the real one's. -/
theorem hroot_real (H : Fin 64 → ℝ) : ∃ v : ℝ, 0 < v ∧ hsq (fun k => (H k : EReal)) = v
    ∧ hroot (fun k => (H k : EReal)) = (((Real.sqrt v)⁻¹ : ℝ) : EReal) := by
  obtain ⟨e, he, hw⟩ := word_small
  have hs : hsq (fun k => (H k : EReal)) = (((∑ k, H k * H k) * (1 / 64) + e : ℝ) : EReal) := by
    rw [hsq, word_64, Ideal.div_coe (by norm_num), hw]
    simp only [← EReal.coe_mul, ← coe_sum, ← EReal.coe_add]
  have hp : 0 < (∑ k, H k * H k) * (1 / 64) + e := by
    have : 0 ≤ ∑ k, H k * H k := Finset.sum_nonneg fun k _ => mul_self_nonneg _
    positivity
  refine ⟨_, hp, hs, ?_⟩
  rw [hroot, hs, Ideal.rsqrt_coe, if_neg (not_lt.mpr hp.le), if_neg hp.ne']

/-- On reals the reciprocal root by the matrix is the head's. -/
theorem kroot_real (Y : Fin 128 → ℝ) (l : Fin 128) :
    kroot gm (fun k => (Y k : EReal)) l = hroot (fun k => (Y (mate l k) : EReal)) := by
  simp only [kroot, hroot, hsq, word_64, Ideal.div_coe (show (64 : ℝ) ≠ 0 by norm_num), ← EReal.coe_mul, ← coe_sum]
  rw [gsum_real fun k => Y k * Y k]

/-- The normed lane by the matrix. -/
theorem khat_eq (y : Fin 128 → EReal) (hy : ∀ k, IsReal (y k)) (l : Fin 128) :
    khat gm y l = y l * hroot (fun k => y (mate l k)) := by
  choose Y eY using hy
  obtain rfl : y = fun k => (Y k : EReal) := funext eY
  rw [khat, kroot_real]

/-- On reals the norm's gradient by the matrix is the head's. -/
theorem kback_eq (y d : Fin 128 → EReal) (hy : ∀ k, IsReal (y k)) (hd : ∀ k, IsReal (d k)) (l : Fin 128) :
    kback gm y d l = hback (fun k => y (mate l k)) (fun k => d (mate l k)) (place l) := by
  choose Y eY using hy
  choose D eD using hd
  obtain rfl : y = fun k => (Y k : EReal) := funext eY
  obtain rfl : d = fun k => (D k : EReal) := funext eD
  have hr : ∀ l, ∃ v : ℝ, 0 < v ∧ hsq (fun k => (Y (mate l k) : EReal)) = v
      ∧ hroot (fun k => (Y (mate l k) : EReal)) = (((Real.sqrt v)⁻¹ : ℝ) : EReal) := fun l => hroot_real _
  choose v hv em er using hr
  have hm : ∀ k, v (mate l k) = v l := fun k => by
    have h := em (mate l k)
    rw [mate_mate] at h
    exact EReal.coe_eq_coe_iff.mp (h.symm.trans (em l))
  have hk : ∀ l, khat gm (fun k => (Y k : EReal)) l = ((Y l * (Real.sqrt (v l))⁻¹ : ℝ) : EReal) := fun l => by
    rw [khat, kroot_real, er, EReal.coe_mul]
  simp only [kback, hk, kroot_real, hback, hpull, em, er, word_64, word_neg_half, mate_place,
    Ideal.div_coe (hv l).ne', Ideal.div_coe (show (64 : ℝ) ≠ 0 by norm_num), ← EReal.coe_mul]
  rw [gsum_real fun k => D k * (Y k * (Real.sqrt (v k))⁻¹)]
  simp only [← EReal.coe_mul, ← coe_sum, ← EReal.coe_add, ← EReal.coe_sub, Finset.univ_unique, Finset.sum_const,
    Finset.card_singleton, one_smul, hm]
  congr 1
  have h2 : (Real.sqrt (v l))⁻¹ * (Real.sqrt (v l))⁻¹ = (v l)⁻¹ := by
    rw [← mul_inv, Real.mul_self_sqrt (hv l).le]
  have hs : ∑ k, D (mate l k) * (Y (mate l k) * (Real.sqrt (v l))⁻¹)
      = (Real.sqrt (v l))⁻¹ * ∑ k, Y (mate l k) * D (mate l k) := by
    rw [Finset.mul_sum]
    exact Finset.sum_congr rfl fun k _ => by ring
  rw [hs]
  generalize (∑ k, Y (mate l k) * D (mate l k)) = S
  rw [show (1 / v l : ℝ) = (v l)⁻¹ from one_div _, ← h2]
  ring

/-- A moved column of reals is real. -/
theorem later_real (s : ℕ) (x : Fin 2176 → EReal) (h : ∀ t, IsReal (x t)) (t : Fin 2176) : IsReal (later s x t) := by
  unfold later
  split
  · exact h _
  · exact ⟨0, rfl⟩

/-- On reals what is normed is real. -/
theorem mixed_real (B C H : Fin 2176 → Q → EReal) (w2 w1 w0 : Q → EReal) (hB : ∀ t q, IsReal (B t q))
    (hC : ∀ t q, IsReal (C t q)) (hH : ∀ t q, IsReal (H t q)) (h2 : ∀ q, IsReal (w2 q)) (h1 : ∀ q, IsReal (w1 q))
    (h0 : ∀ q, IsReal (w0 q)) (t : Fin 2176) (q : Q) : IsReal (mixed B C H w2 w1 w0 t q) :=
  have hg : ∀ t, IsReal (gated C H t q) := fun t => (hC t q).mul (hH t q)
  (hB t q).mul ((((h2 q).mul (hg t)).add ((h1 q).mul (later_real 1 _ hg t))).add ((h0 q).mul (later_real 2 _ hg t)))

end Cert.ConvMath
-- ==== Proof.ConvBlock.lean ====
/-
  The gradient of the short convolution and its norm, one block of 2176 rows and 128 lanes: the kernel's arithmetic on it.
-/
module

public import proofs.«01_k».proof.Proof.Gen.KernelIdeal.Value
public import proofs.«01_k».proof.Proof.ConvMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.ConvMath

/-- A block as a function of row and lane. -/
def cells (x : FVec Ideal S2176x128 .f32) (t : Fin 2176) (l : Fin 128) : EReal := x (ix2 t l)

/-- A vector of lanes. -/
def lanes (x : FVec Ideal S1x128 .f32) (l : Fin 128) : EReal := x (ix2 0 l)

/-- The group matrix's entries. -/
def grid (x : FVec Ideal S128x128 .f32) (k l : Fin 128) : EReal := x (ix2 k l)

/-- The words' comparison from above. -/
theorem select_sge {α : Type} (a b : ℕ) (ha : a < 2176) (hb : b < 2176) (x y : α) :
    Scalar.select (IntOp.cmpi .sge (BitVec.ofNat 32 a) (BitVec.ofNat 32 b)) x y = if b ≤ a then x else y := by
  rw [WordCmp.cmpi_sge_ofNat (by omega) (by omega), WordCmp.select_ofBool]
  simp

/-- The words' comparison from below. -/
theorem select_slt {α : Type} (a b : ℕ) (ha : a < 2176) (hb : b < 2176) (x y : α) :
    Scalar.select (IntOp.cmpi .slt (BitVec.ofNat 32 a) (BitVec.ofNat 32 b)) x y = if a < b then x else y := by
  rw [WordCmp.cmpi_slt_ofNat (by omega) (by omega), WordCmp.select_ofBool]
  simp

/-- The gates' product, a row later. -/
theorem pay9_eq (C H : Vec Ideal S2176x128 .bf16) (t : Fin 2176) (l : Fin 128) :
    k0_pay9 (F := Ideal) C H (ix2 t l) = later 1 (fun t => gated (cells C) (cells H) t l) t := by
  pointwise [k0_pay9, k0_pay8, k0_pay7, k0_pay6]
  have ht := t.isLt
  unfold later
  rw [select_sge _ 1 (by omega) (by omega)]
  by_cases h : 1 ≤ t.val
  · rw [dif_pos h, if_pos h]
    refine congrArg (fun r => C (ix2 r l) * H (ix2 r l)) (Fin.ext ?_)
    show (t.val + 2176 - 1) % 2176 = t.val - 1
    omega
  · rw [dif_neg h, if_neg h]

/-- The gates' product, two rows later. -/
theorem pay10_eq (C H : Vec Ideal S2176x128 .bf16) (t : Fin 2176) (l : Fin 128) :
    k0_pay10 (F := Ideal) C H (ix2 t l) = later 2 (fun t => gated (cells C) (cells H) t l) t := by
  pointwise [k0_pay10, k0_pay8, k0_pay7, k0_pay6]
  have ht := t.isLt
  unfold later
  rw [select_sge _ 2 (by omega) (by omega)]
  by_cases h : 2 ≤ t.val
  · rw [dif_pos h, if_pos h]
    refine congrArg (fun r => C (ix2 r l) * H (ix2 r l)) (Fin.ext ?_)
    show (t.val + 2176 - 2) % 2176 = t.val - 2
    omega
  · rw [dif_neg h, if_neg h]

/-- The convolution. -/
theorem pay11_eq (C H : Vec Ideal S2176x128 .bf16) (w2 w1 w0 : Vec Ideal S1x128 .f32) (t : Fin 2176) (l : Fin 128) :
    k0_pay11 (F := Ideal) C H w2 w1 w0 (ix2 t l)
      = conv (cells C) (cells H) (lanes w2) (lanes w1) (lanes w0) t l := by
  rw [conv, ← pay9_eq, ← pay10_eq]
  unfold k0_pay11
  generalize k0_pay9 (F := Ideal) C H = P
  generalize k0_pay10 (F := Ideal) C H = R
  pointwise [k0_pay8, k0_pay7, k0_pay6, gated, cells, lanes]

/-- The normed block. -/
theorem pay15_eq (B V : FVec Ideal S2176x128 .f32) (G : FVec Ideal S128x128 .bf16) (t : Fin 2176) (l : Fin 128) :
    k0_pay15 (F := Ideal) B V G (ix2 t l) = khat (grid G) (fun k => B (ix2 t k) * V (ix2 t k)) l := by
  pointwise [k0_pay15, k0_pay14, k0_pay13, khat, kroot, gsum, grid]

/-- The reciprocal roots. -/
theorem pay14_eq (B V : FVec Ideal S2176x128 .f32) (G : FVec Ideal S128x128 .bf16) (t : Fin 2176) (l : Fin 128) :
    k0_pay14 (F := Ideal) B V G (ix2 t l) = kroot (grid G) (fun k => B (ix2 t k) * V (ix2 t k)) l := by
  pointwise [k0_pay14, k0_pay13, kroot, gsum, grid]

/-- The norm's gradient. -/
theorem pay18_eq (B V : FVec Ideal S2176x128 .f32) (G : FVec Ideal S128x128 .bf16) (Z : Vec Ideal S2176x128 .bf16)
    (g : Vec Ideal S1x128 .f32) (t : Fin 2176) (l : Fin 128) :
    k0_pay18 (F := Ideal) B V G Z g (ix2 t l)
      = kback (grid G) (fun k => B (ix2 t k) * V (ix2 t k)) (fun k => Z (ix2 t k) * g (ix2 0 k)) l := by
  unfold kback
  simp only [← pay15_eq, ← pay14_eq]
  unfold k0_pay18
  generalize k0_pay15 (F := Ideal) B V G = P
  generalize k0_pay14 (F := Ideal) B V G = R
  pointwise [k0_pay16, gsum, grid]

/-- The gradient of the convolution's input. -/
theorem pay21_eq (X : FVec Ideal S2176x128 .f32) (w2 w1 w0 : Vec Ideal S1x128 .f32) (t : Fin 2176) (l : Fin 128) :
    k0_pay21 (F := Ideal) X w2 w1 w0 (ix2 t l)
      = convT (cells X) (lanes w2) (lanes w1) (lanes w0) t l := by
  pointwise [k0_pay21, convT]
  have ht := t.isLt
  rw [select_slt _ 2175 (by omega) (by omega), select_slt _ 2174 (by omega) (by omega)]
  congr 1
  · congr 1
    unfold sooner
    by_cases h : t.val + 1 < 2176
    · rw [dif_pos h, if_pos (by omega)]
      refine congrArg (fun r => w1 (ix2 0 l) * X (ix2 r l)) (Fin.ext ?_)
      show (t.val + 2176 - 2175) % 2176 = t.val + 1
      omega
    · rw [dif_neg h, if_neg (by omega), mul_zero]
  · unfold sooner
    by_cases h : t.val + 2 < 2176
    · rw [dif_pos h, if_pos (by omega)]
      refine congrArg (fun r => w0 (ix2 0 l) * X (ix2 r l)) (Fin.ext ?_)
      show (t.val + 2176 - 2174) % 2176 = t.val + 2
      omega
    · rw [dif_neg h, if_neg (by omega), mul_zero]

/-- A row of the three weights. -/
def tap (x4 : FVec Ideal S3x128 .f32) (r : Fin 3) (l : Fin 128) : EReal := x4 (ix2 r l)

/-- The block's convolution. -/
def cv (x2 x3 : FVec Ideal S2176x128 .f32) (x4 : FVec Ideal S3x128 .f32) : Fin 2176 → Fin 128 → EReal :=
  conv (cells x2) (cells x3) (tap x4 2) (tap x4 1) (tap x4 0)

/-- What the block norms. -/
def mx (x1 x2 x3 : FVec Ideal S2176x128 .f32) (x4 : FVec Ideal S3x128 .f32) : Fin 2176 → Fin 128 → EReal :=
  mixed (cells x1) (cells x2) (cells x3) (tap x4 2) (tap x4 1) (tap x4 0)

/-- The block's gradient of what is normed. -/
def dy (x0 x1 x2 x3 : FVec Ideal S2176x128 .f32) (x4 : FVec Ideal S3x128 .f32) (x5 : FVec Ideal S1x128 .f32)
    (x6 : FVec Ideal S128x128 .f32) (t : Fin 2176) (l : Fin 128) : EReal :=
  kback (grid x6) (mx x1 x2 x3 x4 t) (fun k => cells x0 t k * lanes x5 k) l

/-- The block's gradient of the convolution. -/
def dc (x0 x1 x2 x3 : FVec Ideal S2176x128 .f32) (x4 : FVec Ideal S3x128 .f32) (x5 : FVec Ideal S1x128 .f32)
    (x6 : FVec Ideal S128x128 .f32) (t : Fin 2176) (l : Fin 128) : EReal :=
  dy x0 x1 x2 x3 x4 x5 x6 t l * cells x1 t l

/-- The third weight, loaded. -/
def row2 (x4 : Vec Ideal S3x128 .f32) : Vec Ideal S1x128 .f32 :=
  View.ld x4 (Rect.unit ![2, 0] ![1, 128] inb_S3x128_S1x128_2_0)

/-- It is that weight. -/
theorem tap_2 (x4 : Vec Ideal S3x128 .f32) : lanes (row2 x4) = tap x4 2 := by
  funext l
  pointwise [lanes, tap, row2]

/-- The second weight, loaded. -/
def row1 (x4 : Vec Ideal S3x128 .f32) : Vec Ideal S1x128 .f32 :=
  View.ld x4 (Rect.unit ![1, 0] ![1, 128] inb_S3x128_S1x128_1_0)

/-- It is that weight. -/
theorem tap_1 (x4 : Vec Ideal S3x128 .f32) : lanes (row1 x4) = tap x4 1 := by
  funext l
  pointwise [lanes, tap, row1]

/-- The first weight, loaded. -/
def row0 (x4 : Vec Ideal S3x128 .f32) : Vec Ideal S1x128 .f32 :=
  View.ld x4 (Rect.unit ![0, 0] ![1, 128] inb_S3x128_S1x128_0_0)

/-- It is that weight. -/
theorem tap_0 (x4 : Vec Ideal S3x128 .f32) : lanes (row0 x4) = tap x4 0 := by
  funext l
  pointwise [lanes, tap, row0]

/-- The convolution as the kernel keeps it. -/
def cvT (x2 x3 : FVec Ideal S2176x128 .bf16) (x4 : FVec Ideal S3x128 .f32) : FVec Ideal S2176x128 .f32 :=
  k0_pay11 (F := Ideal) x2 x3 (row2 x4) (row1 x4) (row0 x4)

/-- The gradient of the convolution as the kernel keeps it. -/
def dcT (x0 x1 x2 x3 : FVec Ideal S2176x128 .bf16) (x4 : FVec Ideal S3x128 .f32) (x5 : FVec Ideal S1x128 .f32)
    (x6 : FVec Ideal S128x128 .bf16) : FVec Ideal S2176x128 .f32 :=
  k0_pay20 (F := Ideal) (k0_pay5 x1) (cvT x2 x3 x4) (k0_pay12 x6) x0 x5

/-- The kept convolution's entries. -/
theorem cvT_eq (x2 x3 : FVec Ideal S2176x128 .bf16) (x4 : FVec Ideal S3x128 .f32) (t : Fin 2176) (l : Fin 128) :
    cvT x2 x3 x4 (ix2 t l) = cv x2 x3 x4 t l := by
  rw [cvT, pay11_eq, tap_2, tap_1, tap_0, cv]

/-- What is normed, from the kept convolution. -/
theorem mx_eq (x1 x2 x3 : FVec Ideal S2176x128 .bf16) (x4 : FVec Ideal S3x128 .f32) (t : Fin 2176) :
    (fun k => k0_pay5 (F := Ideal) x1 (ix2 t k) * cvT x2 x3 x4 (ix2 t k)) = mx x1 x2 x3 x4 t := by
  funext k
  rw [cvT_eq]
  rfl

/-- The group matrix is used as it is. -/
theorem grid_eq (x6 : FVec Ideal S128x128 .bf16) : grid (k0_pay12 (F := Ideal) x6) = grid x6 := by
  funext a b
  pointwise [k0_pay12, grid]

/-- The gradient of what is normed, from the kept convolution. -/
theorem dy_eq (x0 x1 x2 x3 : FVec Ideal S2176x128 .bf16) (x4 : FVec Ideal S3x128 .f32) (x5 : FVec Ideal S1x128 .f32)
    (x6 : FVec Ideal S128x128 .bf16) (t : Fin 2176) (l : Fin 128) :
    k0_pay18 (F := Ideal) (k0_pay5 x1) (cvT x2 x3 x4) (k0_pay12 x6) x0 x5 (ix2 t l) = dy x0 x1 x2 x3 x4 x5 x6 t l := by
  rw [pay18_eq, mx_eq, grid_eq]
  rfl

/-- The first result's entries. -/
theorem pay19_eq (x0 x1 x2 x3 : FVec Ideal S2176x128 .bf16) (x4 : FVec Ideal S3x128 .f32) (x5 : FVec Ideal S1x128 .f32)
    (x6 : FVec Ideal S128x128 .bf16) (t : Fin 2176) (l : Fin 128) :
    k0_pay19 (F := Ideal) (k0_pay5 x1) (cvT x2 x3 x4) (k0_pay12 x6) x0 x5 (ix2 t l)
      = dy x0 x1 x2 x3 x4 x5 x6 t l * cv x2 x3 x4 t l := by
  rw [← dy_eq, ← cvT_eq]
  rfl

/-- The kept gradient's entries. -/
theorem dcT_eq (x0 x1 x2 x3 : FVec Ideal S2176x128 .bf16) (x4 : FVec Ideal S3x128 .f32) (x5 : FVec Ideal S1x128 .f32)
    (x6 : FVec Ideal S128x128 .bf16) : cells (dcT x0 x1 x2 x3 x4 x5 x6) = dc x0 x1 x2 x3 x4 x5 x6 := by
  funext t l
  rw [dc, ← dy_eq]
  rfl

/-- The second result's entries. -/
theorem pay22_eq (D : FVec Ideal S2176x128 .f32) (x : FVec Ideal S2176x128 .bf16) (x4 : FVec Ideal S3x128 .f32) (t : Fin 2176)
    (l : Fin 128) :
    k0_pay22 (F := Ideal) (k0_pay7 x) D (row2 x4)
        (row1 x4)
        (row0 x4) (ix2 t l)
      = convT (cells D) (tap x4 2) (tap x4 1) (tap x4 0) t l * cells x t l := by
  rw [← tap_2, ← tap_1, ← tap_0, ← pay21_eq]
  rfl

/-- The third result's entries. -/
theorem pay23_eq (D : FVec Ideal S2176x128 .f32) (x : FVec Ideal S2176x128 .bf16) (x4 : FVec Ideal S3x128 .f32) (t : Fin 2176)
    (l : Fin 128) :
    k0_pay23 (F := Ideal) (k0_pay6 x) D (row2 x4)
        (row1 x4)
        (row0 x4) (ix2 t l)
      = convT (cells D) (tap x4 2) (tap x4 1) (tap x4 0) t l * cells x t l := by
  rw [← tap_2, ← tap_1, ← tap_0, ← pay21_eq]
  rfl

/-- A block's part of the weights' gradient. -/
def dw (x0 x1 x2 x3 : FVec Ideal S2176x128 .f32) (x4 : FVec Ideal S3x128 .f32) (x5 : FVec Ideal S1x128 .f32)
    (x6 : FVec Ideal S128x128 .f32) (r : Fin 3) (l : Fin 128) : EReal :=
  ∑ t, dc x0 x1 x2 x3 x4 x5 x6 t l * later (2 - r.val) (fun t => gated (cells x2) (cells x3) t l) t

/-- A block's part of the gain's gradient. -/
def dg (x0 x1 x2 x3 : FVec Ideal S2176x128 .f32) (x4 : FVec Ideal S3x128 .f32) (x6 : FVec Ideal S128x128 .f32)
    (l : Fin 128) : EReal :=
  ∑ t, cells x0 t l * khat (grid x6) (mx x1 x2 x3 x4 t) l

/-- The first weight's part, added to what stood there. -/
theorem pay24_eq (x2 x3 : FVec Ideal S2176x128 .bf16) (D : FVec Ideal S2176x128 .f32) (o : FVec Ideal S1x128 .f32) (l : Fin 128) :
    k0_pay24 (F := Ideal) (k0_pay10 x2 x3) D o (ix2 0 l)
      = o (ix2 0 l) + ∑ t, cells D t l * later 2 (fun t => gated (cells x2) (cells x3) t l) t := by
  simp only [← pay10_eq]
  generalize k0_pay10 (F := Ideal) x2 x3 = P
  pointwise [k0_pay24, cells]

/-- The second weight's part. -/
theorem pay1_eq (x2 x3 : FVec Ideal S2176x128 .bf16) (D : FVec Ideal S2176x128 .f32) (o : FVec Ideal S1x128 .f32) (l : Fin 128) :
    k0_pay1 (F := Ideal) (k0_pay9 x2 x3) D o (ix2 0 l)
      = o (ix2 0 l) + ∑ t, cells D t l * later 1 (fun t => gated (cells x2) (cells x3) t l) t := by
  simp only [← pay9_eq]
  generalize k0_pay9 (F := Ideal) x2 x3 = P
  pointwise [k0_pay1, cells]

/-- The third weight's part. -/
theorem pay2_eq (x2 x3 : FVec Ideal S2176x128 .bf16) (D : FVec Ideal S2176x128 .f32) (o : FVec Ideal S1x128 .f32) (l : Fin 128) :
    k0_pay2 (F := Ideal) (k0_pay8 x2 x3) D o (ix2 0 l)
      = o (ix2 0 l) + ∑ t, cells D t l * later 0 (fun t => gated (cells x2) (cells x3) t l) t := by
  simp only [later_zero]
  pointwise [k0_pay2, k0_pay8, k0_pay7, k0_pay6, cells, gated]

/-- The gain's part. -/
theorem pay17_eq (x0 x1 x2 x3 : FVec Ideal S2176x128 .bf16) (x4 : FVec Ideal S3x128 .f32) (x6 : FVec Ideal S128x128 .bf16)
    (o : FVec Ideal S1x128 .f32) (l : Fin 128) :
    k0_pay17 (F := Ideal) (k0_pay5 x1) (cvT x2 x3 x4) (k0_pay12 x6) x0 o (ix2 0 l)
      = o (ix2 0 l) + dg x0 x1 x2 x3 x4 x6 l := by
  have e : ∀ t, k0_pay15 (F := Ideal) (k0_pay5 x1) (cvT x2 x3 x4) (k0_pay12 x6) (ix2 t l)
      = khat (grid x6) (mx x1 x2 x3 x4 t) l := fun t => by rw [pay15_eq, mx_eq, grid_eq]
  simp only [dg, ← e]
  clear e
  unfold k0_pay17
  generalize k0_pay15 (F := Ideal) _ _ _ = P
  pointwise [k0_pay16, cells]

section Body

variable (c : Dev nD) (i : grid0.Coords)
  (a2 : Memref sig .tc .vmem S2176x128 .bf16) (h2 : a2.IsWhole)
  (a3 : Memref sig .tc .vmem S2176x128 .bf16) (h3 : a3.IsWhole)
  (a4 : Memref sig .tc .vmem S2176x128 .bf16) (h4 : a4.IsWhole)
  (a5 : Memref sig .tc .vmem S2176x128 .bf16) (h5 : a5.IsWhole)
  (a6 : Memref sig .tc .vmem S3x128 .f32) (h6 : a6.IsWhole)
  (a7 : Memref sig .tc .vmem S1x128 .f32) (h7 : a7.IsWhole)
  (a8 : Memref sig .tc .vmem S128x128 .bf16) (h8 : a8.IsWhole)
  (a9 : Memref sig .tc .vmem S2176x128 .bf16) (h9 : a9.IsWhole)
  (a10 : Memref sig .tc .vmem S2176x128 .bf16) (h10 : a10.IsWhole)
  (a11 : Memref sig .tc .vmem S2176x128 .bf16) (h11 : a11.IsWhole)
  (a12 : Memref sig .tc .vmem S3x128 .f32) (h12 : a12.IsWhole)
  (a13 : Memref sig .tc .vmem S1x128 .f32) (h13 : a13.IsWhole)
  (x0 x1 x2 x3 : Vec Ideal S2176x128 .bf16) (x4 : Vec Ideal S3x128 .f32) (x5 : Vec Ideal S1x128 .f32)
  (x6 : Vec Ideal S128x128 .bf16) (xo : Vec Ideal S3x128 .f32) (xp : Vec Ideal S1x128 .f32)

/-- The first result's block, at a first point. -/
theorem out7_A (hc0 : cond0_0 i) (j : S2176x128.Idx) :
    out0_A_7 (F := Ideal) c i a2 h2 a3 h3 a4 h4 a5 h5 a6 h6 a7 h7 a8 h8 a9 h9 a10 h10 a11 h11 a12 h12 a13 h13 hc0
      x0 x1 x2 x3 x4 x5 x6 j
      = dy x0 x1 x2 x3 x4 x5 x6 (j 0) (j 1) * cv x2 x3 x4 (j 0) (j 1) := by
  frame_out
  idx_vars j
  exact pay19_eq x0 x1 x2 x3 x4 x5 x6 _ _

/-- The first result's block, at the others. -/
theorem out7_B (hc0 : ¬cond0_0 i) (j : S2176x128.Idx) :
    out0_B_7 (F := Ideal) c i a2 h2 a3 h3 a4 h4 a5 h5 a6 h6 a7 h7 a8 h8 a9 h9 a10 h10 a11 h11 a12 h12 a13 h13 hc0
      x0 x1 x2 x3 x4 x5 x6 xo xp j
      = dy x0 x1 x2 x3 x4 x5 x6 (j 0) (j 1) * cv x2 x3 x4 (j 0) (j 1) := by
  frame_out
  idx_vars j
  exact pay19_eq x0 x1 x2 x3 x4 x5 x6 _ _

/-- The second result's block, at a first point. -/
theorem out8_A (hc0 : cond0_0 i) (j : S2176x128.Idx) :
    out0_A_8 (F := Ideal) c i a2 h2 a3 h3 a4 h4 a5 h5 a6 h6 a7 h7 a8 h8 a9 h9 a10 h10 a11 h11 a12 h12 a13 h13 hc0
      x0 x1 x2 x3 x4 x5 x6 j
      = convT (dc x0 x1 x2 x3 x4 x5 x6) (tap x4 2) (tap x4 1) (tap x4 0) (j 0) (j 1) * cells x3 (j 0) (j 1) := by
  frame_out
  idx_vars j
  rw [← dcT_eq]
  exact pay22_eq (dcT x0 x1 x2 x3 x4 x5 x6) x3 x4 _ _

/-- The second result's block, at the others. -/
theorem out8_B (hc0 : ¬cond0_0 i) (j : S2176x128.Idx) :
    out0_B_8 (F := Ideal) c i a2 h2 a3 h3 a4 h4 a5 h5 a6 h6 a7 h7 a8 h8 a9 h9 a10 h10 a11 h11 a12 h12 a13 h13 hc0
      x0 x1 x2 x3 x4 x5 x6 xo xp j
      = convT (dc x0 x1 x2 x3 x4 x5 x6) (tap x4 2) (tap x4 1) (tap x4 0) (j 0) (j 1) * cells x3 (j 0) (j 1) := by
  frame_out
  idx_vars j
  rw [← dcT_eq]
  exact pay22_eq (dcT x0 x1 x2 x3 x4 x5 x6) x3 x4 _ _

/-- The third result's block, at a first point. -/
theorem out9_A (hc0 : cond0_0 i) (j : S2176x128.Idx) :
    out0_A_9 (F := Ideal) c i a2 h2 a3 h3 a4 h4 a5 h5 a6 h6 a7 h7 a8 h8 a9 h9 a10 h10 a11 h11 a12 h12 a13 h13 hc0
      x0 x1 x2 x3 x4 x5 x6 j
      = convT (dc x0 x1 x2 x3 x4 x5 x6) (tap x4 2) (tap x4 1) (tap x4 0) (j 0) (j 1) * cells x2 (j 0) (j 1) := by
  frame_out
  idx_vars j
  rw [← dcT_eq]
  exact pay23_eq (dcT x0 x1 x2 x3 x4 x5 x6) x2 x4 _ _

/-- The third result's block, at the others. -/
theorem out9_B (hc0 : ¬cond0_0 i) (j : S2176x128.Idx) :
    out0_B_9 (F := Ideal) c i a2 h2 a3 h3 a4 h4 a5 h5 a6 h6 a7 h7 a8 h8 a9 h9 a10 h10 a11 h11 a12 h12 a13 h13 hc0
      x0 x1 x2 x3 x4 x5 x6 xo xp j
      = convT (dc x0 x1 x2 x3 x4 x5 x6) (tap x4 2) (tap x4 1) (tap x4 0) (j 0) (j 1) * cells x2 (j 0) (j 1) := by
  frame_out
  idx_vars j
  rw [← dcT_eq]
  exact pay23_eq (dcT x0 x1 x2 x3 x4 x5 x6) x2 x4 _ _

/-- The gain's gradient, at a first point. -/
theorem out11_A (hc0 : cond0_0 i) (j : S1x128.Idx) :
    out0_A_11 (F := Ideal) c i a2 h2 a3 h3 a4 h4 a5 h5 a6 h6 a7 h7 a8 h8 a9 h9 a10 h10 a11 h11 a12 h12 a13 h13 hc0
      x0 x1 x2 x3 x4 x5 x6 j
      = (0 : EReal) + dg x0 x1 x2 x3 x4 x6 (j 1) := by
  frame_out
  idx_vars j
  obtain rfl : j0 = 0 := Subsingleton.elim _ _
  refine (pay17_eq x0 x1 x2 x3 x4 x6 _ _).trans ?_
  pointwise [k0_pay4]

/-- The weights' gradient, at a first point. -/
theorem out10_A (hc0 : cond0_0 i) (j : S3x128.Idx) :
    out0_A_10 (F := Ideal) c i a2 h2 a3 h3 a4 h4 a5 h5 a6 h6 a7 h7 a8 h8 a9 h9 a10 h10 a11 h11 a12 h12 a13 h13 hc0
      x0 x1 x2 x3 x4 x5 x6 j
      = (0 : EReal) + dw x0 x1 x2 x3 x4 x5 x6 (j 0) (j 1) := by
  frame_open
  simp (disch := decide) only [↓ View.readCov_skip, ↓ View.readCov_cons_toLoadRect, ↓ View.readCov_fill]
  frame_out
  refine (View.canon_append_of_piecesOf (Val := Elt Ideal) (e := .f32)
    (fun j => k0_pay3 (F := Ideal) j + dw x0 x1 x2 x3 x4 x5 x6 (j 0) (j 1))
    [⟨Rect.unit ![0, 0] ![3, 128] inb_S3x128_S3x128_0_0, k0_pay3 (F := Ideal)⟩] [_, _, _] ⟨?_, ?_, ?_, trivial⟩ j
    (View.cover_of_tiledBy _ ![1, 128] (by sl_kernel_rfl) j)).trans ?_
  · intro y
    idx_vars y
    obtain rfl : y0 = 0 := Subsingleton.elim _ _
    have e : (Rect.unit (s := S3x128) ![2, 0] ![1, 128] inb_S3x128_S1x128_2_0).emb (ix2 0 y1) = ix2 2 y1 := by blk_ext []
    rw [e]
    refine (pay2_eq x2 x3 (dcT x0 x1 x2 x3 x4 x5 x6) (row2 (k0_pay3 (F := Ideal))) y1).trans ?_
    rw [dcT_eq]
    exact congrArg (· + _) (congrFun (tap_2 (k0_pay3 (F := Ideal))) y1)
  · intro y
    idx_vars y
    obtain rfl : y0 = 0 := Subsingleton.elim _ _
    have e : (Rect.unit (s := S3x128) ![1, 0] ![1, 128] inb_S3x128_S1x128_1_0).emb (ix2 0 y1) = ix2 1 y1 := by blk_ext []
    rw [e]
    refine (pay1_eq x2 x3 (dcT x0 x1 x2 x3 x4 x5 x6) (row1 (k0_pay3 (F := Ideal))) y1).trans ?_
    rw [dcT_eq]
    exact congrArg (· + _) (congrFun (tap_1 (k0_pay3 (F := Ideal))) y1)
  · intro y
    idx_vars y
    obtain rfl : y0 = 0 := Subsingleton.elim _ _
    have e : (Rect.unit (s := S3x128) ![0, 0] ![1, 128] inb_S3x128_S1x128_0_0).emb (ix2 0 y1) = ix2 0 y1 := by blk_ext []
    rw [e]
    refine (pay24_eq x2 x3 (dcT x0 x1 x2 x3 x4 x5 x6) (row0 (k0_pay3 (F := Ideal))) y1).trans ?_
    rw [dcT_eq]
    exact congrArg (· + _) (congrFun (tap_0 (k0_pay3 (F := Ideal))) y1)
  · refine congrArg (· + _) ?_
    idx_vars j
    pointwise [k0_pay3]

/-- The gain's gradient, at the others. -/
theorem out11_B (hc0 : ¬cond0_0 i) (j : S1x128.Idx) :
    out0_B_11 (F := Ideal) c i a2 h2 a3 h3 a4 h4 a5 h5 a6 h6 a7 h7 a8 h8 a9 h9 a10 h10 a11 h11 a12 h12 a13 h13 hc0
      x0 x1 x2 x3 x4 x5 x6 xo xp j
      = xp j + dg x0 x1 x2 x3 x4 x6 (j 1) := by
  frame_out
  idx_vars j
  obtain rfl : j0 = 0 := Subsingleton.elim _ _
  exact pay17_eq x0 x1 x2 x3 x4 x6 xp _

/-- The weights' gradient, at the others. -/
theorem out10_B (hc0 : ¬cond0_0 i) (j : S3x128.Idx) :
    out0_B_10 (F := Ideal) c i a2 h2 a3 h3 a4 h4 a5 h5 a6 h6 a7 h7 a8 h8 a9 h9 a10 h10 a11 h11 a12 h12 a13 h13 hc0
      x0 x1 x2 x3 x4 x5 x6 xo xp j
      = xo j + dw x0 x1 x2 x3 x4 x5 x6 (j 0) (j 1) := by
  frame_out
  refine View.canon_append_of_piecesOf (Val := Elt Ideal) (e := .f32)
    (fun j => xo j + dw x0 x1 x2 x3 x4 x5 x6 (j 0) (j 1)) [] [_, _, _] ⟨?_, ?_, ?_, trivial⟩ j
    (View.cover_of_tiledBy _ ![1, 128] (by sl_kernel_rfl) j)
  · intro y
    idx_vars y
    obtain rfl : y0 = 0 := Subsingleton.elim _ _
    have e : (Rect.unit (s := S3x128) ![2, 0] ![1, 128] inb_S3x128_S1x128_2_0).emb (ix2 0 y1) = ix2 2 y1 := by blk_ext []
    rw [e]
    refine (pay2_eq x2 x3 (dcT x0 x1 x2 x3 x4 x5 x6) (row2 xo) y1).trans ?_
    rw [dcT_eq]
    exact congrArg (· + _) (congrFun (tap_2 xo) y1)
  · intro y
    idx_vars y
    obtain rfl : y0 = 0 := Subsingleton.elim _ _
    have e : (Rect.unit (s := S3x128) ![1, 0] ![1, 128] inb_S3x128_S1x128_1_0).emb (ix2 0 y1) = ix2 1 y1 := by blk_ext []
    rw [e]
    refine (pay1_eq x2 x3 (dcT x0 x1 x2 x3 x4 x5 x6) (row1 xo) y1).trans ?_
    rw [dcT_eq]
    exact congrArg (· + _) (congrFun (tap_1 xo) y1)
  · intro y
    idx_vars y
    obtain rfl : y0 = 0 := Subsingleton.elim _ _
    have e : (Rect.unit (s := S3x128) ![0, 0] ![1, 128] inb_S3x128_S1x128_0_0).emb (ix2 0 y1) = ix2 0 y1 := by blk_ext []
    rw [e]
    refine (pay24_eq x2 x3 (dcT x0 x1 x2 x3 x4 x5 x6) (row0 xo) y1).trans ?_
    rw [dcT_eq]
    exact congrArg (· + _) (congrFun (tap_0 xo) y1)

end Body

end Cert.KernelIdeal.Hand
-- ==== Proof.ConvSpec.lean ====
/-
  The gradient of the short convolution and its norm over all sequences and channels: the kernel's form, the reference's form, and
  that they agree on finite values.
-/
module

public import proofs.«01_k».proof.Proof.ConvMath

@[expose] public section

set_option maxRecDepth 16384

noncomputable section

namespace Cert.ConvSpec

open Idealize.ShloMosaic Cert.Finite Cert.NormMath Cert.ConvMath

/-- Values by sequence, row and channel. -/
abbrev Cube : Type := Fin 4 → Fin 2176 → Fin 512 → EReal

/-- The channels of a channel's block of 128. -/
def lane (q : Fin 512) (k : Fin 128) : Fin 512 := ⟨q.val / 128 * 128 + k.val, by omega⟩

/-- A channel's place in its block. -/
def inBlock (q : Fin 512) : Fin 128 := ⟨q.val % 128, Nat.mod_lt _ (by norm_num)⟩

/-- The channels of a channel's head. -/
def headLane (q : Fin 512) (k : Fin 64) : Fin 512 := ⟨q.val / 64 * 64 + k.val, by omega⟩

/-- A channel's place in its head. -/
def inHead (q : Fin 512) : Fin 64 := ⟨q.val % 64, Nat.mod_lt _ (by norm_num)⟩

/-- The channel of block `a` and lane `l`. -/
def chan (a : Fin 4) (l : Fin 128) : Fin 512 := ⟨a.val * 128 + l.val, by omega⟩

/-- The block's channels from one of them. -/
theorem lane_chan (a : Fin 4) (l k : Fin 128) : lane (chan a l) k = chan a k := by
  apply Fin.ext
  show (a.val * 128 + l.val) / 128 * 128 + k.val = a.val * 128 + k.val
  omega

/-- A lane's place. -/
theorem inBlock_chan (a : Fin 4) (l : Fin 128) : inBlock (chan a l) = l := by
  apply Fin.ext
  show (a.val * 128 + l.val) % 128 = l.val
  omega

/-- The head's channels, as lanes of the block. -/
theorem lane_mate (q : Fin 512) (k : Fin 64) : lane q (mate (inBlock q) k) = headLane q k := by
  apply Fin.ext
  show q.val / 128 * 128 + (q.val % 128 / 64 * 64 + k.val) = q.val / 64 * 64 + k.val
  omega

/-- The place in the head, as a lane's. -/
theorem place_inBlock (q : Fin 512) : place (inBlock q) = inHead q := by
  apply Fin.ext
  show q.val % 128 % 64 = q.val % 64
  omega

/-- A channel by its head. -/
theorem headLane_inHead (q : Fin 512) : headLane q (inHead q) = q := by
  apply Fin.ext
  show q.val / 64 * 64 + q.val % 64 = q.val
  omega

variable (Z B C H : Cube) (w : Fin 3 → Fin 512 → EReal) (g : Fin 512 → EReal)

/-- What is normed. -/
def mixedAt (n : Fin 4) (t : Fin 2176) (q : Fin 512) : EReal := mixed (B n) (C n) (H n) (w 2) (w 1) (w 0) t q

/-- The gradient of what is normed, by the group matrix. -/
def gradK (n : Fin 4) (t : Fin 2176) (q : Fin 512) : EReal :=
  kback gm (fun k => mixedAt B C H w n t (lane q k)) (fun k => Z n t (lane q k) * g (lane q k)) (inBlock q)

/-- What is normed, normed by the group matrix. -/
def hatK (n : Fin 4) (t : Fin 2176) (q : Fin 512) : EReal :=
  khat gm (fun k => mixedAt B C H w n t (lane q k)) (inBlock q)

/-- The gradient of what is normed, head by head. -/
def gradR (n : Fin 4) (t : Fin 2176) (q : Fin 512) : EReal :=
  hback (fun k => mixedAt B C H w n t (headLane q k)) (fun k => Z n t (headLane q k) * g (headLane q k)) (inHead q)

/-- What is normed, normed head by head. -/
def hatR (n : Fin 4) (t : Fin 2176) (q : Fin 512) : EReal :=
  mixedAt B C H w n t q * hroot (fun k => mixedAt B C H w n t (headLane q k))

/-- The gradient of the outer gate, from that of what is normed. -/
def outerGate (D : Cube) (n : Fin 4) (t : Fin 2176) (q : Fin 512) : EReal :=
  D n t q * conv (C n) (H n) (w 2) (w 1) (w 0) t q

/-- The gradient of the convolution's input. -/
def inner (D : Cube) (n : Fin 4) (t : Fin 2176) (q : Fin 512) : EReal :=
  convT (fun t q => D n t q * B n t q) (w 2) (w 1) (w 0) t q

/-- The gradient of a weight. -/
def weight (D : Cube) (r : Fin 3) (q : Fin 512) : EReal :=
  ∑ n : Fin 4, ∑ t : Fin 2176, D n t q * B n t q * later (2 - r.val) (fun t => gated (C n) (H n) t q) t

/-- The gradient of the gain. -/
def gain (Y : Cube) (q : Fin 512) : EReal := ∑ n : Fin 4, ∑ t : Fin 2176, Z n t q * Y n t q

variable {Z B C H w g}

/-- What is normed is finite. -/
theorem mixedAt_real (hB : ∀ n t q, IsReal (B n t q)) (hC : ∀ n t q, IsReal (C n t q)) (hH : ∀ n t q, IsReal (H n t q))
    (hw : ∀ r q, IsReal (w r q)) (n : Fin 4) (t : Fin 2176) (q : Fin 512) : IsReal (mixedAt B C H w n t q) :=
  mixed_real _ _ _ _ _ _ (hB n) (hC n) (hH n) (hw 2) (hw 1) (hw 0) t q

/-- On finite values the two gradients are one. -/
theorem gradK_eq (hZ : ∀ n t q, IsReal (Z n t q)) (hB : ∀ n t q, IsReal (B n t q)) (hC : ∀ n t q, IsReal (C n t q))
    (hH : ∀ n t q, IsReal (H n t q)) (hw : ∀ r q, IsReal (w r q)) (hg : ∀ q, IsReal (g q)) :
    gradK Z B C H w g = gradR Z B C H w g := by
  funext n t q
  rw [gradK, gradR, kback_eq _ _ (fun k => mixedAt_real hB hC hH hw n t _) (fun k => (hZ n t _).mul (hg _))]
  simp only [lane_mate, place_inBlock]

/-- On finite values the two norms are one. -/
theorem hatK_eq (hB : ∀ n t q, IsReal (B n t q)) (hC : ∀ n t q, IsReal (C n t q))
    (hH : ∀ n t q, IsReal (H n t q)) (hw : ∀ r q, IsReal (w r q)) :
    hatK B C H w = hatR B C H w := by
  funext n t q
  rw [hatK, hatR, khat_eq _ (fun k => mixedAt_real hB hC hH hw n t _)]
  simp only [lane_mate]
  congr 2
  rw [show lane q (inBlock q) = q from Fin.ext (show q.val / 128 * 128 + q.val % 128 = q.val by omega)]

end Cert.ConvSpec
-- ==== Proof.ConvValue.lean ====
/-
  What the kernel of the gradient through the short convolution leaves in its five result arrays.
-/
module

public import proofs.«01_k».proof.Proof.ConvBlock
public import proofs.«01_k».proof.Proof.ConvSpec

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.ConvMath Cert.ConvSpec

variable (m : (ℓ : Loc nD τ sig) → Buf (Elt Ideal) ℓ) (c : Dev nD)

/-- An array by sequence, row and channel. -/
def cube (x : FVec Ideal S8704x512 .f32) : Cube := fun n t q => x (ix2 ⟨n.val * 2176 + t.val, by omega⟩ q)

/-- The gradient of the result. -/
abbrev arg0 : Vec Ideal S8704x512 .bf16 := m ((c.tc : Thread nD τ).loc main_arg0)
/-- The outer gate. -/
abbrev arg1 : Vec Ideal S8704x512 .bf16 := m ((c.tc : Thread nD τ).loc main_arg1)
/-- The inner gate. -/
abbrev arg2 : Vec Ideal S8704x512 .bf16 := m ((c.tc : Thread nD τ).loc main_arg2)
/-- What the inner gate gates. -/
abbrev arg3 : Vec Ideal S8704x512 .bf16 := m ((c.tc : Thread nD τ).loc main_arg3)
/-- The weights. -/
abbrev arg4 : Vec Ideal S3x512 .f32 := m ((c.tc : Thread nD τ).loc main_arg4)
/-- The gain. -/
abbrev arg5 : Vec Ideal S1x512 .f32 := m ((c.tc : Thread nD τ).loc main_arg5)

/-- The weights, by row and channel. -/
def weights (x : FVec Ideal S3x512 .f32) (r : Fin 3) (q : Fin 512) : EReal := x (ix2 r q)
/-- The gain, by channel. -/
def gains (x : FVec Ideal S1x512 .f32) (q : Fin 512) : EReal := x (ix2 0 q)

/-- The gradient of what is normed. -/
abbrev grad : Cube :=
  gradK (cube (arg0 m c)) (cube (arg1 m c)) (cube (arg2 m c)) (cube (arg3 m c)) (weights (arg4 m c)) (gains (arg5 m c))
/-- What is normed, normed. -/
abbrev hat : Cube := hatK (cube (arg1 m c)) (cube (arg2 m c)) (cube (arg3 m c)) (weights (arg4 m c))

/-- An array from its values by sequence, row and channel. -/
def flat (x : Cube) : S8704x512.Idx → EReal := fun j =>
  x ⟨(j 0).val / 2176, Nat.div_lt_of_lt_mul (j 0).isLt⟩ ⟨(j 0).val % 2176, Nat.mod_lt _ (by norm_num)⟩ (j 1)

/-- Such an array at a sequence's row. -/
theorem flat_at (x : Cube) (n : Fin 4) (t : Fin 2176) (q : Fin 512) :
    flat x (ix2 ⟨n.val * 2176 + t.val, by omega⟩ q) = x n t q := by
  have e0 : (n.val * 2176 + t.val) / 2176 = n.val := by omega
  have e1 : (n.val * 2176 + t.val) % 2176 = t.val := by omega
  show x ⟨(n.val * 2176 + t.val) / 2176, _⟩ ⟨(n.val * 2176 + t.val) % 2176, _⟩ q = _
  simp only [e0, e1]

/-- The gradient of the outer gate. -/
def out7 : S8704x512.Idx → EReal := flat (outerGate (cube (arg2 m c)) (cube (arg3 m c)) (weights (arg4 m c)) (grad m c))
/-- The gradient of the inner gate. -/
def out8 : S8704x512.Idx → EReal := flat fun n t q =>
  inner (cube (arg1 m c)) (weights (arg4 m c)) (grad m c) n t q * cube (arg3 m c) n t q
/-- The gradient of what the inner gate gates. -/
def out9 : S8704x512.Idx → EReal := flat fun n t q =>
  inner (cube (arg1 m c)) (weights (arg4 m c)) (grad m c) n t q * cube (arg2 m c) n t q
/-- The gradient of the weights. -/
def out10 : S3x512.Idx → EReal := fun j =>
  weight (cube (arg1 m c)) (cube (arg2 m c)) (cube (arg3 m c)) (grad m c) (j 0) (j 1)
/-- The gradient of the gain. -/
def out11 : S1x512.Idx → EReal := fun j => gain (cube (arg0 m c)) (hat m c) (j 1)

/-- Which blocks a point reads and writes. -/
theorem idx : ∀ t : Fin cfg0.N, win0_0.index t = ![t.val % 4, t.val / 4] ∧ win0_1.index t = ![t.val % 4, t.val / 4]
    ∧ win0_2.index t = ![t.val % 4, t.val / 4] ∧ win0_3.index t = ![t.val % 4, t.val / 4] ∧ win0_4.index t = ![0, t.val / 4]
    ∧ win0_5.index t = ![0, t.val / 4] ∧ win0_6.index t = ![0, 0] ∧ win0_7.index t = ![t.val % 4, t.val / 4]
    ∧ win0_8.index t = ![t.val % 4, t.val / 4] ∧ win0_9.index t = ![t.val % 4, t.val / 4] ∧ win0_10.index t = ![0, t.val / 4]
    ∧ win0_11.index t = ![0, t.val / 4] :=
  (by decide +kernel : ∀ t : Fin grid0.N, _)

/-- Division rounding down, as the words compute it. -/
def floorDiv (x : Vec Ideal S128x128 .i32) : Vec Ideal S128x128 .i32 :=
  select (andi (cmpi .ne (signi x) (broadcastInDim S128x128 ![] bcast_S_S128x128 (signi (constantI S_ 32 64#32))))
      (cmpi .ne (Host.remsi x (broadcastInDim S128x128 ![] bcast_S_S128x128 (constantI S_ 32 64#32)))
        (broadcastInDim S128x128 ![] bcast_S_S128x128 (constantI S_ 32 0#32))))
    (subi (Host.divsi x (broadcastInDim S128x128 ![] bcast_S_S128x128 (constantI S_ 32 64#32)))
      (broadcastInDim S128x128 ![] bcast_S_S128x128 (constantI S_ 32 1#32)))
    (Host.divsi x (broadcastInDim S128x128 ![] bcast_S_S128x128 (constantI S_ 32 64#32)))

/-- The group matrix as the host prepares it. -/
theorem groups : (V m c main_v6 : Vec Ideal S128x128 .bf16)
    = truncf .bf16 (select (cmpi .eq (floorDiv (iotaInDim S128x128 32 0)) (floorDiv (iotaInDim S128x128 32 1)))
        (broadcastInDim S128x128 ![] bcast_S_S128x128 (constant (F := Ideal) S_ .f32 0x3C800000#32))
        (broadcastInDim S128x128 ![] bcast_S_S128x128 (constant (F := Ideal) S_ .f32 0x00000000#32))) bitsLt_bf16_f32 := by
  rfl

/-- The same of one word. -/
def floorWord (x : BitVec 32) : BitVec 32 :=
  Scalar.select (IntOp.andi (IntOp.cmpi .ne (if x = 0 then 0 else if x.msb then -1 else 1)
        (if 64#32 = 0 then 0 else if (64#32).msb then -1 else 1 : BitVec 32))
      (IntOp.cmpi .ne (IntOp.remsi .host x 64#32) 0#32))
    (IntOp.subi (IntOp.divsi .host x 64#32) 1#32) (IntOp.divsi .host x 64#32)

/-- Entry by entry. -/
theorem floorDiv_at (x : Vec Ideal S128x128 .i32) (j : S128x128.Idx) : floorDiv x j = floorWord (x j) := by
  rfl

/-- On the lanes' numbers it is division. -/
theorem floorWord_eq : ∀ k : Fin 128, floorWord (BitVec.ofNat 32 k.val) = BitVec.ofNat 32 (k.val / 64) := by
  decide +kernel

/-- The group matrix's entries. -/
theorem groups_at (k l : Fin 128) : (V m c main_v6 : Vec Ideal S128x128 .bf16) (ix2 k l) = gm k l := by
  rw [groups]
  have e0 : floorDiv (iotaInDim S128x128 32 0) (ix2 k l) = BitVec.ofNat 32 (k.val / 64) := by
    rw [floorDiv_at, ← floorWord_eq]; rfl
  have e1 : floorDiv (iotaInDim S128x128 32 1) (ix2 k l) = BitVec.ofNat 32 (l.val / 64) := by
    rw [floorDiv_at, ← floorWord_eq]; rfl
  show Scalar.select (IntOp.cmpi .eq (floorDiv (iotaInDim S128x128 32 0) (ix2 k l)) (floorDiv (iotaInDim S128x128 32 1) (ix2 k l)))
    (Ideal.ofBits .f32 0x3C800000#32) (Ideal.ofBits .f32 0x00000000#32) = _
  rw [e0, e1, gm, WordCmp.cmpi_eq_ofNat (by omega) (by omega), WordCmp.select_ofBool]
  have h0 : Ideal.ofBits .f32 0x3C800000#32 = ((1 / 64 : ℝ) : EReal) := by
    simp [Ideal.ofBits, Ideal.ieee]
    rw [← EReal.coe_mul]
    norm_num
  have h1 : Ideal.ofBits .f32 0x00000000#32 = 0 := by simp [Ideal.ofBits, Ideal.ieee]
  rw [h0, h1]
  simp only [decide_eq_true_eq]

/-- A point's sequence. -/
def seqOf (t : Fin cfg0.N) : Fin 4 := ⟨t.val % 4, Nat.mod_lt _ (by norm_num)⟩
/-- A point's block of channels. -/
def blkOf (t : Fin cfg0.N) : Fin 4 := ⟨t.val / 4, by have := lt_of_lt_of_eq t.isLt N_0; omega⟩

/-- A point's block of the result's gradient. -/
theorem cells_0 (t : Fin cfg0.N) : cells (iblk m c 0 t) = fun r l => cube (arg0 m c) (seqOf t) r (chan (blkOf t) l) := by
  funext r l
  simp only [cells, cube, seqOf, blkOf, chan]
  blk_point [iblk, V, idx t]
/-- A point's block of the outer gate. -/
theorem cells_1 (t : Fin cfg0.N) : cells (iblk m c 1 t) = fun r l => cube (arg1 m c) (seqOf t) r (chan (blkOf t) l) := by
  funext r l
  simp only [cells, cube, seqOf, blkOf, chan]
  blk_point [iblk, V, idx t]
/-- A point's block of the inner gate. -/
theorem cells_2 (t : Fin cfg0.N) : cells (iblk m c 2 t) = fun r l => cube (arg2 m c) (seqOf t) r (chan (blkOf t) l) := by
  funext r l
  simp only [cells, cube, seqOf, blkOf, chan]
  blk_point [iblk, V, idx t]
/-- A point's block of what the inner gate gates. -/
theorem cells_3 (t : Fin cfg0.N) : cells (iblk m c 3 t) = fun r l => cube (arg3 m c) (seqOf t) r (chan (blkOf t) l) := by
  funext r l
  simp only [cells, cube, seqOf, blkOf, chan]
  blk_point [iblk, V, idx t]
/-- A point's weights. -/
theorem tap_4 (t : Fin cfg0.N) (r : Fin 3) : tap (iblk m c 4 t) r = fun l => weights (arg4 m c) r (chan (blkOf t) l) := by
  funext l
  simp only [tap, weights, blkOf, chan]
  blk_point [iblk, V, idx t]
/-- A point's gain. -/
theorem lanes_5 (t : Fin cfg0.N) : lanes (iblk m c 5 t) = fun l => gains (arg5 m c) (chan (blkOf t) l) := by
  funext l
  simp only [lanes, gains, blkOf, chan]
  blk_point [iblk, V, idx t]
/-- A point's group matrix. -/
theorem grid_6 (t : Fin cfg0.N) : grid (iblk m c 6 t) = gm := by
  funext k l
  rw [← groups_at m c]
  simp only [grid]
  blk_point [iblk, idx t]

/-- What a point norms. -/
theorem mx_at (t : Fin cfg0.N) : mx (iblk m c 1 t) (iblk m c 2 t) (iblk m c 3 t) (iblk m c 4 t)
    = fun r l => mixedAt (cube (arg1 m c)) (cube (arg2 m c)) (cube (arg3 m c)) (weights (arg4 m c)) (seqOf t) r (chan (blkOf t) l) := by
  rw [mx, cells_1, cells_2, cells_3, tap_4, tap_4, tap_4]
  rfl

/-- A point's convolution. -/
theorem cv_at (t : Fin cfg0.N) : cv (iblk m c 2 t) (iblk m c 3 t) (iblk m c 4 t)
    = fun r l => conv (cube (arg2 m c) (seqOf t)) (cube (arg3 m c) (seqOf t)) (weights (arg4 m c) 2) (weights (arg4 m c) 1)
        (weights (arg4 m c) 0) r (chan (blkOf t) l) := by
  rw [cv, cells_2, cells_3, tap_4, tap_4, tap_4]
  rfl

/-- A point's gradient of what is normed. -/
theorem dy_at (t : Fin cfg0.N) :
    dy (iblk m c 0 t) (iblk m c 1 t) (iblk m c 2 t) (iblk m c 3 t) (iblk m c 4 t) (iblk m c 5 t) (iblk m c 6 t)
      = fun r l => grad m c (seqOf t) r (chan (blkOf t) l) := by
  funext r l
  rw [dy, grid_6, mx_at, cells_0, lanes_5, grad, gradK]
  simp only [lane_chan, inBlock_chan]

/-- A point's gradient of the convolution. -/
theorem dc_at (t : Fin cfg0.N) :
    dc (iblk m c 0 t) (iblk m c 1 t) (iblk m c 2 t) (iblk m c 3 t) (iblk m c 4 t) (iblk m c 5 t) (iblk m c 6 t)
      = fun r l => grad m c (seqOf t) r (chan (blkOf t) l) * cube (arg1 m c) (seqOf t) r (chan (blkOf t) l) := by
  funext r l
  rw [dc, dy_at, cells_1]

/-- A point's gradient of the convolution's input. -/
theorem inner_at (t : Fin cfg0.N) :
    convT (dc (iblk m c 0 t) (iblk m c 1 t) (iblk m c 2 t) (iblk m c 3 t) (iblk m c 4 t) (iblk m c 5 t) (iblk m c 6 t))
        (tap (iblk m c 4 t) 2) (tap (iblk m c 4 t) 1) (tap (iblk m c 4 t) 0)
      = fun r l => inner (cube (arg1 m c)) (weights (arg4 m c)) (grad m c) (seqOf t) r (chan (blkOf t) l) := by
  rw [dc_at, tap_4, tap_4, tap_4]
  rfl

/-- A point's part of the weights' gradient. -/
theorem dw_at (t : Fin cfg0.N) :
    dw (iblk m c 0 t) (iblk m c 1 t) (iblk m c 2 t) (iblk m c 3 t) (iblk m c 4 t) (iblk m c 5 t) (iblk m c 6 t)
      = fun r l => ∑ s : Fin 2176, grad m c (seqOf t) s (chan (blkOf t) l) * cube (arg1 m c) (seqOf t) s (chan (blkOf t) l)
          * later (2 - r.val) (fun s => gated (cube (arg2 m c) (seqOf t)) (cube (arg3 m c) (seqOf t)) s (chan (blkOf t) l)) s := by
  funext r l
  rw [dw, dc_at, cells_2, cells_3]
  rfl

/-- A point's part of the gain's gradient. -/
theorem dg_at (t : Fin cfg0.N) :
    dg (iblk m c 0 t) (iblk m c 1 t) (iblk m c 2 t) (iblk m c 3 t) (iblk m c 4 t) (iblk m c 6 t)
      = fun l => ∑ s : Fin 2176, cube (arg0 m c) (seqOf t) s (chan (blkOf t) l) * hat m c (seqOf t) s (chan (blkOf t) l) := by
  funext l
  rw [dg, grid_6, mx_at, cells_0]
  simp only [hat, hatK, lane_chan, inBlock_chan]

/-- The first array. -/
theorem out7_eq : (dats m 0 c).arrAt 7 cfg0.N = out7 m c := by
  refine (dats m 0 c).arrAt_eq_of_covers 7 _ (by decide +kernel) fun t hf y => ?_
  blk_simp
  rw [after0_7]
  have e : (outsAt0 m c t.val t.isLt).1 y = outerGate (cube (arg2 m c)) (cube (arg3 m c)) (weights (arg4 m c)) (grad m c)
      (seqOf t) (y 0) (chan (blkOf t) (y 1)) := by
    by_cases h0 : t.val % 4 = 0
    · rw [outsAt0_A m c t h0]
      dsimp only
      rw [out7_A, dy_at, cv_at]
      rfl
    · rw [outsAt0_B m c t h0]
      dsimp only
      rw [out7_B, dy_at, cv_at]
      rfl
  refine e.trans ((flat_at _ _ _ _).symm.trans (congrArg (out7 m c) ?_))
  simp only [seqOf, blkOf, chan]
  blk_ext [idx t]

/-- The second array. -/
theorem out8_eq : (dats m 0 c).arrAt 8 cfg0.N = out8 m c := by
  refine (dats m 0 c).arrAt_eq_of_covers 8 _ (by decide +kernel) fun t hf y => ?_
  blk_simp
  rw [after0_8]
  have e : (outsAt0 m c t.val t.isLt).2.1 y = inner (cube (arg1 m c)) (weights (arg4 m c)) (grad m c) (seqOf t) (y 0)
      (chan (blkOf t) (y 1)) * cube (arg3 m c) (seqOf t) (y 0) (chan (blkOf t) (y 1)) := by
    by_cases h0 : t.val % 4 = 0
    · rw [outsAt0_A m c t h0]
      dsimp only
      rw [out8_A, inner_at, cells_3]
    · rw [outsAt0_B m c t h0]
      dsimp only
      rw [out8_B, inner_at, cells_3]
  refine e.trans ((flat_at (fun n t q => inner (cube (arg1 m c)) (weights (arg4 m c)) (grad m c) n t q
    * cube (arg3 m c) n t q) _ _ _).symm.trans (congrArg (out8 m c) ?_))
  simp only [seqOf, blkOf, chan]
  blk_ext [idx t]

/-- The third array. -/
theorem out9_eq : (dats m 0 c).arrAt 9 cfg0.N = out9 m c := by
  refine (dats m 0 c).arrAt_eq_of_covers 9 _ (by decide +kernel) fun t hf y => ?_
  blk_simp
  rw [after0_9]
  have e : (outsAt0 m c t.val t.isLt).2.2.1 y = inner (cube (arg1 m c)) (weights (arg4 m c)) (grad m c) (seqOf t) (y 0)
      (chan (blkOf t) (y 1)) * cube (arg2 m c) (seqOf t) (y 0) (chan (blkOf t) (y 1)) := by
    by_cases h0 : t.val % 4 = 0
    · rw [outsAt0_A m c t h0]
      dsimp only
      rw [out9_A, inner_at, cells_2]
    · rw [outsAt0_B m c t h0]
      dsimp only
      rw [out9_B, inner_at, cells_2]
  refine e.trans ((flat_at (fun n t q => inner (cube (arg1 m c)) (weights (arg4 m c)) (grad m c) n t q
    * cube (arg2 m c) n t q) _ _ _).symm.trans (congrArg (out9 m c) ?_))
  simp only [seqOf, blkOf, chan]
  blk_ext [idx t]

/-- A point's part of the weights' gradient. -/
abbrev part10 (t : Fin cfg0.N) (j : S3x128.Idx) : EReal :=
  dw (iblk m c 0 t) (iblk m c 1 t) (iblk m c 2 t) (iblk m c 3 t) (iblk m c 4 t) (iblk m c 5 t) (iblk m c 6 t) (j 0) (j 1)

/-- A block's first point leaves its part. -/
theorem first10 (t : Fin cfg0.N) (h0 : t.val % 4 = 0) (j : S3x128.Idx) :
    (outsAt0 m c t.val t.isLt).2.2.2.1 j = 0 + part10 m c t j := by
  rw [outsAt0_A m c t h0]
  dsimp only
  rw [out10_A]

/-- The others add theirs. -/
theorem next10 (t : Fin cfg0.N) (h0 : ¬t.val % 4 = 0) (j : S3x128.Idx) :
    (outsAt0 m c t.val t.isLt).2.2.2.1 j
      = (outsAt0 m c (t.val - 1) (Nat.lt_of_le_of_lt (Nat.sub_le _ _) t.isLt)).2.2.2.1 j + part10 m c t j := by
  rw [outsAt0_B m c t h0]
  dsimp only
  rw [out10_B]

/-- A point's part of the gain's gradient. -/
abbrev part11 (t : Fin cfg0.N) (j : S1x128.Idx) : EReal :=
  dg (iblk m c 0 t) (iblk m c 1 t) (iblk m c 2 t) (iblk m c 3 t) (iblk m c 4 t) (iblk m c 6 t) (j 1)

/-- A block's first point leaves its part. -/
theorem first11 (t : Fin cfg0.N) (h0 : t.val % 4 = 0) (j : S1x128.Idx) :
    (outsAt0 m c t.val t.isLt).2.2.2.2 j = 0 + part11 m c t j := by
  rw [outsAt0_A m c t h0]
  dsimp only
  rw [out11_A]

/-- The others add theirs. -/
theorem next11 (t : Fin cfg0.N) (h0 : ¬t.val % 4 = 0) (j : S1x128.Idx) :
    (outsAt0 m c t.val t.isLt).2.2.2.2 j
      = (outsAt0 m c (t.val - 1) (Nat.lt_of_le_of_lt (Nat.sub_le _ _) t.isLt)).2.2.2.2 j + part11 m c t j := by
  rw [outsAt0_B m c t h0]
  dsimp only
  rw [out11_B]

/-- A run's points: its sequences in turn, its block of channels the same. -/
theorem seqOf_run (t s : Fin cfg0.N) (k : Fin 4) (h : s.val = 4 * (t.val / 4) + k.val) : seqOf s = k ∧ blkOf s = blkOf t := by
  constructor
  · apply Fin.ext
    show s.val % 4 = k.val
    omega
  · apply Fin.ext
    show s.val / 4 = t.val / 4
    omega

/-- The fourth array. -/
theorem out10_eq : (dats m 0 c).arrAt 10 cfg0.N = out10 m c := by
  refine (dats m 0 c).arrAt_eq_of_covers 10 _ (by decide +kernel) fun t hf y => ?_
  blk_simp
  rw [after0_10]
  refine (Pipeline.eq_sum_fin_of_reset_step_apply_of_flush (fun n h => (outsAt0 m c n h).2.2.2.1) 4 (fun _ => (0 : EReal))
    (part10 m c) (first10 m c) (next10 m c) t ((flush0_10 t).mp hf) y).trans ?_
  rw [zero_add]
  have e : (∑ n : Fin 4, ∑ s : Fin 2176, grad m c n s (chan (blkOf t) (y 1)) * cube (arg1 m c) n s (chan (blkOf t) (y 1))
      * later (2 - (y 0).val) (fun s => gated (cube (arg2 m c) n) (cube (arg3 m c) n) s (chan (blkOf t) (y 1))) s)
      = out10 m c (ix2 (y 0) (chan (blkOf t) (y 1))) := rfl
  refine (Finset.sum_congr rfl fun k _ => ?_).trans (e.trans (congrArg (out10 m c) ?_))
  · rw [part10, dw_at, (seqOf_run t _ k rfl).1, (seqOf_run t _ k rfl).2]
  · simp only [blkOf, chan]
    blk_ext [idx t]

/-- The fifth array. -/
theorem out11_eq : (dats m 0 c).arrAt 11 cfg0.N = out11 m c := by
  refine (dats m 0 c).arrAt_eq_of_covers 11 _ (by decide +kernel) fun t hf y => ?_
  blk_simp
  rw [after0_11]
  refine (Pipeline.eq_sum_fin_of_reset_step_apply_of_flush (fun n h => (outsAt0 m c n h).2.2.2.2) 4 (fun _ => (0 : EReal))
    (part11 m c) (first11 m c) (next11 m c) t ((flush0_11 t).mp hf) y).trans ?_
  rw [zero_add]
  have e : (∑ n : Fin 4, ∑ s : Fin 2176, cube (arg0 m c) n s (chan (blkOf t) (y 1)) * hat m c n s (chan (blkOf t) (y 1)))
      = out11 m c (ix2 (y 0) (chan (blkOf t) (y 1))) := rfl
  refine (Finset.sum_congr rfl fun k _ => ?_).trans (e.trans (congrArg (out11 m c) ?_))
  · rw [part11, dg_at, (seqOf_run t _ k rfl).1, (seqOf_run t _ k rfl).2]
  · simp only [blkOf, chan]
    blk_ext [idx t]

end Cert.KernelIdeal.Hand
-- ==== Proof.Sums.lean ====
/-
  A sum over the first two axes of three, as the host writes it.
-/
module

public import Idealize.ShloMosaic.Lib.Pipeline.ValueKit
public import Idealize.ShloMosaic.Lib.Pointwise

@[expose] public section

noncomputable section

namespace Cert.Sums

open Idealize.ShloMosaic

variable {n0 n1 n2 : ℕ} (h : (⟨3, ![n0, n1, n2]⟩ : Shape).ReducesTo [0, 1] ⟨1, ![n2]⟩)

/-- What is left of an index when its first two coordinates are dropped. -/
theorem drop_ix3 (a : Fin n0) (b : Fin n1) (k : Fin n2) : h.drop (ix3 a b k) = ix1 k := by
  funext x
  fin_cases x
  rfl

/-- The host's sum over the first two axes. -/
theorem two_axes (v : (⟨3, ![n0, n1, n2]⟩ : Shape).Idx → EReal) (init : EReal) (k : Fin n2) :
    Ideal.hostReduceAdd h v init (ix1 k) = init + ∑ a, ∑ b, v (ix3 a b k) := by
  unfold Ideal.hostReduceAdd
  congr 1
  have e : ∀ i : (⟨3, ![n0, n1, n2]⟩ : Shape).Idx, ∃ a b c, i = ix3 a b c := fun i => ⟨i 0, i 1, i 2, by
    funext x
    fin_cases x <;> rfl⟩
  have hk : ∀ i, h.drop i = ix1 k → (ix3 (i 0 : Fin n0) (i 1 : Fin n1) k : (⟨3, ![n0, n1, n2]⟩ : Shape).Idx) = i := fun i hi => by
    obtain ⟨a, b, c, rfl⟩ := e i
    rw [drop_ix3 h] at hi
    have h2 : c = k := congrFun hi 0
    rw [h2]
    rfl
  rw [← Fintype.sum_prod_type' (fun a b => v (ix3 a b k))]
  refine Finset.sum_bij' (fun i _ => ((i 0 : Fin n0), (i 1 : Fin n1))) (fun p _ => ix3 p.1 p.2 k)
    (fun _ _ => Finset.mem_univ _) (fun p _ => Finset.mem_filter.mpr ⟨Finset.mem_univ _, drop_ix3 h _ _ _⟩)
    (fun i hi => hk i (Finset.mem_filter.mp hi).2) (fun _ _ => rfl) (fun i hi => ?_)
  exact congrArg v (hk i (Finset.mem_filter.mp hi).2).symm

end Cert.Sums
-- ==== Proof.ConvRef.lean ====
/-
  The gradient through the short convolution as the reference writes it: its arrays, entry by entry.
-/
module

public import proofs.«01_k».proof.Proof.Gen.ReferenceIdeal.Run
public import proofs.«01_k».proof.Proof.ConvSpec
public import proofs.«01_k».proof.Proof.Sums
public import Idealize.ShloMosaic.Lib.Pointwise

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem
open Cert.ConvMath Cert.ConvSpec

/-- An array by sequence, row and channel. -/
def cube (x : FVec Ideal S8704x512 .f32) : Cube := fun n t q => x (ix2 ⟨n.val * 2176 + t.val, by omega⟩ q)
/-- The weights, by row and channel. -/
def weights (x : FVec Ideal S3x512 .f32) (r : Fin 3) (q : Fin 512) : EReal := x (ix2 r q)
/-- The gain, by channel. -/
def gains (x : FVec Ideal S1x512 .f32) (q : Fin 512) : EReal := x (ix2 0 q)
/-- An array of three axes by its coordinates. -/
def box (x : FVec Ideal S4x2176x512 .f32) : Cube := fun n t q => x (ix3 n t q)

/-- Rows read as sequences and rows. -/
theorem box_rows (x : FVec Ideal S8704x512 .bf16) :
    box (shapeCast S4x2176x512 (extf .f32 x bitsLt_bf16_f32) shapeCasts_S8704x512_S4x2176x512) = cube x := by
  funext n t q
  unfold box cube
  pointwise []

/-- Sequences and rows read as rows. -/
theorem rows_box (x : FVec Ideal S4x2176x512 .f32) (j : S8704x512.Idx) :
    (truncf .bf16 (shapeCast S8704x512 x shapeCasts_S4x2176x512_S8704x512) bitsLt_bf16_f32 : FVec Ideal S8704x512 .bf16) j
      = box x ⟨(j 0).val / 2176, Nat.div_lt_of_lt_mul (j 0).isLt⟩ ⟨(j 0).val % 2176, Nat.mod_lt _ (by norm_num)⟩ (j 1) := by
  idx_vars j
  unfold box
  pointwise []

/-- Moved down two rows. -/
theorem box_later2 (x : FVec Ideal S4x2176x512 .f32) :
    box (concatenate S4x2176x512 1 [⟨S4x2x512, (broadcastInDim S4x2x512 ![] bcast_S_S4x2x512 (constant S_ .f32 0x00000000#32))⟩, ⟨S4x2174x512, (extractStridedSlice S4x2174x512 ![0, 0, 0] x slices_S4x2176x512_S4x2174x512_0_0_0)⟩] concatenates_S4x2x512_S4x2174x512_S4x2176x512_d1)
      = fun n t q => later 2 (fun t => box x n t q) t := by
  funext n t q
  unfold box
  pointwise [later]
  by_cases h : 2 ≤ t.val
  · rw [dif_pos h, dif_neg (by omega)]
  · rw [dif_neg h, dif_pos (by omega)]

/-- Moved down a row. -/
theorem box_later1 (x : FVec Ideal S4x2176x512 .f32) :
    box (concatenate S4x2176x512 1 [⟨S4x1x512, (broadcastInDim S4x1x512 ![] bcast_S_S4x1x512 (constant S_ .f32 0x00000000#32))⟩, ⟨S4x2175x512, (extractStridedSlice S4x2175x512 ![0, 0, 0] x slices_S4x2176x512_S4x2175x512_0_0_0)⟩] concatenates_S4x1x512_S4x2175x512_S4x2176x512_d1)
      = fun n t q => later 1 (fun t => box x n t q) t := by
  funext n t q
  unfold box
  pointwise [later]
  by_cases h : 1 ≤ t.val
  · rw [dif_pos h, dif_neg (by omega)]
  · rw [dif_neg h, dif_pos (by omega)]

/-- Moved up a row. -/
theorem box_sooner1 (x : FVec Ideal S4x2176x512 .f32) :
    box (pad S4x2176x512 ![0, 0, 0] ![0, 1, 0] ![0, 0, 0] (extractStridedSlice S4x2175x512 ![0, 1, 0] x slices_S4x2176x512_S4x2175x512_0_1_0) (constant S_ .f32 0x00000000#32) pads_S4x2175x512_S4x2176x512_000_010_000 h_S_)
      = fun n t q => sooner 1 (fun t => box x n t q) t := by
  funext n t q
  unfold box
  pointwise [sooner]
  by_cases h : t.val + 1 < 2176
  · rw [dif_pos h, dif_pos (by omega)]
    exact congrArg (fun r => x (ix3 n r q)) (Fin.ext (Nat.add_comm _ _))
  · rw [dif_neg h, dif_neg (by omega)]

/-- Moved up two rows. -/
theorem box_sooner2 (x : FVec Ideal S4x2176x512 .f32) :
    box (pad S4x2176x512 ![0, 0, 0] ![0, 2, 0] ![0, 0, 0] (extractStridedSlice S4x2174x512 ![0, 2, 0] x slices_S4x2176x512_S4x2174x512_0_2_0) (constant S_ .f32 0x00000000#32) pads_S4x2174x512_S4x2176x512_000_020_000 h_S_)
      = fun n t q => sooner 2 (fun t => box x n t q) t := by
  funext n t q
  unfold box
  pointwise [sooner]
  by_cases h : t.val + 2 < 2176
  · rw [dif_pos h, dif_pos (by omega)]
    exact congrArg (fun r => x (ix3 n r q)) (Fin.ext (Nat.add_comm _ _))
  · rw [dif_neg h, dif_neg (by omega)]

/-- A product. -/
theorem box_mul (x y : FVec Ideal S4x2176x512 .f32) : box (mulf x y) = fun n t q => box x n t q * box y n t q := rfl
/-- A sum. -/
theorem box_add (x y : FVec Ideal S4x2176x512 .f32) : box (addf x y) = fun n t q => box x n t q + box y n t q := rfl

/-- The first weight, at every row. -/
theorem box_w0 (w : FVec Ideal S3x512 .f32) :
    box (broadcastInDim S4x2176x512 ![0, 1, 2] bcast_S1x1x512_S4x2176x512_0_1_2 (broadcastInDim S1x1x512 ![2] bcast_S512_S1x1x512_2 (shapeCast S512 (extractStridedSlice S1x512 ![0, 0] w slices_S3x512_S1x512_0_0) shapeCasts_S1x512_S512)))
      = fun n t q => weights w 0 q := by
  funext n t q
  unfold box
  pointwise [weights]
/-- The second weight, at every row. -/
theorem box_w1 (w : FVec Ideal S3x512 .f32) :
    box (broadcastInDim S4x2176x512 ![0, 1, 2] bcast_S1x1x512_S4x2176x512_0_1_2 (broadcastInDim S1x1x512 ![2] bcast_S512_S1x1x512_2 (shapeCast S512 (extractStridedSlice S1x512 ![1, 0] w slices_S3x512_S1x512_1_0) shapeCasts_S1x512_S512)))
      = fun n t q => weights w 1 q := by
  funext n t q
  unfold box
  pointwise [weights]
/-- The third weight, at every row. -/
theorem box_w2 (w : FVec Ideal S3x512 .f32) :
    box (broadcastInDim S4x2176x512 ![0, 1, 2] bcast_S1x1x512_S4x2176x512_0_1_2 (broadcastInDim S1x1x512 ![2] bcast_S512_S1x1x512_2 (shapeCast S512 (extractStridedSlice S1x512 ![2, 0] w slices_S3x512_S1x512_2_0) shapeCasts_S1x512_S512)))
      = fun n t q => weights w 2 q := by
  funext n t q
  unfold box
  pointwise [weights]
/-- The gain, at every row. -/
theorem box_gain (g : FVec Ideal S1x512 .f32) :
    box (broadcastInDim S4x2176x512 ![0, 1, 2] bcast_S1x1x512_S4x2176x512_0_1_2 (broadcastInDim S1x1x512 ![1, 2] bcast_S1x512_S1x1x512_1_2 g))
      = fun n t q => gains g q := by
  funext n t q
  unfold box
  pointwise [gains]

/-- An array by sequence, row, head and place in the head. -/
def heads (x : FVec Ideal S4x2176x8x64 .f32) (n : Fin 4) (t : Fin 2176) (h : Fin 8) (k : Fin 64) : EReal := x (ix4 n t h k)

/-- The head of a channel. -/
def headOf (q : Fin 512) : Fin 8 := ⟨q.val / 64, by omega⟩

/-- Channels read as heads. -/
theorem heads_box (x : FVec Ideal S4x2176x512 .f32) :
    heads (shapeCast S4x2176x8x64 x shapeCasts_S4x2176x512_S4x2176x8x64)
      = fun n t h k => box x n t ⟨h.val * 64 + k.val, by omega⟩ := by
  funext n t h k
  unfold heads box
  pointwise []

/-- Heads read as channels. -/
theorem box_heads (x : FVec Ideal S4x2176x8x64 .f32) :
    box (shapeCast S4x2176x512 x shapeCasts_S4x2176x8x64_S4x2176x512) = fun n t q => heads x n t (headOf q) (inHead q) := by
  funext n t q
  unfold heads box headOf inHead
  pointwise []

/-- The heads' mean squares. -/
theorem means (y : FVec Ideal S4x2176x8x64 .f32) :
    (addf (Host.divf (broadcastInDim S4x2176x8x1 ![0, 1, 2] bcast_S4x2176x8_S4x2176x8x1_0_1_2 (Host.reduceAdd (mulf y y) (constant S_ .f32 0x00000000#32) reducesTo_S4x2176x8x64_S4x2176x8_d3 h_S_)) (broadcastInDim S4x2176x8x1 ![] bcast_S_S4x2176x8x1 (constant S_ .f32 0x42800000#32))) (broadcastInDim S4x2176x8x1 ![] bcast_S_S4x2176x8x1 (constant S_ .f32 0x358637BD#32)) : FVec Ideal S4x2176x8x1 .f32)
      = fun j => hsq (heads y (j 0) (j 1) (j 2)) := by
  funext j
  idx_vars j
  unfold heads
  pointwise [hsq]

/-- What is added twice, head by head. -/
theorem pulls (y d : FVec Ideal S4x2176x8x64 .f32)
    (q : FVec Ideal S4x2176x8x1 .f32) (hq : q = fun j => hsq (heads y (j 0) (j 1) (j 2))) :
    (broadcastInDim S4x2176x8x64 ![0, 1, 2] bcast_S4x2176x8_S4x2176x8x64_0_1_2 (Host.reduceAdd (Host.divf (mulf (shapeCast _ (Host.reduceAdd (mulf y d) (constant S_ .f32 0x00000000#32) reducesTo_S4x2176x8x64_S4x2176x8_d3 h_S_) shapeCasts_S4x2176x8_S4x2176x8x1) (mulf (broadcastInDim S4x2176x8x1 ![] bcast_S_S4x2176x8x1 (constant S_ .f32 0xBF000000#32)) (Host.divf (Host.rsqrt q) q))) (broadcastInDim S4x2176x8x1 ![] bcast_S_S4x2176x8x1 (constant S_ .f32 0x42800000#32))) (constant S_ .f32 0x00000000#32) reducesTo_S4x2176x8x1_S4x2176x8_d3 h_S_) : FVec Ideal S4x2176x8x64 .f32)
      = fun j => hpull (heads y (j 0) (j 1) (j 2)) (heads d (j 0) (j 1) (j 2)) := by
  subst hq
  funext j
  idx_vars j
  unfold hpull
  pointwise [hroot, heads]

/-- The norm, head by head. -/
theorem heads_hat (y : FVec Ideal S4x2176x8x64 .f32) (n : Fin 4) (t : Fin 2176) (h : Fin 8) (k : Fin 64)
    (q : FVec Ideal S4x2176x8x1 .f32) (hq : q = fun j => hsq (heads y (j 0) (j 1) (j 2))) :
    heads (mulf y (broadcastInDim S4x2176x8x64 ![0, 1, 2, 3] bcast_S4x2176x8x1_S4x2176x8x64_0_1_2_3 (Host.rsqrt q))) n t h k
      = heads y n t h k * hroot (heads y n t h) := by
  subst hq
  rw [hroot]
  conv_lhs => unfold heads
  pointwise []
  rfl

/-- The norm's gradient, head by head. -/
theorem heads_back (y d : FVec Ideal S4x2176x8x64 .f32) (n : Fin 4) (t : Fin 2176) (h : Fin 8) (k : Fin 64)
    (q : FVec Ideal S4x2176x8x1 .f32) (hq : q = fun j => hsq (heads y (j 0) (j 1) (j 2)))
    (p : FVec Ideal S4x2176x8x64 .f32) (hp : p = fun j => hpull (heads y (j 0) (j 1) (j 2)) (heads d (j 0) (j 1) (j 2))) :
    heads (addf (addf (mulf d (broadcastInDim S4x2176x8x64 ![0, 1, 2, 3] bcast_S4x2176x8x1_S4x2176x8x64_0_1_2_3 (Host.rsqrt q))) (mulf y p)) (mulf p y)) n t h k
      = hback (heads y n t h) (heads d n t h) k := by
  subst hq hp
  rw [hback, hroot]
  conv_lhs => unfold heads
  pointwise []
  rfl

variable (V0 : Valuation τ sig (Elt Ideal))

/-- The gradient of the result. -/
abbrev aZ : Cube := cube (V0 (Proc.devRef .tc main_arg0))
/-- The outer gate. -/
abbrev aB : Cube := cube (V0 (Proc.devRef .tc main_arg1))
/-- The inner gate. -/
abbrev aC : Cube := cube (V0 (Proc.devRef .tc main_arg2))
/-- What the inner gate gates. -/
abbrev aH : Cube := cube (V0 (Proc.devRef .tc main_arg3))
/-- The weights. -/
abbrev aw : Fin 3 → Fin 512 → EReal := weights (V0 (Proc.devRef .tc main_arg4))
/-- The gain. -/
abbrev ag : Fin 512 → EReal := gains (V0 (Proc.devRef .tc main_arg5))

/-- The outer gate's array. -/
theorem v1_eq : box (res_main_v1 V0) = aB V0 := box_rows _
/-- The inner gate's array. -/
theorem v3_eq : box (res_main_v3 V0) = aC V0 := box_rows _
/-- The array it gates. -/
theorem v5_eq : box (res_main_v5 V0) = aH V0 := box_rows _
/-- The gradient's array. -/
theorem v54_eq : box (res_main_v54 V0) = aZ V0 := box_rows _
/-- The convolution's input. -/
theorem v6_eq : box (res_main_v6 V0) = fun n t q => gated (aC V0 n) (aH V0 n) t q := by
  rw [res_main_v6, box_mul, v3_eq, v5_eq]; rfl
/-- Two rows later. -/
theorem v12_eq : box (res_main_v12 V0) = fun n t q => later 2 (fun t => gated (aC V0 n) (aH V0 n) t q) t := by
  rw [res_main_v12, box_later2, v6_eq]
/-- A row later. -/
theorem v22_eq : box (res_main_v22 V0) = fun n t q => later 1 (fun t => gated (aC V0 n) (aH V0 n) t q) t := by
  rw [res_main_v22, box_later1, v6_eq]

/-- The convolution. -/
theorem v33_eq : box (res_main_v33 V0) = fun n t q => conv (aC V0 n) (aH V0 n) (aw V0 2) (aw V0 1) (aw V0 0) t q := by
  rw [res_main_v33, box_add, box_add, box_mul, box_mul, box_mul, res_main_v14, res_main_v24, res_main_v30, box_w0, box_w1, box_w2,
    v6_eq, v12_eq, v22_eq]
  funext n t q
  show _ + _ + _ = _ + _ + _
  rw [add_comm (_ + _) (aw V0 2 q * _), add_comm (aw V0 0 q * _), add_assoc]

/-- What is normed, by heads. -/
theorem v35_eq : heads (res_main_v35 V0)
    = fun n t h k => mixedAt (aB V0) (aC V0) (aH V0) (aw V0) n t ⟨h.val * 64 + k.val, by omega⟩ := by
  refine (heads_box _).trans ?_
  rw [box_mul, v1_eq, v33_eq]
  rfl

/-- The gradient of the normed array, by heads. -/
theorem v62_eq : heads (res_main_v62 V0)
    = fun n t h k => aZ V0 n t ⟨h.val * 64 + k.val, by omega⟩ * ag V0 ⟨h.val * 64 + k.val, by omega⟩ := by
  refine (heads_box _).trans ?_
  rw [box_mul, v54_eq, res_main_v50, box_gain]

/-- The mean squares. -/
theorem v42_eq : (res_main_v42 V0 : FVec Ideal S4x2176x8x1 .f32) = fun j => hsq (heads (res_main_v35 V0) (j 0) (j 1) (j 2)) :=
  means _

/-- What is added twice. -/
theorem v72_eq : (res_main_v72 V0 : FVec Ideal S4x2176x8x64 .f32)
    = fun j => hpull (heads (res_main_v35 V0) (j 0) (j 1) (j 2)) (heads (res_main_v62 V0) (j 0) (j 1) (j 2)) :=
  pulls _ _ _ (v42_eq V0)

/-- The normed array. -/
theorem v49_eq : box (res_main_v49 V0) = hatR (aB V0) (aC V0) (aH V0) (aw V0) := by
  refine (box_heads _).trans ?_
  funext n t q
  refine (heads_hat _ _ _ _ _ _ (v42_eq V0)).trans ?_
  rw [v35_eq, hatR]
  refine congrArg₂ (fun a b => mixedAt (aB V0) (aC V0) (aH V0) (aw V0) n t a * b) ?_ rfl
  exact headLane_inHead q

/-- The gradient of what is normed. -/
theorem v77_eq : box (res_main_v77 V0) = gradR (aZ V0) (aB V0) (aC V0) (aH V0) (aw V0) (ag V0) := by
  refine (box_heads _).trans ?_
  funext n t q
  refine (heads_back _ _ _ _ _ _ _ (v42_eq V0) _ (v72_eq V0)).trans ?_
  rw [v35_eq, v62_eq]
  rfl

/-- The gradient of the convolution. -/
theorem v78_eq : box (res_main_v78 V0)
    = fun n t q => gradR (aZ V0) (aB V0) (aC V0) (aH V0) (aw V0) (ag V0) n t q * aB V0 n t q := by
  rw [res_main_v78, box_mul, v1_eq, v77_eq]
  funext n t q
  exact mul_comm _ _

/-- A weight times a column, moved up. -/
theorem sooner_mul (s : ℕ) (w : EReal) (x : Fin 2176 → EReal) (t : Fin 2176) :
    sooner s (fun t => w * x t) t = w * sooner s x t := by
  unfold sooner
  split
  · rfl
  · rw [mul_zero]

/-- The gradient of the convolution's input. -/
theorem v110_eq : box (res_main_v110 V0)
    = fun n t q => inner (aB V0) (aw V0) (gradR (aZ V0) (aB V0) (aC V0) (aH V0) (aw V0) (ag V0)) n t q := by
  rw [res_main_v110, box_add, box_add, box_mul, box_sooner1, box_sooner2, res_main_v89, res_main_v102, box_mul, box_mul,
    res_main_v14, res_main_v24, res_main_v30, box_w0, box_w1, box_w2, v78_eq]
  simp only [sooner_mul]
  rfl

/-- The sums of an array's columns. -/
theorem sums (x : FVec Ideal S4x2176x512 .f32) (q : Fin 512) :
    (Host.reduceAdd (shapeCast S1x1x512 (Host.reduceAdd x (constant S_ .f32 0x00000000#32) reducesTo_S4x2176x512_S512_d0_1 h_S_) shapeCasts_S512_S1x1x512) (constant S_ .f32 0x00000000#32) reducesTo_S1x1x512_S512_d0_1 h_S_ : FVec Ideal S512 .f32) (ix1 q)
      = ∑ n : Fin 4, ∑ t : Fin 2176, box x n t q := by
  have z : Ideal.ofBits .f32 0x00000000#32 = 0 := by simp [Ideal.ofBits, Ideal.ieee]
  refine (Cert.Sums.two_axes _ _ _ _).trans ?_
  refine (congrArg₂ (· + ·) z rfl).trans ?_
  rw [zero_add, Fin.sum_univ_one, Fin.sum_univ_one]
  have e : shapeCast S1x1x512 (Host.reduceAdd x (constant S_ .f32 0x00000000#32) reducesTo_S4x2176x512_S512_d0_1 h_S_ : FVec Ideal S512 .f32) shapeCasts_S512_S1x1x512 (ix3 0 0 q)
      = (Host.reduceAdd x (constant S_ .f32 0x00000000#32) reducesTo_S4x2176x512_S512_d0_1 h_S_ : FVec Ideal S512 .f32) (ix1 q) := by
    generalize (Host.reduceAdd x (constant S_ .f32 0x00000000#32) reducesTo_S4x2176x512_S512_d0_1 h_S_ : FVec Ideal S512 .f32) = y
    pointwise []
  refine e.trans ((Cert.Sums.two_axes _ _ _ _).trans ?_)
  refine (congrArg₂ (· + ·) z rfl).trans ?_
  rw [zero_add]
  rfl

/-- A vector as a row. -/
theorem row_at (y : FVec Ideal S512 .f32) (j : S1x512.Idx) :
    broadcastInDim S1x512 ![1] bcast_S512_S1x512_1 y j = y (ix1 (j 1)) := by
  idx_vars j
  pointwise []

/-- The gain's gradient. -/
theorem v61_eq (j : S1x512.Idx) :
    (broadcastInDim S1x512 ![1] bcast_S512_S1x512_1 (Host.reduceAdd (shapeCast S1x1x512 (Host.reduceAdd (mulf (res_main_v49 V0) (res_main_v54 V0)) (constant S_ .f32 0x00000000#32) reducesTo_S4x2176x512_S512_d0_1 h_S_) shapeCasts_S512_S1x1x512) (constant S_ .f32 0x00000000#32) reducesTo_S1x1x512_S512_d0_1 h_S_) : FVec Ideal S1x512 .f32) j
      = gain (aZ V0) (hatR (aB V0) (aC V0) (aH V0) (aw V0)) (j 1) := by
  refine (row_at _ j).trans ((sums (mulf (res_main_v49 V0) (res_main_v54 V0)) (j 1)).trans ?_)
  rw [box_mul, v49_eq, v54_eq]
  exact Finset.sum_congr rfl fun n _ => Finset.sum_congr rfl fun t _ => mul_comm _ _

/-- Three rows side by side, each padded by zeros. -/
theorem three_rows (a b d : FVec Ideal S512 .f32) (r : Fin 3) (q : Fin 512) :
    (addf (addf (pad S3x512 ![2, 0] ![0, 0] ![0, 0] (broadcastInDim S1x512 ![1] bcast_S512_S1x512_1 a) (constant S_ .f32 0x00000000#32) pads_S1x512_S3x512_200_000 h_S_) (pad S3x512 ![1, 0] ![1, 0] ![0, 0] (broadcastInDim S1x512 ![1] bcast_S512_S1x512_1 b) (constant S_ .f32 0x00000000#32) pads_S1x512_S3x512_110_000 h_S_)) (pad S3x512 ![0, 0] ![2, 0] ![0, 0] (broadcastInDim S1x512 ![1] bcast_S512_S1x512_1 d) (constant S_ .f32 0x00000000#32) pads_S1x512_S3x512_020_000 h_S_) : FVec Ideal S3x512 .f32) (ix2 r q)
      = (if r = 2 then a (ix1 q) else 0) + (if r = 1 then b (ix1 q) else 0) + (if r = 0 then d (ix1 q) else 0) := by
  pointwise []
  fin_cases r <;> simp

/-- The weights' gradient. -/
theorem v113_eq (j : S3x512.Idx) :
    (addf (addf (pad S3x512 ![2, 0] ![0, 0] ![0, 0] (broadcastInDim S1x512 ![1] bcast_S512_S1x512_1 (Host.reduceAdd (shapeCast S1x1x512 (Host.reduceAdd (mulf (res_main_v78 V0) (res_main_v6 V0)) (constant S_ .f32 0x00000000#32) reducesTo_S4x2176x512_S512_d0_1 h_S_) shapeCasts_S512_S1x1x512) (constant S_ .f32 0x00000000#32) reducesTo_S1x1x512_S512_d0_1 h_S_)) (constant S_ .f32 0x00000000#32) pads_S1x512_S3x512_200_000 h_S_) (pad S3x512 ![1, 0] ![1, 0] ![0, 0] (broadcastInDim S1x512 ![1] bcast_S512_S1x512_1 (Host.reduceAdd (shapeCast S1x1x512 (Host.reduceAdd (mulf (res_main_v78 V0) (res_main_v22 V0)) (constant S_ .f32 0x00000000#32) reducesTo_S4x2176x512_S512_d0_1 h_S_) shapeCasts_S512_S1x1x512) (constant S_ .f32 0x00000000#32) reducesTo_S1x1x512_S512_d0_1 h_S_)) (constant S_ .f32 0x00000000#32) pads_S1x512_S3x512_110_000 h_S_)) (pad S3x512 ![0, 0] ![2, 0] ![0, 0] (broadcastInDim S1x512 ![1] bcast_S512_S1x512_1 (Host.reduceAdd (shapeCast S1x1x512 (Host.reduceAdd (mulf (res_main_v78 V0) (res_main_v12 V0)) (constant S_ .f32 0x00000000#32) reducesTo_S4x2176x512_S512_d0_1 h_S_) shapeCasts_S512_S1x1x512) (constant S_ .f32 0x00000000#32) reducesTo_S1x1x512_S512_d0_1 h_S_)) (constant S_ .f32 0x00000000#32) pads_S1x512_S3x512_020_000 h_S_) : FVec Ideal S3x512 .f32) j
      = weight (aB V0) (aC V0) (aH V0) (gradR (aZ V0) (aB V0) (aC V0) (aH V0) (aw V0) (ag V0)) (j 0) (j 1) := by
  idx_vars j
  refine (three_rows _ _ _ j0 j1).trans ?_
  have s2 := sums (mulf (res_main_v78 V0) (res_main_v6 V0)) j1
  have s1 := sums (mulf (res_main_v78 V0) (res_main_v22 V0)) j1
  have s0 := sums (mulf (res_main_v78 V0) (res_main_v12 V0)) j1
  rw [box_mul, v78_eq, v6_eq] at s2
  rw [box_mul, v78_eq, v22_eq] at s1
  rw [box_mul, v78_eq, v12_eq] at s0
  rw [s2, s1, s0]
  clear s2 s1 s0
  show _ = weight (aB V0) (aC V0) (aH V0) (gradR (aZ V0) (aB V0) (aC V0) (aH V0) (aw V0) (ag V0)) j0 j1
  generalize gradR (aZ V0) (aB V0) (aC V0) (aH V0) (aw V0) (ag V0) = D
  unfold weight
  match j0 with
  | 0 => simp
  | 1 => simp
  | 2 => simp [later_zero]

end Cert.ReferenceIdeal.Hand
-- ==== Proof.Conv.lean ====
/-
  The gradient through the short convolution and its norm: kernel and reference leave the same five arrays of finite arguments.
-/
module

public import proofs.«01_k».proof.Defs
public import proofs.«01_k».proof.Proof.ConvValue
public import proofs.«01_k».proof.Proof.ConvRef
public import proofs.«01_k».proof.Proof.Gen.KernelIdeal.Value
public import proofs.«01_k».proof.Proof.Gen.Pre_conv_finite

@[expose] public section

set_option maxRecDepth 16384

noncomputable section

namespace Cert.ConvClaim

open Cert.ConvMath Cert.ConvSpec Cert.Finite Idealize.ShloMosaic Idealize.ShloMosaic.TcCoe Idealize.SL.Sem
open Cert.KernelIdeal (nD τ sig main_arg0 main_arg1 main_arg2 main_arg3 main_arg4 main_arg5)
open Cert.KernelIdeal.Hand (arg0 arg1 arg2 arg3 arg4 arg5 cube weights gains grad hat flat out7 out8 out9 out10 out11)

instance : Subsingleton Cert.Pre_conv_finite.S_.Idx := ⟨fun a b => funext fun k => k.elim0⟩

variable (m : (ℓ : Loc nD τ sig) → Buf (Elt Ideal) ℓ) (c : Dev nD)

/-- What the precondition says: all arguments have real entries. -/
theorem real_args (hp : Pre_KernelIdeal_conv_finite m) : (∀ i, IsReal (arg0 m c i)) ∧ (∀ i, IsReal (arg1 m c i))
    ∧ (∀ i, IsReal (arg2 m c i)) ∧ (∀ i, IsReal (arg3 m c i)) ∧ (∀ i, IsReal (arg4 m c i)) ∧ (∀ i, IsReal (arg5 m c i)) := by
  have h := congrFun (hp c) (fun k => k.elim0)
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h1, h2⟩ := IntOp.andi_eq_one.mp h
  exact ⟨real_of_all _ _ _ _ _ _ h1, real_of_all _ _ _ _ _ _ h2, real_of_all _ _ _ _ _ _ h3, real_of_all _ _ _ _ _ _ h4,
    real_of_all _ _ _ _ _ _ h5, real_of_all _ _ _ _ _ _ h6⟩

/-- On finite arguments the kernel's gradient of what is normed is the one head by head. -/
theorem grad_eq (hp : Pre_KernelIdeal_conv_finite m) : grad m c = gradR (cube (arg0 m c)) (cube (arg1 m c)) (cube (arg2 m c))
    (cube (arg3 m c)) (weights (arg4 m c)) (gains (arg5 m c)) := by
  obtain ⟨r0, r1, r2, r3, r4, r5⟩ := real_args m c hp
  exact gradK_eq (fun _ _ _ => r0 _) (fun _ _ _ => r1 _) (fun _ _ _ => r2 _) (fun _ _ _ => r3 _) (fun _ _ => r4 _) (fun _ => r5 _)

/-- On finite arguments the kernel's normed values are those head by head. -/
theorem hat_eq (hp : Pre_KernelIdeal_conv_finite m) :
    hat m c = hatR (cube (arg1 m c)) (cube (arg2 m c)) (cube (arg3 m c)) (weights (arg4 m c)) := by
  obtain ⟨r0, r1, r2, r3, r4, r5⟩ := real_args m c hp
  exact hatK_eq (fun _ _ _ => r1 _) (fun _ _ _ => r2 _) (fun _ _ _ => r3 _) (fun _ _ => r4 _)

section Reference

open Cert.ReferenceIdeal.Value
open Cert.ReferenceIdeal.Hand (aZ aB aC aH aw ag)

variable (V0 : Valuation Cert.ReferenceIdeal.τ Cert.ReferenceIdeal.sig (Elt Ideal)) (hp : Pre_KernelIdeal_conv_finite m)
  (h0 : aZ V0 = cube (arg0 m c)) (h1 : aB V0 = cube (arg1 m c)) (h2 : aC V0 = cube (arg2 m c)) (h3 : aH V0 = cube (arg3 m c))
  (h4 : aw V0 = weights (arg4 m c)) (h5 : ag V0 = gains (arg5 m c))

include hp h0 h1 h2 h3 h4 h5

/-- The reference's gradient of what is normed. -/
theorem v77_eq : Cert.ReferenceIdeal.Hand.box (res_main_v77 V0) = grad m c := by
  rw [Cert.ReferenceIdeal.Hand.v77_eq, h0, h1, h2, h3, h4, h5, grad_eq m c hp]

/-- The reference's gradient of the convolution's input. -/
theorem v110_eq : Cert.ReferenceIdeal.Hand.box (res_main_v110 V0)
    = fun n t q => inner (cube (arg1 m c)) (weights (arg4 m c)) (grad m c) n t q := by
  rw [Cert.ReferenceIdeal.Hand.v110_eq, h0, h1, h2, h3, h4, h5, grad_eq m c hp]

/-- The first result. -/
theorem ref7 (j : Cert.KernelIdeal.S8704x512.Idx) :
    Cert.ReferenceIdeal.Hand.box (mulf (res_main_v77 V0) (res_main_v33 V0))
      ⟨(j 0).val / 2176, Nat.div_lt_of_lt_mul (j 0).isLt⟩ ⟨(j 0).val % 2176, Nat.mod_lt _ (by norm_num)⟩ (j 1) = out7 m c j := by
  rw [Cert.ReferenceIdeal.Hand.box_mul, v77_eq m c V0 hp h0 h1 h2 h3 h4 h5, Cert.ReferenceIdeal.Hand.v33_eq, h2, h3, h4]
  rfl

/-- The second result. -/
theorem ref8 (j : Cert.KernelIdeal.S8704x512.Idx) :
    Cert.ReferenceIdeal.Hand.box (mulf (res_main_v110 V0) (res_main_v5 V0))
      ⟨(j 0).val / 2176, Nat.div_lt_of_lt_mul (j 0).isLt⟩ ⟨(j 0).val % 2176, Nat.mod_lt _ (by norm_num)⟩ (j 1) = out8 m c j := by
  rw [Cert.ReferenceIdeal.Hand.box_mul, v110_eq m c V0 hp h0 h1 h2 h3 h4 h5, Cert.ReferenceIdeal.Hand.v5_eq, h3]
  rfl

/-- The third result. -/
theorem ref9 (j : Cert.KernelIdeal.S8704x512.Idx) :
    Cert.ReferenceIdeal.Hand.box (mulf (res_main_v3 V0) (res_main_v110 V0))
      ⟨(j 0).val / 2176, Nat.div_lt_of_lt_mul (j 0).isLt⟩ ⟨(j 0).val % 2176, Nat.mod_lt _ (by norm_num)⟩ (j 1) = out9 m c j := by
  rw [Cert.ReferenceIdeal.Hand.box_mul, v110_eq m c V0 hp h0 h1 h2 h3 h4 h5, Cert.ReferenceIdeal.Hand.v3_eq, h2]
  exact mul_comm _ _

/-- The fourth result. -/
theorem ref10 (j : Cert.KernelIdeal.S3x512.Idx) :
    weight (aB V0) (aC V0) (aH V0) (gradR (aZ V0) (aB V0) (aC V0) (aH V0) (aw V0) (ag V0)) (j 0) (j 1) = out10 m c j := by
  rw [h0, h1, h2, h3, h4, h5, ← grad_eq m c hp]
  rfl

/-- The fifth result. -/
theorem ref11 (j : Cert.KernelIdeal.S1x512.Idx) :
    gain (aZ V0) (hatR (aB V0) (aC V0) (aH V0) (aw V0)) (j 1) = out11 m c j := by
  rw [h0, h1, h2, h3, h4, ← hat_eq m c hp]
  rfl

end Reference

/-- The two programs end with the same five results. -/
theorem algebraic : Cert.algebraic_KernelIdeal_ReferenceIdeal_pre_conv_finite := fun m ρ m' ρ' hp hag =>
  have h0 (c : Dev nD) : Cert.ReferenceIdeal.Hand.aZ (StableHlo.launchContents m' c) = cube (arg0 m c) :=
    congrArg Cert.ReferenceIdeal.Hand.cube (hag c).1
  have h1 (c : Dev nD) : Cert.ReferenceIdeal.Hand.aB (StableHlo.launchContents m' c) = cube (arg1 m c) :=
    congrArg Cert.ReferenceIdeal.Hand.cube (hag c).2.1
  have h2 (c : Dev nD) : Cert.ReferenceIdeal.Hand.aC (StableHlo.launchContents m' c) = cube (arg2 m c) :=
    congrArg Cert.ReferenceIdeal.Hand.cube (hag c).2.2.1
  have h3 (c : Dev nD) : Cert.ReferenceIdeal.Hand.aH (StableHlo.launchContents m' c) = cube (arg3 m c) :=
    congrArg Cert.ReferenceIdeal.Hand.cube (hag c).2.2.2.1
  have h4 (c : Dev nD) : Cert.ReferenceIdeal.Hand.aw (StableHlo.launchContents m' c) = weights (arg4 m c) :=
    congrArg Cert.ReferenceIdeal.Hand.weights (hag c).2.2.2.2.1
  have h5 (c : Dev nD) : Cert.ReferenceIdeal.Hand.ag (StableHlo.launchContents m' c) = gains (arg5 m c) :=
    congrArg Cert.ReferenceIdeal.Hand.gains (hag c).2.2.2.2.2
  ⟨fun c => out7 m c, fun c => out8 m c, fun c => out9 m c, fun c => out10 m c, fun c => out11 m c,
    (θ_run _ _ _).mono (fun _ h c => ⟨(h c).1.trans (Cert.KernelIdeal.Hand.out7_eq m c),
      (h c).2.1.trans (Cert.KernelIdeal.Hand.out8_eq m c), (h c).2.2.1.trans (Cert.KernelIdeal.Hand.out9_eq m c),
      (h c).2.2.2.1.trans (Cert.KernelIdeal.Hand.out10_eq m c), (h c).2.2.2.2.1.trans (Cert.KernelIdeal.Hand.out11_eq m c),
      (h c).2.2.2.2.2⟩) (Cert.KernelIdeal.Value.run_blocks m ρ),
    (θ_run _ _ _).mono (fun _ h c => ⟨
      (h c).1.trans (funext fun j => (Cert.ReferenceIdeal.Hand.rows_box _ j).trans
        (ref7 m c _ hp (h0 c) (h1 c) (h2 c) (h3 c) (h4 c) (h5 c) j)),
      (h c).2.1.trans (funext fun j => (Cert.ReferenceIdeal.Hand.rows_box _ j).trans
        (ref8 m c _ hp (h0 c) (h1 c) (h2 c) (h3 c) (h4 c) (h5 c) j)),
      (h c).2.2.1.trans (funext fun j => (Cert.ReferenceIdeal.Hand.rows_box _ j).trans
        (ref9 m c _ hp (h0 c) (h1 c) (h2 c) (h3 c) (h4 c) (h5 c) j)),
      (h c).2.2.2.1.trans (funext fun j => (Cert.ReferenceIdeal.Hand.v113_eq _ j).trans
        (ref10 m c _ hp (h0 c) (h1 c) (h2 c) (h3 c) (h4 c) (h5 c) j)),
      (h c).2.2.2.2.1.trans (funext fun j => (Cert.ReferenceIdeal.Hand.v61_eq _ j).trans
        (ref11 m c _ hp (h0 c) (h1 c) (h2 c) (h3 c) (h4 c) (h5 c) j)),
      (h c).2.2.2.2.2⟩) (Cert.ReferenceIdeal.Value.run m' ρ')⟩

end Cert.ConvClaim
-- ==== Proof.ActMath.lean ====
/-
  The gradient of `silu(gate) · up` at one entry, as the kernel and as the reference compute it, on the extended reals.
-/
module

public import proofs.«01_k».proof.Proof.Finite

@[expose] public section

noncomputable section

namespace Cert.ActMath

open Idealize.ShloMosaic Cert.Finite

/-- The logistic function, written as the programs write it. -/
def sgm (g : EReal) : EReal := Ideal.div 1 (1 + Ideal.exp (-g))

/-- The gradient of the hidden product: half the gradient's row times the weights' row. -/
def da (d w : Fin 1024 → EReal) : EReal := ∑ k, Ideal.ofBits .f32 0x3F000000#32 * d k * w k

/-- The gate's gradient in the kernel: `da · u · (σ + g σ (1 − σ))`. -/
def dgate (x g u : EReal) : EReal := x * u * (sgm g + g * sgm g * (1 - sgm g))

/-- The up projection's gradient. -/
def dup (x g : EReal) : EReal := x * (g * sgm g)

/-- The gate's gradient in the reference. -/
def dgateRef (x g u : EReal) : EReal := x * u * sgm g + g * (x * u) * (sgm g * (1 - sgm g))

/-- At a real number the logistic function is real. -/
theorem sgm_real (g : ℝ) : IsReal (sgm g) := by
  have h : 1 + Real.exp (-g) ≠ 0 := by positivity
  refine ⟨1 / (1 + Real.exp (-g)), ?_⟩
  rw [sgm, ← EReal.coe_neg, Ideal.exp_coe, ← EReal.coe_one, ← EReal.coe_add, Ideal.div_coe h, ← EReal.coe_mul, one_mul]

/-- At `⊤` the logistic function is one. -/
theorem sgm_top : sgm ⊤ = 1 := by
  rw [sgm, EReal.neg_top, Ideal.exp_bot, add_zero, ← EReal.coe_one, Ideal.div_coe one_ne_zero]
  simp

/-- At `⊥` the logistic function is zero. -/
theorem sgm_bot : sgm ⊥ = 0 := by
  rw [sgm, EReal.neg_bot, Ideal.exp_top, EReal.add_top_of_ne_bot (by rw [← EReal.coe_one]; exact EReal.coe_ne_bot 1)]
  simp [Ideal.div]

/-- Where `da · u` is real the two gate's gradients agree, whatever the gate. -/
theorem dgate_eq (x g u : EReal) (h : IsReal (x * u)) : dgateRef x g u = dgate x g u := by
  obtain ⟨X, hX⟩ := h
  rw [dgateRef, dgate, hX]
  induction g with
  | bot => simp [sgm_bot]
  | top =>
    have h0 : (1 : EReal) - 1 = 0 := by rw [← EReal.coe_one, ← EReal.coe_sub, sub_self, EReal.coe_zero]
    simp [sgm_top, h0]
  | coe r =>
    obtain ⟨s, hs⟩ := sgm_real r
    rw [hs, ← EReal.coe_one]
    simp only [← EReal.coe_mul, ← EReal.coe_add, ← EReal.coe_sub]
    congr 1
    ring

/-- The gradient of the hidden product is real where the rows are. -/
theorem da_real (d w : Fin 1024 → EReal) (hd : ∀ k, IsReal (d k)) (hw : ∀ k, IsReal (w k)) : IsReal (da d w) :=
  isReal_sum _ _ fun k _ => (IsReal.mul ⟨_, by simp [Ideal.ofBits, Ideal.ieee]; rfl⟩ (hd k)).mul (hw k)

end Cert.ActMath
-- ==== Proof.FgateMath.lean ====
/-
  The mathematics of the gradient through the gate: the sum of all rows from one on, by doubling, and the derivative of the
  log-sigmoid on the extended reals.
-/
module

public import proofs.«01_k».proof.Proof.ActMath

@[expose] public section

noncomputable section

namespace Cert.FgateMath

open Idealize.ShloMosaic Cert.ActMath Cert.Finite

/-- A column as a function of all naturals, zero below its last row. -/
def ext {n : ℕ} (f : Fin n → EReal) (t : ℕ) : EReal := if h : t < n then f ⟨t, h⟩ else 0

/-- The sum of all rows from one on: twelve doublings reach 4096 rows, more than there are. -/
def tail {n : ℕ} (f : Fin n → EReal) (t : ℕ) : EReal := ∑ k ∈ Finset.range 4096, ext f (t + k)

/-- One doubling: the column added to itself moved up. -/
def shift (s : ℕ) (f : ℕ → EReal) (t : ℕ) : EReal := f t + f (t + s)

/-- The doubling makes sums over `s` rows into sums over `2 s`. -/
theorem shift_sum (s : ℕ) (f : ℕ → EReal) :
    shift s (fun t => ∑ k ∈ Finset.range s, f (t + k)) = fun t => ∑ k ∈ Finset.range (s + s), f (t + k) := by
  funext t
  rw [shift, Finset.sum_range_add]
  simp only [Nat.add_assoc]

/-- The twelve doublings together. -/
theorem shifts (f : ℕ → EReal) :
    shift 2048 (shift 1024 (shift 512 (shift 256 (shift 128 (shift 64 (shift 32 (shift 16 (shift 8 (shift 4 (shift 2
      (shift 1 f))))))))))) = fun t => ∑ k ∈ Finset.range 4096, f (t + k) := by
  rw [show f = fun t => ∑ k ∈ Finset.range 1, f (t + k) by simp]
  rw [shift_sum 1, shift_sum 2, shift_sum 4, shift_sum 8, shift_sum 16, shift_sum 32, shift_sum 64, shift_sum 128,
    shift_sum 256, shift_sum 512, shift_sum 1024, shift_sum 2048]
  simp

/-- Of the 4096 rows only as many count as the column has. -/
theorem tail_eq {n : ℕ} (hn : n ≤ 4096) (f : Fin n → EReal) (t : ℕ) : tail f t = ∑ k : Fin n, ext f (t + k.val) := by
  rw [Fin.sum_univ_eq_sum_range fun k => ext f (t + k), tail]
  refine (Finset.sum_subset (Finset.range_mono hn) fun k _ hk => ?_).symm
  rw [ext, dif_neg]
  rw [Finset.mem_range] at hk
  omega

/-- A column's lower part has the same tails. -/
theorem tail_drop {n p : ℕ} (f : Fin (p + n) → EReal) (t : ℕ) :
    tail f (p + t) = tail (fun k => f (Fin.natAdd p k)) t := by
  refine Finset.sum_congr rfl fun k _ => ?_
  rw [ext, ext]
  by_cases h : t + k < n
  · rw [dif_pos (by omega), dif_pos h]
    exact congrArg f (Fin.ext (by simp [Nat.add_assoc]))
  · rw [dif_neg (by omega), dif_neg h]

/-- The gradient through the log-sigmoid. -/
def dx (s x : EReal) : EReal := s * sgm (-x)

/-- The soft maximum of `y` and zero, as it is printed. -/
def softMax (y : EReal) : EReal :=
  if y ≠ y then y else max y 0 + Ideal.log1p (Ideal.exp (-max y (-y)))

/-- The logistic function through the soft maximum, as the derivative of the log-sigmoid is printed. -/
def soft (y : EReal) : EReal :=
  Ideal.exp ((if y = Ideal.ofBits .f32 2139095040#32 then 0 else y)
    - if softMax y = Ideal.ofBits .f32 2139095040#32 then 0 else softMax y)

/-- The word of plus infinity. -/
theorem word_top : Ideal.ofBits .f32 2139095040#32 = ⊤ := by
  simp [Ideal.ofBits, Ideal.ieee]

/-- At a real number the soft maximum is `log (1 + exp y)`. -/
theorem softMax_coe (r : ℝ) : softMax r = ((Real.log (1 + Real.exp r) : ℝ) : EReal) := by
  have e : ∀ a : ℝ, Ideal.log1p (Ideal.exp ((-a : ℝ) : EReal)) = ((Real.log (1 + Real.exp (-a)) : ℝ) : EReal) := fun a => by
    have h : 0 < 1 + Real.exp (-a) := by positivity
    rw [Ideal.log1p, Ideal.exp_coe, ← EReal.coe_one, ← EReal.coe_add, Ideal.log_coe]
    simp [h, h.le]
  rw [softMax, if_neg (by simp), ← EReal.coe_neg, ← EReal.coe_zero]
  rcases le_total 0 r with h | h
  · rw [max_eq_left (EReal.coe_le_coe_iff.mpr h), max_eq_left (EReal.coe_le_coe_iff.mpr (by linarith)), ← EReal.coe_neg, e,
      ← EReal.coe_add]
    congr 1
    have h1 : 1 + Real.exp r = Real.exp r * (1 + Real.exp (-r)) := by
      rw [mul_add, mul_one, ← Real.exp_add, add_neg_cancel, Real.exp_zero, add_comm]
    rw [h1, Real.log_mul (Real.exp_pos r).ne' (by positivity), Real.log_exp]
  · rw [max_eq_right (EReal.coe_le_coe_iff.mpr h), max_eq_right (EReal.coe_le_coe_iff.mpr (by linarith)), ← EReal.coe_neg, e,
      ← EReal.coe_add, neg_neg, zero_add]

/-- The printed derivative of the log-sigmoid is the logistic function, at every extended real. -/
theorem soft_eq (y : EReal) : soft y = sgm y := by
  rw [soft, word_top]
  induction y with
  | bot =>
    have h : softMax ⊥ = 0 := by
      simp [softMax, Ideal.log1p, Ideal.exp_bot]
      rw [← EReal.coe_one, Ideal.log_coe]
      simp
    rw [sgm_bot, h]
    simp [Ideal.exp_bot]
  | top =>
    have h : softMax ⊤ = ⊤ := by
      have h0 : Ideal.log1p 0 = 0 := by
        rw [Ideal.log1p, add_zero, ← EReal.coe_one, Ideal.log_coe]
        simp
      simp [softMax, Ideal.exp_bot, h0]
    rw [sgm_top, h]
    simp
    rw [← EReal.coe_zero, Ideal.exp_coe]
    simp
  | coe r =>
    have hp : 0 < 1 + Real.exp r := by positivity
    rw [softMax_coe, if_neg (EReal.coe_ne_top _), if_neg (EReal.coe_ne_top _), ← EReal.coe_sub, Ideal.exp_coe, Real.exp_sub,
      Real.exp_log hp, sgm, ← EReal.coe_neg, Ideal.exp_coe, ← EReal.coe_one, ← EReal.coe_add,
      Ideal.div_coe (by positivity), ← EReal.coe_mul]
    congr 1
    rw [Real.exp_neg]
    have := (Real.exp_pos r).ne'
    field_simp
    ring

/-- The reference's product, with its two signs. -/
theorem neg_dx (s x : EReal) : -(-s * soft (-x)) = dx s x := by
  rw [soft_eq, EReal.neg_mul, neg_neg, dx]

/-- A left fold of additions is the sum. -/
theorem foldl_sum {n : ℕ} (g : Fin n → EReal) : (List.finRange n).foldl (fun r k => r + g k) 0 = ∑ k, g k := by
  rw [Fin.sum_univ_def, List.sum_eq_foldl, List.foldl_map]

end Cert.FgateMath
-- ==== Proof.FgateBlock.lean ====
/-
  The gradient through the gate's running sum, one sequence of 2176 rows at a time: the sum of all rows from one on, by
  twelve doubling shifts, then the log-sigmoid.
-/
module

public import proofs.«01_k».proof.Proof.Gen.FgateIdeal.Value
public import proofs.«01_k».proof.Proof.FgateMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FgateIdeal.Hand

open Cert.FgateIdeal Cert.FgateIdeal.Gen Idealize.ShloMosaic Idealize.ShloMosaic.TcCoe Idealize.SL.Sem
open Idealize.ShloMosaic.Pipeline (Dat)
open Cert.FgateMath Cert.ActMath

/-- One doubling step: the rows, and over them the rows further down, zeros below the last. -/
def step (k : BitVec 32) (v : FVec Ideal S2176x128 .f32) : FVec Ideal S2176x128 .f32 :=
  addf v (select (cmpi .slt (iota .tc S2176x128 32 [0] iota_S2176x128_d0_w32) (broadcast S2176x128 k))
    (dynamicRotate 0 k none v rotates_S2176x128_d0) (broadcast S2176x128 (Scalar.ofBits .f32 0x00000000#32)))

/-- One lane of an array. -/
def lane (v : FVec Ideal S2176x128 .f32) (l : Fin 128) : Fin 2176 → EReal := fun t => v (ix2 t l)

/-- A lane to which the rotated one is added below a row, seen as a function of all naturals. -/
theorem ext_shift (v w : FVec Ideal S2176x128 .f32) (s : ℕ) (l : Fin 128)
    (h : ∀ t : Fin 2176, w (ix2 t l) = v (ix2 t l) + if h : t.val + s < 2176 then v (ix2 ⟨t.val + s, h⟩ l) else 0) :
    ext (lane w l) = shift s (ext (lane v l)) := by
  funext t
  rw [shift, ext, ext, ext]
  by_cases ht : t < 2176
  · rw [dif_pos ht, dif_pos ht]
    exact h ⟨t, ht⟩
  · rw [dif_neg ht, dif_neg ht, dif_neg (by omega), add_zero]

/-- The rows above a bound, by the words' comparison. -/
theorem select_slt {α : Type} (a b : ℕ) (ha : a < 2176) (hb : b < 2176) (x y : α) :
    Scalar.select (IntOp.cmpi .slt (BitVec.ofNat 32 a) (BitVec.ofNat 32 b)) x y = if a < b then x else y := by
  rw [WordCmp.cmpi_slt_ofNat (by omega) (by omega), WordCmp.select_ofBool]
  simp

/-- The step of 1 row. -/
theorem step_1 (v : FVec Ideal S2176x128 .f32) (l : Fin 128) :
    ext (lane (step 2175#32 v) l) = shift 1 (ext (lane v l)) := by
  refine ext_shift v _ 1 l fun t => ?_
  pointwise [step]
  have ht := t.isLt
  by_cases h : t.val + 1 < 2176
  · rw [dif_pos h, select_slt _ 2175 (by omega) (by omega), if_pos (by omega)]
    refine congrArg (fun r => v (ix2 t l) + v (ix2 r l)) (Fin.ext ?_)
    show (t.val + 2176 - 2175) % 2176 = t.val + 1
    omega
  · rw [dif_neg h, select_slt _ 2175 (by omega) (by omega), if_neg (by omega)]

/-- The step of 2 rows. -/
theorem step_2 (v : FVec Ideal S2176x128 .f32) (l : Fin 128) :
    ext (lane (step 2174#32 v) l) = shift 2 (ext (lane v l)) := by
  refine ext_shift v _ 2 l fun t => ?_
  pointwise [step]
  have ht := t.isLt
  by_cases h : t.val + 2 < 2176
  · rw [dif_pos h, select_slt _ 2174 (by omega) (by omega), if_pos (by omega)]
    refine congrArg (fun r => v (ix2 t l) + v (ix2 r l)) (Fin.ext ?_)
    show (t.val + 2176 - 2174) % 2176 = t.val + 2
    omega
  · rw [dif_neg h, select_slt _ 2174 (by omega) (by omega), if_neg (by omega)]

/-- The step of 4 rows. -/
theorem step_4 (v : FVec Ideal S2176x128 .f32) (l : Fin 128) :
    ext (lane (step 2172#32 v) l) = shift 4 (ext (lane v l)) := by
  refine ext_shift v _ 4 l fun t => ?_
  pointwise [step]
  have ht := t.isLt
  by_cases h : t.val + 4 < 2176
  · rw [dif_pos h, select_slt _ 2172 (by omega) (by omega), if_pos (by omega)]
    refine congrArg (fun r => v (ix2 t l) + v (ix2 r l)) (Fin.ext ?_)
    show (t.val + 2176 - 2172) % 2176 = t.val + 4
    omega
  · rw [dif_neg h, select_slt _ 2172 (by omega) (by omega), if_neg (by omega)]

/-- The step of 8 rows. -/
theorem step_8 (v : FVec Ideal S2176x128 .f32) (l : Fin 128) :
    ext (lane (step 2168#32 v) l) = shift 8 (ext (lane v l)) := by
  refine ext_shift v _ 8 l fun t => ?_
  pointwise [step]
  have ht := t.isLt
  by_cases h : t.val + 8 < 2176
  · rw [dif_pos h, select_slt _ 2168 (by omega) (by omega), if_pos (by omega)]
    refine congrArg (fun r => v (ix2 t l) + v (ix2 r l)) (Fin.ext ?_)
    show (t.val + 2176 - 2168) % 2176 = t.val + 8
    omega
  · rw [dif_neg h, select_slt _ 2168 (by omega) (by omega), if_neg (by omega)]

/-- The step of 16 rows. -/
theorem step_16 (v : FVec Ideal S2176x128 .f32) (l : Fin 128) :
    ext (lane (step 2160#32 v) l) = shift 16 (ext (lane v l)) := by
  refine ext_shift v _ 16 l fun t => ?_
  pointwise [step]
  have ht := t.isLt
  by_cases h : t.val + 16 < 2176
  · rw [dif_pos h, select_slt _ 2160 (by omega) (by omega), if_pos (by omega)]
    refine congrArg (fun r => v (ix2 t l) + v (ix2 r l)) (Fin.ext ?_)
    show (t.val + 2176 - 2160) % 2176 = t.val + 16
    omega
  · rw [dif_neg h, select_slt _ 2160 (by omega) (by omega), if_neg (by omega)]

/-- The step of 32 rows. -/
theorem step_32 (v : FVec Ideal S2176x128 .f32) (l : Fin 128) :
    ext (lane (step 2144#32 v) l) = shift 32 (ext (lane v l)) := by
  refine ext_shift v _ 32 l fun t => ?_
  pointwise [step]
  have ht := t.isLt
  by_cases h : t.val + 32 < 2176
  · rw [dif_pos h, select_slt _ 2144 (by omega) (by omega), if_pos (by omega)]
    refine congrArg (fun r => v (ix2 t l) + v (ix2 r l)) (Fin.ext ?_)
    show (t.val + 2176 - 2144) % 2176 = t.val + 32
    omega
  · rw [dif_neg h, select_slt _ 2144 (by omega) (by omega), if_neg (by omega)]

/-- The step of 64 rows. -/
theorem step_64 (v : FVec Ideal S2176x128 .f32) (l : Fin 128) :
    ext (lane (step 2112#32 v) l) = shift 64 (ext (lane v l)) := by
  refine ext_shift v _ 64 l fun t => ?_
  pointwise [step]
  have ht := t.isLt
  by_cases h : t.val + 64 < 2176
  · rw [dif_pos h, select_slt _ 2112 (by omega) (by omega), if_pos (by omega)]
    refine congrArg (fun r => v (ix2 t l) + v (ix2 r l)) (Fin.ext ?_)
    show (t.val + 2176 - 2112) % 2176 = t.val + 64
    omega
  · rw [dif_neg h, select_slt _ 2112 (by omega) (by omega), if_neg (by omega)]

/-- The step of 128 rows. -/
theorem step_128 (v : FVec Ideal S2176x128 .f32) (l : Fin 128) :
    ext (lane (step 2048#32 v) l) = shift 128 (ext (lane v l)) := by
  refine ext_shift v _ 128 l fun t => ?_
  pointwise [step]
  have ht := t.isLt
  by_cases h : t.val + 128 < 2176
  · rw [dif_pos h, select_slt _ 2048 (by omega) (by omega), if_pos (by omega)]
    refine congrArg (fun r => v (ix2 t l) + v (ix2 r l)) (Fin.ext ?_)
    show (t.val + 2176 - 2048) % 2176 = t.val + 128
    omega
  · rw [dif_neg h, select_slt _ 2048 (by omega) (by omega), if_neg (by omega)]

/-- The step of 256 rows. -/
theorem step_256 (v : FVec Ideal S2176x128 .f32) (l : Fin 128) :
    ext (lane (step 1920#32 v) l) = shift 256 (ext (lane v l)) := by
  refine ext_shift v _ 256 l fun t => ?_
  pointwise [step]
  have ht := t.isLt
  by_cases h : t.val + 256 < 2176
  · rw [dif_pos h, select_slt _ 1920 (by omega) (by omega), if_pos (by omega)]
    refine congrArg (fun r => v (ix2 t l) + v (ix2 r l)) (Fin.ext ?_)
    show (t.val + 2176 - 1920) % 2176 = t.val + 256
    omega
  · rw [dif_neg h, select_slt _ 1920 (by omega) (by omega), if_neg (by omega)]

/-- The step of 512 rows. -/
theorem step_512 (v : FVec Ideal S2176x128 .f32) (l : Fin 128) :
    ext (lane (step 1664#32 v) l) = shift 512 (ext (lane v l)) := by
  refine ext_shift v _ 512 l fun t => ?_
  pointwise [step]
  have ht := t.isLt
  by_cases h : t.val + 512 < 2176
  · rw [dif_pos h, select_slt _ 1664 (by omega) (by omega), if_pos (by omega)]
    refine congrArg (fun r => v (ix2 t l) + v (ix2 r l)) (Fin.ext ?_)
    show (t.val + 2176 - 1664) % 2176 = t.val + 512
    omega
  · rw [dif_neg h, select_slt _ 1664 (by omega) (by omega), if_neg (by omega)]

/-- The step of 1024 rows. -/
theorem step_1024 (v : FVec Ideal S2176x128 .f32) (l : Fin 128) :
    ext (lane (step 1152#32 v) l) = shift 1024 (ext (lane v l)) := by
  refine ext_shift v _ 1024 l fun t => ?_
  pointwise [step]
  have ht := t.isLt
  by_cases h : t.val + 1024 < 2176
  · rw [dif_pos h, select_slt _ 1152 (by omega) (by omega), if_pos (by omega)]
    refine congrArg (fun r => v (ix2 t l) + v (ix2 r l)) (Fin.ext ?_)
    show (t.val + 2176 - 1152) % 2176 = t.val + 1024
    omega
  · rw [dif_neg h, select_slt _ 1152 (by omega) (by omega), if_neg (by omega)]

/-- The step of 2048 rows. -/
theorem step_2048 (v : FVec Ideal S2176x128 .f32) (l : Fin 128) :
    ext (lane (step 128#32 v) l) = shift 2048 (ext (lane v l)) := by
  refine ext_shift v _ 2048 l fun t => ?_
  pointwise [step]
  have ht := t.isLt
  by_cases h : t.val + 2048 < 2176
  · rw [dif_pos h, select_slt _ 128 (by omega) (by omega), if_pos (by omega)]
    refine congrArg (fun r => v (ix2 t l) + v (ix2 r l)) (Fin.ext ?_)
    show (t.val + 2176 - 128) % 2176 = t.val + 2048
    omega
  · rw [dif_neg h, select_slt _ 128 (by omega) (by omega), if_neg (by omega)]

/-- The rows before the shifts: both gradients on the first eight lanes, zero on the others. -/
def base (v3 : FVec Ideal S1x8x2176 .f32) (v11 : FVec Ideal S2176x128 .f32) : FVec Ideal S2176x128 .f32 :=
  addf (select (cmpi .slt (iota .tc S2176x128 32 [1] iota_S2176x128_d1_w32) (broadcast S2176x128 8#32)) v11
      (broadcast S2176x128 (Scalar.ofBits .f32 0x00000000#32)))
    (transpose S2176x128 [1, 0] (concatenate S128x2176 0 [⟨S8x2176, shapeCast S8x2176 v3 shapeCasts_S1x8x2176_S8x2176⟩,
      ⟨S120x2176, broadcast S120x2176 (Scalar.ofBits .f32 0x00000000#32)⟩] concatenates_S8x2176_S120x2176_S128x2176_d0)
      transposes_S128x2176_p1_0_S2176x128)

/-- On the first eight lanes the rows are the two gradients' sum. -/
theorem base_lane (v3 : FVec Ideal S1x8x2176 .f32) (v11 : FVec Ideal S2176x128 .f32) (l : Fin 8) (t : Fin 2176) :
    base v3 v11 (ix2 t ⟨l.val, by omega⟩) = v11 (ix2 t ⟨l.val, by omega⟩) + v3 (ix3 0 l t) := by
  have hl := l.isLt
  pointwise [base]
  rw [select_slt _ 8 (by omega) (by omega), if_pos hl]

/-- The argument of the sigmoid. -/
def arg (v100 : FVec Ideal S2176x128 .f32) (v101 : FVec Ideal S1x128 .f32) (t : Fin 2176) (l : Fin 128) : EReal :=
  v100 (ix2 t l) + v101 (ix2 0 l)

/-- All steps. -/
def steps (v : FVec Ideal S2176x128 .f32) : FVec Ideal S2176x128 .f32 :=
  step 128#32 (step 1152#32 (step 1664#32 (step 1920#32 (step 2048#32 (step 2112#32 (step 2144#32 (step 2160#32
    (step 2168#32 (step 2172#32 (step 2174#32 (step 2175#32 v)))))))))))

/-- The steps sum all rows from one on. -/
theorem steps_lane (v : FVec Ideal S2176x128 .f32) (t : Fin 2176) (l : Fin 128) :
    steps v (ix2 t l) = tail (lane v l) t.val := by
  have h : ext (lane (steps v) l) = fun t => tail (lane v l) t := by
    rw [steps, step_2048, step_1024, step_512, step_256, step_128, step_64, step_32, step_16, step_8, step_4, step_2,
      step_1, shifts]
    rfl
  have h' := congrFun h t.val
  rwa [ext, dif_pos t.isLt] at h'

/-- The steps of the three parts of the program, then the product with the sigmoid's value. -/
theorem pay7_eq (v3 : FVec Ideal S1x8x2176 .f32) (v11 v100 : FVec Ideal S2176x128 .f32) (v101 : FVec Ideal S1x128 .f32)
    (t : Fin 2176) (l : Fin 128) :
    k0_pay7 (F := Ideal) (k0_pay5 (k0_pay4 v3 v11) (iota .tc S2176x128 32 [0] iota_S2176x128_d0_w32) 2168#32)
        (iota .tc S2176x128 32 [0] iota_S2176x128_d0_w32) (1664#32) v100 v101 (ix2 t l)
      = dx (tail (lane (base v3 v11) l) t.val) (arg v100 v101 t l) := by
  rw [← steps_lane]
  change mulf (steps (base v3 v11)) _ (ix2 t l) = _
  generalize steps (base v3 v11) = S
  pointwise [dx, sgm, arg, zero_sub]

/-- The gradient at a row and a lane: zero on the padded rows and on the lanes past the eighth. -/
def dfg (x0 : FVec Ideal S2176x128 .f32) (x1 : FVec Ideal S1x8x2176 .f32) (x2 : FVec Ideal S2176x128 .f32)
    (x3 : FVec Ideal S1x128 .f32) (t : Fin 2176) (l : Fin 128) : EReal :=
  if h : 112 ≤ t.val ∧ l.val < 8 then
    dx (tail (fun r => x0 (ix2 r l) + x1 (ix3 0 ⟨l.val, h.2⟩ r)) t.val) (arg x2 x3 t l)
  else 0

/-- The masked product is that gradient. -/
theorem pay1_eq (x0 : FVec Ideal S2176x128 .f32) (x1 : FVec Ideal S1x8x2176 .f32) (x2 : FVec Ideal S2176x128 .f32)
    (x3 : FVec Ideal S1x128 .f32) (t : Fin 2176) (l : Fin 128) :
    k0_pay1 (F := Ideal)
      (k0_pay6 (iota Kind.tc S2176x128 32 [0] iota_S2176x128_d0_w32) (iota Kind.tc S2176x128 32 [1] iota_S2176x128_d1_w32))
      (k0_pay7 (k0_pay5 (k0_pay4 x1 x0) (iota Kind.tc S2176x128 32 [0] iota_S2176x128_d0_w32) 2168#32)
        (iota Kind.tc S2176x128 32 [0] iota_S2176x128_d0_w32) (1664#32) x2 x3)
      k0_pay8 (ix2 t l) = dfg x0 x1 x2 x3 t l := by
  have e := pay7_eq x1 x0 x2 x3 t l
  revert e
  generalize k0_pay7 (F := Ideal) _ _ _ _ _ = P
  intro e
  pointwise [k0_pay1, k0_pay6, k0_pay8]
  rw [WordCmp.cmpi_sge_ofNat (a := t.val) (b := 112) (by omega) (by omega),
    WordCmp.cmpi_slt_ofNat (a := l.val) (b := 8) (by omega) (by omega), WordCmp.andi_ofBool, WordCmp.select_ofBool, e, dfg]
  by_cases h : 112 ≤ t.val ∧ l.val < 8
  · rw [dif_pos h, if_pos (by simp [h])]
    exact congrArg (fun f => dx (tail f t.val) (arg x2 x3 t l)) (funext fun r => base_lane x1 x0 ⟨l.val, h.2⟩ r)
  · rw [dif_neg h, if_neg (by simpa using h)]

section Body

variable (c : Dev nD) (i : grid0.Coords) (a1 : Memref sig .tc .vmem S2176x128 .f32) (h1 : a1.IsWhole)
  (a2 : Memref sig .tc .vmem S1x8x2176 .f32) (h2 : a2.IsWhole) (a3 : Memref sig .tc .vmem S2176x128 .f32) (h3 : a3.IsWhole)
  (a4 : Memref sig .tc .vmem S1x128 .f32) (h4 : a4.IsWhole) (a5 : Memref sig .tc .vmem S2176x128 .f32) (h5 : a5.IsWhole)
  (a6 : Memref sig .tc .vmem S1x128 .f32) (h6 : a6.IsWhole)
  (x0 : Vec Ideal S2176x128 .f32) (x1 : Vec Ideal S1x8x2176 .f32) (x2 : Vec Ideal S2176x128 .f32) (x3 : Vec Ideal S1x128 .f32)
  (xo : Vec Ideal S1x128 .f32)

/-- The block of rows, at a first point. -/
theorem out_A (hc0 : cond0_0 i) (j : S2176x128.Idx) :
    out0_A_4 (F := Ideal) c i a1 h1 a2 h2 a3 h3 a4 h4 a5 h5 a6 h6 hc0 x0 x1 x2 x3 j = dfg x0 x1 x2 x3 (j 0) (j 1) := by
  frame_out
  idx_vars j
  exact pay1_eq x0 x1 x2 x3 _ _

/-- The block of rows, at the others. -/
theorem out_B (hc0 : ¬cond0_0 i) (j : S2176x128.Idx) :
    out0_B_4 (F := Ideal) c i a1 h1 a2 h2 a3 h3 a4 h4 a5 h5 a6 h6 hc0 x0 x1 x2 x3 xo j = dfg x0 x1 x2 x3 (j 0) (j 1) := by
  frame_out
  idx_vars j
  exact pay1_eq x0 x1 x2 x3 _ _

/-- The sum over the block's rows, added to what stood there. -/
theorem pay2_eq (j : S1x128.Idx) (y : FVec Ideal S1x128 .f32) :
    k0_pay2 (F := Ideal)
      (k0_pay6 (iota Kind.tc S2176x128 32 [0] iota_S2176x128_d0_w32) (iota Kind.tc S2176x128 32 [1] iota_S2176x128_d1_w32))
      (k0_pay7 (k0_pay5 (k0_pay4 x1 x0) (iota Kind.tc S2176x128 32 [0] iota_S2176x128_d0_w32) 2168#32)
        (iota Kind.tc S2176x128 32 [0] iota_S2176x128_d0_w32) (1664#32) x2 x3)
      k0_pay8 y j = y j + ∑ r : Fin 2176, dfg x0 x1 x2 x3 r (j 1) := by
  have e := pay1_eq x0 x1 x2 x3
  unfold k0_pay2
  revert e
  generalize k0_pay1 (F := Ideal) _ _ _ = P
  intro e
  idx_vars j
  simp only [← e]
  pointwise []

/-- The bias's gradient, at a first point. -/
theorem b_A (hc0 : cond0_0 i) (j : S1x128.Idx) :
    out0_A_5 (F := Ideal) c i a1 h1 a2 h2 a3 h3 a4 h4 a5 h5 a6 h6 hc0 x0 x1 x2 x3 j
      = 0 + ∑ r : Fin 2176, dfg x0 x1 x2 x3 r (j 1) := by
  frame_out
  rw [pay2_eq]
  congr 1
  idx_vars j
  pointwise [k0_pay3]

/-- The bias's gradient, at the others. -/
theorem b_B (hc0 : ¬cond0_0 i) (j : S1x128.Idx) :
    out0_B_5 (F := Ideal) c i a1 h1 a2 h2 a3 h3 a4 h4 a5 h5 a6 h6 hc0 x0 x1 x2 x3 xo j
      = xo j + ∑ r : Fin 2176, dfg x0 x1 x2 x3 r (j 1) := by
  frame_out
  rw [pay2_eq]

end Body

end Cert.FgateIdeal.Hand
-- ==== Proof.FgateValue.lean ====
/-
  What the kernel of the gradient through the gate leaves in its two result arrays.
-/
module

public import proofs.«01_k».proof.Proof.FgateBlock

@[expose] public section

set_option maxRecDepth 16384

noncomputable section

namespace Cert.FgateIdeal.Hand

open Cert.FgateIdeal Cert.FgateIdeal.Gen Idealize.ShloMosaic Idealize.ShloMosaic.TcCoe Idealize.SL.Sem
open Idealize.ShloMosaic.Pipeline (Dat)
open Cert.FgateMath

variable (m : (ℓ : Loc nD τ sig) → Buf (Elt Ideal) ℓ) (c : Dev nD)

/-- The keys' gradient of the running sums. -/
abbrev arg0 : Vec Ideal S8704x128 .f32 := m ((c.tc : Thread nD τ).loc main_arg0)
/-- The queries' gradient of the running sums, heads first. -/
abbrev arg1 : Vec Ideal S4x8x2176 .f32 := m ((c.tc : Thread nD τ).loc main_arg1)
/-- The gate's rows. -/
abbrev arg2 : Vec Ideal S8704x128 .f32 := m ((c.tc : Thread nD τ).loc main_arg2)
/-- The gate's bias. -/
abbrev arg3 : Vec Ideal S1x8 .f32 := m ((c.tc : Thread nD τ).loc main_arg3)

/-- The gradient at sequence `n`, row `t`, lane `l`. -/
def grad (n : Fin 4) (t : Fin 2176) (l : Fin 128) : EReal :=
  if h : 112 ≤ t.val ∧ l.val < 8 then
    dx (tail (fun r : Fin 2176 => arg0 m c (ix2 ⟨n.val * 2176 + r.val, by omega⟩ l) + arg1 m c (ix3 n ⟨l.val, h.2⟩ r)) t.val)
      (arg2 m c (ix2 ⟨n.val * 2176 + t.val, by omega⟩ l) + arg3 m c (ix2 0 ⟨l.val, h.2⟩))
  else 0

/-- The first result. -/
def out : S8704x128.Idx → EReal := fun j =>
  grad m c ⟨(j 0).val / 2176, Nat.div_lt_of_lt_mul (j 0).isLt⟩ ⟨(j 0).val % 2176, Nat.mod_lt _ (by norm_num)⟩ (j 1)

/-- The first result at a sequence's row. -/
theorem out_at (n : Fin 4) (t : Fin 2176) (l : Fin 128) :
    out m c (ix2 ⟨n.val * 2176 + t.val, by omega⟩ l) = grad m c n t l := by
  have e0 : (n.val * 2176 + t.val) / 2176 = n.val := by omega
  have e1 : (n.val * 2176 + t.val) % 2176 = t.val := by omega
  show grad m c ⟨(n.val * 2176 + t.val) / 2176, _⟩ ⟨(n.val * 2176 + t.val) % 2176, _⟩ l = _
  simp only [e0, e1]

/-- The second result, the bias's gradient. -/
def bias : S1x128.Idx → EReal := fun j => ∑ n : Fin 4, ∑ t : Fin 2176, grad m c n t (j 1)

/-- Which blocks a point reads and writes. -/
theorem idx : ∀ t : Fin cfg0.N, win0_0.index t = ![t.val, 0] ∧ win0_1.index t = ![t.val, 0, 0] ∧ win0_2.index t = ![t.val, 0]
    ∧ win0_3.index t = ![0, 0] ∧ win0_4.index t = ![t.val, 0] ∧ win0_5.index t = ![0, 0] :=
  (by decide +kernel : ∀ t : Fin grid0.N, _)

/-- The bias as the blocks read it: padded to all lanes. -/
theorem bias_lane (l : Fin 128) (h : l.val < 8) :
    (V m c main_v0 : Vec Ideal S1x128 .f32) (ix2 0 l) = arg3 m c (ix2 0 ⟨l.val, h⟩) := by
  have e : (V m c main_v0 : Vec Ideal S1x128 .f32)
      = pad S1x128 ![0, 0] ![0, 120] ![0, 0] (arg3 m c) (sitofp (F := Ideal) .f32 (constantI S_ 32 0#32)) pads_S1x8_S1x128_000_01200 h_S_ := by
    rfl
  rw [e]
  pointwise []
  rw [dif_pos h]

/-- A point's block of gradients. -/
abbrev blk (t : Fin cfg0.N) (r : Fin 2176) (l : Fin 128) : EReal :=
  dfg (iblk m c 0 t) (iblk m c 1 t) (iblk m c 2 t) (iblk m c 3 t) r l

/-- A point's block holds its sequence's gradients. -/
theorem blk_eq (t : Fin cfg0.N) (n : Fin 4) (hn : n.val = t.val) (r : Fin 2176) (l : Fin 128) :
    blk m c t r l = grad m c n r l := by
  rw [blk, dfg, grad]
  by_cases h : 112 ≤ r.val ∧ l.val < 8
  · rw [dif_pos h, dif_pos h]
    rw [← bias_lane]
    simp only [arg]
    blk_point [iblk, idx t]
  · rw [dif_neg h, dif_neg h]

/-- The first array, point by point. -/
theorem out_eq : (dats m 0 c).arrAt 4 cfg0.N = out m c := by
  refine (dats m 0 c).arrAt_eq_of_covers 4 _ (by decide +kernel) fun t hf y => ?_
  blk_simp
  rw [after0_4]
  have hN : cfg0.N = 4 := N_0
  have hlt : t.val < 4 := lt_of_lt_of_eq t.isLt N_0
  have e : (outsAt0 m c t.val t.isLt).1 y = blk m c t (y 0) (y 1) := by
    by_cases h0 : t.val % 4 = 0
    · rw [outsAt0_A m c t h0]
      dsimp only
      rw [out_A]
    · rw [outsAt0_B m c t h0]
      dsimp only
      rw [out_B]
  refine e.trans ((blk_eq m c t ⟨t.val, by omega⟩ rfl (y 0) (y 1)).trans ?_)
  refine (out_at m c ⟨t.val, hlt⟩ (y 0) (y 1)).symm.trans (congrArg (out m c) ?_)
  blk_ext [idx t]

/-- The first point leaves its block's part. -/
theorem bias_first (t : Fin cfg0.N) (h0 : t.val % 4 = 0) (j : S1x128.Idx) :
    (outsAt0 m c t.val t.isLt).2 j = 0 + ∑ r : Fin 2176, blk m c t r (j 1) := by
  rw [outsAt0_A m c t h0]
  dsimp only
  rw [b_A]

/-- The others add theirs. -/
theorem bias_next (t : Fin cfg0.N) (h0 : ¬t.val % 4 = 0) (j : S1x128.Idx) :
    (outsAt0 m c t.val t.isLt).2 j
      = (outsAt0 m c (t.val - 1) (Nat.lt_of_le_of_lt (Nat.sub_le _ _) t.isLt)).2 j + ∑ r : Fin 2176, blk m c t r (j 1) := by
  rw [outsAt0_B m c t h0]
  dsimp only
  rw [b_B]

/-- After the last point all parts are summed. -/
theorem bias_last (t : Fin cfg0.N) (ht : t.val + 1 = cfg0.N) (j : S1x128.Idx) :
    (outsAt0 m c t.val t.isLt).2 j = bias m c j := by
  refine (Pipeline.eq_sum_fin_of_reset_step_apply_last (fun n h => (outsAt0 m c n h).2) 4 (fun _ => (0 : EReal))
    (fun t j => ∑ r : Fin 2176, blk m c t r (j 1)) (bias_first m c) (bias_next m c) (le_of_eq N_0) t ht j).trans ?_
  rw [zero_add, bias]
  exact Fintype.sum_equiv (finCongr N_0) _ _ fun t => Finset.sum_congr rfl fun r _ => blk_eq m c t _ rfl r (j 1)

/-- The second array. -/
theorem bias_eq : (dats m 0 c).arrAt 5 cfg0.N = bias m c := by
  refine (dats m 0 c).arrAt_eq_of_covers 5 _ (by decide +kernel) fun t hf y => ?_
  blk_simp
  rw [after0_5]
  have h16 := (flush0_5 t).mp hf
  have hN : cfg0.N = 4 := N_0
  have hlt := t.isLt
  refine (bias_last m c t (by omega) y).trans (congrArg (bias m c) ?_)
  blk_ext [idx t]

end Cert.FgateIdeal.Hand
-- ==== Proof.FgateRef.lean ====
/-
  The results of the reference of the gradient through the gate.
-/
module

public import proofs.«01_k».proof.Proof.FgateMath
public import proofs.«01_k».proof.Proof.Sums
public import proofs.«01_k».proof.Proof.Gen.FgateReferenceIdeal.Run
public import Idealize.ShloMosaic.Lib.Pipeline.ValueKit
public import Idealize.ShloMosaic.Lib.Pointwise

@[expose] public section

set_option maxRecDepth 16384

noncomputable section

namespace Cert.FgateReferenceIdeal.Hand

open Cert.FgateReferenceIdeal Cert.FgateReferenceIdeal.Gen Idealize.ShloMosaic Idealize.ShloMosaic.TcCoe Idealize.SL.Sem
open Cert.FgateMath Cert.ActMath

/-- The logistic function, as the derivative of the log-sigmoid is printed. -/
theorem logistic (y : FVec Ideal S4x2064x8 .f32) :
    (Host.exp (subf (select (cmpf .oeq y (broadcastInDim S4x2064x8 ![] bcast_S_S4x2064x8 (constant S_ .f32 0x7F800000#32))) (broadcastInDim S4x2064x8 ![] bcast_S_S4x2064x8 (constant S_ .f32 0x00000000#32)) y) (select (cmpf .oeq (select (cmpf .une (subf y (broadcastInDim S4x2064x8 ![] bcast_S_S4x2064x8 (constant S_ .f32 0x00000000#32))) (subf y (broadcastInDim S4x2064x8 ![] bcast_S_S4x2064x8 (constant S_ .f32 0x00000000#32)))) (addf y (broadcastInDim S4x2064x8 ![] bcast_S_S4x2064x8 (constant S_ .f32 0x00000000#32))) (addf (maximumf y (broadcastInDim S4x2064x8 ![] bcast_S_S4x2064x8 (constant S_ .f32 0x00000000#32))) (Host.log1p (Host.exp (Host.negf (Host.absf (subf y (broadcastInDim S4x2064x8 ![] bcast_S_S4x2064x8 (constant S_ .f32 0x00000000#32))))))))) (broadcastInDim S4x2064x8 ![] bcast_S_S4x2064x8 (constant S_ .f32 0x7F800000#32))) (broadcastInDim S4x2064x8 ![] bcast_S_S4x2064x8 (constant S_ .f32 0x00000000#32)) (select (cmpf .une (subf y (broadcastInDim S4x2064x8 ![] bcast_S_S4x2064x8 (constant S_ .f32 0x00000000#32))) (subf y (broadcastInDim S4x2064x8 ![] bcast_S_S4x2064x8 (constant S_ .f32 0x00000000#32)))) (addf y (broadcastInDim S4x2064x8 ![] bcast_S_S4x2064x8 (constant S_ .f32 0x00000000#32))) (addf (maximumf y (broadcastInDim S4x2064x8 ![] bcast_S_S4x2064x8 (constant S_ .f32 0x00000000#32))) (Host.log1p (Host.exp (Host.negf (Host.absf (subf y (broadcastInDim S4x2064x8 ![] bcast_S_S4x2064x8 (constant S_ .f32 0x00000000#32)))))))))))) = fun j => soft (y j) := by
  funext j
  idx_vars j
  pointwise [soft, softMax, Ideal.absf_def]

/-- A row of a sequence, past its padding, among all rows. -/
def rowOf (n : Fin 4) (t : Fin 2064) : Fin 8704 := ⟨n.val * 2176 + (112 + t.val), by omega⟩

/-- A head among all lanes. -/
def laneOf (l : Fin 8) : Fin 128 := ⟨l.val, by omega⟩

/-- A row of a sequence, past its padding. -/
def lowOf (t : Fin 2064) : Fin 2176 := ⟨112 + t.val, by omega⟩

/-- The window's positions by their middle coordinate. -/
def win : Fin 2064 ≃ (⟨3, ![1, 2064, 1]⟩ : Shape).Idx where
  toFun k := ix3 0 k 0
  invFun i := i 1
  left_inv k := rfl
  right_inv i := by
    funext a
    fin_cases a
    · exact Subsingleton.elim (α := Fin 1) _ _
    · rfl
    · exact Subsingleton.elim (α := Fin 1) _ _

/-- The window over all rows from one on. -/
theorem windows (u : FVec Ideal S4x2064x8 .f32) :
    (Host.reduceWindowAdd ![1, 2064, 1] ![1, 1, 1] ![0, 0, 0] ![0, 2063, 0] u (broadcastInDim S_ ![] bcast_S_S_ (constant S_ .f32 0x00000000#32)) reduceWindows_S4x2064x8_S4x2064x8_w1s1p0_0_w2064s1p0_2063_w1s1p0_0 h_S_) = fun j => tail (fun k => u (ix3 (j 0) k (j 2))) (j 1).val := by
  funext j
  idx_vars j
  have hl := j1.isLt
  rw [tail_eq (by norm_num)]
  rw [Host.reduceWindowAdd, Ideal.hostReduceWindowAdd_def, Ideal.hostReduceWindowAdd, Host.reduceWindow]
  dsimp only
  have e0 : (broadcastInDim S_ ![] bcast_S_S_ (constant (F := Ideal) S_ .f32 0x00000000#32)) (Shape.Idx.first h_S_) = (0 : EReal) := by
    pointwise []
  rw [e0]
  refine (foldl_sum _).trans ?_
  refine (Equiv.sum_comp (Shape.rowMajor ⟨3, ![1, 2064, 1]⟩) _).symm.trans ?_
  refine (Fintype.sum_equiv win _ _ fun k => ?_).symm
  simp only [Equiv.symm_apply_apply]
  by_cases h : j1.val + k.val < 2064
  · rw [ext, dif_pos h, dif_pos]
    · refine congrArg u (funext fun a => Fin.ext ?_)
      fin_cases a
      · show j0.val = j0.val * 1 + 0 - 0
        omega
      · show j1.val + k.val = j1.val * 1 + k.val - 0
        omega
      · show j2.val = j2.val * 1 + 0 - 0
        omega
    · intro a
      fin_cases a
      · show 0 ≤ j0.val * 1 + 0 ∧ j0.val * 1 + 0 - 0 < 4
        omega
      · show 0 ≤ j1.val * 1 + k.val ∧ j1.val * 1 + k.val - 0 < 2064
        omega
      · show 0 ≤ j2.val * 1 + 0 ∧ j2.val * 1 + 0 - 0 < 8
        omega
  · rw [ext, dif_neg h, dif_neg]
    intro hin
    have h1 : j1.val * 1 + k.val - 0 < 2064 := (hin 1).2
    omega

/-- The rows summed. -/
theorem rows (x0 : FVec Ideal S8704x128 .f32) (x1 : FVec Ideal S4x8x2176 .f32) :
    ((addf (extractStridedSlice S4x2064x8 ![0, 112, 0] (shapeCast S4x2176x128 x0 shapeCasts_S8704x128_S4x2176x128) slices_S4x2176x128_S4x2064x8_0_112_0) (transpose S4x2064x8 [0, 2, 1] (extractStridedSlice S4x8x2064 ![0, 0, 112] x1 slices_S4x8x2176_S4x8x2064_0_0_112) transposes_S4x8x2064_S4x2064x8_0_2_1))  : FVec Ideal S4x2064x8 .f32)
      = fun j => x0 (ix2 (rowOf (j 0) (j 1)) (laneOf (j 2)))
        + x1 (ix3 (j 0) (j 2) (lowOf (j 1))) := by
  funext j
  idx_vars j
  pointwise [rowOf, laneOf, lowOf]

/-- The argument of the log-sigmoid. -/
theorem args (x2 : FVec Ideal S8704x128 .f32) (x3 : FVec Ideal S1x8 .f32) :
    ((addf (extractStridedSlice S4x2064x8 ![0, 112, 0] (shapeCast S4x2176x128 x2 shapeCasts_S8704x128_S4x2176x128) slices_S4x2176x128_S4x2064x8_0_112_0) (broadcastInDim S4x2064x8 ![0, 1, 2] bcast_S1x1x8_S4x2064x8_0_1_2 (broadcastInDim S1x1x8 ![2] bcast_S8_S1x1x8_2 (shapeCast S8 x3 shapeCasts_S1x8_S8)))) : FVec Ideal S4x2064x8 .f32)
      = fun j => x2 (ix2 (rowOf (j 0) (j 1)) (laneOf (j 2))) + x3 (ix2 0 (j 2)) := by
  funext j
  idx_vars j
  pointwise [rowOf, laneOf, lowOf]

/-- The word zero as a number. -/
theorem zero_word : (FloatOps.sitofp .f32 0#32 : Ideal .f32) = (0 : EReal) := by
  show (((0#32 : BitVec 32).toInt : ℝ) : EReal) = 0
  simp

/-- The gradient put back into the padded rows and lanes. -/
theorem padded (g : FVec Ideal S4x2064x8 .f32) (n : Fin 4) (t : Fin 2176) (l : Fin 128) :
    shapeCast S8704x128 (pad S4x2176x128 ![0, 112, 0] ![0, 0, 120] ![0, 0, 0] g (sitofp (F := Ideal) .f32 (constantI S_ 32 0#32))
      pads_S4x2064x8_S4x2176x128_000_11200_01200 h_S_) shapeCasts_S4x2176x128_S8704x128 (ix2 ⟨n.val * 2176 + t.val, by omega⟩ l)
    = if h : 112 ≤ t.val ∧ l.val < 8 then g (ix3 n ⟨t.val - 112, by omega⟩ ⟨l.val, h.2⟩) else 0 := by
  have hn := n.isLt
  have ht := t.isLt
  pointwise []
  by_cases h : 112 ≤ t.val ∧ l.val < 8
  · rw [dif_pos h, dif_pos ⟨⟨h.1, by omega⟩, h.2⟩]
  · rw [dif_neg h, dif_neg fun h' => h ⟨h'.1.1, h'.2⟩]
    exact zero_word

/-- The gradient summed over rows and sequences, one sum per head, padded to all lanes. -/
theorem summed (g : FVec Ideal S4x2064x8 .f32) (l : Fin 128) :
    shapeCast S1x128 (pad S128 ![0] ![120] ![0] (Host.reduceAdd (shapeCast S1x1x8 (Host.reduceAdd g
      (constant S_ .f32 0x00000000#32) reducesTo_S4x2064x8_S8_d0_1 h_S_) shapeCasts_S8_S1x1x8) (constant S_ .f32 0x00000000#32)
      reducesTo_S1x1x8_S8_d0_1 h_S_) (sitofp (F := Ideal) .f32 (constantI S_ 32 0#32)) pads_S8_S128_01200 h_S_)
      shapeCasts_S128_S1x128 (ix2 0 l)
    = if h : l.val < 8 then ∑ n : Fin 4, ∑ t : Fin 2064, g (ix3 n t ⟨l.val, h⟩) else 0 := by
  pointwise []
  by_cases h : l.val < 8
  · rw [dif_pos h, dif_pos h, Sums.two_axes, zero_add]
    pointwise []
    rw [Sums.two_axes, zero_add, Fin.sum_univ_one, Fin.sum_univ_one]
  · rw [dif_neg h, dif_neg h]
    exact zero_word

section Results

variable (m : (ℓ : Loc nD τ sig) → Buf (Elt Ideal) ℓ) (c : Dev nD)

/-- The keys' gradient of the running sums. -/
abbrev arg0 : Vec Ideal S8704x128 .f32 := m ((c.tc : Thread nD τ).loc main_arg0)
/-- The queries' gradient of the running sums, heads first. -/
abbrev arg1 : Vec Ideal S4x8x2176 .f32 := m ((c.tc : Thread nD τ).loc main_arg1)
/-- The gate's rows. -/
abbrev arg2 : Vec Ideal S8704x128 .f32 := m ((c.tc : Thread nD τ).loc main_arg2)
/-- The gate's bias. -/
abbrev arg3 : Vec Ideal S1x8 .f32 := m ((c.tc : Thread nD τ).loc main_arg3)

/-- The gradient before it is padded, row by row. -/
def core (n : Fin 4) (t : Fin 2064) (l : Fin 8) : EReal :=
  dx (tail (fun k => arg0 m c (ix2 (rowOf n k) (laneOf l)) + arg1 m c (ix3 n l (lowOf k))) t.val)
    (arg2 m c (ix2 (rowOf n t) (laneOf l)) + arg3 m c (ix2 0 l))

/-- The first result at a row of a sequence. -/
theorem out_ref (n : Fin 4) (t : Fin 2176) (l : Fin 128) :
    (Value.res_main_v19 m c : Vec Ideal S8704x128 .f32) (ix2 ⟨n.val * 2176 + t.val, by omega⟩ l)
      = if h : 112 ≤ t.val ∧ l.val < 8 then core m c n ⟨t.val - 112, by omega⟩ ⟨l.val, h.2⟩ else 0 := by
  unfold Value.res_main_v19
  rw [logistic, windows]
  refine (padded _ n t l).trans ?_
  by_cases h : 112 ≤ t.val ∧ l.val < 8
  · rw [dif_pos h, dif_pos h]
    rw [rows, args]
    exact neg_dx _ _
  · rw [dif_neg h, dif_neg h]

/-- The second result. -/
theorem bias_ref (l : Fin 128) :
    (Value.res_main_v21 m c : Vec Ideal S1x128 .f32) (ix2 0 l)
      = if h : l.val < 8 then ∑ n : Fin 4, ∑ t : Fin 2064, core m c n t ⟨l.val, h⟩ else 0 := by
  unfold Value.res_main_v21
  rw [logistic, windows]
  refine (summed _ l).trans ?_
  by_cases h : l.val < 8
  · rw [dif_pos h, dif_pos h]
    rw [rows, args]
    exact Finset.sum_congr rfl fun n _ => Finset.sum_congr rfl fun t _ => neg_dx _ _
  · rw [dif_neg h, dif_neg h]

end Results

end Cert.FgateReferenceIdeal.Hand
-- ==== Proof.Fgate.lean ====
/-
  The gradient through the forget gate's running sum and its log-sigmoid: the kernel's and the reference's are one.
-/
module

public import proofs.«01_k».proof.Defs
public import proofs.«01_k».proof.Proof.FgateValue
public import proofs.«01_k».proof.Proof.FgateRef

@[expose] public section

set_option maxRecDepth 16384

noncomputable section

namespace Cert.FgateClaim

open Cert.FgateMath Idealize.ShloMosaic Idealize.ShloMosaic.TcCoe Idealize.SL.Sem
open Cert.FgateReferenceIdeal (nD τ sig main_arg0 main_arg1 main_arg2 main_arg3)
open Cert.FgateReferenceIdeal.Hand (core rowOf laneOf lowOf)

variable (m : (ℓ : Loc Cert.FgateIdeal.nD Cert.FgateIdeal.τ Cert.FgateIdeal.sig) → Buf (Elt Ideal) ℓ)
  (m' : (ℓ : Loc nD τ sig) → Buf (Elt Ideal) ℓ) (c : Dev nD)

/-- The two programs are given the same arguments. -/
def Same : Prop :=
  (Cert.FgateReferenceIdeal.Hand.arg0 m' c : FVec Ideal Cert.FgateIdeal.S8704x128 .f32) = Cert.FgateIdeal.Hand.arg0 m c
    ∧ (Cert.FgateReferenceIdeal.Hand.arg1 m' c : FVec Ideal Cert.FgateIdeal.S4x8x2176 .f32) = Cert.FgateIdeal.Hand.arg1 m c
    ∧ (Cert.FgateReferenceIdeal.Hand.arg2 m' c : FVec Ideal Cert.FgateIdeal.S8704x128 .f32) = Cert.FgateIdeal.Hand.arg2 m c
    ∧ (Cert.FgateReferenceIdeal.Hand.arg3 m' c : FVec Ideal Cert.FgateIdeal.S1x8 .f32) = Cert.FgateIdeal.Hand.arg3 m c

/-- At a row past the padding and a lane of a head, the kernel's gradient is the reference's. -/
theorem grad_core (hs : Same m m' c) (n : Fin 4) (t : Fin 2064) (l : Fin 8) :
    Cert.FgateIdeal.Hand.grad m c n ⟨112 + t.val, by omega⟩ ⟨l.val, by omega⟩ = core m' c n t l := by
  obtain ⟨h0, h1, h2, h3⟩ := hs
  have hl := l.isLt
  rw [Cert.FgateIdeal.Hand.grad, dif_pos ⟨Nat.le_add_right _ _, hl⟩, core, h0, h1, h2, h3]
  refine congrArg₂ dx ?_ rfl
  exact tail_drop (p := 112) (n := 2064) (fun r : Fin (112 + 2064) =>
    Cert.FgateIdeal.Hand.arg0 m c (ix2 (⟨n.val * 2176 + r.val, by omega⟩ : Fin 8704) (laneOf l))
      + Cert.FgateIdeal.Hand.arg1 m c (ix3 n l (⟨r.val, r.isLt⟩ : Fin 2176))) t.val

/-- At every row and lane. -/
theorem grad_eq (hs : Same m m' c) (n : Fin 4) (t : Fin 2176) (l : Fin 128) :
    (if h : 112 ≤ t.val ∧ l.val < 8 then core m' c n ⟨t.val - 112, by omega⟩ ⟨l.val, h.2⟩ else 0)
      = Cert.FgateIdeal.Hand.grad m c n t l := by
  by_cases h : 112 ≤ t.val ∧ l.val < 8
  · rw [dif_pos h, ← grad_core m m' c hs]
    refine congrArg (fun r => Cert.FgateIdeal.Hand.grad m c n r l) (Fin.ext ?_)
    show 112 + (t.val - 112) = t.val
    omega
  · rw [dif_neg h, Cert.FgateIdeal.Hand.grad, dif_neg h]

/-- The sums of the gradients. -/
theorem bias_eq (hs : Same m m' c) (l : Fin 128) :
    (if h : l.val < 8 then ∑ n : Fin 4, ∑ t : Fin 2064, core m' c n t ⟨l.val, h⟩ else 0)
      = ∑ n : Fin 4, ∑ t : Fin 2176, Cert.FgateIdeal.Hand.grad m c n t l := by
  by_cases h : l.val < 8
  · rw [dif_pos h]
    refine Finset.sum_congr rfl fun n _ => ?_
    refine Eq.trans ?_ (Fin.sum_univ_add (a := 112) (b := 2064) fun t : Fin (112 + 2064) =>
      Cert.FgateIdeal.Hand.grad m c n t l).symm
    rw [Finset.sum_eq_zero (s := (Finset.univ : Finset (Fin 112))) fun t _ => ?_, zero_add]
    · exact Finset.sum_congr rfl fun t _ => (grad_core m m' c hs n t ⟨l.val, h⟩).symm
    · rw [Cert.FgateIdeal.Hand.grad, dif_neg]
      intro h'
      have h1 : 112 ≤ t.val := h'.1
      omega
  · rw [dif_neg h]
    refine (Finset.sum_eq_zero fun n _ => Finset.sum_eq_zero fun t _ => ?_).symm
    rw [Cert.FgateIdeal.Hand.grad, dif_neg fun h' => h h'.2]

/-- Every row of the array is a row of a sequence. -/
theorem row_split (r : Fin 8704) : ∃ (n : Fin 4) (t : Fin 2176), r = ⟨n.val * 2176 + t.val, by omega⟩ :=
  ⟨⟨r.val / 2176, by omega⟩, ⟨r.val % 2176, by omega⟩, Fin.ext (by
    show r.val = r.val / 2176 * 2176 + r.val % 2176
    omega)⟩

/-- The first results agree. -/
theorem out_all (hs : Same m m' c) :
    (Cert.FgateReferenceIdeal.Value.res_main_v19 m' c : Vec Ideal Cert.FgateIdeal.S8704x128 .f32)
      = Cert.FgateIdeal.Hand.out m c := by
  funext j
  idx_vars j
  obtain ⟨n, t, rfl⟩ := row_split j0
  exact (Cert.FgateReferenceIdeal.Hand.out_ref m' c n t j1).trans ((grad_eq m m' c hs n t j1).trans
    (Cert.FgateIdeal.Hand.out_at m c n t j1).symm)

/-- The second results agree. -/
theorem bias_all (hs : Same m m' c) :
    (Cert.FgateReferenceIdeal.Value.res_main_v21 m' c : Vec Ideal Cert.FgateIdeal.S1x128 .f32)
      = Cert.FgateIdeal.Hand.bias m c := by
  funext j
  idx_vars j
  obtain rfl : j0 = 0 := Subsingleton.elim _ _
  exact (Cert.FgateReferenceIdeal.Hand.bias_ref m' c j1).trans (bias_eq m m' c hs j1)

/-- The two programs end with the same two results. -/
theorem algebraic : Cert.algebraic_FgateIdeal_FgateReferenceIdeal := fun m ρ m' ρ' _ hag =>
  ⟨fun c => Cert.FgateIdeal.Hand.out m c, fun c => Cert.FgateIdeal.Hand.bias m c,
    (θ_run _ _ _).mono (fun _ h c => ⟨(h c).1.trans (Cert.FgateIdeal.Hand.out_eq m c),
      (h c).2.1.trans (Cert.FgateIdeal.Hand.bias_eq m c), (h c).2.2⟩) (Cert.FgateIdeal.Value.run_blocks m ρ),
    (θ_run _ _ _).mono (fun _ h c => ⟨(h c).1.trans (out_all m m' c (hag c)),
      (h c).2.1.trans (bias_all m m' c (hag c)), (h c).2.2⟩) (Cert.FgateReferenceIdeal.Value.run m' ρ')⟩

end Cert.FgateClaim
-- ==== Proof.ActBlock.lean ====
/-
  The gradient through the second feed-forward block's activation, block of 256 rows by block: eleven pieces of 256
  columns, each with its two stores of the hidden gradient and its part of the weights' gradient.
-/
module

public import proofs.«01_k».proof.Proof.Gen.ActIdeal.Value
public import proofs.«01_k».proof.Proof.ActMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ActIdeal.Hand

open Cert.ActIdeal Cert.ActIdeal.Gen Idealize.ShloMosaic Idealize.ShloMosaic.TcCoe Idealize.SL.Sem
open Idealize.ShloMosaic.Pipeline (Dat)
open Cert.ActMath

section Body

variable (c : Dev nD) (i : grid0.Coords) (a1 : Memref sig .tc .vmem S256x1024 .f32) (h1 : a1.IsWhole)
  (a2 : Memref sig .tc .vmem S256x2816 .bf16) (h2 : a2.IsWhole) (a3 : Memref sig .tc .vmem S256x2816 .bf16) (h3 : a3.IsWhole)
  (a4 : Memref sig .tc .vmem S2816x1024 .bf16) (h4 : a4.IsWhole) (a5 : Memref sig .tc .vmem S256x5632 .bf16) (h5 : a5.IsWhole)
  (a6 : Memref sig .tc .vmem S2816x1024 .bf16) (h6 : a6.IsWhole) (a7 : Memref sig .tc .vmem S2816x1024 .f32) (h7 : a7.IsWhole)
  (x0 : Vec Ideal S256x1024 .f32) (x1 : Vec Ideal S256x2816 .bf16) (x2 : Vec Ideal S256x2816 .bf16)
  (x3 : Vec Ideal S2816x1024 .bf16) (xs : Vec Ideal S2816x1024 .f32)

/-- The gradient of the hidden product at row `r`, column `q` of a block. -/
abbrev dblk (r : Fin 256) (q : Fin 2816) : EReal := da (fun k => x0 (ix2 r k)) fun k => x3 (ix2 q k)

/-- A block of the hidden gradient: the gate's columns, then the up projection's. -/
def dguBlk (j : S256x5632.Idx) : EReal :=
  if h : (j 1).val < 2816 then dgate (dblk x0 x3 (j 0) ⟨(j 1).val, h⟩) (x1 (ix2 (j 0) ⟨(j 1).val, h⟩)) (x2 (ix2 (j 0) ⟨(j 1).val, h⟩))
  else dup (dblk x0 x3 (j 0) ⟨(j 1).val - 2816, by have : (j 1).val < 5632 := (j 1).isLt; omega⟩)
    (x1 (ix2 (j 0) ⟨(j 1).val - 2816, by have : (j 1).val < 5632 := (j 1).isLt; omega⟩))

/-- A block's part of the weights' gradient. -/
def wBlk (j : S2816x1024.Idx) : EReal :=
  ∑ r : Fin 256, x1 (ix2 r (j 0)) * sgm (x1 (ix2 r (j 0))) * x2 (ix2 r (j 0)) * (Ideal.ofBits .f32 0x3F000000#32 * x0 (ix2 r (j 1)))

/-- The first point clears the accumulator, then adds its block's product. -/
theorem acc_A (hc0 : cond0_0 i) (hc1 : ¬cond0_1 i) (j : S2816x1024.Idx) :
    sout0_A_0 (F := Ideal) c i a1 h1 a2 h2 a3 h3 a4 h4 a5 h5 a6 h6 a7 h7 hc0 hc1 x0 x1 x2 x3 j
      = 0 + wBlk x0 x1 x2 j := by
  frame_open
  simp (disch := decide) only [↓ View.readCov_skip, ↓ View.readCov_cons_toLoadRect, ↓ View.readCov_fill]
  frame_out
  refine View.canon_append_of_piecesOf (Val := Elt Ideal) (e := .f32) (fun j => 0 + wBlk x0 x1 x2 j) [_]
    [_, _, _, _, _, _, _, _, _, _, _] ⟨?_, ?_, ?_, ?_, ?_, ?_, ?_, ?_, ?_, ?_, ?_, trivial⟩ j
    (View.cover_of_tiledBy _ ![256, 1024] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay5, wBlk, sgm, zero_sub]
    blk_point []

/-- A point between adds its block's product to what the point before left. -/
theorem acc_B (hc0 : ¬cond0_0 i) (hc1 : ¬cond0_1 i) (j : S2816x1024.Idx) :
    sout0_B_0 (F := Ideal) c i a1 h1 a2 h2 a3 h3 a4 h4 a5 h5 a6 h6 a7 h7 hc0 hc1 x0 x1 x2 x3 xs j
      = xs j + wBlk x0 x1 x2 j := by
  frame_out
  refine View.canon_append_of_piecesOf (Val := Elt Ideal) (e := .f32) (fun j => xs j + wBlk x0 x1 x2 j) []
    [_, _, _, _, _, _, _, _, _, _, _] ⟨?_, ?_, ?_, ?_, ?_, ?_, ?_, ?_, ?_, ?_, ?_, trivial⟩ j
    (View.cover_of_tiledBy _ ![256, 1024] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, wBlk, sgm, zero_sub]
    blk_point []

/-- The last point does so too. -/
theorem acc_C (hc0 : ¬cond0_0 i) (hc1 : cond0_1 i) (j : S2816x1024.Idx) :
    sout0_C_0 (F := Ideal) c i a1 h1 a2 h2 a3 h3 a4 h4 a5 h5 a6 h6 a7 h7 hc0 hc1 x0 x1 x2 x3 xs j
      = xs j + wBlk x0 x1 x2 j := by
  frame_out
  refine View.canon_append_of_piecesOf (Val := Elt Ideal) (e := .f32) (fun j => xs j + wBlk x0 x1 x2 j) []
    [_, _, _, _, _, _, _, _, _, _, _] ⟨?_, ?_, ?_, ?_, ?_, ?_, ?_, ?_, ?_, ?_, ?_, trivial⟩ j
    (View.cover_of_tiledBy _ ![256, 1024] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, wBlk, sgm, zero_sub]
    blk_point []

/-- What the first point stores of the hidden gradient. -/
theorem out_A (hc0 : cond0_0 i) (hc1 : ¬cond0_1 i) (j : S256x5632.Idx) :
    out0_A_4 (F := Ideal) c i a1 h1 a2 h2 a3 h3 a4 h4 a5 h5 a6 h6 a7 h7 hc0 hc1 x0 x1 x2 x3 j
      = dguBlk x0 x1 x2 x3 j := by
  frame_out
  refine View.canon_append_of_piecesOf (Val := Elt Ideal) (e := .bf16) (dguBlk x0 x1 x2 x3) []
    [_, _, _, _, _, _, _, _, _, _, _, _, _, _, _, _, _, _, _, _, _, _]
    ⟨?_, ?_, ?_, ?_, ?_, ?_, ?_, ?_, ?_, ?_, ?_, ?_, ?_, ?_, ?_, ?_, ?_, ?_, ?_, ?_, ?_, ?_, trivial⟩ j
    (View.cover_of_tiledBy _ ![256, 256] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, dguBlk, dgate, dup, da, sgm, zero_sub]
    blk_simp
    first
    | rw [dif_pos (by omega)]
    | rw [dif_neg (by omega)]
    blk_point []

/-- What a point between stores. -/
theorem out_B (hc0 : ¬cond0_0 i) (hc1 : ¬cond0_1 i) (j : S256x5632.Idx) :
    out0_B_4 (F := Ideal) c i a1 h1 a2 h2 a3 h3 a4 h4 a5 h5 a6 h6 a7 h7 hc0 hc1 x0 x1 x2 x3 xs j
      = dguBlk x0 x1 x2 x3 j := by
  frame_out
  refine View.canon_append_of_piecesOf (Val := Elt Ideal) (e := .bf16) (dguBlk x0 x1 x2 x3) []
    [_, _, _, _, _, _, _, _, _, _, _, _, _, _, _, _, _, _, _, _, _, _]
    ⟨?_, ?_, ?_, ?_, ?_, ?_, ?_, ?_, ?_, ?_, ?_, ?_, ?_, ?_, ?_, ?_, ?_, ?_, ?_, ?_, ?_, ?_, trivial⟩ j
    (View.cover_of_tiledBy _ ![256, 256] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, dguBlk, dgate, dup, da, sgm, zero_sub]
    blk_simp
    first
    | rw [dif_pos (by omega)]
    | rw [dif_neg (by omega)]
    blk_point []

/-- What the last point stores. -/
theorem out_C (hc0 : ¬cond0_0 i) (hc1 : cond0_1 i) (j : S256x5632.Idx) :
    out0_C_4 (F := Ideal) c i a1 h1 a2 h2 a3 h3 a4 h4 a5 h5 a6 h6 a7 h7 hc0 hc1 x0 x1 x2 x3 xs j
      = dguBlk x0 x1 x2 x3 j := by
  frame_out
  refine View.canon_append_of_piecesOf (Val := Elt Ideal) (e := .bf16) (dguBlk x0 x1 x2 x3) []
    [_, _, _, _, _, _, _, _, _, _, _, _, _, _, _, _, _, _, _, _, _, _]
    ⟨?_, ?_, ?_, ?_, ?_, ?_, ?_, ?_, ?_, ?_, ?_, ?_, ?_, ?_, ?_, ?_, ?_, ?_, ?_, ?_, ?_, ?_, trivial⟩ j
    (View.cover_of_tiledBy _ ![256, 256] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, dguBlk, dgate, dup, da, sgm, zero_sub]
    blk_simp
    first
    | rw [dif_pos (by omega)]
    | rw [dif_neg (by omega)]
    blk_point []

/-- What the last point writes out is the accumulator it leaves. -/
theorem w_C (hc0 : ¬cond0_0 i) (hc1 : cond0_1 i) (j : S2816x1024.Idx) :
    out0_C_5 (F := Ideal) c i a1 h1 a2 h2 a3 h3 a4 h4 a5 h5 a6 h6 a7 h7 hc0 hc1 x0 x1 x2 x3 xs j
      = xs j + wBlk x0 x1 x2 j := by
  rw [← acc_C c i a1 h1 a2 h2 a3 h3 a4 h4 a5 h5 a6 h6 a7 h7 x0 x1 x2 x3 xs hc0 hc1 j]
  frame_out
  unfold k0_pay4
  rw [View.readCov_eq_canon']
  generalize (View.canon (Val := Elt Ideal) (s := S2816x1024) (e := .f32) _ : Vec Ideal S2816x1024 .f32) = Z
  pointwise []

end Body

end Cert.ActIdeal.Hand
-- ==== Proof.ActValue.lean ====
/-
  What the kernel of the gradient through the activation leaves in its two result arrays.
-/
module

public import proofs.«01_k».proof.Proof.ActBlock

@[expose] public section

set_option maxRecDepth 16384

noncomputable section

namespace Cert.ActIdeal.Hand

open Cert.ActIdeal Cert.ActIdeal.Gen Idealize.ShloMosaic Idealize.ShloMosaic.TcCoe Idealize.SL.Sem
open Idealize.ShloMosaic.Pipeline (Dat)
open Cert.ActMath

variable (m : (ℓ : Loc nD τ sig) → Buf (Elt Ideal) ℓ) (c : Dev nD)

/-- The gradient that comes in. -/
abbrev arg0 : Vec Ideal S8704x1024 .f32 := m ((c.tc : Thread nD τ).loc main_arg0)
/-- The gate. -/
abbrev arg1 : Vec Ideal S8704x2816 .bf16 := m ((c.tc : Thread nD τ).loc main_arg1)
/-- The up projection. -/
abbrev arg2 : Vec Ideal S8704x2816 .bf16 := m ((c.tc : Thread nD τ).loc main_arg2)
/-- The output weights. -/
abbrev arg3 : Vec Ideal S2816x1024 .bf16 := m ((c.tc : Thread nD τ).loc main_arg3)

/-- The gradient of the hidden product at row `r`, column `q`. -/
abbrev hid (r : Fin 8704) (q : Fin 2816) : EReal := da (fun k => arg0 m c (ix2 r k)) fun k => arg3 m c (ix2 q k)

/-- The hidden gradient: the gate's columns, then the up projection's. -/
def dgu (j : S8704x5632.Idx) : EReal :=
  if h : (j 1).val < 2816 then
    dgate (hid m c (j 0) ⟨(j 1).val, h⟩) (arg1 m c (ix2 (j 0) ⟨(j 1).val, h⟩)) (arg2 m c (ix2 (j 0) ⟨(j 1).val, h⟩))
  else dup (hid m c (j 0) ⟨(j 1).val - 2816, by have : (j 1).val < 5632 := (j 1).isLt; omega⟩)
    (arg1 m c (ix2 (j 0) ⟨(j 1).val - 2816, by have : (j 1).val < 5632 := (j 1).isLt; omega⟩))

/-- The gradient of the output weights. -/
def dw (j : S2816x1024.Idx) : EReal :=
  ∑ r : Fin 8704, arg1 m c (ix2 r (j 0)) * sgm (arg1 m c (ix2 r (j 0))) * arg2 m c (ix2 r (j 0))
    * (Ideal.ofBits .f32 0x3F000000#32 * arg0 m c (ix2 r (j 1)))

/-- Which blocks a point reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- Every point stores its block of the hidden gradient. -/
theorem out_pt (t : Fin cfg0.N) : (outsAt0 m c t.val t.isLt).1 = dguBlk (iblk m c 0 t) (iblk m c 1 t) (iblk m c 2 t) (iblk m c 3 t) := by
  funext y
  by_cases h0 : t.val % 34 = 0
  · rw [outsAt0_A m c t h0 (by omega)]
    dsimp only
    rw [out_A]
  · by_cases h1 : t.val % 34 = 33
    · rw [outsAt0_C m c t h0 h1]
      dsimp only
      rw [out_C]
    · rw [outsAt0_B m c t h0 h1]
      dsimp only
      rw [out_B]

/-- The first array. -/
theorem dgu_eq : (dats m 0 c).arrAt 4 cfg0.N = dgu m c := by
  refine (dats m 0 c).arrAt_eq_of_covers 4 _ (by decide +kernel) fun t hf y => ?_
  blk_simp
  rw [after0_4, out_pt]
  simp only [dguBlk, dgu, dblk, hid]
  have e : (((cfg0.win 4).blk t).view.emb y 1).val = (y 1).val := by
    blk_simp
    blk_point [idx t]
  by_cases h : (y 1).val < 2816
  · rw [dif_pos h, dif_pos (by rw [e]; exact h)]
    blk_point [iblk, V, idx t]
  · rw [dif_neg h, dif_neg (by rw [e]; exact h)]
    blk_point [iblk, V, idx t]

/-- The first point leaves its block's part of the weights' gradient. -/
theorem w_first (t : Fin cfg0.N) (h0 : t.val % 34 = 0) (j : S2816x1024.Idx) :
    (outsAt0 m c t.val t.isLt).2.2 j = 0 + wBlk (iblk m c 0 t) (iblk m c 1 t) (iblk m c 2 t) j := by
  rw [outsAt0_A m c t h0 (by omega)]
  dsimp only
  rw [acc_A]

/-- The others add theirs. -/
theorem w_next (t : Fin cfg0.N) (h0 : ¬t.val % 34 = 0) (j : S2816x1024.Idx) :
    (outsAt0 m c t.val t.isLt).2.2 j
      = (outsAt0 m c (t.val - 1) (Nat.lt_of_le_of_lt (Nat.sub_le _ _) t.isLt)).2.2 j
        + wBlk (iblk m c 0 t) (iblk m c 1 t) (iblk m c 2 t) j := by
  by_cases h1 : t.val % 34 = 33
  · rw [outsAt0_C m c t h0 h1]
    dsimp only
    rw [acc_C]
  · rw [outsAt0_B m c t h0 h1]
    dsimp only
    rw [acc_B]

/-- The last point writes out the accumulator it leaves. -/
theorem w_last (t : Fin cfg0.N) (h1 : t.val % 34 = 33) (j : S2816x1024.Idx) :
    (outsAt0 m c t.val t.isLt).2.1 j = (outsAt0 m c t.val t.isLt).2.2 j := by
  rw [w_next m c t (by omega) j, outsAt0_C m c t (by omega) h1]
  dsimp only
  rw [w_C]

/-- After the last point all parts are summed. -/
theorem w_sum (t : Fin cfg0.N) (ht : t.val + 1 = cfg0.N) (j : S2816x1024.Idx) :
    (outsAt0 m c t.val t.isLt).2.2 j = dw m c j := by
  refine (Pipeline.eq_sum_fin_of_reset_step_apply_last (fun n h => (outsAt0 m c n h).2.2) 34 (fun _ => (0 : EReal))
    (fun t j => wBlk (iblk m c 0 t) (iblk m c 1 t) (iblk m c 2 t) j) (w_first m c) (w_next m c) (le_of_eq N_0) t ht j).trans ?_
  rw [zero_add]
  refine Fin.sum_mul_add_congr (fun t k hl => ?_) (by rw [show cfg0.N = 34 from N_0])
  blk_point [iblk, V, idx t]

/-- The second array. -/
theorem dw_eq : (dats m 0 c).arrAt 5 cfg0.N = dw m c := by
  refine (dats m 0 c).arrAt_eq_of_covers 5 _ (by decide +kernel) fun t hf y => ?_
  blk_simp
  rw [after0_5]
  have h33 := (flush0_5 t).mp hf
  have hN : cfg0.N = 34 := N_0
  have hlt := t.isLt
  refine (w_last m c t (by omega) y).trans ((w_sum m c t (by omega) y).trans (congrArg (dw m c) ?_))
  blk_ext [idx t]

end Cert.ActIdeal.Hand
-- ==== Proof.ActRef.lean ====
/-
  What the reference of the gradient through the activation computes, entry by entry.
-/
module

public import proofs.«01_k».proof.Proof.ActMath
public import proofs.«01_k».proof.Proof.Gen.ActReferenceIdeal
public import proofs.«01_k».proof.Proof.Gen.ActReferenceIdeal.Run
public import Idealize.ShloMosaic.Lib.Pipeline.ValueKit
public import Idealize.ShloMosaic.Lib.Pointwise

@[expose] public section

set_option maxRecDepth 16384

noncomputable section

namespace Cert.ActReferenceIdeal.Hand

open Cert.ActMath Cert.ActReferenceIdeal Cert.ActReferenceIdeal.Gen Idealize.ShloMosaic Idealize.ShloMosaic.TcCoe Idealize.SL.Sem

variable (d : Vec Ideal S8704x1024 .f32) (g u : Vec Ideal S8704x2816 .bf16) (w : Vec Ideal S2816x1024 .bf16)

/-- The gradient of the hidden product, as the reference writes it. -/
theorem das : (Host.dotGeneral dot_S8704x1024_S2816x1024_S8704x2816_1_1_0_0_n_n none (mulf (broadcastInDim S8704x1024 ![] bcast_S_S8704x1024 (constant S_ .f32 0x3F000000#32)) d) (extf .f32 w bitsLt_bf16_f32) : FVec Ideal S8704x2816 .f32)
      = fun j => da (fun k => d (ix2 (j 0) k)) fun k => w (ix2 (j 1) k) := by
  funext j
  idx_vars j
  pointwise [da]

/-- The logistic function, as the reference writes it. -/
theorem sgms : (Host.divf (broadcastInDim S8704x2816 ![] bcast_S_S8704x2816 (constant S_ .f32 0x3F800000#32)) (addf (broadcastInDim S8704x2816 ![] bcast_S_S8704x2816 (constant S_ .f32 0x3F800000#32)) (Host.exp (Host.negf (extf .f32 g bitsLt_bf16_f32)))) : FVec Ideal S8704x2816 .f32)
      = fun j => sgm (g j) := by
  funext j
  idx_vars j
  pointwise [sgm]

/-- The first result, by the hidden product's gradient `D` and the logistic function's values `s`. -/
theorem first (D s : FVec Ideal S8704x2816 .f32) (r : Fin 8704) (q : Fin 5632) :
    (truncf .bf16 (concatenate S8704x5632 1 [⟨S8704x2816, (addf (mulf (mulf D (extf .f32 u bitsLt_bf16_f32)) s) (mulf (mulf (extf .f32 g bitsLt_bf16_f32) (mulf D (extf .f32 u bitsLt_bf16_f32))) (mulf s (subf (broadcastInDim S8704x2816 ![] bcast_S_S8704x2816 (constant S_ .f32 0x3F800000#32)) s))))⟩, ⟨S8704x2816, (mulf (mulf (extf .f32 g bitsLt_bf16_f32) s) D)⟩] concatenates_S8704x2816_S8704x2816_S8704x5632_d1) bitsLt_bf16_f32 : FVec Ideal S8704x5632 .bf16) (ix2 r q)
      = if h : q.val < 2816 then
          D (ix2 r ⟨q.val, h⟩) * u (ix2 r ⟨q.val, h⟩) * s (ix2 r ⟨q.val, h⟩)
            + g (ix2 r ⟨q.val, h⟩) * (D (ix2 r ⟨q.val, h⟩) * u (ix2 r ⟨q.val, h⟩)) * (s (ix2 r ⟨q.val, h⟩) * (1 - s (ix2 r ⟨q.val, h⟩)))
        else g (ix2 r ⟨q.val - 2816, by omega⟩) * s (ix2 r ⟨q.val - 2816, by omega⟩) * D (ix2 r ⟨q.val - 2816, by omega⟩) := by
  pointwise []

/-- The second result, by the logistic function's values `s`. -/
theorem second (s : FVec Ideal S8704x2816 .f32) (q : Fin 2816) (k : Fin 1024) :
    (truncf .bf16 (transpose S2816x1024 [1, 0] (Host.dotGeneral dot_S8704x1024_S8704x2816_S1024x2816_0_0_1_1_n_n none (mulf (broadcastInDim S8704x1024 ![] bcast_S_S8704x1024 (constant S_ .f32 0x3F000000#32)) d) (mulf (mulf (extf .f32 g bitsLt_bf16_f32) s) (extf .f32 u bitsLt_bf16_f32))) transposes_S1024x2816_S2816x1024_1_0) bitsLt_bf16_f32 : FVec Ideal S2816x1024 .bf16) (ix2 q k)
      = ∑ r : Fin 8704, Ideal.ofBits .f32 0x3F000000#32 * d (ix2 r k) * (g (ix2 r q) * s (ix2 r q) * u (ix2 r q)) := by
  pointwise []

end Cert.ActReferenceIdeal.Hand
-- ==== Proof.Act.lean ====
/-
  The gradient through the second feed-forward block's activation: the kernel's and the reference's are one.
-/
module

public import proofs.«01_k».proof.Defs
public import proofs.«01_k».proof.Proof.ActValue
public import proofs.«01_k».proof.Proof.ActRef
public import proofs.«01_k».proof.Proof.Gen.Pre_act_finite

@[expose] public section

set_option maxRecDepth 16384

noncomputable section

namespace Cert.ActClaim

open Cert.ActMath Cert.Finite Idealize.ShloMosaic Idealize.ShloMosaic.TcCoe Idealize.SL.Sem
open Cert.ActIdeal (nD τ sig main_arg0 main_arg1 main_arg2 main_arg3)
open Cert.ActIdeal.Hand (arg0 arg1 arg2 arg3)

instance : Subsingleton Cert.Pre_act_finite.S_.Idx := ⟨fun a b => funext fun k => k.elim0⟩

variable (m : (ℓ : Loc nD τ sig) → Buf (Elt Ideal) ℓ) (c : Dev nD)

/-- What the precondition says: all arguments but the gate have real entries. -/
theorem real_args (hp : Pre_ActIdeal_act_finite m) : (∀ i, IsReal (arg0 m c i)) ∧ (∀ i, IsReal (arg2 m c i))
    ∧ (∀ i, IsReal (arg3 m c i)) := by
  have h := congrFun (hp c) (fun k => k.elim0)
  obtain ⟨h, h3⟩ := IntOp.andi_eq_one.mp h
  obtain ⟨h1, h2⟩ := IntOp.andi_eq_one.mp h
  exact ⟨real_of_all _ _ _ _ _ _ h1, real_of_all _ _ _ _ _ _ h2, real_of_all _ _ _ _ _ _ h3⟩

/-- The hidden gradient at row `r`, column `q`, as the reference computes it, is the kernel's. -/
theorem dgu_ref (hp : Pre_ActIdeal_act_finite m) (D s : FVec Ideal Cert.ActReferenceIdeal.S8704x2816 .f32)
    (hD : ∀ r q, D (ix2 r q) = Cert.ActIdeal.Hand.hid m c r q) (hs : ∀ r q, s (ix2 r q) = sgm (arg1 m c (ix2 r q)))
    (r : Fin 8704) (q : Fin 5632) :
    (if h : q.val < 2816 then
        D (ix2 r ⟨q.val, h⟩) * arg2 m c (ix2 r ⟨q.val, h⟩) * s (ix2 r ⟨q.val, h⟩)
          + arg1 m c (ix2 r ⟨q.val, h⟩) * (D (ix2 r ⟨q.val, h⟩) * arg2 m c (ix2 r ⟨q.val, h⟩))
            * (s (ix2 r ⟨q.val, h⟩) * (1 - s (ix2 r ⟨q.val, h⟩)))
      else arg1 m c (ix2 r ⟨q.val - 2816, by omega⟩) * s (ix2 r ⟨q.val - 2816, by omega⟩) * D (ix2 r ⟨q.val - 2816, by omega⟩))
      = Cert.ActIdeal.Hand.dgu m c (ix2 r q) := by
  obtain ⟨r0, r2, r3⟩ := real_args m c hp
  unfold Cert.ActIdeal.Hand.dgu
  by_cases h : q.val < 2816
  · rw [dif_pos h, dif_pos (show ((ix2 r q : Cert.ActIdeal.S8704x5632.Idx) 1).val < 2816 from h), hD, hs]
    exact dgate_eq _ _ _ ((da_real _ _ (fun k => r0 _) fun k => r3 _).mul (r2 _))
  · rw [dif_neg h, dif_neg (show ¬((ix2 r q : Cert.ActIdeal.S8704x5632.Idx) 1).val < 2816 from h), hD, hs]
    exact mul_comm _ _

/-- The two programs end with the same two results. -/
theorem algebraic : Cert.algebraic_ActIdeal_ActReferenceIdeal_pre_act_finite := fun m ρ m' ρ' hp hag =>
  ⟨fun c => Cert.ActIdeal.Hand.dgu m c, fun c => Cert.ActIdeal.Hand.dw m c,
    (θ_run _ _ _).mono (fun _ h c => ⟨(h c).1.trans (Cert.ActIdeal.Hand.dgu_eq m c),
      (h c).2.1.trans (Cert.ActIdeal.Hand.dw_eq m c), (h c).2.2⟩) (Cert.ActIdeal.Value.run_blocks m ρ),
    (θ_run _ _ _).mono (fun _ h c => ⟨(h c).1.trans (by
        rw [(hag c).1, (hag c).2.1, (hag c).2.2.1, (hag c).2.2.2, Cert.ActReferenceIdeal.Hand.das,
          Cert.ActReferenceIdeal.Hand.sgms]
        funext j
        idx_vars j
        refine (Cert.ActReferenceIdeal.Hand.first _ _ _ _ _ _).trans ?_
        exact dgu_ref m c hp (fun j => Cert.ActIdeal.Hand.hid m c (j 0) (j 1)) (fun j => sgm (arg1 m c j)) (fun _ _ => rfl) (fun _ _ => rfl) _ _),
      (h c).2.1.trans (by
        rw [(hag c).1, (hag c).2.1, (hag c).2.2.1, Cert.ActReferenceIdeal.Hand.sgms]
        funext j
        idx_vars j
        refine (Cert.ActReferenceIdeal.Hand.second _ _ _ _ _ _).trans (Finset.sum_congr rfl fun r _ => ?_)
        exact mul_comm _ _), (h c).2.2⟩) (Cert.ActReferenceIdeal.Value.run m' ρ')⟩

end Cert.ActClaim
-- ==== Proof.NormBlock.lean ====
/-
  The gradient through the norm of the second feed-forward block, block of 512 rows by block.
-/
module

public import proofs.«01_k».proof.Proof.Gen.NormIdeal.Value
public import proofs.«01_k».proof.Proof.NormMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.NormIdeal.Hand

open Cert.NormIdeal Cert.NormIdeal.Gen Idealize.ShloMosaic Idealize.ShloMosaic.TcCoe Idealize.SL.Sem
open Idealize.ShloMosaic.Pipeline (Dat)
open Cert.NormMath

section Body

variable (c : Dev nD) (i : grid0.Coords) (a1 : Memref sig .tc .vmem S512x1024 .f32) (h1 : a1.IsWhole)
  (a2 : Memref sig .tc .vmem S16x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x5632 .bf16) (h5 : a5.IsWhole)
  (a6 : Memref sig .tc .vmem S5632x1024 .bf16) (h6 : a6.IsWhole) (a7 : Memref sig .tc .vmem S512x1024 .f32) (h7 : a7.IsWhole)
  (a8 : Memref sig .tc .vmem S1x1024 .f32) (h8 : a8.IsWhole)
  (x0 : Vec Ideal S512x1024 .f32) (x1 : Vec Ideal S16x1024 .f32) (x2 : Vec Ideal S512x1024 .f32) (x3 : Vec Ideal S1x1024 .f32)
  (x4 : Vec Ideal S512x5632 .bf16) (x5 : Vec Ideal S5632x1024 .bf16) (xo : Vec Ideal S1x1024 .f32)

/-- A block's row `r` of the gradient of the normed rows. -/
abbrev dn (r : Fin 512) : Fin 1024 → EReal := back (fun k => x4 (ix2 r k)) fun k j => x5 (ix2 k j)

/-- A block's row `r` of the norm's argument. -/
abbrev row (r : Fin 512) : Fin 1024 → EReal := fun k => x0 (ix2 r k)

/-- What a block's row `j 0` of the result is. -/
theorem out_A (hc0 : cond0_0 i) (j : S512x1024.Idx) :
    out0_A_6 (F := Ideal) c i a1 h1 a2 h2 a3 h3 a4 h4 a5 h5 a6 h6 a7 h7 a8 h8 hc0 x0 x1 x2 x3 x4 x5 j
      = rowOut (row x0 (j 0)) (fun k => x2 (ix2 (j 0) k)) (fun k => x3 (ix2 0 k)) (dn x4 x5 (j 0)) (j 1) := by
  frame_out
  idx_vars j
  pointwise [k0_pay3, k0_pay4, k0_pay5, k0_pay6, rowOut, row, dn, back, root, meanSq]

/-- The other points' blocks likewise. -/
theorem out_B (hc0 : ¬cond0_0 i) (j : S512x1024.Idx) :
    out0_B_6 (F := Ideal) c i a1 h1 a2 h2 a3 h3 a4 h4 a5 h5 a6 h6 a7 h7 a8 h8 hc0 x0 x1 x2 x3 x4 x5 xo j
      = rowOut (row x0 (j 0)) (fun k => x2 (ix2 (j 0) k)) (fun k => x3 (ix2 0 k)) (dn x4 x5 (j 0)) (j 1) := by
  frame_out
  idx_vars j
  pointwise [k0_pay3, k0_pay4, k0_pay5, k0_pay6, rowOut, row, dn, back, root, meanSq]

/-- The first block's part of the gain's gradient, over zero. -/
theorem gain_A (hc0 : cond0_0 i) (j : S1x1024.Idx) :
    out0_A_7 (F := Ideal) c i a1 h1 a2 h2 a3 h3 a4 h4 a5 h5 a6 h6 a7 h7 a8 h8 hc0 x0 x1 x2 x3 x4 x5 j
      = 0 + ∑ r : Fin 512, dn x4 x5 r (j 1) * (row x0 r (j 1) * root (row x0 r)) := by
  frame_out
  idx_vars j
  pointwise [k0_pay1, k0_pay2, k0_pay3, k0_pay4, k0_pay5, row, dn, back, root, meanSq]

/-- Another block's part, over what the point before left. -/
theorem gain_B (hc0 : ¬cond0_0 i) (j : S1x1024.Idx) :
    out0_B_7 (F := Ideal) c i a1 h1 a2 h2 a3 h3 a4 h4 a5 h5 a6 h6 a7 h7 a8 h8 hc0 x0 x1 x2 x3 x4 x5 xo j
      = xo j + ∑ r : Fin 512, dn x4 x5 r (j 1) * (row x0 r (j 1) * root (row x0 r)) := by
  frame_out
  idx_vars j
  pointwise [k0_pay1, k0_pay2, k0_pay3, k0_pay4, k0_pay5, row, dn, back, root, meanSq]

end Body

end Cert.NormIdeal.Hand
-- ==== Proof.NormValue.lean ====
/-
  What the kernel of the gradient through the norm leaves in its two result arrays.
-/
module

public import proofs.«01_k».proof.Proof.NormBlock

@[expose] public section

set_option maxRecDepth 16384

noncomputable section

namespace Cert.NormIdeal.Hand

open Cert.NormIdeal Cert.NormIdeal.Gen Idealize.ShloMosaic Idealize.ShloMosaic.TcCoe Idealize.SL.Sem
open Idealize.ShloMosaic.Pipeline (Dat)
open Cert.NormMath

variable (m : (ℓ : Loc nD τ sig) → Buf (Elt Ideal) ℓ) (c : Dev nD)

/-- The gradient that comes by the side. -/
abbrev arg0 : Vec Ideal S8704x1024 .f32 := m ((c.tc : Thread nD τ).loc main_arg0)
/-- The norm's argument. -/
abbrev arg1 : Vec Ideal S8704x1024 .f32 := m ((c.tc : Thread nD τ).loc main_arg1)
/-- The norm's gain. -/
abbrev arg2 : Vec Ideal S1x1024 .f32 := m ((c.tc : Thread nD τ).loc main_arg2)
/-- The hidden gradient. -/
abbrev arg3 : Vec Ideal S8704x5632 .bf16 := m ((c.tc : Thread nD τ).loc main_arg3)
/-- The weights. -/
abbrev arg4 : Vec Ideal S2x2816x1024 .bf16 := m ((c.tc : Thread nD τ).loc main_arg4)

/-- Row `r` of the norm's argument. -/
def hrow (r : Fin 8704) : Fin 1024 → EReal := fun k => arg1 m c (ix2 r k)

/-- Row `r` of the gradient of the normed rows. -/
def drow (r : Fin 8704) : Fin 1024 → EReal :=
  back (fun k => arg3 m c (ix2 r k)) fun k j => shapeCast S5632x1024 (arg4 m c) shapeCasts_S2x2816x1024_S5632x1024 (ix2 k j)

/-- The first result. -/
def out : S8704x1024.Idx → EReal := fun j =>
  rowOut (hrow m c (j 0)) (fun k => arg0 m c (ix2 (j 0) k)) (fun k => arg2 m c (ix2 0 k)) (drow m c (j 0)) (j 1)

/-- The second result, the gain's gradient. -/
def gain : S1x1024.Idx → EReal := fun j =>
  ∑ r : Fin 8704, drow m c r (j 1) * (hrow m c r (j 1) * root (hrow m c r))

/-- Which blocks a point reads and writes. -/
theorem idx : ∀ t : Fin cfg0.N, win0_0.index t = ![t.val, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] :=
  (by decide +kernel : ∀ t : Fin grid0.N, _)

/-- The first array, point by point. -/
theorem out_eq : (dats m 0 c).arrAt 6 cfg0.N = out m c := by
  refine (dats m 0 c).arrAt_eq_of_covers 6 _ (by decide +kernel) fun t hf y => ?_
  blk_simp
  rw [after0_6]
  by_cases h0 : t.val % 17 = 0
  · rw [outsAt0_A m c t h0]
    dsimp only
    rw [out_A]
    simp only [out, rowOut, hrow, drow, back, root, meanSq, row, dn]
    blk_point [iblk, V, idx t]
  · rw [outsAt0_B m c t h0]
    dsimp only
    rw [out_B]
    simp only [out, rowOut, hrow, drow, back, root, meanSq, row, dn]
    blk_point [iblk, V, idx t]

/-- The block `t`'s part of the gain's gradient. -/
abbrev gpart (t : Fin cfg0.N) (j : S1x1024.Idx) : EReal :=
  ∑ r : Fin 512, dn (iblk m c 4 t) (iblk m c 5 t) r (j 1) * (row (iblk m c 0 t) r (j 1) * root (row (iblk m c 0 t) r))

/-- The first point leaves its block's part. -/
theorem gain_first (t : Fin cfg0.N) (h0 : t.val % 17 = 0) (j : S1x1024.Idx) :
    (outsAt0 m c t.val t.isLt).2 j = 0 + gpart m c t j := by
  rw [outsAt0_A m c t h0]
  dsimp only
  rw [gain_A]

/-- The others add theirs. -/
theorem gain_next (t : Fin cfg0.N) (h0 : ¬t.val % 17 = 0) (j : S1x1024.Idx) :
    (outsAt0 m c t.val t.isLt).2 j
      = (outsAt0 m c (t.val - 1) (Nat.lt_of_le_of_lt (Nat.sub_le _ _) t.isLt)).2 j + gpart m c t j := by
  rw [outsAt0_B m c t h0]
  dsimp only
  rw [gain_B]

/-- After the last point all parts are summed. -/
theorem gain_last (t : Fin cfg0.N) (ht : t.val + 1 = cfg0.N) (j : S1x1024.Idx) :
    (outsAt0 m c t.val t.isLt).2 j = gain m c j := by
  refine (Pipeline.eq_sum_fin_of_reset_step_apply_last (fun n h => (outsAt0 m c n h).2) 17 (fun _ => (0 : EReal))
    (gpart m c) (gain_first m c) (gain_next m c) (le_of_eq N_0) t ht j).trans ?_
  rw [zero_add]
  refine Fin.sum_mul_add_congr (fun t k hl => ?_) (by rw [show cfg0.N = 17 from N_0])
  simp only [hrow, drow, back, root, meanSq, row, dn]
  blk_point [iblk, V, idx t]

/-- The second array. -/
theorem gain_eq : (dats m 0 c).arrAt 7 cfg0.N = gain m c := by
  refine (dats m 0 c).arrAt_eq_of_covers 7 _ (by decide +kernel) fun t hf y => ?_
  blk_simp
  rw [after0_7]
  have h16 := (flush0_7 t).mp hf
  have hN : cfg0.N = 17 := N_0
  have hlt := t.isLt
  refine (gain_last m c t (by omega) y).trans (congrArg (gain m c) ?_)
  blk_ext [idx t]

end Cert.NormIdeal.Hand
-- ==== Proof.NormRef.lean ====
/-
  What the reference of the gradient through the norm leaves.
-/
module

public import proofs.«01_k».proof.Proof.Gen.NormReferenceIdeal
public import proofs.«01_k».proof.Proof.Gen.NormReferenceIdeal.Run
public import proofs.«01_k».proof.Proof.NormMath
public import Idealize.ShloMosaic.Lib.Pipeline.ValueKit
public import Idealize.ShloMosaic.Lib.Pointwise

@[expose] public section

set_option maxRecDepth 16384

noncomputable section

namespace Cert.NormReferenceIdeal.Hand

open Cert.NormMath Cert.NormReferenceIdeal Cert.NormReferenceIdeal.Gen Idealize.ShloMosaic Idealize.ShloMosaic.TcCoe Idealize.SL.Sem

variable (m : (ℓ : Loc nD τ sig) → Buf (Elt Ideal) ℓ) (c : Dev nD)

/-- Row `r` of the norm's argument. -/
def hrow (r : Fin 8704) : Fin 1024 → EReal := fun k => (m ((c.tc : Thread nD τ).loc main_arg1) : Vec Ideal S8704x1024 .f32) (ix2 r k)

/-- Row `r` of the gradient of the normed rows. -/
def drow (r : Fin 8704) : Fin 1024 → EReal :=
  back (fun k => (m ((c.tc : Thread nD τ).loc main_arg3) : Vec Ideal S8704x5632 .bf16) (ix2 r k)) fun k j =>
    shapeCast S5632x1024 (m ((c.tc : Thread nD τ).loc main_arg4) : Vec Ideal S2x2816x1024 .bf16)
      shapeCasts_S2x2816x1024_S5632x1024 (ix2 k j)

/-- The rows' mean squares, as the reference writes them. -/
theorem means (x : Vec Ideal S8704x1024 .f32) :
    (addf (Host.divf (broadcastInDim S8704x1 ![0] bcast_S8704_S8704x1_0
        (Host.reduceAdd (mulf x x) (constant S_ .f32 0x00000000#32) reducesTo_S8704x1024_S8704_d1 h_S_))
        (broadcastInDim S8704x1 ![] bcast_S_S8704x1 (constant S_ .f32 0x44800000#32)))
        (broadcastInDim S8704x1 ![] bcast_S_S8704x1 (constant S_ .f32 0x358637BD#32)) : FVec Ideal S8704x1 .f32)
      = fun j => meanSq fun k => x (ix2 (j 0) k) := by
  funext j
  idx_vars j
  pointwise [meanSq]

/-- The gradient of the normed rows, as the reference writes it. -/
theorem backs (u : Vec Ideal S8704x5632 .bf16) (w : Vec Ideal S2x2816x1024 .bf16) :
    (Host.dotGeneral dot_S8704x5632_S1024x5632_S8704x1024_1_1_0_0_n_n none (extf .f32 u bitsLt_bf16_f32)
        (transpose S1024x5632 [1, 0] (shapeCast _ (extf .f32 w bitsLt_bf16_f32) shapeCasts_S2x2816x1024_S5632x1024)
          transposes_S5632x1024_S1024x5632_1_0) : FVec Ideal S8704x1024 .f32)
      = fun j => back (fun k => u (ix2 (j 0) k))
          (fun k (j : Fin 1024) => shapeCast S5632x1024 w shapeCasts_S2x2816x1024_S5632x1024 (ix2 k j)) (j 1) := by
  funext j
  idx_vars j
  pointwise [back]

/-- What the reference adds twice to a row, by the rows' mean squares `q`. -/
theorem pulls (h D : Vec Ideal S8704x1024 .f32) (g : Vec Ideal S1x1024 .f32) :
    (Host.reduceAdd (Host.divf (mulf (shapeCast _ (Host.reduceAdd (mulf h (mulf D (broadcastInDim S8704x1024 ![0, 1] bcast_S1x1024_S8704x1024_0_1 g))) (constant S_ .f32 0x00000000#32) reducesTo_S8704x1024_S8704_d1 h_S_) shapeCasts_S8704_S8704x1) (mulf (broadcastInDim S8704x1 ![] bcast_S_S8704x1 (constant S_ .f32 0xBF000000#32)) (Host.divf (Host.rsqrt (fun j => meanSq fun k => h (ix2 (j 0) k) : FVec Ideal S8704x1 .f32)) (fun j => meanSq fun k => h (ix2 (j 0) k) : FVec Ideal S8704x1 .f32)))) (broadcastInDim S8704x1 ![] bcast_S_S8704x1 (constant S_ .f32 0x44800000#32))) (constant S_ .f32 0x00000000#32) reducesTo_S8704x1_S8704_d1 h_S_ : FVec Ideal S8704 .f32)
      = fun j => pull (fun k => h (ix2 (j 0) k)) (fun k => g (ix2 0 k)) (fun k => D (ix2 (j 0) k)) := by
  funext j
  idx_vars j
  pointwise [pull, root]

/-- The first result's sum, of what is added twice. -/
theorem sums (dh h D : Vec Ideal S8704x1024 .f32) (g : Vec Ideal S1x1024 .f32) (p : FVec Ideal S8704 .f32)
    (q : FVec Ideal S8704x1 .f32) (r : Fin 8704) (j : Fin 1024) :
    (addf (addf (addf dh (mulf (mulf D (broadcastInDim S8704x1024 ![0, 1] bcast_S1x1024_S8704x1024_0_1 g)) (broadcastInDim S8704x1024 ![0, 1] bcast_S8704x1_S8704x1024_0_1 (Host.rsqrt q)))) (mulf h (broadcastInDim S8704x1024 ![0] bcast_S8704_S8704x1024_0 p))) (mulf (broadcastInDim S8704x1024 ![0] bcast_S8704_S8704x1024_0 p) h) : FVec Ideal S8704x1024 .f32) (ix2 r j)
      = dh (ix2 r j) + D (ix2 r j) * g (ix2 0 j) * Ideal.rsqrt (q (ix2 r 0)) + h (ix2 r j) * p (ix1 r)
        + p (ix1 r) * h (ix2 r j) := by
  pointwise []

/-- The first result. -/
theorem out (r : Fin 8704) (j : Fin 1024) :
    Value.res_out0 m c (ix2 r j) = rowRef (hrow m c r)
      (fun k => (m ((c.tc : Thread nD τ).loc main_arg0) : Vec Ideal S8704x1024 .f32) (ix2 r k))
      (fun k => (m ((c.tc : Thread nD τ).loc main_arg2) : Vec Ideal S1x1024 .f32) (ix2 0 k)) (drow m c r) j := by
  unfold Value.res_out0 Value.res_main_v40
  rw [means, pulls, sums, backs]
  rfl

/-- The second result, the gain's gradient. -/
theorem gain (h D : Vec Ideal S8704x1024 .f32) (j : S1x1024.Idx) :
    (shapeCast S1x1024 (Host.reduceAdd (mulf (mulf h (broadcastInDim S8704x1024 ![0, 1] bcast_S8704x1_S8704x1024_0_1
        (Host.rsqrt (fun j => meanSq fun k => h (ix2 (j 0) k) : FVec Ideal S8704x1 .f32)))) D)
        (constant S_ .f32 0x00000000#32) reducesTo_S8704x1024_S1024_d0 h_S_)
        shapeCasts_S1024_S1x1024 : FVec Ideal S1x1024 .f32) j
      = ∑ r : Fin 8704, h (ix2 r (j 1)) * root (fun k => h (ix2 r k)) * D (ix2 r (j 1)) := by
  idx_vars j
  pointwise [root]

end Cert.NormReferenceIdeal.Hand
-- ==== Proof.Norm.lean ====
/-
  The gradient through the norm of the second feed-forward block: the kernel's and the reference's are one.
-/
module

public import proofs.«01_k».proof.Defs
public import proofs.«01_k».proof.Proof.NormValue
public import proofs.«01_k».proof.Proof.NormRef
public import proofs.«01_k».proof.Proof.Gen.NormIdeal.Value
public import proofs.«01_k».proof.Proof.Gen.Pre_norm_finite

@[expose] public section

set_option maxRecDepth 16384

noncomputable section

namespace Cert.NormClaim

open Cert.NormMath Cert.Finite Idealize.ShloMosaic Idealize.ShloMosaic.TcCoe Idealize.SL.Sem
open Cert.NormIdeal (nD τ sig main_arg0 main_arg1 main_arg2 main_arg3 main_arg4)
open Cert.NormIdeal.Hand (arg0 arg1 arg2 arg3 arg4)

instance : Subsingleton Cert.Pre_norm_finite.S_.Idx := ⟨fun a b => funext fun k => k.elim0⟩

variable (m : (ℓ : Loc nD τ sig) → Buf (Elt Ideal) ℓ) (c : Dev nD)

/-- What the precondition says: all arguments but the gradient by the side have real entries. -/
theorem real_args (hp : Pre_NormIdeal_norm_finite m) : (∀ i, IsReal (arg1 m c i)) ∧ (∀ i, IsReal (arg2 m c i))
    ∧ (∀ i, IsReal (arg3 m c i)) ∧ (∀ i, IsReal (arg4 m c i)) := by
  have h := congrFun (hp c) (fun k => k.elim0)
  obtain ⟨h, h4⟩ := IntOp.andi_eq_one.mp h
  obtain ⟨h, h3⟩ := IntOp.andi_eq_one.mp h
  obtain ⟨h1, h2⟩ := IntOp.andi_eq_one.mp h
  exact ⟨real_of_all _ _ _ _ _ _ h1, real_of_all _ _ _ _ _ _ h2, real_of_all _ _ _ _ _ _ h3, real_of_all _ _ _ _ _ _ h4⟩

variable (m' : (ℓ : Loc Cert.NormReferenceIdeal.nD Cert.NormReferenceIdeal.τ Cert.NormReferenceIdeal.sig) → Buf (Elt Ideal) ℓ)

/-- The reference's first result is the kernel's, of the same arguments. -/
theorem out_ref (hp : Pre_NormIdeal_norm_finite m)
    (h0 : m' ((c.tc : Thread _ Cert.NormReferenceIdeal.τ).loc Cert.NormReferenceIdeal.main_arg0) = arg0 m c)
    (h1 : m' ((c.tc : Thread _ Cert.NormReferenceIdeal.τ).loc Cert.NormReferenceIdeal.main_arg1) = arg1 m c)
    (h2 : m' ((c.tc : Thread _ Cert.NormReferenceIdeal.τ).loc Cert.NormReferenceIdeal.main_arg2) = arg2 m c)
    (h3 : m' ((c.tc : Thread _ Cert.NormReferenceIdeal.τ).loc Cert.NormReferenceIdeal.main_arg3) = arg3 m c)
    (h4 : m' ((c.tc : Thread _ Cert.NormReferenceIdeal.τ).loc Cert.NormReferenceIdeal.main_arg4) = arg4 m c) :
    Cert.NormReferenceIdeal.Value.res_out0 m' c = Cert.NormIdeal.Hand.out m c := by
  obtain ⟨r1, r2, r3, r4⟩ := real_args m c hp
  funext j
  idx_vars j
  refine (Cert.NormReferenceIdeal.Hand.out m' c j0 j1).trans ?_
  unfold Cert.NormReferenceIdeal.Hand.hrow Cert.NormReferenceIdeal.Hand.drow
  rw [h0, h1, h2, h3, h4]
  exact row_eq _ _ _ _ (fun k => r1 _) (fun k => r2 _)
    (fun k => isReal_sum _ _ fun i _ => (r3 _).mul (r4 _)) _

/-- The two programs end with the same two results. -/
theorem algebraic : Cert.algebraic_NormIdeal_NormReferenceIdeal_pre_norm_finite := fun m ρ m' ρ' hp hag =>
  ⟨fun c => Cert.NormIdeal.Hand.out m c, fun c => Cert.NormIdeal.Hand.gain m c,
    (θ_run _ _ _).mono (fun _ h c => ⟨(h c).1.trans (Cert.NormIdeal.Hand.out_eq m c),
      (h c).2.1.trans (Cert.NormIdeal.Hand.gain_eq m c), (h c).2.2⟩) (Cert.NormIdeal.Value.run_blocks m ρ),
    (θ_run _ _ _).mono (fun _ h c => ⟨(h c).1.trans
        (out_ref m c m' hp (hag c).1 (hag c).2.1 (hag c).2.2.1 (hag c).2.2.2.1 (hag c).2.2.2.2),
      (h c).2.1.trans (by
        rw [(hag c).2.1, (hag c).2.2.2.1, (hag c).2.2.2.2, Cert.NormReferenceIdeal.Hand.means,
          Cert.NormReferenceIdeal.Hand.backs]
        funext j
        refine (Cert.NormReferenceIdeal.Hand.gain _ _ j).trans (Finset.sum_congr rfl fun r _ => ?_)
        exact mul_comm _ _), (h c).2.2⟩) (Cert.NormReferenceIdeal.Value.run m' ρ')⟩

end Cert.NormClaim
-- ==== Proof.Wgu.lean ====
/-
  The gradient of the second feed-forward block's input weights, `dguᵀ · nrm`: the kernel adds, block of 512 rows by
  block, the block's product into an accumulator of the size of the result, six row pieces at a time; the reference is
  the gradient of `w ↦ nrm · w`.
-/
module

public import proofs.«01_k».proof.Proof.Gen.WguIdeal.Value
public import proofs.«01_k».proof.Proof.Gen.WguReferenceIdeal.Run
public import proofs.«01_k».proof.Defs
public import proofs.«01_k».proof.Proof.Gen.WguIdeal
public import proofs.«01_k».proof.Proof.Gen.WguReferenceIdeal
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WguIdeal.Hand

open Cert.WguIdeal Cert.WguIdeal.Gen Idealize.ShloMosaic Idealize.ShloMosaic.TcCoe Idealize.SL.Sem
open Idealize.ShloMosaic.Pipeline (Dat)

/-- What one block of 512 rows adds at row `j 0`, column `j 1` of the weights' gradient. -/
abbrev part (x0 : Vec Ideal S512x1024 .bf16) (x1 : Vec Ideal S512x5632 .bf16) (j : S5632x1024.Idx) : EReal :=
  ∑ k : Fin 512, x1 (ix2 k (j 0)) * x0 (ix2 k (j 1))

section Body

variable (c : Dev nD) (i : grid0.Coords) (a1 : Memref sig .tc .vmem S512x1024 .bf16) (h1 : a1.IsWhole)
  (a2 : Memref sig .tc .vmem S512x5632 .bf16) (h2 : a2.IsWhole) (a3 : Memref sig .tc .vmem S5632x1024 .bf16) (h3 : a3.IsWhole)
  (a4 : Memref sig .tc .vmem S5632x1024 .f32) (h4 : a4.IsWhole)
  (x0 : Vec Ideal S512x1024 .bf16) (x1 : Vec Ideal S512x5632 .bf16) (xs : Vec Ideal S5632x1024 .f32) (j : S5632x1024.Idx)

/-- The first point clears the accumulator, then adds its block's product. -/
theorem acc_A (hc0 : cond0_0 i) (hc1 : ¬cond0_1 i) :
    sout0_A_0 (F := Ideal) c i a1 h1 a2 h2 a3 h3 a4 h4 hc0 hc1 x0 x1 j = 0 + part x0 x1 j := by
  frame_open
  simp (disch := decide) only [↓ View.readCov_skip, ↓ View.readCov_cons_toLoadRect, ↓ View.readCov_fill]
  frame_out
  refine View.canon_append_of_piecesOf (Val := Elt Ideal) (e := .f32) (fun j => 0 + part x0 x1 j) [_] [_, _, _, _, _, _]
    ⟨?_, ?_, ?_, ?_, ?_, ?_, trivial⟩ j (View.cover_of_tiledBy _ ![256, 1024] (by sl_kernel_rfl) j)
  all_goals
    intro x
    idx_vars x
    pointwise [k0_pay1, k0_pay2, k0_pay3, k0_pay5, k0_pay6, k0_pay7, k0_pay8, part]
    blk_point []

/-- A point between adds its block's product to what the point before left. -/
theorem acc_B (hc0 : ¬cond0_0 i) (hc1 : ¬cond0_1 i) :
    sout0_B_0 (F := Ideal) c i a1 h1 a2 h2 a3 h3 a4 h4 hc0 hc1 x0 x1 xs j = xs j + part x0 x1 j := by
  frame_out
  refine View.canon_append_of_piecesOf (Val := Elt Ideal) (e := .f32) (fun j => xs j + part x0 x1 j) [] [_, _, _, _, _, _]
    ⟨?_, ?_, ?_, ?_, ?_, ?_, trivial⟩ j (View.cover_of_tiledBy _ ![256, 1024] (by sl_kernel_rfl) j)
  all_goals
    intro x
    idx_vars x
    pointwise [k0_pay1, k0_pay2, k0_pay3, k0_pay6, k0_pay7, k0_pay8, part]
    blk_point []

/-- The last point does so too. -/
theorem acc_C (hc0 : ¬cond0_0 i) (hc1 : cond0_1 i) :
    sout0_C_0 (F := Ideal) c i a1 h1 a2 h2 a3 h3 a4 h4 hc0 hc1 x0 x1 xs j = xs j + part x0 x1 j := by
  frame_out
  refine View.canon_append_of_piecesOf (Val := Elt Ideal) (e := .f32) (fun j => xs j + part x0 x1 j) [] [_, _, _, _, _, _]
    ⟨?_, ?_, ?_, ?_, ?_, ?_, trivial⟩ j (View.cover_of_tiledBy _ ![256, 1024] (by sl_kernel_rfl) j)
  all_goals
    intro x
    idx_vars x
    pointwise [k0_pay1, k0_pay2, k0_pay3, k0_pay6, k0_pay7, k0_pay8, part]
    blk_point []

/-- What the last point writes out is the accumulator it leaves. -/
theorem out_C (hc0 : ¬cond0_0 i) (hc1 : cond0_1 i) :
    out0_C_2 (F := Ideal) c i a1 h1 a2 h2 a3 h3 a4 h4 hc0 hc1 x0 x1 xs j = xs j + part x0 x1 j := by
  rw [← acc_C c i a1 h1 a2 h2 a3 h3 a4 h4 x0 x1 xs j hc0 hc1]
  frame_out
  unfold k0_pay4
  rw [View.readCov_eq_canon']
  generalize (View.canon (Val := Elt Ideal) (s := S5632x1024) (e := .f32) _ : Vec Ideal S5632x1024 .f32) = Z
  pointwise []

end Body

variable (m : (ℓ : Loc nD τ sig) → Buf (Elt Ideal) ℓ) (c : Dev nD)

/-- The first point leaves its block's product in the accumulator. -/
theorem step_first (t : Fin cfg0.N) (h0 : t.val % 17 = 0) (j : S5632x1024.Idx) :
    (outsAt0 m c t.val t.isLt).2 j = 0 + part (iblk m c 0 t) (iblk m c 1 t) j := by
  rw [outsAt0_A m c t h0 (by omega)]
  dsimp only
  rw [acc_A]

/-- Every other point adds its block's product to what the point before left. -/
theorem step_next (t : Fin cfg0.N) (h0 : ¬t.val % 17 = 0) (j : S5632x1024.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 17 = 16
  · rw [outsAt0_C m c t h0 h1]
    dsimp only
    rw [acc_C]
  · rw [outsAt0_B m c t h0 h1]
    dsimp only
    rw [acc_B]

/-- The last point writes out the accumulator it leaves. -/
theorem out_last (t : Fin cfg0.N) (h1 : t.val % 17 = 16) (j : S5632x1024.Idx) :
    (outsAt0 m c t.val t.isLt).1 j = (outsAt0 m c t.val t.isLt).2 j := by
  rw [step_next m c t (by omega) j, outsAt0_C m c t (by omega) h1]
  dsimp only
  rw [out_C]

/-- The accumulator after the last point: zero and the products of all 17 blocks. -/
theorem sum_blocks (t : Fin cfg0.N) (ht : t.val + 1 = cfg0.N) (j : S5632x1024.Idx) :
    (outsAt0 m c t.val t.isLt).2 j = 0 + ∑ t : Fin cfg0.N, part (iblk m c 0 t) (iblk m c 1 t) j :=
  Pipeline.eq_sum_fin_of_reset_step_apply_last (fun n h => (outsAt0 m c n h).2) 17 (fun _ => (0 : EReal))
    (fun t j => part (iblk m c 0 t) (iblk m c 1 t) j) (step_first m c) (step_next m c) (le_of_eq N_0) t ht j

/-- The array the kernel leaves. -/
theorem result (j : S5632x1024.Idx) :
    Value.G2 m c j = ∑ t : Fin cfg0.N, part (iblk m c 0 t) (iblk m c 1 t) j := by
  have h : 16 < cfg0.N := lt_of_lt_of_eq (by decide) N_0.symm
  have e := (out_last m c ⟨16, h⟩ rfl j).trans (sum_blocks m c ⟨16, h⟩ N_0.symm j)
  rw [zero_add] at e
  rw [Value.G2_last, ← Value.outsAt0_sweep m c 16 h]
  exact e

/-- Which block a point reads: rows `512 t …` of both operands. -/
theorem idx : ∀ t : Fin cfg0.N, win0_0.index t = ![t.val, 0] ∧ win0_1.index t = ![t.val, 0] :=
  (by decide +kernel : ∀ t : Fin grid0.N, _)

/-- The two arguments, as arrays. -/
abbrev arg0 : Vec Ideal S8704x1024 .bf16 := m ((c.tc : Thread nD τ).loc main_arg0)
/-- The second argument. -/
abbrev arg1 : Vec Ideal S8704x5632 .bf16 := m ((c.tc : Thread nD τ).loc main_arg1)

/-- Summed over the blocks, the products are the product over all 8704 rows. -/
theorem result_rows (j : S5632x1024.Idx) :
    Value.G2 m c j = ∑ r : Fin 8704, arg1 m c (ix2 r (j 0)) * arg0 m c (ix2 r (j 1)) := by
  rw [result]
  refine Fin.sum_mul_add_congr (fun t k hl => ?_) (by rw [show cfg0.N = 17 from N_0])
  pointwise []
  blk_point [iblk, V, idx t]

end Cert.WguIdeal.Hand

namespace Cert.WguClaim

open Idealize.ShloMosaic Idealize.ShloMosaic.TcCoe Idealize.SL.Sem

/-- The kernel and the reference leave the same array. -/
theorem algebraic : Cert.algebraic_WguIdeal_WguReferenceIdeal := fun m ρ m' ρ' _ hag =>
  ⟨fun c => Cert.WguIdeal.Value.G2 m c, Cert.WguIdeal.Value.run m ρ,
    (θ_run _ _ _).mono (fun _ h c => ⟨(h c).1.trans (by
      rw [(hag c).1, (hag c).2]
      funext j
      refine Eq.trans ?_ (Cert.WguIdeal.Hand.result_rows m c j).symm
      idx_vars j
      pointwise []), (h c).2⟩) (Cert.WguReferenceIdeal.Value.run m' ρ')⟩

end Cert.WguClaim
-- ==== Proof.OutprojMath.lean ====
/-
  Two halves of 512 lanes, side by side.
-/
module

public import Idealize.ShloMosaic.Lib.Pointwise

@[expose] public section

noncomputable section

namespace Cert.OutprojMath

/-- Two halves of 512 side by side. -/
def halves (u v : Fin 512 → EReal) (a : Fin 1024) : EReal :=
  if h : a.val < 512 then u ⟨a.val, h⟩ else v ⟨a.val - 512, by omega⟩

/-- The first half's `a`. -/
def lo (a : Fin 512) : Fin 1024 := ⟨a.val, by omega⟩

/-- The second half's `a`. -/
def hi (a : Fin 512) : Fin 1024 := ⟨512 + a.val, by omega⟩

/-- In the first half. -/
theorem halves_lo (u v : Fin 512 → EReal) (j : Fin 1024) (a : Fin 512) (h : j.val = a.val) : halves u v j = u a := by
  unfold halves
  rw [dif_pos (by omega)]
  exact congrArg u (Fin.ext h)

/-- In the second half. -/
theorem halves_hi (u v : Fin 512 → EReal) (j : Fin 1024) (a : Fin 512) (h : j.val = 512 + a.val) : halves u v j = v a := by
  unfold halves
  rw [dif_neg (by omega)]
  exact congrArg v (Fin.ext (Nat.sub_eq_of_eq_add (h.trans (Nat.add_comm _ _))))

end Cert.OutprojMath
-- ==== Proof.OutprojBlock.lean ====
/-
  The gradient of the output projection, block of 512 rows by block: the two halves of `dh · wᵀ`, and the block's part of the
  weights' gradient, which an accumulator of the result's size sums up.
-/
module

public import proofs.«01_k».proof.Proof.Gen.OutprojIdeal.Value
public import proofs.«01_k».proof.Proof.OutprojMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutprojIdeal.Hand

open Cert.OutprojIdeal Cert.OutprojIdeal.Gen Idealize.ShloMosaic Idealize.ShloMosaic.TcCoe Idealize.SL.Sem
open Idealize.ShloMosaic.Pipeline (Dat)
open Cert.OutprojMath

/-- What one block adds at row `j 0`, column `j 1` of the weights' gradient. -/
def part (x0 : Vec Ideal S512x1024 .f32) (x1 x2 : Vec Ideal S512x512 .bf16) (j : S1024x1024.Idx) : EReal :=
  ∑ k : Fin 512, halves (fun a => x1 (ix2 k a)) (fun a => x2 (ix2 k a)) (j 0) * x0 (ix2 k (j 1))

/-- In its upper rows it is the first half's. -/
theorem part_lo (x0 : Vec Ideal S512x1024 .f32) (x1 x2 : Vec Ideal S512x512 .bf16) (j : S1024x1024.Idx) (a : Fin 512)
    (h : (j 0).val = a.val) : part x0 x1 x2 j = ∑ k : Fin 512, x1 (ix2 k a) * x0 (ix2 k (j 1)) := by
  simp only [part, halves_lo _ _ _ a h]

/-- In its lower rows the second half's. -/
theorem part_hi (x0 : Vec Ideal S512x1024 .f32) (x1 x2 : Vec Ideal S512x512 .bf16) (j : S1024x1024.Idx) (a : Fin 512)
    (h : (j 0).val = 512 + a.val) : part x0 x1 x2 j = ∑ k : Fin 512, x2 (ix2 k a) * x0 (ix2 k (j 1)) := by
  simp only [part, halves_hi _ _ _ a h]

section Body

variable (c : Dev nD) (i : grid0.Coords) (a1 : Memref sig .tc .vmem S512x1024 .f32) (h1 : a1.IsWhole) (a2 : Memref sig .tc .vmem S512x512 .bf16) (h2 : a2.IsWhole) (a3 : Memref sig .tc .vmem S512x512 .bf16) (h3 : a3.IsWhole) (a4 : Memref sig .tc .vmem S1024x1024 .bf16) (h4 : a4.IsWhole) (a5 : Memref sig .tc .vmem S512x512 .bf16) (h5 : a5.IsWhole) (a6 : Memref sig .tc .vmem S512x512 .bf16) (h6 : a6.IsWhole) (a7 : Memref sig .tc .vmem S1024x1024 .bf16) (h7 : a7.IsWhole) (a8 : Memref sig .tc .vmem S1024x1024 .f32) (h8 : a8.IsWhole)
  (x0 : Vec Ideal S512x1024 .f32) (x1 : Vec Ideal S512x512 .bf16) (x2 : Vec Ideal S512x512 .bf16) (x3 : Vec Ideal S1024x1024 .bf16) (xs0 : Vec Ideal S1024x1024 .f32)

/-- The first half of a block's rows times the weights, case A. -/
theorem zc_A (hc0 : cond0_0 i) (hc1 : ¬cond0_1 i) (j : S512x512.Idx) :
    out0_A_4 (F := Ideal) c i a1 h1 a2 h2 a3 h3 a4 h4 a5 h5 a6 h6 a7 h7 a8 h8 hc0 hc1 x0 x1 x2 x3 j
      = ∑ k : Fin 1024, x0 (ix2 (j 0) k) * x3 (ix2 (lo (j 1)) k) := by
  frame_out
  idx_vars j
  pointwise [k0_pay3, k0_pay4, lo]

/-- The second half, case A. -/
theorem za_A (hc0 : cond0_0 i) (hc1 : ¬cond0_1 i) (j : S512x512.Idx) :
    out0_A_5 (F := Ideal) c i a1 h1 a2 h2 a3 h3 a4 h4 a5 h5 a6 h6 a7 h7 a8 h8 hc0 hc1 x0 x1 x2 x3 j
      = ∑ k : Fin 1024, x0 (ix2 (j 0) k) * x3 (ix2 (hi (j 1)) k) := by
  frame_out
  idx_vars j
  pointwise [k0_pay3, k0_pay5, hi]

/-- The accumulator, case A. -/
theorem acc_A (hc0 : cond0_0 i) (hc1 : ¬cond0_1 i) (j : S1024x1024.Idx) :
    sout0_A_0 (F := Ideal) c i a1 h1 a2 h2 a3 h3 a4 h4 a5 h5 a6 h6 a7 h7 a8 h8 hc0 hc1 x0 x1 x2 x3 j = 0 + part x0 x1 x2 j := by
  frame_open
  simp (disch := decide) only [↓ View.readCov_skip, ↓ View.readCov_cons_toLoadRect, ↓ View.readCov_fill]
  frame_out
  refine View.canon_append_of_piecesOf (Val := Elt Ideal) (e := .f32) (fun j => 0 + part x0 x1 x2 j) [_] [_, _]
    ⟨?_, ?_, trivial⟩ j (View.cover_of_tiledBy _ ![512, 1024] (by sl_kernel_rfl) j)
  · intro y
    idx_vars y
    refine Eq.trans ?_ (congrArg ((0 : EReal) + ·) (part_hi x0 x1 x2 _ y0 (by simp)).symm)
    pointwise [k0_pay2, k0_pay3, k0_pay6, k0_pay7]
    blk_point []
  · intro y
    idx_vars y
    refine Eq.trans ?_ (congrArg ((0 : EReal) + ·) (part_lo x0 x1 x2 _ y0 (by simp)).symm)
    pointwise [k0_pay2, k0_pay3, k0_pay6, k0_pay7]
    blk_point []

/-- The first half of a block's rows times the weights, case B. -/
theorem zc_B (hc0 : ¬cond0_0 i) (hc1 : ¬cond0_1 i) (j : S512x512.Idx) :
    out0_B_4 (F := Ideal) c i a1 h1 a2 h2 a3 h3 a4 h4 a5 h5 a6 h6 a7 h7 a8 h8 hc0 hc1 x0 x1 x2 x3 xs0 j
      = ∑ k : Fin 1024, x0 (ix2 (j 0) k) * x3 (ix2 (lo (j 1)) k) := by
  frame_out
  idx_vars j
  pointwise [k0_pay3, k0_pay4, lo]

/-- The second half, case B. -/
theorem za_B (hc0 : ¬cond0_0 i) (hc1 : ¬cond0_1 i) (j : S512x512.Idx) :
    out0_B_5 (F := Ideal) c i a1 h1 a2 h2 a3 h3 a4 h4 a5 h5 a6 h6 a7 h7 a8 h8 hc0 hc1 x0 x1 x2 x3 xs0 j
      = ∑ k : Fin 1024, x0 (ix2 (j 0) k) * x3 (ix2 (hi (j 1)) k) := by
  frame_out
  idx_vars j
  pointwise [k0_pay3, k0_pay5, hi]

/-- The accumulator, case B. -/
theorem acc_B (hc0 : ¬cond0_0 i) (hc1 : ¬cond0_1 i) (j : S1024x1024.Idx) :
    sout0_B_0 (F := Ideal) c i a1 h1 a2 h2 a3 h3 a4 h4 a5 h5 a6 h6 a7 h7 a8 h8 hc0 hc1 x0 x1 x2 x3 xs0 j = xs0 j + part x0 x1 x2 j := by
  frame_out
  refine View.canon_append_of_piecesOf (Val := Elt Ideal) (e := .f32) (fun j => xs0 j + part x0 x1 x2 j) [] [_, _]
    ⟨?_, ?_, trivial⟩ j (View.cover_of_tiledBy _ ![512, 1024] (by sl_kernel_rfl) j)
  · intro y
    idx_vars y
    refine Eq.trans ?_ (congrArg (xs0 _ + ·) (part_hi x0 x1 x2 _ y0 (by simp)).symm)
    pointwise [k0_pay2, k0_pay3, k0_pay6, k0_pay7]
    blk_point []
  · intro y
    idx_vars y
    refine Eq.trans ?_ (congrArg (xs0 _ + ·) (part_lo x0 x1 x2 _ y0 (by simp)).symm)
    pointwise [k0_pay2, k0_pay3, k0_pay6, k0_pay7]
    blk_point []

/-- The first half of a block's rows times the weights, case C. -/
theorem zc_C (hc0 : ¬cond0_0 i) (hc1 : cond0_1 i) (j : S512x512.Idx) :
    out0_C_4 (F := Ideal) c i a1 h1 a2 h2 a3 h3 a4 h4 a5 h5 a6 h6 a7 h7 a8 h8 hc0 hc1 x0 x1 x2 x3 xs0 j
      = ∑ k : Fin 1024, x0 (ix2 (j 0) k) * x3 (ix2 (lo (j 1)) k) := by
  frame_out
  idx_vars j
  pointwise [k0_pay3, k0_pay4, lo]

/-- The second half, case C. -/
theorem za_C (hc0 : ¬cond0_0 i) (hc1 : cond0_1 i) (j : S512x512.Idx) :
    out0_C_5 (F := Ideal) c i a1 h1 a2 h2 a3 h3 a4 h4 a5 h5 a6 h6 a7 h7 a8 h8 hc0 hc1 x0 x1 x2 x3 xs0 j
      = ∑ k : Fin 1024, x0 (ix2 (j 0) k) * x3 (ix2 (hi (j 1)) k) := by
  frame_out
  idx_vars j
  pointwise [k0_pay3, k0_pay5, hi]

/-- The accumulator, case C. -/
theorem acc_C (hc0 : ¬cond0_0 i) (hc1 : cond0_1 i) (j : S1024x1024.Idx) :
    sout0_C_0 (F := Ideal) c i a1 h1 a2 h2 a3 h3 a4 h4 a5 h5 a6 h6 a7 h7 a8 h8 hc0 hc1 x0 x1 x2 x3 xs0 j = xs0 j + part x0 x1 x2 j := by
  frame_out
  refine View.canon_append_of_piecesOf (Val := Elt Ideal) (e := .f32) (fun j => xs0 j + part x0 x1 x2 j) [] [_, _]
    ⟨?_, ?_, trivial⟩ j (View.cover_of_tiledBy _ ![512, 1024] (by sl_kernel_rfl) j)
  · intro y
    idx_vars y
    refine Eq.trans ?_ (congrArg (xs0 _ + ·) (part_hi x0 x1 x2 _ y0 (by simp)).symm)
    pointwise [k0_pay2, k0_pay3, k0_pay6, k0_pay7]
    blk_point []
  · intro y
    idx_vars y
    refine Eq.trans ?_ (congrArg (xs0 _ + ·) (part_lo x0 x1 x2 _ y0 (by simp)).symm)
    pointwise [k0_pay2, k0_pay3, k0_pay6, k0_pay7]
    blk_point []

/-- What the last point writes out is the accumulator it leaves. -/
theorem dw_C (hc0 : ¬cond0_0 i) (hc1 : cond0_1 i) (j : S1024x1024.Idx) :
    out0_C_6 (F := Ideal) c i a1 h1 a2 h2 a3 h3 a4 h4 a5 h5 a6 h6 a7 h7 a8 h8 hc0 hc1 x0 x1 x2 x3 xs0 j = xs0 j + part x0 x1 x2 j := by
  rw [← acc_C c i a1 h1 a2 h2 a3 h3 a4 h4 a5 h5 a6 h6 a7 h7 a8 h8 x0 x1 x2 x3 xs0 hc0 hc1 j]
  frame_out
  unfold k0_pay1
  rw [View.readCov_eq_canon']
  generalize (View.canon (Val := Elt Ideal) (s := S1024x1024) (e := .f32) _ : Vec Ideal S1024x1024 .f32) = Z
  pointwise []

end Body

end Cert.OutprojIdeal.Hand
-- ==== Proof.Outproj.lean ====
/-
  The gradient of the output projection: the kernel's and the reference's are one.
-/
module

public import proofs.«01_k».proof.Defs
public import proofs.«01_k».proof.Proof.OutprojBlock
public import proofs.«01_k».proof.Proof.Gen.OutprojIdeal.Value
public import proofs.«01_k».proof.Proof.Gen.OutprojReferenceIdeal
public import proofs.«01_k».proof.Proof.Gen.OutprojReferenceIdeal.Run

@[expose] public section

set_option maxRecDepth 16384

noncomputable section

namespace Cert.OutprojIdeal.Hand

open Cert.OutprojIdeal Cert.OutprojIdeal.Gen Idealize.ShloMosaic Idealize.ShloMosaic.TcCoe Idealize.SL.Sem
open Idealize.ShloMosaic.Pipeline (Dat)
open Cert.OutprojMath

variable (m : (ℓ : Loc nD τ sig) → Buf (Elt Ideal) ℓ) (c : Dev nD)

/-- The gradient of the rows that the projection leaves. -/
abbrev arg0 : Vec Ideal S8704x1024 .f32 := m ((c.tc : Thread nD τ).loc main_arg0)
/-- The first half of the rows that are projected. -/
abbrev arg1 : Vec Ideal S8704x512 .bf16 := m ((c.tc : Thread nD τ).loc main_arg1)
/-- The second half. -/
abbrev arg2 : Vec Ideal S8704x512 .bf16 := m ((c.tc : Thread nD τ).loc main_arg2)
/-- The weights. -/
abbrev arg3 : Vec Ideal S1024x1024 .bf16 := m ((c.tc : Thread nD τ).loc main_arg3)

/-- The gradient of the first half. -/
def zc : S8704x512.Idx → EReal := fun j => ∑ k : Fin 1024, arg0 m c (ix2 (j 0) k) * arg3 m c (ix2 (lo (j 1)) k)

/-- The gradient of the second half. -/
def za : S8704x512.Idx → EReal := fun j => ∑ k : Fin 1024, arg0 m c (ix2 (j 0) k) * arg3 m c (ix2 (hi (j 1)) k)

/-- The gradient of the weights. -/
def dw : S1024x1024.Idx → EReal := fun j =>
  ∑ r : Fin 8704, halves (fun a => arg1 m c (ix2 r a)) (fun a => arg2 m c (ix2 r a)) (j 0) * arg0 m c (ix2 r (j 1))

/-- Which blocks a point reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- A block's rows times the weights' upper rows. -/
abbrev zcPart (x0 : Vec Ideal S512x1024 .f32) (x3 : Vec Ideal S1024x1024 .bf16) (y : S512x512.Idx) : EReal :=
  ∑ k : Fin 1024, x0 (ix2 (y 0) k) * x3 (ix2 (lo (y 1)) k)

/-- A block's rows times the weights' lower rows. -/
abbrev zaPart (x0 : Vec Ideal S512x1024 .f32) (x3 : Vec Ideal S1024x1024 .bf16) (y : S512x512.Idx) : EReal :=
  ∑ k : Fin 1024, x0 (ix2 (y 0) k) * x3 (ix2 (hi (y 1)) k)

/-- The first half's block at a point, whatever the case. -/
theorem zc_at (t : Fin cfg0.N) (y : S512x512.Idx) : (outsAt0 m c t.val t.isLt).1 y
    = zcPart (iblk m c 0 t) (iblk m c 3 t) y := by
  by_cases h0 : t.val % 17 = 0
  · rw [outsAt0_A m c t h0 (by omega)]
    dsimp only
    rw [zc_A]
  · by_cases h1 : t.val % 17 = 16
    · rw [outsAt0_C m c t h0 h1]
      dsimp only
      rw [zc_C]
    · rw [outsAt0_B m c t h0 h1]
      dsimp only
      rw [zc_B]

/-- The second half's likewise. -/
theorem za_at (t : Fin cfg0.N) (y : S512x512.Idx) : (outsAt0 m c t.val t.isLt).2.1 y
    = zaPart (iblk m c 0 t) (iblk m c 3 t) y := by
  by_cases h0 : t.val % 17 = 0
  · rw [outsAt0_A m c t h0 (by omega)]
    dsimp only
    rw [za_A]
  · by_cases h1 : t.val % 17 = 16
    · rw [outsAt0_C m c t h0 h1]
      dsimp only
      rw [za_C]
    · rw [outsAt0_B m c t h0 h1]
      dsimp only
      rw [za_B]

/-- The first array. -/
theorem zc_eq : (dats m 0 c).arrAt 4 cfg0.N = zc m c := by
  refine (dats m 0 c).arrAt_eq_of_covers 4 _ (by decide +kernel) fun t hf y => ?_
  blk_simp
  rw [after0_4, zc_at]
  simp only [zc, zcPart, lo]
  blk_point [iblk, V, idx t]

/-- The second array. -/
theorem za_eq : (dats m 0 c).arrAt 5 cfg0.N = za m c := by
  refine (dats m 0 c).arrAt_eq_of_covers 5 _ (by decide +kernel) fun t hf y => ?_
  blk_simp
  rw [after0_5, za_at]
  simp only [za, zaPart, hi]
  blk_point [iblk, V, idx t]

/-- The block `t`'s part of the weights' gradient. -/
abbrev dpart (t : Fin cfg0.N) (j : S1024x1024.Idx) : EReal := part (iblk m c 0 t) (iblk m c 1 t) (iblk m c 2 t) j

/-- The first point leaves its block's part in the accumulator. -/
theorem step_first (t : Fin cfg0.N) (h0 : t.val % 17 = 0) (j : S1024x1024.Idx) :
    (outsAt0 m c t.val t.isLt).2.2.2 j = 0 + dpart m c t j := by
  rw [outsAt0_A m c t h0 (by omega)]
  dsimp only
  rw [acc_A]

/-- Every other point adds its block's part. -/
theorem step_next (t : Fin cfg0.N) (h0 : ¬t.val % 17 = 0) (j : S1024x1024.Idx) :
    (outsAt0 m c t.val t.isLt).2.2.2 j
      = (outsAt0 m c (t.val - 1) (Nat.lt_of_le_of_lt (Nat.sub_le _ _) t.isLt)).2.2.2 j + dpart m c t j := by
  by_cases h1 : t.val % 17 = 16
  · rw [outsAt0_C m c t h0 h1]
    dsimp only
    rw [acc_C]
  · rw [outsAt0_B m c t h0 h1]
    dsimp only
    rw [acc_B]

/-- The last point writes out the accumulator it leaves. -/
theorem out_last (t : Fin cfg0.N) (h1 : t.val % 17 = 16) (j : S1024x1024.Idx) :
    (outsAt0 m c t.val t.isLt).2.2.1 j = (outsAt0 m c t.val t.isLt).2.2.2 j := by
  rw [step_next m c t (by omega) j, outsAt0_C m c t (by omega) h1]
  dsimp only
  rw [dw_C]

/-- After the last point the accumulator holds the sum over all rows. -/
theorem sum_blocks (t : Fin cfg0.N) (ht : t.val + 1 = cfg0.N) (j : S1024x1024.Idx) :
    (outsAt0 m c t.val t.isLt).2.2.2 j = dw m c j := by
  refine (Pipeline.eq_sum_fin_of_reset_step_apply_last (fun n h => (outsAt0 m c n h).2.2.2) 17 (fun _ => (0 : EReal))
    (dpart m c) (step_first m c) (step_next m c) (le_of_eq N_0) t ht j).trans ?_
  rw [zero_add]
  refine Fin.sum_mul_add_congr (fun t k hl => ?_) (by rw [show cfg0.N = 17 from N_0])
  refine congrArg₂ (· * ·) (congrArg₂ (fun u v => halves u v (j 0)) (funext fun a => ?_) (funext fun a => ?_)) ?_
  · blk_point [iblk, V, idx t]
  · blk_point [iblk, V, idx t]
  · blk_point [iblk, V, idx t]

/-- The third array. -/
theorem dw_eq : (dats m 0 c).arrAt 6 cfg0.N = dw m c := by
  refine (dats m 0 c).arrAt_eq_of_covers 6 _ (by decide +kernel) fun t hf y => ?_
  blk_simp
  rw [after0_6]
  have h16 := (flush0_6 t).mp hf
  have hN : cfg0.N = 17 := N_0
  have hlt := t.isLt
  refine (out_last m c t h16 y).trans ((sum_blocks m c t (by omega) y).trans (congrArg (dw m c) ?_))
  blk_ext [idx t]

end Cert.OutprojIdeal.Hand

namespace Cert.OutprojReferenceIdeal.Hand

open Cert.OutprojMath Cert.OutprojReferenceIdeal Cert.OutprojReferenceIdeal.Gen
open Idealize.ShloMosaic Idealize.ShloMosaic.TcCoe Idealize.SL.Sem

variable (d : FVec Ideal S8704x1024 .f32) (zc za : Vec Ideal S8704x512 .bf16) (w : Vec Ideal S1024x1024 .bf16)

/-- The reference's gradient of the first half. -/
theorem zc_ref (j : S8704x512.Idx) :
    (truncf .bf16 (extractStridedSlice S8704x512 ![0, 0] (Host.dotGeneral dot_S8704x1024_S1024x1024_S8704x1024_1_1_0_0_n_n none d
      (extf .f32 w bitsLt_bf16_f32)) slices_S8704x1024_S8704x512_0_0) bitsLt_bf16_f32 : FVec Ideal S8704x512 .bf16) j
      = ∑ k : Fin 1024, d (ix2 (j 0) k) * w (ix2 (lo (j 1)) k) := by
  idx_vars j
  pointwise [lo]

/-- The reference's gradient of the second half. -/
theorem za_ref (j : S8704x512.Idx) :
    (truncf .bf16 (extractStridedSlice S8704x512 ![0, 512] (Host.dotGeneral dot_S8704x1024_S1024x1024_S8704x1024_1_1_0_0_n_n none d
      (extf .f32 w bitsLt_bf16_f32)) slices_S8704x1024_S8704x512_0_512) bitsLt_bf16_f32 : FVec Ideal S8704x512 .bf16) j
      = ∑ k : Fin 1024, d (ix2 (j 0) k) * w (ix2 (hi (j 1)) k) := by
  idx_vars j
  pointwise [hi]

/-- The reference's gradient of the weights. -/
theorem dw_ref (j : S1024x1024.Idx) :
    (truncf .bf16 (transpose S1024x1024 [1, 0] (Host.dotGeneral dot_S8704x1024_S8704x1024_S1024x1024_0_0_1_1_n_n none d
      (concatenate S8704x1024 1 [⟨S8704x512, (extf .f32 zc bitsLt_bf16_f32)⟩, ⟨S8704x512, (extf .f32 za bitsLt_bf16_f32)⟩]
        concatenates_S8704x512_S8704x512_S8704x1024_d1)) transposes_S1024x1024_S1024x1024_1_0) bitsLt_bf16_f32
        : FVec Ideal S1024x1024 .bf16) j
      = ∑ r : Fin 8704, halves (fun a => zc (ix2 r a)) (fun a => za (ix2 r a)) (j 0) * d (ix2 r (j 1)) := by
  refine Eq.trans ?_ (Finset.sum_congr rfl fun r _ => mul_comm (d (ix2 r (j 1)) : EReal) _)
  idx_vars j
  pointwise [halves]

end Cert.OutprojReferenceIdeal.Hand

namespace Cert.OutprojClaim

open Idealize.ShloMosaic Idealize.ShloMosaic.TcCoe Idealize.SL.Sem

/-- The two programs end with the same three results. -/
theorem algebraic : Cert.algebraic_OutprojIdeal_OutprojReferenceIdeal := fun m ρ m' ρ' _ hag =>
  ⟨fun c => Cert.OutprojIdeal.Hand.zc m c, fun c => Cert.OutprojIdeal.Hand.za m c, fun c => Cert.OutprojIdeal.Hand.dw m c,
    (θ_run _ _ _).mono (fun _ h c => ⟨(h c).1.trans (Cert.OutprojIdeal.Hand.zc_eq m c),
      (h c).2.1.trans (Cert.OutprojIdeal.Hand.za_eq m c),
      (h c).2.2.1.trans (Cert.OutprojIdeal.Hand.dw_eq m c), (h c).2.2.2⟩) (Cert.OutprojIdeal.Value.run_blocks m ρ),
    (θ_run _ _ _).mono (fun _ h c => ⟨(h c).1.trans (by
        rw [(hag c).1, (hag c).2.2.2]
        exact funext (Cert.OutprojReferenceIdeal.Hand.zc_ref _ _)),
      (h c).2.1.trans (by
        rw [(hag c).1, (hag c).2.2.2]
        exact funext (Cert.OutprojReferenceIdeal.Hand.za_ref _ _)),
      (h c).2.2.1.trans (by
        rw [(hag c).1, (hag c).2.1, (hag c).2.2.1]
        exact funext (Cert.OutprojReferenceIdeal.Hand.dw_ref _ _ _)), (h c).2.2.2⟩) (Cert.OutprojReferenceIdeal.Value.run m' ρ')⟩

end Cert.OutprojClaim
-- ==== Proof.InprojMath.lean ====
/-
  Seven pieces side by side, six of 512 lanes and one of 128, and the norm of a row.
-/
module

public import proofs.«01_k».proof.Proof.NormMath
public import Idealize.ShloMosaic.Lib.Pointwise

@[expose] public section

noncomputable section

namespace Cert.InprojMath

open Cert.NormMath Cert.Finite

/-- Two pieces side by side. -/
def side {a b n : ℕ} (h : n = a + b) (u : Fin a → EReal) (v : Fin b → EReal) (k : Fin n) : EReal :=
  if l : k.val < a then u ⟨k.val, l⟩ else v ⟨k.val - a, by omega⟩

/-- In the first piece. -/
theorem side_lo {a b n : ℕ} (h : n = a + b) (u : Fin a → EReal) (v : Fin b → EReal) (k : Fin n) (r : Fin a)
    (e : k.val = r.val) : side h u v k = u r := by
  unfold side
  rw [dif_pos (by omega)]
  exact congrArg u (Fin.ext e)

/-- In the second piece. -/
theorem side_hi {a b n : ℕ} (h : n = a + b) (u : Fin a → EReal) (v : Fin b → EReal) (k : Fin n) (r : Fin b)
    (e : k.val = a + r.val) : side h u v k = v r := by
  unfold side
  rw [dif_neg (by omega)]
  exact congrArg v (Fin.ext (Nat.sub_eq_of_eq_add (e.trans (Nat.add_comm _ _))))

/-- A sum over both pieces. -/
theorem side_sum {a b n : ℕ} (h : n = a + b) (u : Fin a → EReal) (v : Fin b → EReal) (w : Fin n → EReal) :
    ∑ k, side h u v k * w k = ∑ k, u k * w ⟨k.val, by omega⟩ + ∑ k, v k * w ⟨a + k.val, by omega⟩ := by
  subst h
  rw [Fin.sum_univ_add]
  congr 1
  · refine Finset.sum_congr rfl fun k _ => ?_
    rw [side_lo rfl u v _ k rfl]
    rfl
  · refine Finset.sum_congr rfl fun k _ => ?_
    rw [side_hi rfl u v _ k rfl]
    rfl

/-- The seven pieces. -/
def pieces (p0 p1 p2 p3 p4 p5 : Fin 512 → EReal) (q : Fin 128 → EReal) : Fin 3200 → EReal :=
  side (a := 512) (b := 2688) (by norm_num) p0 <| side (a := 512) (b := 2176) (by norm_num) p1 <|
  side (a := 512) (b := 1664) (by norm_num) p2 <| side (a := 512) (b := 1152) (by norm_num) p3 <|
  side (a := 512) (b := 640) (by norm_num) p4 <| side (a := 512) (b := 128) (by norm_num) p5 q

section

variable (p0 p1 p2 p3 p4 p5 : Fin 512 → EReal) (q : Fin 128 → EReal) (k : Fin 3200) (r : Fin 512) (s : Fin 128)

/-- Piece 0. -/
theorem pieces_0 (e : k.val = r.val) : pieces p0 p1 p2 p3 p4 p5 q k = p0 r := side_lo _ _ _ _ _ e
/-- Piece 1. -/
theorem pieces_1 (e : k.val = 512 + r.val) : pieces p0 p1 p2 p3 p4 p5 q k = p1 r :=
  (side_hi _ _ _ _ ⟨r.val, by omega⟩ (by simp only; omega)).trans (side_lo _ _ _ _ _ rfl)
/-- Piece 2. -/
theorem pieces_2 (e : k.val = 1024 + r.val) : pieces p0 p1 p2 p3 p4 p5 q k = p2 r :=
  (side_hi _ _ _ _ ⟨512 + r.val, by omega⟩ (by simp only; omega)).trans <|
  (side_hi _ _ _ _ ⟨r.val, by omega⟩ (by simp only)).trans (side_lo _ _ _ _ _ rfl)
/-- Piece 3. -/
theorem pieces_3 (e : k.val = 1536 + r.val) : pieces p0 p1 p2 p3 p4 p5 q k = p3 r :=
  (side_hi _ _ _ _ ⟨1024 + r.val, by omega⟩ (by simp only; omega)).trans <|
  (side_hi _ _ _ _ ⟨512 + r.val, by omega⟩ (by simp only; omega)).trans <|
  (side_hi _ _ _ _ ⟨r.val, by omega⟩ (by simp only)).trans (side_lo _ _ _ _ _ rfl)
/-- Piece 4. -/
theorem pieces_4 (e : k.val = 2048 + r.val) : pieces p0 p1 p2 p3 p4 p5 q k = p4 r :=
  (side_hi _ _ _ _ ⟨1536 + r.val, by omega⟩ (by simp only; omega)).trans <|
  (side_hi _ _ _ _ ⟨1024 + r.val, by omega⟩ (by simp only; omega)).trans <|
  (side_hi _ _ _ _ ⟨512 + r.val, by omega⟩ (by simp only; omega)).trans <|
  (side_hi _ _ _ _ ⟨r.val, by omega⟩ (by simp only)).trans (side_lo _ _ _ _ _ rfl)
/-- Piece 5. -/
theorem pieces_5 (e : k.val = 2560 + r.val) : pieces p0 p1 p2 p3 p4 p5 q k = p5 r :=
  (side_hi _ _ _ _ ⟨2048 + r.val, by omega⟩ (by simp only; omega)).trans <|
  (side_hi _ _ _ _ ⟨1536 + r.val, by omega⟩ (by simp only; omega)).trans <|
  (side_hi _ _ _ _ ⟨1024 + r.val, by omega⟩ (by simp only; omega)).trans <|
  (side_hi _ _ _ _ ⟨512 + r.val, by omega⟩ (by simp only; omega)).trans <|
  (side_hi _ _ _ _ ⟨r.val, by omega⟩ (by simp only)).trans (side_lo _ _ _ _ _ rfl)
/-- The last piece. -/
theorem pieces_6 (e : k.val = 3072 + s.val) : pieces p0 p1 p2 p3 p4 p5 q k = q s :=
  (side_hi _ _ _ _ ⟨2560 + s.val, by omega⟩ (by simp only; omega)).trans <|
  (side_hi _ _ _ _ ⟨2048 + s.val, by omega⟩ (by simp only; omega)).trans <|
  (side_hi _ _ _ _ ⟨1536 + s.val, by omega⟩ (by simp only; omega)).trans <|
  (side_hi _ _ _ _ ⟨1024 + s.val, by omega⟩ (by simp only; omega)).trans <|
  (side_hi _ _ _ _ ⟨512 + s.val, by omega⟩ (by simp only; omega)).trans <|
  side_hi _ _ _ _ s (by simp only)

/-- A sum over all pieces, one piece after the other. -/
theorem pieces_sum (w : Fin 3200 → EReal) : ∑ k, pieces p0 p1 p2 p3 p4 p5 q k * w k
    = 0 + ∑ k : Fin 512, p0 k * w ⟨k.val, by omega⟩ + ∑ k : Fin 512, p1 k * w ⟨512 + k.val, by omega⟩
      + ∑ k : Fin 512, p2 k * w ⟨1024 + k.val, by omega⟩ + ∑ k : Fin 512, p3 k * w ⟨1536 + k.val, by omega⟩
      + ∑ k : Fin 512, p4 k * w ⟨2048 + k.val, by omega⟩ + ∑ k : Fin 512, p5 k * w ⟨2560 + k.val, by omega⟩
      + ∑ k : Fin 128, q k * w ⟨3072 + k.val, by omega⟩ := by
  simp only [pieces, side_sum, zero_add, add_assoc, ← Nat.add_assoc, Nat.reduceAdd]

end

/-- A row of the gradient of the normed rows: the pieces times the weights. -/
def back (u : Fin 3200 → EReal) (w : Fin 3200 → Fin 1024 → EReal) (j : Fin 1024) : EReal := ∑ k, u k * w k j

/-- A row's norm, by the gain. -/
def normed (h g : Fin 1024 → EReal) (j : Fin 1024) : EReal := h j * root h * g j

end Cert.InprojMath
-- ==== Proof.InprojBlock.lean ====
/-
  The gradient of the input projection and of the norm before it, block of 512 rows by block: the rows' gradient, the block's
  part of the gain's gradient, and its part of the weights' gradient, seven row pieces of an accumulator.
-/
module

public import proofs.«01_k».proof.Proof.Gen.InprojIdeal.Value
public import proofs.«01_k».proof.Proof.InprojMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InprojIdeal.Hand

open Cert.InprojIdeal Cert.InprojIdeal.Gen Idealize.ShloMosaic Idealize.ShloMosaic.TcCoe Idealize.SL.Sem
open Idealize.ShloMosaic.Pipeline (Dat)
open Cert.InprojMath
open Cert.NormMath (root meanSq rowOut)

section Body

variable (c : Dev nD) (i : grid0.Coords) (a1 : Memref sig .tc .vmem S512x512 .bf16) (h1 : a1.IsWhole) (a2 : Memref sig .tc
  .vmem S512x512 .bf16) (h2 : a2.IsWhole) (a3 : Memref sig .tc .vmem S512x512 .bf16) (h3 : a3.IsWhole) (a4 : Memref sig
  .tc .vmem S512x512 .bf16) (h4 : a4.IsWhole) (a5 : Memref sig .tc .vmem S512x512 .bf16) (h5 : a5.IsWhole) (a6 : Memref
  sig .tc .vmem S512x512 .bf16) (h6 : a6.IsWhole) (a7 : Memref sig .tc .vmem S512x128 .f32) (h7 : a7.IsWhole) (a8 :
  Memref sig .tc .vmem S512x1024 .f32) (h8 : a8.IsWhole) (a9 : Memref sig .tc .vmem S512x1024 .f32) (h9 : a9.IsWhole)
  (a10 : Memref sig .tc .vmem S1x1024 .f32) (h10 : a10.IsWhole) (a11 : Memref sig .tc .vmem S3200x1024 .bf16) (h11 :
  a11.IsWhole) (a12 : Memref sig .tc .vmem S512x1024 .f32) (h12 : a12.IsWhole) (a13 : Memref sig .tc .vmem S3200x1024
  .bf16) (h13 : a13.IsWhole) (a14 : Memref sig .tc .vmem S1x1024 .f32) (h14 : a14.IsWhole) (a15 : Memref sig .tc .vmem
  S3200x1024 .f32) (h15 : a15.IsWhole)
  (x0 : Vec Ideal S512x512 .bf16) (x1 : Vec Ideal S512x512 .bf16) (x2 : Vec Ideal S512x512 .bf16) (x3 : Vec Ideal
  S512x512 .bf16) (x4 : Vec Ideal S512x512 .bf16) (x5 : Vec Ideal S512x512 .bf16) (x6 : Vec Ideal S512x128 .f32) (x7 :
  Vec Ideal S512x1024 .f32) (x8 : Vec Ideal S512x1024 .f32) (x9 : Vec Ideal S1x1024 .f32) (x10 : Vec Ideal S3200x1024
  .bf16) (xo13 : Vec Ideal S1x1024 .f32) (xs0 : Vec Ideal S3200x1024 .f32)

/-- A block's row `r` of the seven pieces. -/
def lanes (r : Fin 512) : Fin 3200 → EReal :=
  pieces (fun a => x0 (ix2 r a)) (fun a => x1 (ix2 r a)) (fun a => x2 (ix2 r a)) (fun a => x3 (ix2 r a)) (fun a => x4
  (ix2 r a)) (fun a => x5 (ix2 r a)) (fun a => x6 (ix2 r a))

/-- A block's row `r` of the gradient of the normed rows. -/
def dn (r : Fin 512) : Fin 1024 → EReal := back (lanes x0 x1 x2 x3 x4 x5 x6 r) fun k j => x10 (ix2 k j)

/-- A block's row `r` of the norm's argument. -/
def row (r : Fin 512) : Fin 1024 → EReal := fun k => x8 (ix2 r k)

/-- What one block adds at row `j 0`, column `j 1` of the weights' gradient. -/
def part (j : S3200x1024.Idx) : EReal :=
  ∑ r : Fin 512, lanes x0 x1 x2 x3 x4 x5 x6 r (j 0) * normed (row x8 r) (fun k => x9 (ix2 0 k)) (j 1)

/-- In the rows of piece 0. -/
theorem part_0 (j : S3200x1024.Idx) (k : Fin 512) (e : (j 0).val = k.val) : part x0 x1 x2 x3 x4 x5 x6 x8 x9 j
    = ∑ r : Fin 512, x0 (ix2 r k) * normed (row x8 r) (fun k => x9 (ix2 0 k)) (j 1) := by
  simp only [part, lanes, pieces_0 _ _ _ _ _ _ _ _ k e]

/-- In the rows of piece 1. -/
theorem part_1 (j : S3200x1024.Idx) (k : Fin 512) (e : (j 0).val = 512 + k.val) : part x0 x1 x2 x3 x4 x5 x6 x8 x9 j
    = ∑ r : Fin 512, x1 (ix2 r k) * normed (row x8 r) (fun k => x9 (ix2 0 k)) (j 1) := by
  simp only [part, lanes, pieces_1 _ _ _ _ _ _ _ _ k e]

/-- In the rows of piece 2. -/
theorem part_2 (j : S3200x1024.Idx) (k : Fin 512) (e : (j 0).val = 1024 + k.val) : part x0 x1 x2 x3 x4 x5 x6 x8 x9 j
    = ∑ r : Fin 512, x2 (ix2 r k) * normed (row x8 r) (fun k => x9 (ix2 0 k)) (j 1) := by
  simp only [part, lanes, pieces_2 _ _ _ _ _ _ _ _ k e]

/-- In the rows of piece 3. -/
theorem part_3 (j : S3200x1024.Idx) (k : Fin 512) (e : (j 0).val = 1536 + k.val) : part x0 x1 x2 x3 x4 x5 x6 x8 x9 j
    = ∑ r : Fin 512, x3 (ix2 r k) * normed (row x8 r) (fun k => x9 (ix2 0 k)) (j 1) := by
  simp only [part, lanes, pieces_3 _ _ _ _ _ _ _ _ k e]

/-- In the rows of piece 4. -/
theorem part_4 (j : S3200x1024.Idx) (k : Fin 512) (e : (j 0).val = 2048 + k.val) : part x0 x1 x2 x3 x4 x5 x6 x8 x9 j
    = ∑ r : Fin 512, x4 (ix2 r k) * normed (row x8 r) (fun k => x9 (ix2 0 k)) (j 1) := by
  simp only [part, lanes, pieces_4 _ _ _ _ _ _ _ _ k e]

/-- In the rows of piece 5. -/
theorem part_5 (j : S3200x1024.Idx) (k : Fin 512) (e : (j 0).val = 2560 + k.val) : part x0 x1 x2 x3 x4 x5 x6 x8 x9 j
    = ∑ r : Fin 512, x5 (ix2 r k) * normed (row x8 r) (fun k => x9 (ix2 0 k)) (j 1) := by
  simp only [part, lanes, pieces_5 _ _ _ _ _ _ _ _ k e]

/-- In the rows of piece 6. -/
theorem part_6 (j : S3200x1024.Idx) (k : Fin 128) (e : (j 0).val = 3072 + k.val) : part x0 x1 x2 x3 x4 x5 x6 x8 x9 j
    = ∑ r : Fin 512, x6 (ix2 r k) * normed (row x8 r) (fun k => x9 (ix2 0 k)) (j 1) := by
  simp only [part, lanes, pieces_6 _ _ _ _ _ _ _ _ k e]

/-- A block's rows of the first result, case A. -/
theorem out_A (hc0 : cond0_0 i) (hc1 : ¬cond0_1 i) (j : S512x1024.Idx) :
    out0_A_11 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 j
      = rowOut (row x8 (j 0)) (fun k => x7 (ix2 (j 0) k)) (fun k => x9 (ix2 0 k)) (dn x0 x1 x2 x3 x4 x5 x6 x10 (j 0)) (j 1) := by
  frame_out
  idx_vars j
  pointwise [k0_pay1, k0_pay6, k0_pay7, k0_pay9, k0_pay11, k0_pay14, k0_pay18, k0_pay19, rowOut, row, dn, back, lanes, root, meanSq, pieces_sum]

/-- The gain's gradient, case A. -/
theorem gain_A (hc0 : cond0_0 i) (hc1 : ¬cond0_1 i) (j : S1x1024.Idx) :
    out0_A_13 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 j
      = 0 + ∑ r : Fin 512, dn x0 x1 x2 x3 x4 x5 x6 x10 r (j 1) * (row x8 r (j 1) * root (row x8 r)) := by
  frame_out
  idx_vars j
  pointwise [k0_pay2, k0_pay5, k0_pay6, k0_pay7, k0_pay9, k0_pay11, k0_pay14, k0_pay18, k0_pay19, row, dn, back, lanes, root, meanSq, pieces_sum]

/-- The accumulator, case A. -/
theorem acc_A (hc0 : cond0_0 i) (hc1 : ¬cond0_1 i) (j : S3200x1024.Idx) :
    sout0_A_0 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 j
      = 0 + part x0 x1 x2 x3 x4 x5 x6 x8 x9 j := by
  frame_open
  simp (disch := decide) only [↓ View.readCov_skip, ↓ View.readCov_cons_toLoadRect, ↓ View.readCov_fill]
  frame_out
  refine View.canon_append_of_piecesOf (Val := Elt Ideal) (e := .f32) (fun j => 0 + part x0 x1 x2 x3 x4 x5 x6 x8 x9 j) [_] [_, _, _, _, _, _, _]
    ⟨?_, ?_, ?_, ?_, ?_, ?_, ?_, trivial⟩ j (View.cover_of_tiledBy _ ![128, 1024] (by sl_kernel_rfl) j)
  · intro y
    idx_vars y
    refine Eq.trans ?_ (congrArg ((0 : EReal) + ·) (part_6 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg ((0 : EReal) + ·) (part_5 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg ((0 : EReal) + ·) (part_4 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg ((0 : EReal) + ·) (part_3 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg ((0 : EReal) + ·) (part_2 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg ((0 : EReal) + ·) (part_1 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg ((0 : EReal) + ·) (part_0 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []

/-- A block's rows of the first result, case B. -/
theorem out_B (hc0 : ¬cond0_0 i) (hc1 : ¬cond0_1 i) (j : S512x1024.Idx) :
    out0_B_11 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 xo13 xs0 j
      = rowOut (row x8 (j 0)) (fun k => x7 (ix2 (j 0) k)) (fun k => x9 (ix2 0 k)) (dn x0 x1 x2 x3 x4 x5 x6 x10 (j 0)) (j 1) := by
  frame_out
  idx_vars j
  pointwise [k0_pay1, k0_pay6, k0_pay7, k0_pay9, k0_pay11, k0_pay14, k0_pay18, k0_pay19, rowOut, row, dn, back, lanes, root, meanSq, pieces_sum]

/-- The gain's gradient, case B. -/
theorem gain_B (hc0 : ¬cond0_0 i) (hc1 : ¬cond0_1 i) (j : S1x1024.Idx) :
    out0_B_13 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 xo13 xs0 j
      = xo13 j + ∑ r : Fin 512, dn x0 x1 x2 x3 x4 x5 x6 x10 r (j 1) * (row x8 r (j 1) * root (row x8 r)) := by
  frame_out
  idx_vars j
  pointwise [k0_pay2, k0_pay5, k0_pay6, k0_pay7, k0_pay9, k0_pay11, k0_pay14, k0_pay18, k0_pay19, row, dn, back, lanes, root, meanSq, pieces_sum]

/-- The accumulator, case B. -/
theorem acc_B (hc0 : ¬cond0_0 i) (hc1 : ¬cond0_1 i) (j : S3200x1024.Idx) :
    sout0_B_0 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 xo13 xs0 j
      = xs0 j + part x0 x1 x2 x3 x4 x5 x6 x8 x9 j := by
  frame_out
  refine View.canon_append_of_piecesOf (Val := Elt Ideal) (e := .f32) (fun j => xs0 j + part x0 x1 x2 x3 x4 x5 x6 x8 x9 j) [] [_, _, _, _, _, _, _]
    ⟨?_, ?_, ?_, ?_, ?_, ?_, ?_, trivial⟩ j (View.cover_of_tiledBy _ ![128, 1024] (by sl_kernel_rfl) j)
  · intro y
    idx_vars y
    refine Eq.trans ?_ (congrArg (xs0 _ + ·) (part_6 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_5 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_4 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_3 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_2 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_1 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_0 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []

/-- A block's rows of the first result, case C. -/
theorem out_C (hc0 : ¬cond0_0 i) (hc1 : cond0_1 i) (j : S512x1024.Idx) :
    out0_C_11 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 xo13 xs0 j
      = rowOut (row x8 (j 0)) (fun k => x7 (ix2 (j 0) k)) (fun k => x9 (ix2 0 k)) (dn x0 x1 x2 x3 x4 x5 x6 x10 (j 0)) (j 1) := by
  frame_out
  idx_vars j
  pointwise [k0_pay1, k0_pay6, k0_pay7, k0_pay9, k0_pay11, k0_pay14, k0_pay18, k0_pay19, rowOut, row, dn, back, lanes, root, meanSq, pieces_sum]

/-- The gain's gradient, case C. -/
theorem gain_C (hc0 : ¬cond0_0 i) (hc1 : cond0_1 i) (j : S1x1024.Idx) :
    out0_C_13 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 xo13 xs0 j
      = xo13 j + ∑ r : Fin 512, dn x0 x1 x2 x3 x4 x5 x6 x10 r (j 1) * (row x8 r (j 1) * root (row x8 r)) := by
  frame_out
  idx_vars j
  pointwise [k0_pay2, k0_pay5, k0_pay6, k0_pay7, k0_pay9, k0_pay11, k0_pay14, k0_pay18, k0_pay19, row, dn, back, lanes, root, meanSq, pieces_sum]

/-- The accumulator, case C. -/
theorem acc_C (hc0 : ¬cond0_0 i) (hc1 : cond0_1 i) (j : S3200x1024.Idx) :
    sout0_C_0 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 xo13 xs0 j
      = xs0 j + part x0 x1 x2 x3 x4 x5 x6 x8 x9 j := by
  frame_out
  refine View.canon_append_of_piecesOf (Val := Elt Ideal) (e := .f32) (fun j => xs0 j + part x0 x1 x2 x3 x4 x5 x6 x8 x9 j) [] [_, _, _, _, _, _, _]
    ⟨?_, ?_, ?_, ?_, ?_, ?_, ?_, trivial⟩ j (View.cover_of_tiledBy _ ![128, 1024] (by sl_kernel_rfl) j)
  · intro y
    idx_vars y
    refine Eq.trans ?_ (congrArg (xs0 _ + ·) (part_6 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_5 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_4 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_3 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_2 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_1 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []
  · intro y
    idx_vars y
    refine Eq.trans ?_ (congrArg (xs0 _ + ·) (part_0 x0 x1 x2 x3 x4 x5 x6 x8 x9 _ y0 (by simp)).symm)
    pointwise [k0_pay4, k0_pay6, k0_pay7, k0_pay8, k0_pay10, k0_pay12, k0_pay13, k0_pay15, k0_pay16, k0_pay17, k0_pay18, k0_pay20, normed, row, root, meanSq]
    blk_point []

/-- What the last point writes out is the accumulator it leaves. -/
theorem dw_C (hc0 : ¬cond0_0 i) (hc1 : cond0_1 i) (j : S3200x1024.Idx) :
    out0_C_12 (F := Ideal) c i a1 h1 a2 h2 a3 h3 a4 h4 a5 h5 a6 h6 a7 h7 a8 h8 a9 h9 a10 h10 a11 h11 a12 h12 a13 h13 a14
  h14 a15 h15 hc0 hc1 x0 x1 x2 x3 x4 x5 x6 x7 x8 x9 x10 xo13 xs0 j
      = xs0 j + part x0 x1 x2 x3 x4 x5 x6 x8 x9 j := by
  rw [← acc_C c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 xo13 xs0 hc0 hc1 j]
  frame_out
  unfold k0_pay3
  rw [View.readCov_eq_canon']
  generalize (View.canon (Val := Elt Ideal) (s := S3200x1024) (e := .f32) _ : Vec Ideal S3200x1024 .f32) = Z
  pointwise []

end Body

end Cert.InprojIdeal.Hand
-- ==== Proof.InprojValue.lean ====
/-
  What the kernel of the gradient of the input projection leaves in its three result arrays.
-/
module

public import proofs.«01_k».proof.Proof.InprojBlock

@[expose] public section

set_option maxRecDepth 16384

noncomputable section

namespace Cert.InprojIdeal.Hand

open Cert.InprojIdeal Cert.InprojIdeal.Gen Idealize.ShloMosaic Idealize.ShloMosaic.TcCoe Idealize.SL.Sem
open Idealize.ShloMosaic.Pipeline (Dat)
open Cert.InprojMath
open Cert.NormMath (root meanSq rowOut)

variable (m : (ℓ : Loc nD τ sig) → Buf (Elt Ideal) ℓ) (c : Dev nD)

/-- The first piece of the gradient of the projected rows. -/
abbrev arg0 : Vec Ideal S8704x512 .bf16 := m ((c.tc : Thread nD τ).loc main_arg0)
/-- The second piece. -/
abbrev arg1 : Vec Ideal S8704x512 .bf16 := m ((c.tc : Thread nD τ).loc main_arg1)
/-- The third piece. -/
abbrev arg2 : Vec Ideal S8704x512 .bf16 := m ((c.tc : Thread nD τ).loc main_arg2)
/-- The fourth piece. -/
abbrev arg3 : Vec Ideal S8704x512 .bf16 := m ((c.tc : Thread nD τ).loc main_arg3)
/-- The fifth piece. -/
abbrev arg4 : Vec Ideal S8704x512 .bf16 := m ((c.tc : Thread nD τ).loc main_arg4)
/-- The sixth piece. -/
abbrev arg5 : Vec Ideal S8704x512 .bf16 := m ((c.tc : Thread nD τ).loc main_arg5)
/-- The last piece, of 128 lanes. -/
abbrev arg6 : Vec Ideal S8704x128 .f32 := m ((c.tc : Thread nD τ).loc main_arg6)
/-- The gradient that comes by the side. -/
abbrev arg7 : Vec Ideal S8704x1024 .f32 := m ((c.tc : Thread nD τ).loc main_arg7)
/-- The norm's argument. -/
abbrev arg8 : Vec Ideal S8704x1024 .f32 := m ((c.tc : Thread nD τ).loc main_arg8)
/-- The norm's gain. -/
abbrev arg9 : Vec Ideal S1x1024 .f32 := m ((c.tc : Thread nD τ).loc main_arg9)
/-- The padded weights. -/
abbrev arg10 : Vec Ideal S3200x1024 .bf16 := m ((c.tc : Thread nD τ).loc main_arg10)

/-- Row `r` of the seven pieces. -/
def lrow (r : Fin 8704) : Fin 3200 → EReal :=
  pieces (fun a => arg0 m c (ix2 r a)) (fun a => arg1 m c (ix2 r a)) (fun a => arg2 m c (ix2 r a)) (fun a => arg3 m c
  (ix2 r a)) (fun a => arg4 m c (ix2 r a)) (fun a => arg5 m c (ix2 r a)) (fun a => arg6 m c (ix2 r a))

/-- Row `r` of the norm's argument. -/
def hrow (r : Fin 8704) : Fin 1024 → EReal := fun k => arg8 m c (ix2 r k)

/-- Row `r` of the gradient of the normed rows. -/
def drow (r : Fin 8704) : Fin 1024 → EReal := back (lrow m c r) fun k j => arg10 m c (ix2 k j)

/-- The gain. -/
def gainv : Fin 1024 → EReal := fun k => arg9 m c (ix2 0 k)

/-- The first result. -/
def out : S8704x1024.Idx → EReal := fun j =>
  rowOut (hrow m c (j 0)) (fun k => arg7 m c (ix2 (j 0) k)) (gainv m c) (drow m c (j 0)) (j 1)

/-- The second result, the weights' gradient. -/
def dw : S3200x1024.Idx → EReal := fun j =>
  ∑ r : Fin 8704, lrow m c r (j 0) * normed (hrow m c r) (gainv m c) (j 1)

/-- The third result, the gain's gradient. -/
def gain : S1x1024.Idx → EReal := fun j =>
  ∑ r : Fin 8704, drow m c r (j 1) * (hrow m c r (j 1) * root (hrow m c r))

/-- Which blocks a point reads and writes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![0, 0] ∧ win0_10.index t = ![0, 0]
    ∧ win0_11.index t = ![t.val, 0] ∧ win0_12.index t = ![0, 0] ∧ win0_13.index t = ![0, 0] :=
  (by decide +kernel : ∀ t : Fin grid0.N, _)

/-- Row `r` of block `t` is row `512 t + r`. -/
def at_ (t : Fin cfg0.N) (r : Fin 512) : Fin 8704 := ⟨512 * t.val + r.val, by
  have h := t.isLt
  have hN : cfg0.N = 17 := N_0
  omega⟩

/-- A block's row of the seven pieces. -/
theorem lanes_blk (t : Fin cfg0.N) (r : Fin 512) :
    lanes (iblk m c 0 t) (iblk m c 1 t) (iblk m c 2 t) (iblk m c 3 t) (iblk m c 4 t) (iblk m c 5 t) (iblk m c 6 t) r = lrow m c (at_ t r) := by
  unfold lanes lrow
  congr 1
  · funext a
    simp only [at_]
    blk_point [iblk, V, idx t]
  · funext a
    simp only [at_]
    blk_point [iblk, V, idx t]
  · funext a
    simp only [at_]
    blk_point [iblk, V, idx t]
  · funext a
    simp only [at_]
    blk_point [iblk, V, idx t]
  · funext a
    simp only [at_]
    blk_point [iblk, V, idx t]
  · funext a
    simp only [at_]
    blk_point [iblk, V, idx t]
  · funext a
    simp only [at_]
    blk_point [iblk, V, idx t]

/-- A block's row of the norm's argument. -/
theorem row_blk (t : Fin cfg0.N) (r : Fin 512) : row (iblk m c 8 t) r = hrow m c (at_ t r) := by
  funext k
  simp only [row, hrow, at_]
  blk_point [iblk, V, idx t]

/-- A block's row of the gradient of the normed rows. -/
theorem dn_blk (t : Fin cfg0.N) (r : Fin 512) :
    dn (iblk m c 0 t) (iblk m c 1 t) (iblk m c 2 t) (iblk m c 3 t) (iblk m c 4 t) (iblk m c 5 t) (iblk m c 6 t) (iblk m c 10 t) r = drow m c (at_ t r) := by
  unfold dn drow
  rw [lanes_blk]
  refine congrArg (back _) (funext fun k => funext fun j => ?_)
  blk_point [iblk, V, idx t]

/-- The gain's block is the gain. -/
theorem gain_blk (t : Fin cfg0.N) : (fun k => (iblk m c 9 t : Vec Ideal S1x1024 .f32) (ix2 0 k)) = gainv m c := by
  funext k
  simp only [gainv]
  blk_point [iblk, V, idx t]

/-- A block's row of what comes by the side. -/
theorem side_blk (t : Fin cfg0.N) (r : Fin 512) :
    (fun k => (iblk m c 7 t : Vec Ideal S512x1024 .f32) (ix2 r k)) = fun k => arg7 m c (ix2 (at_ t r) k) := by
  funext k
  simp only [at_]
  blk_point [iblk, V, idx t]

/-- What a point leaves of the first result, whatever the case. -/
theorem out_at (t : Fin cfg0.N) (y : S512x1024.Idx) :
    (outsAt0 m c t.val t.isLt).1 y = out m c (ix2 (at_ t (y 0)) (y 1)) := by
  have e : (outsAt0 m c t.val t.isLt).1 y = rowOut (row (iblk m c 8 t) (y 0))
      (fun k => (iblk m c 7 t : Vec Ideal S512x1024 .f32) (ix2 (y 0) k))
      (fun k => (iblk m c 9 t : Vec Ideal S1x1024 .f32) (ix2 0 k))
      (dn (iblk m c 0 t) (iblk m c 1 t) (iblk m c 2 t) (iblk m c 3 t) (iblk m c 4 t) (iblk m c 5 t) (iblk m c 6 t) (iblk m c 10 t) (y 0)) (y 1) := by
    by_cases h0 : t.val % 17 = 0
    · rw [outsAt0_A m c t h0 (by omega)]
      dsimp only
      rw [out_A]
    · by_cases h1 : t.val % 17 = 16
      · rw [outsAt0_C m c t h0 h1]
        dsimp only
        rw [out_C]
      · rw [outsAt0_B m c t h0 h1]
        dsimp only
        rw [out_B]
  refine e.trans ?_
  have e1 := row_blk m c t (y 0)
  have e2 := side_blk m c t (y 0)
  have e3 := dn_blk m c t (y 0)
  exact congr (congr (congr (congr (congrArg rowOut e1) e2) (gain_blk m c t)) e3) (Eq.refl (y 1))

/-- The first array. -/
theorem out_eq : (dats m 0 c).arrAt 11 cfg0.N = out m c := by
  refine (dats m 0 c).arrAt_eq_of_covers 11 _ (by decide +kernel) fun t hf y => ?_
  blk_simp
  rw [after0_11]
  refine (out_at m c t y).trans (congrArg (out m c) ?_)
  simp only [at_]
  blk_ext [idx t]

/-- The block `t`'s part of the gain's gradient. -/
abbrev gpart (t : Fin cfg0.N) (j : S1x1024.Idx) : EReal :=
  ∑ r : Fin 512, dn (iblk m c 0 t) (iblk m c 1 t) (iblk m c 2 t) (iblk m c 3 t) (iblk m c 4 t) (iblk m c 5 t) (iblk m c 6 t) (iblk m c 10 t) r (j 1)
    * (row (iblk m c 8 t) r (j 1) * root (row (iblk m c 8 t) r))

/-- The block `t`'s part of the weights' gradient. -/
abbrev dpart (t : Fin cfg0.N) (j : S3200x1024.Idx) : EReal :=
  part (iblk m c 0 t) (iblk m c 1 t) (iblk m c 2 t) (iblk m c 3 t) (iblk m c 4 t) (iblk m c 5 t) (iblk m c 6 t) (iblk m c 8 t) (iblk m c 9 t) j

/-- The first point leaves its block's part. -/
theorem gain_first (t : Fin cfg0.N) (h0 : t.val % 17 = 0) (j : S1x1024.Idx) :
    (outsAt0 m c t.val t.isLt).2.2.1 j = 0 + gpart m c t j := by
  rw [outsAt0_A m c t h0 (by omega)]
  dsimp only
  rw [gain_A]

/-- The others add theirs. -/
theorem gain_next (t : Fin cfg0.N) (h0 : ¬t.val % 17 = 0) (j : S1x1024.Idx) :
    (outsAt0 m c t.val t.isLt).2.2.1 j
      = (outsAt0 m c (t.val - 1) (Nat.lt_of_le_of_lt (Nat.sub_le _ _) t.isLt)).2.2.1 j + gpart m c t j := by
  by_cases h1 : t.val % 17 = 16
  · rw [outsAt0_C m c t h0 h1]
    dsimp only
    rw [gain_C]
  · rw [outsAt0_B m c t h0 h1]
    dsimp only
    rw [gain_B]

/-- After the last point all parts are summed. -/
theorem gain_last (t : Fin cfg0.N) (ht : t.val + 1 = cfg0.N) (j : S1x1024.Idx) :
    (outsAt0 m c t.val t.isLt).2.2.1 j = gain m c j := by
  refine (Pipeline.eq_sum_fin_of_reset_step_apply_last (fun n h => (outsAt0 m c n h).2.2.1) 17 (fun _ => (0 : EReal))
    (gpart m c) (gain_first m c) (gain_next m c) (le_of_eq N_0) t ht j).trans ?_
  rw [zero_add]
  refine Fin.sum_mul_add_congr (fun t k hl => ?_) (by rw [show cfg0.N = 17 from N_0])
  have e : (⟨t.val * 512 + k.val, hl⟩ : Fin 8704) = at_ t k := Fin.ext (by simp only [at_]; omega)
  rw [dn_blk, row_blk, e]

/-- The third array. -/
theorem gain_eq : (dats m 0 c).arrAt 13 cfg0.N = gain m c := by
  refine (dats m 0 c).arrAt_eq_of_covers 13 _ (by decide +kernel) fun t hf y => ?_
  blk_simp
  rw [after0_13]
  have h16 := (flush0_13 t).mp hf
  have hN : cfg0.N = 17 := N_0
  have hlt := t.isLt
  refine (gain_last m c t (by omega) y).trans (congrArg (gain m c) ?_)
  blk_ext [idx t]

/-- The first point leaves its block's part in the accumulator. -/
theorem step_first (t : Fin cfg0.N) (h0 : t.val % 17 = 0) (j : S3200x1024.Idx) :
    (outsAt0 m c t.val t.isLt).2.2.2 j = 0 + dpart m c t j := by
  rw [outsAt0_A m c t h0 (by omega)]
  dsimp only
  rw [acc_A]

/-- Every other point adds its block's part. -/
theorem step_next (t : Fin cfg0.N) (h0 : ¬t.val % 17 = 0) (j : S3200x1024.Idx) :
    (outsAt0 m c t.val t.isLt).2.2.2 j
      = (outsAt0 m c (t.val - 1) (Nat.lt_of_le_of_lt (Nat.sub_le _ _) t.isLt)).2.2.2 j + dpart m c t j := by
  by_cases h1 : t.val % 17 = 16
  · rw [outsAt0_C m c t h0 h1]
    dsimp only
    rw [acc_C]
  · rw [outsAt0_B m c t h0 h1]
    dsimp only
    rw [acc_B]

/-- The last point writes out the accumulator it leaves. -/
theorem dw_last (t : Fin cfg0.N) (h1 : t.val % 17 = 16) (j : S3200x1024.Idx) :
    (outsAt0 m c t.val t.isLt).2.1 j = (outsAt0 m c t.val t.isLt).2.2.2 j := by
  rw [step_next m c t (by omega) j, outsAt0_C m c t (by omega) h1]
  dsimp only
  rw [dw_C]

/-- After the last point the accumulator holds the sum over all rows. -/
theorem sum_blocks (t : Fin cfg0.N) (ht : t.val + 1 = cfg0.N) (j : S3200x1024.Idx) :
    (outsAt0 m c t.val t.isLt).2.2.2 j = dw m c j := by
  refine (Pipeline.eq_sum_fin_of_reset_step_apply_last (fun n h => (outsAt0 m c n h).2.2.2) 17 (fun _ => (0 : EReal))
    (dpart m c) (step_first m c) (step_next m c) (le_of_eq N_0) t ht j).trans ?_
  rw [zero_add]
  refine Fin.sum_mul_add_congr (fun t k hl => ?_) (by rw [show cfg0.N = 17 from N_0])
  have e : (⟨t.val * 512 + k.val, hl⟩ : Fin 8704) = at_ t k := Fin.ext (by simp only [at_]; omega)
  rw [lanes_blk, row_blk, gain_blk, e]

/-- The second array. -/
theorem dw_eq : (dats m 0 c).arrAt 12 cfg0.N = dw m c := by
  refine (dats m 0 c).arrAt_eq_of_covers 12 _ (by decide +kernel) fun t hf y => ?_
  blk_simp
  rw [after0_12]
  have h16 := (flush0_12 t).mp hf
  have hN : cfg0.N = 17 := N_0
  have hlt := t.isLt
  refine (dw_last m c t h16 y).trans ((sum_blocks m c t (by omega) y).trans (congrArg (dw m c) ?_))
  blk_ext [idx t]

end Cert.InprojIdeal.Hand
-- ==== Proof.InprojRef.lean ====
/-
  What the reference of the gradient of the input projection leaves.
-/
module

public import proofs.«01_k».proof.Proof.Gen.InprojReferenceIdeal
public import proofs.«01_k».proof.Proof.Gen.InprojReferenceIdeal.Run
public import proofs.«01_k».proof.Proof.InprojMath
public import Idealize.ShloMosaic.Lib.Pipeline.ValueKit
public import Idealize.ShloMosaic.Lib.Pointwise

@[expose] public section

set_option maxRecDepth 16384

noncomputable section

namespace Cert.InprojReferenceIdeal.Hand

open Cert.InprojMath
open Cert.NormMath (root meanSq rowRef pull)
open Cert.InprojReferenceIdeal Cert.InprojReferenceIdeal.Gen Idealize.ShloMosaic Idealize.ShloMosaic.TcCoe Idealize.SL.Sem

variable (m : (ℓ : Loc nD τ sig) → Buf (Elt Ideal) ℓ) (c : Dev nD)

/-- Row `r` of the norm's argument. -/
def hrow (r : Fin 8704) : Fin 1024 → EReal := fun k => (m ((c.tc : Thread nD τ).loc main_arg8) : Vec Ideal S8704x1024 .f32) (ix2 r k)

/-- Row `r` of the seven pieces. -/
def lrow (r : Fin 8704) : Fin 3200 → EReal :=
  pieces (fun a => (m ((c.tc : Thread nD τ).loc main_arg0) : Vec Ideal S8704x512 .bf16) (ix2 r a))
    (fun a => (m ((c.tc : Thread nD τ).loc main_arg1) : Vec Ideal S8704x512 .bf16) (ix2 r a))
    (fun a => (m ((c.tc : Thread nD τ).loc main_arg2) : Vec Ideal S8704x512 .bf16) (ix2 r a))
    (fun a => (m ((c.tc : Thread nD τ).loc main_arg3) : Vec Ideal S8704x512 .bf16) (ix2 r a))
    (fun a => (m ((c.tc : Thread nD τ).loc main_arg4) : Vec Ideal S8704x512 .bf16) (ix2 r a))
    (fun a => (m ((c.tc : Thread nD τ).loc main_arg5) : Vec Ideal S8704x512 .bf16) (ix2 r a))
    (fun a => (m ((c.tc : Thread nD τ).loc main_arg6) : Vec Ideal S8704x128 .f32) (ix2 r a))

/-- Row `r` of the gradient of the normed rows. -/
def drow (r : Fin 8704) : Fin 1024 → EReal :=
  back (lrow m c r) fun k j => (m ((c.tc : Thread nD τ).loc main_arg10) : Vec Ideal S3200x1024 .bf16) (ix2 k j)

/-- The seven pieces side by side, as the reference writes them. -/
theorem cats (a0 a1 a2 a3 a4 a5 : Vec Ideal S8704x512 .bf16) (a6 : Vec Ideal S8704x128 .f32) :
    (concatenate S8704x3200 1 [⟨S8704x512, (extf .f32 a0 bitsLt_bf16_f32)⟩,
        ⟨S8704x512, (extf .f32 a1 bitsLt_bf16_f32)⟩,
        ⟨S8704x512, (extf .f32 a2 bitsLt_bf16_f32)⟩,
        ⟨S8704x512, (extf .f32 a3 bitsLt_bf16_f32)⟩,
        ⟨S8704x512, (extf .f32 a4 bitsLt_bf16_f32)⟩,
        ⟨S8704x512, (extf .f32 a5 bitsLt_bf16_f32)⟩,
        ⟨S8704x128, a6⟩]
        concatenates_S8704x512_S8704x512_S8704x512_S8704x512_S8704x512_S8704x512_S8704x128_S8704x3200_d1
      : FVec Ideal S8704x3200 .f32)
      = fun j => pieces (fun a => a0 (ix2 (j 0) a)) (fun a => a1 (ix2 (j 0) a)) (fun a => a2 (ix2 (j 0) a))
          (fun a => a3 (ix2 (j 0) a)) (fun a => a4 (ix2 (j 0) a)) (fun a => a5 (ix2 (j 0) a)) (fun a => a6 (ix2 (j 0) a)) (j 1) := by
  funext j
  idx_vars j
  pointwise [pieces, side]

/-- The rows' mean squares, as the reference writes them. -/
theorem means (x : Vec Ideal S8704x1024 .f32) :
    (addf (Host.divf (broadcastInDim S8704x1 ![0] bcast_S8704_S8704x1_0
        (Host.reduceAdd (mulf x x) (constant S_ .f32 0x00000000#32) reducesTo_S8704x1024_S8704_d1 h_S_))
        (broadcastInDim S8704x1 ![] bcast_S_S8704x1 (constant S_ .f32 0x44800000#32)))
        (broadcastInDim S8704x1 ![] bcast_S_S8704x1 (constant S_ .f32 0x358637BD#32)) : FVec Ideal S8704x1 .f32)
      = fun j => meanSq fun k => x (ix2 (j 0) k) := by
  funext j
  idx_vars j
  pointwise [meanSq]

/-- The gradient of the normed rows, as the reference writes it. -/
theorem backs (u : FVec Ideal S8704x3200 .f32) (w : Vec Ideal S3200x1024 .bf16) :
    (Host.dotGeneral dot_S8704x3200_S1024x3200_S8704x1024_1_1_0_0_n_n none u
        (transpose S1024x3200 [1, 0] (extf .f32 w bitsLt_bf16_f32) transposes_S3200x1024_S1024x3200_1_0)
        : FVec Ideal S8704x1024 .f32)
      = fun j => back (fun k => u (ix2 (j 0) k)) (fun k (j : Fin 1024) => w (ix2 k j)) (j 1) := by
  funext j
  idx_vars j
  pointwise [back]

/-- What the reference adds twice to a row, by the rows' mean squares `q`. -/
theorem pulls (h D : Vec Ideal S8704x1024 .f32) (g : Vec Ideal S1x1024 .f32) :
    (Host.reduceAdd (Host.divf (mulf (shapeCast _ (Host.reduceAdd (mulf h (mulf D (broadcastInDim S8704x1024 ![0, 1] bcast_S1x1024_S8704x1024_0_1 g))) (constant S_ .f32 0x00000000#32) reducesTo_S8704x1024_S8704_d1 h_S_) shapeCasts_S8704_S8704x1) (mulf (broadcastInDim S8704x1 ![] bcast_S_S8704x1 (constant S_ .f32 0xBF000000#32)) (Host.divf (Host.rsqrt (fun j => meanSq fun k => h (ix2 (j 0) k) : FVec Ideal S8704x1 .f32)) (fun j => meanSq fun k => h (ix2 (j 0) k) : FVec Ideal S8704x1 .f32)))) (broadcastInDim S8704x1 ![] bcast_S_S8704x1 (constant S_ .f32 0x44800000#32))) (constant S_ .f32 0x00000000#32) reducesTo_S8704x1_S8704_d1 h_S_ : FVec Ideal S8704 .f32)
      = fun j => pull (fun k => h (ix2 (j 0) k)) (fun k => g (ix2 0 k)) (fun k => D (ix2 (j 0) k)) := by
  funext j
  idx_vars j
  pointwise [pull, root]

/-- The first result's sum, of what is added twice. -/
theorem sums (dh h D : Vec Ideal S8704x1024 .f32) (g : Vec Ideal S1x1024 .f32) (p : FVec Ideal S8704 .f32)
    (q : FVec Ideal S8704x1 .f32) (r : Fin 8704) (j : Fin 1024) :
    (addf (addf (addf dh (mulf (mulf D (broadcastInDim S8704x1024 ![0, 1] bcast_S1x1024_S8704x1024_0_1 g)) (broadcastInDim S8704x1024 ![0, 1] bcast_S8704x1_S8704x1024_0_1 (Host.rsqrt q)))) (mulf h (broadcastInDim S8704x1024 ![0] bcast_S8704_S8704x1024_0 p))) (mulf (broadcastInDim S8704x1024 ![0] bcast_S8704_S8704x1024_0 p) h) : FVec Ideal S8704x1024 .f32) (ix2 r j)
      = dh (ix2 r j) + D (ix2 r j) * g (ix2 0 j) * Ideal.rsqrt (q (ix2 r 0)) + h (ix2 r j) * p (ix1 r)
        + p (ix1 r) * h (ix2 r j) := by
  pointwise []

/-- The first result. -/
theorem out (r : Fin 8704) (j : Fin 1024) :
    Value.res_out0 m c (ix2 r j) = rowRef (hrow m c r)
      (fun k => (m ((c.tc : Thread nD τ).loc main_arg7) : Vec Ideal S8704x1024 .f32) (ix2 r k))
      (fun k => (m ((c.tc : Thread nD τ).loc main_arg9) : Vec Ideal S1x1024 .f32) (ix2 0 k)) (drow m c r) j := by
  unfold Value.res_out0 Value.res_main_v55
  rw [means]
  have e := cats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
  rw [e]
  rw [backs]
  rw [pulls]
  rw [sums]
  rfl

/-- The second result, the weights' gradient. -/
theorem dw (u : FVec Ideal S8704x3200 .f32) (h : FVec Ideal S8704x1024 .f32) (g : FVec Ideal S1x1024 .f32)
    (j : S3200x1024.Idx) :
    (truncf .bf16 (transpose S3200x1024 [1, 0] (transpose S1024x3200 [1, 0]
        (Host.dotGeneral dot_S8704x3200_S8704x1024_S3200x1024_0_0_1_1_n_n none u
          (mulf (mulf h (broadcastInDim S8704x1024 ![0, 1] bcast_S8704x1_S8704x1024_0_1
            (Host.rsqrt (fun j => meanSq fun k => h (ix2 (j 0) k) : FVec Ideal S8704x1 .f32))))
            (broadcastInDim S8704x1024 ![0, 1] bcast_S1x1024_S8704x1024_0_1 g)))
        transposes_S3200x1024_S1024x3200_1_0) transposes_S1024x3200_S3200x1024_1_0) bitsLt_bf16_f32
        : FVec Ideal S3200x1024 .bf16) j
      = ∑ r : Fin 8704, u (ix2 r (j 0)) * normed (fun k => h (ix2 r k)) (fun k => g (ix2 0 k)) (j 1) := by
  idx_vars j
  pointwise [normed, root]

/-- The third result, the gain's gradient. -/
theorem gain (h D : Vec Ideal S8704x1024 .f32) (j : S1x1024.Idx) :
    (shapeCast S1x1024 (Host.reduceAdd (mulf (mulf h (broadcastInDim S8704x1024 ![0, 1] bcast_S8704x1_S8704x1024_0_1
        (Host.rsqrt (fun j => meanSq fun k => h (ix2 (j 0) k) : FVec Ideal S8704x1 .f32)))) D)
        (constant S_ .f32 0x00000000#32) reducesTo_S8704x1024_S1024_d0 h_S_)
        shapeCasts_S1024_S1x1024 : FVec Ideal S1x1024 .f32) j
      = ∑ r : Fin 8704, h (ix2 r (j 1)) * root (fun k => h (ix2 r k)) * D (ix2 r (j 1)) := by
  idx_vars j
  pointwise [root]

end Cert.InprojReferenceIdeal.Hand
-- ==== Proof.Inproj.lean ====
/-
  The gradient of the input projection and of the norm before it: the kernel's and the reference's are one.
-/
module

public import proofs.«01_k».proof.Defs
public import proofs.«01_k».proof.Proof.InprojValue
public import proofs.«01_k».proof.Proof.InprojRef
public import proofs.«01_k».proof.Proof.Gen.InprojIdeal.Value
public import proofs.«01_k».proof.Proof.Gen.Pre_inproj_finite

@[expose] public section

set_option maxRecDepth 16384

noncomputable section

namespace Cert.InprojClaim

open Cert.NormMath (row_eq)
open Cert.InprojMath Cert.Finite Idealize.ShloMosaic Idealize.ShloMosaic.TcCoe Idealize.SL.Sem
open Cert.InprojIdeal (nD τ sig main_arg0 main_arg1 main_arg2 main_arg3 main_arg4 main_arg5 main_arg6 main_arg7 main_arg8 main_arg9 main_arg10)
open Cert.InprojIdeal.Hand (arg0 arg1 arg2 arg3 arg4 arg5 arg6 arg7 arg8 arg9 arg10)

instance : Subsingleton Cert.Pre_inproj_finite.S_.Idx := ⟨fun a b => funext fun k => k.elim0⟩

variable (m : (ℓ : Loc nD τ sig) → Buf (Elt Ideal) ℓ) (c : Dev nD)

/-- What the precondition says: all arguments but the gradient by the side have real entries. -/
theorem real_args (hp : Pre_InprojIdeal_inproj_finite m) :
    (∀ i, IsReal (arg0 m c i)) ∧ (∀ i, IsReal (arg1 m c i)) ∧ (∀ i, IsReal (arg2 m c i)) ∧ (∀ i, IsReal (arg3 m c i)) ∧ (∀ i, IsReal (arg4 m c i)) ∧ (∀ i, IsReal (arg5 m c i)) ∧ (∀ i, IsReal (arg6 m c i)) ∧ (∀ i, IsReal (arg8 m c i)) ∧ (∀ i, IsReal (arg9 m c i)) ∧ (∀ i, IsReal (arg10 m c i)) := by
  have h := congrFun (hp c) (fun k => k.elim0)
  obtain ⟨h, h10⟩ := IntOp.andi_eq_one.mp h
  obtain ⟨h, h9⟩ := IntOp.andi_eq_one.mp h
  obtain ⟨h, h8⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨real_of_all _ _ _ _ _ _ h0, real_of_all _ _ _ _ _ _ h1, real_of_all _ _ _ _ _ _ h2, real_of_all _ _ _ _ _ _ h3, real_of_all _ _ _ _ _ _ h4, real_of_all _ _ _ _ _ _ h5, real_of_all _ _ _ _ _ _ h6, real_of_all _ _ _ _ _ _ h8, real_of_all _ _ _ _ _ _ h9, real_of_all _ _ _ _ _ _ h10⟩

/-- Real pieces side by side are real. -/
theorem real_side {a b n : ℕ} (h : n = a + b) (u : Fin a → EReal) (v : Fin b → EReal) (hu : ∀ k, IsReal (u k))
    (hv : ∀ k, IsReal (v k)) (k : Fin n) : IsReal (side h u v k) := by
  unfold side
  split
  · exact hu _
  · exact hv _

variable (m' : (ℓ : Loc Cert.InprojReferenceIdeal.nD Cert.InprojReferenceIdeal.τ Cert.InprojReferenceIdeal.sig) → Buf (Elt Ideal) ℓ)

/-- The reference's first result is the kernel's, of the same arguments. -/
theorem out_ref (hp : Pre_InprojIdeal_inproj_finite m)
    (h0 : m' ((c.tc : Thread _ Cert.InprojReferenceIdeal.τ).loc Cert.InprojReferenceIdeal.main_arg0) = arg0 m c)
    (h1 : m' ((c.tc : Thread _ Cert.InprojReferenceIdeal.τ).loc Cert.InprojReferenceIdeal.main_arg1) = arg1 m c)
    (h2 : m' ((c.tc : Thread _ Cert.InprojReferenceIdeal.τ).loc Cert.InprojReferenceIdeal.main_arg2) = arg2 m c)
    (h3 : m' ((c.tc : Thread _ Cert.InprojReferenceIdeal.τ).loc Cert.InprojReferenceIdeal.main_arg3) = arg3 m c)
    (h4 : m' ((c.tc : Thread _ Cert.InprojReferenceIdeal.τ).loc Cert.InprojReferenceIdeal.main_arg4) = arg4 m c)
    (h5 : m' ((c.tc : Thread _ Cert.InprojReferenceIdeal.τ).loc Cert.InprojReferenceIdeal.main_arg5) = arg5 m c)
    (h6 : m' ((c.tc : Thread _ Cert.InprojReferenceIdeal.τ).loc Cert.InprojReferenceIdeal.main_arg6) = arg6 m c)
    (h7 : m' ((c.tc : Thread _ Cert.InprojReferenceIdeal.τ).loc Cert.InprojReferenceIdeal.main_arg7) = arg7 m c)
    (h8 : m' ((c.tc : Thread _ Cert.InprojReferenceIdeal.τ).loc Cert.InprojReferenceIdeal.main_arg8) = arg8 m c)
    (h9 : m' ((c.tc : Thread _ Cert.InprojReferenceIdeal.τ).loc Cert.InprojReferenceIdeal.main_arg9) = arg9 m c)
    (h10 : m' ((c.tc : Thread _ Cert.InprojReferenceIdeal.τ).loc Cert.InprojReferenceIdeal.main_arg10) = arg10 m c) :
    Cert.InprojReferenceIdeal.Value.res_out0 m' c = Cert.InprojIdeal.Hand.out m c := by
  obtain ⟨r0, r1, r2, r3, r4, r5, r6, r8, r9, r10⟩ := real_args m c hp
  funext j
  idx_vars j
  refine (Cert.InprojReferenceIdeal.Hand.out m' c j0 j1).trans ?_
  unfold Cert.InprojReferenceIdeal.Hand.hrow Cert.InprojReferenceIdeal.Hand.drow Cert.InprojReferenceIdeal.Hand.lrow
  rw [h0, h1, h2, h3, h4, h5, h6, h7, h8, h9, h10]
  refine row_eq _ _ _ _ (fun k => r8 _) (fun k => r9 _) (fun k => isReal_sum _ _ fun i _ => .mul ?_ (r10 _)) _
  exact real_side _ _ _ (fun _ => r0 _) (real_side _ _ _ (fun _ => r1 _) (real_side _ _ _ (fun _ => r2 _)
    (real_side _ _ _ (fun _ => r3 _) (real_side _ _ _ (fun _ => r4 _) (real_side _ _ _ (fun _ => r5 _)
    (fun _ => r6 _)))))) _

/-- The two programs end with the same three results. -/
theorem algebraic : Cert.algebraic_InprojIdeal_InprojReferenceIdeal_pre_inproj_finite := fun m ρ m' ρ' hp hag =>
  ⟨fun c => Cert.InprojIdeal.Hand.out m c, fun c => Cert.InprojIdeal.Hand.dw m c, fun c => Cert.InprojIdeal.Hand.gain m c,
    (θ_run _ _ _).mono (fun _ h c => ⟨(h c).1.trans (Cert.InprojIdeal.Hand.out_eq m c),
      (h c).2.1.trans (Cert.InprojIdeal.Hand.dw_eq m c), (h c).2.2.1.trans (Cert.InprojIdeal.Hand.gain_eq m c),
      (h c).2.2.2⟩) (Cert.InprojIdeal.Value.run_blocks m ρ),
    (θ_run _ _ _).mono (fun _ h c => ⟨(h c).1.trans
        (out_ref m c m' hp (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2),
      (h c).2.1.trans (by
        rw [(hag c).1, (hag c).2.1, (hag c).2.2.1, (hag c).2.2.2.1, (hag c).2.2.2.2.1, (hag c).2.2.2.2.2.1, (hag c).2.2.2.2.2.2.1, (hag c).2.2.2.2.2.2.2.2.1, (hag c).2.2.2.2.2.2.2.2.2.1,
          Cert.InprojReferenceIdeal.Hand.means, Cert.InprojReferenceIdeal.Hand.cats]
        funext j
        exact Cert.InprojReferenceIdeal.Hand.dw _ _ _ j),
      (h c).2.2.1.trans (by
        rw [(hag c).1, (hag c).2.1, (hag c).2.2.1, (hag c).2.2.2.1, (hag c).2.2.2.2.1, (hag c).2.2.2.2.2.1, (hag c).2.2.2.2.2.2.1, (hag c).2.2.2.2.2.2.2.2.1, (hag c).2.2.2.2.2.2.2.2.2.2,
          Cert.InprojReferenceIdeal.Hand.means, Cert.InprojReferenceIdeal.Hand.cats,
          Cert.InprojReferenceIdeal.Hand.backs]
        funext j
        refine (Cert.InprojReferenceIdeal.Hand.gain _ _ j).trans (Finset.sum_congr rfl fun r _ => ?_)
        exact mul_comm _ _), (h c).2.2.2⟩) (Cert.InprojReferenceIdeal.Value.run m' ρ')⟩

end Cert.InprojClaim
-- ==== Proof.FfnMath.lean ====
/-
  One row of the last block: the gated hidden layer, the final norm's error against the target, and its gradient.
-/
module

public import proofs.«01_k».proof.Proof.InprojMath
public import proofs.«01_k».proof.Proof.ActMath

@[expose] public section

noncomputable section

namespace Cert.FfnMath

open Idealize.ShloMosaic Cert.Finite Cert.NormMath Cert.ActMath
open Cert.InprojMath (normed)

/-- A normed row times the rows of a half of the weights. -/
def lin (n : Fin 1024 → EReal) (w : Fin 2816 → Fin 1024 → EReal) (a : Fin 2816) : EReal := ∑ k, n k * w a k

/-- The hidden row: the gate's silu times the up projection. -/
def hid (g u : Fin 2816 → EReal) (a : Fin 2816) : EReal := g a * sgm (g a) * u a

/-- The hidden row times the weights, halved, added to the row. -/
def hout (h : Fin 1024 → EReal) (g u : Fin 2816 → EReal) (w : Fin 2816 → Fin 1024 → EReal) (j : Fin 1024) : EReal :=
  h j + Ideal.ofBits .f32 0x3F000000#32 * ∑ a, hid g u a * w a j

/-- A sum over 2816 lanes, in pieces of 1024, 1024 and 768. -/
theorem sum_pieces (f : Fin 2816 → EReal) : ∑ a, f a
    = ∑ a : Fin 1024, f ⟨a.val, by omega⟩ + ∑ a : Fin 1024, f ⟨1024 + a.val, by omega⟩
      + ∑ a : Fin 768, f ⟨2048 + a.val, by omega⟩ := by
  rw [show (∑ a, f a) = ∑ a : Fin (1024 + 1024 + 768), f a from rfl, Fin.sum_univ_add, Fin.sum_univ_add]
  rfl

/-- The error of a row's norm against its target; none where the bit is set. -/
def errv (b : BitVec 1) (x g t : Fin 1024 → EReal) (j : Fin 1024) : EReal :=
  if b = 1 then 0 else x j * root x * g j - t j

/-- The gradient of the normed row. -/
def dyv (b : BitVec 1) (x g t : Fin 1024 → EReal) (j : Fin 1024) : EReal :=
  errv b x g t j * Ideal.ofBits .f32 0x3A800000#32

/-- The gradient of the row. -/
def dhv (b : BitVec 1) (x g t : Fin 1024 → EReal) (j : Fin 1024) : EReal :=
  root x * (dyv b x g t j * g j - x j * root x *
    Ideal.div (∑ k, dyv b x g t k * g k * (x k * root x)) (Ideal.ofBits .f32 0x44800000#32))

/-- The loss of rows of a group of 128. -/
def lossv (b : BitVec 1) (x : Fin 128 → Fin 1024 → EReal) (g : Fin 1024 → EReal) (t : Fin 128 → Fin 1024 → EReal) : EReal :=
  Ideal.ofBits .f32 0x3F000000#32 * (∑ r, ∑ j, errv b (x r) g (t r) j * errv b (x r) g (t r) j)
    * Ideal.ofBits .f32 0x3A800000#32

/-- The gain's gradient of a group of 128 rows. -/
def dgv (b : BitVec 1) (x : Fin 128 → Fin 1024 → EReal) (g : Fin 1024 → EReal) (t : Fin 128 → Fin 1024 → EReal)
    (j : Fin 1024) : EReal :=
  ∑ r, dyv b (x r) g (t r) j * (x r j * root (x r))

end Cert.FfnMath
-- ==== Proof.FfnRows.lean ====
/-
  The last block of the network with the loss, block of 512 rows by block: what the body's values are at one entry.
-/
module

public import proofs.«01_k».proof.Proof.Gen.FfnIdeal.Value
public import proofs.«01_k».proof.Proof.FfnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.FfnMath Cert.ActMath Cert.NormMath
open Cert.InprojMath (normed)

/-- The normed rows of a block. -/
theorem pay3_at (x4 : Vec Ideal S512x1024 .f32) (x5 : Vec Ideal S1x1024 .f32) (r : Fin 512) (k : Fin 1024) :
    k0_pay3 (F := Ideal) x4 x5 (ix2 r k) = normed (fun k => x4 (ix2 r k)) (fun k => x5 (ix2 0 k)) k := by
  pointwise [k0_pay3, normed, root, meanSq]

/-- A block's gate, its first lanes. -/
theorem gate0_at (x4 : Vec Ideal S512x1024 .f32) (x5 : Vec Ideal S1x1024 .f32) (x6 : Vec Ideal S2x2816x1024 .bf16) (r : Fin 512) (a : Fin 1024) :
    k0_pay5 (F := Ideal) x4 x5 (View.ld x6 (Rect.unit ![0, 0, 0] ![1, 1024, 1024] inb_S2x2816x1024_S1x1024x1024_0_0_0)) (ix2 r a)
      = lin (normed (fun k => x4 (ix2 r k)) (fun k => x5 (ix2 0 k))) (fun a k => x6 (ix3 0 a k)) ⟨a.val, by omega⟩ := by
  pointwise [k0_pay5, lin, pay3_at]

/-- A block's up, its first lanes. -/
theorem up0_at (x4 : Vec Ideal S512x1024 .f32) (x5 : Vec Ideal S1x1024 .f32) (x6 : Vec Ideal S2x2816x1024 .bf16) (r : Fin 512) (a : Fin 1024) :
    k0_pay6 (F := Ideal) x4 x5 (View.ld x6 (Rect.unit ![1, 0, 0] ![1, 1024, 1024] inb_S2x2816x1024_S1x1024x1024_1_0_0)) (ix2 r a)
      = lin (normed (fun k => x4 (ix2 r k)) (fun k => x5 (ix2 0 k))) (fun a k => x6 (ix3 1 a k)) ⟨a.val, by omega⟩ := by
  pointwise [k0_pay6, lin, pay3_at]

/-- A block's gate, its lanes from 1024 on. -/
theorem gate1024_at (n : Vec Ideal S512x1024 .bf16) (x6 : Vec Ideal S2x2816x1024 .bf16) (r : Fin 512) (a : Fin 1024) :
    k0_pay10 (F := Ideal) n (View.ld x6 (Rect.unit ![0, 1024, 0] ![1, 1024, 1024] inb_S2x2816x1024_S1x1024x1024_0_1024_0)) (ix2 r a)
      = lin (fun k => n (ix2 r k)) (fun a k => x6 (ix3 0 a k)) ⟨1024 + a.val, by omega⟩ := by
  pointwise [k0_pay10, lin]

/-- A block's up, its lanes from 1024 on. -/
theorem up1024_at (n : Vec Ideal S512x1024 .bf16) (x6 : Vec Ideal S2x2816x1024 .bf16) (r : Fin 512) (a : Fin 1024) :
    k0_pay11 (F := Ideal) n (View.ld x6 (Rect.unit ![1, 1024, 0] ![1, 1024, 1024] inb_S2x2816x1024_S1x1024x1024_1_1024_0)) (ix2 r a)
      = lin (fun k => n (ix2 r k)) (fun a k => x6 (ix3 1 a k)) ⟨1024 + a.val, by omega⟩ := by
  pointwise [k0_pay11, lin]

/-- A block's gate, its lanes from 2048 on. -/
theorem gate2048_at (n : Vec Ideal S512x1024 .bf16) (x6 : Vec Ideal S2x2816x1024 .bf16) (r : Fin 512) (a : Fin 768) :
    k0_pay15 (F := Ideal) n (View.ld x6 (Rect.unit ![0, 2048, 0] ![1, 768, 1024] inb_S2x2816x1024_S1x768x1024_0_2048_0)) (ix2 r a)
      = lin (fun k => n (ix2 r k)) (fun a k => x6 (ix3 0 a k)) ⟨2048 + a.val, by omega⟩ := by
  pointwise [k0_pay15, lin]

/-- A block's up, its lanes from 2048 on. -/
theorem up2048_at (n : Vec Ideal S512x1024 .bf16) (x6 : Vec Ideal S2x2816x1024 .bf16) (r : Fin 512) (a : Fin 768) :
    k0_pay16 (F := Ideal) n (View.ld x6 (Rect.unit ![1, 2048, 0] ![1, 768, 1024] inb_S2x2816x1024_S1x768x1024_1_2048_0)) (ix2 r a)
      = lin (fun k => n (ix2 r k)) (fun a k => x6 (ix3 1 a k)) ⟨2048 + a.val, by omega⟩ := by
  pointwise [k0_pay16, lin]

/-- The first lanes' contribution. -/
theorem pay9_at (z g u : FVec Ideal S512x1024 .f32) (w : Vec Ideal S1024x1024 .bf16) (r : Fin 512) (j : Fin 1024) :
    k0_pay9 (F := Ideal) z g u (FloatOps.ofBits FTy.f32 0#32) w (ix2 r j)
      = z (ix2 r j) + ∑ a : Fin 1024, g (ix2 r a) * sgm (g (ix2 r a)) * u (ix2 r a) * w (ix2 a j) := by
  pointwise [k0_pay9, sgm, zero_sub]

/-- The middle lanes' contribution. -/
theorem pay14_at (n : Vec Ideal S512x1024 .bf16) (p q : Vec Ideal S1x1024x1024 .bf16) (w : Vec Ideal S1024x1024 .bf16) (r : Fin 512) (j : Fin 1024) :
    k0_pay14 (F := Ideal) n p q w (ix2 r j)
      = ∑ a : Fin 1024, k0_pay10 (F := Ideal) n p (ix2 r a) * sgm (k0_pay10 (F := Ideal) n p (ix2 r a)) * k0_pay11 (F := Ideal) n q (ix2 r a) * w (ix2 a j) := by
  unfold k0_pay14
  generalize k0_pay10 (F := Ideal) n p = G
  generalize k0_pay11 (F := Ideal) n q = U
  pointwise [sgm, zero_sub]

/-- The rows after the block. -/
theorem pay19_at (x4 : Vec Ideal S512x1024 .f32) (n : Vec Ideal S512x1024 .bf16) (u v : FVec Ideal S512x1024 .f32) (p q : Vec Ideal S1x768x1024 .bf16) (w : Vec Ideal S768x1024 .bf16) (r : Fin 512) (j : Fin 1024) :
    k0_pay19 (F := Ideal) x4 n u v p q w (ix2 r j)
      = x4 (ix2 r j) + Ideal.ofBits .f32 0x3F000000#32 * (u (ix2 r j) + v (ix2 r j)
        + ∑ a : Fin 768, k0_pay15 (F := Ideal) n p (ix2 r a) * sgm (k0_pay15 (F := Ideal) n p (ix2 r a)) * k0_pay16 (F := Ideal) n q (ix2 r a) * w (ix2 a j)) := by
  unfold k0_pay19
  generalize k0_pay15 (F := Ideal) n p = G
  generalize k0_pay16 (F := Ideal) n q = U
  pointwise [sgm, zero_sub]

/-- The rows after the block, as the body computes them. -/
def HO (x4 : Vec Ideal S512x1024 .f32) (x5 : Vec Ideal S1x1024 .f32) (x6 : Vec Ideal S2x2816x1024 .bf16) (x7 : Vec Ideal S2816x1024 .bf16) : FVec Ideal S512x1024 .f32 :=
  k0_pay19 x4 (k0_pay3 x4 x5)
    (k0_pay9 k0_pay4
      (k0_pay5 x4 x5 (View.ld x6 (Rect.unit ![0, 0, 0] ![1, 1024, 1024] inb_S2x2816x1024_S1x1024x1024_0_0_0)))
      (k0_pay6 x4 x5 (View.ld x6 (Rect.unit ![1, 0, 0] ![1, 1024, 1024] inb_S2x2816x1024_S1x1024x1024_1_0_0)))
      (FloatOps.ofBits FTy.f32 0#32)
      (View.ld x7 (Rect.unit ![0, 0] ![1024, 1024] inb_S2816x1024_S1024x1024_0_0)))
    (k0_pay14 (k0_pay3 x4 x5)
      (View.ld x6 (Rect.unit ![0, 1024, 0] ![1, 1024, 1024] inb_S2x2816x1024_S1x1024x1024_0_1024_0))
      (View.ld x6 (Rect.unit ![1, 1024, 0] ![1, 1024, 1024] inb_S2x2816x1024_S1x1024x1024_1_1024_0))
      (View.ld x7 (Rect.unit ![1024, 0] ![1024, 1024] inb_S2816x1024_S1024x1024_1024_0)))
    (View.ld x6 (Rect.unit ![0, 2048, 0] ![1, 768, 1024] inb_S2x2816x1024_S1x768x1024_0_2048_0))
    (View.ld x6 (Rect.unit ![1, 2048, 0] ![1, 768, 1024] inb_S2x2816x1024_S1x768x1024_1_2048_0))
    (View.ld x7 (Rect.unit ![2048, 0] ![768, 1024] inb_S2816x1024_S768x1024_2048_0))

/-- Row `r` of a block's gate. -/
def gateB (x4 : Vec Ideal S512x1024 .f32) (x5 : Vec Ideal S1x1024 .f32) (x6 : Vec Ideal S2x2816x1024 .bf16) (r : Fin 512) : Fin 2816 → EReal :=
  lin (normed (fun k => x4 (ix2 r k)) (fun k => x5 (ix2 0 k))) fun a k => x6 (ix3 0 a k)

/-- Row `r` of a block's up projection. -/
def upB (x4 : Vec Ideal S512x1024 .f32) (x5 : Vec Ideal S1x1024 .f32) (x6 : Vec Ideal S2x2816x1024 .bf16) (r : Fin 512) : Fin 2816 → EReal :=
  lin (normed (fun k => x4 (ix2 r k)) (fun k => x5 (ix2 0 k))) fun a k => x6 (ix3 1 a k)

/-- The last weights' rows from 0 on. -/
theorem w0_at (x7 : Vec Ideal S2816x1024 .bf16) (a : Fin 1024) (j : Fin 1024) :
    View.ld x7 (Rect.unit ![0, 0] ![1024, 1024] inb_S2816x1024_S1024x1024_0_0) (ix2 a j) = x7 (ix2 ⟨a.val, by omega⟩ j) := by
  pointwise []

/-- The last weights' rows from 1024 on. -/
theorem w1024_at (x7 : Vec Ideal S2816x1024 .bf16) (a : Fin 1024) (j : Fin 1024) :
    View.ld x7 (Rect.unit ![1024, 0] ![1024, 1024] inb_S2816x1024_S1024x1024_1024_0) (ix2 a j) = x7 (ix2 ⟨1024 + a.val, by omega⟩ j) := by
  pointwise []

/-- The last weights' rows from 2048 on. -/
theorem w2048_at (x7 : Vec Ideal S2816x1024 .bf16) (a : Fin 768) (j : Fin 1024) :
    View.ld x7 (Rect.unit ![2048, 0] ![768, 1024] inb_S2816x1024_S768x1024_2048_0) (ix2 a j) = x7 (ix2 ⟨2048 + a.val, by omega⟩ j) := by
  pointwise []

/-- They are the hidden layer's rows added to the block's. -/
theorem HO_at (x4 : Vec Ideal S512x1024 .f32) (x5 : Vec Ideal S1x1024 .f32) (x6 : Vec Ideal S2x2816x1024 .bf16) (x7 : Vec Ideal S2816x1024 .bf16) (r : Fin 512) (j : Fin 1024) :
    HO x4 x5 x6 x7 (ix2 r j) = hout (fun k => x4 (ix2 r k)) (gateB x4 x5 x6 r) (upB x4 x5 x6 r) (fun a j => x7 (ix2 a j)) j := by
  unfold HO hout gateB upB
  rw [pay19_at, pay9_at, pay14_at, sum_pieces, show k0_pay4 (F := Ideal) (ix2 r j) = 0 from by pointwise [k0_pay4], zero_add]
  simp only [gate0_at, up0_at, gate1024_at, up1024_at, gate2048_at, up2048_at, pay3_at, hid]
  refine congrArg (fun s : EReal => x4 (ix2 r j) + Ideal.ofBits .f32 0x3F000000#32 * s) ?_
  refine congrArg₂ (fun u v : EReal => u + v) (congrArg₂ (fun u v : EReal => u + v) ?_ ?_) ?_
  · exact Finset.sum_congr rfl fun a _ => congrArg (HMul.hMul (_ : EReal)) (w0_at x7 a j)
  · exact Finset.sum_congr rfl fun a _ => congrArg (HMul.hMul (_ : EReal)) (w1024_at x7 a j)
  · exact Finset.sum_congr rfl fun a _ => congrArg (HMul.hMul (_ : EReal)) (w2048_at x7 a j)

/-- The test whether a group of 128 rows is the first of its 2176, in the words of the grid's point and the group. -/
def tst (a k : BitVec 32) : BitVec 1 :=
  Scalar.cmpi .eq (Scalar.select (Scalar.andi (Scalar.xori (Scalar.cmpi .slt (Scalar.remsi (Scalar.addi (Scalar.muli 4#32 a) k) 17#32) 0#32) 0#1)
    (Scalar.cmpi .ne (Scalar.remsi (Scalar.addi (Scalar.muli 4#32 a) k) 17#32) 0#32))
    (Scalar.addi (Scalar.remsi (Scalar.addi (Scalar.muli 4#32 a) k) 17#32) 17#32)
    (Scalar.remsi (Scalar.addi (Scalar.muli 4#32 a) k) 17#32)) 0#32

/-- The first 128 rows of a block. -/
def S0 (H : FVec Ideal S512x1024 .f32) : FVec Ideal S128x1024 .f32 :=
  extractStridedSlice S128x1024 ![0, 0] H slices_S512x1024_o0_0_S128x1024

/-- Their sums of squares. -/
def Q0 (H : FVec Ideal S512x1024 .f32) : FVec Ideal S128x1 .f32 :=
  shapeCast S128x1 (multiReduction .add [1] S128 (mulf (S0 H) (S0 H)) 0x00000000#32 reduces_S128x1024_S128 (.inl rfl) rfl) shapeCasts_S128_S128x1

/-- The reciprocal roots of the first 128 rows. -/
theorem root0_at (H : FVec Ideal S512x1024 .f32) (r : Fin 128) :
    k0_pay24 (F := Ideal) (Q0 H) (ix2 r 0) = root (fun j => H (ix2 (⟨r.val, by omega⟩ : Fin 512) j)) := by
  pointwise [k0_pay24, Q0, S0, root, meanSq]

/-- The first 128 rows, divided by their roots. -/
theorem xhat0_at (H : FVec Ideal S512x1024 .f32) (r : Fin 128) (j : Fin 1024) :
    k0_pay25 (F := Ideal) (S0 H) (Q0 H) (ix2 r j) = (fun j => H (ix2 (⟨r.val, by omega⟩ : Fin 512) j)) j * root (fun j => H (ix2 (⟨r.val, by omega⟩ : Fin 512) j)) := by
  have e := root0_at H r
  unfold k0_pay25
  generalize k0_pay24 (F := Ideal) (Q0 H) = R at e ⊢
  pointwise [S0, e]

/-- Their error. -/
theorem err0_at (a : BitVec 32) (H : FVec Ideal S512x1024 .f32) (g : Vec Ideal S1x1024 .f32) (t : Vec Ideal S128x1024 .f32) (r : Fin 128) (j : Fin 1024) :
    k0_pay26 (F := Ideal) a g (S0 H) (Q0 H) t (ix2 r j) = errv (tst a 0#32) (fun j => H (ix2 (⟨r.val, by omega⟩ : Fin 512) j)) (fun j => g (ix2 0 j)) (fun j => t (ix2 r j)) j := by
  have e := xhat0_at H r j
  have f : k0_pay26 (F := Ideal) a g (S0 H) (Q0 H) t = Scalar.select (tst a 0#32) (broadcast S128x1024 (Scalar.ofBits .f32 0x00000000#32))
      (subf (mulf (k0_pay25 (S0 H) (Q0 H)) (broadcastTo S128x1024 g broadcasts_S1x1024_S128x1024)) t) := rfl
  rw [f]
  generalize k0_pay25 (F := Ideal) (S0 H) (Q0 H) = X at e ⊢
  unfold errv Scalar.select
  split
  · pointwise []
  · pointwise [e]

/-- The gradient of the first 128 rows. -/
theorem dh0_at (a : BitVec 32) (H : FVec Ideal S512x1024 .f32) (g : Vec Ideal S1x1024 .f32) (t : Vec Ideal S128x1024 .f32) (r : Fin 128) (j : Fin 1024) :
    k0_pay31 (F := Ideal) (k0_pay24 (Q0 H)) (k0_pay25 (S0 H) (Q0 H)) (k0_pay29 a g (S0 H) (Q0 H) t) (k0_pay30 a g (S0 H) (Q0 H) t) (ix2 r j) = dhv (tst a 0#32) (fun j => H (ix2 (⟨r.val, by omega⟩ : Fin 512) j)) (fun j => g (ix2 0 j)) (fun j => t (ix2 r j)) j := by
  have eR := root0_at H r
  have eX := fun j => xhat0_at H r j
  have eE := fun j => err0_at a H g t r j
  unfold k0_pay31 k0_pay30 k0_pay29 k0_pay28
  generalize k0_pay26 (F := Ideal) a g (S0 H) (Q0 H) t = E at eE ⊢
  generalize k0_pay25 (F := Ideal) (S0 H) (Q0 H) = X at eX ⊢
  generalize k0_pay24 (F := Ideal) (Q0 H) = R at eR ⊢
  pointwise [dhv, dyv, eR, eX, eE]

/-- Their loss is added. -/
theorem loss0_at (a : BitVec 32) (H : FVec Ideal S512x1024 .f32) (g : Vec Ideal S1x1024 .f32) (t : Vec Ideal S128x1024 .f32) (z : FVec Ideal S1x1 .f32) :
    k0_pay27 (F := Ideal) a g z (S0 H) (Q0 H) t (ix2 0 0) = (z (ix2 0 0) + lossv (tst a 0#32) (fun r => (fun j => H (ix2 (⟨r.val, by omega⟩ : Fin 512) j))) (fun j => g (ix2 0 j)) (fun r => (fun j => t (ix2 r j)))) := by
  have eE := fun r j => err0_at a H g t r j
  unfold k0_pay27
  generalize k0_pay26 (F := Ideal) a g (S0 H) (Q0 H) t = E at eE ⊢
  pointwise [lossv, eE]

/-- Their part of the gain's gradient is added. -/
theorem dg0_at (a : BitVec 32) (H : FVec Ideal S512x1024 .f32) (g : Vec Ideal S1x1024 .f32) (t : Vec Ideal S128x1024 .f32) (z : FVec Ideal S1x1024 .f32) (j : Fin 1024) :
    k0_pay32 (F := Ideal) z (k0_pay25 (S0 H) (Q0 H)) (k0_pay28 a g (S0 H) (Q0 H) t) (ix2 0 j) = (z (ix2 0 j) + dgv (tst a 0#32) (fun r => (fun j => H (ix2 (⟨r.val, by omega⟩ : Fin 512) j))) (fun j => g (ix2 0 j)) (fun r => (fun j => t (ix2 r j))) j) := by
  have eX := fun r j => xhat0_at H r j
  have eE := fun r j => err0_at a H g t r j
  unfold k0_pay32 k0_pay28
  generalize k0_pay26 (F := Ideal) a g (S0 H) (Q0 H) t = E at eE ⊢
  generalize k0_pay25 (F := Ideal) (S0 H) (Q0 H) = X at eX ⊢
  pointwise [dgv, dyv, eX, eE]

/-- The reciprocal roots of the second 128 rows. -/
theorem root1_at (H : FVec Ideal S512x1024 .f32) (r : Fin 128) :
    k0_pay34 (F := Ideal) H (ix2 r 0) = root (fun j => H (ix2 (⟨128 + r.val, by omega⟩ : Fin 512) j)) := by
  pointwise [k0_pay34, k0_pay33, root, meanSq]

/-- The second 128 rows, divided by their roots. -/
theorem xhat1_at (H : FVec Ideal S512x1024 .f32) (r : Fin 128) (j : Fin 1024) :
    k0_pay35 (F := Ideal) H (ix2 r j) = (fun j => H (ix2 (⟨128 + r.val, by omega⟩ : Fin 512) j)) j * root (fun j => H (ix2 (⟨128 + r.val, by omega⟩ : Fin 512) j)) := by
  have e := root1_at H r
  unfold k0_pay35
  generalize k0_pay34 (F := Ideal) H = R at e ⊢
  pointwise [k0_pay33, e]

/-- Their error. -/
theorem err1_at (b : BitVec 1) (H : FVec Ideal S512x1024 .f32) (g : Vec Ideal S1x1024 .f32) (t : Vec Ideal S128x1024 .f32) (r : Fin 128) (j : Fin 1024) :
    k0_pay37 (F := Ideal) (k0_pay36 H g) b t (ix2 r j) = errv b (fun j => H (ix2 (⟨128 + r.val, by omega⟩ : Fin 512) j)) (fun j => g (ix2 0 j)) (fun j => t (ix2 r j)) j := by
  have e := xhat1_at H r j
  unfold k0_pay37 k0_pay36
  generalize k0_pay35 (F := Ideal) H = X at e ⊢
  unfold errv Scalar.select
  split
  · pointwise []
  · pointwise [e]

/-- The gradient of the second 128 rows. -/
theorem dh1_at (b : BitVec 1) (H : FVec Ideal S512x1024 .f32) (g : Vec Ideal S1x1024 .f32) (t : Vec Ideal S128x1024 .f32) (r : Fin 128) (j : Fin 1024) :
    k0_pay40 (F := Ideal) g (k0_pay34 H) (k0_pay35 H) (k0_pay36 H g) b t (ix2 r j) = dhv b (fun j => H (ix2 (⟨128 + r.val, by omega⟩ : Fin 512) j)) (fun j => g (ix2 0 j)) (fun j => t (ix2 r j)) j := by
  have eR := root1_at H r
  have eX := fun j => xhat1_at H r j
  have eE := fun j => err1_at b H g t r j
  unfold k0_pay40 k0_pay39
  generalize k0_pay37 (F := Ideal) (k0_pay36 H g) b t = E at eE ⊢
  generalize k0_pay35 (F := Ideal) H = X at eX ⊢
  generalize k0_pay34 (F := Ideal) H = R at eR ⊢
  pointwise [dhv, dyv, eR, eX, eE]

/-- Their loss is added. -/
theorem loss1_at (b : BitVec 1) (H : FVec Ideal S512x1024 .f32) (g : Vec Ideal S1x1024 .f32) (t : Vec Ideal S128x1024 .f32) (z : FVec Ideal S1x1 .f32) :
    k0_pay38 (F := Ideal) z (k0_pay36 H g) b t (ix2 0 0) = (z (ix2 0 0) + lossv b (fun r => (fun j => H (ix2 (⟨128 + r.val, by omega⟩ : Fin 512) j))) (fun j => g (ix2 0 j)) (fun r => (fun j => t (ix2 r j)))) := by
  have eE := fun r j => err1_at b H g t r j
  unfold k0_pay38
  generalize k0_pay37 (F := Ideal) (k0_pay36 H g) b t = E at eE ⊢
  pointwise [lossv, eE]

/-- Their part of the gain's gradient is added. -/
theorem dg1_at (b : BitVec 1) (H : FVec Ideal S512x1024 .f32) (g : Vec Ideal S1x1024 .f32) (t : Vec Ideal S128x1024 .f32) (z : FVec Ideal S1x1024 .f32) (j : Fin 1024) :
    k0_pay41 (F := Ideal) z (k0_pay35 H) (k0_pay36 H g) b t (ix2 0 j) = (z (ix2 0 j) + dgv b (fun r => (fun j => H (ix2 (⟨128 + r.val, by omega⟩ : Fin 512) j))) (fun j => g (ix2 0 j)) (fun r => (fun j => t (ix2 r j))) j) := by
  have eX := fun r j => xhat1_at H r j
  have eE := fun r j => err1_at b H g t r j
  unfold k0_pay41 k0_pay39
  generalize k0_pay37 (F := Ideal) (k0_pay36 H g) b t = E at eE ⊢
  generalize k0_pay35 (F := Ideal) H = X at eX ⊢
  pointwise [dgv, dyv, eX, eE]

/-- The reciprocal roots of the third 128 rows. -/
theorem root2_at (H : FVec Ideal S512x1024 .f32) (r : Fin 128) :
    k0_pay43 (F := Ideal) H (ix2 r 0) = root (fun j => H (ix2 (⟨256 + r.val, by omega⟩ : Fin 512) j)) := by
  pointwise [k0_pay43, k0_pay42, root, meanSq]

/-- The third 128 rows, divided by their roots. -/
theorem xhat2_at (H : FVec Ideal S512x1024 .f32) (r : Fin 128) (j : Fin 1024) :
    k0_pay44 (F := Ideal) H (ix2 r j) = (fun j => H (ix2 (⟨256 + r.val, by omega⟩ : Fin 512) j)) j * root (fun j => H (ix2 (⟨256 + r.val, by omega⟩ : Fin 512) j)) := by
  have e := root2_at H r
  unfold k0_pay44
  generalize k0_pay43 (F := Ideal) H = R at e ⊢
  pointwise [k0_pay42, e]

/-- Their error. -/
theorem err2_at (a : BitVec 32) (H : FVec Ideal S512x1024 .f32) (g : Vec Ideal S1x1024 .f32) (t : Vec Ideal S128x1024 .f32) (r : Fin 128) (j : Fin 1024) :
    k0_pay46 (F := Ideal) a (k0_pay44 H) (k0_pay45 g) t (ix2 r j) = errv (tst a 2#32) (fun j => H (ix2 (⟨256 + r.val, by omega⟩ : Fin 512) j)) (fun j => g (ix2 0 j)) (fun j => t (ix2 r j)) j := by
  have e := xhat2_at H r j
  have f : k0_pay46 (F := Ideal) a (k0_pay44 H) (k0_pay45 g) t = Scalar.select (tst a 2#32) (broadcast S128x1024 (Scalar.ofBits .f32 0x00000000#32))
      (subf (mulf (k0_pay44 H) (broadcastTo S128x1024 g broadcasts_S1x1024_S128x1024)) t) := rfl
  rw [f]
  generalize k0_pay44 (F := Ideal) H = X at e ⊢
  unfold errv Scalar.select
  split
  · pointwise []
  · pointwise [e]

/-- The gradient of the third 128 rows. -/
theorem dh2_at (a : BitVec 32) (H : FVec Ideal S512x1024 .f32) (g : Vec Ideal S1x1024 .f32) (t : Vec Ideal S128x1024 .f32) (r : Fin 128) (j : Fin 1024) :
    k0_pay51 (F := Ideal) (k0_pay49 a g (k0_pay44 H) (k0_pay45 g) t) (k0_pay50 (k0_pay43 H)) (ix2 r j) = dhv (tst a 2#32) (fun j => H (ix2 (⟨256 + r.val, by omega⟩ : Fin 512) j)) (fun j => g (ix2 0 j)) (fun j => t (ix2 r j)) j := by
  have eR := root2_at H r
  have eX := fun j => xhat2_at H r j
  have eE := fun j => err2_at a H g t r j
  unfold k0_pay51 k0_pay50 k0_pay49 k0_pay48
  generalize k0_pay46 (F := Ideal) a (k0_pay44 H) (k0_pay45 g) t = E at eE ⊢
  generalize k0_pay44 (F := Ideal) H = X at eX ⊢
  generalize k0_pay43 (F := Ideal) H = R at eR ⊢
  pointwise [dhv, dyv, eR, eX, eE]

/-- Their loss is added. -/
theorem loss2_at (a : BitVec 32) (H : FVec Ideal S512x1024 .f32) (g : Vec Ideal S1x1024 .f32) (t : Vec Ideal S128x1024 .f32) (z : FVec Ideal S1x1 .f32) :
    k0_pay47 (F := Ideal) a z (k0_pay44 H) (k0_pay45 g) t (ix2 0 0) = (z (ix2 0 0) + lossv (tst a 2#32) (fun r => (fun j => H (ix2 (⟨256 + r.val, by omega⟩ : Fin 512) j))) (fun j => g (ix2 0 j)) (fun r => (fun j => t (ix2 r j)))) := by
  have eE := fun r j => err2_at a H g t r j
  unfold k0_pay47
  generalize k0_pay46 (F := Ideal) a (k0_pay44 H) (k0_pay45 g) t = E at eE ⊢
  pointwise [lossv, eE]

/-- Their part of the gain's gradient is added. -/
theorem dg2_at (a : BitVec 32) (H : FVec Ideal S512x1024 .f32) (g : Vec Ideal S1x1024 .f32) (t : Vec Ideal S128x1024 .f32) (z : FVec Ideal S1x1024 .f32) (j : Fin 1024) :
    k0_pay52 (F := Ideal) z (k0_pay44 H) (k0_pay48 a (k0_pay44 H) (k0_pay45 g) t) (ix2 0 j) = (z (ix2 0 j) + dgv (tst a 2#32) (fun r => (fun j => H (ix2 (⟨256 + r.val, by omega⟩ : Fin 512) j))) (fun j => g (ix2 0 j)) (fun r => (fun j => t (ix2 r j))) j) := by
  have eX := fun r j => xhat2_at H r j
  have eE := fun r j => err2_at a H g t r j
  unfold k0_pay52 k0_pay48
  generalize k0_pay46 (F := Ideal) a (k0_pay44 H) (k0_pay45 g) t = E at eE ⊢
  generalize k0_pay44 (F := Ideal) H = X at eX ⊢
  pointwise [dgv, dyv, eX, eE]

/-- The reciprocal roots of the last 128 rows. -/
theorem root3_at (H : FVec Ideal S512x1024 .f32) (r : Fin 128) :
    k0_pay54 (F := Ideal) H (ix2 r 0) = root (fun j => H (ix2 (⟨384 + r.val, by omega⟩ : Fin 512) j)) := by
  pointwise [k0_pay54, k0_pay53, root, meanSq]

/-- The last 128 rows, divided by their roots. -/
theorem xhat3_at (H : FVec Ideal S512x1024 .f32) (r : Fin 128) (j : Fin 1024) :
    k0_pay55 (F := Ideal) H (ix2 r j) = (fun j => H (ix2 (⟨384 + r.val, by omega⟩ : Fin 512) j)) j * root (fun j => H (ix2 (⟨384 + r.val, by omega⟩ : Fin 512) j)) := by
  have e := root3_at H r
  unfold k0_pay55
  generalize k0_pay54 (F := Ideal) H = R at e ⊢
  pointwise [k0_pay53, e]

/-- Their error. -/
theorem err3_at (a : BitVec 32) (H : FVec Ideal S512x1024 .f32) (g : Vec Ideal S1x1024 .f32) (t : Vec Ideal S128x1024 .f32) (r : Fin 128) (j : Fin 1024) :
    k0_pay56 (F := Ideal) a H g t (ix2 r j) = errv (tst a 3#32) (fun j => H (ix2 (⟨384 + r.val, by omega⟩ : Fin 512) j)) (fun j => g (ix2 0 j)) (fun j => t (ix2 r j)) j := by
  have e := xhat3_at H r j
  have f : k0_pay56 (F := Ideal) a H g t = Scalar.select (tst a 3#32) (broadcast S128x1024 (Scalar.ofBits .f32 0x00000000#32))
      (subf (mulf (k0_pay55 H) (broadcastTo S128x1024 g broadcasts_S1x1024_S128x1024)) t) := rfl
  rw [f]
  generalize k0_pay55 (F := Ideal) H = X at e ⊢
  unfold errv Scalar.select
  split
  · pointwise []
  · pointwise [e]

/-- The gradient of the last 128 rows. -/
theorem dh3_at (a : BitVec 32) (H : FVec Ideal S512x1024 .f32) (g : Vec Ideal S1x1024 .f32) (t : Vec Ideal S128x1024 .f32) (r : Fin 128) (j : Fin 1024) :
    k0_pay59 (F := Ideal) g (k0_pay54 H) (k0_pay55 H) (k0_pay56 a H g t) (ix2 r j) = dhv (tst a 3#32) (fun j => H (ix2 (⟨384 + r.val, by omega⟩ : Fin 512) j)) (fun j => g (ix2 0 j)) (fun j => t (ix2 r j)) j := by
  have eR := root3_at H r
  have eX := fun j => xhat3_at H r j
  have eE := fun j => err3_at a H g t r j
  unfold k0_pay59 k0_pay58
  generalize k0_pay56 (F := Ideal) a H g t = E at eE ⊢
  generalize k0_pay55 (F := Ideal) H = X at eX ⊢
  generalize k0_pay54 (F := Ideal) H = R at eR ⊢
  pointwise [dhv, dyv, eR, eX, eE]

/-- Their loss is added. -/
theorem loss3_at (a : BitVec 32) (H : FVec Ideal S512x1024 .f32) (g : Vec Ideal S1x1024 .f32) (t : Vec Ideal S128x1024 .f32) (z : FVec Ideal S1x1 .f32) (q : Vec Ideal S1x1 .f32) :
    k0_pay60 (F := Ideal) z (k0_pay57 a H g t) q (ix2 0 0) = q (ix2 0 0) + (z (ix2 0 0) + lossv (tst a 3#32) (fun r => (fun j => H (ix2 (⟨384 + r.val, by omega⟩ : Fin 512) j))) (fun j => g (ix2 0 j)) (fun r => (fun j => t (ix2 r j)))) := by
  have eE := fun r j => err3_at a H g t r j
  unfold k0_pay60 k0_pay57
  generalize k0_pay56 (F := Ideal) a H g t = E at eE ⊢
  pointwise [lossv, eE]

/-- Their part of the gain's gradient is added. -/
theorem dg3_at (a : BitVec 32) (H : FVec Ideal S512x1024 .f32) (g : Vec Ideal S1x1024 .f32) (t : Vec Ideal S128x1024 .f32) (z : FVec Ideal S1x1024 .f32) (q : Vec Ideal S1x1024 .f32) (j : Fin 1024) :
    k0_pay61 (F := Ideal) z (k0_pay55 H) (k0_pay56 a H g t) q (ix2 0 j) = q (ix2 0 j) + (z (ix2 0 j) + dgv (tst a 3#32) (fun r => (fun j => H (ix2 (⟨384 + r.val, by omega⟩ : Fin 512) j))) (fun j => g (ix2 0 j)) (fun r => (fun j => t (ix2 r j))) j) := by
  have eX := fun r j => xhat3_at H r j
  have eE := fun r j => err3_at a H g t r j
  unfold k0_pay61 k0_pay58
  generalize k0_pay56 (F := Ideal) a H g t = E at eE ⊢
  generalize k0_pay55 (F := Ideal) H = X at eX ⊢
  pointwise [dgv, dyv, eX, eE]

end Cert.FfnIdeal.Hand
-- ==== Proof.FfnBlock.lean ====
/-
  The last block of the network, block of 512 rows by block: what the body leaves of its six results, whichever point it
  is at.
-/
module

public import proofs.«01_k».proof.Proof.FfnRows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

open Cert.FfnMath Cert.NormMath
open Cert.InprojMath (normed)

/-- The rows after the block. -/
theorem fold19 (x4 : Vec Ideal S512x1024 .f32) (x5 : Vec Ideal S1x1024 .f32) (x6 : Vec Ideal S2x2816x1024 .bf16) (x7 : Vec Ideal S2816x1024 .bf16) :
    k0_pay19 (F := Ideal) x4 (k0_pay3 x4 x5) (k0_pay9 k0_pay4
      (k0_pay5 x4 x5 (View.ld x6 (Rect.unit ![0, 0, 0] ![1, 1024, 1024] inb_S2x2816x1024_S1x1024x1024_0_0_0)))
      (k0_pay6 x4 x5 (View.ld x6 (Rect.unit ![1, 0, 0] ![1, 1024, 1024] inb_S2x2816x1024_S1x1024x1024_1_0_0)))
      (FloatOps.ofBits FTy.f32 0#32)
      (View.ld x7 (Rect.unit ![0, 0] ![1024, 1024] inb_S2816x1024_S1024x1024_0_0)))
    (k0_pay14 (k0_pay3 x4 x5)
      (View.ld x6 (Rect.unit ![0, 1024, 0] ![1, 1024, 1024] inb_S2x2816x1024_S1x1024x1024_0_1024_0))
      (View.ld x6 (Rect.unit ![1, 1024, 0] ![1, 1024, 1024] inb_S2x2816x1024_S1x1024x1024_1_1024_0))
      (View.ld x7 (Rect.unit ![1024, 0] ![1024, 1024] inb_S2816x1024_S1024x1024_1024_0)))
    (View.ld x6 (Rect.unit ![0, 2048, 0] ![1, 768, 1024] inb_S2x2816x1024_S1x768x1024_0_2048_0))
    (View.ld x6 (Rect.unit ![1, 2048, 0] ![1, 768, 1024] inb_S2x2816x1024_S1x768x1024_1_2048_0))
    (View.ld x7 (Rect.unit ![2048, 0] ![768, 1024] inb_S2816x1024_S768x1024_2048_0)) = HO x4 x5 x6 x7 := rfl

/-- Their first 128. -/
theorem fold22 (x4 : Vec Ideal S512x1024 .f32) (x5 : Vec Ideal S1x1024 .f32) (x6 : Vec Ideal S2x2816x1024 .bf16) (x7 : Vec Ideal S2816x1024 .bf16) :
    k0_pay22 (F := Ideal) x4 (k0_pay3 x4 x5) (k0_pay9 k0_pay4
      (k0_pay5 x4 x5 (View.ld x6 (Rect.unit ![0, 0, 0] ![1, 1024, 1024] inb_S2x2816x1024_S1x1024x1024_0_0_0)))
      (k0_pay6 x4 x5 (View.ld x6 (Rect.unit ![1, 0, 0] ![1, 1024, 1024] inb_S2x2816x1024_S1x1024x1024_1_0_0)))
      (FloatOps.ofBits FTy.f32 0#32)
      (View.ld x7 (Rect.unit ![0, 0] ![1024, 1024] inb_S2816x1024_S1024x1024_0_0)))
    (k0_pay14 (k0_pay3 x4 x5)
      (View.ld x6 (Rect.unit ![0, 1024, 0] ![1, 1024, 1024] inb_S2x2816x1024_S1x1024x1024_0_1024_0))
      (View.ld x6 (Rect.unit ![1, 1024, 0] ![1, 1024, 1024] inb_S2x2816x1024_S1x1024x1024_1_1024_0))
      (View.ld x7 (Rect.unit ![1024, 0] ![1024, 1024] inb_S2816x1024_S1024x1024_1024_0)))
    (View.ld x6 (Rect.unit ![0, 2048, 0] ![1, 768, 1024] inb_S2x2816x1024_S1x768x1024_0_2048_0))
    (View.ld x6 (Rect.unit ![1, 2048, 0] ![1, 768, 1024] inb_S2x2816x1024_S1x768x1024_1_2048_0))
    (View.ld x7 (Rect.unit ![2048, 0] ![768, 1024] inb_S2816x1024_S768x1024_2048_0)) = S0 (HO x4 x5 x6 x7) := rfl

/-- The sums of squares of those. -/
theorem fold23 (x4 : Vec Ideal S512x1024 .f32) (x5 : Vec Ideal S1x1024 .f32) (x6 : Vec Ideal S2x2816x1024 .bf16) (x7 : Vec Ideal S2816x1024 .bf16) :
    k0_pay23 (F := Ideal) x4 (k0_pay3 x4 x5) (k0_pay9 k0_pay4
      (k0_pay5 x4 x5 (View.ld x6 (Rect.unit ![0, 0, 0] ![1, 1024, 1024] inb_S2x2816x1024_S1x1024x1024_0_0_0)))
      (k0_pay6 x4 x5 (View.ld x6 (Rect.unit ![1, 0, 0] ![1, 1024, 1024] inb_S2x2816x1024_S1x1024x1024_1_0_0)))
      (FloatOps.ofBits FTy.f32 0#32)
      (View.ld x7 (Rect.unit ![0, 0] ![1024, 1024] inb_S2816x1024_S1024x1024_0_0)))
    (k0_pay14 (k0_pay3 x4 x5)
      (View.ld x6 (Rect.unit ![0, 1024, 0] ![1, 1024, 1024] inb_S2x2816x1024_S1x1024x1024_0_1024_0))
      (View.ld x6 (Rect.unit ![1, 1024, 0] ![1, 1024, 1024] inb_S2x2816x1024_S1x1024x1024_1_1024_0))
      (View.ld x7 (Rect.unit ![1024, 0] ![1024, 1024] inb_S2816x1024_S1024x1024_1024_0)))
    (View.ld x6 (Rect.unit ![0, 2048, 0] ![1, 768, 1024] inb_S2x2816x1024_S1x768x1024_0_2048_0))
    (View.ld x6 (Rect.unit ![1, 2048, 0] ![1, 768, 1024] inb_S2x2816x1024_S1x768x1024_1_2048_0))
    (View.ld x7 (Rect.unit ![2048, 0] ![768, 1024] inb_S2816x1024_S768x1024_2048_0)) = Q0 (HO x4 x5 x6 x7) := rfl

/-- The second group's test, written out. -/
theorem foldT (a : BitVec 32) :
    Scalar.cmpi .eq (Scalar.select (Scalar.andi (Scalar.xori (Scalar.cmpi .slt (Scalar.remsi (Scalar.addi (Scalar.muli 4#32 a) 1#32) 17#32) 0#32) 0#1)
      (Scalar.cmpi .ne (Scalar.remsi (Scalar.addi (Scalar.muli 4#32 a) 1#32) 17#32) 0#32))
      (Scalar.addi (Scalar.remsi (Scalar.addi (Scalar.muli 4#32 a) 1#32) 17#32) 17#32)
      (Scalar.remsi (Scalar.addi (Scalar.muli 4#32 a) 1#32) 17#32)) 0#32 = tst a 1#32 := rfl

/-- The target of row `r` of a block: its groups of 128 rows have a block of targets each. -/
def tsel (x0 x1 x2 x3 : Vec Ideal S128x1024 .f32) (r : Fin 512) (k : Fin 1024) : EReal :=
  if h0 : r.val < 128 then x0 (ix2 ⟨r.val, h0⟩ k)
  else if h1 : r.val < 256 then x1 (ix2 ⟨r.val - 128, by omega⟩ k)
  else if h2 : r.val < 384 then x2 (ix2 ⟨r.val - 256, by omega⟩ k)
  else x3 (ix2 ⟨r.val - 384, by omega⟩ k)

/-- Whether the group of row `r` of block `a` is one of leading zeros. -/
def bitB (a : BitVec 32) (r : Fin 512) : BitVec 1 := tst a (BitVec.ofNat 32 (r.val / 128))

/-- The gradient of row `r`. -/
def dhB (a : BitVec 32) (x0 x1 x2 x3 : Vec Ideal S128x1024 .f32) (H : FVec Ideal S512x1024 .f32) (g : Vec Ideal S1x1024 .f32)
    (r : Fin 512) (j : Fin 1024) : EReal :=
  dhv (bitB a r) (fun k => H (ix2 r k)) (fun k => g (ix2 0 k)) (tsel x0 x1 x2 x3 r) j

/-- The loss of group `k`. -/
def lossG (a : BitVec 32) (k : Fin 4) (x : Vec Ideal S128x1024 .f32) (H : FVec Ideal S512x1024 .f32) (g : Vec Ideal S1x1024 .f32) : EReal :=
  lossv (tst a (BitVec.ofNat 32 k.val)) (fun r j => H (ix2 (⟨128 * k.val + r.val, by omega⟩ : Fin 512) j)) (fun j => g (ix2 0 j)) fun r j => x (ix2 r j)

/-- The gain's gradient of group `k`. -/
def dgG (a : BitVec 32) (k : Fin 4) (x : Vec Ideal S128x1024 .f32) (H : FVec Ideal S512x1024 .f32) (g : Vec Ideal S1x1024 .f32) (j : Fin 1024) : EReal :=
  dgv (tst a (BitVec.ofNat 32 k.val)) (fun r j => H (ix2 (⟨128 * k.val + r.val, by omega⟩ : Fin 512) j)) (fun j => g (ix2 0 j)) (fun r j => x (ix2 r j)) j

/-- Rows of the first group are in the block. -/
theorem lt_0 (y : Fin 128) : y.val < 512 := by omega

/-- In the first group. -/
theorem dhB_0 (a : BitVec 32) (x0 x1 x2 x3 : Vec Ideal S128x1024 .f32) (H : FVec Ideal S512x1024 .f32) (g : Vec Ideal S1x1024 .f32) (r : Fin 512) (y : Fin 128) (l j : Fin 1024) (e : r.val = y.val) (f : l.val = j.val) :
    dhB a x0 x1 x2 x3 H g r l = dhv (tst a 0#32) (fun j => H (ix2 (⟨y.val, by omega⟩ : Fin 512) j)) (fun j => g (ix2 0 j)) (fun j => x0 (ix2 y j)) j := by
  obtain rfl : r = ⟨y.val, lt_0 y⟩ := Fin.ext e
  obtain rfl : l = j := Fin.ext f
  have hy := y.isLt
  have e1 : bitB a ⟨y.val, by omega⟩ = tst a 0#32 := by
    unfold bitB
    rw [show (⟨y.val, by omega⟩ : Fin 512).val / 128 = 0 from by dsimp only; omega]
  have e2 : tsel x0 x1 x2 x3 ⟨y.val, by omega⟩ = fun j => x0 (ix2 y j) := by
    funext j
    unfold tsel
    rw [dif_pos (by dsimp only; omega)]
  unfold dhB
  rw [e1, e2]

/-- Rows of the second group are in the block. -/
theorem lt_1 (y : Fin 128) : 128 + y.val < 512 := by omega

/-- In the second group. -/
theorem dhB_1 (a : BitVec 32) (x0 x1 x2 x3 : Vec Ideal S128x1024 .f32) (H : FVec Ideal S512x1024 .f32) (g : Vec Ideal S1x1024 .f32) (r : Fin 512) (y : Fin 128) (l j : Fin 1024) (e : r.val = 128 + y.val) (f : l.val = j.val) :
    dhB a x0 x1 x2 x3 H g r l = dhv (tst a 1#32) (fun j => H (ix2 (⟨128 + y.val, by omega⟩ : Fin 512) j)) (fun j => g (ix2 0 j)) (fun j => x1 (ix2 y j)) j := by
  obtain rfl : r = ⟨128 + y.val, lt_1 y⟩ := Fin.ext e
  obtain rfl : l = j := Fin.ext f
  have hy := y.isLt
  have e1 : bitB a ⟨128 + y.val, by omega⟩ = tst a 1#32 := by
    unfold bitB
    rw [show (⟨128 + y.val, by omega⟩ : Fin 512).val / 128 = 1 from by dsimp only; omega]
  have e2 : tsel x0 x1 x2 x3 ⟨128 + y.val, by omega⟩ = fun j => x1 (ix2 y j) := by
    funext j
    unfold tsel
    rw [dif_neg (by dsimp only; omega), dif_pos (by dsimp only; omega)]
    exact congrArg x1 (congrArg (ix2 · j) (Fin.ext (by dsimp only; omega)))
  unfold dhB
  rw [e1, e2]

/-- Rows of the third group are in the block. -/
theorem lt_2 (y : Fin 128) : 256 + y.val < 512 := by omega

/-- In the third group. -/
theorem dhB_2 (a : BitVec 32) (x0 x1 x2 x3 : Vec Ideal S128x1024 .f32) (H : FVec Ideal S512x1024 .f32) (g : Vec Ideal S1x1024 .f32) (r : Fin 512) (y : Fin 128) (l j : Fin 1024) (e : r.val = 256 + y.val) (f : l.val = j.val) :
    dhB a x0 x1 x2 x3 H g r l = dhv (tst a 2#32) (fun j => H (ix2 (⟨256 + y.val, by omega⟩ : Fin 512) j)) (fun j => g (ix2 0 j)) (fun j => x2 (ix2 y j)) j := by
  obtain rfl : r = ⟨256 + y.val, lt_2 y⟩ := Fin.ext e
  obtain rfl : l = j := Fin.ext f
  have hy := y.isLt
  have e1 : bitB a ⟨256 + y.val, by omega⟩ = tst a 2#32 := by
    unfold bitB
    rw [show (⟨256 + y.val, by omega⟩ : Fin 512).val / 128 = 2 from by dsimp only; omega]
  have e2 : tsel x0 x1 x2 x3 ⟨256 + y.val, by omega⟩ = fun j => x2 (ix2 y j) := by
    funext j
    unfold tsel
    rw [dif_neg (by dsimp only; omega), dif_neg (by dsimp only; omega), dif_pos (by dsimp only; omega)]
    exact congrArg x2 (congrArg (ix2 · j) (Fin.ext (by dsimp only; omega)))
  unfold dhB
  rw [e1, e2]

/-- Rows of the last group are in the block. -/
theorem lt_3 (y : Fin 128) : 384 + y.val < 512 := by omega

/-- In the last group. -/
theorem dhB_3 (a : BitVec 32) (x0 x1 x2 x3 : Vec Ideal S128x1024 .f32) (H : FVec Ideal S512x1024 .f32) (g : Vec Ideal S1x1024 .f32) (r : Fin 512) (y : Fin 128) (l j : Fin 1024) (e : r.val = 384 + y.val) (f : l.val = j.val) :
    dhB a x0 x1 x2 x3 H g r l = dhv (tst a 3#32) (fun j => H (ix2 (⟨384 + y.val, by omega⟩ : Fin 512) j)) (fun j => g (ix2 0 j)) (fun j => x3 (ix2 y j)) j := by
  obtain rfl : r = ⟨384 + y.val, lt_3 y⟩ := Fin.ext e
  obtain rfl : l = j := Fin.ext f
  have hy := y.isLt
  have e1 : bitB a ⟨384 + y.val, by omega⟩ = tst a 3#32 := by
    unfold bitB
    rw [show (⟨384 + y.val, by omega⟩ : Fin 512).val / 128 = 3 from by dsimp only; omega]
  have e2 : tsel x0 x1 x2 x3 ⟨384 + y.val, by omega⟩ = fun j => x3 (ix2 y j) := by
    funext j
    unfold tsel
    rw [dif_neg (by dsimp only; omega), dif_neg (by dsimp only; omega), dif_neg (by dsimp only; omega)]
    exact congrArg x3 (congrArg (ix2 · j) (Fin.ext (by dsimp only; omega)))
  unfold dhB
  rw [e1, e2]

/-- Four groups of 128 rows, stored one by one. -/
theorem rows4 (p0 p1 p2 p3 : FVec Ideal S128x1024 .f32) (f : S512x1024.Idx → EReal)
    (h3 : ∀ (r : Fin 128) (j : Fin 1024), p3 (ix2 r j) = f (ix2 ⟨384 + r.val, lt_3 r⟩ j))
    (h2 : ∀ (r : Fin 128) (j : Fin 1024), p2 (ix2 r j) = f (ix2 ⟨256 + r.val, lt_2 r⟩ j))
    (h1 : ∀ (r : Fin 128) (j : Fin 1024), p1 (ix2 r j) = f (ix2 ⟨128 + r.val, lt_1 r⟩ j))
    (h0 : ∀ (r : Fin 128) (j : Fin 1024), p0 (ix2 r j) = f (ix2 ⟨r.val, lt_0 r⟩ j)) (j : S512x1024.Idx) :
    View.canon (Val := Elt Ideal) (e := .f32) [⟨Rect.unit ![384, 0] ![128, 1024] inb_S512x1024_S128x1024_384_0, p3⟩,
      ⟨Rect.unit ![256, 0] ![128, 1024] inb_S512x1024_S128x1024_256_0, p2⟩,
      ⟨Rect.unit ![128, 0] ![128, 1024] inb_S512x1024_S128x1024_128_0, p1⟩,
      ⟨Rect.unit ![0, 0] ![128, 1024] inb_S512x1024_S128x1024_0_0, p0⟩] j = f j := by
  refine View.canon_append_of_piecesOf (Val := Elt Ideal) (e := .f32) f []
    [_, _, _, _] ⟨?_, ?_, ?_, ?_, trivial⟩ j (View.cover_of_tiledBy _ ![128, 1024] (by sl_kernel_rfl) j)
  · intro y
    idx_vars y
    refine (h3 y0 y1).trans (congrArg f ?_)
    blk_ext []
  · intro y
    idx_vars y
    refine (h2 y0 y1).trans (congrArg f ?_)
    blk_ext []
  · intro y
    idx_vars y
    refine (h1 y0 y1).trans (congrArg f ?_)
    blk_ext []
  · intro y
    idx_vars y
    refine (h0 y0 y1).trans (congrArg f ?_)
    blk_ext []

section Body

variable (c : Dev nD) (i : grid0.Coords) (a1 : Memref sig .tc .vmem S128x1024 .f32) (h1 : a1.IsWhole) (a2 : Memref sig .tc
  .vmem S128x1024 .f32) (h2 : a2.IsWhole) (a3 : Memref sig .tc .vmem S128x1024 .f32) (h3 : a3.IsWhole) (a4 : Memref sig
  .tc .vmem S128x1024 .f32) (h4 : a4.IsWhole) (a5 : Memref sig .tc .vmem S512x1024 .f32) (h5 : a5.IsWhole) (a6 : Memref
  sig .tc .vmem S1x1024 .f32) (h6 : a6.IsWhole) (a7 : Memref sig .tc .vmem S2x2816x1024 .bf16) (h7 : a7.IsWhole) (a8 :
  Memref sig .tc .vmem S2816x1024 .bf16) (h8 : a8.IsWhole) (a9 : Memref sig .tc .vmem S1x1024 .f32) (h9 : a9.IsWhole)
  (a10 : Memref sig .tc .vmem S512x1024 .f32) (h10 : a10.IsWhole) (a11 : Memref sig .tc .vmem S512x1024 .bf16) (h11 :
  a11.IsWhole) (a12 : Memref sig .tc .vmem S512x2816 .bf16) (h12 : a12.IsWhole) (a13 : Memref sig .tc .vmem S512x2816
  .bf16) (h13 : a13.IsWhole) (a14 : Memref sig .tc .vmem S1x1 .f32) (h14 : a14.IsWhole) (a15 : Memref sig .tc .vmem
  S1x1024 .f32) (h15 : a15.IsWhole)
  (x0 : Vec Ideal S128x1024 .f32) (x1 : Vec Ideal S128x1024 .f32) (x2 : Vec Ideal S128x1024 .f32) (x3 : Vec Ideal
  S128x1024 .f32) (x4 : Vec Ideal S512x1024 .f32) (x5 : Vec Ideal S1x1024 .f32) (x6 : Vec Ideal S2x2816x1024 .bf16) (x7
  : Vec Ideal S2816x1024 .bf16) (x8 : Vec Ideal S1x1024 .f32) (xo13 : Vec Ideal S1x1 .f32) (xo14 : Vec Ideal S1x1024
  .f32)

/-- The first result, case A. -/
theorem dh_A (hc0 : cond0_0 i) (j : S512x1024.Idx) :
    out0_A_9 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 j
      = dhB (BitVec.ofNat 32 (i 0).val) x0 x1 x2 x3 (HO x4 x5 x6 x7) x8 (j 0) (j 1) := by
  frame_out
  rw [fold19, fold22, fold23]
  generalize HO x4 x5 x6 x7 = H
  generalize BitVec.ofNat 32 (i 0).val = a
  rw [foldT]
  refine rows4 _ _ _ _ (fun j => dhB a x0 x1 x2 x3 H x8 (j 0) (j 1)) (fun y l => ?_) (fun y l => ?_) (fun y l => ?_) (fun y l => ?_) j
  · exact (dh3_at a H x8 x3 y l).trans (dhB_3 a x0 x1 x2 x3 H x8 _ y _ l rfl rfl).symm
  · exact (dh2_at a H x8 x2 y l).trans (dhB_2 a x0 x1 x2 x3 H x8 _ y _ l rfl rfl).symm
  · exact (dh1_at (tst a 1#32) H x8 x1 y l).trans (dhB_1 a x0 x1 x2 x3 H x8 _ y _ l rfl rfl).symm
  · exact (dh0_at a H x8 x0 y l).trans (dhB_0 a x0 x1 x2 x3 H x8 _ y _ l rfl rfl).symm

/-- The second result, case A. -/
theorem nrm_A (hc0 : cond0_0 i) (j : S512x1024.Idx) :
    out0_A_10 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 j
      = normed (fun k => x4 (ix2 (j 0) k)) (fun k => x5 (ix2 0 k)) (j 1) := by
  frame_out
  idx_vars j
  exact pay3_at x4 x5 j0 j1

/-- The third result, case A. -/
theorem gate_A (hc0 : cond0_0 i) (j : S512x2816.Idx) :
    out0_A_11 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 j
      = gateB x4 x5 x6 (j 0) (j 1) := by
  frame_out
  refine View.canon_append_of_piecesOf (Val := Elt Ideal) (e := .bf16) (fun j => gateB x4 x5 x6 (j 0) (j 1)) []
    [_, _, _] ⟨?_, ?_, ?_, trivial⟩ j (View.cover_of_tiledBy _ ![512, 256] (by sl_kernel_rfl) j)
  · intro y
    idx_vars y
    refine Eq.trans (b := lin (fun k => k0_pay3 (F := Ideal) x4 x5 (ix2 y0 k)) (fun a k => x6 (ix3 0 a k)) ⟨2048 + y1.val, by omega⟩) (gate2048_at (k0_pay3 x4 x5) x6 y0 y1) ?_
    simp only [pay3_at]
    unfold gateB
    refine congr (congrArg (fun f => lin f _) (congrArg (fun r => normed (fun k => x4 (ix2 r k)) _) (Fin.ext ?_))) (Fin.ext ?_) <;> simp
  · intro y
    idx_vars y
    refine Eq.trans (b := lin (fun k => k0_pay3 (F := Ideal) x4 x5 (ix2 y0 k)) (fun a k => x6 (ix3 0 a k)) ⟨1024 + y1.val, by omega⟩) (gate1024_at (k0_pay3 x4 x5) x6 y0 y1) ?_
    simp only [pay3_at]
    unfold gateB
    refine congr (congrArg (fun f => lin f _) (congrArg (fun r => normed (fun k => x4 (ix2 r k)) _) (Fin.ext ?_))) (Fin.ext ?_) <;> simp
  · intro y
    idx_vars y
    refine Eq.trans (b := lin (normed (fun k => x4 (ix2 y0 k)) (fun k => x5 (ix2 0 k))) (fun a k => x6 (ix3 0 a k)) ⟨y1.val, by omega⟩) (gate0_at x4 x5 x6 y0 y1) ?_
    unfold gateB
    refine congr (congrArg (fun f => lin f _) (congrArg (fun r => normed (fun k => x4 (ix2 r k)) _) (Fin.ext ?_))) (Fin.ext ?_) <;> simp

/-- The fourth result, case A. -/
theorem up_A (hc0 : cond0_0 i) (j : S512x2816.Idx) :
    out0_A_12 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 j
      = upB x4 x5 x6 (j 0) (j 1) := by
  frame_out
  refine View.canon_append_of_piecesOf (Val := Elt Ideal) (e := .bf16) (fun j => upB x4 x5 x6 (j 0) (j 1)) []
    [_, _, _] ⟨?_, ?_, ?_, trivial⟩ j (View.cover_of_tiledBy _ ![512, 256] (by sl_kernel_rfl) j)
  · intro y
    idx_vars y
    refine Eq.trans (b := lin (fun k => k0_pay3 (F := Ideal) x4 x5 (ix2 y0 k)) (fun a k => x6 (ix3 1 a k)) ⟨2048 + y1.val, by omega⟩) (up2048_at (k0_pay3 x4 x5) x6 y0 y1) ?_
    simp only [pay3_at]
    unfold upB
    refine congr (congrArg (fun f => lin f _) (congrArg (fun r => normed (fun k => x4 (ix2 r k)) _) (Fin.ext ?_))) (Fin.ext ?_) <;> simp
  · intro y
    idx_vars y
    refine Eq.trans (b := lin (fun k => k0_pay3 (F := Ideal) x4 x5 (ix2 y0 k)) (fun a k => x6 (ix3 1 a k)) ⟨1024 + y1.val, by omega⟩) (up1024_at (k0_pay3 x4 x5) x6 y0 y1) ?_
    simp only [pay3_at]
    unfold upB
    refine congr (congrArg (fun f => lin f _) (congrArg (fun r => normed (fun k => x4 (ix2 r k)) _) (Fin.ext ?_))) (Fin.ext ?_) <;> simp
  · intro y
    idx_vars y
    refine Eq.trans (b := lin (normed (fun k => x4 (ix2 y0 k)) (fun k => x5 (ix2 0 k))) (fun a k => x6 (ix3 1 a k)) ⟨y1.val, by omega⟩) (up0_at x4 x5 x6 y0 y1) ?_
    unfold upB
    refine congr (congrArg (fun f => lin f _) (congrArg (fun r => normed (fun k => x4 (ix2 r k)) _) (Fin.ext ?_))) (Fin.ext ?_) <;> simp

/-- The loss, case A. -/
theorem loss_A (hc0 : cond0_0 i) (j : S1x1.Idx) :
    out0_A_13 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 j
      = 0 + (0 + lossG (BitVec.ofNat 32 (i 0).val) 0 x0 (HO x4 x5 x6 x7) x8 + lossG (BitVec.ofNat 32 (i 0).val) 1 x1 (HO x4 x5 x6 x7) x8 + lossG (BitVec.ofNat 32 (i 0).val) 2 x2 (HO x4 x5 x6 x7) x8 + lossG (BitVec.ofNat 32 (i 0).val) 3 x3 (HO x4 x5 x6 x7) x8) := by
  frame_out
  rw [fold19, fold22, fold23]
  generalize HO x4 x5 x6 x7 = H
  generalize BitVec.ofNat 32 (i 0).val = a
  rw [foldT]
  idx_vars j
  obtain rfl : j0 = 0 := Subsingleton.elim _ _
  obtain rfl : j1 = 0 := Subsingleton.elim _ _
  refine (loss3_at a H x8 x3 _ _).trans ?_
  refine congrArg₂ (fun u v : EReal => u + v) (by pointwise [k0_pay1]) (congrArg₂ (fun u v : EReal => u + v) ?_ rfl)
  refine (loss2_at a H x8 x2 _).trans (congrArg₂ (fun u v : EReal => u + v) ?_ rfl)
  refine (loss1_at (tst a 1#32) H x8 x1 _).trans (congrArg₂ (fun u v : EReal => u + v) ?_ rfl)
  refine (loss0_at a H x8 x0 _).trans (congrArg₂ (fun u v : EReal => u + v) ?_ ?_)
  · pointwise [k0_pay20]
  · simp [lossG]

/-- The gain's gradient, case A. -/
theorem dg_A (hc0 : cond0_0 i) (j : S1x1024.Idx) :
    out0_A_14 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 j
      = 0 + (0 + dgG (BitVec.ofNat 32 (i 0).val) 0 x0 (HO x4 x5 x6 x7) x8 (j 1) + dgG (BitVec.ofNat 32 (i 0).val) 1 x1 (HO x4 x5 x6 x7) x8 (j 1) + dgG (BitVec.ofNat 32 (i 0).val) 2 x2 (HO x4 x5 x6 x7) x8 (j 1) + dgG (BitVec.ofNat 32 (i 0).val) 3 x3 (HO x4 x5 x6 x7) x8 (j 1)) := by
  frame_out
  rw [fold19, fold22, fold23]
  generalize HO x4 x5 x6 x7 = H
  generalize BitVec.ofNat 32 (i 0).val = a
  rw [foldT]
  idx_vars j
  obtain rfl : j0 = 0 := Subsingleton.elim _ _
  refine (dg3_at a H x8 x3 _ _ j1).trans ?_
  refine congrArg₂ (fun u v : EReal => u + v) (by pointwise [k0_pay2]) (congrArg₂ (fun u v : EReal => u + v) ?_ rfl)
  refine (dg2_at a H x8 x2 _ j1).trans (congrArg₂ (fun u v : EReal => u + v) ?_ rfl)
  refine (dg1_at (tst a 1#32) H x8 x1 _ j1).trans (congrArg₂ (fun u v : EReal => u + v) ?_ rfl)
  refine (dg0_at a H x8 x0 _ j1).trans (congrArg₂ (fun u v : EReal => u + v) ?_ ?_)
  · pointwise [k0_pay21]
  · simp [dgG]

/-- The first result, case B. -/
theorem dh_B (hc0 : ¬cond0_0 i) (j : S512x1024.Idx) :
    out0_B_9 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 xo13 xo14 j
      = dhB (BitVec.ofNat 32 (i 0).val) x0 x1 x2 x3 (HO x4 x5 x6 x7) x8 (j 0) (j 1) := by
  frame_out
  rw [fold19, fold22, fold23]
  generalize HO x4 x5 x6 x7 = H
  generalize BitVec.ofNat 32 (i 0).val = a
  rw [foldT]
  refine rows4 _ _ _ _ (fun j => dhB a x0 x1 x2 x3 H x8 (j 0) (j 1)) (fun y l => ?_) (fun y l => ?_) (fun y l => ?_) (fun y l => ?_) j
  · exact (dh3_at a H x8 x3 y l).trans (dhB_3 a x0 x1 x2 x3 H x8 _ y _ l rfl rfl).symm
  · exact (dh2_at a H x8 x2 y l).trans (dhB_2 a x0 x1 x2 x3 H x8 _ y _ l rfl rfl).symm
  · exact (dh1_at (tst a 1#32) H x8 x1 y l).trans (dhB_1 a x0 x1 x2 x3 H x8 _ y _ l rfl rfl).symm
  · exact (dh0_at a H x8 x0 y l).trans (dhB_0 a x0 x1 x2 x3 H x8 _ y _ l rfl rfl).symm

/-- The second result, case B. -/
theorem nrm_B (hc0 : ¬cond0_0 i) (j : S512x1024.Idx) :
    out0_B_10 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 xo13 xo14 j
      = normed (fun k => x4 (ix2 (j 0) k)) (fun k => x5 (ix2 0 k)) (j 1) := by
  frame_out
  idx_vars j
  exact pay3_at x4 x5 j0 j1

/-- The third result, case B. -/
theorem gate_B (hc0 : ¬cond0_0 i) (j : S512x2816.Idx) :
    out0_B_11 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 xo13 xo14 j
      = gateB x4 x5 x6 (j 0) (j 1) := by
  frame_out
  refine View.canon_append_of_piecesOf (Val := Elt Ideal) (e := .bf16) (fun j => gateB x4 x5 x6 (j 0) (j 1)) []
    [_, _, _] ⟨?_, ?_, ?_, trivial⟩ j (View.cover_of_tiledBy _ ![512, 256] (by sl_kernel_rfl) j)
  · intro y
    idx_vars y
    refine Eq.trans (b := lin (fun k => k0_pay3 (F := Ideal) x4 x5 (ix2 y0 k)) (fun a k => x6 (ix3 0 a k)) ⟨2048 + y1.val, by omega⟩) (gate2048_at (k0_pay3 x4 x5) x6 y0 y1) ?_
    simp only [pay3_at]
    unfold gateB
    refine congr (congrArg (fun f => lin f _) (congrArg (fun r => normed (fun k => x4 (ix2 r k)) _) (Fin.ext ?_))) (Fin.ext ?_) <;> simp
  · intro y
    idx_vars y
    refine Eq.trans (b := lin (fun k => k0_pay3 (F := Ideal) x4 x5 (ix2 y0 k)) (fun a k => x6 (ix3 0 a k)) ⟨1024 + y1.val, by omega⟩) (gate1024_at (k0_pay3 x4 x5) x6 y0 y1) ?_
    simp only [pay3_at]
    unfold gateB
    refine congr (congrArg (fun f => lin f _) (congrArg (fun r => normed (fun k => x4 (ix2 r k)) _) (Fin.ext ?_))) (Fin.ext ?_) <;> simp
  · intro y
    idx_vars y
    refine Eq.trans (b := lin (normed (fun k => x4 (ix2 y0 k)) (fun k => x5 (ix2 0 k))) (fun a k => x6 (ix3 0 a k)) ⟨y1.val, by omega⟩) (gate0_at x4 x5 x6 y0 y1) ?_
    unfold gateB
    refine congr (congrArg (fun f => lin f _) (congrArg (fun r => normed (fun k => x4 (ix2 r k)) _) (Fin.ext ?_))) (Fin.ext ?_) <;> simp

/-- The fourth result, case B. -/
theorem up_B (hc0 : ¬cond0_0 i) (j : S512x2816.Idx) :
    out0_B_12 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 xo13 xo14 j
      = upB x4 x5 x6 (j 0) (j 1) := by
  frame_out
  refine View.canon_append_of_piecesOf (Val := Elt Ideal) (e := .bf16) (fun j => upB x4 x5 x6 (j 0) (j 1)) []
    [_, _, _] ⟨?_, ?_, ?_, trivial⟩ j (View.cover_of_tiledBy _ ![512, 256] (by sl_kernel_rfl) j)
  · intro y
    idx_vars y
    refine Eq.trans (b := lin (fun k => k0_pay3 (F := Ideal) x4 x5 (ix2 y0 k)) (fun a k => x6 (ix3 1 a k)) ⟨2048 + y1.val, by omega⟩) (up2048_at (k0_pay3 x4 x5) x6 y0 y1) ?_
    simp only [pay3_at]
    unfold upB
    refine congr (congrArg (fun f => lin f _) (congrArg (fun r => normed (fun k => x4 (ix2 r k)) _) (Fin.ext ?_))) (Fin.ext ?_) <;> simp
  · intro y
    idx_vars y
    refine Eq.trans (b := lin (fun k => k0_pay3 (F := Ideal) x4 x5 (ix2 y0 k)) (fun a k => x6 (ix3 1 a k)) ⟨1024 + y1.val, by omega⟩) (up1024_at (k0_pay3 x4 x5) x6 y0 y1) ?_
    simp only [pay3_at]
    unfold upB
    refine congr (congrArg (fun f => lin f _) (congrArg (fun r => normed (fun k => x4 (ix2 r k)) _) (Fin.ext ?_))) (Fin.ext ?_) <;> simp
  · intro y
    idx_vars y
    refine Eq.trans (b := lin (normed (fun k => x4 (ix2 y0 k)) (fun k => x5 (ix2 0 k))) (fun a k => x6 (ix3 1 a k)) ⟨y1.val, by omega⟩) (up0_at x4 x5 x6 y0 y1) ?_
    unfold upB
    refine congr (congrArg (fun f => lin f _) (congrArg (fun r => normed (fun k => x4 (ix2 r k)) _) (Fin.ext ?_))) (Fin.ext ?_) <;> simp

/-- The loss, case B. -/
theorem loss_B (hc0 : ¬cond0_0 i) (j : S1x1.Idx) :
    out0_B_13 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 xo13 xo14 j
      = xo13 j + (0 + lossG (BitVec.ofNat 32 (i 0).val) 0 x0 (HO x4 x5 x6 x7) x8 + lossG (BitVec.ofNat 32 (i 0).val) 1 x1 (HO x4 x5 x6 x7) x8 + lossG (BitVec.ofNat 32 (i 0).val) 2 x2 (HO x4 x5 x6 x7) x8 + lossG (BitVec.ofNat 32 (i 0).val) 3 x3 (HO x4 x5 x6 x7) x8) := by
  frame_out
  rw [fold19, fold22, fold23]
  generalize HO x4 x5 x6 x7 = H
  generalize BitVec.ofNat 32 (i 0).val = a
  rw [foldT]
  idx_vars j
  obtain rfl : j0 = 0 := Subsingleton.elim _ _
  obtain rfl : j1 = 0 := Subsingleton.elim _ _
  refine (loss3_at a H x8 x3 _ _).trans ?_
  refine congrArg₂ (fun u v : EReal => u + v) rfl (congrArg₂ (fun u v : EReal => u + v) ?_ rfl)
  refine (loss2_at a H x8 x2 _).trans (congrArg₂ (fun u v : EReal => u + v) ?_ rfl)
  refine (loss1_at (tst a 1#32) H x8 x1 _).trans (congrArg₂ (fun u v : EReal => u + v) ?_ rfl)
  refine (loss0_at a H x8 x0 _).trans (congrArg₂ (fun u v : EReal => u + v) ?_ ?_)
  · pointwise [k0_pay20]
  · simp [lossG]

/-- The gain's gradient, case B. -/
theorem dg_B (hc0 : ¬cond0_0 i) (j : S1x1024.Idx) :
    out0_B_14 (F := Ideal) c i a1 h1 a2 h2 a3 h3 a4 h4 a5 h5 a6 h6 a7 h7 a8 h8 a9 h9 a10 h10 a11 h11 a12 h12 a13 h13 a14
  h14 a15 h15 hc0 x0 x1 x2 x3 x4 x5 x6 x7 x8 xo13 xo14 j
      = xo14 j + (0 + dgG (BitVec.ofNat 32 (i 0).val) 0 x0 (HO x4 x5 x6 x7) x8 (j 1) + dgG (BitVec.ofNat 32 (i 0).val) 1 x1 (HO x4 x5 x6 x7) x8 (j 1) + dgG (BitVec.ofNat 32 (i 0).val) 2 x2 (HO x4 x5 x6 x7) x8 (j 1) + dgG (BitVec.ofNat 32 (i 0).val) 3 x3 (HO x4 x5 x6 x7) x8 (j 1)) := by
  frame_out
  rw [fold19, fold22, fold23]
  generalize HO x4 x5 x6 x7 = H
  generalize BitVec.ofNat 32 (i 0).val = a
  rw [foldT]
  idx_vars j
  obtain rfl : j0 = 0 := Subsingleton.elim _ _
  refine (dg3_at a H x8 x3 _ _ j1).trans ?_
  refine congrArg₂ (fun u v : EReal => u + v) rfl (congrArg₂ (fun u v : EReal => u + v) ?_ rfl)
  refine (dg2_at a H x8 x2 _ j1).trans (congrArg₂ (fun u v : EReal => u + v) ?_ rfl)
  refine (dg1_at (tst a 1#32) H x8 x1 _ j1).trans (congrArg₂ (fun u v : EReal => u + v) ?_ rfl)
  refine (dg0_at a H x8 x0 _ j1).trans (congrArg₂ (fun u v : EReal => u + v) ?_ ?_)
  · pointwise [k0_pay21]
  · simp [dgG]

end Body

end Cert.FfnIdeal.Hand
-- ==== Proof.FfnSpec.lean ====
/-
  The last block of the network on whole arrays: the rows after it, which rows have a target and which, and what the
  kernel's row-wise gradient and sums are of them.
-/
module

public import proofs.«01_k».proof.Proof.FfnMath

@[expose] public section

noncomputable section

namespace Cert.FfnSpec

open Idealize.ShloMosaic Cert.Finite Cert.NormMath Cert.ActMath Cert.FfnMath
open Cert.InprojMath (normed)

/-- The arrays the call is given, by rows. -/
structure Args where
  /-- The rows. -/
  h : Fin 8704 → Fin 1024 → EReal
  /-- The gain of the norm before the block. -/
  g : Fin 1024 → EReal
  /-- The gate's weights. -/
  wg : Fin 2816 → Fin 1024 → EReal
  /-- The up projection's weights. -/
  wu : Fin 2816 → Fin 1024 → EReal
  /-- The down projection's weights. -/
  wd : Fin 2816 → Fin 1024 → EReal
  /-- The last gain. -/
  gf : Fin 1024 → EReal
  /-- The targets. -/
  tg : Fin 8192 → Fin 1024 → EReal

variable (A : Args)

/-- Row `r`, normed. -/
def nrm (r : Fin 8704) : Fin 1024 → EReal := normed (A.h r) A.g

/-- Its gate. -/
def gate (r : Fin 8704) : Fin 2816 → EReal := lin (nrm A r) A.wg

/-- Its up projection. -/
def up (r : Fin 8704) : Fin 2816 → EReal := lin (nrm A r) A.wu

/-- Row `r` after the block. -/
def hr (r : Fin 8704) : Fin 1024 → EReal := hout (A.h r) (gate A r) (up A r) A.wd

/-- Rows come in groups of 128; every seventeenth has no target. -/
def lead (r : ℕ) : BitVec 1 := if r / 128 % 17 = 0 then 1 else 0

/-- The target row of a row: the groups without one are skipped. -/
def trow (r : ℕ) : ℕ := (r / 128 / 17 * 16 + max (r / 128 % 17) 1 - 1) * 128 + r % 128

/-- The target row of a row is among the targets. -/
theorem trow_lt (r : ℕ) (h : r < 8704) : trow r < 8192 := by
  unfold trow
  omega

/-- The target of row `r`. -/
def tgt (r : Fin 8704) : Fin 1024 → EReal := A.tg ⟨trow r.val, trow_lt r.val r.isLt⟩

/-- The gradient of row `r`. -/
def dh (r : Fin 8704) : Fin 1024 → EReal := dhv (lead r.val) (hr A r) A.gf (tgt A r)

/-- Row `r` of group `s`. -/
def row (s : Fin 68) (r : Fin 128) : Fin 8704 := ⟨128 * s.val + r.val, by omega⟩

/-- The loss of group `s`. -/
def lossP (s : Fin 68) : EReal :=
  lossv (lead (128 * s.val)) (fun r => hr A (row s r)) A.gf fun r => tgt A (row s r)

/-- The loss. -/
def loss : EReal := ∑ s, lossP A s

/-- The last gain's gradient of group `s`. -/
def dgP (s : Fin 68) (j : Fin 1024) : EReal :=
  dgv (lead (128 * s.val)) (fun r => hr A (row s r)) A.gf (fun r => tgt A (row s r)) j

/-- The last gain's gradient. -/
def dg (j : Fin 1024) : EReal := ∑ s, dgP A s j

end Cert.FfnSpec
-- ==== Proof.FfnValue.lean ====
/-
  What the kernel of the last block leaves in its six result arrays.
-/
module

public import proofs.«01_k».proof.Proof.FfnBlock
public import proofs.«01_k».proof.Proof.FfnSpec

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.FfnMath Cert.NormMath
open Cert.InprojMath (normed)

variable (m : (ℓ : Loc nD τ sig) → Buf (Elt Ideal) ℓ) (c : Dev nD)

/-- The rows. -/
abbrev arg0 : Vec Ideal S8704x1024 .f32 := m ((c.tc : Thread nD τ).loc main_arg0)
/-- The gain of the norm before the block. -/
abbrev arg1 : Vec Ideal S1x1024 .f32 := m ((c.tc : Thread nD τ).loc main_arg1)
/-- The gate's and the up projection's weights. -/
abbrev arg2 : Vec Ideal S2x2816x1024 .bf16 := m ((c.tc : Thread nD τ).loc main_arg2)
/-- The down projection's weights. -/
abbrev arg3 : Vec Ideal S2816x1024 .bf16 := m ((c.tc : Thread nD τ).loc main_arg3)
/-- The last gain. -/
abbrev arg4 : Vec Ideal S1x1024 .f32 := m ((c.tc : Thread nD τ).loc main_arg4)
/-- The targets. -/
abbrev arg5 : Vec Ideal S8192x1024 .f32 := m ((c.tc : Thread nD τ).loc main_arg5)

/-- The arguments, by rows. -/
def args : FfnSpec.Args where
  h := fun r k => arg0 m c (ix2 r k)
  g := fun k => arg1 m c (ix2 0 k)
  wg := fun a k => arg2 m c (ix3 0 a k)
  wu := fun a k => arg2 m c (ix3 1 a k)
  wd := fun a j => arg3 m c (ix2 a j)
  gf := fun k => arg4 m c (ix2 0 k)
  tg := fun r k => arg5 m c (ix2 r k)

/-- The first result. -/
def dh : S8704x1024.Idx → EReal := fun j => FfnSpec.dh (args m c) (j 0) (j 1)
/-- The second. -/
def nrm : S8704x1024.Idx → EReal := fun j => FfnSpec.nrm (args m c) (j 0) (j 1)
/-- The third. -/
def gate : S8704x2816.Idx → EReal := fun j => FfnSpec.gate (args m c) (j 0) (j 1)
/-- The fourth. -/
def up : S8704x2816.Idx → EReal := fun j => FfnSpec.up (args m c) (j 0) (j 1)
/-- The fifth. -/
def loss : S1x1.Idx → EReal := fun j => FfnSpec.loss (args m c)
/-- The sixth. -/
def dg : S1x1024.Idx → EReal := fun j => FfnSpec.dg (args m c) (j 1)

/-- Which blocks a point reads and writes. -/
theorem idx : ∀ t : Fin cfg0.N, win0_0.index t = ![(4 * t.val) / 17 * 16 + max ((4 * t.val) % 17) 1 - 1, 0]
    ∧ win0_1.index t = ![(4 * t.val + 1) / 17 * 16 + max ((4 * t.val + 1) % 17) 1 - 1, 0]
    ∧ win0_2.index t = ![(4 * t.val + 2) / 17 * 16 + max ((4 * t.val + 2) % 17) 1 - 1, 0]
    ∧ win0_3.index t = ![(4 * t.val + 3) / 17 * 16 + max ((4 * t.val + 3) % 17) 1 - 1, 0]
    ∧ win0_4.index t = ![t.val, 0] ∧ win0_5.index t = ![0, 0] ∧ win0_6.index t = ![0, 0, 0] ∧ win0_7.index t = ![0, 0]
    ∧ win0_8.index t = ![0, 0] ∧ win0_9.index t = ![t.val, 0] ∧ win0_10.index t = ![t.val, 0]
    ∧ win0_11.index t = ![t.val, 0] ∧ win0_12.index t = ![t.val, 0] ∧ win0_13.index t = ![0, 0] ∧ win0_14.index t = ![0, 0] :=
  (by decide +kernel : ∀ t : Fin grid0.N, _)

/-- A point's test of its group `k`. -/
theorem bits : ∀ t : Fin cfg0.N, ∀ k : Fin 4, tst (BitVec.ofNat 32 (grid0.coords t 0).val) (BitVec.ofNat 32 k.val)
    = if (4 * t.val + k.val) % 17 = 0 then 1 else 0 :=
  (by decide +kernel : ∀ t : Fin grid0.N, _)

/-- There are seventeen points. -/
theorem tlt (t : Fin cfg0.N) : t.val < 17 := lt_of_lt_of_eq t.isLt N_0

/-- Row `r` of block `t` is row `512 t + r`. -/
def at_ (t : Fin cfg0.N) (r : Fin 512) : Fin 8704 := ⟨512 * t.val + r.val, by
  have h := tlt t
  omega⟩

/-- Group `k` of block `t` is group `4 t + k`. -/
def grp (t : Fin cfg0.N) (k : Fin 4) : Fin 68 := ⟨4 * t.val + k.val, by
  have h := tlt t
  omega⟩

/-- A block's row. -/
theorem row_blk (t : Fin cfg0.N) (r : Fin 512) :
    (fun k => (iblk m c 4 t : Vec Ideal S512x1024 .f32) (ix2 r k)) = (args m c).h (at_ t r) := by
  funext k
  simp only [args, at_]
  blk_point [iblk, V, idx t]

/-- The gain's block is the gain. -/
theorem gain_blk (t : Fin cfg0.N) : (fun k => (iblk m c 5 t : Vec Ideal S1x1024 .f32) (ix2 0 k)) = (args m c).g := by
  funext k
  simp only [args]
  blk_point [iblk, V, idx t]

/-- The gate's weights. -/
theorem wg_blk (t : Fin cfg0.N) : (fun a k => (iblk m c 6 t : Vec Ideal S2x2816x1024 .bf16) (ix3 0 a k)) = (args m c).wg := by
  funext a k
  simp only [args]
  blk_point [iblk, V, idx t]

/-- The up projection's weights. -/
theorem wu_blk (t : Fin cfg0.N) : (fun a k => (iblk m c 6 t : Vec Ideal S2x2816x1024 .bf16) (ix3 1 a k)) = (args m c).wu := by
  funext a k
  simp only [args]
  blk_point [iblk, V, idx t]

/-- The down projection's weights. -/
theorem wd_blk (t : Fin cfg0.N) : (fun a k => (iblk m c 7 t : Vec Ideal S2816x1024 .bf16) (ix2 a k)) = (args m c).wd := by
  funext a k
  simp only [args]
  blk_point [iblk, V, idx t]

/-- The last gain's block. -/
theorem gf_blk (t : Fin cfg0.N) : (fun k => (iblk m c 8 t : Vec Ideal S1x1024 .f32) (ix2 0 k)) = (args m c).gf := by
  funext k
  simp only [args]
  blk_point [iblk, V, idx t]

/-- The targets of a block's group 0. -/
theorem tgt_blk0 (t : Fin cfg0.N) (r : Fin 128) :
    (fun j => (iblk m c 0 t : Vec Ideal S128x1024 .f32) (ix2 r j)) = FfnSpec.tgt (args m c) (FfnSpec.row (grp t 0) r) := by
  funext j
  have h := tlt t
  have e : FfnSpec.trow (FfnSpec.row (grp t 0) r).val = ((4 * t.val) / 17 * 16 + max ((4 * t.val) % 17) 1 - 1) * 128 + r.val := by
    have e1 : (FfnSpec.row (grp t 0) r).val = 128 * (4 * t.val) + r.val := rfl
    have e2 : (128 * (4 * t.val) + r.val) / 128 = 4 * t.val := by omega
    have e3 : (128 * (4 * t.val) + r.val) % 128 = r.val := by omega
    rw [FfnSpec.trow, e1, e2, e3]
  simp only [FfnSpec.tgt, e, args]
  blk_point [iblk, V, idx t]

/-- The targets of a block's group 1. -/
theorem tgt_blk1 (t : Fin cfg0.N) (r : Fin 128) :
    (fun j => (iblk m c 1 t : Vec Ideal S128x1024 .f32) (ix2 r j)) = FfnSpec.tgt (args m c) (FfnSpec.row (grp t 1) r) := by
  funext j
  have h := tlt t
  have e : FfnSpec.trow (FfnSpec.row (grp t 1) r).val = ((4 * t.val + 1) / 17 * 16 + max ((4 * t.val + 1) % 17) 1 - 1) * 128 + r.val := by
    have e1 : (FfnSpec.row (grp t 1) r).val = 128 * (4 * t.val + 1) + r.val := rfl
    have e2 : (128 * (4 * t.val + 1) + r.val) / 128 = 4 * t.val + 1 := by omega
    have e3 : (128 * (4 * t.val + 1) + r.val) % 128 = r.val := by omega
    rw [FfnSpec.trow, e1, e2, e3]
  simp only [FfnSpec.tgt, e, args]
  blk_point [iblk, V, idx t]

/-- The targets of a block's group 2. -/
theorem tgt_blk2 (t : Fin cfg0.N) (r : Fin 128) :
    (fun j => (iblk m c 2 t : Vec Ideal S128x1024 .f32) (ix2 r j)) = FfnSpec.tgt (args m c) (FfnSpec.row (grp t 2) r) := by
  funext j
  have h := tlt t
  have e : FfnSpec.trow (FfnSpec.row (grp t 2) r).val = ((4 * t.val + 2) / 17 * 16 + max ((4 * t.val + 2) % 17) 1 - 1) * 128 + r.val := by
    have e1 : (FfnSpec.row (grp t 2) r).val = 128 * (4 * t.val + 2) + r.val := rfl
    have e2 : (128 * (4 * t.val + 2) + r.val) / 128 = 4 * t.val + 2 := by omega
    have e3 : (128 * (4 * t.val + 2) + r.val) % 128 = r.val := by omega
    rw [FfnSpec.trow, e1, e2, e3]
  simp only [FfnSpec.tgt, e, args]
  blk_point [iblk, V, idx t]

/-- The targets of a block's group 3. -/
theorem tgt_blk3 (t : Fin cfg0.N) (r : Fin 128) :
    (fun j => (iblk m c 3 t : Vec Ideal S128x1024 .f32) (ix2 r j)) = FfnSpec.tgt (args m c) (FfnSpec.row (grp t 3) r) := by
  funext j
  have h := tlt t
  have e : FfnSpec.trow (FfnSpec.row (grp t 3) r).val = ((4 * t.val + 3) / 17 * 16 + max ((4 * t.val + 3) % 17) 1 - 1) * 128 + r.val := by
    have e1 : (FfnSpec.row (grp t 3) r).val = 128 * (4 * t.val + 3) + r.val := rfl
    have e2 : (128 * (4 * t.val + 3) + r.val) / 128 = 4 * t.val + 3 := by omega
    have e3 : (128 * (4 * t.val + 3) + r.val) % 128 = r.val := by omega
    rw [FfnSpec.trow, e1, e2, e3]
  simp only [FfnSpec.tgt, e, args]
  blk_point [iblk, V, idx t]

/-- A block's normed row. -/
theorem nrm_blk (t : Fin cfg0.N) (r : Fin 512) :
    normed (fun k => (iblk m c 4 t : Vec Ideal S512x1024 .f32) (ix2 r k)) (fun k => (iblk m c 5 t : Vec Ideal S1x1024 .f32) (ix2 0 k))
      = FfnSpec.nrm (args m c) (at_ t r) :=
  congr (congrArg normed (row_blk m c t r)) (gain_blk m c t)

/-- Its gate. -/
theorem gate_blk (t : Fin cfg0.N) (r : Fin 512) :
    gateB (iblk m c 4 t) (iblk m c 5 t) (iblk m c 6 t) r = FfnSpec.gate (args m c) (at_ t r) :=
  congr (congrArg lin (nrm_blk m c t r)) (wg_blk m c t)

/-- Its up projection. -/
theorem up_blk (t : Fin cfg0.N) (r : Fin 512) :
    upB (iblk m c 4 t) (iblk m c 5 t) (iblk m c 6 t) r = FfnSpec.up (args m c) (at_ t r) :=
  congr (congrArg lin (nrm_blk m c t r)) (wu_blk m c t)

/-- The row after the block. -/
theorem hr_blk (t : Fin cfg0.N) (r : Fin 512) :
    (fun j => HO (iblk m c 4 t) (iblk m c 5 t) (iblk m c 6 t) (iblk m c 7 t) (ix2 r j)) = FfnSpec.hr (args m c) (at_ t r) := by
  funext j
  refine (HO_at _ _ _ _ r j).trans ?_
  exact congrFun (congr (congr (congr (congrArg hout (row_blk m c t r)) (gate_blk m c t r)) (up_blk m c t r)) (wd_blk m c t)) j

/-- Whether it is without a target. -/
theorem bit_blk (t : Fin cfg0.N) (r : Fin 512) :
    bitB (BitVec.ofNat 32 (grid0.coords t 0).val) r = FfnSpec.lead (at_ t r).val := by
  have h := tlt t
  have hr := r.isLt
  refine (bits t ⟨r.val / 128, by omega⟩).trans ?_
  have e : (at_ t r).val / 128 = 4 * t.val + r.val / 128 := by
    simp only [at_]
    omega
  rw [FfnSpec.lead, e]

/-- Its target. -/
theorem tsel_blk (t : Fin cfg0.N) (r : Fin 512) :
    tsel (iblk m c 0 t) (iblk m c 1 t) (iblk m c 2 t) (iblk m c 3 t) r = FfnSpec.tgt (args m c) (at_ t r) := by
  have h := tlt t
  have hr := r.isLt
  funext j
  unfold tsel
  by_cases h0 : r.val < 128
  · rw [dif_pos h0]
    refine (congrFun (tgt_blk0 m c t ⟨r.val, h0⟩) j).trans (congrFun (congrArg (FfnSpec.tgt (args m c)) (Fin.ext ?_)) j)
    simp only [FfnSpec.row, grp, at_, Fin.val_zero]
    omega
  rw [dif_neg h0]
  by_cases h1 : r.val < 256
  · rw [dif_pos h1]
    refine (congrFun (tgt_blk1 m c t ⟨r.val - 128, by omega⟩) j).trans (congrFun (congrArg (FfnSpec.tgt (args m c)) (Fin.ext ?_)) j)
    simp only [FfnSpec.row, grp, at_, Fin.val_one]
    omega
  rw [dif_neg h1]
  by_cases h2 : r.val < 384
  · rw [dif_pos h2]
    refine (congrFun (tgt_blk2 m c t ⟨r.val - 256, by omega⟩) j).trans (congrFun (congrArg (FfnSpec.tgt (args m c)) (Fin.ext ?_)) j)
    simp only [FfnSpec.row, grp, at_, Fin.val_two]
    omega
  rw [dif_neg h2]
  refine (congrFun (tgt_blk3 m c t ⟨r.val - 384, by omega⟩) j).trans (congrFun (congrArg (FfnSpec.tgt (args m c)) (Fin.ext ?_)) j)
  simp only [FfnSpec.row, grp, at_, show ((3 : Fin 4).val) = 3 from rfl]
  omega

/-- What a point leaves of the first result. -/
theorem dh_at (t : Fin cfg0.N) (y : S512x1024.Idx) :
    (outsAt0 m c t.val t.isLt).1 y = dh m c (ix2 (at_ t (y 0)) (y 1)) := by
  have e : (outsAt0 m c t.val t.isLt).1 y = dhB (BitVec.ofNat 32 (grid0.coords t 0).val) (iblk m c 0 t) (iblk m c 1 t) (iblk m c 2 t) (iblk m c 3 t) (HO (iblk m c 4 t) (iblk m c 5 t) (iblk m c 6 t) (iblk m c 7 t)) (iblk m c 8 t) (y 0) (y 1) := by
    by_cases h0 : t.val % 17 = 0
    · rw [outsAt0_A m c t h0]
      dsimp only
      rw [dh_A]
    · rw [outsAt0_B m c t h0]
      dsimp only
      rw [dh_B]
  refine e.trans ?_
  exact congrFun (congr (congr (congr (congrArg dhv (bit_blk t (y 0))) (hr_blk m c t (y 0))) (gf_blk m c t)) (tsel_blk m c t (y 0))) (y 1)

/-- The first array. -/
theorem dh_eq : (dats m 0 c).arrAt 9 cfg0.N = dh m c := by
  refine (dats m 0 c).arrAt_eq_of_covers 9 _ (by decide +kernel) fun t hf y => ?_
  blk_simp
  rw [after0_9]
  refine (dh_at m c t y).trans (congrArg (dh m c) ?_)
  simp only [at_]
  blk_ext [idx t]

/-- What a point leaves of the second result. -/
theorem nrm_at (t : Fin cfg0.N) (y : S512x1024.Idx) :
    (outsAt0 m c t.val t.isLt).2.1 y = nrm m c (ix2 (at_ t (y 0)) (y 1)) := by
  have e : (outsAt0 m c t.val t.isLt).2.1 y = normed (fun k => (iblk m c 4 t : Vec Ideal S512x1024 .f32) (ix2 (y 0) k)) (fun k => (iblk m c 5 t : Vec Ideal S1x1024 .f32) (ix2 0 k)) (y 1) := by
    by_cases h0 : t.val % 17 = 0
    · rw [outsAt0_A m c t h0]
      dsimp only
      rw [nrm_A]
    · rw [outsAt0_B m c t h0]
      dsimp only
      rw [nrm_B]
  refine e.trans ?_
  exact congrFun (nrm_blk m c t (y 0)) (y 1)

/-- The second array. -/
theorem nrm_eq : (dats m 0 c).arrAt 10 cfg0.N = nrm m c := by
  refine (dats m 0 c).arrAt_eq_of_covers 10 _ (by decide +kernel) fun t hf y => ?_
  blk_simp
  rw [after0_10]
  refine (nrm_at m c t y).trans (congrArg (nrm m c) ?_)
  simp only [at_]
  blk_ext [idx t]

/-- What a point leaves of the third result. -/
theorem gate_at (t : Fin cfg0.N) (y : S512x2816.Idx) :
    (outsAt0 m c t.val t.isLt).2.2.1 y = gate m c (ix2 (at_ t (y 0)) (y 1)) := by
  have e : (outsAt0 m c t.val t.isLt).2.2.1 y = gateB (iblk m c 4 t) (iblk m c 5 t) (iblk m c 6 t) (y 0) (y 1) := by
    by_cases h0 : t.val % 17 = 0
    · rw [outsAt0_A m c t h0]
      dsimp only
      rw [gate_A]
    · rw [outsAt0_B m c t h0]
      dsimp only
      rw [gate_B]
  refine e.trans ?_
  exact congrFun (gate_blk m c t (y 0)) (y 1)

/-- The third array. -/
theorem gate_eq : (dats m 0 c).arrAt 11 cfg0.N = gate m c := by
  refine (dats m 0 c).arrAt_eq_of_covers 11 _ (by decide +kernel) fun t hf y => ?_
  blk_simp
  rw [after0_11]
  refine (gate_at m c t y).trans (congrArg (gate m c) ?_)
  simp only [at_]
  blk_ext [idx t]

/-- What a point leaves of the fourth result. -/
theorem up_at (t : Fin cfg0.N) (y : S512x2816.Idx) :
    (outsAt0 m c t.val t.isLt).2.2.2.1 y = up m c (ix2 (at_ t (y 0)) (y 1)) := by
  have e : (outsAt0 m c t.val t.isLt).2.2.2.1 y = upB (iblk m c 4 t) (iblk m c 5 t) (iblk m c 6 t) (y 0) (y 1) := by
    by_cases h0 : t.val % 17 = 0
    · rw [outsAt0_A m c t h0]
      dsimp only
      rw [up_A]
    · rw [outsAt0_B m c t h0]
      dsimp only
      rw [up_B]
  refine e.trans ?_
  exact congrFun (up_blk m c t (y 0)) (y 1)

/-- The fourth array. -/
theorem up_eq : (dats m 0 c).arrAt 12 cfg0.N = up m c := by
  refine (dats m 0 c).arrAt_eq_of_covers 12 _ (by decide +kernel) fun t hf y => ?_
  blk_simp
  rw [after0_12]
  refine (up_at m c t y).trans (congrArg (up m c) ?_)
  simp only [at_]
  blk_ext [idx t]

/-- Group 0 of a block. -/
theorem loss_blk0 (t : Fin cfg0.N) :
    lossG (BitVec.ofNat 32 (grid0.coords t 0).val) 0 (iblk m c 0 t) (HO (iblk m c 4 t) (iblk m c 5 t) (iblk m c 6 t) (iblk m c 7 t)) (iblk m c 8 t) = FfnSpec.lossP (args m c) (grp t 0) := by
  have h := tlt t
  refine (congr (congr (congr (congrArg lossv ?_) (funext fun r => ?_)) (gf_blk m c t)) (funext fun r => tgt_blk0 m c t r))
  · refine (bits t 0).trans ?_
    have e : 128 * (grp t 0).val / 128 = 4 * t.val + (0 : Fin 4).val := by
      simp only [grp]
      omega
    rw [FfnSpec.lead, e]
  · refine (hr_blk m c t _).trans (congrArg (FfnSpec.hr (args m c)) (Fin.ext ?_))
    simp only [FfnSpec.row, grp, at_]
    omega

/-- Group 0 of a block. -/
theorem dg_blk0 (t : Fin cfg0.N) (j : Fin 1024) :
    dgG (BitVec.ofNat 32 (grid0.coords t 0).val) 0 (iblk m c 0 t) (HO (iblk m c 4 t) (iblk m c 5 t) (iblk m c 6 t) (iblk m c 7 t)) (iblk m c 8 t) j = FfnSpec.dgP (args m c) (grp t 0) j := by
  have h := tlt t
  refine congrFun (congr (congr (congr (congrArg dgv ?_) (funext fun r => ?_)) (gf_blk m c t)) (funext fun r => tgt_blk0 m c t r)) j
  · refine (bits t 0).trans ?_
    have e : 128 * (grp t 0).val / 128 = 4 * t.val + (0 : Fin 4).val := by
      simp only [grp]
      omega
    rw [FfnSpec.lead, e]
  · refine (hr_blk m c t _).trans (congrArg (FfnSpec.hr (args m c)) (Fin.ext ?_))
    simp only [FfnSpec.row, grp, at_]
    omega

/-- Group 1 of a block. -/
theorem loss_blk1 (t : Fin cfg0.N) :
    lossG (BitVec.ofNat 32 (grid0.coords t 0).val) 1 (iblk m c 1 t) (HO (iblk m c 4 t) (iblk m c 5 t) (iblk m c 6 t) (iblk m c 7 t)) (iblk m c 8 t) = FfnSpec.lossP (args m c) (grp t 1) := by
  have h := tlt t
  refine (congr (congr (congr (congrArg lossv ?_) (funext fun r => ?_)) (gf_blk m c t)) (funext fun r => tgt_blk1 m c t r))
  · refine (bits t 1).trans ?_
    have e : 128 * (grp t 1).val / 128 = 4 * t.val + (1 : Fin 4).val := by
      simp only [grp]
      omega
    rw [FfnSpec.lead, e]
  · refine (hr_blk m c t _).trans (congrArg (FfnSpec.hr (args m c)) (Fin.ext ?_))
    simp only [FfnSpec.row, grp, at_]
    omega

/-- Group 1 of a block. -/
theorem dg_blk1 (t : Fin cfg0.N) (j : Fin 1024) :
    dgG (BitVec.ofNat 32 (grid0.coords t 0).val) 1 (iblk m c 1 t) (HO (iblk m c 4 t) (iblk m c 5 t) (iblk m c 6 t) (iblk m c 7 t)) (iblk m c 8 t) j = FfnSpec.dgP (args m c) (grp t 1) j := by
  have h := tlt t
  refine congrFun (congr (congr (congr (congrArg dgv ?_) (funext fun r => ?_)) (gf_blk m c t)) (funext fun r => tgt_blk1 m c t r)) j
  · refine (bits t 1).trans ?_
    have e : 128 * (grp t 1).val / 128 = 4 * t.val + (1 : Fin 4).val := by
      simp only [grp]
      omega
    rw [FfnSpec.lead, e]
  · refine (hr_blk m c t _).trans (congrArg (FfnSpec.hr (args m c)) (Fin.ext ?_))
    simp only [FfnSpec.row, grp, at_]
    omega

/-- Group 2 of a block. -/
theorem loss_blk2 (t : Fin cfg0.N) :
    lossG (BitVec.ofNat 32 (grid0.coords t 0).val) 2 (iblk m c 2 t) (HO (iblk m c 4 t) (iblk m c 5 t) (iblk m c 6 t) (iblk m c 7 t)) (iblk m c 8 t) = FfnSpec.lossP (args m c) (grp t 2) := by
  have h := tlt t
  refine (congr (congr (congr (congrArg lossv ?_) (funext fun r => ?_)) (gf_blk m c t)) (funext fun r => tgt_blk2 m c t r))
  · refine (bits t 2).trans ?_
    have e : 128 * (grp t 2).val / 128 = 4 * t.val + (2 : Fin 4).val := by
      simp only [grp]
      omega
    rw [FfnSpec.lead, e]
  · refine (hr_blk m c t _).trans (congrArg (FfnSpec.hr (args m c)) (Fin.ext ?_))
    simp only [FfnSpec.row, grp, at_]
    omega

/-- Group 2 of a block. -/
theorem dg_blk2 (t : Fin cfg0.N) (j : Fin 1024) :
    dgG (BitVec.ofNat 32 (grid0.coords t 0).val) 2 (iblk m c 2 t) (HO (iblk m c 4 t) (iblk m c 5 t) (iblk m c 6 t) (iblk m c 7 t)) (iblk m c 8 t) j = FfnSpec.dgP (args m c) (grp t 2) j := by
  have h := tlt t
  refine congrFun (congr (congr (congr (congrArg dgv ?_) (funext fun r => ?_)) (gf_blk m c t)) (funext fun r => tgt_blk2 m c t r)) j
  · refine (bits t 2).trans ?_
    have e : 128 * (grp t 2).val / 128 = 4 * t.val + (2 : Fin 4).val := by
      simp only [grp]
      omega
    rw [FfnSpec.lead, e]
  · refine (hr_blk m c t _).trans (congrArg (FfnSpec.hr (args m c)) (Fin.ext ?_))
    simp only [FfnSpec.row, grp, at_]
    omega

/-- Group 3 of a block. -/
theorem loss_blk3 (t : Fin cfg0.N) :
    lossG (BitVec.ofNat 32 (grid0.coords t 0).val) 3 (iblk m c 3 t) (HO (iblk m c 4 t) (iblk m c 5 t) (iblk m c 6 t) (iblk m c 7 t)) (iblk m c 8 t) = FfnSpec.lossP (args m c) (grp t 3) := by
  have h := tlt t
  refine (congr (congr (congr (congrArg lossv ?_) (funext fun r => ?_)) (gf_blk m c t)) (funext fun r => tgt_blk3 m c t r))
  · refine (bits t 3).trans ?_
    have e : 128 * (grp t 3).val / 128 = 4 * t.val + (3 : Fin 4).val := by
      simp only [grp]
      omega
    rw [FfnSpec.lead, e]
  · refine (hr_blk m c t _).trans (congrArg (FfnSpec.hr (args m c)) (Fin.ext ?_))
    simp only [FfnSpec.row, grp, at_]
    omega

/-- Group 3 of a block. -/
theorem dg_blk3 (t : Fin cfg0.N) (j : Fin 1024) :
    dgG (BitVec.ofNat 32 (grid0.coords t 0).val) 3 (iblk m c 3 t) (HO (iblk m c 4 t) (iblk m c 5 t) (iblk m c 6 t) (iblk m c 7 t)) (iblk m c 8 t) j = FfnSpec.dgP (args m c) (grp t 3) j := by
  have h := tlt t
  refine congrFun (congr (congr (congr (congrArg dgv ?_) (funext fun r => ?_)) (gf_blk m c t)) (funext fun r => tgt_blk3 m c t r)) j
  · refine (bits t 3).trans ?_
    have e : 128 * (grp t 3).val / 128 = 4 * t.val + (3 : Fin 4).val := by
      simp only [grp]
      omega
    rw [FfnSpec.lead, e]
  · refine (hr_blk m c t _).trans (congrArg (FfnSpec.hr (args m c)) (Fin.ext ?_))
    simp only [FfnSpec.row, grp, at_]
    omega

/-- A block's part of the fifth result. -/
abbrev losspart (t : Fin cfg0.N) (j : S1x1.Idx) : EReal := ∑ k : Fin 4, FfnSpec.lossP (args m c) (grp t k)

/-- A block's four groups. -/
theorem loss_sum (t : Fin cfg0.N) :
    0 + lossG (BitVec.ofNat 32 (grid0.coords t 0).val) 0 (iblk m c 0 t) (HO (iblk m c 4 t) (iblk m c 5 t) (iblk m c 6 t) (iblk m c 7 t)) (iblk m c 8 t) + lossG (BitVec.ofNat 32 (grid0.coords t 0).val) 1 (iblk m c 1 t) (HO (iblk m c 4 t) (iblk m c 5 t) (iblk m c 6 t) (iblk m c 7 t)) (iblk m c 8 t)
      + lossG (BitVec.ofNat 32 (grid0.coords t 0).val) 2 (iblk m c 2 t) (HO (iblk m c 4 t) (iblk m c 5 t) (iblk m c 6 t) (iblk m c 7 t)) (iblk m c 8 t) + lossG (BitVec.ofNat 32 (grid0.coords t 0).val) 3 (iblk m c 3 t) (HO (iblk m c 4 t) (iblk m c 5 t) (iblk m c 6 t) (iblk m c 7 t)) (iblk m c 8 t)
      = ∑ k : Fin 4, FfnSpec.lossP (args m c) (grp t k) := by
  rw [loss_blk0, loss_blk1, loss_blk2, loss_blk3, Fin.sum_univ_four, zero_add]

/-- The first point leaves its part. -/
theorem loss_first (t : Fin cfg0.N) (h0 : t.val % 17 = 0) (j : S1x1.Idx) :
    (outsAt0 m c t.val t.isLt).2.2.2.2.1 j = 0 + losspart m c t j := by
  rw [outsAt0_A m c t h0]
  dsimp only
  rw [loss_A]
  exact congrArg (HAdd.hAdd (_ : EReal)) (loss_sum m c t)

/-- The others add theirs. -/
theorem loss_next (t : Fin cfg0.N) (h0 : ¬t.val % 17 = 0) (j : S1x1.Idx) :
    (outsAt0 m c t.val t.isLt).2.2.2.2.1 j
      = (outsAt0 m c (t.val - 1) (Nat.lt_of_le_of_lt (Nat.sub_le _ _) t.isLt)).2.2.2.2.1 j + losspart m c t j := by
  rw [outsAt0_B m c t h0]
  dsimp only
  rw [loss_B]
  exact congrArg (HAdd.hAdd (_ : EReal)) (loss_sum m c t)

/-- After the last point all parts are summed. -/
theorem loss_last (t : Fin cfg0.N) (ht : t.val + 1 = cfg0.N) (j : S1x1.Idx) :
    (outsAt0 m c t.val t.isLt).2.2.2.2.1 j = loss m c j := by
  refine (Pipeline.eq_sum_fin_of_reset_step_apply_last (fun n h => (outsAt0 m c n h).2.2.2.2.1) 17 (fun _ => (0 : EReal))
    (losspart m c) (loss_first m c) (loss_next m c) (le_of_eq N_0) t ht j).trans ?_
  rw [zero_add]
  refine Fin.sum_mul_add_congr (fun t k hl => ?_) (by rw [show cfg0.N = 17 from N_0])
  have e : (⟨t.val * 4 + k.val, hl⟩ : Fin 68) = grp t k := Fin.ext (by simp only [grp]; omega)
  rw [e]

/-- The fifth array. -/
theorem loss_eq : (dats m 0 c).arrAt 13 cfg0.N = loss m c := by
  refine (dats m 0 c).arrAt_eq_of_covers 13 _ (by decide +kernel) fun t hf y => ?_
  blk_simp
  rw [after0_13]
  have h16 := (flush0_13 t).mp hf
  have hN : cfg0.N = 17 := N_0
  have hlt := t.isLt
  refine (loss_last m c t (by omega) y).trans (congrArg (loss m c) ?_)
  blk_ext [idx t]

/-- A block's part of the sixth result. -/
abbrev dgpart (t : Fin cfg0.N) (j : S1x1024.Idx) : EReal := ∑ k : Fin 4, FfnSpec.dgP (args m c) (grp t k) (j 1)

/-- A block's four groups. -/
theorem dg_sum (t : Fin cfg0.N) (l : Fin 1024) :
    0 + dgG (BitVec.ofNat 32 (grid0.coords t 0).val) 0 (iblk m c 0 t) (HO (iblk m c 4 t) (iblk m c 5 t) (iblk m c 6 t) (iblk m c 7 t)) (iblk m c 8 t) l + dgG (BitVec.ofNat 32 (grid0.coords t 0).val) 1 (iblk m c 1 t) (HO (iblk m c 4 t) (iblk m c 5 t) (iblk m c 6 t) (iblk m c 7 t)) (iblk m c 8 t) l
      + dgG (BitVec.ofNat 32 (grid0.coords t 0).val) 2 (iblk m c 2 t) (HO (iblk m c 4 t) (iblk m c 5 t) (iblk m c 6 t) (iblk m c 7 t)) (iblk m c 8 t) l + dgG (BitVec.ofNat 32 (grid0.coords t 0).val) 3 (iblk m c 3 t) (HO (iblk m c 4 t) (iblk m c 5 t) (iblk m c 6 t) (iblk m c 7 t)) (iblk m c 8 t) l
      = ∑ k : Fin 4, FfnSpec.dgP (args m c) (grp t k) l := by
  rw [dg_blk0, dg_blk1, dg_blk2, dg_blk3, Fin.sum_univ_four, zero_add]

/-- The first point leaves its part. -/
theorem dg_first (t : Fin cfg0.N) (h0 : t.val % 17 = 0) (j : S1x1024.Idx) :
    (outsAt0 m c t.val t.isLt).2.2.2.2.2 j = 0 + dgpart m c t j := by
  rw [outsAt0_A m c t h0]
  dsimp only
  rw [dg_A]
  exact congrArg (HAdd.hAdd (_ : EReal)) (dg_sum m c t (j 1))

/-- The others add theirs. -/
theorem dg_next (t : Fin cfg0.N) (h0 : ¬t.val % 17 = 0) (j : S1x1024.Idx) :
    (outsAt0 m c t.val t.isLt).2.2.2.2.2 j
      = (outsAt0 m c (t.val - 1) (Nat.lt_of_le_of_lt (Nat.sub_le _ _) t.isLt)).2.2.2.2.2 j + dgpart m c t j := by
  rw [outsAt0_B m c t h0]
  dsimp only
  rw [dg_B]
  exact congrArg (HAdd.hAdd (_ : EReal)) (dg_sum m c t (j 1))

/-- After the last point all parts are summed. -/
theorem dg_last (t : Fin cfg0.N) (ht : t.val + 1 = cfg0.N) (j : S1x1024.Idx) :
    (outsAt0 m c t.val t.isLt).2.2.2.2.2 j = dg m c j := by
  refine (Pipeline.eq_sum_fin_of_reset_step_apply_last (fun n h => (outsAt0 m c n h).2.2.2.2.2) 17 (fun _ => (0 : EReal))
    (dgpart m c) (dg_first m c) (dg_next m c) (le_of_eq N_0) t ht j).trans ?_
  rw [zero_add]
  refine Fin.sum_mul_add_congr (fun t k hl => ?_) (by rw [show cfg0.N = 17 from N_0])
  have e : (⟨t.val * 4 + k.val, hl⟩ : Fin 68) = grp t k := Fin.ext (by simp only [grp]; omega)
  rw [e]

/-- The sixth array. -/
theorem dg_eq : (dats m 0 c).arrAt 14 cfg0.N = dg m c := by
  refine (dats m 0 c).arrAt_eq_of_covers 14 _ (by decide +kernel) fun t hf y => ?_
  blk_simp
  rw [after0_14]
  have h16 := (flush0_14 t).mp hf
  have hN : cfg0.N = 17 := N_0
  have hlt := t.isLt
  refine (dg_last m c t (by omega) y).trans (congrArg (dg m c) ?_)
  blk_ext [idx t]

end Cert.FfnIdeal.Hand
-- ==== Proof.FfnRef.lean ====
/-
  The results of the reference of the last block, entry by entry.
-/
module

public import proofs.«01_k».proof.Proof.FfnSpec
public import proofs.«01_k».proof.Proof.Sums
public import proofs.«01_k».proof.Proof.Gen.FfnReferenceIdeal.Run
public import Idealize.ShloMosaic.Lib.Pipeline.ValueKit
public import Idealize.ShloMosaic.Lib.Pointwise

@[expose] public section

set_option maxRecDepth 16384

noncomputable section

namespace Cert.FfnReferenceIdeal.Hand

open Cert.FfnReferenceIdeal Cert.FfnReferenceIdeal.Gen Cert.FfnReferenceIdeal.Value Idealize.ShloMosaic Idealize.ShloMosaic.TcCoe Idealize.SL.Sem
open Cert.FfnMath Cert.ActMath
open Cert.NormMath (root meanSq rowRef pull)
open Cert.InprojMath (normed)

/-- The rows' mean squares. -/
def means (Z : FVec Ideal S4x2048x1024 .f32) : FVec Ideal S4x2048x1 .f32 :=
  (addf (Host.divf (broadcastInDim S4x2048x1 ![0, 1] bcast_S4x2048_S4x2048x1_0_1 (Host.reduceAdd (mulf Z Z) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))

/-- Their reciprocal roots. -/
def roots (Z : FVec Ideal S4x2048x1024 .f32) : FVec Ideal S4x2048x1 .f32 :=
  (Host.rsqrt (means Z))

/-- The rows by their roots. -/
def xhat (Z : FVec Ideal S4x2048x1024 .f32) : FVec Ideal S4x2048x1024 .f32 :=
  (mulf Z (broadcastInDim S4x2048x1024 ![0, 1, 2] bcast_S4x2048x1_S4x2048x1024_0_1_2 (roots Z)))

/-- The normed rows less the targets. -/
def err (Z : FVec Ideal S4x2048x1024 .f32) (g : FVec Ideal S1x1024 .f32) (t : FVec Ideal S4x2048x1024 .f32) : FVec Ideal S4x2048x1024 .f32 :=
  (subf (mulf (xhat Z) (broadcastInDim S4x2048x1024 ![0, 1, 2] bcast_S1x1x1024_S4x2048x1024_0_1_2 (broadcastInDim S1x1x1024 ![1, 2] bcast_S1x1024_S1x1x1024_1_2 g))) t)

/-- The gradient of the normed rows. -/
def dy (Z : FVec Ideal S4x2048x1024 .f32) (g : FVec Ideal S1x1024 .f32) (t : FVec Ideal S4x2048x1024 .f32) : FVec Ideal S4x2048x1024 .f32 :=
  (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (err Z g t)))

/-- The same by the gain. -/
def back (Z : FVec Ideal S4x2048x1024 .f32) (g : FVec Ideal S1x1024 .f32) (t : FVec Ideal S4x2048x1024 .f32) : FVec Ideal S4x2048x1024 .f32 :=
  (mulf (dy Z g t) (broadcastInDim S4x2048x1024 ![0, 1, 2] bcast_S1x1x1024_S4x2048x1024_0_1_2 (broadcastInDim S1x1x1024 ![1, 2] bcast_S1x1024_S1x1x1024_1_2 g)))

/-- The gradient of the mean squares, per entry. -/
def pull3 (Z : FVec Ideal S4x2048x1024 .f32) (g : FVec Ideal S1x1024 .f32) (t : FVec Ideal S4x2048x1024 .f32) : FVec Ideal S4x2048x1024 .f32 :=
  (broadcastInDim S4x2048x1024 ![0, 1] bcast_S4x2048_S4x2048x1024_0_1 (Host.reduceAdd (Host.divf (mulf (shapeCast _ (Host.reduceAdd (mulf Z (back Z g t)) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (roots Z) (means Z)))) (broadcastInDim S4x2048x1 ![] bcast_S_S4x2048x1 (constant S_ .f32 0x44800000#32))) (constant S_ .f32 0x00000000#32) reducesTo_S4x2048x1_S4x2048_d2 h_S_))

/-- The gradient of the rows. -/
def grad (Z : FVec Ideal S4x2048x1024 .f32) (g : FVec Ideal S1x1024 .f32) (t : FVec Ideal S4x2048x1024 .f32) : FVec Ideal S4x2048x1024 .f32 :=
  (addf (addf (mulf (back Z g t) (broadcastInDim S4x2048x1024 ![0, 1, 2] bcast_S4x2048x1_S4x2048x1024_0_1_2 (roots Z))) (mulf Z (pull3 Z g t))) (mulf (pull3 Z g t) Z))

/-- The gradient of a normed row, as the reference prints it. -/
def dyR (x g t : Fin 1024 → EReal) (j : Fin 1024) : EReal :=
  Ideal.div (Ideal.ofBits .f32 0x3F000000#32 * Ideal.ofBits .f32 0x3F800000#32) (Ideal.ofBits .f32 0x44800000#32)
    * (Ideal.ofBits .f32 0x40000000#32 * (x j * root x * g j - t j))

section Rows

variable (Z : FVec Ideal S4x2048x1024 .f32) (g : FVec Ideal S1x1024 .f32) (t : FVec Ideal S4x2048x1024 .f32)
  (b : Fin 4) (l : Fin 2048) (j : Fin 1024)

/-- Row `l` of sequence `b`. -/
def line (b : Fin 4) (l : Fin 2048) : Fin 1024 → EReal := fun k => Z (ix3 b l k)

/-- The gain. -/
def gain : Fin 1024 → EReal := fun k => g (ix2 0 k)

/-- The mean square of one row. -/
theorem means_at : means Z (ix3 b l 0) = meanSq (line Z b l) := by
  unfold means
  pointwise [meanSq, line]

/-- The reciprocal root of one row. -/
theorem roots_at : roots Z (ix3 b l 0) = root (line Z b l) := by
  rw [root, ← means_at]
  unfold roots
  pointwise []

/-- An entry by its row's root. -/
theorem xhat_at : xhat Z (ix3 b l j) = Z (ix3 b l j) * root (line Z b l) := by
  rw [← roots_at]
  unfold xhat
  pointwise []

/-- One entry's error. -/
theorem err_at : err Z g t (ix3 b l j) = Z (ix3 b l j) * root (line Z b l) * gain g j - t (ix3 b l j) := by
  rw [← xhat_at]
  unfold err
  pointwise [gain]

/-- One entry of the normed rows' gradient. -/
theorem dy_at : dy Z g t (ix3 b l j) = dyR (line Z b l) (gain g) (line t b l) j := by
  have e := err_at Z g t b l j
  unfold dy dyR
  generalize err Z g t = E at e
  rw [show line Z b l j = Z (ix3 b l j) from rfl, show line t b l j = t (ix3 b l j) from rfl, ← e]
  pointwise []

/-- The same by the gain. -/
theorem back_at : back Z g t (ix3 b l j) = dyR (line Z b l) (gain g) (line t b l) j * gain g j := by
  rw [← dy_at]
  unfold back
  pointwise [gain]

/-- The gradient of the mean square, at one entry. -/
theorem pull3_at : pull3 Z g t (ix3 b l j) = pull (line Z b l) (gain g) (dyR (line Z b l) (gain g) (line t b l)) := by
  have e := fun k => back_at Z g t b l k
  have er := roots_at Z b l
  have em := means_at Z b l
  unfold pull3 pull
  generalize back Z g t = B at e ⊢
  generalize roots Z = R at er ⊢
  generalize means Z = M at em ⊢
  simp only [← e, ← er, ← em]
  pointwise [line]
  refine Finset.sum_congr rfl fun x _ => ?_
  obtain rfl : x = 0 := Subsingleton.elim _ _
  rfl

/-- One entry of the rows' gradient. -/
theorem grad_at : grad Z g t (ix3 b l j)
    = rowRef (line Z b l) (fun _ => 0) (gain g) (dyR (line Z b l) (gain g) (line t b l)) j := by
  have e := back_at Z g t b l j
  have er := roots_at Z b l
  have ep := pull3_at Z g t b l j
  rw [rowRef, zero_add, ← ep, ← e, ← er]
  unfold grad
  pointwise [line]

end Rows

/-- The rows, normed. -/
def normedA (a0 : FVec Ideal S8704x1024 .f32) (a1 : FVec Ideal S1x1024 .f32) : FVec Ideal S8704x1024 .f32 :=
  (mulf (mulf a0 (broadcastInDim S8704x1024 ![0, 1] bcast_S8704x1_S8704x1024_0_1 (Host.rsqrt (addf (Host.divf (broadcastInDim S8704x1 ![0] bcast_S8704_S8704x1_0 (Host.reduceAdd (mulf a0 a0) (constant S_ .f32 0x00000000#32) reducesTo_S8704x1024_S8704_d1 h_S_)) (broadcastInDim S8704x1 ![] bcast_S_S8704x1 (constant S_ .f32 0x44800000#32))) (broadcastInDim S8704x1 ![] bcast_S_S8704x1 (constant S_ .f32 0x358637BD#32)))))) (broadcastInDim S8704x1024 ![0, 1] bcast_S1x1024_S8704x1024_0_1 a1))

/-- The gate of normed rows. -/
def gateA (N : FVec Ideal S8704x1024 .f32) (a2 : FVec Ideal S2x2816x1024 .bf16) : FVec Ideal S8704x2816 .f32 :=
  (extractStridedSlice S8704x2816 ![0, 0] (Host.dotGeneral dot_S8704x1024_S1024x5632_S8704x5632_1_0_0_1_n_n none N (transpose S1024x5632 [1, 0] (shapeCast _ (extf .f32 a2 bitsLt_bf16_f32) shapeCasts_S2x2816x1024_S5632x1024) transposes_S5632x1024_S1024x5632_1_0)) slices_S8704x5632_S8704x2816_0_0)

/-- The up projection of normed rows. -/
def upA (N : FVec Ideal S8704x1024 .f32) (a2 : FVec Ideal S2x2816x1024 .bf16) : FVec Ideal S8704x2816 .f32 :=
  (extractStridedSlice S8704x2816 ![0, 2816] (Host.dotGeneral dot_S8704x1024_S1024x5632_S8704x5632_1_0_0_1_n_n none N (transpose S1024x5632 [1, 0] (shapeCast _ (extf .f32 a2 bitsLt_bf16_f32) shapeCasts_S2x2816x1024_S5632x1024) transposes_S5632x1024_S1024x5632_1_0)) slices_S8704x5632_S8704x2816_0_2816)

/-- The rows after the block. -/
def blockA (a0 : FVec Ideal S8704x1024 .f32) (G U : FVec Ideal S8704x2816 .f32) (a3 : FVec Ideal S2816x1024 .bf16) :
    FVec Ideal S8704x1024 .f32 :=
  (addf a0 (mulf (broadcastInDim S8704x1024 ![] bcast_S_S8704x1024 (constant S_ .f32 0x3F000000#32)) (Host.dotGeneral dot_S8704x2816_S2816x1024_S8704x1024_1_0_0_1_n_n none (mulf (mulf G (Host.divf (broadcastInDim S8704x2816 ![] bcast_S_S8704x2816 (constant S_ .f32 0x3F800000#32)) (addf (broadcastInDim S8704x2816 ![] bcast_S_S8704x2816 (constant S_ .f32 0x3F800000#32)) (Host.exp (Host.negf G))))) U) (extf .f32 a3 bitsLt_bf16_f32))))

/-- The rows that have a target. -/
def cut (H : FVec Ideal S8704x1024 .f32) : FVec Ideal S4x2048x1024 .f32 :=
  (extractStridedSlice S4x2048x1024 ![0, 128, 0] (shapeCast _ H shapeCasts_S8704x1024_S4x2176x1024) slices_S4x2176x1024_S4x2048x1024_0_128_0)

/-- The targets, by sequence. -/
def byseq (a5 : FVec Ideal S8192x1024 .f32) : FVec Ideal S4x2048x1024 .f32 :=
  (shapeCast _ a5 shapeCasts_S8192x1024_S4x2048x1024)

/-- The gradient among all rows. -/
def padded (v : FVec Ideal S4x2048x1024 .f32) : FVec Ideal S8704x1024 .f32 :=
  shapeCast S8704x1024 (pad S4x2176x1024 ![0, 128, 0] ![0, 0, 0] ![0, 0, 0] v (constant S_ .f32 0x00000000#32) pads_S4x2048x1024_S4x2176x1024_000_12800_000 h_S_) shapeCasts_S4x2176x1024_S8704x1024

/-- The loss, of the rows' mean square errors. -/
def lossA (D : FVec Ideal S4x2048 .f32) : FVec Ideal S1x1 .f32 :=
  shapeCast S1x1 (mulf (constant S_ .f32 0x3F000000#32) (Host.reduceAdd D (constant S_ .f32 0x00000000#32) reducesTo_S4x2048_S_d0_1 h_S_)) shapeCasts_S_S1x1

/-- The mean square errors. -/
def meansq (E : FVec Ideal S4x2048x1024 .f32) : FVec Ideal S4x2048 .f32 :=
  (Host.divf (Host.reduceAdd (mulf E E) (constant S_ .f32 0x00000000#32) reducesTo_S4x2048x1024_S4x2048_d2 h_S_) (broadcastInDim S4x2048 ![] bcast_S_S4x2048 (constant S_ .f32 0x44800000#32)))

/-- The sums over all rows. -/
def total (X : FVec Ideal S4x2048x1024 .f32) : FVec Ideal S1x1024 .f32 :=
  broadcastInDim S1x1024 ![1] bcast_S1024_S1x1024_1 (Host.reduceAdd (shapeCast S1x1x1024 (Host.reduceAdd X (constant S_ .f32 0x00000000#32) reducesTo_S4x2048x1024_S1024_d0_1 h_S_) shapeCasts_S1024_S1x1x1024) (constant S_ .f32 0x00000000#32) reducesTo_S1x1x1024_S1024_d0_1 h_S_)

/-- One entry of the normed rows. -/
theorem normedA_at (a0 : FVec Ideal S8704x1024 .f32) (a1 : FVec Ideal S1x1024 .f32) (r : Fin 8704) (k : Fin 1024) :
    normedA a0 a1 (ix2 r k) = normed (fun k => a0 (ix2 r k)) (fun k => a1 (ix2 0 k)) k := by
  unfold normedA
  pointwise [normed, root, meanSq]

/-- One entry of the gate: the first half of the weights. -/
theorem gateA_at (N : FVec Ideal S8704x1024 .f32) (a2 : FVec Ideal S2x2816x1024 .bf16) (r : Fin 8704) (a : Fin 2816) :
    gateA N a2 (ix2 r a) = lin (fun k => N (ix2 r k)) (fun a k => a2 (ix3 0 a k)) a := by
  unfold gateA
  pointwise [lin]
  refine Finset.sum_congr rfl fun x _ => congrArg (HMul.hMul (_ : EReal)) (congrArg a2 (funext fun i => ?_))
  have ha := a.isLt
  fin_cases i
  · exact Fin.ext (show a.val / 2816 = 0 by omega)
  · exact Fin.ext (show a.val % 2816 = a.val by omega)
  · rfl

/-- One entry of the up projection: the second half of the weights. -/
theorem upA_at (N : FVec Ideal S8704x1024 .f32) (a2 : FVec Ideal S2x2816x1024 .bf16) (r : Fin 8704) (a : Fin 2816) :
    upA N a2 (ix2 r a) = lin (fun k => N (ix2 r k)) (fun a k => a2 (ix3 1 a k)) a := by
  unfold upA
  pointwise [lin]
  refine Finset.sum_congr rfl fun x _ => congrArg (HMul.hMul (_ : EReal)) (congrArg a2 (funext fun i => ?_))
  have ha := a.isLt
  fin_cases i
  · exact Fin.ext (show (2816 + a.val) / 2816 = 1 by omega)
  · exact Fin.ext (show a.val = a.val by omega)
  · rfl

/-- One entry of the rows after the block. -/
theorem blockA_at (a0 : FVec Ideal S8704x1024 .f32) (G U : FVec Ideal S8704x2816 .f32) (a3 : FVec Ideal S2816x1024 .bf16)
    (r : Fin 8704) (j : Fin 1024) : blockA a0 G U a3 (ix2 r j)
    = hout (fun k => a0 (ix2 r k)) (fun a => G (ix2 r a)) (fun a => U (ix2 r a)) (fun a k => a3 (ix2 a k)) j := by
  unfold blockA
  pointwise [hout, hid, sgm, zero_sub]

/-- The row of position `l` of sequence `b`. -/
def at1 (b : Fin 4) (l : Fin 2048) : Fin 8704 := ⟨b.val * 2176 + (128 + l.val), by omega⟩

/-- The target's row of position `l` of sequence `b`. -/
def at2 (b : Fin 4) (l : Fin 2048) : Fin 8192 := ⟨b.val * 2048 + l.val, by omega⟩

/-- Where an entry with a target lies among all rows. -/
theorem cut_at (H : FVec Ideal S8704x1024 .f32) (b : Fin 4) (l : Fin 2048) (k : Fin 1024) :
    cut H (ix3 b l k) = H (ix2 (at1 b l) k) := by
  unfold cut
  pointwise [at1]

/-- Where its target lies. -/
theorem byseq_at (a5 : FVec Ideal S8192x1024 .f32) (b : Fin 4) (l : Fin 2048) (k : Fin 1024) :
    byseq a5 (ix3 b l k) = a5 (ix2 (at2 b l) k) := by
  unfold byseq
  pointwise [at2]

/-- The gradient is zero at the first 128 rows of a sequence, and below them it is the entry's. -/
theorem padded_at (v : FVec Ideal S4x2048x1024 .f32) (n : Fin 4) (t : Fin 2176) (k : Fin 1024) :
    padded v (ix2 ⟨n.val * 2176 + t.val, by omega⟩ k)
    = if h : 128 ≤ t.val then v (ix3 n ⟨t.val - 128, by omega⟩ k) else 0 := by
  have hn := n.isLt
  have ht := t.isLt
  unfold padded
  pointwise []
  by_cases h : 128 ≤ t.val
  · rw [dif_pos h, dif_pos ⟨h, by omega⟩]
  · rw [dif_neg h, dif_neg fun h' => h h'.1]

/-- One row's mean square error. -/
theorem meansq_at (E : FVec Ideal S4x2048x1024 .f32) (b : Fin 4) (l : Fin 2048) :
    meansq E (ix2 b l) = Ideal.div (∑ k, E (ix3 b l k) * E (ix3 b l k)) (Ideal.ofBits .f32 0x44800000#32) := by
  unfold meansq
  pointwise []

/-- The loss is half the sum over all rows. -/
theorem lossA_at (D : FVec Ideal S4x2048 .f32) :
    lossA D (ix2 0 0) = Ideal.ofBits .f32 0x3F000000#32 * ∑ b : Fin 4, ∑ l : Fin 2048, D (ix2 b l) := by
  unfold lossA
  pointwise []

/-- The sum over sequences and rows. -/
theorem total_at (X : FVec Ideal S4x2048x1024 .f32) (k : Fin 1024) :
    total X (ix2 0 k) = ∑ b : Fin 4, ∑ l : Fin 2048, X (ix3 b l k) := by
  unfold total
  pointwise []
  rw [Sums.two_axes, zero_add, Fin.sum_univ_one, Fin.sum_univ_one]
  pointwise []
  rw [Sums.two_axes, zero_add]

section Results

variable (m : (ℓ : Loc nD τ sig) → Buf (Elt Ideal) ℓ) (c : Dev nD)

/-- The rows. -/
abbrev arg0 : Vec Ideal S8704x1024 .f32 := m ((c.tc : Thread nD τ).loc main_arg0)
/-- The gain. -/
abbrev arg1 : Vec Ideal S1x1024 .f32 := m ((c.tc : Thread nD τ).loc main_arg1)
/-- The gate's and the up projection's weights. -/
abbrev arg2 : Vec Ideal S2x2816x1024 .bf16 := m ((c.tc : Thread nD τ).loc main_arg2)
/-- The down projection's weights. -/
abbrev arg3 : Vec Ideal S2816x1024 .bf16 := m ((c.tc : Thread nD τ).loc main_arg3)
/-- The last gain. -/
abbrev arg4 : Vec Ideal S1x1024 .f32 := m ((c.tc : Thread nD τ).loc main_arg4)
/-- The targets. -/
abbrev arg5 : Vec Ideal S8192x1024 .f32 := m ((c.tc : Thread nD τ).loc main_arg5)

/-- The rows after the block. -/
def blockM : FVec Ideal S8704x1024 .f32 :=
  blockA (arg0 m c) (gateA (normedA (arg0 m c) (arg1 m c)) (arg2 m c)) (upA (normedA (arg0 m c) (arg1 m c)) (arg2 m c)) (arg3 m c)

/-- The first result in these terms. -/
theorem v81_def : res_main_v81 m c = padded (grad (cut (blockM m c)) (arg4 m c) (byseq (arg5 m c))) := by
  unfold res_main_v81
  rfl

/-- The fifth result in these terms. -/
theorem v85_def : res_main_v85 m c = lossA (meansq (err (cut (blockM m c)) (arg4 m c) (byseq (arg5 m c)))) := by
  unfold res_main_v85
  rfl

/-- The sixth result in these terms. -/
theorem v65_def : res_main_v65 m c
    = total (mulf (xhat (cut (blockM m c))) (dy (cut (blockM m c)) (arg4 m c) (byseq (arg5 m c)))) := by
  unfold res_main_v65
  rfl

end Results

end Cert.FfnReferenceIdeal.Hand
-- ==== Proof.FfnSame.lean ====
/-
  The last block on real arrays: the reference's gradient, loss and gain's gradient are the kernel's.
-/
module

public import proofs.«01_k».proof.Proof.FfnRef

@[expose] public section

noncomputable section

namespace Cert.FfnSame

open Idealize.ShloMosaic Cert.Finite Cert.NormMath Cert.ActMath Cert.FfnMath Cert.FfnSpec
open Cert.InprojMath (normed)
open Cert.FfnReferenceIdeal.Hand (dyR at1 at2)

/-- The word of 1/2. -/
theorem word_half : Ideal.ofBits .f32 0x3F000000#32 = ((1 / 2 : ℝ) : EReal) := by
  simp [Ideal.ofBits, Ideal.ieee]
  rw [← EReal.coe_mul]
  norm_num

/-- The word of one. -/
theorem word_one : Ideal.ofBits .f32 0x3F800000#32 = ((1 : ℝ) : EReal) := by
  simp [Ideal.ofBits, Ideal.ieee]
  rw [← EReal.coe_mul]
  norm_num

/-- The word of two. -/
theorem word_two : Ideal.ofBits .f32 0x40000000#32 = ((2 : ℝ) : EReal) := by
  simp [Ideal.ofBits, Ideal.ieee]
  rw [← EReal.coe_mul]
  norm_num

/-- The word of 1/1024. -/
theorem word_part : Ideal.ofBits .f32 0x3A800000#32 = ((1 / 1024 : ℝ) : EReal) := by
  simp [Ideal.ofBits, Ideal.ieee]
  rw [← EReal.coe_mul]
  norm_num

/-- The reciprocal root of a real row is real. -/
theorem real_root (x : Fin 1024 → EReal) (hx : ∀ k, IsReal (x k)) : IsReal (root x) := by
  choose X eX using hx
  obtain rfl : x = fun k => (X k : EReal) := funext eX
  obtain ⟨v, _, _, er⟩ := root_real X
  exact ⟨_, er⟩

/-- A difference of reals is real. -/
theorem real_sub {x y : EReal} (hx : IsReal x) (hy : IsReal y) : IsReal (x - y) := by
  obtain ⟨a, rfl⟩ := hx
  obtain ⟨b, rfl⟩ := hy
  exact ⟨a - b, (EReal.coe_sub a b).symm⟩

section Row

variable (x g t : Fin 1024 → EReal) (hx : ∀ k, IsReal (x k)) (hg : ∀ k, IsReal (g k)) (ht : ∀ k, IsReal (t k))
  (j : Fin 1024)

include hx hg ht

/-- The error of a real row is real. -/
theorem real_err (b : BitVec 1) : IsReal (errv b x g t j) := by
  unfold errv
  split
  · exact ⟨0, EReal.coe_zero.symm⟩
  · exact real_sub (((hx j).mul (real_root x hx)).mul (hg j)) (ht j)

/-- The gradient of a real normed row is real. -/
theorem real_dy (b : BitVec 1) : IsReal (dyv b x g t j) := by
  unfold dyv
  exact (real_err x g t hx hg ht j b).mul ⟨_, word_part⟩

/-- The reference's gradient of a normed row is the kernel's. -/
theorem dyR_eq : dyR x g t j = dyv 0 x g t j := by
  have he : x j * root x * g j - t j = errv 0 x g t j := (if_neg (by decide)).symm
  obtain ⟨e, h⟩ := real_err x g t hx hg ht j 0
  rw [dyR, dyv, he, h, word_half, word_one, word_two, word_part, word_1024, ← EReal.coe_mul,
    Ideal.div_coe (by norm_num), ← EReal.coe_mul, ← EReal.coe_mul, ← EReal.coe_mul, ← EReal.coe_mul]
  congr 1
  ring

/-- The reference's gradient of a row is the kernel's. -/
theorem grad_eq : rowRef x (fun _ => 0) g (dyR x g t) j = dhv 0 x g t j := by
  rw [show dyR x g t = dyv 0 x g t from funext fun k => dyR_eq x g t hx hg ht k,
    row_eq _ _ _ _ hx hg (fun k => real_dy x g t hx hg ht k 0), rowOut, zero_add]
  rfl

end Row

/-- Without a target there is no gradient. -/
theorem none_dy (x g t : Fin 1024 → EReal) (j : Fin 1024) : dyv 1 x g t j = 0 := by
  rw [dyv, errv, if_pos rfl, zero_mul]

/-- Without a target there is no gradient of the row. -/
theorem none_dh (x g t : Fin 1024 → EReal) (j : Fin 1024) : dhv 1 x g t j = 0 := by
  have h0 : Ideal.div (0 : EReal) (Ideal.ofBits .f32 0x44800000#32) = 0 := by
    rw [word_1024, Ideal.div_coe (by norm_num), zero_mul]
  simp only [dhv, none_dy, zero_mul, Finset.sum_const_zero, h0, mul_zero, sub_zero]

/-- The first rows of a sequence have no target. -/
theorem lead_head (n : Fin 4) (t : ℕ) (h : t < 128) : lead (n.val * 2176 + t) = 1 := by
  unfold lead
  exact if_pos (by omega)

/-- The others have one. -/
theorem lead_tail (b : Fin 4) (l : Fin 2048) : lead (at1 b l).val = 0 := by
  have hl := l.isLt
  show lead (b.val * 2176 + (128 + l.val)) = 0
  unfold lead
  exact if_neg (by omega)

/-- All rows of a group go together. -/
theorem lead_row (s : Fin 68) (r : Fin 128) : lead (row s r).val = lead (128 * s.val) := by
  have hr := r.isLt
  show lead (128 * s.val + r.val) = _
  unfold lead
  rw [show (128 * s.val + r.val) / 128 = 128 * s.val / 128 by omega]

variable (A : Args)

/-- The target of a row that has one. -/
theorem tgt_tail (b : Fin 4) (l : Fin 2048) : tgt A (at1 b l) = A.tg (at2 b l) := by
  refine congrArg A.tg (Fin.ext ?_)
  have hl := l.isLt
  show trow (b.val * 2176 + (128 + l.val)) = b.val * 2048 + l.val
  unfold trow
  omega

/-- A sum over all groups of what is nothing at the rows without a target. -/
theorem sum_rows (f : Fin 8704 → EReal)
    (h0 : ∀ (n : Fin 4) (t : Fin 128), f ⟨n.val * 2176 + t.val, by omega⟩ = 0) :
    ∑ s, ∑ r, f (row s r) = ∑ b, ∑ l, f (at1 b l) := by
  have e1 : ∑ s, ∑ r, f (row s r) = ∑ r, f r := by
    rw [← Fintype.sum_prod_type' (fun s r => f (row s r))]
    refine Fintype.sum_equiv ((finProdFinEquiv (m := 68) (n := 128)).trans (finCongr (by norm_num))) _ _ fun p => ?_
    refine congrArg f (Fin.ext ?_)
    show 128 * p.1.val + p.2.val = p.2.val + 128 * p.1.val
    omega
  have e2 : ∑ r, f r = ∑ b : Fin 4, ∑ t : Fin 2176, f ⟨b.val * 2176 + t.val, by omega⟩ := by
    rw [← Fintype.sum_prod_type' (fun (b : Fin 4) (t : Fin 2176) => f ⟨b.val * 2176 + t.val, by omega⟩)]
    refine (Fintype.sum_equiv ((finProdFinEquiv (m := 4) (n := 2176)).trans (finCongr (by norm_num))) _ _ fun p => ?_).symm
    refine congrArg f (Fin.ext ?_)
    show p.1.val * 2176 + p.2.val = p.2.val + 2176 * p.1.val
    omega
  rw [e1, e2]
  refine Finset.sum_congr rfl fun b _ => ?_
  rw [show (∑ t : Fin 2176, f ⟨b.val * 2176 + t.val, by omega⟩)
    = ∑ t : Fin (128 + 2048), f ⟨b.val * 2176 + t.val, by omega⟩ from rfl, Fin.sum_univ_add]
  refine (congrArg₂ (· + ·) (Finset.sum_eq_zero fun t _ => h0 b t) rfl).trans ?_
  rw [zero_add]
  rfl

/-- All the arrays are real. -/
structure Reals : Prop where
  /-- The rows. -/
  h : ∀ r k, IsReal (A.h r k)
  /-- The gain. -/
  g : ∀ k, IsReal (A.g k)
  /-- The gate's weights. -/
  wg : ∀ a k, IsReal (A.wg a k)
  /-- The up projection's weights. -/
  wu : ∀ a k, IsReal (A.wu a k)
  /-- The down projection's weights. -/
  wd : ∀ a k, IsReal (A.wd a k)
  /-- The last gain. -/
  gf : ∀ k, IsReal (A.gf k)
  /-- The targets. -/
  tg : ∀ r k, IsReal (A.tg r k)

variable {A}

/-- The rows after the block are real. -/
theorem real_hr (hA : Reals A) (r : Fin 8704) (k : Fin 1024) : IsReal (hr A r k) := by
  have hn : ∀ k, IsReal (nrm A r k) := fun k => ((hA.h r k).mul (real_root _ (hA.h r))).mul (hA.g k)
  have hG : ∀ a, IsReal (gate A r a) := fun a => by
    unfold gate lin
    exact isReal_sum _ _ fun k _ => (hn k).mul (hA.wg a k)
  have hU : ∀ a, IsReal (up A r a) := fun a => by
    unfold up lin
    exact isReal_sum _ _ fun k _ => (hn k).mul (hA.wu a k)
  refine (hA.h r k).add (IsReal.mul ⟨_, word_half⟩ (isReal_sum _ _ fun a _ => ?_))
  refine (((hG a).mul ?_).mul (hU a)).mul (hA.wd a k)
  obtain ⟨y, hy⟩ := hG a
  rw [hy]
  exact sgm_real y

/-- The reference's gradient of a row with a target. -/
theorem dh_tail (hA : Reals A) (b : Fin 4) (l : Fin 2048) (j : Fin 1024) :
    rowRef (hr A (at1 b l)) (fun _ => 0) A.gf (dyR (hr A (at1 b l)) A.gf (A.tg (at2 b l))) j = dh A (at1 b l) j := by
  rw [grad_eq _ _ _ (real_hr hA _) hA.gf (hA.tg _), dh, lead_tail, tgt_tail]

/-- No gradient at a row without a target. -/
theorem dh_head (n : Fin 4) (t : ℕ) (h : t < 128) (j : Fin 1024) : dh A ⟨n.val * 2176 + t, by omega⟩ j = 0 := by
  rw [dh, lead_head n t h, none_dh]

/-- The loss. -/
theorem loss_eq (hA : Reals A) : Ideal.ofBits .f32 0x3F000000#32 * ∑ b, ∑ l,
      Ideal.div (∑ k, (hr A (at1 b l) k * root (hr A (at1 b l)) * A.gf k - A.tg (at2 b l) k)
        * (hr A (at1 b l) k * root (hr A (at1 b l)) * A.gf k - A.tg (at2 b l) k)) (Ideal.ofBits .f32 0x44800000#32)
    = loss A := by
  have hE : ∀ r k, IsReal (errv (lead r.val) (hr A r) A.gf (tgt A r) k) := fun r k =>
    real_err _ _ _ (real_hr hA r) hA.gf (hA.tg _) k _
  choose E eE using hE
  let F : Fin 8704 → ℝ := fun r => ∑ k, E r k * E r k
  have eF : ∀ r, ∑ k, errv (lead r.val) (hr A r) A.gf (tgt A r) k * errv (lead r.val) (hr A r) A.gf (tgt A r) k = (F r : EReal) := fun r => by
    simp only [eE, ← EReal.coe_mul, ← coe_sum]
    rfl
  have hP : ∀ s, lossP A s = ((1 / 2 * (∑ r, F (row s r)) * (1 / 1024) : ℝ) : EReal) := fun s => by
    have : ∀ r, ∑ k, errv (lead (128 * s.val)) (hr A (row s r)) A.gf (tgt A (row s r)) k
        * errv (lead (128 * s.val)) (hr A (row s r)) A.gf (tgt A (row s r)) k = (F (row s r) : EReal) := fun r => by
      rw [← eF, lead_row]
    simp only [lossP, lossv, this, word_half, word_part, ← coe_sum, ← EReal.coe_mul]
  have hR : ∀ b l, ∑ k, (hr A (at1 b l) k * root (hr A (at1 b l)) * A.gf k - A.tg (at2 b l) k)
        * (hr A (at1 b l) k * root (hr A (at1 b l)) * A.gf k - A.tg (at2 b l) k) = (F (at1 b l) : EReal) := fun b l => by
    rw [← eF, lead_tail, tgt_tail]
    rfl
  have hS : ∑ s, ∑ r, (F (row s r) : EReal) = ∑ b, ∑ l, (F (at1 b l) : EReal) :=
    sum_rows (fun r => (F r : EReal)) fun n t => by
      show (F _ : EReal) = 0
      rw [← eF]
      refine Finset.sum_eq_zero fun k _ => ?_
      have : errv (lead (n.val * 2176 + t.val)) (hr A ⟨n.val * 2176 + t.val, by omega⟩) A.gf (tgt A ⟨n.val * 2176 + t.val, by omega⟩) k = 0 := by
        rw [lead_head n t.val t.isLt]
        exact if_pos rfl
      show errv (lead (n.val * 2176 + t.val)) _ _ _ _ * _ = 0
      rw [this, zero_mul]
  simp only [← coe_sum] at hS
  have hS' : ∑ s, ∑ r, F (row s r) = ∑ b, ∑ l, F (at1 b l) := EReal.coe_injective hS
  simp only [loss, hP, hR, word_half, word_1024, Ideal.div_coe (show (1024 : ℝ) ≠ 0 by norm_num), ← coe_sum, ← EReal.coe_mul]
  congr 1
  simp only [← Finset.sum_mul, ← Finset.mul_sum]
  rw [hS']
  ring

/-- The last gain's gradient. -/
theorem dg_eq (hA : Reals A) (j : Fin 1024) : ∑ b, ∑ l, hr A (at1 b l) j * root (hr A (at1 b l))
      * dyR (hr A (at1 b l)) A.gf (A.tg (at2 b l)) j = dg A j := by
  have h := sum_rows (fun r => dyv (lead r.val) (hr A r) A.gf (tgt A r) j * (hr A r j * root (hr A r))) fun n t => by
    show dyv (lead (n.val * 2176 + t.val)) _ _ _ _ * _ = 0
    rw [lead_head n t.val t.isLt, none_dy, zero_mul]
  refine Eq.trans ?_ (h.symm.trans ?_)
  · refine Finset.sum_congr rfl fun b _ => Finset.sum_congr rfl fun l _ => ?_
    rw [dyR_eq _ _ _ (real_hr hA _) hA.gf (hA.tg _), lead_tail, tgt_tail, mul_comm]
  · refine Finset.sum_congr rfl fun s _ => ?_
    unfold dgP dgv
    refine Finset.sum_congr rfl fun r _ => ?_
    rw [lead_row]

end Cert.FfnSame
-- ==== Proof.Ffn.lean ====
/-
  The last block of the network with its loss and gradient: the kernel's results and the reference's are one.
-/
module

public import proofs.«01_k».proof.Defs
public import proofs.«01_k».proof.Proof.FfnValue
public import proofs.«01_k».proof.Proof.FfnSame
public import proofs.«01_k».proof.Proof.Gen.FfnIdeal.Value
public import proofs.«01_k».proof.Proof.Gen.Pre_ffn2_finite

@[expose] public section

set_option maxRecDepth 16384

noncomputable section

namespace Cert.FfnClaim

open Cert.Finite Idealize.ShloMosaic Idealize.ShloMosaic.TcCoe Idealize.SL.Sem
open Cert.FfnIdeal (nD τ sig)
open Cert.FfnIdeal.Hand (arg0 arg1 arg2 arg3 arg4 arg5)
open Cert.FfnReferenceIdeal (S8704x1024 S1x1024 S2x2816x1024 S2816x1024 S8192x1024)
open Cert.FfnReferenceIdeal.Hand (normedA gateA upA blockA cut byseq padded grad lossA meansq err total xhat dy line gain at1 at2
  normedA_at gateA_at upA_at blockA_at cut_at byseq_at padded_at grad_at meansq_at lossA_at err_at total_at xhat_at dy_at dyR)

section Arrays

variable (a0 : FVec Ideal S8704x1024 .f32) (a1 : FVec Ideal S1x1024 .f32) (a2 : FVec Ideal S2x2816x1024 .bf16)
  (a3 : FVec Ideal S2816x1024 .bf16) (a4 : FVec Ideal S1x1024 .f32) (a5 : FVec Ideal S8192x1024 .f32)

/-- The arrays by rows. -/
def byRows : FfnSpec.Args where
  h := fun r k => a0 (ix2 r k)
  g := fun k => a1 (ix2 0 k)
  wg := fun a k => a2 (ix3 0 a k)
  wu := fun a k => a2 (ix3 1 a k)
  wd := fun a j => a3 (ix2 a j)
  gf := fun k => a4 (ix2 0 k)
  tg := fun r k => a5 (ix2 r k)

/-- The rows after the block, as the reference leaves them. -/
def blockB : FVec Ideal S8704x1024 .f32 := blockA a0 (gateA (normedA a0 a1) a2) (upA (normedA a0 a1) a2) a3

/-- The reference's normed rows are the rows normed. -/
theorem nrm_at (r : Fin 8704) : (fun k => normedA a0 a1 (ix2 r k)) = FfnSpec.nrm (byRows a0 a1 a2 a3 a4 a5) r :=
  funext fun k => normedA_at a0 a1 r k

/-- The reference's gate of a row. -/
theorem gate_at (r : Fin 8704) : (fun a => gateA (normedA a0 a1) a2 (ix2 r a)) = FfnSpec.gate (byRows a0 a1 a2 a3 a4 a5) r :=
  funext fun a => (gateA_at _ a2 r a).trans (by rw [nrm_at a0 a1 a2 a3 a4 a5]; rfl)

/-- The reference's up projection of a row. -/
theorem up_at (r : Fin 8704) : (fun a => upA (normedA a0 a1) a2 (ix2 r a)) = FfnSpec.up (byRows a0 a1 a2 a3 a4 a5) r :=
  funext fun a => (upA_at _ a2 r a).trans (by rw [nrm_at a0 a1 a2 a3 a4 a5]; rfl)

/-- The reference's rows after the block. -/
theorem block_at (r : Fin 8704) (j : Fin 1024) :
    blockB a0 a1 a2 a3 (ix2 r j) = FfnSpec.hr (byRows a0 a1 a2 a3 a4 a5) r j := by
  refine (blockA_at a0 _ _ a3 r j).trans ?_
  rw [gate_at a0 a1 a2 a3 a4 a5, up_at a0 a1 a2 a3 a4 a5]
  rfl

/-- Position `l` of sequence `b` is its row after the block. -/
theorem line_at (b : Fin 4) (l : Fin 2048) :
    line (cut (blockB a0 a1 a2 a3)) b l = FfnSpec.hr (byRows a0 a1 a2 a3 a4 a5) (at1 b l) :=
  funext fun k => (cut_at _ b l k).trans (block_at a0 a1 a2 a3 a4 a5 _ k)

/-- The target of that position. -/
theorem target_at (b : Fin 4) (l : Fin 2048) :
    line (byseq a5) b l = (byRows a0 a1 a2 a3 a4 a5).tg (at2 b l) :=
  funext fun k => byseq_at a5 b l k

variable (hA : FfnSame.Reals (byRows a0 a1 a2 a3 a4 a5))

include hA

/-- The gradient of the rows. -/
theorem dh_ref (r : Fin 8704) (j : Fin 1024) : padded (grad (cut (blockB a0 a1 a2 a3)) a4 (byseq a5)) (ix2 r j)
    = FfnSpec.dh (byRows a0 a1 a2 a3 a4 a5) r j := by
  obtain ⟨n, t, rfl⟩ : ∃ (n : Fin 4) (t : Fin 2176), r = ⟨n.val * 2176 + t.val, by omega⟩ :=
    ⟨⟨r.val / 2176, by omega⟩, ⟨r.val % 2176, by omega⟩, Fin.ext (by show r.val = r.val / 2176 * 2176 + r.val % 2176; omega)⟩
  refine (padded_at _ n t j).trans ?_
  by_cases h : 128 ≤ t.val
  · rw [dif_pos h, grad_at, line_at a0 a1 a2 a3 a4 a5, target_at a0 a1 a2 a3 a4 a5]
    refine (FfnSame.dh_tail hA n ⟨t.val - 128, by omega⟩ j).trans ?_
    refine congrFun (congrArg (FfnSpec.dh _) (Fin.ext ?_)) j
    show n.val * 2176 + (128 + (t.val - 128)) = n.val * 2176 + t.val
    omega
  · rw [dif_neg h, FfnSame.dh_head n t.val (by omega)]

/-- The loss. -/
theorem loss_ref : lossA (meansq (err (cut (blockB a0 a1 a2 a3)) a4 (byseq a5))) (ix2 0 0)
    = FfnSpec.loss (byRows a0 a1 a2 a3 a4 a5) := by
  rw [lossA_at, ← FfnSame.loss_eq hA]
  refine congrArg (HMul.hMul (_ : EReal)) (Finset.sum_congr rfl fun b _ => Finset.sum_congr rfl fun l _ => ?_)
  rw [meansq_at]
  refine congrArg (fun v => Ideal.div v _) (Finset.sum_congr rfl fun k _ => ?_)
  rw [err_at, line_at a0 a1 a2 a3 a4 a5, cut_at, block_at a0 a1 a2 a3 a4 a5, byseq_at]
  rfl

/-- The last gain's gradient. -/
theorem dg_ref (j : Fin 1024) :
    total (mulf (xhat (cut (blockB a0 a1 a2 a3))) (dy (cut (blockB a0 a1 a2 a3)) a4 (byseq a5))) (ix2 0 j)
    = FfnSpec.dg (byRows a0 a1 a2 a3 a4 a5) j := by
  rw [total_at, ← FfnSame.dg_eq hA]
  refine Finset.sum_congr rfl fun b _ => Finset.sum_congr rfl fun l _ => ?_
  show xhat (cut (blockB a0 a1 a2 a3)) (ix3 b l j) * dy (cut (blockB a0 a1 a2 a3)) a4 (byseq a5) (ix3 b l j) = _
  rw [xhat_at, dy_at, line_at a0 a1 a2 a3 a4 a5, target_at a0 a1 a2 a3 a4 a5, cut_at, block_at a0 a1 a2 a3 a4 a5]
  rfl

end Arrays

instance : Subsingleton Cert.Pre_ffn2_finite.S_.Idx := ⟨fun a b => funext fun k => k.elim0⟩

variable (m : (ℓ : Loc nD τ sig) → Buf (Elt Ideal) ℓ) (c : Dev nD)

/-- What the precondition says: all arguments have real entries. -/
theorem real_args (hp : Pre_FfnIdeal_ffn2_finite m) : FfnSame.Reals (Cert.FfnIdeal.Hand.args m c) := by
  have h := congrFun (hp c) (fun k => k.elim0)
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have r0 := real_of_all _ _ _ _ _ _ h0
  have r1 := real_of_all _ _ _ _ _ _ h1
  have r2 := real_of_all _ _ _ _ _ _ h2
  have r3 := real_of_all _ _ _ _ _ _ h3
  have r4 := real_of_all _ _ _ _ _ _ h4
  have r5 := real_of_all _ _ _ _ _ _ h5
  exact ⟨fun r k => r0 _, fun k => r1 _, fun a k => r2 _, fun a k => r2 _, fun a k => r3 _, fun k => r4 _, fun r k => r5 _⟩

/-- The two programs end with the same six results. -/
theorem algebraic : Cert.algebraic_FfnIdeal_FfnReferenceIdeal_pre_ffn2_finite := fun m ρ m' ρ' hp hag =>
  ⟨fun c => Cert.FfnIdeal.Hand.dh m c, fun c => Cert.FfnIdeal.Hand.nrm m c, fun c => Cert.FfnIdeal.Hand.gate m c,
    fun c => Cert.FfnIdeal.Hand.up m c, fun c => Cert.FfnIdeal.Hand.loss m c, fun c => Cert.FfnIdeal.Hand.dg m c,
    (θ_run _ _ _).mono (fun _ h c => ⟨(h c).1.trans (Cert.FfnIdeal.Hand.dh_eq m c),
      (h c).2.1.trans (Cert.FfnIdeal.Hand.nrm_eq m c), (h c).2.2.1.trans (Cert.FfnIdeal.Hand.gate_eq m c),
      (h c).2.2.2.1.trans (Cert.FfnIdeal.Hand.up_eq m c), (h c).2.2.2.2.1.trans (Cert.FfnIdeal.Hand.loss_eq m c),
      (h c).2.2.2.2.2.1.trans (Cert.FfnIdeal.Hand.dg_eq m c), (h c).2.2.2.2.2.2⟩) (Cert.FfnIdeal.Value.run_blocks m ρ),
    (θ_run _ _ _).mono (fun _ h c => ⟨
      (h c).1.trans ((Cert.FfnReferenceIdeal.Hand.v81_def m' c).trans (by
        unfold Cert.FfnReferenceIdeal.Hand.blockM Cert.FfnReferenceIdeal.Hand.arg0 Cert.FfnReferenceIdeal.Hand.arg1
          Cert.FfnReferenceIdeal.Hand.arg2 Cert.FfnReferenceIdeal.Hand.arg3 Cert.FfnReferenceIdeal.Hand.arg4 Cert.FfnReferenceIdeal.Hand.arg5
        rw [(hag c).1, (hag c).2.1, (hag c).2.2.1, (hag c).2.2.2.1, (hag c).2.2.2.2.1, (hag c).2.2.2.2.2]
        funext j
        idx_vars j
        exact dh_ref _ _ _ _ _ _ (real_args m c hp) j0 j1)),
      (h c).2.1.trans (by
        rw [(hag c).1, (hag c).2.1]
        funext j
        idx_vars j
        exact congrFun (nrm_at _ _ (arg2 m c) (arg3 m c) (arg4 m c) (arg5 m c) j0) j1),
      (h c).2.2.1.trans (by
        rw [(hag c).1, (hag c).2.1, (hag c).2.2.1]
        funext j
        idx_vars j
        exact congrFun (gate_at _ _ _ (arg3 m c) (arg4 m c) (arg5 m c) j0) j1),
      (h c).2.2.2.1.trans (by
        rw [(hag c).1, (hag c).2.1, (hag c).2.2.1]
        funext j
        idx_vars j
        exact congrFun (up_at _ _ _ (arg3 m c) (arg4 m c) (arg5 m c) j0) j1),
      (h c).2.2.2.2.1.trans ((Cert.FfnReferenceIdeal.Hand.v85_def m' c).trans (by
        unfold Cert.FfnReferenceIdeal.Hand.blockM Cert.FfnReferenceIdeal.Hand.arg0 Cert.FfnReferenceIdeal.Hand.arg1
          Cert.FfnReferenceIdeal.Hand.arg2 Cert.FfnReferenceIdeal.Hand.arg3 Cert.FfnReferenceIdeal.Hand.arg4 Cert.FfnReferenceIdeal.Hand.arg5
        rw [(hag c).1, (hag c).2.1, (hag c).2.2.1, (hag c).2.2.2.1, (hag c).2.2.2.2.1, (hag c).2.2.2.2.2]
        funext j
        idx_vars j
        obtain rfl : j0 = 0 := Subsingleton.elim (α := Fin 1) _ _
        obtain rfl : j1 = 0 := Subsingleton.elim (α := Fin 1) _ _
        exact loss_ref _ _ _ _ _ _ (real_args m c hp))),
      (h c).2.2.2.2.2.1.trans ((Cert.FfnReferenceIdeal.Hand.v65_def m' c).trans (by
        unfold Cert.FfnReferenceIdeal.Hand.blockM Cert.FfnReferenceIdeal.Hand.arg0 Cert.FfnReferenceIdeal.Hand.arg1
          Cert.FfnReferenceIdeal.Hand.arg2 Cert.FfnReferenceIdeal.Hand.arg3 Cert.FfnReferenceIdeal.Hand.arg4 Cert.FfnReferenceIdeal.Hand.arg5
        rw [(hag c).1, (hag c).2.1, (hag c).2.2.1, (hag c).2.2.2.1, (hag c).2.2.2.2.1, (hag c).2.2.2.2.2]
        funext j
        idx_vars j
        obtain rfl : j0 = 0 := Subsingleton.elim (α := Fin 1) _ _
        exact dg_ref _ _ _ _ _ _ (real_args m c hp) j1)), (h c).2.2.2.2.2.2⟩) (Cert.FfnReferenceIdeal.Value.run m' ρ')⟩

end Cert.FfnClaim
-- ==== Proof.Infwd.lean ====
/-
  The input projection: the norm of every row, and the seven pieces of its product with the padded weights.
-/
module

public import proofs.«01_k».proof.Defs
public import proofs.«01_k».proof.Proof.Gen.InfwdIdeal.Value
public import proofs.«01_k».proof.Proof.Gen.InfwdReferenceIdeal
public import proofs.«01_k».proof.Proof.Gen.InfwdReferenceIdeal.Run
public import proofs.«01_k».proof.Proof.InprojMath
public import Idealize.ShloMosaic.Lib.Pipeline.ValueKit
public import Idealize.ShloMosaic.Lib.Pointwise

@[expose] public section

set_option maxRecDepth 16384

noncomputable section

namespace Cert.InfwdIdeal.Hand

open Cert.InfwdIdeal Cert.InfwdIdeal.Gen Idealize.ShloMosaic Idealize.ShloMosaic.TcCoe Idealize.SL.Sem
open Idealize.ShloMosaic.Pipeline (Dat)
open Cert.InprojMath (normed)
open Cert.NormMath (root meanSq)

/-- A block of the first piece: the normed rows times the weights' rows from 0 on. -/
theorem blk0 (x0 : Vec Ideal S512x1024 .f32) (x1 : Vec Ideal S1x1024 .f32) (x2 : Vec Ideal S3200x1024 .bf16) (j : S512x512.Idx) :
    out0_3 (F := Ideal) x0 x1 x2 j = ∑ k : Fin 1024, normed (fun k => x0 (ix2 (j 0) k)) (fun k => x1 (ix2 0 k)) k
      * x2 (ix2 (⟨0 + (j 1).val, by have := (j 1).isLt; simp at this; omega⟩ : Fin 3200) k) := by
  unfold out0_3
  frame_out
  idx_vars j
  pointwise [k0_pay1, k0_pay2, k0_pay3, k0_pay4, k0_pay5, k0_pay6, k0_pay7, k0_pay8, k0_pay9, normed, root, meanSq]

/-- A block of the second piece: the normed rows times the weights' rows from 512 on. -/
theorem blk1 (x0 : Vec Ideal S512x1024 .f32) (x1 : Vec Ideal S1x1024 .f32) (x2 : Vec Ideal S3200x1024 .bf16) (j : S512x512.Idx) :
    out0_4 (F := Ideal) x0 x1 x2 j = ∑ k : Fin 1024, normed (fun k => x0 (ix2 (j 0) k)) (fun k => x1 (ix2 0 k)) k
      * x2 (ix2 (⟨512 + (j 1).val, by have := (j 1).isLt; simp at this; omega⟩ : Fin 3200) k) := by
  unfold out0_4
  frame_out
  idx_vars j
  pointwise [k0_pay1, k0_pay2, k0_pay3, k0_pay4, k0_pay5, k0_pay6, k0_pay7, k0_pay8, k0_pay9, normed, root, meanSq]

/-- A block of the third piece: the normed rows times the weights' rows from 1024 on. -/
theorem blk2 (x0 : Vec Ideal S512x1024 .f32) (x1 : Vec Ideal S1x1024 .f32) (x2 : Vec Ideal S3200x1024 .bf16) (j : S512x512.Idx) :
    out0_5 (F := Ideal) x0 x1 x2 j = ∑ k : Fin 1024, normed (fun k => x0 (ix2 (j 0) k)) (fun k => x1 (ix2 0 k)) k
      * x2 (ix2 (⟨1024 + (j 1).val, by have := (j 1).isLt; simp at this; omega⟩ : Fin 3200) k) := by
  unfold out0_5
  frame_out
  idx_vars j
  pointwise [k0_pay1, k0_pay2, k0_pay3, k0_pay4, k0_pay5, k0_pay6, k0_pay7, k0_pay8, k0_pay9, normed, root, meanSq]

/-- A block of the fourth piece: the normed rows times the weights' rows from 1536 on. -/
theorem blk3 (x0 : Vec Ideal S512x1024 .f32) (x1 : Vec Ideal S1x1024 .f32) (x2 : Vec Ideal S3200x1024 .bf16) (j : S512x512.Idx) :
    out0_6 (F := Ideal) x0 x1 x2 j = ∑ k : Fin 1024, normed (fun k => x0 (ix2 (j 0) k)) (fun k => x1 (ix2 0 k)) k
      * x2 (ix2 (⟨1536 + (j 1).val, by have := (j 1).isLt; simp at this; omega⟩ : Fin 3200) k) := by
  unfold out0_6
  frame_out
  idx_vars j
  pointwise [k0_pay1, k0_pay2, k0_pay3, k0_pay4, k0_pay5, k0_pay6, k0_pay7, k0_pay8, k0_pay9, normed, root, meanSq]

/-- A block of the fifth piece: the normed rows times the weights' rows from 2048 on. -/
theorem blk4 (x0 : Vec Ideal S512x1024 .f32) (x1 : Vec Ideal S1x1024 .f32) (x2 : Vec Ideal S3200x1024 .bf16) (j : S512x512.Idx) :
    out0_7 (F := Ideal) x0 x1 x2 j = ∑ k : Fin 1024, normed (fun k => x0 (ix2 (j 0) k)) (fun k => x1 (ix2 0 k)) k
      * x2 (ix2 (⟨2048 + (j 1).val, by have := (j 1).isLt; simp at this; omega⟩ : Fin 3200) k) := by
  unfold out0_7
  frame_out
  idx_vars j
  pointwise [k0_pay1, k0_pay2, k0_pay3, k0_pay4, k0_pay5, k0_pay6, k0_pay7, k0_pay8, k0_pay9, normed, root, meanSq]

/-- A block of the sixth piece: the normed rows times the weights' rows from 2560 on. -/
theorem blk5 (x0 : Vec Ideal S512x1024 .f32) (x1 : Vec Ideal S1x1024 .f32) (x2 : Vec Ideal S3200x1024 .bf16) (j : S512x512.Idx) :
    out0_8 (F := Ideal) x0 x1 x2 j = ∑ k : Fin 1024, normed (fun k => x0 (ix2 (j 0) k)) (fun k => x1 (ix2 0 k)) k
      * x2 (ix2 (⟨2560 + (j 1).val, by have := (j 1).isLt; simp at this; omega⟩ : Fin 3200) k) := by
  unfold out0_8
  frame_out
  idx_vars j
  pointwise [k0_pay1, k0_pay2, k0_pay3, k0_pay4, k0_pay5, k0_pay6, k0_pay7, k0_pay8, k0_pay9, normed, root, meanSq]

/-- A block of the last piece: the normed rows times the weights' rows from 3072 on. -/
theorem blk6 (x0 : Vec Ideal S512x1024 .f32) (x1 : Vec Ideal S1x1024 .f32) (x2 : Vec Ideal S3200x1024 .bf16) (j : S512x128.Idx) :
    out0_9 (F := Ideal) x0 x1 x2 j = ∑ k : Fin 1024, normed (fun k => x0 (ix2 (j 0) k)) (fun k => x1 (ix2 0 k)) k
      * x2 (ix2 (⟨3072 + (j 1).val, by have := (j 1).isLt; simp at this; omega⟩ : Fin 3200) k) := by
  unfold out0_9
  frame_out
  idx_vars j
  pointwise [k0_pay1, k0_pay2, k0_pay3, k0_pay4, k0_pay5, k0_pay6, k0_pay7, k0_pay8, k0_pay9, normed, root, meanSq]

variable (m : (ℓ : Loc nD τ sig) → Buf (Elt Ideal) ℓ) (c : Dev nD)

/-- The rows. -/
abbrev arg0 : Vec Ideal S8704x1024 .f32 := m ((c.tc : Thread nD τ).loc main_arg0)
/-- The norm's gain. -/
abbrev arg1 : Vec Ideal S1x1024 .f32 := m ((c.tc : Thread nD τ).loc main_arg1)
/-- The padded weights. -/
abbrev arg2 : Vec Ideal S3200x1024 .bf16 := m ((c.tc : Thread nD τ).loc main_arg2)

/-- Row `r`, normed, times the weights' row `q`. -/
def prod (r : Fin 8704) (q : Fin 3200) : EReal :=
  ∑ k : Fin 1024, normed (fun k => arg0 m c (ix2 r k)) (fun k => arg1 m c (ix2 0 k)) k * arg2 m c (ix2 q k)

/-- Which blocks a point reads and writes. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- Row `r` of block `t` is row `512 t + r`. -/
def at_ (t : Fin cfg0.N) (r : Fin 512) : Fin 8704 := ⟨512 * t.val + r.val, by
  have h := t.isLt
  have hN : cfg0.N = 17 := N_0
  omega⟩

/-- A block's row times the weights' row `q`. -/
theorem prod_blk (t : Fin cfg0.N) (r : Fin 512) (q : Fin 3200) :
    (∑ k : Fin 1024, normed (fun k => (iblk m c 0 t : Vec Ideal S512x1024 .f32) (ix2 r k))
      (fun k => (iblk m c 1 t : Vec Ideal S1x1024 .f32) (ix2 0 k)) k * (iblk m c 2 t : Vec Ideal S3200x1024 .bf16) (ix2 q k))
      = prod m c (at_ t r) q := by
  have e0 : (fun k => (iblk m c 0 t : Vec Ideal S512x1024 .f32) (ix2 r k)) = fun k => arg0 m c (ix2 (at_ t r) k) := by
    funext k
    simp only [at_]
    blk_point [iblk, V, idx t]
  have e1 : (fun k => (iblk m c 1 t : Vec Ideal S1x1024 .f32) (ix2 0 k)) = fun k => arg1 m c (ix2 0 k) := by
    funext k
    blk_point [iblk, V, idx t]
  have e2 : ∀ k, (iblk m c 2 t : Vec Ideal S3200x1024 .bf16) (ix2 q k) = arg2 m c (ix2 q k) := fun k => by
    blk_point [iblk, V, idx t]
  rw [e0, e1]
  simp only [e2]
  rfl

/-- The first piece. -/
def out0 : S8704x512.Idx → EReal := fun j =>
  prod m c (j 0) (⟨0 + (j 1).val, by have := (j 1).isLt; simp at this; omega⟩ : Fin 3200)

/-- The array of the first piece. -/
theorem out0_eq : (dats m 0 c).arrAt 3 cfg0.N = out0 m c := by
  refine (dats m 0 c).arrAt_eq_of_covers 3 _ (by decide +kernel) fun t hf y => ?_
  blk_simp
  rw [after0_3]
  refine (blk0 _ _ _ y).trans ((prod_blk m c t (y 0) (⟨0 + (y 1).val, by have := (y 1).isLt; simp at this; omega⟩ : Fin 3200)).trans ?_)
  refine Eq.trans ?_ (congrArg (out0 m c) (?_ : (ix2 (at_ t (y 0)) (y 1) : S8704x512.Idx) = _))
  · rfl
  · simp only [at_]
    blk_ext [idx t]

/-- The second piece. -/
def out1 : S8704x512.Idx → EReal := fun j =>
  prod m c (j 0) (⟨512 + (j 1).val, by have := (j 1).isLt; simp at this; omega⟩ : Fin 3200)

/-- The array of the second piece. -/
theorem out1_eq : (dats m 0 c).arrAt 4 cfg0.N = out1 m c := by
  refine (dats m 0 c).arrAt_eq_of_covers 4 _ (by decide +kernel) fun t hf y => ?_
  blk_simp
  rw [after0_4]
  refine (blk1 _ _ _ y).trans ((prod_blk m c t (y 0) (⟨512 + (y 1).val, by have := (y 1).isLt; simp at this; omega⟩ : Fin 3200)).trans ?_)
  refine Eq.trans ?_ (congrArg (out1 m c) (?_ : (ix2 (at_ t (y 0)) (y 1) : S8704x512.Idx) = _))
  · rfl
  · simp only [at_]
    blk_ext [idx t]

/-- The third piece. -/
def out2 : S8704x512.Idx → EReal := fun j =>
  prod m c (j 0) (⟨1024 + (j 1).val, by have := (j 1).isLt; simp at this; omega⟩ : Fin 3200)

/-- The array of the third piece. -/
theorem out2_eq : (dats m 0 c).arrAt 5 cfg0.N = out2 m c := by
  refine (dats m 0 c).arrAt_eq_of_covers 5 _ (by decide +kernel) fun t hf y => ?_
  blk_simp
  rw [after0_5]
  refine (blk2 _ _ _ y).trans ((prod_blk m c t (y 0) (⟨1024 + (y 1).val, by have := (y 1).isLt; simp at this; omega⟩ : Fin 3200)).trans ?_)
  refine Eq.trans ?_ (congrArg (out2 m c) (?_ : (ix2 (at_ t (y 0)) (y 1) : S8704x512.Idx) = _))
  · rfl
  · simp only [at_]
    blk_ext [idx t]

/-- The fourth piece. -/
def out3 : S8704x512.Idx → EReal := fun j =>
  prod m c (j 0) (⟨1536 + (j 1).val, by have := (j 1).isLt; simp at this; omega⟩ : Fin 3200)

/-- The array of the fourth piece. -/
theorem out3_eq : (dats m 0 c).arrAt 6 cfg0.N = out3 m c := by
  refine (dats m 0 c).arrAt_eq_of_covers 6 _ (by decide +kernel) fun t hf y => ?_
  blk_simp
  rw [after0_6]
  refine (blk3 _ _ _ y).trans ((prod_blk m c t (y 0) (⟨1536 + (y 1).val, by have := (y 1).isLt; simp at this; omega⟩ : Fin 3200)).trans ?_)
  refine Eq.trans ?_ (congrArg (out3 m c) (?_ : (ix2 (at_ t (y 0)) (y 1) : S8704x512.Idx) = _))
  · rfl
  · simp only [at_]
    blk_ext [idx t]

/-- The fifth piece. -/
def out4 : S8704x512.Idx → EReal := fun j =>
  prod m c (j 0) (⟨2048 + (j 1).val, by have := (j 1).isLt; simp at this; omega⟩ : Fin 3200)

/-- The array of the fifth piece. -/
theorem out4_eq : (dats m 0 c).arrAt 7 cfg0.N = out4 m c := by
  refine (dats m 0 c).arrAt_eq_of_covers 7 _ (by decide +kernel) fun t hf y => ?_
  blk_simp
  rw [after0_7]
  refine (blk4 _ _ _ y).trans ((prod_blk m c t (y 0) (⟨2048 + (y 1).val, by have := (y 1).isLt; simp at this; omega⟩ : Fin 3200)).trans ?_)
  refine Eq.trans ?_ (congrArg (out4 m c) (?_ : (ix2 (at_ t (y 0)) (y 1) : S8704x512.Idx) = _))
  · rfl
  · simp only [at_]
    blk_ext [idx t]

/-- The sixth piece. -/
def out5 : S8704x512.Idx → EReal := fun j =>
  prod m c (j 0) (⟨2560 + (j 1).val, by have := (j 1).isLt; simp at this; omega⟩ : Fin 3200)

/-- The array of the sixth piece. -/
theorem out5_eq : (dats m 0 c).arrAt 8 cfg0.N = out5 m c := by
  refine (dats m 0 c).arrAt_eq_of_covers 8 _ (by decide +kernel) fun t hf y => ?_
  blk_simp
  rw [after0_8]
  refine (blk5 _ _ _ y).trans ((prod_blk m c t (y 0) (⟨2560 + (y 1).val, by have := (y 1).isLt; simp at this; omega⟩ : Fin 3200)).trans ?_)
  refine Eq.trans ?_ (congrArg (out5 m c) (?_ : (ix2 (at_ t (y 0)) (y 1) : S8704x512.Idx) = _))
  · rfl
  · simp only [at_]
    blk_ext [idx t]

/-- The last piece. -/
def out6 : S8704x128.Idx → EReal := fun j =>
  prod m c (j 0) (⟨3072 + (j 1).val, by have := (j 1).isLt; simp at this; omega⟩ : Fin 3200)

/-- The array of the last piece. -/
theorem out6_eq : (dats m 0 c).arrAt 9 cfg0.N = out6 m c := by
  refine (dats m 0 c).arrAt_eq_of_covers 9 _ (by decide +kernel) fun t hf y => ?_
  blk_simp
  rw [after0_9]
  refine (blk6 _ _ _ y).trans ((prod_blk m c t (y 0) (⟨3072 + (y 1).val, by have := (y 1).isLt; simp at this; omega⟩ : Fin 3200)).trans ?_)
  refine Eq.trans ?_ (congrArg (out6 m c) (?_ : (ix2 (at_ t (y 0)) (y 1) : S8704x128.Idx) = _))
  · rfl
  · simp only [at_]
    blk_ext [idx t]

end Cert.InfwdIdeal.Hand

namespace Cert.InfwdReferenceIdeal.Hand

open Cert.InprojMath (normed)
open Cert.NormMath (root meanSq)
open Cert.InfwdReferenceIdeal Cert.InfwdReferenceIdeal.Gen Idealize.ShloMosaic Idealize.ShloMosaic.TcCoe Idealize.SL.Sem

/-- The product of the normed rows and the weights, as the reference writes it. -/
theorem prods (h : FVec Ideal S8704x1024 .f32) (g : FVec Ideal S1x1024 .f32) (w : FVec Ideal S3200x1024 .bf16) :
    (Host.dotGeneral dot_S8704x1024_S1024x3200_S8704x3200_1_0_0_1_n_n none (mulf (mulf h (broadcastInDim S8704x1024 ![0, 1] bcast_S8704x1_S8704x1024_0_1 (Host.rsqrt (addf (Host.divf (broadcastInDim S8704x1 ![0] bcast_S8704_S8704x1_0 (Host.reduceAdd (mulf h h) (constant S_ .f32 0x00000000#32) reducesTo_S8704x1024_S8704_d1 h_S_)) (broadcastInDim S8704x1 ![] bcast_S_S8704x1 (constant S_ .f32 0x44800000#32))) (broadcastInDim S8704x1 ![] bcast_S_S8704x1 (constant S_ .f32 0x358637BD#32)))))) (broadcastInDim S8704x1024 ![0, 1] bcast_S1x1024_S8704x1024_0_1 g)) (transpose S1024x3200 [1, 0] (extf .f32 w bitsLt_bf16_f32) transposes_S3200x1024_S1024x3200_1_0) : FVec Ideal S8704x3200 .f32)
      = fun j => ∑ k : Fin 1024, normed (fun k => h (ix2 (j 0) k)) (fun k => g (ix2 0 k)) k * w (ix2 (j 1) k) := by
  funext j
  idx_vars j
  pointwise [normed, root, meanSq]

/-- The first piece of rows `z`. -/
theorem piece0 (z : FVec Ideal S8704x3200 .f32) (r : Fin 8704) (q : Fin 512) :
    (truncf .bf16 (extractStridedSlice S8704x512 ![0, 0] z slices_S8704x3200_S8704x512_0_0) bitsLt_bf16_f32 : FVec Ideal S8704x512 .bf16) (ix2 r q) = z (ix2 r (⟨0 + q.val, by omega⟩ : Fin 3200)) := by
  pointwise []

/-- The second piece of rows `z`. -/
theorem piece1 (z : FVec Ideal S8704x3200 .f32) (r : Fin 8704) (q : Fin 512) :
    (truncf .bf16 (extractStridedSlice S8704x512 ![0, 512] z slices_S8704x3200_S8704x512_0_512) bitsLt_bf16_f32 : FVec Ideal S8704x512 .bf16) (ix2 r q) = z (ix2 r (⟨512 + q.val, by omega⟩ : Fin 3200)) := by
  pointwise []

/-- The third piece of rows `z`. -/
theorem piece2 (z : FVec Ideal S8704x3200 .f32) (r : Fin 8704) (q : Fin 512) :
    (truncf .bf16 (extractStridedSlice S8704x512 ![0, 1024] z slices_S8704x3200_S8704x512_0_1024) bitsLt_bf16_f32 : FVec Ideal S8704x512 .bf16) (ix2 r q) = z (ix2 r (⟨1024 + q.val, by omega⟩ : Fin 3200)) := by
  pointwise []

/-- The fourth piece of rows `z`. -/
theorem piece3 (z : FVec Ideal S8704x3200 .f32) (r : Fin 8704) (q : Fin 512) :
    (truncf .bf16 (extractStridedSlice S8704x512 ![0, 1536] z slices_S8704x3200_S8704x512_0_1536) bitsLt_bf16_f32 : FVec Ideal S8704x512 .bf16) (ix2 r q) = z (ix2 r (⟨1536 + q.val, by omega⟩ : Fin 3200)) := by
  pointwise []

/-- The fifth piece of rows `z`. -/
theorem piece4 (z : FVec Ideal S8704x3200 .f32) (r : Fin 8704) (q : Fin 512) :
    (truncf .bf16 (extractStridedSlice S8704x512 ![0, 2048] z slices_S8704x3200_S8704x512_0_2048) bitsLt_bf16_f32 : FVec Ideal S8704x512 .bf16) (ix2 r q) = z (ix2 r (⟨2048 + q.val, by omega⟩ : Fin 3200)) := by
  pointwise []

/-- The sixth piece of rows `z`. -/
theorem piece5 (z : FVec Ideal S8704x3200 .f32) (r : Fin 8704) (q : Fin 512) :
    (truncf .bf16 (extractStridedSlice S8704x512 ![0, 2560] z slices_S8704x3200_S8704x512_0_2560) bitsLt_bf16_f32 : FVec Ideal S8704x512 .bf16) (ix2 r q) = z (ix2 r (⟨2560 + q.val, by omega⟩ : Fin 3200)) := by
  pointwise []

/-- The last piece of rows `z`. -/
theorem piece6 (z : FVec Ideal S8704x3200 .f32) (r : Fin 8704) (q : Fin 128) :
    (extractStridedSlice S8704x128 ![0, 3072] z slices_S8704x3200_S8704x128_0_3072 : FVec Ideal S8704x128 .f32) (ix2 r q) = z (ix2 r (⟨3072 + q.val, by omega⟩ : Fin 3200)) := by
  pointwise []

end Cert.InfwdReferenceIdeal.Hand

namespace Cert.InfwdClaim

open Idealize.ShloMosaic Idealize.ShloMosaic.TcCoe Idealize.SL.Sem

/-- The two programs end with the same seven results. -/
theorem algebraic : Cert.algebraic_InfwdIdeal_InfwdReferenceIdeal := fun m ρ m' ρ' _ hag =>
  ⟨fun c => Cert.InfwdIdeal.Hand.out0 m c, fun c => Cert.InfwdIdeal.Hand.out1 m c, fun c => Cert.InfwdIdeal.Hand.out2 m c, fun c => Cert.InfwdIdeal.Hand.out3 m c, fun c => Cert.InfwdIdeal.Hand.out4 m c, fun c => Cert.InfwdIdeal.Hand.out5 m c, fun c => Cert.InfwdIdeal.Hand.out6 m c,
    (θ_run _ _ _).mono (fun _ h c => ⟨(h c).1.trans (Cert.InfwdIdeal.Hand.out0_eq m c),
      (h c).2.1.trans (Cert.InfwdIdeal.Hand.out1_eq m c),
      (h c).2.2.1.trans (Cert.InfwdIdeal.Hand.out2_eq m c),
      (h c).2.2.2.1.trans (Cert.InfwdIdeal.Hand.out3_eq m c),
      (h c).2.2.2.2.1.trans (Cert.InfwdIdeal.Hand.out4_eq m c),
      (h c).2.2.2.2.2.1.trans (Cert.InfwdIdeal.Hand.out5_eq m c),
      (h c).2.2.2.2.2.2.1.trans (Cert.InfwdIdeal.Hand.out6_eq m c), (h c).2.2.2.2.2.2.2⟩) (Cert.InfwdIdeal.Value.run_blocks m ρ),
    (θ_run _ _ _).mono (fun _ h c => ⟨(h c).1.trans (by
        rw [(hag c).1, (hag c).2.1, (hag c).2.2, Cert.InfwdReferenceIdeal.Hand.prods]
        funext j
        idx_vars j
        refine (Cert.InfwdReferenceIdeal.Hand.piece0 _ j0 j1).trans ?_
        rfl),
      (h c).2.1.trans (by
        rw [(hag c).1, (hag c).2.1, (hag c).2.2, Cert.InfwdReferenceIdeal.Hand.prods]
        funext j
        idx_vars j
        refine (Cert.InfwdReferenceIdeal.Hand.piece1 _ j0 j1).trans ?_
        rfl),
      (h c).2.2.1.trans (by
        rw [(hag c).1, (hag c).2.1, (hag c).2.2, Cert.InfwdReferenceIdeal.Hand.prods]
        funext j
        idx_vars j
        refine (Cert.InfwdReferenceIdeal.Hand.piece2 _ j0 j1).trans ?_
        rfl),
      (h c).2.2.2.1.trans (by
        rw [(hag c).1, (hag c).2.1, (hag c).2.2, Cert.InfwdReferenceIdeal.Hand.prods]
        funext j
        idx_vars j
        refine (Cert.InfwdReferenceIdeal.Hand.piece3 _ j0 j1).trans ?_
        rfl),
      (h c).2.2.2.2.1.trans (by
        rw [(hag c).1, (hag c).2.1, (hag c).2.2, Cert.InfwdReferenceIdeal.Hand.prods]
        funext j
        idx_vars j
        refine (Cert.InfwdReferenceIdeal.Hand.piece4 _ j0 j1).trans ?_
        rfl),
      (h c).2.2.2.2.2.1.trans (by
        rw [(hag c).1, (hag c).2.1, (hag c).2.2, Cert.InfwdReferenceIdeal.Hand.prods]
        funext j
        idx_vars j
        refine (Cert.InfwdReferenceIdeal.Hand.piece5 _ j0 j1).trans ?_
        rfl),
      (h c).2.2.2.2.2.2.1.trans (by
        rw [(hag c).1, (hag c).2.1, (hag c).2.2, Cert.InfwdReferenceIdeal.Hand.prods]
        funext j
        idx_vars j
        refine (Cert.InfwdReferenceIdeal.Hand.piece6 _ j0 j1).trans ?_
        rfl), (h c).2.2.2.2.2.2.2⟩) (Cert.InfwdReferenceIdeal.Value.run m' ρ')⟩

end Cert.InfwdClaim
-- ==== Proof.Convfwd.lean ====
/-
  The gated short convolution and its norm, forward: kernel and reference leave the same array of finite arguments.
-/
module

public import proofs.«01_k».proof.Defs
public import proofs.«01_k».proof.Proof.ConvSpec
public import proofs.«01_k».proof.Proof.Finite
public import proofs.«01_k».proof.Proof.Gen.ConvfwdIdeal.Value
public import proofs.«01_k».proof.Proof.Gen.ConvfwdReferenceIdeal
public import proofs.«01_k».proof.Proof.Gen.ConvfwdReferenceIdeal.Run
public import proofs.«01_k».proof.Proof.Gen.Pre_convfwd_finite
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvfwdIdeal.Hand

open Cert.ConvfwdIdeal Cert.ConvfwdIdeal.Gen Idealize.ShloMosaic Idealize.ShloMosaic.TcCoe Idealize.SL.Sem
open Idealize.ShloMosaic.Pipeline (Dat)
open Cert.ConvMath Cert.ConvSpec

/-- A block as a function of row and lane. -/
def cells (x : FVec Ideal S2176x128 .f32) (t : Fin 2176) (l : Fin 128) : EReal := x (ix2 t l)

/-- A vector of lanes. -/
def lanes (x : FVec Ideal S1x128 .f32) (l : Fin 128) : EReal := x (ix2 0 l)

/-- The group matrix's entries. -/
def grid (x : FVec Ideal S128x128 .f32) (k l : Fin 128) : EReal := x (ix2 k l)

/-- The words' comparison from above. -/
theorem select_sge {α : Type} (a b : ℕ) (ha : a < 2176) (hb : b < 2176) (x y : α) :
    Scalar.select (IntOp.cmpi .sge (BitVec.ofNat 32 a) (BitVec.ofNat 32 b)) x y = if b ≤ a then x else y := by
  rw [WordCmp.cmpi_sge_ofNat (by omega) (by omega), WordCmp.select_ofBool]
  simp

/-- A row of the three weights. -/
def tap (x4 : FVec Ideal S3x128 .f32) (r : Fin 3) (l : Fin 128) : EReal := x4 (ix2 r l)

/-- What the block norms. -/
def mx (x1 x2 x3 : FVec Ideal S2176x128 .f32) (x4 : FVec Ideal S3x128 .f32) : Fin 2176 → Fin 128 → EReal :=
  mixed (cells x1) (cells x2) (cells x3) (tap x4 2) (tap x4 1) (tap x4 0)

/-- The third weight, loaded. -/
def row2 (x4 : Vec Ideal S3x128 .f32) : Vec Ideal S1x128 .f32 :=
  View.ld x4 (Rect.unit ![2, 0] ![1, 128] inb_S3x128_S1x128_2_0)

/-- It is that weight. -/
theorem tap_2 (x4 : Vec Ideal S3x128 .f32) : lanes (row2 x4) = tap x4 2 := by
  funext l
  pointwise [lanes, tap, row2]

/-- The second weight, loaded. -/
def row1 (x4 : Vec Ideal S3x128 .f32) : Vec Ideal S1x128 .f32 :=
  View.ld x4 (Rect.unit ![1, 0] ![1, 128] inb_S3x128_S1x128_1_0)

/-- It is that weight. -/
theorem tap_1 (x4 : Vec Ideal S3x128 .f32) : lanes (row1 x4) = tap x4 1 := by
  funext l
  pointwise [lanes, tap, row1]

/-- The first weight, loaded. -/
def row0 (x4 : Vec Ideal S3x128 .f32) : Vec Ideal S1x128 .f32 :=
  View.ld x4 (Rect.unit ![0, 0] ![1, 128] inb_S3x128_S1x128_0_0)

/-- It is that weight. -/
theorem tap_0 (x4 : Vec Ideal S3x128 .f32) : lanes (row0 x4) = tap x4 0 := by
  funext l
  pointwise [lanes, tap, row0]

/-- What the kernel norms, entry by entry. -/
theorem mixed_at (B C H : Vec Ideal S2176x128 .bf16) (w2 w1 w0 : Vec Ideal S1x128 .f32) (t : Fin 2176) (l : Fin 128) :
    k0_pay2 (F := Ideal) B C H w2 w1 w0 (ix2 t l)
      = mixed (cells B) (cells C) (cells H) (lanes w2) (lanes w1) (lanes w0) t l := by
  pointwise [k0_pay2]
  have ht := t.isLt
  have h1 : (if 1 ≤ t.val then C (ix2 ⟨(t.val + 2176 - 1) % 2176, Nat.mod_lt _ (by norm_num)⟩ l) * H (ix2 ⟨(t.val + 2176 - 1) % 2176, Nat.mod_lt _ (by norm_num)⟩ l) else 0)
      = later 1 (fun t => gated (cells C) (cells H) t l) t := by
    unfold later
    by_cases h : 1 ≤ t.val
    · rw [dif_pos h, if_pos h]
      refine congrArg (fun r => C (ix2 r l) * H (ix2 r l)) (Fin.ext ?_)
      show (t.val + 2176 - 1) % 2176 = t.val - 1
      omega
    · rw [dif_neg h, if_neg h]
  have h2 : (if 2 ≤ t.val then C (ix2 ⟨(t.val + 2176 - 2) % 2176, Nat.mod_lt _ (by norm_num)⟩ l) * H (ix2 ⟨(t.val + 2176 - 2) % 2176, Nat.mod_lt _ (by norm_num)⟩ l) else 0)
      = later 2 (fun t => gated (cells C) (cells H) t l) t := by
    unfold later
    by_cases h : 2 ≤ t.val
    · rw [dif_pos h, if_pos h]
      refine congrArg (fun r => C (ix2 r l) * H (ix2 r l)) (Fin.ext ?_)
      show (t.val + 2176 - 2) % 2176 = t.val - 2
      omega
    · rw [dif_neg h, if_neg h]
  rw [select_sge _ 1 (by omega) (by omega), select_sge _ 2 (by omega) (by omega), mixed, conv, ← h1, ← h2]
  simp only [mul_ite, mul_zero]
  rfl

/-- The result's block, from what is normed. -/
theorem pay1_at (Y : FVec Ideal S2176x128 .f32) (G : FVec Ideal S128x128 .bf16) (P R : FVec Ideal S2176x128 .bf16)
    (hP : P = mulf Y Y) (hR : R = subf (mulf Y Y) (mulf Y Y)) (g : Vec Ideal S1x128 .f32) (t : Fin 2176) (l : Fin 128) :
    k0_pay1 (F := Ideal) Y G P R g (ix2 t l) = khat (grid G) (fun k => Y (ix2 t k)) l * lanes g l := by
  subst hP hR
  pointwise [k0_pay1, khat, kroot, gsum, grid, lanes]

/-- The result's block. -/
theorem blk6 (x0 x1 x2 : Vec Ideal S2176x128 .bf16) (x3 : Vec Ideal S3x128 .f32) (x4 : Vec Ideal S1x128 .f32)
    (x5 : Vec Ideal S128x128 .bf16) (j : S2176x128.Idx) :
    out0_6 (F := Ideal) x0 x1 x2 x3 x4 x5 j = khat (grid x5) (mx x0 x1 x2 x3 (j 0)) (j 1) * lanes x4 (j 1) := by
  have e : grid (k0_pay4 (F := Ideal) x5) = grid x5 := by
    funext a b
    pointwise [k0_pay4, grid]
  have ey : ∀ t, (fun k => k0_pay2 (F := Ideal) x0 x1 x2 (row2 x3) (row1 x3) (row0 x3) (ix2 t k)) = mx x0 x1 x2 x3 t := fun t => by
    funext k
    rw [mixed_at, tap_2, tap_1, tap_0, mx]
  unfold out0_6
  frame_out
  idx_vars j
  refine (pay1_at (k0_pay2 (F := Ideal) x0 x1 x2 (row2 x3) (row1 x3) (row0 x3)) (k0_pay4 (F := Ideal) x5) _ _ rfl rfl x4 j0 j1).trans ?_
  rw [e, ey]

variable (m : (ℓ : Loc nD τ sig) → Buf (Elt Ideal) ℓ) (c : Dev nD)

/-- An array by sequence, row and channel. -/
def cube (x : FVec Ideal S8704x512 .f32) : Cube := fun n t q => x (ix2 ⟨n.val * 2176 + t.val, by omega⟩ q)

/-- The outer gate. -/
abbrev arg0 : Vec Ideal S8704x512 .bf16 := m ((c.tc : Thread nD τ).loc main_arg0)
/-- The inner gate. -/
abbrev arg1 : Vec Ideal S8704x512 .bf16 := m ((c.tc : Thread nD τ).loc main_arg1)
/-- What the inner gate gates. -/
abbrev arg2 : Vec Ideal S8704x512 .bf16 := m ((c.tc : Thread nD τ).loc main_arg2)
/-- The weights. -/
abbrev arg3 : Vec Ideal S3x512 .f32 := m ((c.tc : Thread nD τ).loc main_arg3)
/-- The gain. -/
abbrev arg4 : Vec Ideal S1x512 .f32 := m ((c.tc : Thread nD τ).loc main_arg4)

/-- The weights, by row and channel. -/
def weights (x : FVec Ideal S3x512 .f32) (r : Fin 3) (q : Fin 512) : EReal := x (ix2 r q)
/-- The gain, by channel. -/
def gains (x : FVec Ideal S1x512 .f32) (q : Fin 512) : EReal := x (ix2 0 q)

/-- What is normed, normed. -/
abbrev hat : Cube := hatK (cube (arg0 m c)) (cube (arg1 m c)) (cube (arg2 m c)) (weights (arg3 m c))

/-- An array from its values by sequence, row and channel. -/
def flat (x : Cube) : S8704x512.Idx → EReal := fun j =>
  x ⟨(j 0).val / 2176, Nat.div_lt_of_lt_mul (j 0).isLt⟩ ⟨(j 0).val % 2176, Nat.mod_lt _ (by norm_num)⟩ (j 1)

/-- Such an array at a sequence's row. -/
theorem flat_at (x : Cube) (n : Fin 4) (t : Fin 2176) (q : Fin 512) :
    flat x (ix2 ⟨n.val * 2176 + t.val, by omega⟩ q) = x n t q := by
  have e0 : (n.val * 2176 + t.val) / 2176 = n.val := by omega
  have e1 : (n.val * 2176 + t.val) % 2176 = t.val := by omega
  show x ⟨(n.val * 2176 + t.val) / 2176, _⟩ ⟨(n.val * 2176 + t.val) % 2176, _⟩ q = _
  simp only [e0, e1]

/-- The result. -/
def out6 : S8704x512.Idx → EReal := flat fun n t q => hat m c n t q * gains (arg4 m c) q

/-- Which blocks a point reads and writes. -/
theorem idx : ∀ t : Fin cfg0.N, win0_0.index t = ![t.val % 4, t.val / 4] ∧ win0_1.index t = ![t.val % 4, t.val / 4]
    ∧ win0_2.index t = ![t.val % 4, t.val / 4] ∧ win0_3.index t = ![0, t.val / 4]
    ∧ win0_4.index t = ![0, t.val / 4] ∧ win0_5.index t = ![0, 0] ∧ win0_6.index t = ![t.val % 4, t.val / 4] :=
  (by decide +kernel : ∀ t : Fin grid0.N, _)

/-- Division rounding down, as the words compute it. -/
def floorDiv (x : Vec Ideal S128x128 .i32) : Vec Ideal S128x128 .i32 :=
  select (andi (cmpi .ne (signi x) (broadcastInDim S128x128 ![] bcast_S_S128x128 (signi (constantI S_ 32 64#32))))
      (cmpi .ne (Host.remsi x (broadcastInDim S128x128 ![] bcast_S_S128x128 (constantI S_ 32 64#32)))
        (broadcastInDim S128x128 ![] bcast_S_S128x128 (constantI S_ 32 0#32))))
    (subi (Host.divsi x (broadcastInDim S128x128 ![] bcast_S_S128x128 (constantI S_ 32 64#32)))
      (broadcastInDim S128x128 ![] bcast_S_S128x128 (constantI S_ 32 1#32)))
    (Host.divsi x (broadcastInDim S128x128 ![] bcast_S_S128x128 (constantI S_ 32 64#32)))

/-- The group matrix as the host prepares it. -/
theorem groups : (V m c main_v6 : Vec Ideal S128x128 .bf16)
    = truncf .bf16 (select (cmpi .eq (floorDiv (iotaInDim S128x128 32 0)) (floorDiv (iotaInDim S128x128 32 1)))
        (broadcastInDim S128x128 ![] bcast_S_S128x128 (constant (F := Ideal) S_ .f32 0x3C800000#32))
        (broadcastInDim S128x128 ![] bcast_S_S128x128 (constant (F := Ideal) S_ .f32 0x00000000#32))) bitsLt_bf16_f32 := by
  rfl

/-- The same of one word. -/
def floorWord (x : BitVec 32) : BitVec 32 :=
  Scalar.select (IntOp.andi (IntOp.cmpi .ne (if x = 0 then 0 else if x.msb then -1 else 1)
        (if 64#32 = 0 then 0 else if (64#32).msb then -1 else 1 : BitVec 32))
      (IntOp.cmpi .ne (IntOp.remsi .host x 64#32) 0#32))
    (IntOp.subi (IntOp.divsi .host x 64#32) 1#32) (IntOp.divsi .host x 64#32)

/-- Entry by entry. -/
theorem floorDiv_at (x : Vec Ideal S128x128 .i32) (j : S128x128.Idx) : floorDiv x j = floorWord (x j) := by
  rfl

/-- On the lanes' numbers it is division. -/
theorem floorWord_eq : ∀ k : Fin 128, floorWord (BitVec.ofNat 32 k.val) = BitVec.ofNat 32 (k.val / 64) := by
  decide +kernel

/-- The group matrix's entries. -/
theorem groups_at (k l : Fin 128) : (V m c main_v6 : Vec Ideal S128x128 .bf16) (ix2 k l) = gm k l := by
  rw [groups]
  have e0 : floorDiv (iotaInDim S128x128 32 0) (ix2 k l) = BitVec.ofNat 32 (k.val / 64) := by
    rw [floorDiv_at, ← floorWord_eq]; rfl
  have e1 : floorDiv (iotaInDim S128x128 32 1) (ix2 k l) = BitVec.ofNat 32 (l.val / 64) := by
    rw [floorDiv_at, ← floorWord_eq]; rfl
  show Scalar.select (IntOp.cmpi .eq (floorDiv (iotaInDim S128x128 32 0) (ix2 k l)) (floorDiv (iotaInDim S128x128 32 1) (ix2 k l)))
    (Ideal.ofBits .f32 0x3C800000#32) (Ideal.ofBits .f32 0x00000000#32) = _
  rw [e0, e1, gm, WordCmp.cmpi_eq_ofNat (by omega) (by omega), WordCmp.select_ofBool]
  have h0 : Ideal.ofBits .f32 0x3C800000#32 = ((1 / 64 : ℝ) : EReal) := by
    simp [Ideal.ofBits, Ideal.ieee]
    rw [← EReal.coe_mul]
    norm_num
  have h1 : Ideal.ofBits .f32 0x00000000#32 = 0 := by simp [Ideal.ofBits, Ideal.ieee]
  rw [h0, h1]
  simp only [decide_eq_true_eq]

/-- A point's sequence. -/
def seqOf (t : Fin cfg0.N) : Fin 4 := ⟨t.val % 4, Nat.mod_lt _ (by norm_num)⟩
/-- A point's block of channels. -/
def blkOf (t : Fin cfg0.N) : Fin 4 := ⟨t.val / 4, by have := lt_of_lt_of_eq t.isLt N_0; omega⟩

/-- A point's block of the outer gate. -/
theorem cells_0 (t : Fin cfg0.N) : cells (iblk m c 0 t) = fun r l => cube (arg0 m c) (seqOf t) r (chan (blkOf t) l) := by
  funext r l
  simp only [cells, cube, seqOf, blkOf, chan]
  blk_point [iblk, V, idx t]
/-- A point's block of the inner gate. -/
theorem cells_1 (t : Fin cfg0.N) : cells (iblk m c 1 t) = fun r l => cube (arg1 m c) (seqOf t) r (chan (blkOf t) l) := by
  funext r l
  simp only [cells, cube, seqOf, blkOf, chan]
  blk_point [iblk, V, idx t]
/-- A point's block of what the inner gate gates. -/
theorem cells_2 (t : Fin cfg0.N) : cells (iblk m c 2 t) = fun r l => cube (arg2 m c) (seqOf t) r (chan (blkOf t) l) := by
  funext r l
  simp only [cells, cube, seqOf, blkOf, chan]
  blk_point [iblk, V, idx t]
/-- A point's weights. -/
theorem tap_3 (t : Fin cfg0.N) (r : Fin 3) : tap (iblk m c 3 t) r = fun l => weights (arg3 m c) r (chan (blkOf t) l) := by
  funext l
  simp only [tap, weights, blkOf, chan]
  blk_point [iblk, V, idx t]
/-- A point's gain. -/
theorem lanes_4 (t : Fin cfg0.N) : lanes (iblk m c 4 t) = fun l => gains (arg4 m c) (chan (blkOf t) l) := by
  funext l
  simp only [lanes, gains, blkOf, chan]
  blk_point [iblk, V, idx t]
/-- A point's group matrix. -/
theorem grid_5 (t : Fin cfg0.N) : grid (iblk m c 5 t) = gm := by
  funext k l
  rw [← groups_at m c]
  simp only [grid]
  blk_point [iblk, idx t]

/-- What a point norms. -/
theorem mx_at (t : Fin cfg0.N) : mx (iblk m c 0 t) (iblk m c 1 t) (iblk m c 2 t) (iblk m c 3 t)
    = fun r l => mixedAt (cube (arg0 m c)) (cube (arg1 m c)) (cube (arg2 m c)) (weights (arg3 m c)) (seqOf t) r (chan (blkOf t) l) := by
  rw [mx, cells_0, cells_1, cells_2, tap_3, tap_3, tap_3]
  rfl

/-- A point's normed block times the gain. -/
theorem hat_at (t : Fin cfg0.N) (r : Fin 2176) (l : Fin 128) :
    khat (grid (iblk m c 5 t)) (mx (iblk m c 0 t) (iblk m c 1 t) (iblk m c 2 t) (iblk m c 3 t) r) l * lanes (iblk m c 4 t) l
      = hat m c (seqOf t) r (chan (blkOf t) l) * gains (arg4 m c) (chan (blkOf t) l) := by
  rw [grid_5, lanes_4, mx_at]
  have h : hat m c (seqOf t) r (chan (blkOf t) l) = khat gm (fun k => mixedAt (cube (arg0 m c)) (cube (arg1 m c))
      (cube (arg2 m c)) (weights (arg3 m c)) (seqOf t) r (lane (chan (blkOf t) l) k)) (inBlock (chan (blkOf t) l)) := rfl
  rw [h, inBlock_chan]
  simp only [lane_chan]

/-- The result's array. -/
theorem out6_eq : (dats m 0 c).arrAt 6 cfg0.N = out6 m c := by
  refine (dats m 0 c).arrAt_eq_of_covers 6 _ (by decide +kernel) fun t hf y => ?_
  blk_simp
  rw [after0_6]
  have e : out0_6 (F := Ideal) (iblk m c 0 t) (iblk m c 1 t) (iblk m c 2 t) (iblk m c 3 t) (iblk m c 4 t) (iblk m c 5 t) y
      = hat m c (seqOf t) (y 0) (chan (blkOf t) (y 1)) * gains (arg4 m c) (chan (blkOf t) (y 1)) := by
    exact (blk6 _ _ _ _ _ _ y).trans (hat_at m c t (y 0) (y 1))
  refine e.trans ((flat_at (fun n t q => hat m c n t q * gains (arg4 m c) q) _ _ _).symm.trans (congrArg (out6 m c) ?_))
  simp only [seqOf, blkOf, chan]
  blk_ext [idx t]

end Cert.ConvfwdIdeal.Hand

namespace Cert.ConvfwdReferenceIdeal.Hand

open Cert.ConvfwdReferenceIdeal Cert.ConvfwdReferenceIdeal.Gen Cert.ConvfwdReferenceIdeal.Value Idealize.ShloMosaic Idealize.ShloMosaic.TcCoe Idealize.SL.Sem
open Cert.ConvMath Cert.ConvSpec

/-- An array by sequence, row and channel. -/
def cube (x : FVec Ideal S8704x512 .f32) : Cube := fun n t q => x (ix2 ⟨n.val * 2176 + t.val, by omega⟩ q)
/-- The weights, by row and channel. -/
def weights (x : FVec Ideal S3x512 .f32) (r : Fin 3) (q : Fin 512) : EReal := x (ix2 r q)
/-- The gain, by channel. -/
def gains (x : FVec Ideal S1x512 .f32) (q : Fin 512) : EReal := x (ix2 0 q)
/-- An array of three axes by its coordinates. -/
def box (x : FVec Ideal S4x2176x512 .f32) : Cube := fun n t q => x (ix3 n t q)

/-- Rows read as sequences and rows. -/
theorem box_rows (x : FVec Ideal S8704x512 .bf16) :
    box (shapeCast S4x2176x512 (extf .f32 x bitsLt_bf16_f32) shapeCasts_S8704x512_S4x2176x512) = cube x := by
  funext n t q
  unfold box cube
  pointwise []

/-- Sequences and rows read as rows. -/
theorem rows_box (x : FVec Ideal S4x2176x512 .f32) (j : S8704x512.Idx) :
    (truncf .bf16 (shapeCast S8704x512 x shapeCasts_S4x2176x512_S8704x512) bitsLt_bf16_f32 : FVec Ideal S8704x512 .bf16) j
      = box x ⟨(j 0).val / 2176, Nat.div_lt_of_lt_mul (j 0).isLt⟩ ⟨(j 0).val % 2176, Nat.mod_lt _ (by norm_num)⟩ (j 1) := by
  idx_vars j
  unfold box
  pointwise []

/-- Moved down two rows. -/
theorem box_later2 (x : FVec Ideal S4x2176x512 .f32) :
    box (concatenate S4x2176x512 1 [⟨S4x2x512, (broadcastInDim S4x2x512 ![] bcast_S_S4x2x512 (constant S_ .f32 0x00000000#32))⟩, ⟨S4x2174x512, (extractStridedSlice S4x2174x512 ![0, 0, 0] x slices_S4x2176x512_S4x2174x512_0_0_0)⟩] concatenates_S4x2x512_S4x2174x512_S4x2176x512_d1)
      = fun n t q => later 2 (fun t => box x n t q) t := by
  funext n t q
  unfold box
  pointwise [later]
  by_cases h : 2 ≤ t.val
  · rw [dif_pos h, dif_neg (by omega)]
  · rw [dif_neg h, dif_pos (by omega)]

/-- Moved down a row. -/
theorem box_later1 (x : FVec Ideal S4x2176x512 .f32) :
    box (concatenate S4x2176x512 1 [⟨S4x1x512, (broadcastInDim S4x1x512 ![] bcast_S_S4x1x512 (constant S_ .f32 0x00000000#32))⟩, ⟨S4x2175x512, (extractStridedSlice S4x2175x512 ![0, 0, 0] x slices_S4x2176x512_S4x2175x512_0_0_0)⟩] concatenates_S4x1x512_S4x2175x512_S4x2176x512_d1)
      = fun n t q => later 1 (fun t => box x n t q) t := by
  funext n t q
  unfold box
  pointwise [later]
  by_cases h : 1 ≤ t.val
  · rw [dif_pos h, dif_neg (by omega)]
  · rw [dif_neg h, dif_pos (by omega)]

/-- A product. -/
theorem box_mul (x y : FVec Ideal S4x2176x512 .f32) : box (mulf x y) = fun n t q => box x n t q * box y n t q := rfl
/-- A sum. -/
theorem box_add (x y : FVec Ideal S4x2176x512 .f32) : box (addf x y) = fun n t q => box x n t q + box y n t q := rfl

/-- The first weight, at every row. -/
theorem box_w0 (w : FVec Ideal S3x512 .f32) :
    box (broadcastInDim S4x2176x512 ![0, 1, 2] bcast_S1x1x512_S4x2176x512_0_1_2 (broadcastInDim S1x1x512 ![2] bcast_S512_S1x1x512_2 (shapeCast S512 (extractStridedSlice S1x512 ![0, 0] w slices_S3x512_S1x512_0_0) shapeCasts_S1x512_S512)))
      = fun n t q => weights w 0 q := by
  funext n t q
  unfold box
  pointwise [weights]
/-- The second weight, at every row. -/
theorem box_w1 (w : FVec Ideal S3x512 .f32) :
    box (broadcastInDim S4x2176x512 ![0, 1, 2] bcast_S1x1x512_S4x2176x512_0_1_2 (broadcastInDim S1x1x512 ![2] bcast_S512_S1x1x512_2 (shapeCast S512 (extractStridedSlice S1x512 ![1, 0] w slices_S3x512_S1x512_1_0) shapeCasts_S1x512_S512)))
      = fun n t q => weights w 1 q := by
  funext n t q
  unfold box
  pointwise [weights]
/-- The third weight, at every row. -/
theorem box_w2 (w : FVec Ideal S3x512 .f32) :
    box (broadcastInDim S4x2176x512 ![0, 1, 2] bcast_S1x1x512_S4x2176x512_0_1_2 (broadcastInDim S1x1x512 ![2] bcast_S512_S1x1x512_2 (shapeCast S512 (extractStridedSlice S1x512 ![2, 0] w slices_S3x512_S1x512_2_0) shapeCasts_S1x512_S512)))
      = fun n t q => weights w 2 q := by
  funext n t q
  unfold box
  pointwise [weights]
/-- The gain, at every row. -/
theorem box_gain (g : FVec Ideal S1x512 .f32) :
    box (broadcastInDim S4x2176x512 ![0, 1, 2] bcast_S1x1x512_S4x2176x512_0_1_2 (broadcastInDim S1x1x512 ![1, 2] bcast_S1x512_S1x1x512_1_2 g))
      = fun n t q => gains g q := by
  funext n t q
  unfold box
  pointwise [gains]

/-- An array by sequence, row, head and place in the head. -/
def heads (x : FVec Ideal S4x2176x8x64 .f32) (n : Fin 4) (t : Fin 2176) (h : Fin 8) (k : Fin 64) : EReal := x (ix4 n t h k)

/-- The head of a channel. -/
def headOf (q : Fin 512) : Fin 8 := ⟨q.val / 64, by omega⟩

/-- Channels read as heads. -/
theorem heads_box (x : FVec Ideal S4x2176x512 .f32) :
    heads (shapeCast S4x2176x8x64 x shapeCasts_S4x2176x512_S4x2176x8x64)
      = fun n t h k => box x n t ⟨h.val * 64 + k.val, by omega⟩ := by
  funext n t h k
  unfold heads box
  pointwise []

/-- Heads read as channels. -/
theorem box_heads (x : FVec Ideal S4x2176x8x64 .f32) :
    box (shapeCast S4x2176x512 x shapeCasts_S4x2176x8x64_S4x2176x512) = fun n t q => heads x n t (headOf q) (inHead q) := by
  funext n t q
  unfold heads box headOf inHead
  pointwise []

/-- The heads' mean squares. -/
theorem means (y : FVec Ideal S4x2176x8x64 .f32) :
    (addf (Host.divf (broadcastInDim S4x2176x8x1 ![0, 1, 2] bcast_S4x2176x8_S4x2176x8x1_0_1_2 (Host.reduceAdd (mulf y y) (constant S_ .f32 0x00000000#32) reducesTo_S4x2176x8x64_S4x2176x8_d3 h_S_)) (broadcastInDim S4x2176x8x1 ![] bcast_S_S4x2176x8x1 (constant S_ .f32 0x42800000#32))) (broadcastInDim S4x2176x8x1 ![] bcast_S_S4x2176x8x1 (constant S_ .f32 0x358637BD#32)) : FVec Ideal S4x2176x8x1 .f32)
      = fun j => hsq (heads y (j 0) (j 1) (j 2)) := by
  funext j
  idx_vars j
  unfold heads
  pointwise [hsq]

/-- The norm, head by head. -/
theorem heads_hat (y : FVec Ideal S4x2176x8x64 .f32) (n : Fin 4) (t : Fin 2176) (h : Fin 8) (k : Fin 64)
    (q : FVec Ideal S4x2176x8x1 .f32) (hq : q = fun j => hsq (heads y (j 0) (j 1) (j 2))) :
    heads (mulf y (broadcastInDim S4x2176x8x64 ![0, 1, 2, 3] bcast_S4x2176x8x1_S4x2176x8x64_0_1_2_3 (Host.rsqrt q))) n t h k
      = heads y n t h k * hroot (heads y n t h) := by
  subst hq
  rw [hroot]
  conv_lhs => unfold heads
  pointwise []
  rfl

/-- The convolution's input. -/
def uA (c h : FVec Ideal S8704x512 .bf16) : FVec Ideal S4x2176x512 .f32 := mulf (shapeCast _ (extf .f32 c bitsLt_bf16_f32) shapeCasts_S8704x512_S4x2176x512) (shapeCast _ (extf .f32 h bitsLt_bf16_f32) shapeCasts_S8704x512_S4x2176x512)
/-- The convolution. -/
def cA (u : FVec Ideal S4x2176x512 .f32) (w : FVec Ideal S3x512 .f32) : FVec Ideal S4x2176x512 .f32 :=
  addf (addf (mulf (broadcastInDim S4x2176x512 ![0, 1, 2] bcast_S1x1x512_S4x2176x512_0_1_2 (broadcastInDim S1x1x512 ![2] bcast_S512_S1x1x512_2 (shapeCast _ (extractStridedSlice S1x512 ![0, 0] w slices_S3x512_S1x512_0_0) shapeCasts_S1x512_S512))) (concatenate S4x2176x512 1 [⟨S4x2x512, (broadcastInDim S4x2x512 ![] bcast_S_S4x2x512 (constant S_ .f32 0x00000000#32))⟩, ⟨S4x2174x512, (extractStridedSlice S4x2174x512 ![0, 0, 0] u slices_S4x2176x512_S4x2174x512_0_0_0)⟩] concatenates_S4x2x512_S4x2174x512_S4x2176x512_d1)) (mulf (broadcastInDim S4x2176x512 ![0, 1, 2] bcast_S1x1x512_S4x2176x512_0_1_2 (broadcastInDim S1x1x512 ![2] bcast_S512_S1x1x512_2 (shapeCast _ (extractStridedSlice S1x512 ![1, 0] w slices_S3x512_S1x512_1_0) shapeCasts_S1x512_S512))) (concatenate S4x2176x512 1 [⟨S4x1x512, (broadcastInDim S4x1x512 ![] bcast_S_S4x1x512 (constant S_ .f32 0x00000000#32))⟩, ⟨S4x2175x512, (extractStridedSlice S4x2175x512 ![0, 0, 0] u slices_S4x2176x512_S4x2175x512_0_0_0)⟩] concatenates_S4x1x512_S4x2175x512_S4x2176x512_d1))) (mulf (broadcastInDim S4x2176x512 ![0, 1, 2] bcast_S1x1x512_S4x2176x512_0_1_2 (broadcastInDim S1x1x512 ![2] bcast_S512_S1x1x512_2 (shapeCast _ (extractStridedSlice S1x512 ![2, 0] w slices_S3x512_S1x512_2_0) shapeCasts_S1x512_S512))) u)
/-- What is normed, by heads. -/
def yA (b c h : FVec Ideal S8704x512 .bf16) (w : FVec Ideal S3x512 .f32) : FVec Ideal S4x2176x8x64 .f32 :=
  shapeCast _ (mulf (shapeCast _ (extf .f32 b bitsLt_bf16_f32) shapeCasts_S8704x512_S4x2176x512) (cA (uA c h) w)) shapeCasts_S4x2176x512_S4x2176x8x64
/-- The heads' mean squares. -/
def qA (y : FVec Ideal S4x2176x8x64 .f32) : FVec Ideal S4x2176x8x1 .f32 :=
  addf (Host.divf (broadcastInDim S4x2176x8x1 ![0, 1, 2] bcast_S4x2176x8_S4x2176x8x1_0_1_2 (Host.reduceAdd (mulf y y) (constant S_ .f32 0x00000000#32) reducesTo_S4x2176x8x64_S4x2176x8_d3 h_S_)) (broadcastInDim S4x2176x8x1 ![] bcast_S_S4x2176x8x1 (constant S_ .f32 0x42800000#32))) (broadcastInDim S4x2176x8x1 ![] bcast_S_S4x2176x8x1 (constant S_ .f32 0x358637BD#32))
/-- The result. -/
def rA (y : FVec Ideal S4x2176x8x64 .f32) (q : FVec Ideal S4x2176x8x1 .f32) (g : FVec Ideal S1x512 .f32) : FVec Ideal S8704x512 .bf16 :=
  truncf .bf16 (shapeCast _ (mulf (shapeCast _ (mulf y (broadcastInDim S4x2176x8x64 ![0, 1, 2, 3] bcast_S4x2176x8x1_S4x2176x8x64_0_1_2_3 (Host.rsqrt q))) shapeCasts_S4x2176x8x64_S4x2176x512) (broadcastInDim S4x2176x512 ![0, 1, 2] bcast_S1x1x512_S4x2176x512_0_1_2 (broadcastInDim S1x1x512 ![1, 2] bcast_S1x512_S1x1x512_1_2 g))) shapeCasts_S4x2176x512_S8704x512) bitsLt_bf16_f32

/-- The convolution's input, entry by entry. -/
theorem uA_eq (c h : FVec Ideal S8704x512 .bf16) : box (uA c h) = fun n t q => gated (cube c n) (cube h n) t q := by
  rw [uA, box_mul, box_rows, box_rows]
  rfl

/-- The convolution, entry by entry. -/
theorem cA_eq (c h : FVec Ideal S8704x512 .bf16) (w : FVec Ideal S3x512 .f32) :
    box (cA (uA c h) w) = fun n t q => conv (cube c n) (cube h n) (weights w 2) (weights w 1) (weights w 0) t q := by
  rw [cA, box_add, box_add, box_mul, box_mul, box_mul, box_w0, box_w1, box_w2, box_later1, box_later2, uA_eq]
  funext n t q
  show _ + _ + _ = _ + _ + _
  rw [add_comm (_ + _) (weights w 2 q * _), add_comm (weights w 0 q * _), add_assoc]

/-- What is normed, entry by entry. -/
theorem yA_eq (b c h : FVec Ideal S8704x512 .bf16) (w : FVec Ideal S3x512 .f32) : heads (yA b c h w)
    = fun n t p k => mixedAt (cube b) (cube c) (cube h) (weights w) n t ⟨p.val * 64 + k.val, by omega⟩ := by
  refine (heads_box _).trans ?_
  rw [box_mul, box_rows, cA_eq]
  rfl

/-- The result, entry by entry. -/
theorem rA_eq (b c h : FVec Ideal S8704x512 .bf16) (w : FVec Ideal S3x512 .f32) (g : FVec Ideal S1x512 .f32) (j : S8704x512.Idx) :
    rA (yA b c h w) (qA (yA b c h w)) g j
      = hatR (cube b) (cube c) (cube h) (weights w) ⟨(j 0).val / 2176, Nat.div_lt_of_lt_mul (j 0).isLt⟩
          ⟨(j 0).val % 2176, Nat.mod_lt _ (by norm_num)⟩ (j 1) * gains g (j 1) := by
  refine (rows_box _ j).trans ?_
  rw [box_mul, box_gain, box_heads]
  refine congrArg (· * _) ((heads_hat _ _ _ _ _ _ (means _)).trans ?_)
  rw [yA_eq]
  refine congrArg₂ (fun a b' => mixedAt (cube b) (cube c) (cube h) (weights w) _ _ a * b') ?_ rfl
  exact headLane_inHead _

/-- The reference's array, folded. -/
theorem res_eq (m : (ℓ : Loc nD τ sig) → Buf (Elt Ideal) ℓ) (c : Dev nD) (x0 x1 x2 : FVec Ideal S8704x512 .bf16) (x3 : FVec Ideal S3x512 .f32)
    (x4 : FVec Ideal S1x512 .f32) (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) :
    res_main_v49 m c = rA (yA x0 x1 x2 x3) (qA (yA x0 x1 x2 x3)) x4 := by
  subst h0 h1 h2 h3 h4
  unfold res_main_v49
  rfl

end Cert.ConvfwdReferenceIdeal.Hand

namespace Cert.ConvfwdClaim

open Cert.ConvMath Cert.ConvSpec Cert.Finite Idealize.ShloMosaic Idealize.ShloMosaic.TcCoe Idealize.SL.Sem
open Cert.ConvfwdIdeal (nD τ sig)
open Cert.ConvfwdIdeal.Hand (arg0 arg1 arg2 arg3 arg4 cube weights gains hat flat out6)

instance : Subsingleton Cert.Pre_convfwd_finite.S_.Idx := ⟨fun a b => funext fun k => k.elim0⟩

/-- On finite gates and weights the kernel's normed values are those head by head. -/
theorem hat_eq (m : (ℓ : Loc nD τ sig) → Buf (Elt Ideal) ℓ) (c : Dev nD) (hp : Pre_ConvfwdIdeal_convfwd_finite m) :
    hat m c = hatR (cube (arg0 m c)) (cube (arg1 m c)) (cube (arg2 m c)) (weights (arg3 m c)) := by
  have h := congrFun (hp c) (fun k => k.elim0)
  obtain ⟨h, h4⟩ := IntOp.andi_eq_one.mp h
  obtain ⟨h, h3⟩ := IntOp.andi_eq_one.mp h
  obtain ⟨h1, h2⟩ := IntOp.andi_eq_one.mp h
  have r0 : ∀ i, IsReal (arg0 m c i) := real_of_all _ _ _ _ _ _ h1
  have r1 : ∀ i, IsReal (arg1 m c i) := real_of_all _ _ _ _ _ _ h2
  have r2 : ∀ i, IsReal (arg2 m c i) := real_of_all _ _ _ _ _ _ h3
  have r3 : ∀ i, IsReal (arg3 m c i) := real_of_all _ _ _ _ _ _ h4
  exact hatK_eq (fun _ _ _ => r0 _) (fun _ _ _ => r1 _) (fun _ _ _ => r2 _) (fun _ _ => r3 _)

/-- The two programs end with the same result. -/
theorem algebraic : Cert.algebraic_ConvfwdIdeal_ConvfwdReferenceIdeal_pre_convfwd_finite := fun m ρ m' ρ' hp hag =>
  ⟨fun c => out6 m c,
    (θ_run _ _ _).mono (fun _ h c => ⟨(h c).1.trans (Cert.ConvfwdIdeal.Hand.out6_eq m c), (h c).2⟩)
      (Cert.ConvfwdIdeal.Value.run_blocks m ρ),
    (θ_run _ _ _).mono (fun _ h c => ⟨(h c).1.trans (by
        refine (Cert.ConvfwdReferenceIdeal.Hand.res_eq m' c (arg0 m c) (arg1 m c) (arg2 m c) (arg3 m c) (arg4 m c)
          (hag c).1 (hag c).2.1 (hag c).2.2.1 (hag c).2.2.2.1 (hag c).2.2.2.2).trans ?_
        funext j
        refine (Cert.ConvfwdReferenceIdeal.Hand.rA_eq _ _ _ _ _ j).trans ?_
        have e := congrArg (fun x => flat (fun n t q => x n t q * gains (arg4 m c) q) j) (hat_eq m c hp)
        exact e.symm), (h c).2⟩) (Cert.ConvfwdReferenceIdeal.Value.run m' ρ')⟩

end Cert.ConvfwdClaim
-- ==== Proof.AdamMath.lean ====
/-
  One entry of an optimiser's step: the gradient summed over its parts, the two moments, and the update.
-/
module

public import Idealize.ShloMosaic.PureOps.Ideal

@[expose] public section

noncomputable section

namespace Cert.AdamMath

open Idealize.ShloMosaic

/-- The sum of the eight parts. -/
def total (p : Fin 8 → EReal) : EReal := ∑ s, p s

/-- The first moment. -/
def mom (g m : EReal) : EReal := Ideal.ofBits .f32 0x3F666666#32 * m + Ideal.ofBits .f32 0x3DCCCCCD#32 * g

/-- The second moment. -/
def sqm (g v : EReal) : EReal := Ideal.ofBits .f32 0x3F7FBE77#32 * v + Ideal.ofBits .f32 0x3A83126F#32 * (g * g)

/-- The update. -/
def upd (g w m v : EReal) : EReal := Ideal.ofBits .f32 0xBA83126F#32 *
  (Ideal.div (Ideal.div (mom g m) (Ideal.ofBits .f32 0x3F26BD02#32))
    (Ideal.sqrt (Ideal.div (sqm g v) (Ideal.ofBits .f32 0x3C231ACC#32)) + Ideal.ofBits .f32 0x322BCC77#32)
    + Ideal.ofBits .f32 0x3C23D70A#32 * w)

/-- The parts added one after another. -/
theorem total_eq (p : Fin 8 → EReal) : p 0 + p 1 + p 2 + p 3 + p 4 + p 5 + p 6 + p 7 = total p :=
  (Fin.sum_univ_eight p).symm

end Cert.AdamMath
-- ==== Proof.Adamgu.lean ====
/-
  The optimiser's step of a shard of the gate and up weights.
-/
module

public import proofs.«01_k».proof.Defs
public import proofs.«01_k».proof.Proof.AdamMath
public import proofs.«01_k».proof.Proof.Gen.AdamguIdeal.Value
public import proofs.«01_k».proof.Proof.Gen.AdamguReferenceIdeal
public import proofs.«01_k».proof.Proof.Gen.AdamguReferenceIdeal.Run
public import Idealize.ShloMosaic.Lib.Pipeline.ValueKit
public import Idealize.ShloMosaic.Lib.Pointwise

@[expose] public section

set_option maxRecDepth 16384

noncomputable section

namespace Cert.AdamguIdeal.Hand

open Cert.AdamguIdeal Cert.AdamguIdeal.Gen Idealize.ShloMosaic Idealize.ShloMosaic.TcCoe Idealize.SL.Sem
open Idealize.ShloMosaic.Pipeline (Dat)
open Cert.AdamMath

/-- A block of the summed gradient, as the kernel adds it up. -/
theorem sum_at (x0 : Vec Ideal S8x352x1024 .bf16) (x1 x2 x3 : Vec Ideal S352x1024 .f32) (j : S352x1024.Idx) :
    k0_pay5 (F := Ideal) x0 x1 x2 x3 j = (total fun s => x0 (ix3 s (j 0) (j 1))) := by
  rw [← total_eq]
  idx_vars j
  pointwise [k0_pay5, k0_pay4]

/-- A block of the summed gradient. -/
theorem blk_grad (x0 : Vec Ideal S8x352x1024 .bf16) (x1 x2 x3 : Vec Ideal S352x1024 .f32) (j : S352x1024.Idx) :
    out0_4 (F := Ideal) x0 x1 x2 x3 j = (total fun s => x0 (ix3 s (j 0) (j 1))) := by
  rw [← sum_at x0 x1 x2 x3 j]
  unfold out0_4
  frame_out

/-- A block of the update. -/
theorem blk_delta (x0 : Vec Ideal S8x352x1024 .bf16) (x1 x2 x3 : Vec Ideal S352x1024 .f32) (j : S352x1024.Idx) :
    out0_5 (F := Ideal) x0 x1 x2 x3 j = upd (total fun s => x0 (ix3 s (j 0) (j 1))) (x1 j) (x2 j) (x3 j) := by
  rw [← sum_at x0 x1 x2 x3 j]
  unfold out0_5
  frame_out
  generalize k0_pay5 x0 x1 x2 x3 = g
  idx_vars j
  pointwise [k0_pay1, k0_pay2, k0_pay3, upd, mom, sqm]

/-- A block of the first moment. -/
theorem blk_mom1 (x0 : Vec Ideal S8x352x1024 .bf16) (x1 x2 x3 : Vec Ideal S352x1024 .f32) (j : S352x1024.Idx) :
    out0_6 (F := Ideal) x0 x1 x2 x3 j = mom (total fun s => x0 (ix3 s (j 0) (j 1))) (x2 j) := by
  rw [← sum_at x0 x1 x2 x3 j]
  unfold out0_6
  frame_out
  generalize k0_pay5 x0 x1 x2 x3 = g
  idx_vars j
  pointwise [k0_pay1, k0_pay2, k0_pay3, upd, mom, sqm]

/-- A block of the second moment. -/
theorem blk_mom2 (x0 : Vec Ideal S8x352x1024 .bf16) (x1 x2 x3 : Vec Ideal S352x1024 .f32) (j : S352x1024.Idx) :
    out0_7 (F := Ideal) x0 x1 x2 x3 j = sqm (total fun s => x0 (ix3 s (j 0) (j 1))) (x3 j) := by
  rw [← sum_at x0 x1 x2 x3 j]
  unfold out0_7
  frame_out
  generalize k0_pay5 x0 x1 x2 x3 = g
  idx_vars j
  pointwise [k0_pay1, k0_pay2, k0_pay3, upd, mom, sqm]

variable (m : (ℓ : Loc nD τ sig) → Buf (Elt Ideal) ℓ) (c : Dev nD)

/-- The gradient's parts. -/
abbrev arg0 : Vec Ideal S8x704x1024 .bf16 := m ((c.tc : Thread nD τ).loc main_arg0)
/-- The weights. -/
abbrev arg1 : Vec Ideal S704x1024 .f32 := m ((c.tc : Thread nD τ).loc main_arg1)
/-- The first moments. -/
abbrev arg2 : Vec Ideal S704x1024 .f32 := m ((c.tc : Thread nD τ).loc main_arg2)
/-- The second moments. -/
abbrev arg3 : Vec Ideal S704x1024 .f32 := m ((c.tc : Thread nD τ).loc main_arg3)

/-- Which blocks a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `r` of block `t` is row `352 t + r`. -/
def at_ (t : Fin cfg0.N) (r : Fin 352) : Fin 704 := ⟨352 * t.val + r.val, by
  have h := t.isLt
  have hN : cfg0.N = 2 := N_0
  omega⟩

/-- A block of the parts. -/
theorem parts_blk (t : Fin cfg0.N) (s : Fin 8) (r : Fin 352) (q : Fin 1024) :
    (iblk m c 0 t : Vec Ideal S8x352x1024 .bf16) (ix3 s r q) = arg0 m c (ix3 s (at_ t r) q) := by
  simp only [at_]
  blk_point [iblk, V, idx t]

/-- A block of the weights. -/
theorem blk1 (t : Fin cfg0.N) (r : Fin 352) (q : Fin 1024) :
    (iblk m c 1 t : Vec Ideal S352x1024 .f32) (ix2 r q) = arg1 m c (ix2 (at_ t r) q) := by
  simp only [at_]
  blk_point [iblk, V, idx t]

/-- A block of the first moments. -/
theorem blk2 (t : Fin cfg0.N) (r : Fin 352) (q : Fin 1024) :
    (iblk m c 2 t : Vec Ideal S352x1024 .f32) (ix2 r q) = arg2 m c (ix2 (at_ t r) q) := by
  simp only [at_]
  blk_point [iblk, V, idx t]

/-- A block of the second moments. -/
theorem blk3 (t : Fin cfg0.N) (r : Fin 352) (q : Fin 1024) :
    (iblk m c 3 t : Vec Ideal S352x1024 .f32) (ix2 r q) = arg3 m c (ix2 (at_ t r) q) := by
  simp only [at_]
  blk_point [iblk, V, idx t]

/-- The summed gradient. -/
def grad : S704x1024.Idx → EReal := fun j => total fun s => arg0 m c (ix3 s (j 0) (j 1))

/-- The update. -/
def delta : S704x1024.Idx → EReal := fun j => upd (grad m c j) (arg1 m c j) (arg2 m c j) (arg3 m c j)

/-- The first moment. -/
def mom1 : S704x1024.Idx → EReal := fun j => mom (grad m c j) (arg2 m c j)

/-- The second moment. -/
def mom2 : S704x1024.Idx → EReal := fun j => sqm (grad m c j) (arg3 m c j)

/-- The array of the summed gradient. -/
theorem grad_eq : (dats m 0 c).arrAt 4 cfg0.N = grad m c := by
  refine (dats m 0 c).arrAt_eq_of_covers 4 _ (by decide +kernel) fun t hf y => ?_
  blk_simp
  rw [after0_4]
  refine (blk_grad _ _ _ _ y).trans ?_
  refine Eq.trans ?_ (congrArg (grad m c) (?_ : (ix2 (at_ t (y 0)) (y 1) : S704x1024.Idx) = _))
  · idx_vars y
    simp only [grad, parts_blk, blk1, blk2, blk3]
    rfl
  · simp only [at_]
    blk_ext [idx t]

/-- The array of the update. -/
theorem delta_eq : (dats m 0 c).arrAt 5 cfg0.N = delta m c := by
  refine (dats m 0 c).arrAt_eq_of_covers 5 _ (by decide +kernel) fun t hf y => ?_
  blk_simp
  rw [after0_5]
  refine (blk_delta _ _ _ _ y).trans ?_
  refine Eq.trans ?_ (congrArg (delta m c) (?_ : (ix2 (at_ t (y 0)) (y 1) : S704x1024.Idx) = _))
  · idx_vars y
    simp only [delta, grad, parts_blk, blk1, blk2, blk3]
    rfl
  · simp only [at_]
    blk_ext [idx t]

/-- The array of the first moment. -/
theorem mom1_eq : (dats m 0 c).arrAt 6 cfg0.N = mom1 m c := by
  refine (dats m 0 c).arrAt_eq_of_covers 6 _ (by decide +kernel) fun t hf y => ?_
  blk_simp
  rw [after0_6]
  refine (blk_mom1 _ _ _ _ y).trans ?_
  refine Eq.trans ?_ (congrArg (mom1 m c) (?_ : (ix2 (at_ t (y 0)) (y 1) : S704x1024.Idx) = _))
  · idx_vars y
    simp only [mom1, grad, parts_blk, blk1, blk2, blk3]
    rfl
  · simp only [at_]
    blk_ext [idx t]

/-- The array of the second moment. -/
theorem mom2_eq : (dats m 0 c).arrAt 7 cfg0.N = mom2 m c := by
  refine (dats m 0 c).arrAt_eq_of_covers 7 _ (by decide +kernel) fun t hf y => ?_
  blk_simp
  rw [after0_7]
  refine (blk_mom2 _ _ _ _ y).trans ?_
  refine Eq.trans ?_ (congrArg (mom2 m c) (?_ : (ix2 (at_ t (y 0)) (y 1) : S704x1024.Idx) = _))
  · idx_vars y
    simp only [mom2, grad, parts_blk, blk1, blk2, blk3]
    rfl
  · simp only [at_]
    blk_ext [idx t]

end Cert.AdamguIdeal.Hand

namespace Cert.AdamguReferenceIdeal.Hand

open Cert.AdamMath
open Cert.AdamguReferenceIdeal Cert.AdamguReferenceIdeal.Gen Idealize.ShloMosaic Idealize.ShloMosaic.TcCoe Idealize.SL.Sem

/-- The parts summed, as the reference writes it. -/
theorem sums (a0 : FVec Ideal S8x704x1024 .bf16) :
    (Host.reduceAdd (extf .f32 a0 bitsLt_bf16_f32) (constant S_ .f32 0x00000000#32) reducesTo_S8x704x1024_S704x1024_d0 h_S_ : FVec Ideal S704x1024 .f32)
      = fun j => total fun s => a0 (ix3 s (j 0) (j 1)) := by
  funext j
  idx_vars j
  pointwise [total]

/-- The update, as the reference writes it. -/
theorem deltas (g w m v : FVec Ideal S704x1024 .f32) :
    (mulf (broadcastInDim S704x1024 ![] bcast_S_S704x1024 (constant S_ .f32 0xBA83126F#32)) (addf (Host.divf (Host.divf (addf (mulf (broadcastInDim S704x1024 ![] bcast_S_S704x1024 (constant S_ .f32 0x3F666666#32)) m) (mulf (broadcastInDim S704x1024 ![] bcast_S_S704x1024 (constant S_ .f32 0x3DCCCCCD#32)) g)) (broadcastInDim S704x1024 ![] bcast_S_S704x1024 (constant S_ .f32 0x3F26BD02#32))) (addf (Host.sqrt (Host.divf (addf (mulf (broadcastInDim S704x1024 ![] bcast_S_S704x1024 (constant S_ .f32 0x3F7FBE77#32)) v) (mulf (broadcastInDim S704x1024 ![] bcast_S_S704x1024 (constant S_ .f32 0x3A83126F#32)) (mulf g g))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) w)) : FVec Ideal S704x1024 .f32)
      = fun j => upd (g j) (w j) (m j) (v j) := by
  funext j
  idx_vars j
  pointwise [upd, mom, sqm]

/-- The first moment, as the reference writes it. -/
theorem mom1s (g w m v : FVec Ideal S704x1024 .f32) :
    (addf (mulf (broadcastInDim S704x1024 ![] bcast_S_S704x1024 (constant S_ .f32 0x3F666666#32)) m) (mulf (broadcastInDim S704x1024 ![] bcast_S_S704x1024 (constant S_ .f32 0x3DCCCCCD#32)) g) : FVec Ideal S704x1024 .f32)
      = fun j => mom (g j) (m j) := by
  funext j
  idx_vars j
  pointwise [upd, mom, sqm]

/-- The second moment, as the reference writes it. -/
theorem mom2s (g w m v : FVec Ideal S704x1024 .f32) :
    (addf (mulf (broadcastInDim S704x1024 ![] bcast_S_S704x1024 (constant S_ .f32 0x3F7FBE77#32)) v) (mulf (broadcastInDim S704x1024 ![] bcast_S_S704x1024 (constant S_ .f32 0x3A83126F#32)) (mulf g g)) : FVec Ideal S704x1024 .f32)
      = fun j => sqm (g j) (v j) := by
  funext j
  idx_vars j
  pointwise [upd, mom, sqm]

end Cert.AdamguReferenceIdeal.Hand

namespace Cert.AdamguClaim

open Idealize.ShloMosaic Idealize.ShloMosaic.TcCoe Idealize.SL.Sem

/-- The two programs end with the same four results. -/
theorem algebraic : Cert.algebraic_AdamguIdeal_AdamguReferenceIdeal := fun m ρ m' ρ' _ hag =>
  ⟨fun c => Cert.AdamguIdeal.Hand.grad m c, fun c => Cert.AdamguIdeal.Hand.delta m c, fun c => Cert.AdamguIdeal.Hand.mom1 m c,
    fun c => Cert.AdamguIdeal.Hand.mom2 m c,
    (θ_run _ _ _).mono (fun _ h c => ⟨(h c).1.trans (Cert.AdamguIdeal.Hand.grad_eq m c),
      (h c).2.1.trans (Cert.AdamguIdeal.Hand.delta_eq m c),
      (h c).2.2.1.trans (Cert.AdamguIdeal.Hand.mom1_eq m c),
      (h c).2.2.2.1.trans (Cert.AdamguIdeal.Hand.mom2_eq m c), (h c).2.2.2.2⟩) (Cert.AdamguIdeal.Value.run_blocks m ρ),
    (θ_run _ _ _).mono (fun _ h c => ⟨
      (h c).1.trans (by
        rw [(hag c).1, Cert.AdamguReferenceIdeal.Hand.sums]
        rfl),
      (h c).2.1.trans (by
        rw [(hag c).1, (hag c).2.1, (hag c).2.2.1, (hag c).2.2.2, Cert.AdamguReferenceIdeal.Hand.deltas, Cert.AdamguReferenceIdeal.Hand.sums]
        rfl),
      (h c).2.2.1.trans (by
        rw [(hag c).1, (hag c).2.2.1, Cert.AdamguReferenceIdeal.Hand.mom1s _ (Cert.AdamguIdeal.Hand.arg1 m c) _ (Cert.AdamguIdeal.Hand.arg3 m c), Cert.AdamguReferenceIdeal.Hand.sums]
        rfl),
      (h c).2.2.2.1.trans (by
        rw [(hag c).1, (hag c).2.2.2, Cert.AdamguReferenceIdeal.Hand.mom2s _ (Cert.AdamguIdeal.Hand.arg1 m c) (Cert.AdamguIdeal.Hand.arg2 m c), Cert.AdamguReferenceIdeal.Hand.sums]
        rfl), (h c).2.2.2.2⟩) (Cert.AdamguReferenceIdeal.Value.run m' ρ')⟩

end Cert.AdamguClaim
-- ==== Proof.Adamdown.lean ====
/-
  The optimiser's step of a shard of the down projection's weights.
-/
module

public import proofs.«01_k».proof.Defs
public import proofs.«01_k».proof.Proof.AdamMath
public import proofs.«01_k».proof.Proof.Gen.AdamdownIdeal.Value
public import proofs.«01_k».proof.Proof.Gen.AdamdownReferenceIdeal
public import proofs.«01_k».proof.Proof.Gen.AdamdownReferenceIdeal.Run
public import Idealize.ShloMosaic.Lib.Pipeline.ValueKit
public import Idealize.ShloMosaic.Lib.Pointwise

@[expose] public section

set_option maxRecDepth 16384

noncomputable section

namespace Cert.AdamdownIdeal.Hand

open Cert.AdamdownIdeal Cert.AdamdownIdeal.Gen Idealize.ShloMosaic Idealize.ShloMosaic.TcCoe Idealize.SL.Sem
open Idealize.ShloMosaic.Pipeline (Dat)
open Cert.AdamMath

/-- A block of the summed gradient, as the kernel adds it up. -/
theorem sum_at (x0 : Vec Ideal S8x176x1024 .bf16) (x1 x2 x3 : Vec Ideal S176x1024 .f32) (j : S176x1024.Idx) :
    k0_pay5 (F := Ideal) x0 x1 x2 x3 j = (total fun s => x0 (ix3 s (j 0) (j 1))) := by
  rw [← total_eq]
  idx_vars j
  pointwise [k0_pay5, k0_pay4]

/-- A block of the summed gradient. -/
theorem blk_grad (x0 : Vec Ideal S8x176x1024 .bf16) (x1 x2 x3 : Vec Ideal S176x1024 .f32) (j : S176x1024.Idx) :
    out0_4 (F := Ideal) x0 x1 x2 x3 j = (total fun s => x0 (ix3 s (j 0) (j 1))) := by
  rw [← sum_at x0 x1 x2 x3 j]
  unfold out0_4
  frame_out

/-- A block of the update. -/
theorem blk_delta (x0 : Vec Ideal S8x176x1024 .bf16) (x1 x2 x3 : Vec Ideal S176x1024 .f32) (j : S176x1024.Idx) :
    out0_5 (F := Ideal) x0 x1 x2 x3 j = upd (total fun s => x0 (ix3 s (j 0) (j 1))) (x1 j) (x2 j) (x3 j) := by
  rw [← sum_at x0 x1 x2 x3 j]
  unfold out0_5
  frame_out
  generalize k0_pay5 x0 x1 x2 x3 = g
  idx_vars j
  pointwise [k0_pay1, k0_pay2, k0_pay3, upd, mom, sqm]

/-- A block of the first moment. -/
theorem blk_mom1 (x0 : Vec Ideal S8x176x1024 .bf16) (x1 x2 x3 : Vec Ideal S176x1024 .f32) (j : S176x1024.Idx) :
    out0_6 (F := Ideal) x0 x1 x2 x3 j = mom (total fun s => x0 (ix3 s (j 0) (j 1))) (x2 j) := by
  rw [← sum_at x0 x1 x2 x3 j]
  unfold out0_6
  frame_out
  generalize k0_pay5 x0 x1 x2 x3 = g
  idx_vars j
  pointwise [k0_pay1, k0_pay2, k0_pay3, upd, mom, sqm]

/-- A block of the second moment. -/
theorem blk_mom2 (x0 : Vec Ideal S8x176x1024 .bf16) (x1 x2 x3 : Vec Ideal S176x1024 .f32) (j : S176x1024.Idx) :
    out0_7 (F := Ideal) x0 x1 x2 x3 j = sqm (total fun s => x0 (ix3 s (j 0) (j 1))) (x3 j) := by
  rw [← sum_at x0 x1 x2 x3 j]
  unfold out0_7
  frame_out
  generalize k0_pay5 x0 x1 x2 x3 = g
  idx_vars j
  pointwise [k0_pay1, k0_pay2, k0_pay3, upd, mom, sqm]

variable (m : (ℓ : Loc nD τ sig) → Buf (Elt Ideal) ℓ) (c : Dev nD)

/-- The gradient's parts. -/
abbrev arg0 : Vec Ideal S8x352x1024 .bf16 := m ((c.tc : Thread nD τ).loc main_arg0)
/-- The weights. -/
abbrev arg1 : Vec Ideal S352x1024 .f32 := m ((c.tc : Thread nD τ).loc main_arg1)
/-- The first moments. -/
abbrev arg2 : Vec Ideal S352x1024 .f32 := m ((c.tc : Thread nD τ).loc main_arg2)
/-- The second moments. -/
abbrev arg3 : Vec Ideal S352x1024 .f32 := m ((c.tc : Thread nD τ).loc main_arg3)

/-- Which blocks a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `r` of block `t` is row `176 t + r`. -/
def at_ (t : Fin cfg0.N) (r : Fin 176) : Fin 352 := ⟨176 * t.val + r.val, by
  have h := t.isLt
  have hN : cfg0.N = 2 := N_0
  omega⟩

/-- A block of the parts. -/
theorem parts_blk (t : Fin cfg0.N) (s : Fin 8) (r : Fin 176) (q : Fin 1024) :
    (iblk m c 0 t : Vec Ideal S8x176x1024 .bf16) (ix3 s r q) = arg0 m c (ix3 s (at_ t r) q) := by
  simp only [at_]
  blk_point [iblk, V, idx t]

/-- A block of the weights. -/
theorem blk1 (t : Fin cfg0.N) (r : Fin 176) (q : Fin 1024) :
    (iblk m c 1 t : Vec Ideal S176x1024 .f32) (ix2 r q) = arg1 m c (ix2 (at_ t r) q) := by
  simp only [at_]
  blk_point [iblk, V, idx t]

/-- A block of the first moments. -/
theorem blk2 (t : Fin cfg0.N) (r : Fin 176) (q : Fin 1024) :
    (iblk m c 2 t : Vec Ideal S176x1024 .f32) (ix2 r q) = arg2 m c (ix2 (at_ t r) q) := by
  simp only [at_]
  blk_point [iblk, V, idx t]

/-- A block of the second moments. -/
theorem blk3 (t : Fin cfg0.N) (r : Fin 176) (q : Fin 1024) :
    (iblk m c 3 t : Vec Ideal S176x1024 .f32) (ix2 r q) = arg3 m c (ix2 (at_ t r) q) := by
  simp only [at_]
  blk_point [iblk, V, idx t]

/-- The summed gradient. -/
def grad : S352x1024.Idx → EReal := fun j => total fun s => arg0 m c (ix3 s (j 0) (j 1))

/-- The update. -/
def delta : S352x1024.Idx → EReal := fun j => upd (grad m c j) (arg1 m c j) (arg2 m c j) (arg3 m c j)

/-- The first moment. -/
def mom1 : S352x1024.Idx → EReal := fun j => mom (grad m c j) (arg2 m c j)

/-- The second moment. -/
def mom2 : S352x1024.Idx → EReal := fun j => sqm (grad m c j) (arg3 m c j)

/-- The array of the summed gradient. -/
theorem grad_eq : (dats m 0 c).arrAt 4 cfg0.N = grad m c := by
  refine (dats m 0 c).arrAt_eq_of_covers 4 _ (by decide +kernel) fun t hf y => ?_
  blk_simp
  rw [after0_4]
  refine (blk_grad _ _ _ _ y).trans ?_
  refine Eq.trans ?_ (congrArg (grad m c) (?_ : (ix2 (at_ t (y 0)) (y 1) : S352x1024.Idx) = _))
  · idx_vars y
    simp only [grad, parts_blk, blk1, blk2, blk3]
    rfl
  · simp only [at_]
    blk_ext [idx t]

/-- The array of the update. -/
theorem delta_eq : (dats m 0 c).arrAt 5 cfg0.N = delta m c := by
  refine (dats m 0 c).arrAt_eq_of_covers 5 _ (by decide +kernel) fun t hf y => ?_
  blk_simp
  rw [after0_5]
  refine (blk_delta _ _ _ _ y).trans ?_
  refine Eq.trans ?_ (congrArg (delta m c) (?_ : (ix2 (at_ t (y 0)) (y 1) : S352x1024.Idx) = _))
  · idx_vars y
    simp only [delta, grad, parts_blk, blk1, blk2, blk3]
    rfl
  · simp only [at_]
    blk_ext [idx t]

/-- The array of the first moment. -/
theorem mom1_eq : (dats m 0 c).arrAt 6 cfg0.N = mom1 m c := by
  refine (dats m 0 c).arrAt_eq_of_covers 6 _ (by decide +kernel) fun t hf y => ?_
  blk_simp
  rw [after0_6]
  refine (blk_mom1 _ _ _ _ y).trans ?_
  refine Eq.trans ?_ (congrArg (mom1 m c) (?_ : (ix2 (at_ t (y 0)) (y 1) : S352x1024.Idx) = _))
  · idx_vars y
    simp only [mom1, grad, parts_blk, blk1, blk2, blk3]
    rfl
  · simp only [at_]
    blk_ext [idx t]

/-- The array of the second moment. -/
theorem mom2_eq : (dats m 0 c).arrAt 7 cfg0.N = mom2 m c := by
  refine (dats m 0 c).arrAt_eq_of_covers 7 _ (by decide +kernel) fun t hf y => ?_
  blk_simp
  rw [after0_7]
  refine (blk_mom2 _ _ _ _ y).trans ?_
  refine Eq.trans ?_ (congrArg (mom2 m c) (?_ : (ix2 (at_ t (y 0)) (y 1) : S352x1024.Idx) = _))
  · idx_vars y
    simp only [mom2, grad, parts_blk, blk1, blk2, blk3]
    rfl
  · simp only [at_]
    blk_ext [idx t]

end Cert.AdamdownIdeal.Hand

namespace Cert.AdamdownReferenceIdeal.Hand

open Cert.AdamMath
open Cert.AdamdownReferenceIdeal Cert.AdamdownReferenceIdeal.Gen Idealize.ShloMosaic Idealize.ShloMosaic.TcCoe Idealize.SL.Sem

/-- The parts summed, as the reference writes it. -/
theorem sums (a0 : FVec Ideal S8x352x1024 .bf16) :
    (Host.reduceAdd (extf .f32 a0 bitsLt_bf16_f32) (constant S_ .f32 0x00000000#32) reducesTo_S8x352x1024_S352x1024_d0 h_S_ : FVec Ideal S352x1024 .f32)
      = fun j => total fun s => a0 (ix3 s (j 0) (j 1)) := by
  funext j
  idx_vars j
  pointwise [total]

/-- The update, as the reference writes it. -/
theorem deltas (g w m v : FVec Ideal S352x1024 .f32) :
    (mulf (broadcastInDim S352x1024 ![] bcast_S_S352x1024 (constant S_ .f32 0xBA83126F#32)) (addf (Host.divf (Host.divf (addf (mulf (broadcastInDim S352x1024 ![] bcast_S_S352x1024 (constant S_ .f32 0x3F666666#32)) m) (mulf (broadcastInDim S352x1024 ![] bcast_S_S352x1024 (constant S_ .f32 0x3DCCCCCD#32)) g)) (broadcastInDim S352x1024 ![] bcast_S_S352x1024 (constant S_ .f32 0x3F26BD02#32))) (addf (Host.sqrt (Host.divf (addf (mulf (broadcastInDim S352x1024 ![] bcast_S_S352x1024 (constant S_ .f32 0x3F7FBE77#32)) v) (mulf (broadcastInDim S352x1024 ![] bcast_S_S352x1024 (constant S_ .f32 0x3A83126F#32)) (mulf g g))) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) w)) : FVec Ideal S352x1024 .f32)
      = fun j => upd (g j) (w j) (m j) (v j) := by
  funext j
  idx_vars j
  pointwise [upd, mom, sqm]

/-- The first moment, as the reference writes it. -/
theorem mom1s (g w m v : FVec Ideal S352x1024 .f32) :
    (addf (mulf (broadcastInDim S352x1024 ![] bcast_S_S352x1024 (constant S_ .f32 0x3F666666#32)) m) (mulf (broadcastInDim S352x1024 ![] bcast_S_S352x1024 (constant S_ .f32 0x3DCCCCCD#32)) g) : FVec Ideal S352x1024 .f32)
      = fun j => mom (g j) (m j) := by
  funext j
  idx_vars j
  pointwise [upd, mom, sqm]

/-- The second moment, as the reference writes it. -/
theorem mom2s (g w m v : FVec Ideal S352x1024 .f32) :
    (addf (mulf (broadcastInDim S352x1024 ![] bcast_S_S352x1024 (constant S_ .f32 0x3F7FBE77#32)) v) (mulf (broadcastInDim S352x1024 ![] bcast_S_S352x1024 (constant S_ .f32 0x3A83126F#32)) (mulf g g)) : FVec Ideal S352x1024 .f32)
      = fun j => sqm (g j) (v j) := by
  funext j
  idx_vars j
  pointwise [upd, mom, sqm]

end Cert.AdamdownReferenceIdeal.Hand

namespace Cert.AdamdownClaim

open Idealize.ShloMosaic Idealize.ShloMosaic.TcCoe Idealize.SL.Sem

/-- The two programs end with the same four results. -/
theorem algebraic : Cert.algebraic_AdamdownIdeal_AdamdownReferenceIdeal := fun m ρ m' ρ' _ hag =>
  ⟨fun c => Cert.AdamdownIdeal.Hand.grad m c, fun c => Cert.AdamdownIdeal.Hand.delta m c, fun c => Cert.AdamdownIdeal.Hand.mom1 m c,
    fun c => Cert.AdamdownIdeal.Hand.mom2 m c,
    (θ_run _ _ _).mono (fun _ h c => ⟨(h c).1.trans (Cert.AdamdownIdeal.Hand.grad_eq m c),
      (h c).2.1.trans (Cert.AdamdownIdeal.Hand.delta_eq m c),
      (h c).2.2.1.trans (Cert.AdamdownIdeal.Hand.mom1_eq m c),
      (h c).2.2.2.1.trans (Cert.AdamdownIdeal.Hand.mom2_eq m c), (h c).2.2.2.2⟩) (Cert.AdamdownIdeal.Value.run_blocks m ρ),
    (θ_run _ _ _).mono (fun _ h c => ⟨
      (h c).1.trans (by
        rw [(hag c).1, Cert.AdamdownReferenceIdeal.Hand.sums]
        rfl),
      (h c).2.1.trans (by
        rw [(hag c).1, (hag c).2.1, (hag c).2.2.1, (hag c).2.2.2, Cert.AdamdownReferenceIdeal.Hand.deltas, Cert.AdamdownReferenceIdeal.Hand.sums]
        rfl),
      (h c).2.2.1.trans (by
        rw [(hag c).1, (hag c).2.2.1, Cert.AdamdownReferenceIdeal.Hand.mom1s _ (Cert.AdamdownIdeal.Hand.arg1 m c) _ (Cert.AdamdownIdeal.Hand.arg3 m c), Cert.AdamdownReferenceIdeal.Hand.sums]
        rfl),
      (h c).2.2.2.1.trans (by
        rw [(hag c).1, (hag c).2.2.2, Cert.AdamdownReferenceIdeal.Hand.mom2s _ (Cert.AdamdownIdeal.Hand.arg1 m c) (Cert.AdamdownIdeal.Hand.arg2 m c), Cert.AdamdownReferenceIdeal.Hand.sums]
        rfl), (h c).2.2.2.2⟩) (Cert.AdamdownReferenceIdeal.Value.run m' ρ')⟩

end Cert.AdamdownClaim
-- ==== Proof.Adamin.lean ====
/-
  The optimiser's step of a shard of the input projection's weights.
-/
module

public import proofs.«01_k».proof.Defs
public import proofs.«01_k».proof.Proof.AdamMath
public import proofs.«01_k».proof.Proof.Gen.AdaminIdeal.Value
public import proofs.«01_k».proof.Proof.Gen.AdaminReferenceIdeal
public import proofs.«01_k».proof.Proof.Gen.AdaminReferenceIdeal.Run
public import Idealize.ShloMosaic.Lib.Pipeline.ValueKit
public import Idealize.ShloMosaic.Lib.Pointwise

@[expose] public section

set_option maxRecDepth 16384

noncomputable section

namespace Cert.AdaminIdeal.Hand

open Cert.AdaminIdeal Cert.AdaminIdeal.Gen Idealize.ShloMosaic Idealize.ShloMosaic.TcCoe Idealize.SL.Sem
open Idealize.ShloMosaic.Pipeline (Dat)
open Cert.AdamMath

/-- A block of the summed gradient, as the kernel adds it up. -/
theorem sum_at (x0 : Vec Ideal S8x385x1024 .bf16) (x1 x2 x3 : Vec Ideal S385x1024 .f32) (j : S385x1024.Idx) :
    k0_pay5 (F := Ideal) x0 x1 x2 x3 j = (total fun s => x0 (ix3 s (j 0) (j 1))) := by
  rw [← total_eq]
  idx_vars j
  pointwise [k0_pay5, k0_pay4]

/-- A block of the summed gradient. -/
theorem blk_grad (x0 : Vec Ideal S8x385x1024 .bf16) (x1 x2 x3 : Vec Ideal S385x1024 .f32) (j : S385x1024.Idx) :
    out0_4 (F := Ideal) x0 x1 x2 x3 j = (total fun s => x0 (ix3 s (j 0) (j 1))) := by
  rw [← sum_at x0 x1 x2 x3 j]
  unfold out0_4
  frame_out

/-- A block of the update. -/
theorem blk_delta (x0 : Vec Ideal S8x385x1024 .bf16) (x1 x2 x3 : Vec Ideal S385x1024 .f32) (j : S385x1024.Idx) :
    out0_5 (F := Ideal) x0 x1 x2 x3 j = upd (total fun s => x0 (ix3 s (j 0) (j 1))) (x1 j) (x2 j) (x3 j) := by
  rw [← sum_at x0 x1 x2 x3 j]
  unfold out0_5
  frame_out
  generalize k0_pay5 x0 x1 x2 x3 = g
  idx_vars j
  pointwise [k0_pay1, k0_pay2, k0_pay3, upd, mom, sqm]

/-- A block of the first moment. -/
theorem blk_mom1 (x0 : Vec Ideal S8x385x1024 .bf16) (x1 x2 x3 : Vec Ideal S385x1024 .f32) (j : S385x1024.Idx) :
    out0_6 (F := Ideal) x0 x1 x2 x3 j = mom (total fun s => x0 (ix3 s (j 0) (j 1))) (x2 j) := by
  rw [← sum_at x0 x1 x2 x3 j]
  unfold out0_6
  frame_out
  generalize k0_pay5 x0 x1 x2 x3 = g
  idx_vars j
  pointwise [k0_pay1, k0_pay2, k0_pay3, upd, mom, sqm]

/-- A block of the second moment. -/
theorem blk_mom2 (x0 : Vec Ideal S8x385x1024 .bf16) (x1 x2 x3 : Vec Ideal S385x1024 .f32) (j : S385x1024.Idx) :
    out0_7 (F := Ideal) x0 x1 x2 x3 j = sqm (total fun s => x0 (ix3 s (j 0) (j 1))) (x3 j) := by
  rw [← sum_at x0 x1 x2 x3 j]
  unfold out0_7
  frame_out
  generalize k0_pay5 x0 x1 x2 x3 = g
  idx_vars j
  pointwise [k0_pay1, k0_pay2, k0_pay3, upd, mom, sqm]

variable (m : (ℓ : Loc nD τ sig) → Buf (Elt Ideal) ℓ) (c : Dev nD)

/-- The gradient's parts. -/
abbrev arg0 : Vec Ideal S8x385x1024 .bf16 := m ((c.tc : Thread nD τ).loc main_arg0)
/-- The weights. -/
abbrev arg1 : Vec Ideal S385x1024 .f32 := m ((c.tc : Thread nD τ).loc main_arg1)
/-- The first moments. -/
abbrev arg2 : Vec Ideal S385x1024 .f32 := m ((c.tc : Thread nD τ).loc main_arg2)
/-- The second moments. -/
abbrev arg3 : Vec Ideal S385x1024 .f32 := m ((c.tc : Thread nD τ).loc main_arg3)

/-- Which blocks a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `r` of block `t` is row `385 t + r`. -/
def at_ (t : Fin cfg0.N) (r : Fin 385) : Fin 385 := ⟨385 * t.val + r.val, by
  have h := t.isLt
  have hN : cfg0.N = 1 := N_0
  omega⟩

/-- A block of the parts. -/
theorem parts_blk (t : Fin cfg0.N) (s : Fin 8) (r : Fin 385) (q : Fin 1024) :
    (iblk m c 0 t : Vec Ideal S8x385x1024 .bf16) (ix3 s r q) = arg0 m c (ix3 s (at_ t r) q) := by
  simp only [at_]
  blk_point [iblk, V, idx t]

/-- A block of the weights. -/
theorem blk1 (t : Fin cfg0.N) (r : Fin 385) (q : Fin 1024) :
    (iblk m c 1 t : Vec Ideal S385x1024 .f32) (ix2 r q) = arg1 m c (ix2 (at_ t r) q) := by
  simp only [at_]
  blk_point [iblk, V, idx t]

/-- A block of the first moments. -/
theorem blk2 (t : Fin cfg0.N) (r : Fin 385) (q : Fin 1024) :
    (iblk m c 2 t : Vec Ideal S385x1024 .f32) (ix2 r q) = arg2 m c (ix2 (at_ t r) q) := by
  simp only [at_]
  blk_point [iblk, V, idx t]

/-- A block of the second moments. -/
theorem blk3 (t : Fin cfg0.N) (r : Fin 385) (q : Fin 1024) :
    (iblk m c 3 t : Vec Ideal S385x1024 .f32) (ix2 r q) = arg3 m c (ix2 (at_ t r) q) := by
  simp only [at_]
  blk_point [iblk, V, idx t]

/-- The summed gradient. -/
def grad : S385x1024.Idx → EReal := fun j => total fun s => arg0 m c (ix3 s (j 0) (j 1))

/-- The update. -/
def delta : S385x1024.Idx → EReal := fun j => upd (grad m c j) (arg1 m c j) (arg2 m c j) (arg3 m c j)

/-- The first moment. -/
def mom1 : S385x1024.Idx → EReal := fun j => mom (grad m c j) (arg2 m c j)

/-- The second moment. -/
def mom2 : S385x1024.Idx → EReal := fun j => sqm (grad m c j) (arg3 m c j)

/-- The array of the summed gradient. -/
theorem grad_eq : (dats m 0 c).arrAt 4 cfg0.N = grad m c := by
  refine (dats m 0 c).arrAt_eq_of_covers 4 _ (by decide +kernel) fun t hf y => ?_
  blk_simp
  rw [after0_4]
  refine (blk_grad _ _ _ _ y).trans ?_
  refine Eq.trans ?_ (congrArg (grad m c) (?_ : (ix2 (at_ t (y 0)) (y 1) : S385x1024.Idx) = _))
  · idx_vars y
    simp only [grad, parts_blk, blk1, blk2, blk3]
    rfl
  · simp only [at_]
    blk_ext [idx t]

/-- The array of the update. -/
theorem delta_eq : (dats m 0 c).arrAt 5 cfg0.N = delta m c := by
  refine (dats m 0 c).arrAt_eq_of_covers 5 _ (by decide +kernel) fun t hf y => ?_
  blk_simp
  rw [after0_5]
  refine (blk_delta _ _ _ _ y).trans ?_
  refine Eq.trans ?_ (congrArg (delta m c) (?_ : (ix2 (at_ t (y 0)) (y 1) : S385x1024.Idx) = _))
  · idx_vars y
    simp only [delta, grad, parts_blk, blk1, blk2, blk3]
    rfl
  · simp only [at_]
    blk_ext [idx t]

/-- The array of the first moment. -/
theorem mom1_eq : (dats m 0 c).arrAt 6 cfg0.N = mom1 m c := by
  refine (dats m 0 c).arrAt_eq_of_covers 6 _ (by decide +kernel) fun t hf y => ?_
  blk_simp
  rw [after0_6]
  refine (blk_mom1 _ _ _ _ y).trans ?_
  refine Eq.trans ?_ (congrArg (mom1 m c) (?_ : (ix2 (at_ t (y 0)) (y 1) : S385x1024.Idx) = _))
  · idx_vars y
    simp only [mom1, grad, parts_blk, blk1, blk2, blk3]
    rfl
  · simp only [at_]
    blk_ext [idx t]

/-- The array of the second moment. -/
theorem mom2_eq : (dats m 0 c).arrAt 7 cfg0.N = mom2 m c := by
  refine (dats m 0 c).arrAt_eq_of_covers 7 _ (by decide +kernel) fun t hf y => ?_
  blk_simp
  rw [after0_7]
  refine (blk_mom2 _ _ _ _ y).trans ?_
  refine Eq.trans ?_ (congrArg (mom2 m c) (?_ : (ix2 (at_ t (y 0)) (y 1) : S385x1024.Idx) = _))
  · idx_vars y
    simp only [mom2, grad, parts_blk, blk1, blk2, blk3]
    rfl
  · simp only [at_]
    blk_ext [idx t]

end Cert.AdaminIdeal.Hand

namespace Cert.AdaminReferenceIdeal.Hand

open Cert.AdamMath
open Cert.AdaminReferenceIdeal Cert.AdaminReferenceIdeal.Gen Idealize.ShloMosaic Idealize.ShloMosaic.TcCoe Idealize.SL.Sem

/-- The parts summed, as the reference writes it. -/
theorem sums (a0 : FVec Ideal S8x385x1024 .bf16) :
    (Host.reduceAdd (extf .f32 a0 bitsLt_bf16_f32) (constant S_ .f32 0x00000000#32) reducesTo_S8x385x1024_S385x1024_d0 h_S_ : FVec Ideal S385x1024 .f32)
      = fun j => total fun s => a0 (ix3 s (j 0) (j 1)) := by
  funext j
  idx_vars j
  pointwise [total]

/-- The update, as the reference writes it. -/
theorem deltas (g w m v : FVec Ideal S385x1024 .f32) :
    (mulf (broadcastInDim S385x1024 ![] bcast_S_S385x1024 (constant S_ .f32 0xBA83126F#32)) (addf (Host.divf (Host.divf (addf (mulf (broadcastInDim S385x1024 ![] bcast_S_S385x1024 (constant S_ .f32 0x3F666666#32)) m) (mulf (broadcastInDim S385x1024 ![] bcast_S_S385x1024 (constant S_ .f32 0x3DCCCCCD#32)) g)) (broadcastInDim S385x1024 ![] bcast_S_S385x1024 (constant S_ .f32 0x3F26BD02#32))) (addf (Host.sqrt (Host.divf (addf (mulf (broadcastInDim S385x1024 ![] bcast_S_S385x1024 (constant S_ .f32 0x3F7FBE77#32)) v) (mulf (broadcastInDim S385x1024 ![] bcast_S_S385x1024 (constant S_ .f32 0x3A83126F#32)) (mulf g g))) (broadcastInDim S385x1024 ![] bcast_S_S385x1024 (constant S_ .f32 0x3C231ACC#32)))) (broadcastInDim S385x1024 ![] bcast_S_S385x1024 (constant S_ .f32 0x322BCC77#32)))) (mulf (broadcastInDim S385x1024 ![] bcast_S_S385x1024 (constant S_ .f32 0x3C23D70A#32)) w)) : FVec Ideal S385x1024 .f32)
      = fun j => upd (g j) (w j) (m j) (v j) := by
  funext j
  idx_vars j
  pointwise [upd, mom, sqm]

/-- The first moment, as the reference writes it. -/
theorem mom1s (g w m v : FVec Ideal S385x1024 .f32) :
    (addf (mulf (broadcastInDim S385x1024 ![] bcast_S_S385x1024 (constant S_ .f32 0x3F666666#32)) m) (mulf (broadcastInDim S385x1024 ![] bcast_S_S385x1024 (constant S_ .f32 0x3DCCCCCD#32)) g) : FVec Ideal S385x1024 .f32)
      = fun j => mom (g j) (m j) := by
  funext j
  idx_vars j
  pointwise [upd, mom, sqm]

/-- The second moment, as the reference writes it. -/
theorem mom2s (g w m v : FVec Ideal S385x1024 .f32) :
    (addf (mulf (broadcastInDim S385x1024 ![] bcast_S_S385x1024 (constant S_ .f32 0x3F7FBE77#32)) v) (mulf (broadcastInDim S385x1024 ![] bcast_S_S385x1024 (constant S_ .f32 0x3A83126F#32)) (mulf g g)) : FVec Ideal S385x1024 .f32)
      = fun j => sqm (g j) (v j) := by
  funext j
  idx_vars j
  pointwise [upd, mom, sqm]

end Cert.AdaminReferenceIdeal.Hand

namespace Cert.AdaminClaim

open Idealize.ShloMosaic Idealize.ShloMosaic.TcCoe Idealize.SL.Sem

/-- The two programs end with the same four results. -/
theorem algebraic : Cert.algebraic_AdaminIdeal_AdaminReferenceIdeal := fun m ρ m' ρ' _ hag =>
  ⟨fun c => Cert.AdaminIdeal.Hand.grad m c, fun c => Cert.AdaminIdeal.Hand.delta m c, fun c => Cert.AdaminIdeal.Hand.mom1 m c,
    fun c => Cert.AdaminIdeal.Hand.mom2 m c,
    (θ_run _ _ _).mono (fun _ h c => ⟨(h c).1.trans (Cert.AdaminIdeal.Hand.grad_eq m c),
      (h c).2.1.trans (Cert.AdaminIdeal.Hand.delta_eq m c),
      (h c).2.2.1.trans (Cert.AdaminIdeal.Hand.mom1_eq m c),
      (h c).2.2.2.1.trans (Cert.AdaminIdeal.Hand.mom2_eq m c), (h c).2.2.2.2⟩) (Cert.AdaminIdeal.Value.run_blocks m ρ),
    (θ_run _ _ _).mono (fun _ h c => ⟨
      (h c).1.trans (by
        rw [(hag c).1, Cert.AdaminReferenceIdeal.Hand.sums]
        rfl),
      (h c).2.1.trans (by
        rw [(hag c).1, (hag c).2.1, (hag c).2.2.1, (hag c).2.2.2, Cert.AdaminReferenceIdeal.Hand.deltas, Cert.AdaminReferenceIdeal.Hand.sums]
        rfl),
      (h c).2.2.1.trans (by
        rw [(hag c).1, (hag c).2.2.1, Cert.AdaminReferenceIdeal.Hand.mom1s _ (Cert.AdaminIdeal.Hand.arg1 m c) _ (Cert.AdaminIdeal.Hand.arg3 m c), Cert.AdaminReferenceIdeal.Hand.sums]
        rfl),
      (h c).2.2.2.1.trans (by
        rw [(hag c).1, (hag c).2.2.2, Cert.AdaminReferenceIdeal.Hand.mom2s _ (Cert.AdaminIdeal.Hand.arg1 m c) (Cert.AdaminIdeal.Hand.arg2 m c), Cert.AdaminReferenceIdeal.Hand.sums]
        rfl), (h c).2.2.2.2⟩) (Cert.AdaminReferenceIdeal.Value.run m' ρ')⟩

end Cert.AdaminClaim
-- ==== Proof.Adamout.lean ====
/-
  The optimiser's step of a shard of the output projection's weights.
-/
module

public import proofs.«01_k».proof.Defs
public import proofs.«01_k».proof.Proof.AdamMath
public import proofs.«01_k».proof.Proof.Gen.AdamoutIdeal.Value
public import proofs.«01_k».proof.Proof.Gen.AdamoutReferenceIdeal
public import proofs.«01_k».proof.Proof.Gen.AdamoutReferenceIdeal.Run
public import Idealize.ShloMosaic.Lib.Pipeline.ValueKit
public import Idealize.ShloMosaic.Lib.Pointwise

@[expose] public section

set_option maxRecDepth 16384

noncomputable section

namespace Cert.AdamoutIdeal.Hand

open Cert.AdamoutIdeal Cert.AdamoutIdeal.Gen Idealize.ShloMosaic Idealize.ShloMosaic.TcCoe Idealize.SL.Sem
open Idealize.ShloMosaic.Pipeline (Dat)
open Cert.AdamMath

/-- A block of the summed gradient, as the kernel adds it up. -/
theorem sum_at (x0 : Vec Ideal S8x64x1024 .bf16) (x1 x2 x3 : Vec Ideal S64x1024 .f32) (j : S64x1024.Idx) :
    k0_pay5 (F := Ideal) x0 x1 x2 x3 j = (total fun s => x0 (ix3 s (j 0) (j 1))) := by
  rw [← total_eq]
  idx_vars j
  pointwise [k0_pay5, k0_pay4]

/-- A block of the summed gradient. -/
theorem blk_grad (x0 : Vec Ideal S8x64x1024 .bf16) (x1 x2 x3 : Vec Ideal S64x1024 .f32) (j : S64x1024.Idx) :
    out0_4 (F := Ideal) x0 x1 x2 x3 j = (total fun s => x0 (ix3 s (j 0) (j 1))) := by
  rw [← sum_at x0 x1 x2 x3 j]
  unfold out0_4
  frame_out

/-- A block of the update. -/
theorem blk_delta (x0 : Vec Ideal S8x64x1024 .bf16) (x1 x2 x3 : Vec Ideal S64x1024 .f32) (j : S64x1024.Idx) :
    out0_5 (F := Ideal) x0 x1 x2 x3 j = upd (total fun s => x0 (ix3 s (j 0) (j 1))) (x1 j) (x2 j) (x3 j) := by
  rw [← sum_at x0 x1 x2 x3 j]
  unfold out0_5
  frame_out
  generalize k0_pay5 x0 x1 x2 x3 = g
  idx_vars j
  pointwise [k0_pay1, k0_pay2, k0_pay3, upd, mom, sqm]

/-- A block of the first moment. -/
theorem blk_mom1 (x0 : Vec Ideal S8x64x1024 .bf16) (x1 x2 x3 : Vec Ideal S64x1024 .f32) (j : S64x1024.Idx) :
    out0_6 (F := Ideal) x0 x1 x2 x3 j = mom (total fun s => x0 (ix3 s (j 0) (j 1))) (x2 j) := by
  rw [← sum_at x0 x1 x2 x3 j]
  unfold out0_6
  frame_out
  generalize k0_pay5 x0 x1 x2 x3 = g
  idx_vars j
  pointwise [k0_pay1, k0_pay2, k0_pay3, upd, mom, sqm]

/-- A block of the second moment. -/
theorem blk_mom2 (x0 : Vec Ideal S8x64x1024 .bf16) (x1 x2 x3 : Vec Ideal S64x1024 .f32) (j : S64x1024.Idx) :
    out0_7 (F := Ideal) x0 x1 x2 x3 j = sqm (total fun s => x0 (ix3 s (j 0) (j 1))) (x3 j) := by
  rw [← sum_at x0 x1 x2 x3 j]
  unfold out0_7
  frame_out
  generalize k0_pay5 x0 x1 x2 x3 = g
  idx_vars j
  pointwise [k0_pay1, k0_pay2, k0_pay3, upd, mom, sqm]

variable (m : (ℓ : Loc nD τ sig) → Buf (Elt Ideal) ℓ) (c : Dev nD)

/-- The gradient's parts. -/
abbrev arg0 : Vec Ideal S8x128x1024 .bf16 := m ((c.tc : Thread nD τ).loc main_arg0)
/-- The weights. -/
abbrev arg1 : Vec Ideal S128x1024 .f32 := m ((c.tc : Thread nD τ).loc main_arg1)
/-- The first moments. -/
abbrev arg2 : Vec Ideal S128x1024 .f32 := m ((c.tc : Thread nD τ).loc main_arg2)
/-- The second moments. -/
abbrev arg3 : Vec Ideal S128x1024 .f32 := m ((c.tc : Thread nD τ).loc main_arg3)

/-- Which blocks a point reads and writes. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `r` of block `t` is row `64 t + r`. -/
def at_ (t : Fin cfg0.N) (r : Fin 64) : Fin 128 := ⟨64 * t.val + r.val, by
  have h := t.isLt
  have hN : cfg0.N = 2 := N_0
  omega⟩

/-- A block of the parts. -/
theorem parts_blk (t : Fin cfg0.N) (s : Fin 8) (r : Fin 64) (q : Fin 1024) :
    (iblk m c 0 t : Vec Ideal S8x64x1024 .bf16) (ix3 s r q) = arg0 m c (ix3 s (at_ t r) q) := by
  simp only [at_]
  blk_point [iblk, V, idx t]

/-- A block of the weights. -/
theorem blk1 (t : Fin cfg0.N) (r : Fin 64) (q : Fin 1024) :
    (iblk m c 1 t : Vec Ideal S64x1024 .f32) (ix2 r q) = arg1 m c (ix2 (at_ t r) q) := by
  simp only [at_]
  blk_point [iblk, V, idx t]

/-- A block of the first moments. -/
theorem blk2 (t : Fin cfg0.N) (r : Fin 64) (q : Fin 1024) :
    (iblk m c 2 t : Vec Ideal S64x1024 .f32) (ix2 r q) = arg2 m c (ix2 (at_ t r) q) := by
  simp only [at_]
  blk_point [iblk, V, idx t]

/-- A block of the second moments. -/
theorem blk3 (t : Fin cfg0.N) (r : Fin 64) (q : Fin 1024) :
    (iblk m c 3 t : Vec Ideal S64x1024 .f32) (ix2 r q) = arg3 m c (ix2 (at_ t r) q) := by
  simp only [at_]
  blk_point [iblk, V, idx t]

/-- The summed gradient. -/
def grad : S128x1024.Idx → EReal := fun j => total fun s => arg0 m c (ix3 s (j 0) (j 1))

/-- The update. -/
def delta : S128x1024.Idx → EReal := fun j => upd (grad m c j) (arg1 m c j) (arg2 m c j) (arg3 m c j)

/-- The first moment. -/
def mom1 : S128x1024.Idx → EReal := fun j => mom (grad m c j) (arg2 m c j)

/-- The second moment. -/
def mom2 : S128x1024.Idx → EReal := fun j => sqm (grad m c j) (arg3 m c j)

/-- The array of the summed gradient. -/
theorem grad_eq : (dats m 0 c).arrAt 4 cfg0.N = grad m c := by
  refine (dats m 0 c).arrAt_eq_of_covers 4 _ (by decide +kernel) fun t hf y => ?_
  blk_simp
  rw [after0_4]
  refine (blk_grad _ _ _ _ y).trans ?_
  refine Eq.trans ?_ (congrArg (grad m c) (?_ : (ix2 (at_ t (y 0)) (y 1) : S128x1024.Idx) = _))
  · idx_vars y
    simp only [grad, parts_blk, blk1, blk2, blk3]
    rfl
  · simp only [at_]
    blk_ext [idx t]

/-- The array of the update. -/
theorem delta_eq : (dats m 0 c).arrAt 5 cfg0.N = delta m c := by
  refine (dats m 0 c).arrAt_eq_of_covers 5 _ (by decide +kernel) fun t hf y => ?_
  blk_simp
  rw [after0_5]
  refine (blk_delta _ _ _ _ y).trans ?_
  refine Eq.trans ?_ (congrArg (delta m c) (?_ : (ix2 (at_ t (y 0)) (y 1) : S128x1024.Idx) = _))
  · idx_vars y
    simp only [delta, grad, parts_blk, blk1, blk2, blk3]
    rfl
  · simp only [at_]
    blk_ext [idx t]

/-- The array of the first moment. -/
theorem mom1_eq : (dats m 0 c).arrAt 6 cfg0.N = mom1 m c := by
  refine (dats m 0 c).arrAt_eq_of_covers 6 _ (by decide +kernel) fun t hf y => ?_
  blk_simp
  rw [after0_6]
  refine (blk_mom1 _ _ _ _ y).trans ?_
  refine Eq.trans ?_ (congrArg (mom1 m c) (?_ : (ix2 (at_ t (y 0)) (y 1) : S128x1024.Idx) = _))
  · idx_vars y
    simp only [mom1, grad, parts_blk, blk1, blk2, blk3]
    rfl
  · simp only [at_]
    blk_ext [idx t]

/-- The array of the second moment. -/
theorem mom2_eq : (dats m 0 c).arrAt 7 cfg0.N = mom2 m c := by
  refine (dats m 0 c).arrAt_eq_of_covers 7 _ (by decide +kernel) fun t hf y => ?_
  blk_simp
  rw [after0_7]
  refine (blk_mom2 _ _ _ _ y).trans ?_
  refine Eq.trans ?_ (congrArg (mom2 m c) (?_ : (ix2 (at_ t (y 0)) (y 1) : S128x1024.Idx) = _))
  · idx_vars y
    simp only [mom2, grad, parts_blk, blk1, blk2, blk3]
    rfl
  · simp only [at_]
    blk_ext [idx t]

end Cert.AdamoutIdeal.Hand

namespace Cert.AdamoutReferenceIdeal.Hand

open Cert.AdamMath
open Cert.AdamoutReferenceIdeal Cert.AdamoutReferenceIdeal.Gen Idealize.ShloMosaic Idealize.ShloMosaic.TcCoe Idealize.SL.Sem

/-- The parts summed, as the reference writes it. -/
theorem sums (a0 : FVec Ideal S8x128x1024 .bf16) :
    (Host.reduceAdd (extf .f32 a0 bitsLt_bf16_f32) (constant S_ .f32 0x00000000#32) reducesTo_S8x128x1024_S128x1024_d0 h_S_ : FVec Ideal S128x1024 .f32)
      = fun j => total fun s => a0 (ix3 s (j 0) (j 1)) := by
  funext j
  idx_vars j
  pointwise [total]

/-- The update, as the reference writes it. -/
theorem deltas (g w m v : FVec Ideal S128x1024 .f32) :
    (mulf (broadcastInDim S128x1024 ![] bcast_S_S128x1024 (constant S_ .f32 0xBA83126F#32)) (addf (Host.divf (Host.divf (addf (mulf (broadcastInDim S128x1024 ![] bcast_S_S128x1024 (constant S_ .f32 0x3F666666#32)) m) (mulf (broadcastInDim S128x1024 ![] bcast_S_S128x1024 (constant S_ .f32 0x3DCCCCCD#32)) g)) (broadcastInDim S128x1024 ![] bcast_S_S128x1024 (constant S_ .f32 0x3F26BD02#32))) (addf (Host.sqrt (Host.divf (addf (mulf (broadcastInDim S128x1024 ![] bcast_S_S128x1024 (constant S_ .f32 0x3F7FBE77#32)) v) (mulf (broadcastInDim S128x1024 ![] bcast_S_S128x1024 (constant S_ .f32 0x3A83126F#32)) (mulf g g))) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) w)) : FVec Ideal S128x1024 .f32)
      = fun j => upd (g j) (w j) (m j) (v j) := by
  funext j
  idx_vars j
  pointwise [upd, mom, sqm]

/-- The first moment, as the reference writes it. -/
theorem mom1s (g w m v : FVec Ideal S128x1024 .f32) :
    (addf (mulf (broadcastInDim S128x1024 ![] bcast_S_S128x1024 (constant S_ .f32 0x3F666666#32)) m) (mulf (broadcastInDim S128x1024 ![] bcast_S_S128x1024 (constant S_ .f32 0x3DCCCCCD#32)) g) : FVec Ideal S128x1024 .f32)
      = fun j => mom (g j) (m j) := by
  funext j
  idx_vars j
  pointwise [upd, mom, sqm]

/-- The second moment, as the reference writes it. -/
theorem mom2s (g w m v : FVec Ideal S128x1024 .f32) :
    (addf (mulf (broadcastInDim S128x1024 ![] bcast_S_S128x1024 (constant S_ .f32 0x3F7FBE77#32)) v) (mulf (broadcastInDim S128x1024 ![] bcast_S_S128x1024 (constant S_ .f32 0x3A83126F#32)) (mulf g g)) : FVec Ideal S128x1024 .f32)
      = fun j => sqm (g j) (v j) := by
  funext j
  idx_vars j
  pointwise [upd, mom, sqm]

end Cert.AdamoutReferenceIdeal.Hand

namespace Cert.AdamoutClaim

open Idealize.ShloMosaic Idealize.ShloMosaic.TcCoe Idealize.SL.Sem

/-- The two programs end with the same four results. -/
theorem algebraic : Cert.algebraic_AdamoutIdeal_AdamoutReferenceIdeal := fun m ρ m' ρ' _ hag =>
  ⟨fun c => Cert.AdamoutIdeal.Hand.grad m c, fun c => Cert.AdamoutIdeal.Hand.delta m c, fun c => Cert.AdamoutIdeal.Hand.mom1 m c,
    fun c => Cert.AdamoutIdeal.Hand.mom2 m c,
    (θ_run _ _ _).mono (fun _ h c => ⟨(h c).1.trans (Cert.AdamoutIdeal.Hand.grad_eq m c),
      (h c).2.1.trans (Cert.AdamoutIdeal.Hand.delta_eq m c),
      (h c).2.2.1.trans (Cert.AdamoutIdeal.Hand.mom1_eq m c),
      (h c).2.2.2.1.trans (Cert.AdamoutIdeal.Hand.mom2_eq m c), (h c).2.2.2.2⟩) (Cert.AdamoutIdeal.Value.run_blocks m ρ),
    (θ_run _ _ _).mono (fun _ h c => ⟨
      (h c).1.trans (by
        rw [(hag c).1, Cert.AdamoutReferenceIdeal.Hand.sums]
        rfl),
      (h c).2.1.trans (by
        rw [(hag c).1, (hag c).2.1, (hag c).2.2.1, (hag c).2.2.2, Cert.AdamoutReferenceIdeal.Hand.deltas, Cert.AdamoutReferenceIdeal.Hand.sums]
        rfl),
      (h c).2.2.1.trans (by
        rw [(hag c).1, (hag c).2.2.1, Cert.AdamoutReferenceIdeal.Hand.mom1s _ (Cert.AdamoutIdeal.Hand.arg1 m c) _ (Cert.AdamoutIdeal.Hand.arg3 m c), Cert.AdamoutReferenceIdeal.Hand.sums]
        rfl),
      (h c).2.2.2.1.trans (by
        rw [(hag c).1, (hag c).2.2.2, Cert.AdamoutReferenceIdeal.Hand.mom2s _ (Cert.AdamoutIdeal.Hand.arg1 m c) (Cert.AdamoutIdeal.Hand.arg2 m c), Cert.AdamoutReferenceIdeal.Hand.sums]
        rfl), (h c).2.2.2.2⟩) (Cert.AdamoutReferenceIdeal.Value.run m' ρ')⟩

end Cert.AdamoutClaim
-- ==== Proof.FirstBlock.lean ====
/-
  The gradient through the norm of the first feed-forward block, block of 512 rows by block.
-/
module

public import proofs.«01_k».proof.Proof.Gen.FirstIdeal.Value
public import proofs.«01_k».proof.Proof.NormMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FirstIdeal.Hand

open Cert.FirstIdeal Cert.FirstIdeal.Gen Idealize.ShloMosaic Idealize.ShloMosaic.TcCoe Idealize.SL.Sem
open Idealize.ShloMosaic.Pipeline (Dat)
open Cert.NormMath

/-- Whether group `k` of block `a` is one of leading zeros and meta rows, as the kernel tests it. -/
def tst (a k : BitVec 32) : BitVec 1 :=
  Scalar.cmpi .eq (Scalar.select (Scalar.andi (Scalar.xori (Scalar.cmpi .slt (Scalar.remsi (Scalar.addi (Scalar.muli 4#32 a) k) 17#32) 0#32) 0#1)
    (Scalar.cmpi .ne (Scalar.remsi (Scalar.addi (Scalar.muli 4#32 a) k) 17#32) 0#32))
    (Scalar.addi (Scalar.remsi (Scalar.addi (Scalar.muli 4#32 a) k) 17#32) 17#32)
    (Scalar.remsi (Scalar.addi (Scalar.muli 4#32 a) k) 17#32)) 0#32

/-- A group's rows: the leading ones or its tokens. -/
def seg (a k : BitVec 32) (x4 : Vec Ideal S16x1024 .f32) (x : Vec Ideal S128x1024 .f32) : FVec Ideal S128x1024 .f32 :=
  Scalar.select (tst a k) (k0_pay3 x4) x

/-- The four groups, one after the other. -/
def four (a : BitVec 32) (x0 x1 x2 x3 : Vec Ideal S128x1024 .f32) (x4 : Vec Ideal S16x1024 .f32) : FVec Ideal S512x1024 .f32 :=
  concatenate S512x1024 0 [⟨S128x1024, seg a 0#32 x4 x0⟩, ⟨S128x1024, seg a 1#32 x4 x1⟩, ⟨S128x1024, seg a 2#32 x4 x2⟩,
    ⟨S128x1024, seg a 3#32 x4 x3⟩] concatenates_S128x1024_S128x1024_S128x1024_S128x1024_S512x1024_d0

/-- Row `p` of the leading rows: zeros, then the meta rows. -/
def leadRow (x4 : Vec Ideal S16x1024 .f32) (p : Fin 128) (k : Fin 1024) : EReal :=
  if h : p.val < 112 then 0 else x4 (ix2 ⟨p.val - 112, by omega⟩ k)

/-- The leading rows. -/
theorem lead_at (x4 : Vec Ideal S16x1024 .f32) (p : Fin 128) (k : Fin 1024) :
    k0_pay3 (F := Ideal) x4 (ix2 p k) = leadRow x4 p k := by
  unfold leadRow
  by_cases h : p.val < 112 <;> pointwise [k0_pay3, h]

/-- A group's row. -/
def segRow (a k : BitVec 32) (x4 : Vec Ideal S16x1024 .f32) (x : Vec Ideal S128x1024 .f32) (p : Fin 128) (j : Fin 1024) : EReal :=
  if tst a k = 1 then leadRow x4 p j else x (ix2 p j)

/-- A group, row by row. -/
theorem seg_at (a k : BitVec 32) (x4 : Vec Ideal S16x1024 .f32) (x : Vec Ideal S128x1024 .f32) (p : Fin 128) (j : Fin 1024) :
    seg a k x4 x (ix2 p j) = segRow a k x4 x p j := by
  unfold seg segRow Scalar.select
  by_cases h : tst a k = 1
  · rw [if_pos h, if_pos h]
    exact lead_at x4 p j
  · rw [if_neg h, if_neg h]

/-- Row `r` of the four groups. -/
def fourRow (a : BitVec 32) (x0 x1 x2 x3 : Vec Ideal S128x1024 .f32) (x4 : Vec Ideal S16x1024 .f32) (r : Fin 512) (k : Fin 1024) : EReal :=
  if h0 : r.val < 128 then segRow a 0#32 x4 x0 ⟨r.val, h0⟩ k
  else if h1 : r.val < 256 then segRow a 1#32 x4 x1 ⟨r.val - 128, by omega⟩ k
  else if h2 : r.val < 384 then segRow a 2#32 x4 x2 ⟨r.val - 256, by omega⟩ k
  else segRow a 3#32 x4 x3 ⟨r.val - 384, by omega⟩ k

/-- Four arrays one after the other, row by row. -/
theorem cat_at (v0 v1 v2 v3 : FVec Ideal S128x1024 .f32) (r : Fin 512) (k : Fin 1024) :
    (concatenate S512x1024 0 [⟨S128x1024, v0⟩, ⟨S128x1024, v1⟩, ⟨S128x1024, v2⟩, ⟨S128x1024, v3⟩]
      concatenates_S128x1024_S128x1024_S128x1024_S128x1024_S512x1024_d0 : FVec Ideal S512x1024 .f32) (ix2 r k)
      = if h0 : r.val < 128 then v0 (ix2 ⟨r.val, h0⟩ k)
        else if h1 : r.val < 256 then v1 (ix2 ⟨r.val - 128, by omega⟩ k)
        else if h2 : r.val < 384 then v2 (ix2 ⟨r.val - 256, by omega⟩ k)
        else v3 (ix2 ⟨r.val - 384, by omega⟩ k) := by
  by_cases h0 : r.val < 128
  · rw [dif_pos h0]
    pointwise [h0]
  rw [dif_neg h0]
  by_cases h1 : r.val < 256
  · rw [dif_pos h1]
    have h1' : r.val - 128 < 128 := by omega
    pointwise [h0, h1']
  rw [dif_neg h1]
  have h1' : ¬r.val - 128 < 128 := by omega
  have e2 : r.val - 128 - 128 = r.val - 256 := by omega
  by_cases h2 : r.val < 384
  · rw [dif_pos h2]
    have h2' : r.val - 128 - 128 < 128 := by omega
    pointwise [h0, h1', h2']
    exact congrArg v2 (congrArg (ix2 · k) (Fin.ext e2))
  rw [dif_neg h2]
  have h2' : ¬r.val - 128 - 128 < 128 := by omega
  have e3 : r.val - 128 - 128 - 128 = r.val - 384 := by omega
  pointwise [h0, h1', h2']
  exact congrArg v3 (congrArg (ix2 · k) (Fin.ext e3))

/-- The four groups, row by row. -/
theorem four_at (a : BitVec 32) (x0 x1 x2 x3 : Vec Ideal S128x1024 .f32) (x4 : Vec Ideal S16x1024 .f32) (r : Fin 512) (k : Fin 1024) :
    four a x0 x1 x2 x3 x4 (ix2 r k) = fourRow a x0 x1 x2 x3 x4 r k := by
  refine (cat_at _ _ _ _ r k).trans ?_
  unfold fourRow
  simp only [seg_at]

section Payloads

variable (v6 v82 : Vec Ideal S512x1024 .f32) (v7 v97 : Vec Ideal S1x1024 .f32) (v10 v25 v40 v55 v69 : FVec Ideal S128x1024 .f32)
  (v59 v60 : BitVec 32) (v61 v64 : BitVec 1)

/-- The first result's payload, of the assembled rows. -/
theorem pay10_at (r : Fin 512) (j : Fin 1024) :
    k0_pay10 (F := Ideal) v6 v7 v10 v25 v40 v55 v59 v60 v61 v64 v69 v82 (ix2 r j)
      = rowOut (fun k => k0_pay7 (F := Ideal) v10 v25 v40 v55 v59 v60 v61 v64 v69 (ix2 r k)) (fun k => v82 (ix2 r k))
          (fun k => v7 (ix2 0 k)) (fun k => v6 (ix2 r k)) j := by
  pointwise [k0_pay8, k0_pay9, k0_pay10, rowOut, root, meanSq]

/-- The second result's. -/
theorem pay11_at (j : Fin 1024) :
    k0_pay11 (F := Ideal) v6 v10 v25 v40 v55 v59 v60 v61 v64 v69 v97 (ix2 0 j)
      = v97 (ix2 0 j) + ∑ r : Fin 512, v6 (ix2 r j) * (k0_pay7 (F := Ideal) v10 v25 v40 v55 v59 v60 v61 v64 v69 (ix2 r j)
          * root fun k => k0_pay7 (F := Ideal) v10 v25 v40 v55 v59 v60 v61 v64 v69 (ix2 r k)) := by
  pointwise [k0_pay8, k0_pay9, k0_pay11, root, meanSq]

/-- The same, of given rows. -/
theorem pay11_of (w u : Fin 512 → Fin 1024 → EReal) (z : EReal) (j : Fin 1024)
    (h7 : ∀ r k, k0_pay7 (F := Ideal) v10 v25 v40 v55 v59 v60 v61 v64 v69 (ix2 r k) = w r k)
    (h6 : ∀ r, v6 (ix2 r j) = u r j) (h97 : v97 (ix2 0 j) = z) :
    k0_pay11 (F := Ideal) v6 v10 v25 v40 v55 v59 v60 v61 v64 v69 v97 (ix2 0 j) = z + ∑ r : Fin 512, u r j * (w r j * root (w r)) := by
  rw [pay11_at, h97]
  refine congrArg (z + ·) (Finset.sum_congr rfl fun r _ => ?_)
  rw [h6, h7, show (fun k => k0_pay7 (F := Ideal) v10 v25 v40 v55 v59 v60 v61 v64 v69 (ix2 r k)) = w r from funext (h7 r)]

/-- What the first point starts the sum from. -/
theorem pay1_at (j : Fin 1024) : k0_pay1 (F := Ideal) (ix2 0 j) = 0 := by
  pointwise [k0_pay1]

/-- The gradient of the normed rows. -/
theorem pay2_at (x7 : Vec Ideal S512x5632 .bf16) (x8 : Vec Ideal S5632x1024 .bf16) (r : Fin 512) (j : Fin 1024) :
    k0_pay2 (F := Ideal) x7 x8 (ix2 r j) = back (fun k => x7 (ix2 r k)) (fun k j => x8 (ix2 k j)) j := by
  pointwise [k0_pay2, back]

end Payloads

section Body

variable (c : Dev nD) (i : grid0.Coords) (a1 : Memref sig .tc .vmem S128x1024 .f32) (h1 : a1.IsWhole)
  (a2 : Memref sig .tc .vmem S128x1024 .f32) (h2 : a2.IsWhole) (a3 : Memref sig .tc .vmem S128x1024 .f32) (h3 : a3.IsWhole)
  (a4 : Memref sig .tc .vmem S128x1024 .f32) (h4 : a4.IsWhole) (a5 : Memref sig .tc .vmem S16x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x5632 .bf16) (h8 : a8.IsWhole) (a9 : Memref sig .tc .vmem S5632x1024 .bf16) (h9 : a9.IsWhole)
  (a10 : Memref sig .tc .vmem S512x1024 .f32) (h10 : a10.IsWhole) (a11 : Memref sig .tc .vmem S1x1024 .f32) (h11 : a11.IsWhole)
  (x0 x1 x2 x3 : Vec Ideal S128x1024 .f32) (x4 : Vec Ideal S16x1024 .f32) (x5 : Vec Ideal S512x1024 .f32) (x6 : Vec Ideal S1x1024 .f32)
  (x7 : Vec Ideal S512x5632 .bf16) (x8 : Vec Ideal S5632x1024 .bf16) (xo : Vec Ideal S1x1024 .f32)

/-- A block's row `r` of the gradient of the normed rows. -/
abbrev dn (r : Fin 512) : Fin 1024 → EReal := back (fun k => x7 (ix2 r k)) fun k j => x8 (ix2 k j)

/-- A block's row `r` of the norm's argument. -/
abbrev row (a : BitVec 32) (r : Fin 512) : Fin 1024 → EReal := fourRow a x0 x1 x2 x3 x4 r

/-- What a block's row `j 0` of the result is, at the first point. -/
theorem out_A (hc0 : cond0_0 i) (j : S512x1024.Idx) :
    out0_A_9 (F := Ideal) c i a1 h1 a2 h2 a3 h3 a4 h4 a5 h5 a6 h6 a7 h7 a8 h8 a9 h9 a10 h10 a11 h11 hc0 x0 x1 x2 x3 x4 x5 x6 x7 x8 j
      = rowOut (row x0 x1 x2 x3 x4 (BitVec.ofNat 32 (i 0).val) (j 0)) (fun k => x5 (ix2 (j 0) k)) (fun k => x6 (ix2 0 k))
          (dn x7 x8 (j 0)) (j 1) := by
  frame_out
  idx_vars j
  refine (pay10_at _ _ _ _ _ _ _ _ _ _ _ _ j0 j1).trans ?_
  refine congrFun (congr (congr (congr (congrArg rowOut ?_) rfl) rfl) ?_) j1
  · funext k
    exact four_at (BitVec.ofNat 32 (i 0).val) x0 x1 x2 x3 x4 j0 k
  · funext k
    exact pay2_at x7 x8 j0 k

/-- The other points' blocks likewise. -/
theorem out_B (hc0 : ¬cond0_0 i) (j : S512x1024.Idx) :
    out0_B_9 (F := Ideal) c i a1 h1 a2 h2 a3 h3 a4 h4 a5 h5 a6 h6 a7 h7 a8 h8 a9 h9 a10 h10 a11 h11 hc0 x0 x1 x2 x3 x4 x5 x6 x7 x8 xo j
      = rowOut (row x0 x1 x2 x3 x4 (BitVec.ofNat 32 (i 0).val) (j 0)) (fun k => x5 (ix2 (j 0) k)) (fun k => x6 (ix2 0 k))
          (dn x7 x8 (j 0)) (j 1) := by
  frame_out
  idx_vars j
  refine (pay10_at _ _ _ _ _ _ _ _ _ _ _ _ j0 j1).trans ?_
  refine congrFun (congr (congr (congr (congrArg rowOut ?_) rfl) rfl) ?_) j1
  · funext k
    exact four_at (BitVec.ofNat 32 (i 0).val) x0 x1 x2 x3 x4 j0 k
  · funext k
    exact pay2_at x7 x8 j0 k

/-- The first block's part of the gain's gradient, over zero. -/
theorem gain_A (hc0 : cond0_0 i) (j : S1x1024.Idx) :
    out0_A_10 (F := Ideal) c i a1 h1 a2 h2 a3 h3 a4 h4 a5 h5 a6 h6 a7 h7 a8 h8 a9 h9 a10 h10 a11 h11 hc0 x0 x1 x2 x3 x4 x5 x6 x7 x8 j
      = 0 + ∑ r : Fin 512, dn x7 x8 r (j 1) * (row x0 x1 x2 x3 x4 (BitVec.ofNat 32 (i 0).val) r (j 1)
          * root (row x0 x1 x2 x3 x4 (BitVec.ofNat 32 (i 0).val) r)) := by
  frame_out
  idx_vars j
  obtain rfl : j0 = 0 := Subsingleton.elim _ _
  exact pay11_of _ _ _ _ _ _ _ _ _ _ _ (row x0 x1 x2 x3 x4 (BitVec.ofNat 32 (i 0).val)) (dn x7 x8) 0 j1
    (fun r k => four_at (BitVec.ofNat 32 (i 0).val) x0 x1 x2 x3 x4 r k) (fun r => pay2_at x7 x8 r j1) (pay1_at j1)

/-- Another block's part, over what the point before left. -/
theorem gain_B (hc0 : ¬cond0_0 i) (j : S1x1024.Idx) :
    out0_B_10 (F := Ideal) c i a1 h1 a2 h2 a3 h3 a4 h4 a5 h5 a6 h6 a7 h7 a8 h8 a9 h9 a10 h10 a11 h11 hc0 x0 x1 x2 x3 x4 x5 x6 x7 x8 xo j
      = xo j + ∑ r : Fin 512, dn x7 x8 r (j 1) * (row x0 x1 x2 x3 x4 (BitVec.ofNat 32 (i 0).val) r (j 1)
          * root (row x0 x1 x2 x3 x4 (BitVec.ofNat 32 (i 0).val) r)) := by
  frame_out
  idx_vars j
  obtain rfl : j0 = 0 := Subsingleton.elim _ _
  exact pay11_of _ _ _ _ _ _ _ _ _ _ _ (row x0 x1 x2 x3 x4 (BitVec.ofNat 32 (i 0).val)) (dn x7 x8) (xo (ix2 0 j1)) j1
    (fun r k => four_at (BitVec.ofNat 32 (i 0).val) x0 x1 x2 x3 x4 r k) (fun r => pay2_at x7 x8 r j1) rfl

end Body

end Cert.FirstIdeal.Hand
-- ==== Proof.FirstMath.lean ====
/-
  The rows the first block starts from: of each sequence 112 zero rows, the meta rows and the tokens.
-/
module

public import proofs.«01_k».proof.Proof.NormMath

@[expose] public section

set_option maxRecDepth 16384

noncomputable section

namespace Cert.FirstMath

/-- Row `r` of the assembled rows: a sequence has 2176, of which the first 112 are zero and the next 16 the meta rows. -/
def asm (x : Fin 8192 → Fin 1024 → EReal) (mt : Fin 16 → Fin 1024 → EReal) (r : Fin 8704) (k : Fin 1024) : EReal :=
  if h : r.val % 2176 < 112 then 0
  else if h' : r.val % 2176 < 128 then mt ⟨r.val % 2176 - 112, by omega⟩ k
  else x ⟨r.val / 2176 * 2048 + (r.val % 2176 - 128), by omega⟩ k

variable (x : Fin 8192 → Fin 1024 → EReal) (mt : Fin 16 → Fin 1024 → EReal) (r : Fin 8704) (k : Fin 1024)

/-- A zero row. -/
theorem asm_zero (h : r.val % 2176 < 112) : asm x mt r k = 0 := by
  rw [asm, dif_pos h]

/-- A meta row. -/
theorem asm_meta (q : Fin 16) (h : r.val % 2176 = 112 + q.val) : asm x mt r k = mt q k := by
  have hq := q.isLt
  rw [asm, dif_neg (by omega), dif_pos (by omega)]
  exact congrFun (congrArg mt (Fin.ext (by dsimp only; omega))) k

/-- A token's row. -/
theorem asm_tok (q : Fin 8192) (h : 128 ≤ r.val % 2176) (e : q.val = r.val / 2176 * 2048 + (r.val % 2176 - 128)) :
    asm x mt r k = x q k := by
  rw [asm, dif_neg (by omega), dif_neg (by omega)]
  exact congrFun (congrArg x (Fin.ext (by dsimp only; omega))) k

end Cert.FirstMath
-- ==== Proof.FirstValue.lean ====
/-
  What the kernel of the gradient through the first block's norm leaves in its two result arrays.
-/
module

public import proofs.«01_k».proof.Proof.FirstBlock
public import proofs.«01_k».proof.Proof.FirstMath

@[expose] public section

set_option maxRecDepth 16384

noncomputable section

namespace Cert.FirstIdeal.Hand

open Cert.FirstIdeal Cert.FirstIdeal.Gen Idealize.ShloMosaic Idealize.ShloMosaic.TcCoe Idealize.SL.Sem
open Idealize.ShloMosaic.Pipeline (Dat)
open Cert.NormMath Cert.FirstMath

variable (m : (ℓ : Loc nD τ sig) → Buf (Elt Ideal) ℓ) (c : Dev nD)

/-- The gradient that comes by the side. -/
abbrev arg0 : Vec Ideal S8704x1024 .f32 := m ((c.tc : Thread nD τ).loc main_arg0)
/-- The norm's gain. -/
abbrev arg1 : Vec Ideal S1x1024 .f32 := m ((c.tc : Thread nD τ).loc main_arg1)
/-- The hidden gradient. -/
abbrev arg2 : Vec Ideal S8704x5632 .bf16 := m ((c.tc : Thread nD τ).loc main_arg2)
/-- The weights. -/
abbrev arg3 : Vec Ideal S2x2816x1024 .bf16 := m ((c.tc : Thread nD τ).loc main_arg3)
/-- The tokens. -/
abbrev arg4 : Vec Ideal S8192x1024 .f32 := m ((c.tc : Thread nD τ).loc main_arg4)
/-- The meta rows. -/
abbrev arg5 : Vec Ideal S16x1024 .f32 := m ((c.tc : Thread nD τ).loc main_arg5)

/-- Row `r` of the norm's argument. -/
def hrow (r : Fin 8704) : Fin 1024 → EReal := asm (fun q k => arg4 m c (ix2 q k)) (fun q k => arg5 m c (ix2 q k)) r

/-- Row `r` of the gradient of the normed rows. -/
def drow (r : Fin 8704) : Fin 1024 → EReal :=
  back (fun k => arg2 m c (ix2 r k)) fun k j => shapeCast S5632x1024 (arg3 m c) shapeCasts_S2x2816x1024_S5632x1024 (ix2 k j)

/-- The first result. -/
def out : S8704x1024.Idx → EReal := fun j =>
  rowOut (hrow m c (j 0)) (fun k => arg0 m c (ix2 (j 0) k)) (fun k => arg1 m c (ix2 0 k)) (drow m c (j 0)) (j 1)

/-- The second result, the gain's gradient. -/
def gain : S1x1024.Idx → EReal := fun j =>
  ∑ r : Fin 8704, drow m c r (j 1) * (hrow m c r (j 1) * root (hrow m c r))

/-- Which blocks a point reads and writes. -/
theorem idx : ∀ t : Fin cfg0.N, win0_0.index t = ![(4 * t.val) / 17 * 16 + max ((4 * t.val) % 17) 1 - 1, 0]
    ∧ win0_1.index t = ![(4 * t.val + 1) / 17 * 16 + max ((4 * t.val + 1) % 17) 1 - 1, 0]
    ∧ win0_2.index t = ![(4 * t.val + 2) / 17 * 16 + max ((4 * t.val + 2) % 17) 1 - 1, 0]
    ∧ win0_3.index t = ![(4 * t.val + 3) / 17 * 16 + max ((4 * t.val + 3) % 17) 1 - 1, 0]
    ∧ win0_4.index t = ![0, 0] ∧ win0_5.index t = ![t.val, 0] ∧ win0_6.index t = ![0, 0] ∧ win0_7.index t = ![t.val, 0]
    ∧ win0_8.index t = ![0, 0] ∧ win0_9.index t = ![t.val, 0] ∧ win0_10.index t = ![0, 0] :=
  (by decide +kernel : ∀ t : Fin grid0.N, _)

/-- A point's test of its group `k`. -/
theorem bits : ∀ t : Fin cfg0.N, ∀ k : Fin 4, tst (BitVec.ofNat 32 (grid0.coords t 0).val) (BitVec.ofNat 32 k.val)
    = if (4 * t.val + k.val) % 17 = 0 then 1 else 0 :=
  (by decide +kernel : ∀ t : Fin grid0.N, _)

/-- There are seventeen points. -/
theorem tlt (t : Fin cfg0.N) : t.val < 17 := lt_of_lt_of_eq t.isLt N_0

/-- Row `r` of block `t` is row `512 t + r`. -/
def at_ (t : Fin cfg0.N) (r : Fin 512) : Fin 8704 := ⟨512 * t.val + r.val, by
  have h := tlt t
  omega⟩

/-- The meta rows' block. -/
theorem meta_blk (t : Fin cfg0.N) (q : Fin 16) (k : Fin 1024) :
    (iblk m c 4 t : Vec Ideal S16x1024 .f32) (ix2 q k) = arg5 m c (ix2 q k) := by
  blk_point [iblk, V, idx t]

/-- A group of a block, row by row, from its tokens. -/
theorem seg_blk (t : Fin cfg0.N) (g : Fin 4) (X : Vec Ideal S128x1024 .f32)
    (hX : ∀ (p : Fin 128) (k : Fin 1024), X (ix2 p k)
      = arg4 m c (ix2 ⟨((4 * t.val + g.val) / 17 * 16 + max ((4 * t.val + g.val) % 17) 1 - 1) * 128 + p.val, by have h := tlt t; omega⟩ k))
    (p : Fin 128) (j : Fin 1024) (r : Fin 8704) (e : r.val = 512 * t.val + 128 * g.val + p.val) :
    segRow (BitVec.ofNat 32 (grid0.coords t 0).val) (BitVec.ofNat 32 g.val) (iblk m c 4 t) X p j = hrow m c r j := by
  have h := tlt t
  have hp := p.isLt
  have hg := g.isLt
  have b : tst (BitVec.ofNat 32 (grid0.coords t 0).val) (BitVec.ofNat 32 g.val) = if (4 * t.val + g.val) % 17 = 0 then 1 else 0 := bits t g
  unfold segRow hrow
  by_cases hl : (4 * t.val + g.val) % 17 = 0
  · rw [b, if_pos hl, if_pos rfl]
    unfold leadRow
    by_cases hz : p.val < 112
    · rw [dif_pos hz]
      exact (asm_zero (fun q k => arg4 m c (ix2 q k)) (fun q k => arg5 m c (ix2 q k)) r j (by omega)).symm
    · rw [dif_neg hz]
      refine (meta_blk m c t _ j).trans (asm_meta (fun q k => arg4 m c (ix2 q k)) (fun q k => arg5 m c (ix2 q k)) r j ⟨p.val - 112, by omega⟩ ?_).symm
      dsimp only
      omega
  · rw [b, if_neg hl, if_neg (by decide)]
    refine (hX p j).trans (asm_tok (fun q k => arg4 m c (ix2 q k)) (fun q k => arg5 m c (ix2 q k)) r j ⟨((4 * t.val + g.val) / 17 * 16 + max ((4 * t.val + g.val) % 17) 1 - 1) * 128 + p.val, by omega⟩ ?_ ?_).symm
    · omega
    · dsimp only
      omega

/-- The tokens of group 0. -/
theorem tok_blk0 (t : Fin cfg0.N) (p : Fin 128) (k : Fin 1024) :
    (iblk m c 0 t : Vec Ideal S128x1024 .f32) (ix2 p k)
      = arg4 m c (ix2 ⟨((4 * t.val) / 17 * 16 + max ((4 * t.val) % 17) 1 - 1) * 128 + p.val, by have h := tlt t; omega⟩ k) := by
  have h := tlt t
  blk_point [iblk, V, idx t]

/-- The tokens of group 1. -/
theorem tok_blk1 (t : Fin cfg0.N) (p : Fin 128) (k : Fin 1024) :
    (iblk m c 1 t : Vec Ideal S128x1024 .f32) (ix2 p k)
      = arg4 m c (ix2 ⟨((4 * t.val + 1) / 17 * 16 + max ((4 * t.val + 1) % 17) 1 - 1) * 128 + p.val, by have h := tlt t; omega⟩ k) := by
  have h := tlt t
  blk_point [iblk, V, idx t]

/-- The tokens of group 2. -/
theorem tok_blk2 (t : Fin cfg0.N) (p : Fin 128) (k : Fin 1024) :
    (iblk m c 2 t : Vec Ideal S128x1024 .f32) (ix2 p k)
      = arg4 m c (ix2 ⟨((4 * t.val + 2) / 17 * 16 + max ((4 * t.val + 2) % 17) 1 - 1) * 128 + p.val, by have h := tlt t; omega⟩ k) := by
  have h := tlt t
  blk_point [iblk, V, idx t]

/-- The tokens of group 3. -/
theorem tok_blk3 (t : Fin cfg0.N) (p : Fin 128) (k : Fin 1024) :
    (iblk m c 3 t : Vec Ideal S128x1024 .f32) (ix2 p k)
      = arg4 m c (ix2 ⟨((4 * t.val + 3) / 17 * 16 + max ((4 * t.val + 3) % 17) 1 - 1) * 128 + p.val, by have h := tlt t; omega⟩ k) := by
  have h := tlt t
  blk_point [iblk, V, idx t]

/-- A block's row of the norm's argument. -/
theorem row_blk (t : Fin cfg0.N) (r : Fin 512) :
    row (iblk m c 0 t) (iblk m c 1 t) (iblk m c 2 t) (iblk m c 3 t) (iblk m c 4 t) (BitVec.ofNat 32 (grid0.coords t 0).val) r
      = hrow m c (at_ t r) := by
  have h := tlt t
  have hr := r.isLt
  funext j
  unfold row fourRow
  by_cases h0 : r.val < 128
  · rw [dif_pos h0]
    exact seg_blk m c t 0 _ (tok_blk0 m c t) _ j _ (by have e : (0 : Fin 4).val = 0 := rfl; simp only [at_]; omega)
  rw [dif_neg h0]
  by_cases h1 : r.val < 256
  · rw [dif_pos h1]
    exact seg_blk m c t 1 _ (tok_blk1 m c t) _ j _ (by have e : (1 : Fin 4).val = 1 := rfl; simp only [at_]; omega)
  rw [dif_neg h1]
  by_cases h2 : r.val < 384
  · rw [dif_pos h2]
    exact seg_blk m c t 2 _ (tok_blk2 m c t) _ j _ (by have e : (2 : Fin 4).val = 2 := rfl; simp only [at_]; omega)
  rw [dif_neg h2]
  exact seg_blk m c t 3 _ (tok_blk3 m c t) _ j _ (by have e : (3 : Fin 4).val = 3 := rfl; simp only [at_]; omega)

/-- A block's row of the gradient of the normed rows. -/
theorem dn_blk (t : Fin cfg0.N) (r : Fin 512) : dn (iblk m c 7 t) (iblk m c 8 t) r = drow m c (at_ t r) := by
  funext j
  simp only [dn, drow, back, at_]
  blk_point [iblk, V, idx t]

/-- A block's row of the gradient by the side. -/
theorem dh_blk (t : Fin cfg0.N) (r : Fin 512) :
    (fun k => (iblk m c 5 t : Vec Ideal S512x1024 .f32) (ix2 r k)) = fun k => arg0 m c (ix2 (at_ t r) k) := by
  funext k
  simp only [at_]
  blk_point [iblk, V, idx t]

/-- The gain's block is the gain. -/
theorem gain_blk (t : Fin cfg0.N) : (fun k => (iblk m c 6 t : Vec Ideal S1x1024 .f32) (ix2 0 k)) = fun k => arg1 m c (ix2 0 k) := by
  funext k
  blk_point [iblk, V, idx t]

/-- What a point leaves of the first result. -/
theorem out_at (t : Fin cfg0.N) (y : S512x1024.Idx) :
    (outsAt0 m c t.val t.isLt).1 y = out m c (ix2 (at_ t (y 0)) (y 1)) := by
  have e : (outsAt0 m c t.val t.isLt).1 y = rowOut (row (iblk m c 0 t) (iblk m c 1 t) (iblk m c 2 t) (iblk m c 3 t) (iblk m c 4 t)
      (BitVec.ofNat 32 (grid0.coords t 0).val) (y 0)) (fun k => (iblk m c 5 t : Vec Ideal S512x1024 .f32) (ix2 (y 0) k))
      (fun k => (iblk m c 6 t : Vec Ideal S1x1024 .f32) (ix2 0 k)) (dn (iblk m c 7 t) (iblk m c 8 t) (y 0)) (y 1) := by
    by_cases h0 : t.val % 17 = 0
    · rw [outsAt0_A m c t h0]
      dsimp only
      rw [out_A]
    · rw [outsAt0_B m c t h0]
      dsimp only
      rw [out_B]
  refine e.trans ?_
  exact congrFun (congr (congr (congr (congrArg rowOut (row_blk m c t (y 0))) (dh_blk m c t (y 0))) (gain_blk m c t)) (dn_blk m c t (y 0))) (y 1)

/-- The first array. -/
theorem out_eq : (dats m 0 c).arrAt 9 cfg0.N = out m c := by
  refine (dats m 0 c).arrAt_eq_of_covers 9 _ (by decide +kernel) fun t hf y => ?_
  blk_simp
  rw [after0_9]
  refine (out_at m c t y).trans (congrArg (out m c) ?_)
  simp only [at_]
  blk_ext [idx t]

/-- The block `t`'s part of the gain's gradient. -/
abbrev gpart (t : Fin cfg0.N) (j : S1x1024.Idx) : EReal :=
  ∑ r : Fin 512, dn (iblk m c 7 t) (iblk m c 8 t) r (j 1) * (row (iblk m c 0 t) (iblk m c 1 t) (iblk m c 2 t) (iblk m c 3 t) (iblk m c 4 t)
      (BitVec.ofNat 32 (grid0.coords t 0).val) r (j 1) * root (row (iblk m c 0 t) (iblk m c 1 t) (iblk m c 2 t) (iblk m c 3 t) (iblk m c 4 t)
      (BitVec.ofNat 32 (grid0.coords t 0).val) r))

/-- The first point leaves its block's part. -/
theorem gain_first (t : Fin cfg0.N) (h0 : t.val % 17 = 0) (j : S1x1024.Idx) :
    (outsAt0 m c t.val t.isLt).2 j = 0 + gpart m c t j := by
  rw [outsAt0_A m c t h0]
  dsimp only
  rw [gain_A]

/-- The others add theirs. -/
theorem gain_next (t : Fin cfg0.N) (h0 : ¬t.val % 17 = 0) (j : S1x1024.Idx) :
    (outsAt0 m c t.val t.isLt).2 j
      = (outsAt0 m c (t.val - 1) (Nat.lt_of_le_of_lt (Nat.sub_le _ _) t.isLt)).2 j + gpart m c t j := by
  rw [outsAt0_B m c t h0]
  dsimp only
  rw [gain_B]

/-- After the last point all parts are summed. -/
theorem gain_last (t : Fin cfg0.N) (ht : t.val + 1 = cfg0.N) (j : S1x1024.Idx) :
    (outsAt0 m c t.val t.isLt).2 j = gain m c j := by
  refine (Pipeline.eq_sum_fin_of_reset_step_apply_last (fun n h => (outsAt0 m c n h).2) 17 (fun _ => (0 : EReal))
    (gpart m c) (gain_first m c) (gain_next m c) (le_of_eq N_0) t ht j).trans ?_
  rw [zero_add]
  refine Fin.sum_mul_add_congr (fun t k hl => ?_) (by rw [show cfg0.N = 17 from N_0])
  rw [dn_blk, row_blk, show at_ t k = ⟨t.val * 512 + k.val, hl⟩ from Fin.ext (by simp only [at_]; omega)]

/-- The second array. -/
theorem gain_eq : (dats m 0 c).arrAt 10 cfg0.N = gain m c := by
  refine (dats m 0 c).arrAt_eq_of_covers 10 _ (by decide +kernel) fun t hf y => ?_
  blk_simp
  rw [after0_10]
  have h16 := (flush0_10 t).mp hf
  have hN : cfg0.N = 17 := N_0
  have hlt := t.isLt
  refine (gain_last m c t (by omega) y).trans (congrArg (gain m c) ?_)
  blk_ext [idx t]

end Cert.FirstIdeal.Hand
-- ==== Proof.FirstRef.lean ====
/-
  What the reference of the gradient through the first block's norm leaves.
-/
module

public import proofs.«01_k».proof.Proof.Gen.FirstReferenceIdeal
public import proofs.«01_k».proof.Proof.Gen.FirstReferenceIdeal.Run
public import proofs.«01_k».proof.Proof.FirstMath
public import Idealize.ShloMosaic.Lib.Pipeline.ValueKit
public import Idealize.ShloMosaic.Lib.Pointwise

@[expose] public section

set_option maxRecDepth 16384

noncomputable section

namespace Cert.FirstReferenceIdeal.Hand

open Cert.NormMath Cert.FirstMath Cert.FirstReferenceIdeal Cert.FirstReferenceIdeal.Gen Idealize.ShloMosaic Idealize.ShloMosaic.TcCoe Idealize.SL.Sem

variable (m : (ℓ : Loc nD τ sig) → Buf (Elt Ideal) ℓ) (c : Dev nD)

/-- The assembled rows. -/
def toksA (x : Vec Ideal S8192x1024 .f32) (mt : Vec Ideal S16x1024 .f32) : Vec Ideal S8704x1024 .f32 := fun j =>
  asm (fun q k => x (ix2 q k)) (fun q k => mt (ix2 q k)) (j 0) (j 1)

/-- They are what the reference assembles. -/
theorem toks (x : Vec Ideal S8192x1024 .f32) (mt : Vec Ideal S16x1024 .f32) :
    (shapeCast S8704x1024 (concatenate S4x2176x1024 1 [⟨S4x128x1024, (broadcastInDim S4x128x1024 ![1, 2] bcast_S128x1024_S4x128x1024_1_2
        (concatenate S128x1024 0 [⟨S112x1024, (broadcastInDim S112x1024 ![] bcast_S_S112x1024 (constant S_ .f32 0x00000000#32))⟩,
          ⟨S16x1024, mt⟩] concatenates_S112x1024_S16x1024_S128x1024_d0))⟩,
        ⟨S4x2048x1024, (shapeCast _ x shapeCasts_S8192x1024_S4x2048x1024)⟩] concatenates_S4x128x1024_S4x2048x1024_S4x2176x1024_d1)
        shapeCasts_S4x2176x1024_S8704x1024 : FVec Ideal S8704x1024 .f32) = toksA x mt := by
  funext j
  idx_vars j
  by_cases h : j0.val % 2176 < 112
  · have h' : j0.val % 2176 < 128 := by omega
    pointwise [toksA, asm, h, h']
  · by_cases h' : j0.val % 2176 < 128
    · pointwise [toksA, asm, h, h']
    · pointwise [toksA, asm, h, h']

/-- Row `r` of the norm's argument. -/
def hrow (r : Fin 8704) : Fin 1024 → EReal := fun k =>
  toksA (m ((c.tc : Thread nD τ).loc main_arg4)) (m ((c.tc : Thread nD τ).loc main_arg5)) (ix2 r k)

/-- Row `r` of the gradient of the normed rows. -/
def drow (r : Fin 8704) : Fin 1024 → EReal :=
  back (fun k => (m ((c.tc : Thread nD τ).loc main_arg2) : Vec Ideal S8704x5632 .bf16) (ix2 r k)) fun k j =>
    shapeCast S5632x1024 (m ((c.tc : Thread nD τ).loc main_arg3) : Vec Ideal S2x2816x1024 .bf16)
      shapeCasts_S2x2816x1024_S5632x1024 (ix2 k j)

/-- The rows' mean squares, as the reference writes them. -/
theorem means (x : Vec Ideal S8704x1024 .f32) :
    (addf (Host.divf (broadcastInDim S8704x1 ![0] bcast_S8704_S8704x1_0
        (Host.reduceAdd (mulf x x) (constant S_ .f32 0x00000000#32) reducesTo_S8704x1024_S8704_d1 h_S_))
        (broadcastInDim S8704x1 ![] bcast_S_S8704x1 (constant S_ .f32 0x44800000#32)))
        (broadcastInDim S8704x1 ![] bcast_S_S8704x1 (constant S_ .f32 0x358637BD#32)) : FVec Ideal S8704x1 .f32)
      = fun j => meanSq fun k => x (ix2 (j 0) k) := by
  funext j
  idx_vars j
  pointwise [meanSq]

/-- The gradient of the normed rows, as the reference writes it. -/
theorem backs (u : Vec Ideal S8704x5632 .bf16) (w : Vec Ideal S2x2816x1024 .bf16) :
    (Host.dotGeneral dot_S8704x5632_S1024x5632_S8704x1024_1_1_0_0_n_n none (extf .f32 u bitsLt_bf16_f32)
        (transpose S1024x5632 [1, 0] (shapeCast _ (extf .f32 w bitsLt_bf16_f32) shapeCasts_S2x2816x1024_S5632x1024)
          transposes_S5632x1024_S1024x5632_1_0) : FVec Ideal S8704x1024 .f32)
      = fun j => back (fun k => u (ix2 (j 0) k))
          (fun k (j : Fin 1024) => shapeCast S5632x1024 w shapeCasts_S2x2816x1024_S5632x1024 (ix2 k j)) (j 1) := by
  funext j
  idx_vars j
  pointwise [back]

/-- What the reference adds twice to a row, by the rows' mean squares `q`. -/
theorem pulls (h D : Vec Ideal S8704x1024 .f32) (g : Vec Ideal S1x1024 .f32) :
    (Host.reduceAdd (Host.divf (mulf (shapeCast _ (Host.reduceAdd (mulf h (mulf D (broadcastInDim S8704x1024 ![0, 1] bcast_S1x1024_S8704x1024_0_1 g))) (constant S_ .f32 0x00000000#32) reducesTo_S8704x1024_S8704_d1 h_S_) shapeCasts_S8704_S8704x1) (mulf (broadcastInDim S8704x1 ![] bcast_S_S8704x1 (constant S_ .f32 0xBF000000#32)) (Host.divf (Host.rsqrt (fun j => meanSq fun k => h (ix2 (j 0) k) : FVec Ideal S8704x1 .f32)) (fun j => meanSq fun k => h (ix2 (j 0) k) : FVec Ideal S8704x1 .f32)))) (broadcastInDim S8704x1 ![] bcast_S_S8704x1 (constant S_ .f32 0x44800000#32))) (constant S_ .f32 0x00000000#32) reducesTo_S8704x1_S8704_d1 h_S_ : FVec Ideal S8704 .f32)
      = fun j => pull (fun k => h (ix2 (j 0) k)) (fun k => g (ix2 0 k)) (fun k => D (ix2 (j 0) k)) := by
  funext j
  idx_vars j
  pointwise [pull, root]

/-- The first result's sum, of what is added twice. -/
theorem sums (dh h D : Vec Ideal S8704x1024 .f32) (g : Vec Ideal S1x1024 .f32) (p : FVec Ideal S8704 .f32)
    (q : FVec Ideal S8704x1 .f32) (r : Fin 8704) (j : Fin 1024) :
    (addf (addf (addf dh (mulf (mulf D (broadcastInDim S8704x1024 ![0, 1] bcast_S1x1024_S8704x1024_0_1 g)) (broadcastInDim S8704x1024 ![0, 1] bcast_S8704x1_S8704x1024_0_1 (Host.rsqrt q)))) (mulf h (broadcastInDim S8704x1024 ![0] bcast_S8704_S8704x1024_0 p))) (mulf (broadcastInDim S8704x1024 ![0] bcast_S8704_S8704x1024_0 p) h) : FVec Ideal S8704x1024 .f32) (ix2 r j)
      = dh (ix2 r j) + D (ix2 r j) * g (ix2 0 j) * Ideal.rsqrt (q (ix2 r 0)) + h (ix2 r j) * p (ix1 r)
        + p (ix1 r) * h (ix2 r j) := by
  pointwise []

/-- One row of the reference's result, of the assembled row's entry `z`. -/
def rowZ (h d g dn : Fin 1024 → EReal) (j : Fin 1024) (z : EReal) : EReal :=
  d j + dn j * g j * root h + z * pull h g dn + pull h g dn * z

/-- The first result. -/
theorem out (r : Fin 8704) (j : Fin 1024) :
    Value.res_out0 m c (ix2 r j) = rowRef (hrow m c r)
      (fun k => (m ((c.tc : Thread nD τ).loc main_arg0) : Vec Ideal S8704x1024 .f32) (ix2 r k))
      (fun k => (m ((c.tc : Thread nD τ).loc main_arg1) : Vec Ideal S1x1024 .f32) (ix2 0 k)) (drow m c r) j := by
  unfold Value.res_out0 Value.res_main_v46
  rw [toks, means, pulls, sums, backs]
  exact congrArg (fun z : EReal => rowZ (hrow m c r) (fun k => (m ((c.tc : Thread nD τ).loc main_arg0) : Vec Ideal S8704x1024 .f32) (ix2 r k))
      (fun k => (m ((c.tc : Thread nD τ).loc main_arg1) : Vec Ideal S1x1024 .f32) (ix2 0 k)) (drow m c r) j z)
    (congrFun (toks (m ((c.tc : Thread nD τ).loc main_arg4)) (m ((c.tc : Thread nD τ).loc main_arg5))) (ix2 r j))

/-- The second result, the gain's gradient. -/
theorem gain (h D : Vec Ideal S8704x1024 .f32) (j : S1x1024.Idx) :
    (shapeCast S1x1024 (Host.reduceAdd (mulf (mulf h (broadcastInDim S8704x1024 ![0, 1] bcast_S8704x1_S8704x1024_0_1
        (Host.rsqrt (fun j => meanSq fun k => h (ix2 (j 0) k) : FVec Ideal S8704x1 .f32)))) D)
        (constant S_ .f32 0x00000000#32) reducesTo_S8704x1024_S1024_d0 h_S_)
        shapeCasts_S1024_S1x1024 : FVec Ideal S1x1024 .f32) j
      = ∑ r : Fin 8704, h (ix2 r (j 1)) * root (fun k => h (ix2 r k)) * D (ix2 r (j 1)) := by
  idx_vars j
  pointwise [root]

end Cert.FirstReferenceIdeal.Hand
-- ==== Proof.First.lean ====
/-
  The gradient through the norm of the first feed-forward block: the kernel's and the reference's are one.
-/
module

public import proofs.«01_k».proof.Defs
public import proofs.«01_k».proof.Proof.FirstValue
public import proofs.«01_k».proof.Proof.FirstRef
public import proofs.«01_k».proof.Proof.Gen.FirstIdeal.Value
public import proofs.«01_k».proof.Proof.Gen.Pre_first_finite

@[expose] public section

set_option maxRecDepth 16384

noncomputable section

namespace Cert.FirstClaim

open Cert.NormMath Cert.FirstMath Cert.Finite Idealize.ShloMosaic Idealize.ShloMosaic.TcCoe Idealize.SL.Sem
open Cert.FirstIdeal (nD τ sig main_arg0 main_arg1 main_arg2 main_arg3 main_arg4 main_arg5)
open Cert.FirstIdeal.Hand (arg0 arg1 arg2 arg3 arg4 arg5)

instance : Subsingleton Cert.Pre_first_finite.S_.Idx := ⟨fun a b => funext fun k => k.elim0⟩

/-- The assembled rows of real ones are real. -/
theorem real_asm (x : Fin 8192 → Fin 1024 → EReal) (mt : Fin 16 → Fin 1024 → EReal) (r : Fin 8704) (k : Fin 1024)
    (hx : ∀ q k, IsReal (x q k)) (hm : ∀ q k, IsReal (mt q k)) : IsReal (asm x mt r k) := by
  unfold asm
  split
  · exact ⟨0, EReal.coe_zero.symm⟩
  · split
    · exact hm _ _
    · exact hx _ _

variable (m : (ℓ : Loc nD τ sig) → Buf (Elt Ideal) ℓ) (c : Dev nD)

/-- What the precondition says: all arguments but the gradient by the side have real entries. -/
theorem real_args (hp : Pre_FirstIdeal_first_finite m) : (∀ i, IsReal (arg1 m c i)) ∧ (∀ i, IsReal (arg2 m c i))
    ∧ (∀ i, IsReal (arg3 m c i)) ∧ (∀ i, IsReal (arg4 m c i)) ∧ (∀ i, IsReal (arg5 m c i)) := by
  have h := congrFun (hp c) (fun k => k.elim0)
  obtain ⟨h, h5⟩ := IntOp.andi_eq_one.mp h
  obtain ⟨h, h4⟩ := IntOp.andi_eq_one.mp h
  obtain ⟨h, h3⟩ := IntOp.andi_eq_one.mp h
  obtain ⟨h1, h2⟩ := IntOp.andi_eq_one.mp h
  exact ⟨real_of_all _ _ _ _ _ _ h1, real_of_all _ _ _ _ _ _ h2, real_of_all _ _ _ _ _ _ h3, real_of_all _ _ _ _ _ _ h4,
    real_of_all _ _ _ _ _ _ h5⟩

variable (m' : (ℓ : Loc Cert.FirstReferenceIdeal.nD Cert.FirstReferenceIdeal.τ Cert.FirstReferenceIdeal.sig) → Buf (Elt Ideal) ℓ)

/-- The reference's first result is the kernel's, of the same arguments. -/
theorem out_ref (hp : Pre_FirstIdeal_first_finite m)
    (h0 : m' ((c.tc : Thread _ Cert.FirstReferenceIdeal.τ).loc Cert.FirstReferenceIdeal.main_arg0) = arg0 m c)
    (h1 : m' ((c.tc : Thread _ Cert.FirstReferenceIdeal.τ).loc Cert.FirstReferenceIdeal.main_arg1) = arg1 m c)
    (h2 : m' ((c.tc : Thread _ Cert.FirstReferenceIdeal.τ).loc Cert.FirstReferenceIdeal.main_arg2) = arg2 m c)
    (h3 : m' ((c.tc : Thread _ Cert.FirstReferenceIdeal.τ).loc Cert.FirstReferenceIdeal.main_arg3) = arg3 m c)
    (h4 : m' ((c.tc : Thread _ Cert.FirstReferenceIdeal.τ).loc Cert.FirstReferenceIdeal.main_arg4) = arg4 m c)
    (h5 : m' ((c.tc : Thread _ Cert.FirstReferenceIdeal.τ).loc Cert.FirstReferenceIdeal.main_arg5) = arg5 m c) :
    Cert.FirstReferenceIdeal.Value.res_out0 m' c = Cert.FirstIdeal.Hand.out m c := by
  obtain ⟨r1, r2, r3, r4, r5⟩ := real_args m c hp
  funext j
  idx_vars j
  refine (Cert.FirstReferenceIdeal.Hand.out m' c j0 j1).trans ?_
  unfold Cert.FirstReferenceIdeal.Hand.hrow Cert.FirstReferenceIdeal.Hand.drow
  rw [h0, h1, h2, h3, h4, h5]
  exact row_eq _ _ _ _ (fun k => real_asm _ _ _ _ (fun q k => r4 _) fun q k => r5 _) (fun k => r1 _)
    (fun k => isReal_sum _ _ fun i _ => (r2 _).mul (r3 _)) _

/-- The two programs end with the same two results. -/
theorem algebraic : Cert.algebraic_FirstIdeal_FirstReferenceIdeal_pre_first_finite := fun m ρ m' ρ' hp hag =>
  ⟨fun c => Cert.FirstIdeal.Hand.out m c, fun c => Cert.FirstIdeal.Hand.gain m c,
    (θ_run _ _ _).mono (fun _ h c => ⟨(h c).1.trans (Cert.FirstIdeal.Hand.out_eq m c),
      (h c).2.1.trans (Cert.FirstIdeal.Hand.gain_eq m c), (h c).2.2⟩) (Cert.FirstIdeal.Value.run_blocks m ρ),
    (θ_run _ _ _).mono (fun _ h c => ⟨(h c).1.trans
        (out_ref m c m' hp (hag c).1 (hag c).2.1 (hag c).2.2.1 (hag c).2.2.2.1 (hag c).2.2.2.2.1 (hag c).2.2.2.2.2),
      (h c).2.1.trans (by
        rw [(hag c).2.2.1, (hag c).2.2.2.1, (hag c).2.2.2.2.1, (hag c).2.2.2.2.2, Cert.FirstReferenceIdeal.Hand.toks, Cert.FirstReferenceIdeal.Hand.means,
          Cert.FirstReferenceIdeal.Hand.backs]
        funext j
        refine (Cert.FirstReferenceIdeal.Hand.gain _ _ j).trans (Finset.sum_congr rfl fun r _ => ?_)
        exact mul_comm _ _), (h c).2.2⟩) (Cert.FirstReferenceIdeal.Value.run m' ρ')⟩

end Cert.FirstClaim
-- ==== Proof.FirstactBlock.lean ====
/-
  The gradient through the first feed-forward block's activation, block of 256 rows by block: eleven pieces of 256
  columns, each with its two stores of the hidden gradient and its part of the weights' gradient.
-/
module

public import proofs.«01_k».proof.Proof.Gen.FirstactIdeal.Value
public import proofs.«01_k».proof.Proof.ActMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FirstactIdeal.Hand

open Cert.FirstactIdeal Cert.FirstactIdeal.Gen Idealize.ShloMosaic Idealize.ShloMosaic.TcCoe Idealize.SL.Sem
open Idealize.ShloMosaic.Pipeline (Dat)
open Cert.ActMath

section Body

variable (c : Dev nD) (i : grid0.Coords) (a1 : Memref sig .tc .vmem S256x1024 .f32) (h1 : a1.IsWhole)
  (a2 : Memref sig .tc .vmem S256x2816 .bf16) (h2 : a2.IsWhole) (a3 : Memref sig .tc .vmem S256x2816 .bf16) (h3 : a3.IsWhole)
  (a4 : Memref sig .tc .vmem S2816x1024 .bf16) (h4 : a4.IsWhole) (a5 : Memref sig .tc .vmem S256x5632 .bf16) (h5 : a5.IsWhole)
  (a6 : Memref sig .tc .vmem S2816x1024 .bf16) (h6 : a6.IsWhole) (a7 : Memref sig .tc .vmem S2816x1024 .f32) (h7 : a7.IsWhole)
  (x0 : Vec Ideal S256x1024 .f32) (x1 : Vec Ideal S256x2816 .bf16) (x2 : Vec Ideal S256x2816 .bf16)
  (x3 : Vec Ideal S2816x1024 .bf16) (xs : Vec Ideal S2816x1024 .f32)

/-- The gradient of the hidden product at row `r`, column `q` of a block. -/
abbrev dblk (r : Fin 256) (q : Fin 2816) : EReal := da (fun k => x0 (ix2 r k)) fun k => x3 (ix2 q k)

/-- A block of the hidden gradient: the gate's columns, then the up projection's. -/
def dguBlk (j : S256x5632.Idx) : EReal :=
  if h : (j 1).val < 2816 then dgate (dblk x0 x3 (j 0) ⟨(j 1).val, h⟩) (x1 (ix2 (j 0) ⟨(j 1).val, h⟩)) (x2 (ix2 (j 0) ⟨(j 1).val, h⟩))
  else dup (dblk x0 x3 (j 0) ⟨(j 1).val - 2816, by have : (j 1).val < 5632 := (j 1).isLt; omega⟩)
    (x1 (ix2 (j 0) ⟨(j 1).val - 2816, by have : (j 1).val < 5632 := (j 1).isLt; omega⟩))

/-- A block's part of the weights' gradient. -/
def wBlk (j : S2816x1024.Idx) : EReal :=
  ∑ r : Fin 256, x1 (ix2 r (j 0)) * sgm (x1 (ix2 r (j 0))) * x2 (ix2 r (j 0)) * (Ideal.ofBits .f32 0x3F000000#32 * x0 (ix2 r (j 1)))

/-- The first point clears the accumulator, then adds its block's product. -/
theorem acc_A (hc0 : cond0_0 i) (hc1 : ¬cond0_1 i) (j : S2816x1024.Idx) :
    sout0_A_0 (F := Ideal) c i a1 h1 a2 h2 a3 h3 a4 h4 a5 h5 a6 h6 a7 h7 hc0 hc1 x0 x1 x2 x3 j
      = 0 + wBlk x0 x1 x2 j := by
  frame_open
  simp (disch := decide) only [↓ View.readCov_skip, ↓ View.readCov_cons_toLoadRect, ↓ View.readCov_fill]
  frame_out
  refine View.canon_append_of_piecesOf (Val := Elt Ideal) (e := .f32) (fun j => 0 + wBlk x0 x1 x2 j) [_]
    [_, _, _, _, _, _, _, _, _, _, _] ⟨?_, ?_, ?_, ?_, ?_, ?_, ?_, ?_, ?_, ?_, ?_, trivial⟩ j
    (View.cover_of_tiledBy _ ![256, 1024] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay5, wBlk, sgm, zero_sub]
    blk_point []

/-- A point between adds its block's product to what the point before left. -/
theorem acc_B (hc0 : ¬cond0_0 i) (hc1 : ¬cond0_1 i) (j : S2816x1024.Idx) :
    sout0_B_0 (F := Ideal) c i a1 h1 a2 h2 a3 h3 a4 h4 a5 h5 a6 h6 a7 h7 hc0 hc1 x0 x1 x2 x3 xs j
      = xs j + wBlk x0 x1 x2 j := by
  frame_out
  refine View.canon_append_of_piecesOf (Val := Elt Ideal) (e := .f32) (fun j => xs j + wBlk x0 x1 x2 j) []
    [_, _, _, _, _, _, _, _, _, _, _] ⟨?_, ?_, ?_, ?_, ?_, ?_, ?_, ?_, ?_, ?_, ?_, trivial⟩ j
    (View.cover_of_tiledBy _ ![256, 1024] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, wBlk, sgm, zero_sub]
    blk_point []

/-- The last point does so too. -/
theorem acc_C (hc0 : ¬cond0_0 i) (hc1 : cond0_1 i) (j : S2816x1024.Idx) :
    sout0_C_0 (F := Ideal) c i a1 h1 a2 h2 a3 h3 a4 h4 a5 h5 a6 h6 a7 h7 hc0 hc1 x0 x1 x2 x3 xs j
      = xs j + wBlk x0 x1 x2 j := by
  frame_out
  refine View.canon_append_of_piecesOf (Val := Elt Ideal) (e := .f32) (fun j => xs j + wBlk x0 x1 x2 j) []
    [_, _, _, _, _, _, _, _, _, _, _] ⟨?_, ?_, ?_, ?_, ?_, ?_, ?_, ?_, ?_, ?_, ?_, trivial⟩ j
    (View.cover_of_tiledBy _ ![256, 1024] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, wBlk, sgm, zero_sub]
    blk_point []

/-- What the first point stores of the hidden gradient. -/
theorem out_A (hc0 : cond0_0 i) (hc1 : ¬cond0_1 i) (j : S256x5632.Idx) :
    out0_A_4 (F := Ideal) c i a1 h1 a2 h2 a3 h3 a4 h4 a5 h5 a6 h6 a7 h7 hc0 hc1 x0 x1 x2 x3 j
      = dguBlk x0 x1 x2 x3 j := by
  frame_out
  refine View.canon_append_of_piecesOf (Val := Elt Ideal) (e := .bf16) (dguBlk x0 x1 x2 x3) []
    [_, _, _, _, _, _, _, _, _, _, _, _, _, _, _, _, _, _, _, _, _, _]
    ⟨?_, ?_, ?_, ?_, ?_, ?_, ?_, ?_, ?_, ?_, ?_, ?_, ?_, ?_, ?_, ?_, ?_, ?_, ?_, ?_, ?_, ?_, trivial⟩ j
    (View.cover_of_tiledBy _ ![256, 256] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, dguBlk, dgate, dup, da, sgm, zero_sub]
    blk_simp
    first
    | rw [dif_pos (by omega)]
    | rw [dif_neg (by omega)]
    blk_point []

/-- What a point between stores. -/
theorem out_B (hc0 : ¬cond0_0 i) (hc1 : ¬cond0_1 i) (j : S256x5632.Idx) :
    out0_B_4 (F := Ideal) c i a1 h1 a2 h2 a3 h3 a4 h4 a5 h5 a6 h6 a7 h7 hc0 hc1 x0 x1 x2 x3 xs j
      = dguBlk x0 x1 x2 x3 j := by
  frame_out
  refine View.canon_append_of_piecesOf (Val := Elt Ideal) (e := .bf16) (dguBlk x0 x1 x2 x3) []
    [_, _, _, _, _, _, _, _, _, _, _, _, _, _, _, _, _, _, _, _, _, _]
    ⟨?_, ?_, ?_, ?_, ?_, ?_, ?_, ?_, ?_, ?_, ?_, ?_, ?_, ?_, ?_, ?_, ?_, ?_, ?_, ?_, ?_, ?_, trivial⟩ j
    (View.cover_of_tiledBy _ ![256, 256] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, dguBlk, dgate, dup, da, sgm, zero_sub]
    blk_simp
    first
    | rw [dif_pos (by omega)]
    | rw [dif_neg (by omega)]
    blk_point []

/-- What the last point stores. -/
theorem out_C (hc0 : ¬cond0_0 i) (hc1 : cond0_1 i) (j : S256x5632.Idx) :
    out0_C_4 (F := Ideal) c i a1 h1 a2 h2 a3 h3 a4 h4 a5 h5 a6 h6 a7 h7 hc0 hc1 x0 x1 x2 x3 xs j
      = dguBlk x0 x1 x2 x3 j := by
  frame_out
  refine View.canon_append_of_piecesOf (Val := Elt Ideal) (e := .bf16) (dguBlk x0 x1 x2 x3) []
    [_, _, _, _, _, _, _, _, _, _, _, _, _, _, _, _, _, _, _, _, _, _]
    ⟨?_, ?_, ?_, ?_, ?_, ?_, ?_, ?_, ?_, ?_, ?_, ?_, ?_, ?_, ?_, ?_, ?_, ?_, ?_, ?_, ?_, ?_, trivial⟩ j
    (View.cover_of_tiledBy _ ![256, 256] (by sl_kernel_rfl) j)
  all_goals
    intro x
    idx_vars x
    pointwise [k0_pay1, k0_pay2, k0_pay3, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95, k0_pay96, k0_pay97, k0_pay98, dguBlk, dgate, dup, da, sgm, zero_sub]
    blk_simp
    first
    | rw [dif_pos (by omega)]
    | rw [dif_neg (by omega)]
    blk_point []

/-- What the last point writes out is the accumulator it leaves. -/
theorem w_C (hc0 : ¬cond0_0 i) (hc1 : cond0_1 i) (j : S2816x1024.Idx) :
    out0_C_5 (F := Ideal) c i a1 h1 a2 h2 a3 h3 a4 h4 a5 h5 a6 h6 a7 h7 hc0 hc1 x0 x1 x2 x3 xs j
      = xs j + wBlk x0 x1 x2 j := by
  rw [← acc_C c i a1 h1 a2 h2 a3 h3 a4 h4 a5 h5 a6 h6 a7 h7 x0 x1 x2 x3 xs hc0 hc1 j]
  frame_out
  unfold k0_pay4
  rw [View.readCov_eq_canon']
  generalize (View.canon (Val := Elt Ideal) (s := S2816x1024) (e := .f32) _ : Vec Ideal S2816x1024 .f32) = Z
  pointwise []

end Body

end Cert.FirstactIdeal.Hand
-- ==== Proof.FirstactValue.lean ====
/-
  What the kernel of the gradient through the activation leaves in its two result arrays.
-/
module

public import proofs.«01_k».proof.Proof.FirstactBlock

@[expose] public section

set_option maxRecDepth 16384

noncomputable section

namespace Cert.FirstactIdeal.Hand

open Cert.FirstactIdeal Cert.FirstactIdeal.Gen Idealize.ShloMosaic Idealize.ShloMosaic.TcCoe Idealize.SL.Sem
open Idealize.ShloMosaic.Pipeline (Dat)
open Cert.ActMath

variable (m : (ℓ : Loc nD τ sig) → Buf (Elt Ideal) ℓ) (c : Dev nD)

/-- The gradient that comes in. -/
abbrev arg0 : Vec Ideal S8704x1024 .f32 := m ((c.tc : Thread nD τ).loc main_arg0)
/-- The gate. -/
abbrev arg1 : Vec Ideal S8704x2816 .bf16 := m ((c.tc : Thread nD τ).loc main_arg1)
/-- The up projection. -/
abbrev arg2 : Vec Ideal S8704x2816 .bf16 := m ((c.tc : Thread nD τ).loc main_arg2)
/-- The output weights. -/
abbrev arg3 : Vec Ideal S2816x1024 .bf16 := m ((c.tc : Thread nD τ).loc main_arg3)

/-- The gradient of the hidden product at row `r`, column `q`. -/
abbrev hid (r : Fin 8704) (q : Fin 2816) : EReal := da (fun k => arg0 m c (ix2 r k)) fun k => arg3 m c (ix2 q k)

/-- The hidden gradient: the gate's columns, then the up projection's. -/
def dgu (j : S8704x5632.Idx) : EReal :=
  if h : (j 1).val < 2816 then
    dgate (hid m c (j 0) ⟨(j 1).val, h⟩) (arg1 m c (ix2 (j 0) ⟨(j 1).val, h⟩)) (arg2 m c (ix2 (j 0) ⟨(j 1).val, h⟩))
  else dup (hid m c (j 0) ⟨(j 1).val - 2816, by have : (j 1).val < 5632 := (j 1).isLt; omega⟩)
    (arg1 m c (ix2 (j 0) ⟨(j 1).val - 2816, by have : (j 1).val < 5632 := (j 1).isLt; omega⟩))

/-- The gradient of the output weights. -/
def dw (j : S2816x1024.Idx) : EReal :=
  ∑ r : Fin 8704, arg1 m c (ix2 r (j 0)) * sgm (arg1 m c (ix2 r (j 0))) * arg2 m c (ix2 r (j 0))
    * (Ideal.ofBits .f32 0x3F000000#32 * arg0 m c (ix2 r (j 1)))

/-- Which blocks a point reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- Every point stores its block of the hidden gradient. -/
theorem out_pt (t : Fin cfg0.N) : (outsAt0 m c t.val t.isLt).1 = dguBlk (iblk m c 0 t) (iblk m c 1 t) (iblk m c 2 t) (iblk m c 3 t) := by
  funext y
  by_cases h0 : t.val % 34 = 0
  · rw [outsAt0_A m c t h0 (by omega)]
    dsimp only
    rw [out_A]
  · by_cases h1 : t.val % 34 = 33
    · rw [outsAt0_C m c t h0 h1]
      dsimp only
      rw [out_C]
    · rw [outsAt0_B m c t h0 h1]
      dsimp only
      rw [out_B]

/-- The first array. -/
theorem dgu_eq : (dats m 0 c).arrAt 4 cfg0.N = dgu m c := by
  refine (dats m 0 c).arrAt_eq_of_covers 4 _ (by decide +kernel) fun t hf y => ?_
  blk_simp
  rw [after0_4, out_pt]
  simp only [dguBlk, dgu, dblk, hid]
  have e : (((cfg0.win 4).blk t).view.emb y 1).val = (y 1).val := by
    blk_simp
    blk_point [idx t]
  by_cases h : (y 1).val < 2816
  · rw [dif_pos h, dif_pos (by rw [e]; exact h)]
    blk_point [iblk, V, idx t]
  · rw [dif_neg h, dif_neg (by rw [e]; exact h)]
    blk_point [iblk, V, idx t]

/-- The first point leaves its block's part of the weights' gradient. -/
theorem w_first (t : Fin cfg0.N) (h0 : t.val % 34 = 0) (j : S2816x1024.Idx) :
    (outsAt0 m c t.val t.isLt).2.2 j = 0 + wBlk (iblk m c 0 t) (iblk m c 1 t) (iblk m c 2 t) j := by
  rw [outsAt0_A m c t h0 (by omega)]
  dsimp only
  rw [acc_A]

/-- The others add theirs. -/
theorem w_next (t : Fin cfg0.N) (h0 : ¬t.val % 34 = 0) (j : S2816x1024.Idx) :
    (outsAt0 m c t.val t.isLt).2.2 j
      = (outsAt0 m c (t.val - 1) (Nat.lt_of_le_of_lt (Nat.sub_le _ _) t.isLt)).2.2 j
        + wBlk (iblk m c 0 t) (iblk m c 1 t) (iblk m c 2 t) j := by
  by_cases h1 : t.val % 34 = 33
  · rw [outsAt0_C m c t h0 h1]
    dsimp only
    rw [acc_C]
  · rw [outsAt0_B m c t h0 h1]
    dsimp only
    rw [acc_B]

/-- The last point writes out the accumulator it leaves. -/
theorem w_last (t : Fin cfg0.N) (h1 : t.val % 34 = 33) (j : S2816x1024.Idx) :
    (outsAt0 m c t.val t.isLt).2.1 j = (outsAt0 m c t.val t.isLt).2.2 j := by
  rw [w_next m c t (by omega) j, outsAt0_C m c t (by omega) h1]
  dsimp only
  rw [w_C]

/-- After the last point all parts are summed. -/
theorem w_sum (t : Fin cfg0.N) (ht : t.val + 1 = cfg0.N) (j : S2816x1024.Idx) :
    (outsAt0 m c t.val t.isLt).2.2 j = dw m c j := by
  refine (Pipeline.eq_sum_fin_of_reset_step_apply_last (fun n h => (outsAt0 m c n h).2.2) 34 (fun _ => (0 : EReal))
    (fun t j => wBlk (iblk m c 0 t) (iblk m c 1 t) (iblk m c 2 t) j) (w_first m c) (w_next m c) (le_of_eq N_0) t ht j).trans ?_
  rw [zero_add]
  refine Fin.sum_mul_add_congr (fun t k hl => ?_) (by rw [show cfg0.N = 34 from N_0])
  blk_point [iblk, V, idx t]

/-- The second array. -/
theorem dw_eq : (dats m 0 c).arrAt 5 cfg0.N = dw m c := by
  refine (dats m 0 c).arrAt_eq_of_covers 5 _ (by decide +kernel) fun t hf y => ?_
  blk_simp
  rw [after0_5]
  have h33 := (flush0_5 t).mp hf
  have hN : cfg0.N = 34 := N_0
  have hlt := t.isLt
  refine (w_last m c t (by omega) y).trans ((w_sum m c t (by omega) y).trans (congrArg (dw m c) ?_))
  blk_ext [idx t]

end Cert.FirstactIdeal.Hand
-- ==== Proof.FirstactRef.lean ====
/-
  What the reference of the gradient through the activation computes, entry by entry.
-/
module

public import proofs.«01_k».proof.Proof.ActMath
public import proofs.«01_k».proof.Proof.Gen.FirstactReferenceIdeal
public import proofs.«01_k».proof.Proof.Gen.FirstactReferenceIdeal.Run
public import Idealize.ShloMosaic.Lib.Pipeline.ValueKit
public import Idealize.ShloMosaic.Lib.Pointwise

@[expose] public section

set_option maxRecDepth 16384

noncomputable section

namespace Cert.FirstactReferenceIdeal.Hand

open Cert.ActMath Cert.FirstactReferenceIdeal Cert.FirstactReferenceIdeal.Gen Idealize.ShloMosaic Idealize.ShloMosaic.TcCoe Idealize.SL.Sem

variable (d : Vec Ideal S8704x1024 .f32) (g u : Vec Ideal S8704x2816 .bf16) (w : Vec Ideal S2816x1024 .bf16)

/-- The gradient of the hidden product, as the reference writes it. -/
theorem das : (Host.dotGeneral dot_S8704x1024_S2816x1024_S8704x2816_1_1_0_0_n_n none (mulf (broadcastInDim S8704x1024 ![] bcast_S_S8704x1024 (constant S_ .f32 0x3F000000#32)) d) (extf .f32 w bitsLt_bf16_f32) : FVec Ideal S8704x2816 .f32)
      = fun j => da (fun k => d (ix2 (j 0) k)) fun k => w (ix2 (j 1) k) := by
  funext j
  idx_vars j
  pointwise [da]

/-- The logistic function, as the reference writes it. -/
theorem sgms : (Host.divf (broadcastInDim S8704x2816 ![] bcast_S_S8704x2816 (constant S_ .f32 0x3F800000#32)) (addf (broadcastInDim S8704x2816 ![] bcast_S_S8704x2816 (constant S_ .f32 0x3F800000#32)) (Host.exp (Host.negf (extf .f32 g bitsLt_bf16_f32)))) : FVec Ideal S8704x2816 .f32)
      = fun j => sgm (g j) := by
  funext j
  idx_vars j
  pointwise [sgm]

/-- The first result, by the hidden product's gradient `D` and the logistic function's values `s`. -/
theorem first (D s : FVec Ideal S8704x2816 .f32) (r : Fin 8704) (q : Fin 5632) :
    (truncf .bf16 (concatenate S8704x5632 1 [⟨S8704x2816, (addf (mulf (mulf D (extf .f32 u bitsLt_bf16_f32)) s) (mulf (mulf (extf .f32 g bitsLt_bf16_f32) (mulf D (extf .f32 u bitsLt_bf16_f32))) (mulf s (subf (broadcastInDim S8704x2816 ![] bcast_S_S8704x2816 (constant S_ .f32 0x3F800000#32)) s))))⟩, ⟨S8704x2816, (mulf (mulf (extf .f32 g bitsLt_bf16_f32) s) D)⟩] concatenates_S8704x2816_S8704x2816_S8704x5632_d1) bitsLt_bf16_f32 : FVec Ideal S8704x5632 .bf16) (ix2 r q)
      = if h : q.val < 2816 then
          D (ix2 r ⟨q.val, h⟩) * u (ix2 r ⟨q.val, h⟩) * s (ix2 r ⟨q.val, h⟩)
            + g (ix2 r ⟨q.val, h⟩) * (D (ix2 r ⟨q.val, h⟩) * u (ix2 r ⟨q.val, h⟩)) * (s (ix2 r ⟨q.val, h⟩) * (1 - s (ix2 r ⟨q.val, h⟩)))
        else g (ix2 r ⟨q.val - 2816, by omega⟩) * s (ix2 r ⟨q.val - 2816, by omega⟩) * D (ix2 r ⟨q.val - 2816, by omega⟩) := by
  pointwise []

/-- The second result, by the logistic function's values `s`. -/
theorem second (s : FVec Ideal S8704x2816 .f32) (q : Fin 2816) (k : Fin 1024) :
    (truncf .bf16 (transpose S2816x1024 [1, 0] (Host.dotGeneral dot_S8704x1024_S8704x2816_S1024x2816_0_0_1_1_n_n none (mulf (broadcastInDim S8704x1024 ![] bcast_S_S8704x1024 (constant S_ .f32 0x3F000000#32)) d) (mulf (mulf (extf .f32 g bitsLt_bf16_f32) s) (extf .f32 u bitsLt_bf16_f32))) transposes_S1024x2816_S2816x1024_1_0) bitsLt_bf16_f32 : FVec Ideal S2816x1024 .bf16) (ix2 q k)
      = ∑ r : Fin 8704, Ideal.ofBits .f32 0x3F000000#32 * d (ix2 r k) * (g (ix2 r q) * s (ix2 r q) * u (ix2 r q)) := by
  pointwise []

end Cert.FirstactReferenceIdeal.Hand
-- ==== Proof.Firstact.lean ====
/-
  The gradient through the first feed-forward block's activation: the kernel's and the reference's are one.
-/
module

public import proofs.«01_k».proof.Defs
public import proofs.«01_k».proof.Proof.FirstactValue
public import proofs.«01_k».proof.Proof.FirstactRef
public import proofs.«01_k».proof.Proof.Gen.Pre_firstact_finite

@[expose] public section

set_option maxRecDepth 16384

noncomputable section

namespace Cert.FirstactClaim

open Cert.ActMath Cert.Finite Idealize.ShloMosaic Idealize.ShloMosaic.TcCoe Idealize.SL.Sem
open Cert.FirstactIdeal (nD τ sig main_arg0 main_arg1 main_arg2 main_arg3)
open Cert.FirstactIdeal.Hand (arg0 arg1 arg2 arg3)

instance : Subsingleton Cert.Pre_firstact_finite.S_.Idx := ⟨fun a b => funext fun k => k.elim0⟩

variable (m : (ℓ : Loc nD τ sig) → Buf (Elt Ideal) ℓ) (c : Dev nD)

/-- What the precondition says: all arguments but the gate have real entries. -/
theorem real_args (hp : Pre_FirstactIdeal_firstact_finite m) : (∀ i, IsReal (arg0 m c i)) ∧ (∀ i, IsReal (arg2 m c i))
    ∧ (∀ i, IsReal (arg3 m c i)) := by
  have h := congrFun (hp c) (fun k => k.elim0)
  obtain ⟨h, h3⟩ := IntOp.andi_eq_one.mp h
  obtain ⟨h1, h2⟩ := IntOp.andi_eq_one.mp h
  exact ⟨real_of_all _ _ _ _ _ _ h1, real_of_all _ _ _ _ _ _ h2, real_of_all _ _ _ _ _ _ h3⟩

/-- The hidden gradient at row `r`, column `q`, as the reference computes it, is the kernel's. -/
theorem dgu_ref (hp : Pre_FirstactIdeal_firstact_finite m) (D s : FVec Ideal Cert.FirstactReferenceIdeal.S8704x2816 .f32)
    (hD : ∀ r q, D (ix2 r q) = Cert.FirstactIdeal.Hand.hid m c r q) (hs : ∀ r q, s (ix2 r q) = sgm (arg1 m c (ix2 r q)))
    (r : Fin 8704) (q : Fin 5632) :
    (if h : q.val < 2816 then
        D (ix2 r ⟨q.val, h⟩) * arg2 m c (ix2 r ⟨q.val, h⟩) * s (ix2 r ⟨q.val, h⟩)
          + arg1 m c (ix2 r ⟨q.val, h⟩) * (D (ix2 r ⟨q.val, h⟩) * arg2 m c (ix2 r ⟨q.val, h⟩))
            * (s (ix2 r ⟨q.val, h⟩) * (1 - s (ix2 r ⟨q.val, h⟩)))
      else arg1 m c (ix2 r ⟨q.val - 2816, by omega⟩) * s (ix2 r ⟨q.val - 2816, by omega⟩) * D (ix2 r ⟨q.val - 2816, by omega⟩))
      = Cert.FirstactIdeal.Hand.dgu m c (ix2 r q) := by
  obtain ⟨r0, r2, r3⟩ := real_args m c hp
  unfold Cert.FirstactIdeal.Hand.dgu
  by_cases h : q.val < 2816
  · rw [dif_pos h, dif_pos (show ((ix2 r q : Cert.FirstactIdeal.S8704x5632.Idx) 1).val < 2816 from h), hD, hs]
    exact dgate_eq _ _ _ ((da_real _ _ (fun k => r0 _) fun k => r3 _).mul (r2 _))
  · rw [dif_neg h, dif_neg (show ¬((ix2 r q : Cert.FirstactIdeal.S8704x5632.Idx) 1).val < 2816 from h), hD, hs]
    exact mul_comm _ _

/-- The two programs end with the same two results. -/
theorem algebraic : Cert.algebraic_FirstactIdeal_FirstactReferenceIdeal_pre_firstact_finite := fun m ρ m' ρ' hp hag =>
  ⟨fun c => Cert.FirstactIdeal.Hand.dgu m c, fun c => Cert.FirstactIdeal.Hand.dw m c,
    (θ_run _ _ _).mono (fun _ h c => ⟨(h c).1.trans (Cert.FirstactIdeal.Hand.dgu_eq m c),
      (h c).2.1.trans (Cert.FirstactIdeal.Hand.dw_eq m c), (h c).2.2⟩) (Cert.FirstactIdeal.Value.run_blocks m ρ),
    (θ_run _ _ _).mono (fun _ h c => ⟨(h c).1.trans (by
        rw [(hag c).1, (hag c).2.1, (hag c).2.2.1, (hag c).2.2.2, Cert.FirstactReferenceIdeal.Hand.das,
          Cert.FirstactReferenceIdeal.Hand.sgms]
        funext j
        idx_vars j
        refine (Cert.FirstactReferenceIdeal.Hand.first _ _ _ _ _ _).trans ?_
        exact dgu_ref m c hp (fun j => Cert.FirstactIdeal.Hand.hid m c (j 0) (j 1)) (fun j => sgm (arg1 m c j)) (fun _ _ => rfl) (fun _ _ => rfl) _ _),
      (h c).2.1.trans (by
        rw [(hag c).1, (hag c).2.1, (hag c).2.2.1, Cert.FirstactReferenceIdeal.Hand.sgms]
        funext j
        idx_vars j
        refine (Cert.FirstactReferenceIdeal.Hand.second _ _ _ _ _ _).trans (Finset.sum_congr rfl fun r _ => ?_)
        exact mul_comm _ _), (h c).2.2⟩) (Cert.FirstactReferenceIdeal.Value.run m' ρ')⟩

end Cert.FirstactClaim
-- ==== Proof.Firstwgu.lean ====
/-
  The gradient of the first feed-forward block's input weights, `dguᵀ · nrm`: the kernel adds, block of 512 rows by
  block, the block's product into an accumulator of the size of the result, six row pieces at a time; the reference is
  the gradient of `w ↦ nrm · w`.
-/
module

public import proofs.«01_k».proof.Proof.Gen.FirstwguIdeal.Value
public import proofs.«01_k».proof.Proof.Gen.FirstwguReferenceIdeal.Run
public import proofs.«01_k».proof.Defs
public import proofs.«01_k».proof.Proof.Gen.FirstwguIdeal
public import proofs.«01_k».proof.Proof.Gen.FirstwguReferenceIdeal
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FirstwguIdeal.Hand

open Cert.FirstwguIdeal Cert.FirstwguIdeal.Gen Idealize.ShloMosaic Idealize.ShloMosaic.TcCoe Idealize.SL.Sem
open Idealize.ShloMosaic.Pipeline (Dat)

/-- What one block of 512 rows adds at row `j 0`, column `j 1` of the weights' gradient. -/
abbrev part (x0 : Vec Ideal S512x1024 .bf16) (x1 : Vec Ideal S512x5632 .bf16) (j : S5632x1024.Idx) : EReal :=
  ∑ k : Fin 512, x1 (ix2 k (j 0)) * x0 (ix2 k (j 1))

section Body

variable (c : Dev nD) (i : grid0.Coords) (a1 : Memref sig .tc .vmem S512x1024 .bf16) (h1 : a1.IsWhole)
  (a2 : Memref sig .tc .vmem S512x5632 .bf16) (h2 : a2.IsWhole) (a3 : Memref sig .tc .vmem S5632x1024 .bf16) (h3 : a3.IsWhole)
  (a4 : Memref sig .tc .vmem S5632x1024 .f32) (h4 : a4.IsWhole)
  (x0 : Vec Ideal S512x1024 .bf16) (x1 : Vec Ideal S512x5632 .bf16) (xs : Vec Ideal S5632x1024 .f32) (j : S5632x1024.Idx)

/-- The first point clears the accumulator, then adds its block's product. -/
theorem acc_A (hc0 : cond0_0 i) (hc1 : ¬cond0_1 i) :
    sout0_A_0 (F := Ideal) c i a1 h1 a2 h2 a3 h3 a4 h4 hc0 hc1 x0 x1 j = 0 + part x0 x1 j := by
  frame_open
  simp (disch := decide) only [↓ View.readCov_skip, ↓ View.readCov_cons_toLoadRect, ↓ View.readCov_fill]
  frame_out
  refine View.canon_append_of_piecesOf (Val := Elt Ideal) (e := .f32) (fun j => 0 + part x0 x1 j) [_] [_, _, _, _, _, _]
    ⟨?_, ?_, ?_, ?_, ?_, ?_, trivial⟩ j (View.cover_of_tiledBy _ ![256, 1024] (by sl_kernel_rfl) j)
  all_goals
    intro x
    idx_vars x
    pointwise [k0_pay1, k0_pay2, k0_pay3, k0_pay5, k0_pay6, k0_pay7, k0_pay8, part]
    blk_point []

/-- A point between adds its block's product to what the point before left. -/
theorem acc_B (hc0 : ¬cond0_0 i) (hc1 : ¬cond0_1 i) :
    sout0_B_0 (F := Ideal) c i a1 h1 a2 h2 a3 h3 a4 h4 hc0 hc1 x0 x1 xs j = xs j + part x0 x1 j := by
  frame_out
  refine View.canon_append_of_piecesOf (Val := Elt Ideal) (e := .f32) (fun j => xs j + part x0 x1 j) [] [_, _, _, _, _, _]
    ⟨?_, ?_, ?_, ?_, ?_, ?_, trivial⟩ j (View.cover_of_tiledBy _ ![256, 1024] (by sl_kernel_rfl) j)
  all_goals
    intro x
    idx_vars x
    pointwise [k0_pay1, k0_pay2, k0_pay3, k0_pay6, k0_pay7, k0_pay8, part]
    blk_point []

/-- The last point does so too. -/
theorem acc_C (hc0 : ¬cond0_0 i) (hc1 : cond0_1 i) :
    sout0_C_0 (F := Ideal) c i a1 h1 a2 h2 a3 h3 a4 h4 hc0 hc1 x0 x1 xs j = xs j + part x0 x1 j := by
  frame_out
  refine View.canon_append_of_piecesOf (Val := Elt Ideal) (e := .f32) (fun j => xs j + part x0 x1 j) [] [_, _, _, _, _, _]
    ⟨?_, ?_, ?_, ?_, ?_, ?_, trivial⟩ j (View.cover_of_tiledBy _ ![256, 1024] (by sl_kernel_rfl) j)
  all_goals
    intro x
    idx_vars x
    pointwise [k0_pay1, k0_pay2, k0_pay3, k0_pay6, k0_pay7, k0_pay8, part]
    blk_point []

/-- What the last point writes out is the accumulator it leaves. -/
theorem out_C (hc0 : ¬cond0_0 i) (hc1 : cond0_1 i) :
    out0_C_2 (F := Ideal) c i a1 h1 a2 h2 a3 h3 a4 h4 hc0 hc1 x0 x1 xs j = xs j + part x0 x1 j := by
  rw [← acc_C c i a1 h1 a2 h2 a3 h3 a4 h4 x0 x1 xs j hc0 hc1]
  frame_out
  unfold k0_pay4
  rw [View.readCov_eq_canon']
  generalize (View.canon (Val := Elt Ideal) (s := S5632x1024) (e := .f32) _ : Vec Ideal S5632x1024 .f32) = Z
  pointwise []

end Body

variable (m : (ℓ : Loc nD τ sig) → Buf (Elt Ideal) ℓ) (c : Dev nD)

/-- The first point leaves its block's product in the accumulator. -/
theorem step_first (t : Fin cfg0.N) (h0 : t.val % 17 = 0) (j : S5632x1024.Idx) :
    (outsAt0 m c t.val t.isLt).2 j = 0 + part (iblk m c 0 t) (iblk m c 1 t) j := by
  rw [outsAt0_A m c t h0 (by omega)]
  dsimp only
  rw [acc_A]

/-- Every other point adds its block's product to what the point before left. -/
theorem step_next (t : Fin cfg0.N) (h0 : ¬t.val % 17 = 0) (j : S5632x1024.Idx) :
    (outsAt0 m c t.val t.isLt).2 j
      = (outsAt0 m c (t.val - 1) (Nat.lt_of_le_of_lt (Nat.sub_le _ _) t.isLt)).2 j + part (iblk m c 0 t) (iblk m c 1 t) j := by
  by_cases h1 : t.val % 17 = 16
  · rw [outsAt0_C m c t h0 h1]
    dsimp only
    rw [acc_C]
  · rw [outsAt0_B m c t h0 h1]
    dsimp only
    rw [acc_B]

/-- The last point writes out the accumulator it leaves. -/
theorem out_last (t : Fin cfg0.N) (h1 : t.val % 17 = 16) (j : S5632x1024.Idx) :
    (outsAt0 m c t.val t.isLt).1 j = (outsAt0 m c t.val t.isLt).2 j := by
  rw [step_next m c t (by omega) j, outsAt0_C m c t (by omega) h1]
  dsimp only
  rw [out_C]

/-- The accumulator after the last point: zero and the products of all 17 blocks. -/
theorem sum_blocks (t : Fin cfg0.N) (ht : t.val + 1 = cfg0.N) (j : S5632x1024.Idx) :
    (outsAt0 m c t.val t.isLt).2 j = 0 + ∑ t : Fin cfg0.N, part (iblk m c 0 t) (iblk m c 1 t) j :=
  Pipeline.eq_sum_fin_of_reset_step_apply_last (fun n h => (outsAt0 m c n h).2) 17 (fun _ => (0 : EReal))
    (fun t j => part (iblk m c 0 t) (iblk m c 1 t) j) (step_first m c) (step_next m c) (le_of_eq N_0) t ht j

/-- The array the kernel leaves. -/
theorem result (j : S5632x1024.Idx) :
    Value.G2 m c j = ∑ t : Fin cfg0.N, part (iblk m c 0 t) (iblk m c 1 t) j := by
  have h : 16 < cfg0.N := lt_of_lt_of_eq (by decide) N_0.symm
  have e := (out_last m c ⟨16, h⟩ rfl j).trans (sum_blocks m c ⟨16, h⟩ N_0.symm j)
  rw [zero_add] at e
  rw [Value.G2_last, ← Value.outsAt0_sweep m c 16 h]
  exact e

/-- Which block a point reads: rows `512 t …` of both operands. -/
theorem idx : ∀ t : Fin cfg0.N, win0_0.index t = ![t.val, 0] ∧ win0_1.index t = ![t.val, 0] :=
  (by decide +kernel : ∀ t : Fin grid0.N, _)

/-- The two arguments, as arrays. -/
abbrev arg0 : Vec Ideal S8704x1024 .bf16 := m ((c.tc : Thread nD τ).loc main_arg0)
/-- The second argument. -/
abbrev arg1 : Vec Ideal S8704x5632 .bf16 := m ((c.tc : Thread nD τ).loc main_arg1)

/-- Summed over the blocks, the products are the product over all 8704 rows. -/
theorem result_rows (j : S5632x1024.Idx) :
    Value.G2 m c j = ∑ r : Fin 8704, arg1 m c (ix2 r (j 0)) * arg0 m c (ix2 r (j 1)) := by
  rw [result]
  refine Fin.sum_mul_add_congr (fun t k hl => ?_) (by rw [show cfg0.N = 17 from N_0])
  pointwise []
  blk_point [iblk, V, idx t]

end Cert.FirstwguIdeal.Hand

namespace Cert.FirstwguClaim

open Idealize.ShloMosaic Idealize.ShloMosaic.TcCoe Idealize.SL.Sem

/-- The kernel and the reference leave the same array. -/
theorem algebraic : Cert.algebraic_FirstwguIdeal_FirstwguReferenceIdeal := fun m ρ m' ρ' _ hag =>
  ⟨fun c => Cert.FirstwguIdeal.Value.G2 m c, Cert.FirstwguIdeal.Value.run m ρ,
    (θ_run _ _ _).mono (fun _ h c => ⟨(h c).1.trans (by
      rw [(hag c).1, (hag c).2]
      funext j
      refine Eq.trans ?_ (Cert.FirstwguIdeal.Hand.result_rows m c j).symm
      idx_vars j
      pointwise []), (h c).2⟩) (Cert.FirstwguReferenceIdeal.Value.run m' ρ')⟩

end Cert.FirstwguClaim
-- ==== Proof.FirstffnBlock.lean ====
/-
  The first feed-forward block, block of 512 rows by block.
-/
module

public import proofs.«01_k».proof.Proof.Gen.FirstffnIdeal.Value
public import proofs.«01_k».proof.Proof.FfnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FirstffnIdeal.Hand

open Cert.FirstffnIdeal Cert.FirstffnIdeal.Gen Idealize.ShloMosaic Idealize.ShloMosaic.TcCoe Idealize.SL.Sem
open Idealize.ShloMosaic.Pipeline (Dat)
open Cert.NormMath Cert.ActMath Cert.FfnMath
open Cert.InprojMath (normed)

/-- Whether group `k` of block `a` is one of leading zeros and meta rows, as the kernel tests it. -/
def tst (a k : BitVec 32) : BitVec 1 :=
  Scalar.cmpi .eq (Scalar.select (Scalar.andi (Scalar.xori (Scalar.cmpi .slt (Scalar.remsi (Scalar.addi (Scalar.muli 4#32 a) k) 17#32) 0#32) 0#1)
    (Scalar.cmpi .ne (Scalar.remsi (Scalar.addi (Scalar.muli 4#32 a) k) 17#32) 0#32))
    (Scalar.addi (Scalar.remsi (Scalar.addi (Scalar.muli 4#32 a) k) 17#32) 17#32)
    (Scalar.remsi (Scalar.addi (Scalar.muli 4#32 a) k) 17#32)) 0#32

/-- A group's rows: the leading ones or its tokens. -/
def seg (a k : BitVec 32) (x4 : Vec Ideal S16x1024 .f32) (x : Vec Ideal S128x1024 .f32) : FVec Ideal S128x1024 .f32 :=
  Scalar.select (tst a k) (k0_pay3 x4) x

/-- The four groups, one after the other. -/
def four (a : BitVec 32) (x0 x1 x2 x3 : Vec Ideal S128x1024 .f32) (x4 : Vec Ideal S16x1024 .f32) : FVec Ideal S512x1024 .f32 :=
  concatenate S512x1024 0 [⟨S128x1024, seg a 0#32 x4 x0⟩, ⟨S128x1024, seg a 1#32 x4 x1⟩, ⟨S128x1024, seg a 2#32 x4 x2⟩,
    ⟨S128x1024, seg a 3#32 x4 x3⟩] concatenates_S128x1024_S128x1024_S128x1024_S128x1024_S512x1024_d0

/-- Row `p` of the leading rows: zeros, then the meta rows. -/
def leadRow (x4 : Vec Ideal S16x1024 .f32) (p : Fin 128) (k : Fin 1024) : EReal :=
  if h : p.val < 112 then 0 else x4 (ix2 ⟨p.val - 112, by omega⟩ k)

/-- The leading rows. -/
theorem lead_at (x4 : Vec Ideal S16x1024 .f32) (p : Fin 128) (k : Fin 1024) :
    k0_pay3 (F := Ideal) x4 (ix2 p k) = leadRow x4 p k := by
  unfold leadRow
  by_cases h : p.val < 112 <;> pointwise [k0_pay3, h]

/-- A group's row. -/
def segRow (a k : BitVec 32) (x4 : Vec Ideal S16x1024 .f32) (x : Vec Ideal S128x1024 .f32) (p : Fin 128) (j : Fin 1024) : EReal :=
  if tst a k = 1 then leadRow x4 p j else x (ix2 p j)

/-- A group, row by row. -/
theorem seg_at (a k : BitVec 32) (x4 : Vec Ideal S16x1024 .f32) (x : Vec Ideal S128x1024 .f32) (p : Fin 128) (j : Fin 1024) :
    seg a k x4 x (ix2 p j) = segRow a k x4 x p j := by
  unfold seg segRow Scalar.select
  by_cases h : tst a k = 1
  · rw [if_pos h, if_pos h]
    exact lead_at x4 p j
  · rw [if_neg h, if_neg h]

/-- Row `r` of the four groups. -/
def fourRow (a : BitVec 32) (x0 x1 x2 x3 : Vec Ideal S128x1024 .f32) (x4 : Vec Ideal S16x1024 .f32) (r : Fin 512) (k : Fin 1024) : EReal :=
  if h0 : r.val < 128 then segRow a 0#32 x4 x0 ⟨r.val, h0⟩ k
  else if h1 : r.val < 256 then segRow a 1#32 x4 x1 ⟨r.val - 128, by omega⟩ k
  else if h2 : r.val < 384 then segRow a 2#32 x4 x2 ⟨r.val - 256, by omega⟩ k
  else segRow a 3#32 x4 x3 ⟨r.val - 384, by omega⟩ k

/-- Four arrays one after the other, row by row. -/
theorem cat_at (v0 v1 v2 v3 : FVec Ideal S128x1024 .f32) (r : Fin 512) (k : Fin 1024) :
    (concatenate S512x1024 0 [⟨S128x1024, v0⟩, ⟨S128x1024, v1⟩, ⟨S128x1024, v2⟩, ⟨S128x1024, v3⟩]
      concatenates_S128x1024_S128x1024_S128x1024_S128x1024_S512x1024_d0 : FVec Ideal S512x1024 .f32) (ix2 r k)
      = if h0 : r.val < 128 then v0 (ix2 ⟨r.val, h0⟩ k)
        else if h1 : r.val < 256 then v1 (ix2 ⟨r.val - 128, by omega⟩ k)
        else if h2 : r.val < 384 then v2 (ix2 ⟨r.val - 256, by omega⟩ k)
        else v3 (ix2 ⟨r.val - 384, by omega⟩ k) := by
  by_cases h0 : r.val < 128
  · rw [dif_pos h0]
    pointwise [h0]
  rw [dif_neg h0]
  by_cases h1 : r.val < 256
  · rw [dif_pos h1]
    have h1' : r.val - 128 < 128 := by omega
    pointwise [h0, h1']
  rw [dif_neg h1]
  have h1' : ¬r.val - 128 < 128 := by omega
  have e2 : r.val - 128 - 128 = r.val - 256 := by omega
  by_cases h2 : r.val < 384
  · rw [dif_pos h2]
    have h2' : r.val - 128 - 128 < 128 := by omega
    pointwise [h0, h1', h2']
    exact congrArg v2 (congrArg (ix2 · k) (Fin.ext e2))
  rw [dif_neg h2]
  have h2' : ¬r.val - 128 - 128 < 128 := by omega
  have e3 : r.val - 128 - 128 - 128 = r.val - 384 := by omega
  pointwise [h0, h1', h2']
  exact congrArg v3 (congrArg (ix2 · k) (Fin.ext e3))

/-- The four groups, row by row. -/
theorem four_at (a : BitVec 32) (x0 x1 x2 x3 : Vec Ideal S128x1024 .f32) (x4 : Vec Ideal S16x1024 .f32) (r : Fin 512) (k : Fin 1024) :
    four a x0 x1 x2 x3 x4 (ix2 r k) = fourRow a x0 x1 x2 x3 x4 r k := by
  refine (cat_at _ _ _ _ r k).trans ?_
  unfold fourRow
  simp only [seg_at]

/-- The sums of squares of a block's rows. -/
def ssq (H : FVec Ideal S512x1024 .f32) : FVec Ideal S512x1 .f32 :=
  shapeCast S512x1 (multiReduction .add [1] S512 (mulf H H) 0x00000000#32 reduces_S512x1024_S512 (.inl rfl) rfl) shapeCasts_S512_S512x1

/-- A block's normed rows. -/
def nrmB (H : FVec Ideal S512x1024 .f32) (g : Vec Ideal S1x1024 .f32) : FVec Ideal S512x1024 .bf16 :=
  k0_pay8 H g (ssq H) (FloatOps.ofBits FTy.f32 0x44800000#32)

/-- Row by row. -/
theorem nrmB_at (H : FVec Ideal S512x1024 .f32) (g : Vec Ideal S1x1024 .f32) (r : Fin 512) (k : Fin 1024) :
    nrmB H g (ix2 r k) = normed (fun k => H (ix2 r k)) (fun k => g (ix2 0 k)) k := by
  pointwise [nrmB, ssq, k0_pay8, normed, root, meanSq]

section Lanes

variable (H : FVec Ideal S512x1024 .f32) (g : Vec Ideal S1x1024 .f32) (q : FVec Ideal S512x1 .f32) (z : Elt Ideal .f32)
  (n : FVec Ideal S512x1024 .bf16) (x6 : Vec Ideal S2x2816x1024 .bf16) (x7 : Vec Ideal S2816x1024 .bf16) (r : Fin 512)

/-- The gate's first lanes. -/
theorem gate0_at (a : Fin 1024) :
    k0_pay9 (F := Ideal) H g q z (View.ld x6 (Rect.unit ![0, 0, 0] ![1, 1024, 1024] inb_S2x2816x1024_S1x1024x1024_0_0_0)) (ix2 r a)
      = lin (fun k => k0_pay8 (F := Ideal) H g q z (ix2 r k)) (fun a k => x6 (ix3 0 a k)) ⟨a.val, by omega⟩ := by
  unfold k0_pay9
  generalize k0_pay8 (F := Ideal) H g q z = n
  pointwise [lin]

/-- The up projection's first lanes. -/
theorem up0_at (a : Fin 1024) :
    k0_pay10 (F := Ideal) H g q z (View.ld x6 (Rect.unit ![1, 0, 0] ![1, 1024, 1024] inb_S2x2816x1024_S1x1024x1024_1_0_0)) (ix2 r a)
      = lin (fun k => k0_pay8 (F := Ideal) H g q z (ix2 r k)) (fun a k => x6 (ix3 1 a k)) ⟨a.val, by omega⟩ := by
  unfold k0_pay10
  generalize k0_pay8 (F := Ideal) H g q z = n
  pointwise [lin]

/-- The gate's lanes from 1024 on. -/
theorem gate1024_at (a : Fin 1024) :
    k0_pay14 (F := Ideal) n (View.ld x6 (Rect.unit ![0, 1024, 0] ![1, 1024, 1024] inb_S2x2816x1024_S1x1024x1024_0_1024_0)) (ix2 r a)
      = lin (fun k => n (ix2 r k)) (fun a k => x6 (ix3 0 a k)) ⟨1024 + a.val, by omega⟩ := by
  pointwise [k0_pay14, lin]

/-- The up projection's lanes from 1024 on. -/
theorem up1024_at (a : Fin 1024) :
    k0_pay15 (F := Ideal) n (View.ld x6 (Rect.unit ![1, 1024, 0] ![1, 1024, 1024] inb_S2x2816x1024_S1x1024x1024_1_1024_0)) (ix2 r a)
      = lin (fun k => n (ix2 r k)) (fun a k => x6 (ix3 1 a k)) ⟨1024 + a.val, by omega⟩ := by
  pointwise [k0_pay15, lin]

/-- The gate's lanes from 2048 on. -/
theorem gate2048_at (a : Fin 768) :
    k0_pay19 (F := Ideal) n (View.ld x6 (Rect.unit ![0, 2048, 0] ![1, 768, 1024] inb_S2x2816x1024_S1x768x1024_0_2048_0)) (ix2 r a)
      = lin (fun k => n (ix2 r k)) (fun a k => x6 (ix3 0 a k)) ⟨2048 + a.val, by omega⟩ := by
  pointwise [k0_pay19, lin]

/-- The up projection's lanes from 2048 on. -/
theorem up2048_at (a : Fin 768) :
    k0_pay20 (F := Ideal) n (View.ld x6 (Rect.unit ![1, 2048, 0] ![1, 768, 1024] inb_S2x2816x1024_S1x768x1024_1_2048_0)) (ix2 r a)
      = lin (fun k => n (ix2 r k)) (fun a k => x6 (ix3 1 a k)) ⟨2048 + a.val, by omega⟩ := by
  pointwise [k0_pay20, lin]

/-- The first lanes' contribution. -/
theorem pay13_at (p u : Vec Ideal S1x1024x1024 .bf16) (w : Vec Ideal S1024x1024 .bf16) (j : Fin 1024) :
    k0_pay13 (F := Ideal) H g q z p u w (ix2 r j)
      = ∑ a : Fin 1024, k0_pay9 (F := Ideal) H g q z p (ix2 r a) * sgm (k0_pay9 (F := Ideal) H g q z p (ix2 r a))
          * k0_pay10 (F := Ideal) H g q z u (ix2 r a) * w (ix2 a j) := by
  unfold k0_pay13
  generalize k0_pay9 (F := Ideal) H g q z p = G
  generalize k0_pay10 (F := Ideal) H g q z u = U
  pointwise [sgm, zero_sub]

/-- The middle lanes' contribution. -/
theorem pay18_at (v : FVec Ideal S512x1024 .f32) (p u : Vec Ideal S1x1024x1024 .bf16) (w : Vec Ideal S1024x1024 .bf16) (j : Fin 1024) :
    k0_pay18 (F := Ideal) n v p u w (ix2 r j)
      = v (ix2 r j) + ∑ a : Fin 1024, k0_pay14 (F := Ideal) n p (ix2 r a) * sgm (k0_pay14 (F := Ideal) n p (ix2 r a))
          * k0_pay15 (F := Ideal) n u (ix2 r a) * w (ix2 a j) := by
  unfold k0_pay18
  generalize k0_pay14 (F := Ideal) n p = G
  generalize k0_pay15 (F := Ideal) n u = U
  pointwise [sgm, zero_sub]

/-- The rows after the block. -/
theorem pay2_at (v : FVec Ideal S512x1024 .f32) (G U : FVec Ideal S512x768 .f32) (w : Vec Ideal S768x1024 .bf16) (j : Fin 1024) :
    k0_pay2 (F := Ideal) H v G U w (ix2 r j)
      = H (ix2 r j) + Ideal.ofBits .f32 0x3F000000#32 * (v (ix2 r j)
        + ∑ a : Fin 768, G (ix2 r a) * sgm (G (ix2 r a)) * U (ix2 r a) * w (ix2 a j)) := by
  pointwise [k0_pay2, sgm, zero_sub]

/-- The last weights' rows from 0 on. -/
theorem w0_at (a : Fin 1024) (j : Fin 1024) :
    View.ld x7 (Rect.unit ![0, 0] ![1024, 1024] inb_S2816x1024_S1024x1024_0_0) (ix2 a j) = x7 (ix2 ⟨a.val, by omega⟩ j) := by
  pointwise []

/-- The last weights' rows from 1024 on. -/
theorem w1024_at (a : Fin 1024) (j : Fin 1024) :
    View.ld x7 (Rect.unit ![1024, 0] ![1024, 1024] inb_S2816x1024_S1024x1024_1024_0) (ix2 a j) = x7 (ix2 ⟨1024 + a.val, by omega⟩ j) := by
  pointwise []

/-- The last weights' rows from 2048 on. -/
theorem w2048_at (a : Fin 768) (j : Fin 1024) :
    View.ld x7 (Rect.unit ![2048, 0] ![768, 1024] inb_S2816x1024_S768x1024_2048_0) (ix2 a j) = x7 (ix2 ⟨2048 + a.val, by omega⟩ j) := by
  pointwise []

end Lanes

/-- A row's gate. -/
def gateR (h : Fin 1024 → EReal) (x5 : Vec Ideal S1x1024 .f32) (x6 : Vec Ideal S2x2816x1024 .bf16) : Fin 2816 → EReal :=
  lin (normed h fun k => x5 (ix2 0 k)) fun a k => x6 (ix3 0 a k)

/-- A row's up projection. -/
def upR (h : Fin 1024 → EReal) (x5 : Vec Ideal S1x1024 .f32) (x6 : Vec Ideal S2x2816x1024 .bf16) : Fin 2816 → EReal :=
  lin (normed h fun k => x5 (ix2 0 k)) fun a k => x6 (ix3 1 a k)

/-- The rows after the block, as the body computes them. -/
def HO (H : FVec Ideal S512x1024 .f32) (x5 : Vec Ideal S1x1024 .f32) (x6 : Vec Ideal S2x2816x1024 .bf16) (x7 : Vec Ideal S2816x1024 .bf16) : FVec Ideal S512x1024 .f32 :=
  k0_pay2 H
    (k0_pay18 (nrmB H x5)
      (k0_pay13 H x5 (ssq H) (FloatOps.ofBits FTy.f32 0x44800000#32)
        (View.ld x6 (Rect.unit ![0, 0, 0] ![1, 1024, 1024] inb_S2x2816x1024_S1x1024x1024_0_0_0))
        (View.ld x6 (Rect.unit ![1, 0, 0] ![1, 1024, 1024] inb_S2x2816x1024_S1x1024x1024_1_0_0))
        (View.ld x7 (Rect.unit ![0, 0] ![1024, 1024] inb_S2816x1024_S1024x1024_0_0)))
      (View.ld x6 (Rect.unit ![0, 1024, 0] ![1, 1024, 1024] inb_S2x2816x1024_S1x1024x1024_0_1024_0))
      (View.ld x6 (Rect.unit ![1, 1024, 0] ![1, 1024, 1024] inb_S2x2816x1024_S1x1024x1024_1_1024_0))
      (View.ld x7 (Rect.unit ![1024, 0] ![1024, 1024] inb_S2816x1024_S1024x1024_1024_0)))
    (k0_pay19 (nrmB H x5) (View.ld x6 (Rect.unit ![0, 2048, 0] ![1, 768, 1024] inb_S2x2816x1024_S1x768x1024_0_2048_0)))
    (k0_pay20 (nrmB H x5) (View.ld x6 (Rect.unit ![1, 2048, 0] ![1, 768, 1024] inb_S2x2816x1024_S1x768x1024_1_2048_0)))
    (View.ld x7 (Rect.unit ![2048, 0] ![768, 1024] inb_S2816x1024_S768x1024_2048_0))

/-- They are the hidden layer's rows added to the block's. -/
theorem HO_at (H : FVec Ideal S512x1024 .f32) (x5 : Vec Ideal S1x1024 .f32) (x6 : Vec Ideal S2x2816x1024 .bf16) (x7 : Vec Ideal S2816x1024 .bf16) (r : Fin 512) (j : Fin 1024) :
    HO H x5 x6 x7 (ix2 r j) = hout (fun k => H (ix2 r k)) (gateR (fun k => H (ix2 r k)) x5 x6) (upR (fun k => H (ix2 r k)) x5 x6) (fun a j => x7 (ix2 a j)) j := by
  have e : ∀ k, k0_pay8 (F := Ideal) H x5 (ssq H) (FloatOps.ofBits FTy.f32 0x44800000#32) (ix2 r k)
      = normed (fun k => H (ix2 r k)) (fun k => x5 (ix2 0 k)) k := nrmB_at H x5 r
  unfold HO hout gateR upR
  rw [pay2_at, pay18_at, pay13_at, sum_pieces]
  simp only [gate0_at, up0_at, gate1024_at, up1024_at, gate2048_at, up2048_at, nrmB_at, e, hid]
  refine congrArg (fun s : EReal => H (ix2 r j) + Ideal.ofBits .f32 0x3F000000#32 * s) ?_
  refine congrArg₂ (fun u v : EReal => u + v) (congrArg₂ (fun u v : EReal => u + v) ?_ ?_) ?_
  · exact Finset.sum_congr rfl fun a _ => congrArg (HMul.hMul (_ : EReal)) (w0_at x7 a j)
  · exact Finset.sum_congr rfl fun a _ => congrArg (HMul.hMul (_ : EReal)) (w1024_at x7 a j)
  · exact Finset.sum_congr rfl fun a _ => congrArg (HMul.hMul (_ : EReal)) (w2048_at x7 a j)

/-- The gate's features from 0 on, from the row. -/
theorem gate0_row (H : FVec Ideal S512x1024 .f32) (x5 : Vec Ideal S1x1024 .f32) (x6 : Vec Ideal S2x2816x1024 .bf16) (r : Fin 512) (a : Fin 1024) :
    k0_pay9 (F := Ideal) H x5 (ssq H) (FloatOps.ofBits FTy.f32 0x44800000#32) (View.ld x6 (Rect.unit ![0, 0, 0] ![1, 1024, 1024] inb_S2x2816x1024_S1x1024x1024_0_0_0)) (ix2 r a)
      = gateR (fun k => H (ix2 r k)) x5 x6 ⟨a.val, by omega⟩ := by
  have e : ∀ k, k0_pay8 (F := Ideal) H x5 (ssq H) (FloatOps.ofBits FTy.f32 0x44800000#32) (ix2 r k)
      = normed (fun k => H (ix2 r k)) (fun k => x5 (ix2 0 k)) k := nrmB_at H x5 r
  rw [gate0_at]
  simp only [e]
  rfl

/-- The gate's features from 1024 on, from the row. -/
theorem gate1024_row (H : FVec Ideal S512x1024 .f32) (x5 : Vec Ideal S1x1024 .f32) (x6 : Vec Ideal S2x2816x1024 .bf16) (r : Fin 512) (a : Fin 1024) :
    k0_pay14 (F := Ideal) (nrmB H x5) (View.ld x6 (Rect.unit ![0, 1024, 0] ![1, 1024, 1024] inb_S2x2816x1024_S1x1024x1024_0_1024_0)) (ix2 r a)
      = gateR (fun k => H (ix2 r k)) x5 x6 ⟨1024 + a.val, by omega⟩ :=
  (gate1024_at (nrmB H x5) x6 r a).trans (congrArg (fun f => lin f (fun a k => x6 (ix3 0 a k)) ⟨1024 + a.val, by omega⟩) (funext fun k => nrmB_at H x5 r k))

/-- The gate's features from 2048 on, from the row. -/
theorem gate2048_row (H : FVec Ideal S512x1024 .f32) (x5 : Vec Ideal S1x1024 .f32) (x6 : Vec Ideal S2x2816x1024 .bf16) (r : Fin 512) (a : Fin 768) :
    k0_pay19 (F := Ideal) (nrmB H x5) (View.ld x6 (Rect.unit ![0, 2048, 0] ![1, 768, 1024] inb_S2x2816x1024_S1x768x1024_0_2048_0)) (ix2 r a)
      = gateR (fun k => H (ix2 r k)) x5 x6 ⟨2048 + a.val, by omega⟩ :=
  (gate2048_at (nrmB H x5) x6 r a).trans (congrArg (fun f => lin f (fun a k => x6 (ix3 0 a k)) ⟨2048 + a.val, by omega⟩) (funext fun k => nrmB_at H x5 r k))

/-- The up projection's features from 0 on, from the row. -/
theorem up0_row (H : FVec Ideal S512x1024 .f32) (x5 : Vec Ideal S1x1024 .f32) (x6 : Vec Ideal S2x2816x1024 .bf16) (r : Fin 512) (a : Fin 1024) :
    k0_pay10 (F := Ideal) H x5 (ssq H) (FloatOps.ofBits FTy.f32 0x44800000#32) (View.ld x6 (Rect.unit ![1, 0, 0] ![1, 1024, 1024] inb_S2x2816x1024_S1x1024x1024_1_0_0)) (ix2 r a)
      = upR (fun k => H (ix2 r k)) x5 x6 ⟨a.val, by omega⟩ := by
  have e : ∀ k, k0_pay8 (F := Ideal) H x5 (ssq H) (FloatOps.ofBits FTy.f32 0x44800000#32) (ix2 r k)
      = normed (fun k => H (ix2 r k)) (fun k => x5 (ix2 0 k)) k := nrmB_at H x5 r
  rw [up0_at]
  simp only [e]
  rfl

/-- The up projection's features from 1024 on, from the row. -/
theorem up1024_row (H : FVec Ideal S512x1024 .f32) (x5 : Vec Ideal S1x1024 .f32) (x6 : Vec Ideal S2x2816x1024 .bf16) (r : Fin 512) (a : Fin 1024) :
    k0_pay15 (F := Ideal) (nrmB H x5) (View.ld x6 (Rect.unit ![1, 1024, 0] ![1, 1024, 1024] inb_S2x2816x1024_S1x1024x1024_1_1024_0)) (ix2 r a)
      = upR (fun k => H (ix2 r k)) x5 x6 ⟨1024 + a.val, by omega⟩ :=
  (up1024_at (nrmB H x5) x6 r a).trans (congrArg (fun f => lin f (fun a k => x6 (ix3 1 a k)) ⟨1024 + a.val, by omega⟩) (funext fun k => nrmB_at H x5 r k))

/-- The up projection's features from 2048 on, from the row. -/
theorem up2048_row (H : FVec Ideal S512x1024 .f32) (x5 : Vec Ideal S1x1024 .f32) (x6 : Vec Ideal S2x2816x1024 .bf16) (r : Fin 512) (a : Fin 768) :
    k0_pay20 (F := Ideal) (nrmB H x5) (View.ld x6 (Rect.unit ![1, 2048, 0] ![1, 768, 1024] inb_S2x2816x1024_S1x768x1024_1_2048_0)) (ix2 r a)
      = upR (fun k => H (ix2 r k)) x5 x6 ⟨2048 + a.val, by omega⟩ :=
  (up2048_at (nrmB H x5) x6 r a).trans (congrArg (fun f => lin f (fun a k => x6 (ix3 1 a k)) ⟨2048 + a.val, by omega⟩) (funext fun k => nrmB_at H x5 r k))

section Body

variable (c : Dev nD) (i : grid0.Coords) (a1 : Memref sig .tc .vmem S128x1024 .f32) (h1 : a1.IsWhole)
  (a2 : Memref sig .tc .vmem S128x1024 .f32) (h2 : a2.IsWhole) (a3 : Memref sig .tc .vmem S128x1024 .f32) (h3 : a3.IsWhole)
  (a4 : Memref sig .tc .vmem S128x1024 .f32) (h4 : a4.IsWhole) (a5 : Memref sig .tc .vmem S16x1024 .f32) (h5 : a5.IsWhole)
  (a6 : Memref sig .tc .vmem S1x1024 .f32) (h6 : a6.IsWhole) (a7 : Memref sig .tc .vmem S2x2816x1024 .bf16) (h7 : a7.IsWhole)
  (a8 : Memref sig .tc .vmem S2816x1024 .bf16) (h8 : a8.IsWhole) (a9 : Memref sig .tc .vmem S512x1024 .f32) (h9 : a9.IsWhole)
  (a10 : Memref sig .tc .vmem S512x1024 .bf16) (h10 : a10.IsWhole) (a11 : Memref sig .tc .vmem S512x2816 .bf16) (h11 : a11.IsWhole)
  (a12 : Memref sig .tc .vmem S512x2816 .bf16) (h12 : a12.IsWhole)
  (x0 x1 x2 x3 : Vec Ideal S128x1024 .f32) (x4 : Vec Ideal S16x1024 .f32) (x5 : Vec Ideal S1x1024 .f32)
  (x6 : Vec Ideal S2x2816x1024 .bf16) (x7 : Vec Ideal S2816x1024 .bf16)

/-- The body's assembled rows are the four groups. -/
theorem fold6 : k0_pay6 (F := Ideal) (BitVec.ofNat 32 (i 0).val) (k0_pay3 x4) (k0_pay4 i x4 x0) (k0_pay5 i x4 x1) 4#32 x2 x3
    = four (BitVec.ofNat 32 (i 0).val) x0 x1 x2 x3 x4 := rfl

/-- Their sums of squares. -/
theorem fold7 : k0_pay7 (F := Ideal) (BitVec.ofNat 32 (i 0).val) (k0_pay3 x4) (k0_pay4 i x4 x0) (k0_pay5 i x4 x1) 4#32 x2 x3
    = ssq (four (BitVec.ofNat 32 (i 0).val) x0 x1 x2 x3 x4) := rfl

/-- The rows after the block. -/
theorem out_A (j : S512x1024.Idx) :
    out0_A_8 (F := Ideal) c i a1 h1 a2 h2 a3 h3 a4 h4 a5 h5 a6 h6 a7 h7 a8 h8 a9 h9 a10 h10 a11 h11 a12 h12 x0 x1 x2 x3 x4 x5 x6 x7 j
      = hout (fun k => four (BitVec.ofNat 32 (i 0).val) x0 x1 x2 x3 x4 (ix2 (j 0) k)) (gateR (fun k => four (BitVec.ofNat 32 (i 0).val) x0 x1 x2 x3 x4 (ix2 (j 0) k)) x5 x6)
          (upR (fun k => four (BitVec.ofNat 32 (i 0).val) x0 x1 x2 x3 x4 (ix2 (j 0) k)) x5 x6) (fun a j => x7 (ix2 a j)) (j 1) := by
  frame_out
  rw [fold6, fold7]
  generalize four (BitVec.ofNat 32 (i 0).val) x0 x1 x2 x3 x4 = H
  idx_vars j
  exact HO_at H x5 x6 x7 j0 j1

/-- The normed rows. -/
theorem nrm_A (j : S512x1024.Idx) :
    out0_A_9 (F := Ideal) c i a1 h1 a2 h2 a3 h3 a4 h4 a5 h5 a6 h6 a7 h7 a8 h8 a9 h9 a10 h10 a11 h11 a12 h12 x0 x1 x2 x3 x4 x5 x6 x7 j
      = normed (fun k => four (BitVec.ofNat 32 (i 0).val) x0 x1 x2 x3 x4 (ix2 (j 0) k)) (fun k => x5 (ix2 0 k)) (j 1) := by
  frame_out
  rw [fold6, fold7]
  generalize four (BitVec.ofNat 32 (i 0).val) x0 x1 x2 x3 x4 = H
  idx_vars j
  exact nrmB_at H x5 j0 j1

/-- The gate. -/
theorem gate_A (j : S512x2816.Idx) :
    out0_A_10 (F := Ideal) c i a1 h1 a2 h2 a3 h3 a4 h4 a5 h5 a6 h6 a7 h7 a8 h8 a9 h9 a10 h10 a11 h11 a12 h12 x0 x1 x2 x3 x4 x5 x6 x7 j
      = gateR (fun k => four (BitVec.ofNat 32 (i 0).val) x0 x1 x2 x3 x4 (ix2 (j 0) k)) x5 x6 (j 1) := by
  frame_out
  rw [fold6, fold7]
  generalize four (BitVec.ofNat 32 (i 0).val) x0 x1 x2 x3 x4 = H
  refine View.canon_append_of_piecesOf (Val := Elt Ideal) (e := .bf16) (fun j => gateR (fun k => H (ix2 (j 0) k)) x5 x6 (j 1)) []
    [_, _, _] ⟨?_, ?_, ?_, trivial⟩ j (View.cover_of_tiledBy _ ![512, 256] (by sl_kernel_rfl) j)
  · intro y
    idx_vars y
    refine (gate2048_row H x5 x6 y0 y1).trans ?_
    refine congr (congrArg (fun r => gateR (fun k => H (ix2 r k)) x5 x6) (Fin.ext ?_)) (Fin.ext ?_) <;> simp
  · intro y
    idx_vars y
    refine (gate1024_row H x5 x6 y0 y1).trans ?_
    refine congr (congrArg (fun r => gateR (fun k => H (ix2 r k)) x5 x6) (Fin.ext ?_)) (Fin.ext ?_) <;> simp
  · intro y
    idx_vars y
    refine (gate0_row H x5 x6 y0 y1).trans ?_
    refine congr (congrArg (fun r => gateR (fun k => H (ix2 r k)) x5 x6) (Fin.ext ?_)) (Fin.ext ?_) <;> simp

/-- The up projection. -/
theorem up_A (j : S512x2816.Idx) :
    out0_A_11 (F := Ideal) c i a1 h1 a2 h2 a3 h3 a4 h4 a5 h5 a6 h6 a7 h7 a8 h8 a9 h9 a10 h10 a11 h11 a12 h12 x0 x1 x2 x3 x4 x5 x6 x7 j
      = upR (fun k => four (BitVec.ofNat 32 (i 0).val) x0 x1 x2 x3 x4 (ix2 (j 0) k)) x5 x6 (j 1) := by
  frame_out
  rw [fold6, fold7]
  generalize four (BitVec.ofNat 32 (i 0).val) x0 x1 x2 x3 x4 = H
  refine View.canon_append_of_piecesOf (Val := Elt Ideal) (e := .bf16) (fun j => upR (fun k => H (ix2 (j 0) k)) x5 x6 (j 1)) []
    [_, _, _] ⟨?_, ?_, ?_, trivial⟩ j (View.cover_of_tiledBy _ ![512, 256] (by sl_kernel_rfl) j)
  · intro y
    idx_vars y
    refine (up2048_row H x5 x6 y0 y1).trans ?_
    refine congr (congrArg (fun r => upR (fun k => H (ix2 r k)) x5 x6) (Fin.ext ?_)) (Fin.ext ?_) <;> simp
  · intro y
    idx_vars y
    refine (up1024_row H x5 x6 y0 y1).trans ?_
    refine congr (congrArg (fun r => upR (fun k => H (ix2 r k)) x5 x6) (Fin.ext ?_)) (Fin.ext ?_) <;> simp
  · intro y
    idx_vars y
    refine (up0_row H x5 x6 y0 y1).trans ?_
    refine congr (congrArg (fun r => upR (fun k => H (ix2 r k)) x5 x6) (Fin.ext ?_)) (Fin.ext ?_) <;> simp

end Body

end Cert.FirstffnIdeal.Hand
-- ==== Proof.FirstffnValue.lean ====
/-
  What the kernel of the first feed-forward block leaves in its four result arrays.
-/
module

public import proofs.«01_k».proof.Proof.FirstffnBlock
public import proofs.«01_k».proof.Proof.FirstMath

@[expose] public section

set_option maxRecDepth 16384

noncomputable section

namespace Cert.FirstffnIdeal.Hand

open Cert.FirstffnIdeal Cert.FirstffnIdeal.Gen Idealize.ShloMosaic Idealize.ShloMosaic.TcCoe Idealize.SL.Sem
open Idealize.ShloMosaic.Pipeline (Dat)
open Cert.NormMath Cert.FirstMath Cert.FfnMath
open Cert.InprojMath (normed)

variable (m : (ℓ : Loc nD τ sig) → Buf (Elt Ideal) ℓ) (c : Dev nD)

/-- The tokens. -/
abbrev arg0 : Vec Ideal S8192x1024 .f32 := m ((c.tc : Thread nD τ).loc main_arg0)
/-- The meta rows. -/
abbrev arg1 : Vec Ideal S16x1024 .f32 := m ((c.tc : Thread nD τ).loc main_arg1)
/-- The gain. -/
abbrev arg2 : Vec Ideal S1x1024 .f32 := m ((c.tc : Thread nD τ).loc main_arg2)
/-- The gate's and the up projection's weights. -/
abbrev arg3 : Vec Ideal S2x2816x1024 .bf16 := m ((c.tc : Thread nD τ).loc main_arg3)
/-- The down projection's weights. -/
abbrev arg4 : Vec Ideal S2816x1024 .bf16 := m ((c.tc : Thread nD τ).loc main_arg4)

/-- Row `r` that the block starts from. -/
def hrow (r : Fin 8704) : Fin 1024 → EReal := asm (fun q k => arg0 m c (ix2 q k)) (fun q k => arg1 m c (ix2 q k)) r

/-- The rows after the block. -/
def out : S8704x1024.Idx → EReal := fun j => hout (hrow m c (j 0)) (gateR (hrow m c (j 0)) (arg2 m c) (arg3 m c))
  (upR (hrow m c (j 0)) (arg2 m c) (arg3 m c)) (fun a k => arg4 m c (ix2 a k)) (j 1)
/-- The normed rows. -/
def nrm : S8704x1024.Idx → EReal := fun j => normed (hrow m c (j 0)) (fun k => arg2 m c (ix2 0 k)) (j 1)
/-- The gate. -/
def gate : S8704x2816.Idx → EReal := fun j => gateR (hrow m c (j 0)) (arg2 m c) (arg3 m c) (j 1)
/-- The up projection. -/
def up : S8704x2816.Idx → EReal := fun j => upR (hrow m c (j 0)) (arg2 m c) (arg3 m c) (j 1)

/-- Which blocks a point reads and writes. -/
theorem idx : ∀ t : Fin cfg0.N, win0_0.index t = ![(4 * t.val) / 17 * 16 + max ((4 * t.val) % 17) 1 - 1, 0]
    ∧ win0_1.index t = ![(4 * t.val + 1) / 17 * 16 + max ((4 * t.val + 1) % 17) 1 - 1, 0]
    ∧ win0_2.index t = ![(4 * t.val + 2) / 17 * 16 + max ((4 * t.val + 2) % 17) 1 - 1, 0]
    ∧ win0_3.index t = ![(4 * t.val + 3) / 17 * 16 + max ((4 * t.val + 3) % 17) 1 - 1, 0]
    ∧ win0_4.index t = ![0, 0] ∧ win0_5.index t = ![0, 0] ∧ win0_6.index t = ![0, 0, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

/-- A point's test of its group `k`. -/
theorem bits : ∀ t : Fin cfg0.N, ∀ k : Fin 4, tst (BitVec.ofNat 32 (grid0.coords t 0).val) (BitVec.ofNat 32 k.val)
    = if (4 * t.val + k.val) % 17 = 0 then 1 else 0 :=
  (by decide +kernel : ∀ t : Fin grid0.N, _)

/-- There are seventeen points. -/
theorem tlt (t : Fin cfg0.N) : t.val < 17 := lt_of_lt_of_eq t.isLt N_0

/-- Row `r` of block `t` is row `512 t + r`. -/
def at_ (t : Fin cfg0.N) (r : Fin 512) : Fin 8704 := ⟨512 * t.val + r.val, by
  have h := tlt t
  omega⟩

/-- The meta rows' block. -/
theorem meta_blk (t : Fin cfg0.N) (q : Fin 16) (k : Fin 1024) :
    (iblk m c 4 t : Vec Ideal S16x1024 .f32) (ix2 q k) = arg1 m c (ix2 q k) := by
  blk_point [iblk, V, idx t]

/-- A group of a block, row by row, from its tokens. -/
theorem seg_blk (t : Fin cfg0.N) (g : Fin 4) (X : Vec Ideal S128x1024 .f32)
    (hX : ∀ (p : Fin 128) (k : Fin 1024), X (ix2 p k)
      = arg0 m c (ix2 ⟨((4 * t.val + g.val) / 17 * 16 + max ((4 * t.val + g.val) % 17) 1 - 1) * 128 + p.val, by have h := tlt t; omega⟩ k))
    (p : Fin 128) (j : Fin 1024) (r : Fin 8704) (e : r.val = 512 * t.val + 128 * g.val + p.val) :
    segRow (BitVec.ofNat 32 (grid0.coords t 0).val) (BitVec.ofNat 32 g.val) (iblk m c 4 t) X p j = hrow m c r j := by
  have h := tlt t
  have hp := p.isLt
  have hg := g.isLt
  have b : tst (BitVec.ofNat 32 (grid0.coords t 0).val) (BitVec.ofNat 32 g.val) = if (4 * t.val + g.val) % 17 = 0 then 1 else 0 := bits t g
  unfold segRow hrow
  by_cases hl : (4 * t.val + g.val) % 17 = 0
  · rw [b, if_pos hl, if_pos rfl]
    unfold leadRow
    by_cases hz : p.val < 112
    · rw [dif_pos hz]
      exact (asm_zero (fun q k => arg0 m c (ix2 q k)) (fun q k => arg1 m c (ix2 q k)) r j (by omega)).symm
    · rw [dif_neg hz]
      refine (meta_blk m c t _ j).trans (asm_meta (fun q k => arg0 m c (ix2 q k)) (fun q k => arg1 m c (ix2 q k)) r j ⟨p.val - 112, by omega⟩ ?_).symm
      dsimp only
      omega
  · rw [b, if_neg hl, if_neg (by decide)]
    refine (hX p j).trans (asm_tok (fun q k => arg0 m c (ix2 q k)) (fun q k => arg1 m c (ix2 q k)) r j ⟨((4 * t.val + g.val) / 17 * 16 + max ((4 * t.val + g.val) % 17) 1 - 1) * 128 + p.val, by omega⟩ ?_ ?_).symm
    · omega
    · dsimp only
      omega

/-- The tokens of group 0. -/
theorem tok_blk0 (t : Fin cfg0.N) (p : Fin 128) (k : Fin 1024) :
    (iblk m c 0 t : Vec Ideal S128x1024 .f32) (ix2 p k)
      = arg0 m c (ix2 ⟨((4 * t.val) / 17 * 16 + max ((4 * t.val) % 17) 1 - 1) * 128 + p.val, by have h := tlt t; omega⟩ k) := by
  have h := tlt t
  blk_point [iblk, V, idx t]

/-- The tokens of group 1. -/
theorem tok_blk1 (t : Fin cfg0.N) (p : Fin 128) (k : Fin 1024) :
    (iblk m c 1 t : Vec Ideal S128x1024 .f32) (ix2 p k)
      = arg0 m c (ix2 ⟨((4 * t.val + 1) / 17 * 16 + max ((4 * t.val + 1) % 17) 1 - 1) * 128 + p.val, by have h := tlt t; omega⟩ k) := by
  have h := tlt t
  blk_point [iblk, V, idx t]

/-- The tokens of group 2. -/
theorem tok_blk2 (t : Fin cfg0.N) (p : Fin 128) (k : Fin 1024) :
    (iblk m c 2 t : Vec Ideal S128x1024 .f32) (ix2 p k)
      = arg0 m c (ix2 ⟨((4 * t.val + 2) / 17 * 16 + max ((4 * t.val + 2) % 17) 1 - 1) * 128 + p.val, by have h := tlt t; omega⟩ k) := by
  have h := tlt t
  blk_point [iblk, V, idx t]

/-- The tokens of group 3. -/
theorem tok_blk3 (t : Fin cfg0.N) (p : Fin 128) (k : Fin 1024) :
    (iblk m c 3 t : Vec Ideal S128x1024 .f32) (ix2 p k)
      = arg0 m c (ix2 ⟨((4 * t.val + 3) / 17 * 16 + max ((4 * t.val + 3) % 17) 1 - 1) * 128 + p.val, by have h := tlt t; omega⟩ k) := by
  have h := tlt t
  blk_point [iblk, V, idx t]

/-- A block's row of the norm's argument. -/
theorem row_blk (t : Fin cfg0.N) (r : Fin 512) :
    (fun k => four (BitVec.ofNat 32 (grid0.coords t 0).val) (iblk m c 0 t) (iblk m c 1 t) (iblk m c 2 t) (iblk m c 3 t) (iblk m c 4 t) (ix2 r k))
      = hrow m c (at_ t r) := by
  have h := tlt t
  have hr := r.isLt
  funext j
  rw [four_at]
  unfold fourRow
  by_cases h0 : r.val < 128
  · rw [dif_pos h0]
    exact seg_blk m c t 0 _ (tok_blk0 m c t) _ j _ (by have e : (0 : Fin 4).val = 0 := rfl; simp only [at_]; omega)
  rw [dif_neg h0]
  by_cases h1 : r.val < 256
  · rw [dif_pos h1]
    exact seg_blk m c t 1 _ (tok_blk1 m c t) _ j _ (by have e : (1 : Fin 4).val = 1 := rfl; simp only [at_]; omega)
  rw [dif_neg h1]
  by_cases h2 : r.val < 384
  · rw [dif_pos h2]
    exact seg_blk m c t 2 _ (tok_blk2 m c t) _ j _ (by have e : (2 : Fin 4).val = 2 := rfl; simp only [at_]; omega)
  rw [dif_neg h2]
  exact seg_blk m c t 3 _ (tok_blk3 m c t) _ j _ (by have e : (3 : Fin 4).val = 3 := rfl; simp only [at_]; omega)

/-- The gain's block is the gain. -/
theorem gain_blk (t : Fin cfg0.N) : (fun k => (iblk m c 5 t : Vec Ideal S1x1024 .f32) (ix2 0 k)) = fun k => arg2 m c (ix2 0 k) := by
  funext k
  blk_point [iblk, V, idx t]

/-- The gate's weights. -/
theorem wg_blk (t : Fin cfg0.N) : (fun a k => (iblk m c 6 t : Vec Ideal S2x2816x1024 .bf16) (ix3 0 a k)) = fun (a : Fin 2816) (k : Fin 1024) => arg3 m c (ix3 0 a k) := by
  funext a k
  blk_point [iblk, V, idx t]

/-- The up projection's weights. -/
theorem wu_blk (t : Fin cfg0.N) : (fun a k => (iblk m c 6 t : Vec Ideal S2x2816x1024 .bf16) (ix3 1 a k)) = fun (a : Fin 2816) (k : Fin 1024) => arg3 m c (ix3 1 a k) := by
  funext a k
  blk_point [iblk, V, idx t]

/-- The down projection's weights. -/
theorem wd_blk (t : Fin cfg0.N) : (fun a k => (iblk m c 7 t : Vec Ideal S2816x1024 .bf16) (ix2 a k)) = fun (a : Fin 2816) (k : Fin 1024) => arg4 m c (ix2 a k) := by
  funext a k
  blk_point [iblk, V, idx t]

/-- A block's row of the normed rows. -/
theorem nrm_blk (t : Fin cfg0.N) (r : Fin 512) :
    normed (fun k => four (BitVec.ofNat 32 (grid0.coords t 0).val) (iblk m c 0 t) (iblk m c 1 t) (iblk m c 2 t) (iblk m c 3 t) (iblk m c 4 t) (ix2 r k))
      (fun k => (iblk m c 5 t : Vec Ideal S1x1024 .f32) (ix2 0 k)) = normed (hrow m c (at_ t r)) fun k => arg2 m c (ix2 0 k) :=
  congr (congrArg normed (row_blk m c t r)) (gain_blk m c t)

/-- A block's row of the gate. -/
theorem gate_blk (t : Fin cfg0.N) (r : Fin 512) :
    gateR (fun k => four (BitVec.ofNat 32 (grid0.coords t 0).val) (iblk m c 0 t) (iblk m c 1 t) (iblk m c 2 t) (iblk m c 3 t) (iblk m c 4 t) (ix2 r k))
      (iblk m c 5 t) (iblk m c 6 t) = gateR (hrow m c (at_ t r)) (arg2 m c) (arg3 m c) :=
  show lin _ _ = lin _ _ from congrArg₂ lin (nrm_blk m c t r) (wg_blk m c t)

/-- A block's row of the up projection. -/
theorem up_blk (t : Fin cfg0.N) (r : Fin 512) :
    upR (fun k => four (BitVec.ofNat 32 (grid0.coords t 0).val) (iblk m c 0 t) (iblk m c 1 t) (iblk m c 2 t) (iblk m c 3 t) (iblk m c 4 t) (ix2 r k))
      (iblk m c 5 t) (iblk m c 6 t) = upR (hrow m c (at_ t r)) (arg2 m c) (arg3 m c) :=
  show lin _ _ = lin _ _ from congrArg₂ lin (nrm_blk m c t r) (wu_blk m c t)

/-- What a point leaves of the first result. -/
theorem out_at (t : Fin cfg0.N) (y : S512x1024.Idx) : (outsAt0 m c t).1 y = out m c (ix2 (at_ t (y 0)) (y 1)) := by
  unfold outsAt0
  dsimp only
  rw [out_A]
  exact congrFun (congr (congr (congr (congrArg hout (row_blk m c t (y 0))) (gate_blk m c t (y 0))) (up_blk m c t (y 0))) (wd_blk m c t)) (y 1)

/-- The first array. -/
theorem out_eq : (dats m 0 c).arrAt 8 cfg0.N = out m c := by
  refine (dats m 0 c).arrAt_eq_of_covers 8 _ (by decide +kernel) fun t hf y => ?_
  blk_simp
  rw [after0_8]
  refine (out_at m c t y).trans (congrArg (out m c) ?_)
  simp only [at_]
  blk_ext [idx t]

/-- What a point leaves of the second result. -/
theorem nrm_at (t : Fin cfg0.N) (y : S512x1024.Idx) : (outsAt0 m c t).2.1 y = nrm m c (ix2 (at_ t (y 0)) (y 1)) := by
  unfold outsAt0
  dsimp only
  rw [nrm_A]
  exact congrFun (nrm_blk m c t (y 0)) (y 1)

/-- The second array. -/
theorem nrm_eq : (dats m 0 c).arrAt 9 cfg0.N = nrm m c := by
  refine (dats m 0 c).arrAt_eq_of_covers 9 _ (by decide +kernel) fun t hf y => ?_
  blk_simp
  rw [after0_9]
  refine (nrm_at m c t y).trans (congrArg (nrm m c) ?_)
  simp only [at_]
  blk_ext [idx t]

/-- What a point leaves of the third result. -/
theorem gate_at (t : Fin cfg0.N) (y : S512x2816.Idx) : (outsAt0 m c t).2.2.1 y = gate m c (ix2 (at_ t (y 0)) (y 1)) := by
  unfold outsAt0
  dsimp only
  rw [gate_A]
  exact congrFun (gate_blk m c t (y 0)) (y 1)

/-- The third array. -/
theorem gate_eq : (dats m 0 c).arrAt 10 cfg0.N = gate m c := by
  refine (dats m 0 c).arrAt_eq_of_covers 10 _ (by decide +kernel) fun t hf y => ?_
  blk_simp
  rw [after0_10]
  refine (gate_at m c t y).trans (congrArg (gate m c) ?_)
  simp only [at_]
  blk_ext [idx t]

/-- What a point leaves of the fourth result. -/
theorem up_at (t : Fin cfg0.N) (y : S512x2816.Idx) : (outsAt0 m c t).2.2.2 y = up m c (ix2 (at_ t (y 0)) (y 1)) := by
  unfold outsAt0
  dsimp only
  rw [up_A]
  exact congrFun (up_blk m c t (y 0)) (y 1)

/-- The fourth array. -/
theorem up_eq : (dats m 0 c).arrAt 11 cfg0.N = up m c := by
  refine (dats m 0 c).arrAt_eq_of_covers 11 _ (by decide +kernel) fun t hf y => ?_
  blk_simp
  rw [after0_11]
  refine (up_at m c t y).trans (congrArg (up m c) ?_)
  simp only [at_]
  blk_ext [idx t]

end Cert.FirstffnIdeal.Hand
-- ==== Proof.FirstffnRef.lean ====
/-
  What the reference of the first feed-forward block leaves.
-/
module

public import proofs.«01_k».proof.Proof.Gen.FirstffnReferenceIdeal.Run
public import proofs.«01_k».proof.Proof.FirstMath
public import proofs.«01_k».proof.Proof.FfnMath
public import Idealize.ShloMosaic.Lib.Pipeline.ValueKit
public import Idealize.ShloMosaic.Lib.Pointwise

@[expose] public section

set_option maxRecDepth 16384

noncomputable section

namespace Cert.FirstffnReferenceIdeal.Hand

open Cert.FirstffnReferenceIdeal Cert.FirstffnReferenceIdeal.Gen Idealize.ShloMosaic Idealize.ShloMosaic.TcCoe Idealize.SL.Sem
open Cert.NormMath Cert.FirstMath Cert.FfnMath Cert.ActMath
open Cert.InprojMath (normed)

/-- The assembled rows. -/
def toksA (x : Vec Ideal S8192x1024 .f32) (mt : Vec Ideal S16x1024 .f32) : Vec Ideal S8704x1024 .f32 := fun j =>
  asm (fun q k => x (ix2 q k)) (fun q k => mt (ix2 q k)) (j 0) (j 1)

/-- They are what the reference assembles. -/
theorem toks (x : Vec Ideal S8192x1024 .f32) (mt : Vec Ideal S16x1024 .f32) :
    (shapeCast S8704x1024 (concatenate S4x2176x1024 1 [⟨S4x128x1024, (broadcastInDim S4x128x1024 ![1, 2] bcast_S128x1024_S4x128x1024_1_2
        (concatenate S128x1024 0 [⟨S112x1024, (broadcastInDim S112x1024 ![] bcast_S_S112x1024 (constant S_ .f32 0x00000000#32))⟩,
          ⟨S16x1024, mt⟩] concatenates_S112x1024_S16x1024_S128x1024_d0))⟩,
        ⟨S4x2048x1024, (shapeCast _ x shapeCasts_S8192x1024_S4x2048x1024)⟩] concatenates_S4x128x1024_S4x2048x1024_S4x2176x1024_d1)
        shapeCasts_S4x2176x1024_S8704x1024 : FVec Ideal S8704x1024 .f32) = toksA x mt := by
  funext j
  idx_vars j
  by_cases h : j0.val % 2176 < 112
  · have h' : j0.val % 2176 < 128 := by omega
    pointwise [toksA, asm, h, h']
  · by_cases h' : j0.val % 2176 < 128
    · pointwise [toksA, asm, h, h']
    · pointwise [toksA, asm, h, h']

/-- The rows, normed. -/
def normedA (a0 : FVec Ideal S8704x1024 .f32) (a1 : FVec Ideal S1x1024 .f32) : FVec Ideal S8704x1024 .f32 :=
  (mulf (mulf a0 (broadcastInDim S8704x1024 ![0, 1] bcast_S8704x1_S8704x1024_0_1 (Host.rsqrt (addf (Host.divf (broadcastInDim S8704x1 ![0] bcast_S8704_S8704x1_0 (Host.reduceAdd (mulf a0 a0) (constant S_ .f32 0x00000000#32) reducesTo_S8704x1024_S8704_d1 h_S_)) (broadcastInDim S8704x1 ![] bcast_S_S8704x1 (constant S_ .f32 0x44800000#32))) (broadcastInDim S8704x1 ![] bcast_S_S8704x1 (constant S_ .f32 0x358637BD#32)))))) (broadcastInDim S8704x1024 ![0, 1] bcast_S1x1024_S8704x1024_0_1 a1))

/-- The gate of normed rows. -/
def gateA (N : FVec Ideal S8704x1024 .f32) (a2 : FVec Ideal S2x2816x1024 .bf16) : FVec Ideal S8704x2816 .f32 :=
  (extractStridedSlice S8704x2816 ![0, 0] (Host.dotGeneral dot_S8704x1024_S1024x5632_S8704x5632_1_0_0_1_n_n none N (transpose S1024x5632 [1, 0] (shapeCast _ (extf .f32 a2 bitsLt_bf16_f32) shapeCasts_S2x2816x1024_S5632x1024) transposes_S5632x1024_S1024x5632_1_0)) slices_S8704x5632_S8704x2816_0_0)

/-- The up projection of normed rows. -/
def upA (N : FVec Ideal S8704x1024 .f32) (a2 : FVec Ideal S2x2816x1024 .bf16) : FVec Ideal S8704x2816 .f32 :=
  (extractStridedSlice S8704x2816 ![0, 2816] (Host.dotGeneral dot_S8704x1024_S1024x5632_S8704x5632_1_0_0_1_n_n none N (transpose S1024x5632 [1, 0] (shapeCast _ (extf .f32 a2 bitsLt_bf16_f32) shapeCasts_S2x2816x1024_S5632x1024) transposes_S5632x1024_S1024x5632_1_0)) slices_S8704x5632_S8704x2816_0_2816)

/-- The rows after the block. -/
def blockA (a0 : FVec Ideal S8704x1024 .f32) (G U : FVec Ideal S8704x2816 .f32) (a3 : FVec Ideal S2816x1024 .bf16) :
    FVec Ideal S8704x1024 .f32 :=
  (addf a0 (mulf (broadcastInDim S8704x1024 ![] bcast_S_S8704x1024 (constant S_ .f32 0x3F000000#32)) (Host.dotGeneral dot_S8704x2816_S2816x1024_S8704x1024_1_0_0_1_n_n none (mulf (mulf G (Host.divf (broadcastInDim S8704x2816 ![] bcast_S_S8704x2816 (constant S_ .f32 0x3F800000#32)) (addf (broadcastInDim S8704x2816 ![] bcast_S_S8704x2816 (constant S_ .f32 0x3F800000#32)) (Host.exp (Host.negf G))))) U) (extf .f32 a3 bitsLt_bf16_f32))))

/-- One entry of the normed rows. -/
theorem normedA_at (a0 : FVec Ideal S8704x1024 .f32) (a1 : FVec Ideal S1x1024 .f32) (r : Fin 8704) (k : Fin 1024) :
    normedA a0 a1 (ix2 r k) = normed (fun k => a0 (ix2 r k)) (fun k => a1 (ix2 0 k)) k := by
  unfold normedA
  pointwise [normed, root, meanSq]

/-- One entry of the gate: the first half of the weights. -/
theorem gateA_at (N : FVec Ideal S8704x1024 .f32) (a2 : FVec Ideal S2x2816x1024 .bf16) (r : Fin 8704) (a : Fin 2816) :
    gateA N a2 (ix2 r a) = lin (fun k => N (ix2 r k)) (fun a k => a2 (ix3 0 a k)) a := by
  unfold gateA
  pointwise [lin]
  refine Finset.sum_congr rfl fun x _ => congrArg (HMul.hMul (_ : EReal)) (congrArg a2 (funext fun i => ?_))
  have ha := a.isLt
  fin_cases i
  · exact Fin.ext (show a.val / 2816 = 0 by omega)
  · exact Fin.ext (show a.val % 2816 = a.val by omega)
  · rfl

/-- One entry of the up projection: the second half of the weights. -/
theorem upA_at (N : FVec Ideal S8704x1024 .f32) (a2 : FVec Ideal S2x2816x1024 .bf16) (r : Fin 8704) (a : Fin 2816) :
    upA N a2 (ix2 r a) = lin (fun k => N (ix2 r k)) (fun a k => a2 (ix3 1 a k)) a := by
  unfold upA
  pointwise [lin]
  refine Finset.sum_congr rfl fun x _ => congrArg (HMul.hMul (_ : EReal)) (congrArg a2 (funext fun i => ?_))
  have ha := a.isLt
  fin_cases i
  · exact Fin.ext (show (2816 + a.val) / 2816 = 1 by omega)
  · exact Fin.ext (show a.val = a.val by omega)
  · rfl

/-- One entry of the rows after the block. -/
theorem blockA_at (a0 : FVec Ideal S8704x1024 .f32) (G U : FVec Ideal S8704x2816 .f32) (a3 : FVec Ideal S2816x1024 .bf16)
    (r : Fin 8704) (j : Fin 1024) : blockA a0 G U a3 (ix2 r j)
    = hout (fun k => a0 (ix2 r k)) (fun a => G (ix2 r a)) (fun a => U (ix2 r a)) (fun a k => a3 (ix2 a k)) j := by
  unfold blockA
  pointwise [hout, hid, sgm, zero_sub]

/-- The assembled rows, as the reference writes them. -/
def asmA (x : Vec Ideal S8192x1024 .f32) (mt : Vec Ideal S16x1024 .f32) : FVec Ideal S8704x1024 .f32 :=
  shapeCast S8704x1024 (concatenate S4x2176x1024 1 [⟨S4x128x1024, (broadcastInDim S4x128x1024 ![1, 2] bcast_S128x1024_S4x128x1024_1_2
        (concatenate S128x1024 0 [⟨S112x1024, (broadcastInDim S112x1024 ![] bcast_S_S112x1024 (constant S_ .f32 0x00000000#32))⟩,
          ⟨S16x1024, mt⟩] concatenates_S112x1024_S16x1024_S128x1024_d0))⟩,
        ⟨S4x2048x1024, (shapeCast _ x shapeCasts_S8192x1024_S4x2048x1024)⟩] concatenates_S4x128x1024_S4x2048x1024_S4x2176x1024_d1)
        shapeCasts_S4x2176x1024_S8704x1024

section Results

variable (m : (ℓ : Loc nD τ sig) → Buf (Elt Ideal) ℓ) (c : Dev nD)

/-- The tokens. -/
abbrev arg0 : Vec Ideal S8192x1024 .f32 := m ((c.tc : Thread nD τ).loc main_arg0)
/-- The meta rows. -/
abbrev arg1 : Vec Ideal S16x1024 .f32 := m ((c.tc : Thread nD τ).loc main_arg1)
/-- The gain. -/
abbrev arg2 : Vec Ideal S1x1024 .f32 := m ((c.tc : Thread nD τ).loc main_arg2)
/-- The gate's and the up projection's weights. -/
abbrev arg3 : Vec Ideal S2x2816x1024 .bf16 := m ((c.tc : Thread nD τ).loc main_arg3)
/-- The down projection's weights. -/
abbrev arg4 : Vec Ideal S2816x1024 .bf16 := m ((c.tc : Thread nD τ).loc main_arg4)

/-- The first result in these terms. -/
theorem v30_def : Value.res_main_v30 m c = blockA (asmA (arg0 m c) (arg1 m c)) (gateA (normedA (asmA (arg0 m c) (arg1 m c)) (arg2 m c)) (arg3 m c))
    (upA (normedA (asmA (arg0 m c) (arg1 m c)) (arg2 m c)) (arg3 m c)) (arg4 m c) := by
  unfold Value.res_main_v30
  rfl

end Results

end Cert.FirstffnReferenceIdeal.Hand
-- ==== Proof.Firstffn.lean ====
/-
  The first feed-forward block: the kernel's and the reference's are one.
-/
module

public import proofs.«01_k».proof.Defs
public import proofs.«01_k».proof.Proof.FirstffnValue
public import proofs.«01_k».proof.Proof.FirstffnRef

@[expose] public section

set_option maxRecDepth 16384

noncomputable section

namespace Cert.FirstffnClaim

open Cert.FirstMath Cert.FfnMath Idealize.ShloMosaic Idealize.ShloMosaic.TcCoe Idealize.SL.Sem
open Cert.InprojMath (normed)
open Cert.FirstffnReferenceIdeal (S8192x1024 S16x1024 S1x1024 S2x2816x1024 S2816x1024)
open Cert.FirstffnReferenceIdeal.Hand (asmA toks normedA gateA upA blockA normedA_at gateA_at upA_at blockA_at)
open Cert.FirstffnIdeal.Hand (gateR upR)

section Rows

variable (x : Vec Ideal S8192x1024 .f32) (mt : Vec Ideal S16x1024 .f32) (g : Vec Ideal S1x1024 .f32)
  (w : Vec Ideal S2x2816x1024 .bf16) (d : Vec Ideal S2816x1024 .bf16) (r : Fin 8704)

/-- An assembled row. -/
theorem asm_at : (fun k => asmA x mt (ix2 r k)) = asm (fun q k => x (ix2 q k)) (fun q k => mt (ix2 q k)) r :=
  funext fun k => congrFun (toks x mt) (ix2 r k)

/-- A normed row. -/
theorem nrm_at : (fun k => normedA (asmA x mt) g (ix2 r k)) = normed (asm (fun q k => x (ix2 q k)) (fun q k => mt (ix2 q k)) r) (fun k => g (ix2 0 k)) := by
  funext k
  rw [normedA_at, asm_at]

/-- A row of the gate. -/
theorem gate_at : (fun a => gateA (normedA (asmA x mt) g) w (ix2 r a)) = gateR (asm (fun q k => x (ix2 q k)) (fun q k => mt (ix2 q k)) r) g w := by
  funext a
  rw [gateA_at, nrm_at]
  rfl

/-- A row of the up projection. -/
theorem up_at : (fun a => upA (normedA (asmA x mt) g) w (ix2 r a)) = upR (asm (fun q k => x (ix2 q k)) (fun q k => mt (ix2 q k)) r) g w := by
  funext a
  rw [upA_at, nrm_at]
  rfl

/-- A row after the block. -/
theorem out_at (j : Fin 1024) : blockA (asmA x mt) (gateA (normedA (asmA x mt) g) w) (upA (normedA (asmA x mt) g) w) d (ix2 r j)
    = hout (asm (fun q k => x (ix2 q k)) (fun q k => mt (ix2 q k)) r) (gateR (asm (fun q k => x (ix2 q k)) (fun q k => mt (ix2 q k)) r) g w)
      (upR (asm (fun q k => x (ix2 q k)) (fun q k => mt (ix2 q k)) r) g w) (fun a k => d (ix2 a k)) j := by
  rw [blockA_at, asm_at, gate_at, up_at]

end Rows

/-- The two programs end with the same four results. -/
theorem algebraic : Cert.algebraic_FirstffnIdeal_FirstffnReferenceIdeal := fun m ρ m' ρ' _ hag =>
  ⟨fun c => Cert.FirstffnIdeal.Hand.out m c, fun c => Cert.FirstffnIdeal.Hand.nrm m c, fun c => Cert.FirstffnIdeal.Hand.gate m c,
    fun c => Cert.FirstffnIdeal.Hand.up m c,
    (θ_run _ _ _).mono (fun _ h c => ⟨(h c).1.trans (Cert.FirstffnIdeal.Hand.out_eq m c),
      (h c).2.1.trans (Cert.FirstffnIdeal.Hand.nrm_eq m c), (h c).2.2.1.trans (Cert.FirstffnIdeal.Hand.gate_eq m c),
      (h c).2.2.2.1.trans (Cert.FirstffnIdeal.Hand.up_eq m c), (h c).2.2.2.2⟩) (Cert.FirstffnIdeal.Value.run_blocks m ρ),
    (θ_run _ _ _).mono (fun _ h c => ⟨
      (h c).1.trans ((Cert.FirstffnReferenceIdeal.Hand.v30_def m' c).trans (by
        unfold Cert.FirstffnReferenceIdeal.Hand.arg0 Cert.FirstffnReferenceIdeal.Hand.arg1
          Cert.FirstffnReferenceIdeal.Hand.arg2 Cert.FirstffnReferenceIdeal.Hand.arg3 Cert.FirstffnReferenceIdeal.Hand.arg4
        rw [(hag c).1, (hag c).2.1, (hag c).2.2.1, (hag c).2.2.2.1, (hag c).2.2.2.2]
        funext j
        idx_vars j
        exact out_at _ _ _ _ _ j0 j1)),
      (h c).2.1.trans (by
        rw [(hag c).1, (hag c).2.1, (hag c).2.2.1]
        funext j
        idx_vars j
        exact congrFun (nrm_at _ _ _ j0) j1),
      (h c).2.2.1.trans (by
        rw [(hag c).1, (hag c).2.1, (hag c).2.2.1, (hag c).2.2.2.1]
        funext j
        idx_vars j
        exact congrFun (gate_at _ _ _ _ j0) j1),
      (h c).2.2.2.1.trans (by
        rw [(hag c).1, (hag c).2.1, (hag c).2.2.1, (hag c).2.2.2.1]
        funext j
        idx_vars j
        exact congrFun (up_at _ _ _ _ j0) j1), (h c).2.2.2.2⟩) (Cert.FirstffnReferenceIdeal.Value.run m' ρ')⟩

end Cert.FirstffnClaim
-- ==== Proof.lean ====
/-
  All the claims together. Every program halts with its arguments unchanged (the frames, which the generated modules prove),
  the idealised kernels are the kernels themselves (nothing was rewritten), and each idealised kernel agrees with its
  reference (one module each).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Fgate
public import proofs.«01_k».proof.Proof.Gen.Fgate.Frame
public import proofs.«01_k».proof.Proof.Gen.FgateIdeal
public import proofs.«01_k».proof.Proof.Gen.FgateIdeal.Frame
public import proofs.«01_k».proof.Proof.Gen.FgateReferenceIdeal
public import proofs.«01_k».proof.Proof.Gen.FgateReferenceIdeal.Run
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActReferenceIdeal
public import proofs.«01_k».proof.Proof.Gen.ActReferenceIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.Wgu
public import proofs.«01_k».proof.Proof.Gen.Wgu.Frame
public import proofs.«01_k».proof.Proof.Gen.WguIdeal
public import proofs.«01_k».proof.Proof.Gen.WguIdeal.Frame
public import proofs.«01_k».proof.Proof.Gen.WguReferenceIdeal
public import proofs.«01_k».proof.Proof.Gen.WguReferenceIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojReferenceIdeal
public import proofs.«01_k».proof.Proof.Gen.OutprojReferenceIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojReferenceIdeal
public import proofs.«01_k».proof.Proof.Gen.InprojReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Infwd
public import proofs.«01_k».proof.Proof.Gen.Infwd.Frame
public import proofs.«01_k».proof.Proof.Gen.InfwdIdeal
public import proofs.«01_k».proof.Proof.Gen.InfwdIdeal.Frame
public import proofs.«01_k».proof.Proof.Gen.InfwdReferenceIdeal
public import proofs.«01_k».proof.Proof.Gen.InfwdReferenceIdeal.Run
public import proofs.«01_k».proof.Proof.Gen.Convfwd
public import proofs.«01_k».proof.Proof.Gen.Convfwd.Frame
public import proofs.«01_k».proof.Proof.Gen.ConvfwdIdeal
public import proofs.«01_k».proof.Proof.Gen.ConvfwdIdeal.Frame
public import proofs.«01_k».proof.Proof.Gen.ConvfwdReferenceIdeal
public import proofs.«01_k».proof.Proof.Gen.ConvfwdReferenceIdeal.Run
public import proofs.«01_k».proof.Proof.Gen.Adamgu
public import proofs.«01_k».proof.Proof.Gen.Adamgu.Frame
public import proofs.«01_k».proof.Proof.Gen.AdamguIdeal
public import proofs.«01_k».proof.Proof.Gen.AdamguIdeal.Frame
public import proofs.«01_k».proof.Proof.Gen.AdamguReferenceIdeal
public import proofs.«01_k».proof.Proof.Gen.AdamguReferenceIdeal.Run
public import proofs.«01_k».proof.Proof.Gen.Adamdown
public import proofs.«01_k».proof.Proof.Gen.Adamdown.Frame
public import proofs.«01_k».proof.Proof.Gen.AdamdownIdeal
public import proofs.«01_k».proof.Proof.Gen.AdamdownIdeal.Frame
public import proofs.«01_k».proof.Proof.Gen.AdamdownReferenceIdeal
public import proofs.«01_k».proof.Proof.Gen.AdamdownReferenceIdeal.Run
public import proofs.«01_k».proof.Proof.Gen.Adamin
public import proofs.«01_k».proof.Proof.Gen.Adamin.Frame
public import proofs.«01_k».proof.Proof.Gen.AdaminIdeal
public import proofs.«01_k».proof.Proof.Gen.AdaminIdeal.Frame
public import proofs.«01_k».proof.Proof.Gen.AdaminReferenceIdeal
public import proofs.«01_k».proof.Proof.Gen.AdaminReferenceIdeal.Run
public import proofs.«01_k».proof.Proof.Gen.Adamout
public import proofs.«01_k».proof.Proof.Gen.Adamout.Frame
public import proofs.«01_k».proof.Proof.Gen.AdamoutIdeal
public import proofs.«01_k».proof.Proof.Gen.AdamoutIdeal.Frame
public import proofs.«01_k».proof.Proof.Gen.AdamoutReferenceIdeal
public import proofs.«01_k».proof.Proof.Gen.AdamoutReferenceIdeal.Run
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstReferenceIdeal
public import proofs.«01_k».proof.Proof.Gen.FirstReferenceIdeal.Run
public import proofs.«01_k».proof.Proof.Gen.Firstact
public import proofs.«01_k».proof.Proof.Gen.Firstact.Frame
public import proofs.«01_k».proof.Proof.Gen.FirstactIdeal
public import proofs.«01_k».proof.Proof.Gen.FirstactIdeal.Frame
public import proofs.«01_k».proof.Proof.Gen.FirstactReferenceIdeal
public import proofs.«01_k».proof.Proof.Gen.FirstactReferenceIdeal.Run
public import proofs.«01_k».proof.Proof.Gen.Firstwgu
public import proofs.«01_k».proof.Proof.Gen.Firstwgu.Frame
public import proofs.«01_k».proof.Proof.Gen.FirstwguIdeal
public import proofs.«01_k».proof.Proof.Gen.FirstwguIdeal.Frame
public import proofs.«01_k».proof.Proof.Gen.FirstwguReferenceIdeal
public import proofs.«01_k».proof.Proof.Gen.FirstwguReferenceIdeal.Run
public import proofs.«01_k».proof.Proof.Gen.Firstffn
public import proofs.«01_k».proof.Proof.Gen.Firstffn.Frame
public import proofs.«01_k».proof.Proof.Gen.FirstffnIdeal
public import proofs.«01_k».proof.Proof.Gen.FirstffnIdeal.Frame
public import proofs.«01_k».proof.Proof.Gen.FirstffnReferenceIdeal
public import proofs.«01_k».proof.Proof.Gen.FirstffnReferenceIdeal.Run
public import proofs.«01_k».proof.Proof.Gen.Pre_conv_finite
public import proofs.«01_k».proof.Proof.Gen.Pre_act_finite
public import proofs.«01_k».proof.Proof.Gen.Pre_norm_finite
public import proofs.«01_k».proof.Proof.Gen.Pre_inproj_finite
public import proofs.«01_k».proof.Proof.Gen.Pre_ffn2_finite
public import proofs.«01_k».proof.Proof.Gen.Pre_convfwd_finite
public import proofs.«01_k».proof.Proof.Gen.Pre_first_finite
public import proofs.«01_k».proof.Proof.Gen.Pre_firstact_finite
public import proofs.«01_k».proof.Proof.Conv
public import proofs.«01_k».proof.Proof.Fgate
public import proofs.«01_k».proof.Proof.Act
public import proofs.«01_k».proof.Proof.Norm
public import proofs.«01_k».proof.Proof.Wgu
public import proofs.«01_k».proof.Proof.Outproj
public import proofs.«01_k».proof.Proof.Inproj
public import proofs.«01_k».proof.Proof.Ffn
public import proofs.«01_k».proof.Proof.Infwd
public import proofs.«01_k».proof.Proof.Convfwd
public import proofs.«01_k».proof.Proof.Adamgu
public import proofs.«01_k».proof.Proof.Adamdown
public import proofs.«01_k».proof.Proof.Adamin
public import proofs.«01_k».proof.Proof.Adamout
public import proofs.«01_k».proof.Proof.First
public import proofs.«01_k».proof.Proof.Firstact
public import proofs.«01_k».proof.Proof.Firstwgu
public import proofs.«01_k».proof.Proof.Firstffn

@[expose] public section

noncomputable section

namespace Cert.Proof

open Idealize.ShloMosaic Idealize.SL.Sem

/-- The certificate's claims: the frames, then for each call that nothing was rewritten and that it computes its reference. -/
theorem claim : Cert.Claim :=
  ⟨Cert.Kernel.Gen.facts,
    Cert.KernelIdeal.Gen.facts,
    Cert.ReferenceIdeal.Gen.facts,
    Cert.Fgate.Gen.facts,
    Cert.FgateIdeal.Gen.facts,
    Cert.FgateReferenceIdeal.Gen.facts,
    Cert.Act.Gen.facts,
    Cert.ActIdeal.Gen.facts,
    Cert.ActReferenceIdeal.Gen.facts,
    Cert.Norm.Gen.facts,
    Cert.NormIdeal.Gen.facts,
    Cert.NormReferenceIdeal.Gen.facts,
    Cert.Wgu.Gen.facts,
    Cert.WguIdeal.Gen.facts,
    Cert.WguReferenceIdeal.Gen.facts,
    Cert.Outproj.Gen.facts,
    Cert.OutprojIdeal.Gen.facts,
    Cert.OutprojReferenceIdeal.Gen.facts,
    Cert.Inproj.Gen.facts,
    Cert.InprojIdeal.Gen.facts,
    Cert.InprojReferenceIdeal.Gen.facts,
    Cert.Ffn.Gen.facts,
    Cert.FfnIdeal.Gen.facts,
    Cert.FfnReferenceIdeal.Gen.facts,
    Cert.Infwd.Gen.facts,
    Cert.InfwdIdeal.Gen.facts,
    Cert.InfwdReferenceIdeal.Gen.facts,
    Cert.Convfwd.Gen.facts,
    Cert.ConvfwdIdeal.Gen.facts,
    Cert.ConvfwdReferenceIdeal.Gen.facts,
    Cert.Adamgu.Gen.facts,
    Cert.AdamguIdeal.Gen.facts,
    Cert.AdamguReferenceIdeal.Gen.facts,
    Cert.Adamdown.Gen.facts,
    Cert.AdamdownIdeal.Gen.facts,
    Cert.AdamdownReferenceIdeal.Gen.facts,
    Cert.Adamin.Gen.facts,
    Cert.AdaminIdeal.Gen.facts,
    Cert.AdaminReferenceIdeal.Gen.facts,
    Cert.Adamout.Gen.facts,
    Cert.AdamoutIdeal.Gen.facts,
    Cert.AdamoutReferenceIdeal.Gen.facts,
    Cert.First.Gen.facts,
    Cert.FirstIdeal.Gen.facts,
    Cert.FirstReferenceIdeal.Gen.facts,
    Cert.Firstact.Gen.facts,
    Cert.FirstactIdeal.Gen.facts,
    Cert.FirstactReferenceIdeal.Gen.facts,
    Cert.Firstwgu.Gen.facts,
    Cert.FirstwguIdeal.Gen.facts,
    Cert.FirstwguReferenceIdeal.Gen.facts,
    Cert.Firstffn.Gen.facts,
    Cert.FirstffnIdeal.Gen.facts,
    Cert.FirstffnReferenceIdeal.Gen.facts,
    Cert.Pre_conv_finite.Gen.facts,
    Cert.Pre_act_finite.Gen.facts,
    Cert.Pre_norm_finite.Gen.facts,
    Cert.Pre_inproj_finite.Gen.facts,
    Cert.Pre_ffn2_finite.Gen.facts,
    Cert.Pre_convfwd_finite.Gen.facts,
    Cert.Pre_first_finite.Gen.facts,
    Cert.Pre_firstact_finite.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2.2.2.2.2, sem_eq_zero_of_no_sems (by decide) r.2⟩)
      (Cert.ReferenceIdeal.Value.run m ρ),
    fun m ρ _ => (θ_run Cert.ReferenceIdeal.defs _ _).mono (fun r h => ⟨fun c => (h c).2.2.2.2.2, sem_eq_zero_of_no_sems (by decide) r.2⟩)
      (Cert.ReferenceIdeal.Value.run m ρ),
    fun m ρ _ => Cert.Fgate.Gen.frame m ρ,
    fun m ρ _ => Cert.FgateIdeal.Gen.frame m ρ,
    fun m ρ _ => (θ_run Cert.FgateReferenceIdeal.defs _ _).mono (fun r h => ⟨fun c => (h c).2.2, sem_eq_zero_of_no_sems (by decide) r.2⟩)
      (Cert.FgateReferenceIdeal.Value.run m ρ),
    fun m ρ _ => Cert.Act.Gen.frame m ρ,
    fun m ρ _ => Cert.ActIdeal.Gen.frame m ρ,
    fun m ρ _ => Cert.ActIdeal.Gen.frame m ρ,
    fun m ρ _ => (θ_run Cert.ActReferenceIdeal.defs _ _).mono (fun r h => ⟨fun c => (h c).2.2, sem_eq_zero_of_no_sems (by decide) r.2⟩)
      (Cert.ActReferenceIdeal.Value.run m ρ),
    fun m ρ _ => (θ_run Cert.ActReferenceIdeal.defs _ _).mono (fun r h => ⟨fun c => (h c).2.2, sem_eq_zero_of_no_sems (by decide) r.2⟩)
      (Cert.ActReferenceIdeal.Value.run m ρ),
    fun m ρ _ => Cert.Norm.Gen.frame m ρ,
    fun m ρ _ => Cert.NormIdeal.Gen.frame m ρ,
    fun m ρ _ => Cert.NormIdeal.Gen.frame m ρ,
    fun m ρ _ => (θ_run Cert.NormReferenceIdeal.defs _ _).mono (fun r h => ⟨fun c => (h c).2.2, sem_eq_zero_of_no_sems (by decide) r.2⟩)
      (Cert.NormReferenceIdeal.Value.run m ρ),
    fun m ρ _ => (θ_run Cert.NormReferenceIdeal.defs _ _).mono (fun r h => ⟨fun c => (h c).2.2, sem_eq_zero_of_no_sems (by decide) r.2⟩)
      (Cert.NormReferenceIdeal.Value.run m ρ),
    fun m ρ _ => Cert.Wgu.Gen.frame m ρ,
    fun m ρ _ => Cert.WguIdeal.Gen.frame m ρ,
    fun m ρ _ => (θ_run Cert.WguReferenceIdeal.defs _ _).mono (fun r h => ⟨fun c => (h c).2, sem_eq_zero_of_no_sems (by decide) r.2⟩)
      (Cert.WguReferenceIdeal.Value.run m ρ),
    fun m ρ _ => Cert.Outproj.Gen.frame m ρ,
    fun m ρ _ => Cert.OutprojIdeal.Gen.frame m ρ,
    fun m ρ _ => (θ_run Cert.OutprojReferenceIdeal.defs _ _).mono (fun r h => ⟨fun c => (h c).2.2.2, sem_eq_zero_of_no_sems (by decide) r.2⟩)
      (Cert.OutprojReferenceIdeal.Value.run m ρ),
    fun m ρ _ => Cert.Inproj.Gen.frame m ρ,
    fun m ρ _ => Cert.InprojIdeal.Gen.frame m ρ,
    fun m ρ _ => Cert.InprojIdeal.Gen.frame m ρ,
    fun m ρ _ => (θ_run Cert.InprojReferenceIdeal.defs _ _).mono (fun r h => ⟨fun c => (h c).2.2.2, sem_eq_zero_of_no_sems (by decide) r.2⟩)
      (Cert.InprojReferenceIdeal.Value.run m ρ),
    fun m ρ _ => (θ_run Cert.InprojReferenceIdeal.defs _ _).mono (fun r h => ⟨fun c => (h c).2.2.2, sem_eq_zero_of_no_sems (by decide) r.2⟩)
      (Cert.InprojReferenceIdeal.Value.run m ρ),
    fun m ρ _ => Cert.Ffn.Gen.frame m ρ,
    fun m ρ _ => Cert.FfnIdeal.Gen.frame m ρ,
    fun m ρ _ => Cert.FfnIdeal.Gen.frame m ρ,
    fun m ρ _ => (θ_run Cert.FfnReferenceIdeal.defs _ _).mono (fun r h => ⟨fun c => (h c).2.2.2.2.2.2, sem_eq_zero_of_no_sems (by decide) r.2⟩)
      (Cert.FfnReferenceIdeal.Value.run m ρ),
    fun m ρ _ => (θ_run Cert.FfnReferenceIdeal.defs _ _).mono (fun r h => ⟨fun c => (h c).2.2.2.2.2.2, sem_eq_zero_of_no_sems (by decide) r.2⟩)
      (Cert.FfnReferenceIdeal.Value.run m ρ),
    fun m ρ _ => Cert.Infwd.Gen.frame m ρ,
    fun m ρ _ => Cert.InfwdIdeal.Gen.frame m ρ,
    fun m ρ _ => (θ_run Cert.InfwdReferenceIdeal.defs _ _).mono (fun r h => ⟨fun c => (h c).2.2.2.2.2.2.2, sem_eq_zero_of_no_sems (by decide) r.2⟩)
      (Cert.InfwdReferenceIdeal.Value.run m ρ),
    fun m ρ _ => Cert.Convfwd.Gen.frame m ρ,
    fun m ρ _ => Cert.ConvfwdIdeal.Gen.frame m ρ,
    fun m ρ _ => Cert.ConvfwdIdeal.Gen.frame m ρ,
    fun m ρ _ => (θ_run Cert.ConvfwdReferenceIdeal.defs _ _).mono (fun r h => ⟨fun c => (h c).2, sem_eq_zero_of_no_sems (by decide) r.2⟩)
      (Cert.ConvfwdReferenceIdeal.Value.run m ρ),
    fun m ρ _ => (θ_run Cert.ConvfwdReferenceIdeal.defs _ _).mono (fun r h => ⟨fun c => (h c).2, sem_eq_zero_of_no_sems (by decide) r.2⟩)
      (Cert.ConvfwdReferenceIdeal.Value.run m ρ),
    fun m ρ _ => Cert.Adamgu.Gen.frame m ρ,
    fun m ρ _ => Cert.AdamguIdeal.Gen.frame m ρ,
    fun m ρ _ => (θ_run Cert.AdamguReferenceIdeal.defs _ _).mono (fun r h => ⟨fun c => (h c).2.2.2.2, sem_eq_zero_of_no_sems (by decide) r.2⟩)
      (Cert.AdamguReferenceIdeal.Value.run m ρ),
    fun m ρ _ => Cert.Adamdown.Gen.frame m ρ,
    fun m ρ _ => Cert.AdamdownIdeal.Gen.frame m ρ,
    fun m ρ _ => (θ_run Cert.AdamdownReferenceIdeal.defs _ _).mono (fun r h => ⟨fun c => (h c).2.2.2.2, sem_eq_zero_of_no_sems (by decide) r.2⟩)
      (Cert.AdamdownReferenceIdeal.Value.run m ρ),
    fun m ρ _ => Cert.Adamin.Gen.frame m ρ,
    fun m ρ _ => Cert.AdaminIdeal.Gen.frame m ρ,
    fun m ρ _ => (θ_run Cert.AdaminReferenceIdeal.defs _ _).mono (fun r h => ⟨fun c => (h c).2.2.2.2, sem_eq_zero_of_no_sems (by decide) r.2⟩)
      (Cert.AdaminReferenceIdeal.Value.run m ρ),
    fun m ρ _ => Cert.Adamout.Gen.frame m ρ,
    fun m ρ _ => Cert.AdamoutIdeal.Gen.frame m ρ,
    fun m ρ _ => (θ_run Cert.AdamoutReferenceIdeal.defs _ _).mono (fun r h => ⟨fun c => (h c).2.2.2.2, sem_eq_zero_of_no_sems (by decide) r.2⟩)
      (Cert.AdamoutReferenceIdeal.Value.run m ρ),
    fun m ρ _ => Cert.First.Gen.frame m ρ,
    fun m ρ _ => Cert.FirstIdeal.Gen.frame m ρ,
    fun m ρ _ => Cert.FirstIdeal.Gen.frame m ρ,
    fun m ρ _ => (θ_run Cert.FirstReferenceIdeal.defs _ _).mono (fun r h => ⟨fun c => (h c).2.2, sem_eq_zero_of_no_sems (by decide) r.2⟩)
      (Cert.FirstReferenceIdeal.Value.run m ρ),
    fun m ρ _ => (θ_run Cert.FirstReferenceIdeal.defs _ _).mono (fun r h => ⟨fun c => (h c).2.2, sem_eq_zero_of_no_sems (by decide) r.2⟩)
      (Cert.FirstReferenceIdeal.Value.run m ρ),
    fun m ρ _ => Cert.Firstact.Gen.frame m ρ,
    fun m ρ _ => Cert.FirstactIdeal.Gen.frame m ρ,
    fun m ρ _ => Cert.FirstactIdeal.Gen.frame m ρ,
    fun m ρ _ => (θ_run Cert.FirstactReferenceIdeal.defs _ _).mono (fun r h => ⟨fun c => (h c).2.2, sem_eq_zero_of_no_sems (by decide) r.2⟩)
      (Cert.FirstactReferenceIdeal.Value.run m ρ),
    fun m ρ _ => (θ_run Cert.FirstactReferenceIdeal.defs _ _).mono (fun r h => ⟨fun c => (h c).2.2, sem_eq_zero_of_no_sems (by decide) r.2⟩)
      (Cert.FirstactReferenceIdeal.Value.run m ρ),
    fun m ρ _ => Cert.Firstwgu.Gen.frame m ρ,
    fun m ρ _ => Cert.FirstwguIdeal.Gen.frame m ρ,
    fun m ρ _ => (θ_run Cert.FirstwguReferenceIdeal.defs _ _).mono (fun r h => ⟨fun c => (h c).2, sem_eq_zero_of_no_sems (by decide) r.2⟩)
      (Cert.FirstwguReferenceIdeal.Value.run m ρ),
    fun m ρ _ => Cert.Firstffn.Gen.frame m ρ,
    fun m ρ _ => Cert.FirstffnIdeal.Gen.frame m ρ,
    fun m ρ _ => (θ_run Cert.FirstffnReferenceIdeal.defs _ _).mono (fun r h => ⟨fun c => (h c).2.2.2.2, sem_eq_zero_of_no_sems (by decide) r.2⟩)
      (Cert.FirstffnReferenceIdeal.Value.run m ρ),
    trivial,
    Cert.ConvClaim.algebraic,
    trivial,
    Cert.FgateClaim.algebraic,
    trivial,
    Cert.ActClaim.algebraic,
    trivial,
    Cert.NormClaim.algebraic,
    trivial,
    Cert.WguClaim.algebraic,
    trivial,
    Cert.OutprojClaim.algebraic,
    trivial,
    Cert.InprojClaim.algebraic,
    trivial,
    Cert.FfnClaim.algebraic,
    trivial,
    Cert.InfwdClaim.algebraic,
    trivial,
    Cert.ConvfwdClaim.algebraic,
    trivial,
    Cert.AdamguClaim.algebraic,
    trivial,
    Cert.AdamdownClaim.algebraic,
    trivial,
    Cert.AdaminClaim.algebraic,
    trivial,
    Cert.AdamoutClaim.algebraic,
    trivial,
    Cert.FirstClaim.algebraic,
    trivial,
    Cert.FirstactClaim.algebraic,
    trivial,
    Cert.FirstwguClaim.algebraic,
    trivial,
    Cert.FirstffnClaim.algebraic⟩

end Cert.Proof

end
